-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_GateUpDw (m : (ℓ : Loc Cert.GateUpDw.nD Cert.GateUpDw.τ Cert.GateUpDw.sig) → Buf (Elt Bits) ℓ) : Prop :=
  True

def Pre_GateUpDwIdeal (m : (ℓ : Loc Cert.GateUpDwIdeal.nD Cert.GateUpDwIdeal.τ Cert.GateUpDwIdeal.sig) → Buf (Elt Ideal) ℓ) : Prop :=
  True

def Pre_GateUpDwRefIdeal (m : (ℓ : Loc Cert.GateUpDwRefIdeal.nD Cert.GateUpDwRefIdeal.τ Cert.GateUpDwRefIdeal.sig) → Buf (Elt Ideal) ℓ) : Prop :=
  True

def Pre_GateUpDx (m : (ℓ : Loc Cert.GateUpDx.nD Cert.GateUpDx.τ Cert.GateUpDx.sig) → Buf (Elt Bits) ℓ) : Prop :=
  True

def Pre_GateUpDxIdeal (m : (ℓ : Loc Cert.GateUpDxIdeal.nD Cert.GateUpDxIdeal.τ Cert.GateUpDxIdeal.sig) → Buf (Elt Ideal) ℓ) : Prop :=
  True

def Pre_GateUpDxRefIdeal (m : (ℓ : Loc Cert.GateUpDxRefIdeal.nD Cert.GateUpDxRefIdeal.τ Cert.GateUpDxRefIdeal.sig) → Buf (Elt Ideal) ℓ) : Prop :=
  True

def Pre_GateUpDwLow (m : (ℓ : Loc Cert.GateUpDwLow.nD Cert.GateUpDwLow.τ Cert.GateUpDwLow.sig) → Buf (Elt Bits) ℓ) : Prop :=
  True

def Pre_GateUpDwLowIdeal (m : (ℓ : Loc Cert.GateUpDwLowIdeal.nD Cert.GateUpDwLowIdeal.τ Cert.GateUpDwLowIdeal.sig) → Buf (Elt Ideal) ℓ) : Prop :=
  True

def Pre_GateUpDwLowRefIdeal (m : (ℓ : Loc Cert.GateUpDwLowRefIdeal.nD Cert.GateUpDwLowRefIdeal.τ Cert.GateUpDwLowRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixInDw (m : (ℓ : Loc Cert.MixInDw.nD Cert.MixInDw.τ Cert.MixInDw.sig) → Buf (Elt Bits) ℓ) : Prop :=
  True

def Pre_MixInDwIdeal (m : (ℓ : Loc Cert.MixInDwIdeal.nD Cert.MixInDwIdeal.τ Cert.MixInDwIdeal.sig) → Buf (Elt Ideal) ℓ) : Prop :=
  True

def Pre_MixInDwRefIdeal (m : (ℓ : Loc Cert.MixInDwRefIdeal.nD Cert.MixInDwRefIdeal.τ Cert.MixInDwRefIdeal.sig) → Buf (Elt Ideal) ℓ) : Prop :=
  True

def Pre_MixInDx (m : (ℓ : Loc Cert.MixInDx.nD Cert.MixInDx.τ Cert.MixInDx.sig) → Buf (Elt Bits) ℓ) : Prop :=
  True

def Pre_MixInDxIdeal (m : (ℓ : Loc Cert.MixInDxIdeal.nD Cert.MixInDxIdeal.τ Cert.MixInDxIdeal.sig) → Buf (Elt Ideal) ℓ) : Prop :=
  True

def Pre_MixInDxRefIdeal (m : (ℓ : Loc Cert.MixInDxRefIdeal.nD Cert.MixInDxRefIdeal.τ Cert.MixInDxRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_PreFwd (m : (ℓ : Loc Cert.PreFwd.nD Cert.PreFwd.τ Cert.PreFwd.sig) → Buf (Elt Bits) ℓ) : Prop :=
  True

def Pre_PreFwdIdeal (m : (ℓ : Loc Cert.PreFwdIdeal.nD Cert.PreFwdIdeal.τ Cert.PreFwdIdeal.sig) → Buf (Elt Ideal) ℓ) : Prop :=
  True

def Pre_PreFwdRefIdeal (m : (ℓ : Loc Cert.PreFwdRefIdeal.nD Cert.PreFwdRefIdeal.τ Cert.PreFwdRefIdeal.sig) → Buf (Elt Ideal) ℓ) : Prop :=
  True

def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreBwdRefIdeal (m : (ℓ : Loc Cert.PreBwdRefIdeal.nD Cert.PreBwdRefIdeal.τ Cert.PreBwdRefIdeal.sig) → Buf (Elt Ideal) ℓ) : Prop :=
  True

def Pre_ResBwd (m : (ℓ : Loc Cert.ResBwd.nD Cert.ResBwd.τ Cert.ResBwd.sig) → Buf (Elt Bits) ℓ) : Prop :=
  True

def Pre_ResBwdIdeal (m : (ℓ : Loc Cert.ResBwdIdeal.nD Cert.ResBwdIdeal.τ Cert.ResBwdIdeal.sig) → Buf (Elt Ideal) ℓ) : Prop :=
  True

def Pre_ResBwdRefIdeal (m : (ℓ : Loc Cert.ResBwdRefIdeal.nD Cert.ResBwdRefIdeal.τ Cert.ResBwdRefIdeal.sig) → Buf (Elt Ideal) ℓ) : Prop :=
  True

def Pre_MixResBwd (m : (ℓ : Loc Cert.MixResBwd.nD Cert.MixResBwd.τ Cert.MixResBwd.sig) → Buf (Elt Bits) ℓ) : Prop :=
  True

def Pre_MixResBwdIdeal (m : (ℓ : Loc Cert.MixResBwdIdeal.nD Cert.MixResBwdIdeal.τ Cert.MixResBwdIdeal.sig) → Buf (Elt Ideal) ℓ) : Prop :=
  True

def Pre_MixResBwdRefIdeal (m : (ℓ : Loc Cert.MixResBwdRefIdeal.nD Cert.MixResBwdRefIdeal.τ Cert.MixResBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_GateUpDw [hGateUpDw : Cert.GateUpDw.Facts] : Prop :=
  ∀ (m : (ℓ : Loc Cert.GateUpDw.nD Cert.GateUpDw.τ Cert.GateUpDw.sig) → Buf (Elt Bits) ℓ) (g : Dev Cert.GateUpDw.nD → PrngReg), Pre_GateUpDw m →
    θ_run (Cert.GateUpDw.defs (F := Bits)) (onTc (τ := Cert.GateUpDw.τ) (Cert.GateUpDw.main (F := Bits))) ⟨m, fun _ => 0, g⟩ (fun r => (∀ c : Dev Cert.GateUpDw.nD,
      r.2.mem ((c.tc : Thread Cert.GateUpDw.nD Cert.GateUpDw.τ).loc Cert.GateUpDw.main_arg0) = m ((c.tc : Thread Cert.GateUpDw.nD Cert.GateUpDw.τ).loc Cert.GateUpDw.main_arg0)
      ∧ r.2.mem ((c.tc : Thread Cert.GateUpDw.nD Cert.GateUpDw.τ).loc Cert.GateUpDw.main_arg1) = m ((c.tc : Thread Cert.GateUpDw.nD Cert.GateUpDw.τ).loc Cert.GateUpDw.main_arg1))
      ∧ r.2.sem = fun _ => 0)

def quiescent_GateUpDwIdeal [hGateUpDwIdeal : Cert.GateUpDwIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg), Pre_GateUpDwIdeal m →
    θ_run (Cert.GateUpDwIdeal.defs (F := Ideal)) (onTc (τ := Cert.GateUpDwIdeal.τ) (Cert.GateUpDwIdeal.main (F := Ideal))) ⟨m, fun _ => 0, g⟩ (fun r => (∀ c : Dev Cert.GateUpDwIdeal.nD,
      r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
      ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ r.2.sem = fun _ => 0)

def quiescent_GateUpDwRefIdeal [hGateUpDwRefIdeal : Cert.GateUpDwRefIdeal.Facts] : Prop :=
  ∀ (m : (ℓ : Loc Cert.GateUpDwRefIdeal.nD Cert.GateUpDwRefIdeal.τ Cert.GateUpDwRefIdeal.sig) → Buf (Elt Ideal) ℓ) (g : Dev Cert.GateUpDwRefIdeal.nD → PrngReg), Pre_GateUpDwRefIdeal m →
    θ_run (Cert.GateUpDwRefIdeal.defs (F := Ideal)) (onTc (τ := Cert.GateUpDwRefIdeal.τ) (Cert.GateUpDwRefIdeal.main (F := Ideal))) ⟨m, fun _ => 0, g⟩ (fun r => (∀ c : Dev Cert.GateUpDwRefIdeal.nD,
      r.2.mem ((c.tc : Thread Cert.GateUpDwRefIdeal.nD Cert.GateUpDwRefIdeal.τ).loc Cert.GateUpDwRefIdeal.main_arg0) = m ((c.tc : Thread Cert.GateUpDwRefIdeal.nD Cert.GateUpDwRefIdeal.τ).loc Cert.GateUpDwRefIdeal.main_arg0)
      ∧ r.2.mem ((c.tc : Thread Cert.GateUpDwRefIdeal.nD Cert.GateUpDwRefIdeal.τ).loc Cert.GateUpDwRefIdeal.main_arg1) = m ((c.tc : Thread Cert.GateUpDwRefIdeal.nD Cert.GateUpDwRefIdeal.τ).loc Cert.GateUpDwRefIdeal.main_arg1))
      ∧ r.2.sem = fun _ => 0)

def quiescent_GateUpDx [hGateUpDx : Cert.GateUpDx.Facts] : Prop :=
  ∀ (m : (ℓ : Loc Cert.GateUpDx.nD Cert.GateUpDx.τ Cert.GateUpDx.sig) → Buf (Elt Bits) ℓ) (g : Dev Cert.GateUpDx.nD → PrngReg), Pre_GateUpDx m →
    θ_run (Cert.GateUpDx.defs (F := Bits)) (onTc (τ := Cert.GateUpDx.τ) (Cert.GateUpDx.main (F := Bits))) ⟨m, fun _ => 0, g⟩ (fun r => (∀ c : Dev Cert.GateUpDx.nD,
      r.2.mem ((c.tc : Thread Cert.GateUpDx.nD Cert.GateUpDx.τ).loc Cert.GateUpDx.main_arg0) = m ((c.tc : Thread Cert.GateUpDx.nD Cert.GateUpDx.τ).loc Cert.GateUpDx.main_arg0)
      ∧ r.2.mem ((c.tc : Thread Cert.GateUpDx.nD Cert.GateUpDx.τ).loc Cert.GateUpDx.main_arg1) = m ((c.tc : Thread Cert.GateUpDx.nD Cert.GateUpDx.τ).loc Cert.GateUpDx.main_arg1))
      ∧ r.2.sem = fun _ => 0)

def quiescent_GateUpDxIdeal [hGateUpDxIdeal : Cert.GateUpDxIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg), Pre_GateUpDxIdeal m →
    θ_run (Cert.GateUpDxIdeal.defs (F := Ideal)) (onTc (τ := Cert.GateUpDxIdeal.τ) (Cert.GateUpDxIdeal.main (F := Ideal))) ⟨m, fun _ => 0, g⟩ (fun r => (∀ c : Dev Cert.GateUpDxIdeal.nD,
      r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
      ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1))
      ∧ r.2.sem = fun _ => 0)

def quiescent_GateUpDxRefIdeal [hGateUpDxRefIdeal : Cert.GateUpDxRefIdeal.Facts] : Prop :=
  ∀ (m : (ℓ : Loc Cert.GateUpDxRefIdeal.nD Cert.GateUpDxRefIdeal.τ Cert.GateUpDxRefIdeal.sig) → Buf (Elt Ideal) ℓ) (g : Dev Cert.GateUpDxRefIdeal.nD → PrngReg), Pre_GateUpDxRefIdeal m →
    θ_run (Cert.GateUpDxRefIdeal.defs (F := Ideal)) (onTc (τ := Cert.GateUpDxRefIdeal.τ) (Cert.GateUpDxRefIdeal.main (F := Ideal))) ⟨m, fun _ => 0, g⟩ (fun r => (∀ c : Dev Cert.GateUpDxRefIdeal.nD,
      r.2.mem ((c.tc : Thread Cert.GateUpDxRefIdeal.nD Cert.GateUpDxRefIdeal.τ).loc Cert.GateUpDxRefIdeal.main_arg0) = m ((c.tc : Thread Cert.GateUpDxRefIdeal.nD Cert.GateUpDxRefIdeal.τ).loc Cert.GateUpDxRefIdeal.main_arg0)
      ∧ r.2.mem ((c.tc : Thread Cert.GateUpDxRefIdeal.nD Cert.GateUpDxRefIdeal.τ).loc Cert.GateUpDxRefIdeal.main_arg1) = m ((c.tc : Thread Cert.GateUpDxRefIdeal.nD Cert.GateUpDxRefIdeal.τ).loc Cert.GateUpDxRefIdeal.main_arg1))
      ∧ r.2.sem = fun _ => 0)

def quiescent_GateUpDwLow [hGateUpDwLow : Cert.GateUpDwLow.Facts] : Prop :=
  ∀ (m : (ℓ : Loc Cert.GateUpDwLow.nD Cert.GateUpDwLow.τ Cert.GateUpDwLow.sig) → Buf (Elt Bits) ℓ) (g : Dev Cert.GateUpDwLow.nD → PrngReg), Pre_GateUpDwLow m →
    θ_run (Cert.GateUpDwLow.defs (F := Bits)) (onTc (τ := Cert.GateUpDwLow.τ) (Cert.GateUpDwLow.main (F := Bits))) ⟨m, fun _ => 0, g⟩ (fun r => (∀ c : Dev Cert.GateUpDwLow.nD,
      r.2.mem ((c.tc : Thread Cert.GateUpDwLow.nD Cert.GateUpDwLow.τ).loc Cert.GateUpDwLow.main_arg0) = m ((c.tc : Thread Cert.GateUpDwLow.nD Cert.GateUpDwLow.τ).loc Cert.GateUpDwLow.main_arg0)
      ∧ r.2.mem ((c.tc : Thread Cert.GateUpDwLow.nD Cert.GateUpDwLow.τ).loc Cert.GateUpDwLow.main_arg1) = m ((c.tc : Thread Cert.GateUpDwLow.nD Cert.GateUpDwLow.τ).loc Cert.GateUpDwLow.main_arg1))
      ∧ r.2.sem = fun _ => 0)

def quiescent_GateUpDwLowIdeal [hGateUpDwLowIdeal : Cert.GateUpDwLowIdeal.Facts] : Prop :=
  ∀ (m : (ℓ : Loc Cert.GateUpDwLowIdeal.nD Cert.GateUpDwLowIdeal.τ Cert.GateUpDwLowIdeal.sig) → Buf (Elt Ideal) ℓ) (g : Dev Cert.GateUpDwLowIdeal.nD → PrngReg), Pre_GateUpDwLowIdeal m →
    θ_run (Cert.GateUpDwLowIdeal.defs (F := Ideal)) (onTc (τ := Cert.GateUpDwLowIdeal.τ) (Cert.GateUpDwLowIdeal.main (F := Ideal))) ⟨m, fun _ => 0, g⟩ (fun r => (∀ c : Dev Cert.GateUpDwLowIdeal.nD,
      r.2.mem ((c.tc : Thread Cert.GateUpDwLowIdeal.nD Cert.GateUpDwLowIdeal.τ).loc Cert.GateUpDwLowIdeal.main_arg0) = m ((c.tc : Thread Cert.GateUpDwLowIdeal.nD Cert.GateUpDwLowIdeal.τ).loc Cert.GateUpDwLowIdeal.main_arg0)
      ∧ r.2.mem ((c.tc : Thread Cert.GateUpDwLowIdeal.nD Cert.GateUpDwLowIdeal.τ).loc Cert.GateUpDwLowIdeal.main_arg1) = m ((c.tc : Thread Cert.GateUpDwLowIdeal.nD Cert.GateUpDwLowIdeal.τ).loc Cert.GateUpDwLowIdeal.main_arg1))
      ∧ r.2.sem = fun _ => 0)

def quiescent_GateUpDwLowRefIdeal [hGateUpDwLowRefIdeal : Cert.GateUpDwLowRefIdeal.Facts] : Prop :=
  ∀ (m : (ℓ : Loc Cert.GateUpDwLowRefIdeal.nD Cert.GateUpDwLowRefIdeal.τ Cert.GateUpDwLowRefIdeal.sig) → Buf (Elt Ideal) ℓ) (g : Dev Cert.GateUpDwLowRefIdeal.nD → PrngReg), Pre_GateUpDwLowRefIdeal m →
    θ_run (Cert.GateUpDwLowRefIdeal.defs (F := Ideal)) (onTc (τ := Cert.GateUpDwLowRefIdeal.τ) (Cert.GateUpDwLowRefIdeal.main (F := Ideal))) ⟨m, fun _ => 0, g⟩ (fun r => (∀ c : Dev Cert.GateUpDwLowRefIdeal.nD,
      r.2.mem ((c.tc : Thread Cert.GateUpDwLowRefIdeal.nD Cert.GateUpDwLowRefIdeal.τ).loc Cert.GateUpDwLowRefIdeal.main_arg0) = m ((c.tc : Thread Cert.GateUpDwLowRefIdeal.nD Cert.GateUpDwLowRefIdeal.τ).loc Cert.GateUpDwLowRefIdeal.main_arg0)
      ∧ r.2.mem ((c.tc : Thread Cert.GateUpDwLowRefIdeal.nD Cert.GateUpDwLowRefIdeal.τ).loc Cert.GateUpDwLowRefIdeal.main_arg1) = m ((c.tc : Thread Cert.GateUpDwLowRefIdeal.nD Cert.GateUpDwLowRefIdeal.τ).loc Cert.GateUpDwLowRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixInDw [hMixInDw : Cert.MixInDw.Facts] : Prop :=
  ∀ (m : (ℓ : Loc Cert.MixInDw.nD Cert.MixInDw.τ Cert.MixInDw.sig) → Buf (Elt Bits) ℓ) (g : Dev Cert.MixInDw.nD → PrngReg), Pre_MixInDw m →
    θ_run (Cert.MixInDw.defs (F := Bits)) (onTc (τ := Cert.MixInDw.τ) (Cert.MixInDw.main (F := Bits))) ⟨m, fun _ => 0, g⟩ (fun r => (∀ c : Dev Cert.MixInDw.nD,
      r.2.mem ((c.tc : Thread Cert.MixInDw.nD Cert.MixInDw.τ).loc Cert.MixInDw.main_arg0) = m ((c.tc : Thread Cert.MixInDw.nD Cert.MixInDw.τ).loc Cert.MixInDw.main_arg0)
      ∧ r.2.mem ((c.tc : Thread Cert.MixInDw.nD Cert.MixInDw.τ).loc Cert.MixInDw.main_arg1) = m ((c.tc : Thread Cert.MixInDw.nD Cert.MixInDw.τ).loc Cert.MixInDw.main_arg1))
      ∧ r.2.sem = fun _ => 0)

def quiescent_MixInDwIdeal [hMixInDwIdeal : Cert.MixInDwIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg), Pre_MixInDwIdeal m →
    θ_run (Cert.MixInDwIdeal.defs (F := Ideal)) (onTc (τ := Cert.MixInDwIdeal.τ) (Cert.MixInDwIdeal.main (F := Ideal))) ⟨m, fun _ => 0, g⟩ (fun r => (∀ c : Dev Cert.MixInDwIdeal.nD,
      r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
      ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ r.2.sem = fun _ => 0)

def quiescent_MixInDwRefIdeal [hMixInDwRefIdeal : Cert.MixInDwRefIdeal.Facts] : Prop :=
  ∀ (m : (ℓ : Loc Cert.MixInDwRefIdeal.nD Cert.MixInDwRefIdeal.τ Cert.MixInDwRefIdeal.sig) → Buf (Elt Ideal) ℓ) (g : Dev Cert.MixInDwRefIdeal.nD → PrngReg), Pre_MixInDwRefIdeal m →
    θ_run (Cert.MixInDwRefIdeal.defs (F := Ideal)) (onTc (τ := Cert.MixInDwRefIdeal.τ) (Cert.MixInDwRefIdeal.main (F := Ideal))) ⟨m, fun _ => 0, g⟩ (fun r => (∀ c : Dev Cert.MixInDwRefIdeal.nD,
      r.2.mem ((c.tc : Thread Cert.MixInDwRefIdeal.nD Cert.MixInDwRefIdeal.τ).loc Cert.MixInDwRefIdeal.main_arg0) = m ((c.tc : Thread Cert.MixInDwRefIdeal.nD Cert.MixInDwRefIdeal.τ).loc Cert.MixInDwRefIdeal.main_arg0)
      ∧ r.2.mem ((c.tc : Thread Cert.MixInDwRefIdeal.nD Cert.MixInDwRefIdeal.τ).loc Cert.MixInDwRefIdeal.main_arg1) = m ((c.tc : Thread Cert.MixInDwRefIdeal.nD Cert.MixInDwRefIdeal.τ).loc Cert.MixInDwRefIdeal.main_arg1))
      ∧ r.2.sem = fun _ => 0)

def quiescent_MixInDx [hMixInDx : Cert.MixInDx.Facts] : Prop :=
  ∀ (m : (ℓ : Loc Cert.MixInDx.nD Cert.MixInDx.τ Cert.MixInDx.sig) → Buf (Elt Bits) ℓ) (g : Dev Cert.MixInDx.nD → PrngReg), Pre_MixInDx m →
    θ_run (Cert.MixInDx.defs (F := Bits)) (onTc (τ := Cert.MixInDx.τ) (Cert.MixInDx.main (F := Bits))) ⟨m, fun _ => 0, g⟩ (fun r => (∀ c : Dev Cert.MixInDx.nD,
      r.2.mem ((c.tc : Thread Cert.MixInDx.nD Cert.MixInDx.τ).loc Cert.MixInDx.main_arg0) = m ((c.tc : Thread Cert.MixInDx.nD Cert.MixInDx.τ).loc Cert.MixInDx.main_arg0)
      ∧ r.2.mem ((c.tc : Thread Cert.MixInDx.nD Cert.MixInDx.τ).loc Cert.MixInDx.main_arg1) = m ((c.tc : Thread Cert.MixInDx.nD Cert.MixInDx.τ).loc Cert.MixInDx.main_arg1))
      ∧ r.2.sem = fun _ => 0)

def quiescent_MixInDxIdeal [hMixInDxIdeal : Cert.MixInDxIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg), Pre_MixInDxIdeal m →
    θ_run (Cert.MixInDxIdeal.defs (F := Ideal)) (onTc (τ := Cert.MixInDxIdeal.τ) (Cert.MixInDxIdeal.main (F := Ideal))) ⟨m, fun _ => 0, g⟩ (fun r => (∀ c : Dev Cert.MixInDxIdeal.nD,
      r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
      ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1))
      ∧ r.2.sem = fun _ => 0)

def quiescent_MixInDxRefIdeal [hMixInDxRefIdeal : Cert.MixInDxRefIdeal.Facts] : Prop :=
  ∀ (m : (ℓ : Loc Cert.MixInDxRefIdeal.nD Cert.MixInDxRefIdeal.τ Cert.MixInDxRefIdeal.sig) → Buf (Elt Ideal) ℓ) (g : Dev Cert.MixInDxRefIdeal.nD → PrngReg), Pre_MixInDxRefIdeal m →
    θ_run (Cert.MixInDxRefIdeal.defs (F := Ideal)) (onTc (τ := Cert.MixInDxRefIdeal.τ) (Cert.MixInDxRefIdeal.main (F := Ideal))) ⟨m, fun _ => 0, g⟩ (fun r => (∀ c : Dev Cert.MixInDxRefIdeal.nD,
      r.2.mem ((c.tc : Thread Cert.MixInDxRefIdeal.nD Cert.MixInDxRefIdeal.τ).loc Cert.MixInDxRefIdeal.main_arg0) = m ((c.tc : Thread Cert.MixInDxRefIdeal.nD Cert.MixInDxRefIdeal.τ).loc Cert.MixInDxRefIdeal.main_arg0)
      ∧ r.2.mem ((c.tc : Thread Cert.MixInDxRefIdeal.nD Cert.MixInDxRefIdeal.τ).loc Cert.MixInDxRefIdeal.main_arg1) = m ((c.tc : Thread Cert.MixInDxRefIdeal.nD Cert.MixInDxRefIdeal.τ).loc Cert.MixInDxRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_PreFwd [hPreFwd : Cert.PreFwd.Facts] : Prop :=
  ∀ (m : (ℓ : Loc Cert.PreFwd.nD Cert.PreFwd.τ Cert.PreFwd.sig) → Buf (Elt Bits) ℓ) (g : Dev Cert.PreFwd.nD → PrngReg), Pre_PreFwd m →
    θ_run (Cert.PreFwd.defs (F := Bits)) (onTc (τ := Cert.PreFwd.τ) (Cert.PreFwd.main (F := Bits))) ⟨m, fun _ => 0, g⟩ (fun r => (∀ c : Dev Cert.PreFwd.nD,
      r.2.mem ((c.tc : Thread Cert.PreFwd.nD Cert.PreFwd.τ).loc Cert.PreFwd.main_arg0) = m ((c.tc : Thread Cert.PreFwd.nD Cert.PreFwd.τ).loc Cert.PreFwd.main_arg0)
      ∧ r.2.mem ((c.tc : Thread Cert.PreFwd.nD Cert.PreFwd.τ).loc Cert.PreFwd.main_arg1) = m ((c.tc : Thread Cert.PreFwd.nD Cert.PreFwd.τ).loc Cert.PreFwd.main_arg1)
      ∧ r.2.mem ((c.tc : Thread Cert.PreFwd.nD Cert.PreFwd.τ).loc Cert.PreFwd.main_arg2) = m ((c.tc : Thread Cert.PreFwd.nD Cert.PreFwd.τ).loc Cert.PreFwd.main_arg2)
      ∧ r.2.mem ((c.tc : Thread Cert.PreFwd.nD Cert.PreFwd.τ).loc Cert.PreFwd.main_arg3) = m ((c.tc : Thread Cert.PreFwd.nD Cert.PreFwd.τ).loc Cert.PreFwd.main_arg3))
      ∧ r.2.sem = fun _ => 0)

def quiescent_PreFwdIdeal [hPreFwdIdeal : Cert.PreFwdIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg), Pre_PreFwdIdeal m →
    θ_run (Cert.PreFwdIdeal.defs (F := Ideal)) (onTc (τ := Cert.PreFwdIdeal.τ) (Cert.PreFwdIdeal.main (F := Ideal))) ⟨m, fun _ => 0, g⟩ (fun r => (∀ c : Dev Cert.PreFwdIdeal.nD,
      r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
      ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1)
      ∧ r.2.mem ((c.tc : Thread Cert.PreFwdIdeal.nD Cert.PreFwdIdeal.τ).loc Cert.PreFwdIdeal.main_arg2) = m ((c.tc : Thread Cert.PreFwdIdeal.nD Cert.PreFwdIdeal.τ).loc Cert.PreFwdIdeal.main_arg2)
      ∧ r.2.mem ((c.tc : Thread Cert.PreFwdIdeal.nD Cert.PreFwdIdeal.τ).loc Cert.PreFwdIdeal.main_arg3) = m ((c.tc : Thread Cert.PreFwdIdeal.nD Cert.PreFwdIdeal.τ).loc Cert.PreFwdIdeal.main_arg3))
      ∧ r.2.sem = fun _ => 0)

def quiescent_PreFwdRefIdeal [hPreFwdRefIdeal : Cert.PreFwdRefIdeal.Facts] : Prop :=
  ∀ (m : (ℓ : Loc Cert.PreFwdRefIdeal.nD Cert.PreFwdRefIdeal.τ Cert.PreFwdRefIdeal.sig) → Buf (Elt Ideal) ℓ) (g : Dev Cert.PreFwdRefIdeal.nD → PrngReg), Pre_PreFwdRefIdeal m →
    θ_run (Cert.PreFwdRefIdeal.defs (F := Ideal)) (onTc (τ := Cert.PreFwdRefIdeal.τ) (Cert.PreFwdRefIdeal.main (F := Ideal))) ⟨m, fun _ => 0, g⟩ (fun r => (∀ c : Dev Cert.PreFwdRefIdeal.nD,
      r.2.mem ((c.tc : Thread Cert.PreFwdRefIdeal.nD Cert.PreFwdRefIdeal.τ).loc Cert.PreFwdRefIdeal.main_arg0) = m ((c.tc : Thread Cert.PreFwdRefIdeal.nD Cert.PreFwdRefIdeal.τ).loc Cert.PreFwdRefIdeal.main_arg0)
      ∧ r.2.mem ((c.tc : Thread Cert.PreFwdRefIdeal.nD Cert.PreFwdRefIdeal.τ).loc Cert.PreFwdRefIdeal.main_arg1) = m ((c.tc : Thread Cert.PreFwdRefIdeal.nD Cert.PreFwdRefIdeal.τ).loc Cert.PreFwdRefIdeal.main_arg1)
      ∧ r.2.mem ((c.tc : Thread Cert.PreFwdRefIdeal.nD Cert.PreFwdRefIdeal.τ).loc Cert.PreFwdRefIdeal.main_arg2) = m ((c.tc : Thread Cert.PreFwdRefIdeal.nD Cert.PreFwdRefIdeal.τ).loc Cert.PreFwdRefIdeal.main_arg2)
      ∧ r.2.mem ((c.tc : Thread Cert.PreFwdRefIdeal.nD Cert.PreFwdRefIdeal.τ).loc Cert.PreFwdRefIdeal.main_arg3) = m ((c.tc : Thread Cert.PreFwdRefIdeal.nD Cert.PreFwdRefIdeal.τ).loc Cert.PreFwdRefIdeal.main_arg3))
      ∧ r.2.sem = fun _ => 0)

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2)
      ∧ r.2.mem ((c.tc : Thread Cert.PreBwd.nD Cert.PreBwd.τ).loc Cert.PreBwd.main_arg3) = m ((c.tc : Thread Cert.PreBwd.nD Cert.PreBwd.τ).loc Cert.PreBwd.main_arg3)
      ∧ r.2.mem ((c.tc : Thread Cert.PreBwd.nD Cert.PreBwd.τ).loc Cert.PreBwd.main_arg4) = m ((c.tc : Thread Cert.PreBwd.nD Cert.PreBwd.τ).loc Cert.PreBwd.main_arg4)
      ∧ r.2.mem ((c.tc : Thread Cert.PreBwd.nD Cert.PreBwd.τ).loc Cert.PreBwd.main_arg5) = m ((c.tc : Thread Cert.PreBwd.nD Cert.PreBwd.τ).loc Cert.PreBwd.main_arg5))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
      ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4)
      ∧ r.2.mem ((c.tc : Thread Cert.PreBwdIdeal.nD Cert.PreBwdIdeal.τ).loc Cert.PreBwdIdeal.main_arg5) = m ((c.tc : Thread Cert.PreBwdIdeal.nD Cert.PreBwdIdeal.τ).loc Cert.PreBwdIdeal.main_arg5))
      ∧ r.2.sem = fun _ => 0)

def quiescent_PreBwdRefIdeal [hPreBwdRefIdeal : Cert.PreBwdRefIdeal.Facts] : Prop :=
  ∀ (m : (ℓ : Loc Cert.PreBwdRefIdeal.nD Cert.PreBwdRefIdeal.τ Cert.PreBwdRefIdeal.sig) → Buf (Elt Ideal) ℓ) (g : Dev Cert.PreBwdRefIdeal.nD → PrngReg), Pre_PreBwdRefIdeal m →
    θ_run (Cert.PreBwdRefIdeal.defs (F := Ideal)) (onTc (τ := Cert.PreBwdRefIdeal.τ) (Cert.PreBwdRefIdeal.main (F := Ideal))) ⟨m, fun _ => 0, g⟩ (fun r => (∀ c : Dev Cert.PreBwdRefIdeal.nD,
      r.2.mem ((c.tc : Thread Cert.PreBwdRefIdeal.nD Cert.PreBwdRefIdeal.τ).loc Cert.PreBwdRefIdeal.main_arg0) = m ((c.tc : Thread Cert.PreBwdRefIdeal.nD Cert.PreBwdRefIdeal.τ).loc Cert.PreBwdRefIdeal.main_arg0)
      ∧ r.2.mem ((c.tc : Thread Cert.PreBwdRefIdeal.nD Cert.PreBwdRefIdeal.τ).loc Cert.PreBwdRefIdeal.main_arg1) = m ((c.tc : Thread Cert.PreBwdRefIdeal.nD Cert.PreBwdRefIdeal.τ).loc Cert.PreBwdRefIdeal.main_arg1)
      ∧ r.2.mem ((c.tc : Thread Cert.PreBwdRefIdeal.nD Cert.PreBwdRefIdeal.τ).loc Cert.PreBwdRefIdeal.main_arg2) = m ((c.tc : Thread Cert.PreBwdRefIdeal.nD Cert.PreBwdRefIdeal.τ).loc Cert.PreBwdRefIdeal.main_arg2)
      ∧ r.2.mem ((c.tc : Thread Cert.PreBwdRefIdeal.nD Cert.PreBwdRefIdeal.τ).loc Cert.PreBwdRefIdeal.main_arg3) = m ((c.tc : Thread Cert.PreBwdRefIdeal.nD Cert.PreBwdRefIdeal.τ).loc Cert.PreBwdRefIdeal.main_arg3)
      ∧ r.2.mem ((c.tc : Thread Cert.PreBwdRefIdeal.nD Cert.PreBwdRefIdeal.τ).loc Cert.PreBwdRefIdeal.main_arg4) = m ((c.tc : Thread Cert.PreBwdRefIdeal.nD Cert.PreBwdRefIdeal.τ).loc Cert.PreBwdRefIdeal.main_arg4)
      ∧ r.2.mem ((c.tc : Thread Cert.PreBwdRefIdeal.nD Cert.PreBwdRefIdeal.τ).loc Cert.PreBwdRefIdeal.main_arg5) = m ((c.tc : Thread Cert.PreBwdRefIdeal.nD Cert.PreBwdRefIdeal.τ).loc Cert.PreBwdRefIdeal.main_arg5))
      ∧ r.2.sem = fun _ => 0)

def quiescent_ResBwd [hResBwd : Cert.ResBwd.Facts] : Prop :=
  ∀ (m : (ℓ : Loc Cert.ResBwd.nD Cert.ResBwd.τ Cert.ResBwd.sig) → Buf (Elt Bits) ℓ) (g : Dev Cert.ResBwd.nD → PrngReg), Pre_ResBwd m →
    θ_run (Cert.ResBwd.defs (F := Bits)) (onTc (τ := Cert.ResBwd.τ) (Cert.ResBwd.main (F := Bits))) ⟨m, fun _ => 0, g⟩ (fun r => (∀ c : Dev Cert.ResBwd.nD,
      r.2.mem ((c.tc : Thread Cert.ResBwd.nD Cert.ResBwd.τ).loc Cert.ResBwd.main_arg0) = m ((c.tc : Thread Cert.ResBwd.nD Cert.ResBwd.τ).loc Cert.ResBwd.main_arg0)
      ∧ r.2.mem ((c.tc : Thread Cert.ResBwd.nD Cert.ResBwd.τ).loc Cert.ResBwd.main_arg1) = m ((c.tc : Thread Cert.ResBwd.nD Cert.ResBwd.τ).loc Cert.ResBwd.main_arg1)
      ∧ r.2.mem ((c.tc : Thread Cert.ResBwd.nD Cert.ResBwd.τ).loc Cert.ResBwd.main_arg2) = m ((c.tc : Thread Cert.ResBwd.nD Cert.ResBwd.τ).loc Cert.ResBwd.main_arg2))
      ∧ r.2.sem = fun _ => 0)

def quiescent_ResBwdIdeal [hResBwdIdeal : Cert.ResBwdIdeal.Facts] : Prop :=
  ∀ (m : (ℓ : Loc Cert.ResBwdIdeal.nD Cert.ResBwdIdeal.τ Cert.ResBwdIdeal.sig) → Buf (Elt Ideal) ℓ) (g : Dev Cert.ResBwdIdeal.nD → PrngReg), Pre_ResBwdIdeal m →
    θ_run (Cert.ResBwdIdeal.defs (F := Ideal)) (onTc (τ := Cert.ResBwdIdeal.τ) (Cert.ResBwdIdeal.main (F := Ideal))) ⟨m, fun _ => 0, g⟩ (fun r => (∀ c : Dev Cert.ResBwdIdeal.nD,
      r.2.mem ((c.tc : Thread Cert.ResBwdIdeal.nD Cert.ResBwdIdeal.τ).loc Cert.ResBwdIdeal.main_arg0) = m ((c.tc : Thread Cert.ResBwdIdeal.nD Cert.ResBwdIdeal.τ).loc Cert.ResBwdIdeal.main_arg0)
      ∧ r.2.mem ((c.tc : Thread Cert.ResBwdIdeal.nD Cert.ResBwdIdeal.τ).loc Cert.ResBwdIdeal.main_arg1) = m ((c.tc : Thread Cert.ResBwdIdeal.nD Cert.ResBwdIdeal.τ).loc Cert.ResBwdIdeal.main_arg1)
      ∧ r.2.mem ((c.tc : Thread Cert.ResBwdIdeal.nD Cert.ResBwdIdeal.τ).loc Cert.ResBwdIdeal.main_arg2) = m ((c.tc : Thread Cert.ResBwdIdeal.nD Cert.ResBwdIdeal.τ).loc Cert.ResBwdIdeal.main_arg2))
      ∧ r.2.sem = fun _ => 0)

def quiescent_ResBwdRefIdeal [hResBwdRefIdeal : Cert.ResBwdRefIdeal.Facts] : Prop :=
  ∀ (m : (ℓ : Loc Cert.ResBwdRefIdeal.nD Cert.ResBwdRefIdeal.τ Cert.ResBwdRefIdeal.sig) → Buf (Elt Ideal) ℓ) (g : Dev Cert.ResBwdRefIdeal.nD → PrngReg), Pre_ResBwdRefIdeal m →
    θ_run (Cert.ResBwdRefIdeal.defs (F := Ideal)) (onTc (τ := Cert.ResBwdRefIdeal.τ) (Cert.ResBwdRefIdeal.main (F := Ideal))) ⟨m, fun _ => 0, g⟩ (fun r => (∀ c : Dev Cert.ResBwdRefIdeal.nD,
      r.2.mem ((c.tc : Thread Cert.ResBwdRefIdeal.nD Cert.ResBwdRefIdeal.τ).loc Cert.ResBwdRefIdeal.main_arg0) = m ((c.tc : Thread Cert.ResBwdRefIdeal.nD Cert.ResBwdRefIdeal.τ).loc Cert.ResBwdRefIdeal.main_arg0)
      ∧ r.2.mem ((c.tc : Thread Cert.ResBwdRefIdeal.nD Cert.ResBwdRefIdeal.τ).loc Cert.ResBwdRefIdeal.main_arg1) = m ((c.tc : Thread Cert.ResBwdRefIdeal.nD Cert.ResBwdRefIdeal.τ).loc Cert.ResBwdRefIdeal.main_arg1)
      ∧ r.2.mem ((c.tc : Thread Cert.ResBwdRefIdeal.nD Cert.ResBwdRefIdeal.τ).loc Cert.ResBwdRefIdeal.main_arg2) = m ((c.tc : Thread Cert.ResBwdRefIdeal.nD Cert.ResBwdRefIdeal.τ).loc Cert.ResBwdRefIdeal.main_arg2))
      ∧ r.2.sem = fun _ => 0)

def quiescent_MixResBwd [hMixResBwd : Cert.MixResBwd.Facts] : Prop :=
  ∀ (m : (ℓ : Loc Cert.MixResBwd.nD Cert.MixResBwd.τ Cert.MixResBwd.sig) → Buf (Elt Bits) ℓ) (g : Dev Cert.MixResBwd.nD → PrngReg), Pre_MixResBwd m →
    θ_run (Cert.MixResBwd.defs (F := Bits)) (onTc (τ := Cert.MixResBwd.τ) (Cert.MixResBwd.main (F := Bits))) ⟨m, fun _ => 0, g⟩ (fun r => (∀ c : Dev Cert.MixResBwd.nD,
      r.2.mem ((c.tc : Thread Cert.MixResBwd.nD Cert.MixResBwd.τ).loc Cert.MixResBwd.main_arg0) = m ((c.tc : Thread Cert.MixResBwd.nD Cert.MixResBwd.τ).loc Cert.MixResBwd.main_arg0)
      ∧ r.2.mem ((c.tc : Thread Cert.MixResBwd.nD Cert.MixResBwd.τ).loc Cert.MixResBwd.main_arg1) = m ((c.tc : Thread Cert.MixResBwd.nD Cert.MixResBwd.τ).loc Cert.MixResBwd.main_arg1)
      ∧ r.2.mem ((c.tc : Thread Cert.MixResBwd.nD Cert.MixResBwd.τ).loc Cert.MixResBwd.main_arg2) = m ((c.tc : Thread Cert.MixResBwd.nD Cert.MixResBwd.τ).loc Cert.MixResBwd.main_arg2))
      ∧ r.2.sem = fun _ => 0)

def quiescent_MixResBwdIdeal [hMixResBwdIdeal : Cert.MixResBwdIdeal.Facts] : Prop :=
  ∀ (m : (ℓ : Loc Cert.MixResBwdIdeal.nD Cert.MixResBwdIdeal.τ Cert.MixResBwdIdeal.sig) → Buf (Elt Ideal) ℓ) (g : Dev Cert.MixResBwdIdeal.nD → PrngReg), Pre_MixResBwdIdeal m →
    θ_run (Cert.MixResBwdIdeal.defs (F := Ideal)) (onTc (τ := Cert.MixResBwdIdeal.τ) (Cert.MixResBwdIdeal.main (F := Ideal))) ⟨m, fun _ => 0, g⟩ (fun r => (∀ c : Dev Cert.MixResBwdIdeal.nD,
      r.2.mem ((c.tc : Thread Cert.MixResBwdIdeal.nD Cert.MixResBwdIdeal.τ).loc Cert.MixResBwdIdeal.main_arg0) = m ((c.tc : Thread Cert.MixResBwdIdeal.nD Cert.MixResBwdIdeal.τ).loc Cert.MixResBwdIdeal.main_arg0)
      ∧ r.2.mem ((c.tc : Thread Cert.MixResBwdIdeal.nD Cert.MixResBwdIdeal.τ).loc Cert.MixResBwdIdeal.main_arg1) = m ((c.tc : Thread Cert.MixResBwdIdeal.nD Cert.MixResBwdIdeal.τ).loc Cert.MixResBwdIdeal.main_arg1)
      ∧ r.2.mem ((c.tc : Thread Cert.MixResBwdIdeal.nD Cert.MixResBwdIdeal.τ).loc Cert.MixResBwdIdeal.main_arg2) = m ((c.tc : Thread Cert.MixResBwdIdeal.nD Cert.MixResBwdIdeal.τ).loc Cert.MixResBwdIdeal.main_arg2))
      ∧ r.2.sem = fun _ => 0)

def quiescent_MixResBwdRefIdeal [hMixResBwdRefIdeal : Cert.MixResBwdRefIdeal.Facts] : Prop :=
  ∀ (m : (ℓ : Loc Cert.MixResBwdRefIdeal.nD Cert.MixResBwdRefIdeal.τ Cert.MixResBwdRefIdeal.sig) → Buf (Elt Ideal) ℓ) (g : Dev Cert.MixResBwdRefIdeal.nD → PrngReg), Pre_MixResBwdRefIdeal m →
    θ_run (Cert.MixResBwdRefIdeal.defs (F := Ideal)) (onTc (τ := Cert.MixResBwdRefIdeal.τ) (Cert.MixResBwdRefIdeal.main (F := Ideal))) ⟨m, fun _ => 0, g⟩ (fun r => (∀ c : Dev Cert.MixResBwdRefIdeal.nD,
      r.2.mem ((c.tc : Thread Cert.MixResBwdRefIdeal.nD Cert.MixResBwdRefIdeal.τ).loc Cert.MixResBwdRefIdeal.main_arg0) = m ((c.tc : Thread Cert.MixResBwdRefIdeal.nD Cert.MixResBwdRefIdeal.τ).loc Cert.MixResBwdRefIdeal.main_arg0)
      ∧ r.2.mem ((c.tc : Thread Cert.MixResBwdRefIdeal.nD Cert.MixResBwdRefIdeal.τ).loc Cert.MixResBwdRefIdeal.main_arg1) = m ((c.tc : Thread Cert.MixResBwdRefIdeal.nD Cert.MixResBwdRefIdeal.τ).loc Cert.MixResBwdRefIdeal.main_arg1)
      ∧ r.2.mem ((c.tc : Thread Cert.MixResBwdRefIdeal.nD Cert.MixResBwdRefIdeal.τ).loc Cert.MixResBwdRefIdeal.main_arg2) = m ((c.tc : Thread Cert.MixResBwdRefIdeal.nD Cert.MixResBwdRefIdeal.τ).loc Cert.MixResBwdRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v1_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_v31) = v5 c
          ∧ r.2.mem ((c.tc : Thread Cert.ReferenceIdeal.nD Cert.ReferenceIdeal.τ).loc Cert.ReferenceIdeal.main_v29) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v2) = v0 c
          ∧ r.2.mem ((c.tc : Thread Cert.GateUpRefIdeal.nD Cert.GateUpRefIdeal.τ).loc Cert.GateUpRefIdeal.main_v18) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_v7) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v41) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_GateUpDw_GateUpDwIdeal : Prop :=
  True

def algebraic_GateUpDwIdeal_GateUpDwRefIdeal [hGateUpDwIdeal : Cert.GateUpDwIdeal.Facts] [hGateUpDwRefIdeal : Cert.GateUpDwRefIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg)
    (m' : (ℓ : Loc Cert.GateUpDwRefIdeal.nD Cert.GateUpDwRefIdeal.τ Cert.GateUpDwRefIdeal.sig) → Buf (Elt Ideal) ℓ) (g' : Dev Cert.GateUpDwRefIdeal.nD → PrngReg), Pre_GateUpDwIdeal m →
    (∀ c : Dev Cert.GateUpDwIdeal.nD,
      m' ((c.tc : Thread Cert.GateUpDwRefIdeal.nD Cert.GateUpDwRefIdeal.τ).loc Cert.GateUpDwRefIdeal.main_arg0) = m ((c.tc : Thread Cert.GateUpDwIdeal.nD Cert.GateUpDwIdeal.τ).loc Cert.GateUpDwIdeal.main_arg0)
      ∧ m' ((c.tc : Thread Cert.GateUpDwRefIdeal.nD Cert.GateUpDwRefIdeal.τ).loc Cert.GateUpDwRefIdeal.main_arg1) = m ((c.tc : Thread Cert.GateUpDwIdeal.nD Cert.GateUpDwIdeal.τ).loc Cert.GateUpDwIdeal.main_arg1)) →
    ∃ (v0 : (c : Dev Cert.GateUpDwIdeal.nD) → Buf (Elt Ideal) ((c.tc : Thread Cert.GateUpDwIdeal.nD Cert.GateUpDwIdeal.τ).loc Cert.GateUpDwIdeal.main_v0)),
      θ_run (Cert.GateUpDwIdeal.defs (F := Ideal)) (onTc (τ := Cert.GateUpDwIdeal.τ) (Cert.GateUpDwIdeal.main (F := Ideal))) ⟨m, fun _ => 0, g⟩ (fun r => ∀ c : Dev Cert.GateUpDwIdeal.nD,
          r.2.mem ((c.tc : Thread Cert.GateUpDwIdeal.nD Cert.GateUpDwIdeal.τ).loc Cert.GateUpDwIdeal.main_v0) = v0 c
          ∧ r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
          ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ θ_run (Cert.GateUpDwRefIdeal.defs (F := Ideal)) (onTc (τ := Cert.GateUpDwRefIdeal.τ) (Cert.GateUpDwRefIdeal.main (F := Ideal))) ⟨m', fun _ => 0, g'⟩ (fun r => ∀ c : Dev Cert.GateUpDwRefIdeal.nD,
          r.2.mem ((c.tc : Thread Cert.GateUpDwRefIdeal.nD Cert.GateUpDwRefIdeal.τ).loc Cert.GateUpDwRefIdeal.main_v9) = v0 c
          ∧ r.2.mem ((c.tc : Thread Cert.GateUpDwRefIdeal.nD Cert.GateUpDwRefIdeal.τ).loc Cert.GateUpDwRefIdeal.main_arg0) = m' ((c.tc : Thread Cert.GateUpDwRefIdeal.nD Cert.GateUpDwRefIdeal.τ).loc Cert.GateUpDwRefIdeal.main_arg0)
          ∧ r.2.mem ((c.tc : Thread Cert.GateUpDwRefIdeal.nD Cert.GateUpDwRefIdeal.τ).loc Cert.GateUpDwRefIdeal.main_arg1) = m' ((c.tc : Thread Cert.GateUpDwRefIdeal.nD Cert.GateUpDwRefIdeal.τ).loc Cert.GateUpDwRefIdeal.main_arg1))

def preserves_GateUpDx_GateUpDxIdeal : Prop :=
  True

def algebraic_GateUpDxIdeal_GateUpDxRefIdeal [hGateUpDxIdeal : Cert.GateUpDxIdeal.Facts] [hGateUpDxRefIdeal : Cert.GateUpDxRefIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg)
    (m' : (ℓ : Loc Cert.GateUpDxRefIdeal.nD Cert.GateUpDxRefIdeal.τ Cert.GateUpDxRefIdeal.sig) → Buf (Elt Ideal) ℓ) (g' : Dev Cert.GateUpDxRefIdeal.nD → PrngReg), Pre_GateUpDxIdeal m →
    (∀ c : Dev Cert.GateUpDxIdeal.nD,
      m' ((c.tc : Thread Cert.GateUpDxRefIdeal.nD Cert.GateUpDxRefIdeal.τ).loc Cert.GateUpDxRefIdeal.main_arg0) = m ((c.tc : Thread Cert.GateUpDxIdeal.nD Cert.GateUpDxIdeal.τ).loc Cert.GateUpDxIdeal.main_arg0)
      ∧ m' ((c.tc : Thread Cert.GateUpDxRefIdeal.nD Cert.GateUpDxRefIdeal.τ).loc Cert.GateUpDxRefIdeal.main_arg1) = m ((c.tc : Thread Cert.GateUpDxIdeal.nD Cert.GateUpDxIdeal.τ).loc Cert.GateUpDxIdeal.main_arg1)) →
    ∃ (v0 : (c : Dev Cert.GateUpDxIdeal.nD) → Buf (Elt Ideal) ((c.tc : Thread Cert.GateUpDxIdeal.nD Cert.GateUpDxIdeal.τ).loc Cert.GateUpDxIdeal.main_v0)),
      θ_run (Cert.GateUpDxIdeal.defs (F := Ideal)) (onTc (τ := Cert.GateUpDxIdeal.τ) (Cert.GateUpDxIdeal.main (F := Ideal))) ⟨m, fun _ => 0, g⟩ (fun r => ∀ c : Dev Cert.GateUpDxIdeal.nD,
          r.2.mem ((c.tc : Thread Cert.GateUpDxIdeal.nD Cert.GateUpDxIdeal.τ).loc Cert.GateUpDxIdeal.main_v0) = v0 c
          ∧ r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
          ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1))
      ∧ θ_run (Cert.GateUpDxRefIdeal.defs (F := Ideal)) (onTc (τ := Cert.GateUpDxRefIdeal.τ) (Cert.GateUpDxRefIdeal.main (F := Ideal))) ⟨m', fun _ => 0, g'⟩ (fun r => ∀ c : Dev Cert.GateUpDxRefIdeal.nD,
          r.2.mem ((c.tc : Thread Cert.GateUpDxRefIdeal.nD Cert.GateUpDxRefIdeal.τ).loc Cert.GateUpDxRefIdeal.main_v4) = v0 c
          ∧ r.2.mem ((c.tc : Thread Cert.GateUpDxRefIdeal.nD Cert.GateUpDxRefIdeal.τ).loc Cert.GateUpDxRefIdeal.main_arg0) = m' ((c.tc : Thread Cert.GateUpDxRefIdeal.nD Cert.GateUpDxRefIdeal.τ).loc Cert.GateUpDxRefIdeal.main_arg0)
          ∧ r.2.mem ((c.tc : Thread Cert.GateUpDxRefIdeal.nD Cert.GateUpDxRefIdeal.τ).loc Cert.GateUpDxRefIdeal.main_arg1) = m' ((c.tc : Thread Cert.GateUpDxRefIdeal.nD Cert.GateUpDxRefIdeal.τ).loc Cert.GateUpDxRefIdeal.main_arg1))

def preserves_GateUpDwLow_GateUpDwLowIdeal : Prop :=
  True

def algebraic_GateUpDwLowIdeal_GateUpDwLowRefIdeal [hGateUpDwLowIdeal : Cert.GateUpDwLowIdeal.Facts] [hGateUpDwLowRefIdeal : Cert.GateUpDwLowRefIdeal.Facts] : Prop :=
  ∀ (m : (ℓ : Loc Cert.GateUpDwLowIdeal.nD Cert.GateUpDwLowIdeal.τ Cert.GateUpDwLowIdeal.sig) → Buf (Elt Ideal) ℓ) (g : Dev Cert.GateUpDwLowIdeal.nD → PrngReg)
    (m' : (ℓ : Loc Cert.GateUpDwLowRefIdeal.nD Cert.GateUpDwLowRefIdeal.τ Cert.GateUpDwLowRefIdeal.sig) → Buf (Elt Ideal) ℓ) (g' : Dev Cert.GateUpDwLowRefIdeal.nD → PrngReg), Pre_GateUpDwLowIdeal m →
    (∀ c : Dev Cert.GateUpDwLowIdeal.nD,
      m' ((c.tc : Thread Cert.GateUpDwLowRefIdeal.nD Cert.GateUpDwLowRefIdeal.τ).loc Cert.GateUpDwLowRefIdeal.main_arg0) = m ((c.tc : Thread Cert.GateUpDwLowIdeal.nD Cert.GateUpDwLowIdeal.τ).loc Cert.GateUpDwLowIdeal.main_arg0)
      ∧ m' ((c.tc : Thread Cert.GateUpDwLowRefIdeal.nD Cert.GateUpDwLowRefIdeal.τ).loc Cert.GateUpDwLowRefIdeal.main_arg1) = m ((c.tc : Thread Cert.GateUpDwLowIdeal.nD Cert.GateUpDwLowIdeal.τ).loc Cert.GateUpDwLowIdeal.main_arg1)) →
    ∃ (v0 : (c : Dev Cert.GateUpDwLowIdeal.nD) → Buf (Elt Ideal) ((c.tc : Thread Cert.GateUpDwLowIdeal.nD Cert.GateUpDwLowIdeal.τ).loc Cert.GateUpDwLowIdeal.main_v0)),
      θ_run (Cert.GateUpDwLowIdeal.defs (F := Ideal)) (onTc (τ := Cert.GateUpDwLowIdeal.τ) (Cert.GateUpDwLowIdeal.main (F := Ideal))) ⟨m, fun _ => 0, g⟩ (fun r => ∀ c : Dev Cert.GateUpDwLowIdeal.nD,
          r.2.mem ((c.tc : Thread Cert.GateUpDwLowIdeal.nD Cert.GateUpDwLowIdeal.τ).loc Cert.GateUpDwLowIdeal.main_v0) = v0 c
          ∧ r.2.mem ((c.tc : Thread Cert.GateUpDwLowIdeal.nD Cert.GateUpDwLowIdeal.τ).loc Cert.GateUpDwLowIdeal.main_arg0) = m ((c.tc : Thread Cert.GateUpDwLowIdeal.nD Cert.GateUpDwLowIdeal.τ).loc Cert.GateUpDwLowIdeal.main_arg0)
          ∧ r.2.mem ((c.tc : Thread Cert.GateUpDwLowIdeal.nD Cert.GateUpDwLowIdeal.τ).loc Cert.GateUpDwLowIdeal.main_arg1) = m ((c.tc : Thread Cert.GateUpDwLowIdeal.nD Cert.GateUpDwLowIdeal.τ).loc Cert.GateUpDwLowIdeal.main_arg1))
      ∧ θ_run (Cert.GateUpDwLowRefIdeal.defs (F := Ideal)) (onTc (τ := Cert.GateUpDwLowRefIdeal.τ) (Cert.GateUpDwLowRefIdeal.main (F := Ideal))) ⟨m', fun _ => 0, g'⟩ (fun r => ∀ c : Dev Cert.GateUpDwLowRefIdeal.nD,
          r.2.mem ((c.tc : Thread Cert.GateUpDwLowRefIdeal.nD Cert.GateUpDwLowRefIdeal.τ).loc Cert.GateUpDwLowRefIdeal.main_v10) = v0 c
          ∧ r.2.mem ((c.tc : Thread Cert.GateUpDwLowRefIdeal.nD Cert.GateUpDwLowRefIdeal.τ).loc Cert.GateUpDwLowRefIdeal.main_arg0) = m' ((c.tc : Thread Cert.GateUpDwLowRefIdeal.nD Cert.GateUpDwLowRefIdeal.τ).loc Cert.GateUpDwLowRefIdeal.main_arg0)
          ∧ r.2.mem ((c.tc : Thread Cert.GateUpDwLowRefIdeal.nD Cert.GateUpDwLowRefIdeal.τ).loc Cert.GateUpDwLowRefIdeal.main_arg1) = m' ((c.tc : Thread Cert.GateUpDwLowRefIdeal.nD Cert.GateUpDwLowRefIdeal.τ).loc Cert.GateUpDwLowRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v2) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixInDw_MixInDwIdeal : Prop :=
  True

def algebraic_MixInDwIdeal_MixInDwRefIdeal [hMixInDwIdeal : Cert.MixInDwIdeal.Facts] [hMixInDwRefIdeal : Cert.MixInDwRefIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg)
    (m' : (ℓ : Loc Cert.MixInDwRefIdeal.nD Cert.MixInDwRefIdeal.τ Cert.MixInDwRefIdeal.sig) → Buf (Elt Ideal) ℓ) (g' : Dev Cert.MixInDwRefIdeal.nD → PrngReg), Pre_MixInDwIdeal m →
    (∀ c : Dev Cert.MixInDwIdeal.nD,
      m' ((c.tc : Thread Cert.MixInDwRefIdeal.nD Cert.MixInDwRefIdeal.τ).loc Cert.MixInDwRefIdeal.main_arg0) = m ((c.tc : Thread Cert.MixInDwIdeal.nD Cert.MixInDwIdeal.τ).loc Cert.MixInDwIdeal.main_arg0)
      ∧ m' ((c.tc : Thread Cert.MixInDwRefIdeal.nD Cert.MixInDwRefIdeal.τ).loc Cert.MixInDwRefIdeal.main_arg1) = m ((c.tc : Thread Cert.MixInDwIdeal.nD Cert.MixInDwIdeal.τ).loc Cert.MixInDwIdeal.main_arg1)) →
    ∃ (v0 : (c : Dev Cert.MixInDwIdeal.nD) → Buf (Elt Ideal) ((c.tc : Thread Cert.MixInDwIdeal.nD Cert.MixInDwIdeal.τ).loc Cert.MixInDwIdeal.main_v0)),
      θ_run (Cert.MixInDwIdeal.defs (F := Ideal)) (onTc (τ := Cert.MixInDwIdeal.τ) (Cert.MixInDwIdeal.main (F := Ideal))) ⟨m, fun _ => 0, g⟩ (fun r => ∀ c : Dev Cert.MixInDwIdeal.nD,
          r.2.mem ((c.tc : Thread Cert.MixInDwIdeal.nD Cert.MixInDwIdeal.τ).loc Cert.MixInDwIdeal.main_v0) = v0 c
          ∧ r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
          ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ θ_run (Cert.MixInDwRefIdeal.defs (F := Ideal)) (onTc (τ := Cert.MixInDwRefIdeal.τ) (Cert.MixInDwRefIdeal.main (F := Ideal))) ⟨m', fun _ => 0, g'⟩ (fun r => ∀ c : Dev Cert.MixInDwRefIdeal.nD,
          r.2.mem ((c.tc : Thread Cert.MixInDwRefIdeal.nD Cert.MixInDwRefIdeal.τ).loc Cert.MixInDwRefIdeal.main_v6) = v0 c
          ∧ r.2.mem ((c.tc : Thread Cert.MixInDwRefIdeal.nD Cert.MixInDwRefIdeal.τ).loc Cert.MixInDwRefIdeal.main_arg0) = m' ((c.tc : Thread Cert.MixInDwRefIdeal.nD Cert.MixInDwRefIdeal.τ).loc Cert.MixInDwRefIdeal.main_arg0)
          ∧ r.2.mem ((c.tc : Thread Cert.MixInDwRefIdeal.nD Cert.MixInDwRefIdeal.τ).loc Cert.MixInDwRefIdeal.main_arg1) = m' ((c.tc : Thread Cert.MixInDwRefIdeal.nD Cert.MixInDwRefIdeal.τ).loc Cert.MixInDwRefIdeal.main_arg1))

def preserves_MixInDx_MixInDxIdeal : Prop :=
  True

def algebraic_MixInDxIdeal_MixInDxRefIdeal [hMixInDxIdeal : Cert.MixInDxIdeal.Facts] [hMixInDxRefIdeal : Cert.MixInDxRefIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg)
    (m' : (ℓ : Loc Cert.MixInDxRefIdeal.nD Cert.MixInDxRefIdeal.τ Cert.MixInDxRefIdeal.sig) → Buf (Elt Ideal) ℓ) (g' : Dev Cert.MixInDxRefIdeal.nD → PrngReg), Pre_MixInDxIdeal m →
    (∀ c : Dev Cert.MixInDxIdeal.nD,
      m' ((c.tc : Thread Cert.MixInDxRefIdeal.nD Cert.MixInDxRefIdeal.τ).loc Cert.MixInDxRefIdeal.main_arg0) = m ((c.tc : Thread Cert.MixInDxIdeal.nD Cert.MixInDxIdeal.τ).loc Cert.MixInDxIdeal.main_arg0)
      ∧ m' ((c.tc : Thread Cert.MixInDxRefIdeal.nD Cert.MixInDxRefIdeal.τ).loc Cert.MixInDxRefIdeal.main_arg1) = m ((c.tc : Thread Cert.MixInDxIdeal.nD Cert.MixInDxIdeal.τ).loc Cert.MixInDxIdeal.main_arg1)) →
    ∃ (v0 : (c : Dev Cert.MixInDxIdeal.nD) → Buf (Elt Ideal) ((c.tc : Thread Cert.MixInDxIdeal.nD Cert.MixInDxIdeal.τ).loc Cert.MixInDxIdeal.main_v0)),
      θ_run (Cert.MixInDxIdeal.defs (F := Ideal)) (onTc (τ := Cert.MixInDxIdeal.τ) (Cert.MixInDxIdeal.main (F := Ideal))) ⟨m, fun _ => 0, g⟩ (fun r => ∀ c : Dev Cert.MixInDxIdeal.nD,
          r.2.mem ((c.tc : Thread Cert.MixInDxIdeal.nD Cert.MixInDxIdeal.τ).loc Cert.MixInDxIdeal.main_v0) = v0 c
          ∧ r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
          ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1))
      ∧ θ_run (Cert.MixInDxRefIdeal.defs (F := Ideal)) (onTc (τ := Cert.MixInDxRefIdeal.τ) (Cert.MixInDxRefIdeal.main (F := Ideal))) ⟨m', fun _ => 0, g'⟩ (fun r => ∀ c : Dev Cert.MixInDxRefIdeal.nD,
          r.2.mem ((c.tc : Thread Cert.MixInDxRefIdeal.nD Cert.MixInDxRefIdeal.τ).loc Cert.MixInDxRefIdeal.main_v4) = v0 c
          ∧ r.2.mem ((c.tc : Thread Cert.MixInDxRefIdeal.nD Cert.MixInDxRefIdeal.τ).loc Cert.MixInDxRefIdeal.main_arg0) = m' ((c.tc : Thread Cert.MixInDxRefIdeal.nD Cert.MixInDxRefIdeal.τ).loc Cert.MixInDxRefIdeal.main_arg0)
          ∧ r.2.mem ((c.tc : Thread Cert.MixInDxRefIdeal.nD Cert.MixInDxRefIdeal.τ).loc Cert.MixInDxRefIdeal.main_arg1) = m' ((c.tc : Thread Cert.MixInDxRefIdeal.nD Cert.MixInDxRefIdeal.τ).loc Cert.MixInDxRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_v5) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v6) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v4) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_PreFwd_PreFwdIdeal : Prop :=
  True

def algebraic_PreFwdIdeal_PreFwdRefIdeal [hPreFwdIdeal : Cert.PreFwdIdeal.Facts] [hPreFwdRefIdeal : Cert.PreFwdRefIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg)
    (m' : (ℓ : Loc Cert.PreFwdRefIdeal.nD Cert.PreFwdRefIdeal.τ Cert.PreFwdRefIdeal.sig) → Buf (Elt Ideal) ℓ) (g' : Dev Cert.PreFwdRefIdeal.nD → PrngReg), Pre_PreFwdIdeal m →
    (∀ c : Dev Cert.PreFwdIdeal.nD,
      m' ((c.tc : Thread Cert.PreFwdRefIdeal.nD Cert.PreFwdRefIdeal.τ).loc Cert.PreFwdRefIdeal.main_arg0) = m ((c.tc : Thread Cert.PreFwdIdeal.nD Cert.PreFwdIdeal.τ).loc Cert.PreFwdIdeal.main_arg0)
      ∧ m' ((c.tc : Thread Cert.PreFwdRefIdeal.nD Cert.PreFwdRefIdeal.τ).loc Cert.PreFwdRefIdeal.main_arg1) = m ((c.tc : Thread Cert.PreFwdIdeal.nD Cert.PreFwdIdeal.τ).loc Cert.PreFwdIdeal.main_arg1)
      ∧ m' ((c.tc : Thread Cert.PreFwdRefIdeal.nD Cert.PreFwdRefIdeal.τ).loc Cert.PreFwdRefIdeal.main_arg2) = m ((c.tc : Thread Cert.PreFwdIdeal.nD Cert.PreFwdIdeal.τ).loc Cert.PreFwdIdeal.main_arg2)
      ∧ m' ((c.tc : Thread Cert.PreFwdRefIdeal.nD Cert.PreFwdRefIdeal.τ).loc Cert.PreFwdRefIdeal.main_arg3) = m ((c.tc : Thread Cert.PreFwdIdeal.nD Cert.PreFwdIdeal.τ).loc Cert.PreFwdIdeal.main_arg3)) →
    ∃ (v0 : (c : Dev Cert.PreFwdIdeal.nD) → Buf (Elt Ideal) ((c.tc : Thread Cert.PreFwdIdeal.nD Cert.PreFwdIdeal.τ).loc Cert.PreFwdIdeal.main_v0)),
      θ_run (Cert.PreFwdIdeal.defs (F := Ideal)) (onTc (τ := Cert.PreFwdIdeal.τ) (Cert.PreFwdIdeal.main (F := Ideal))) ⟨m, fun _ => 0, g⟩ (fun r => ∀ c : Dev Cert.PreFwdIdeal.nD,
          r.2.mem ((c.tc : Thread Cert.PreFwdIdeal.nD Cert.PreFwdIdeal.τ).loc Cert.PreFwdIdeal.main_v0) = v0 c
          ∧ r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
          ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1)
          ∧ r.2.mem ((c.tc : Thread Cert.PreFwdIdeal.nD Cert.PreFwdIdeal.τ).loc Cert.PreFwdIdeal.main_arg2) = m ((c.tc : Thread Cert.PreFwdIdeal.nD Cert.PreFwdIdeal.τ).loc Cert.PreFwdIdeal.main_arg2)
          ∧ r.2.mem ((c.tc : Thread Cert.PreFwdIdeal.nD Cert.PreFwdIdeal.τ).loc Cert.PreFwdIdeal.main_arg3) = m ((c.tc : Thread Cert.PreFwdIdeal.nD Cert.PreFwdIdeal.τ).loc Cert.PreFwdIdeal.main_arg3))
      ∧ θ_run (Cert.PreFwdRefIdeal.defs (F := Ideal)) (onTc (τ := Cert.PreFwdRefIdeal.τ) (Cert.PreFwdRefIdeal.main (F := Ideal))) ⟨m', fun _ => 0, g'⟩ (fun r => ∀ c : Dev Cert.PreFwdRefIdeal.nD,
          r.2.mem ((c.tc : Thread Cert.PreFwdRefIdeal.nD Cert.PreFwdRefIdeal.τ).loc Cert.PreFwdRefIdeal.main_v18) = v0 c
          ∧ r.2.mem ((c.tc : Thread Cert.PreFwdRefIdeal.nD Cert.PreFwdRefIdeal.τ).loc Cert.PreFwdRefIdeal.main_arg0) = m' ((c.tc : Thread Cert.PreFwdRefIdeal.nD Cert.PreFwdRefIdeal.τ).loc Cert.PreFwdRefIdeal.main_arg0)
          ∧ r.2.mem ((c.tc : Thread Cert.PreFwdRefIdeal.nD Cert.PreFwdRefIdeal.τ).loc Cert.PreFwdRefIdeal.main_arg1) = m' ((c.tc : Thread Cert.PreFwdRefIdeal.nD Cert.PreFwdRefIdeal.τ).loc Cert.PreFwdRefIdeal.main_arg1)
          ∧ r.2.mem ((c.tc : Thread Cert.PreFwdRefIdeal.nD Cert.PreFwdRefIdeal.τ).loc Cert.PreFwdRefIdeal.main_arg2) = m' ((c.tc : Thread Cert.PreFwdRefIdeal.nD Cert.PreFwdRefIdeal.τ).loc Cert.PreFwdRefIdeal.main_arg2)
          ∧ r.2.mem ((c.tc : Thread Cert.PreFwdRefIdeal.nD Cert.PreFwdRefIdeal.τ).loc Cert.PreFwdRefIdeal.main_arg3) = m' ((c.tc : Thread Cert.PreFwdRefIdeal.nD Cert.PreFwdRefIdeal.τ).loc Cert.PreFwdRefIdeal.main_arg3))

def preserves_PreBwd_PreBwdIdeal : Prop :=
  True

def algebraic_PreBwdIdeal_PreBwdRefIdeal [hPreBwdIdeal : Cert.PreBwdIdeal.Facts] [hPreBwdRefIdeal : Cert.PreBwdRefIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreBwdRefIdeal.nD Cert.PreBwdRefIdeal.τ Cert.PreBwdRefIdeal.sig) → Buf (Elt Ideal) ℓ) (g' : Dev Cert.PreBwdRefIdeal.nD → PrngReg), Pre_PreBwdIdeal m →
    (∀ c : Dev Cert.PreBwdIdeal.nD,
      m' ((c.tc : Thread Cert.PreBwdRefIdeal.nD Cert.PreBwdRefIdeal.τ).loc Cert.PreBwdRefIdeal.main_arg0) = m ((c.tc : Thread Cert.PreBwdIdeal.nD Cert.PreBwdIdeal.τ).loc Cert.PreBwdIdeal.main_arg0)
      ∧ m' ((c.tc : Thread Cert.PreBwdRefIdeal.nD Cert.PreBwdRefIdeal.τ).loc Cert.PreBwdRefIdeal.main_arg1) = m ((c.tc : Thread Cert.PreBwdIdeal.nD Cert.PreBwdIdeal.τ).loc Cert.PreBwdIdeal.main_arg1)
      ∧ m' ((c.tc : Thread Cert.PreBwdRefIdeal.nD Cert.PreBwdRefIdeal.τ).loc Cert.PreBwdRefIdeal.main_arg2) = m ((c.tc : Thread Cert.PreBwdIdeal.nD Cert.PreBwdIdeal.τ).loc Cert.PreBwdIdeal.main_arg2)
      ∧ m' ((c.tc : Thread Cert.PreBwdRefIdeal.nD Cert.PreBwdRefIdeal.τ).loc Cert.PreBwdRefIdeal.main_arg3) = m ((c.tc : Thread Cert.PreBwdIdeal.nD Cert.PreBwdIdeal.τ).loc Cert.PreBwdIdeal.main_arg3)
      ∧ m' ((c.tc : Thread Cert.PreBwdRefIdeal.nD Cert.PreBwdRefIdeal.τ).loc Cert.PreBwdRefIdeal.main_arg4) = m ((c.tc : Thread Cert.PreBwdIdeal.nD Cert.PreBwdIdeal.τ).loc Cert.PreBwdIdeal.main_arg4)
      ∧ m' ((c.tc : Thread Cert.PreBwdRefIdeal.nD Cert.PreBwdRefIdeal.τ).loc Cert.PreBwdRefIdeal.main_arg5) = m ((c.tc : Thread Cert.PreBwdIdeal.nD Cert.PreBwdIdeal.τ).loc Cert.PreBwdIdeal.main_arg5)) →
    ∃ (v0 : (c : Dev Cert.PreBwdIdeal.nD) → Buf (Elt Ideal) ((c.tc : Thread Cert.PreBwdIdeal.nD Cert.PreBwdIdeal.τ).loc Cert.PreBwdIdeal.main_v0_0)) (v1 : (c : Dev Cert.PreBwdIdeal.nD) → Buf (Elt Ideal) ((c.tc : Thread Cert.PreBwdIdeal.nD Cert.PreBwdIdeal.τ).loc Cert.PreBwdIdeal.main_v0_1)) (v2 : (c : Dev Cert.PreBwdIdeal.nD) → Buf (Elt Ideal) ((c.tc : Thread Cert.PreBwdIdeal.nD Cert.PreBwdIdeal.τ).loc Cert.PreBwdIdeal.main_v0_2)) (v3 : (c : Dev Cert.PreBwdIdeal.nD) → Buf (Elt Ideal) ((c.tc : Thread Cert.PreBwdIdeal.nD Cert.PreBwdIdeal.τ).loc Cert.PreBwdIdeal.main_v0_3)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v0_0) = v0 c
          ∧ r.2.mem ((c.tc : Thread Cert.PreBwdIdeal.nD Cert.PreBwdIdeal.τ).loc Cert.PreBwdIdeal.main_v0_1) = v1 c
          ∧ r.2.mem ((c.tc : Thread Cert.PreBwdIdeal.nD Cert.PreBwdIdeal.τ).loc Cert.PreBwdIdeal.main_v0_2) = v2 c
          ∧ r.2.mem ((c.tc : Thread Cert.PreBwdIdeal.nD Cert.PreBwdIdeal.τ).loc Cert.PreBwdIdeal.main_v0_3) = v3 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
          ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
          ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4)
          ∧ r.2.mem ((c.tc : Thread Cert.PreBwdIdeal.nD Cert.PreBwdIdeal.τ).loc Cert.PreBwdIdeal.main_arg5) = m ((c.tc : Thread Cert.PreBwdIdeal.nD Cert.PreBwdIdeal.τ).loc Cert.PreBwdIdeal.main_arg5))
      ∧ θ_run (Cert.PreBwdRefIdeal.defs (F := Ideal)) (onTc (τ := Cert.PreBwdRefIdeal.τ) (Cert.PreBwdRefIdeal.main (F := Ideal))) ⟨m', fun _ => 0, g'⟩ (fun r => ∀ c : Dev Cert.PreBwdRefIdeal.nD,
          r.2.mem ((c.tc : Thread Cert.PreBwdRefIdeal.nD Cert.PreBwdRefIdeal.τ).loc Cert.PreBwdRefIdeal.main_v48) = v0 c
          ∧ r.2.mem ((c.tc : Thread Cert.PreBwdRefIdeal.nD Cert.PreBwdRefIdeal.τ).loc Cert.PreBwdRefIdeal.main_v31) = v1 c
          ∧ r.2.mem ((c.tc : Thread Cert.PreBwdRefIdeal.nD Cert.PreBwdRefIdeal.τ).loc Cert.PreBwdRefIdeal.main_v23) = v2 c
          ∧ r.2.mem ((c.tc : Thread Cert.PreBwdRefIdeal.nD Cert.PreBwdRefIdeal.τ).loc Cert.PreBwdRefIdeal.main_v26) = v3 c
          ∧ r.2.mem ((c.tc : Thread Cert.PreBwdRefIdeal.nD Cert.PreBwdRefIdeal.τ).loc Cert.PreBwdRefIdeal.main_arg0) = m' ((c.tc : Thread Cert.PreBwdRefIdeal.nD Cert.PreBwdRefIdeal.τ).loc Cert.PreBwdRefIdeal.main_arg0)
          ∧ r.2.mem ((c.tc : Thread Cert.PreBwdRefIdeal.nD Cert.PreBwdRefIdeal.τ).loc Cert.PreBwdRefIdeal.main_arg1) = m' ((c.tc : Thread Cert.PreBwdRefIdeal.nD Cert.PreBwdRefIdeal.τ).loc Cert.PreBwdRefIdeal.main_arg1)
          ∧ r.2.mem ((c.tc : Thread Cert.PreBwdRefIdeal.nD Cert.PreBwdRefIdeal.τ).loc Cert.PreBwdRefIdeal.main_arg2) = m' ((c.tc : Thread Cert.PreBwdRefIdeal.nD Cert.PreBwdRefIdeal.τ).loc Cert.PreBwdRefIdeal.main_arg2)
          ∧ r.2.mem ((c.tc : Thread Cert.PreBwdRefIdeal.nD Cert.PreBwdRefIdeal.τ).loc Cert.PreBwdRefIdeal.main_arg3) = m' ((c.tc : Thread Cert.PreBwdRefIdeal.nD Cert.PreBwdRefIdeal.τ).loc Cert.PreBwdRefIdeal.main_arg3)
          ∧ r.2.mem ((c.tc : Thread Cert.PreBwdRefIdeal.nD Cert.PreBwdRefIdeal.τ).loc Cert.PreBwdRefIdeal.main_arg4) = m' ((c.tc : Thread Cert.PreBwdRefIdeal.nD Cert.PreBwdRefIdeal.τ).loc Cert.PreBwdRefIdeal.main_arg4)
          ∧ r.2.mem ((c.tc : Thread Cert.PreBwdRefIdeal.nD Cert.PreBwdRefIdeal.τ).loc Cert.PreBwdRefIdeal.main_arg5) = m' ((c.tc : Thread Cert.PreBwdRefIdeal.nD Cert.PreBwdRefIdeal.τ).loc Cert.PreBwdRefIdeal.main_arg5))

def preserves_ResBwd_ResBwdIdeal : Prop :=
  True

def algebraic_ResBwdIdeal_ResBwdRefIdeal [hResBwdIdeal : Cert.ResBwdIdeal.Facts] [hResBwdRefIdeal : Cert.ResBwdRefIdeal.Facts] : Prop :=
  ∀ (m : (ℓ : Loc Cert.ResBwdIdeal.nD Cert.ResBwdIdeal.τ Cert.ResBwdIdeal.sig) → Buf (Elt Ideal) ℓ) (g : Dev Cert.ResBwdIdeal.nD → PrngReg)
    (m' : (ℓ : Loc Cert.ResBwdRefIdeal.nD Cert.ResBwdRefIdeal.τ Cert.ResBwdRefIdeal.sig) → Buf (Elt Ideal) ℓ) (g' : Dev Cert.ResBwdRefIdeal.nD → PrngReg), Pre_ResBwdIdeal m →
    (∀ c : Dev Cert.ResBwdIdeal.nD,
      m' ((c.tc : Thread Cert.ResBwdRefIdeal.nD Cert.ResBwdRefIdeal.τ).loc Cert.ResBwdRefIdeal.main_arg0) = m ((c.tc : Thread Cert.ResBwdIdeal.nD Cert.ResBwdIdeal.τ).loc Cert.ResBwdIdeal.main_arg0)
      ∧ m' ((c.tc : Thread Cert.ResBwdRefIdeal.nD Cert.ResBwdRefIdeal.τ).loc Cert.ResBwdRefIdeal.main_arg1) = m ((c.tc : Thread Cert.ResBwdIdeal.nD Cert.ResBwdIdeal.τ).loc Cert.ResBwdIdeal.main_arg1)
      ∧ m' ((c.tc : Thread Cert.ResBwdRefIdeal.nD Cert.ResBwdRefIdeal.τ).loc Cert.ResBwdRefIdeal.main_arg2) = m ((c.tc : Thread Cert.ResBwdIdeal.nD Cert.ResBwdIdeal.τ).loc Cert.ResBwdIdeal.main_arg2)) →
    ∃ (v0 : (c : Dev Cert.ResBwdIdeal.nD) → Buf (Elt Ideal) ((c.tc : Thread Cert.ResBwdIdeal.nD Cert.ResBwdIdeal.τ).loc Cert.ResBwdIdeal.main_v0_0)) (v1 : (c : Dev Cert.ResBwdIdeal.nD) → Buf (Elt Ideal) ((c.tc : Thread Cert.ResBwdIdeal.nD Cert.ResBwdIdeal.τ).loc Cert.ResBwdIdeal.main_v0_1)),
      θ_run (Cert.ResBwdIdeal.defs (F := Ideal)) (onTc (τ := Cert.ResBwdIdeal.τ) (Cert.ResBwdIdeal.main (F := Ideal))) ⟨m, fun _ => 0, g⟩ (fun r => ∀ c : Dev Cert.ResBwdIdeal.nD,
          r.2.mem ((c.tc : Thread Cert.ResBwdIdeal.nD Cert.ResBwdIdeal.τ).loc Cert.ResBwdIdeal.main_v0_0) = v0 c
          ∧ r.2.mem ((c.tc : Thread Cert.ResBwdIdeal.nD Cert.ResBwdIdeal.τ).loc Cert.ResBwdIdeal.main_v0_1) = v1 c
          ∧ r.2.mem ((c.tc : Thread Cert.ResBwdIdeal.nD Cert.ResBwdIdeal.τ).loc Cert.ResBwdIdeal.main_arg0) = m ((c.tc : Thread Cert.ResBwdIdeal.nD Cert.ResBwdIdeal.τ).loc Cert.ResBwdIdeal.main_arg0)
          ∧ r.2.mem ((c.tc : Thread Cert.ResBwdIdeal.nD Cert.ResBwdIdeal.τ).loc Cert.ResBwdIdeal.main_arg1) = m ((c.tc : Thread Cert.ResBwdIdeal.nD Cert.ResBwdIdeal.τ).loc Cert.ResBwdIdeal.main_arg1)
          ∧ r.2.mem ((c.tc : Thread Cert.ResBwdIdeal.nD Cert.ResBwdIdeal.τ).loc Cert.ResBwdIdeal.main_arg2) = m ((c.tc : Thread Cert.ResBwdIdeal.nD Cert.ResBwdIdeal.τ).loc Cert.ResBwdIdeal.main_arg2))
      ∧ θ_run (Cert.ResBwdRefIdeal.defs (F := Ideal)) (onTc (τ := Cert.ResBwdRefIdeal.τ) (Cert.ResBwdRefIdeal.main (F := Ideal))) ⟨m', fun _ => 0, g'⟩ (fun r => ∀ c : Dev Cert.ResBwdRefIdeal.nD,
          r.2.mem ((c.tc : Thread Cert.ResBwdRefIdeal.nD Cert.ResBwdRefIdeal.τ).loc Cert.ResBwdRefIdeal.main_v11) = v0 c
          ∧ r.2.mem ((c.tc : Thread Cert.ResBwdRefIdeal.nD Cert.ResBwdRefIdeal.τ).loc Cert.ResBwdRefIdeal.main_v10) = v1 c
          ∧ r.2.mem ((c.tc : Thread Cert.ResBwdRefIdeal.nD Cert.ResBwdRefIdeal.τ).loc Cert.ResBwdRefIdeal.main_arg0) = m' ((c.tc : Thread Cert.ResBwdRefIdeal.nD Cert.ResBwdRefIdeal.τ).loc Cert.ResBwdRefIdeal.main_arg0)
          ∧ r.2.mem ((c.tc : Thread Cert.ResBwdRefIdeal.nD Cert.ResBwdRefIdeal.τ).loc Cert.ResBwdRefIdeal.main_arg1) = m' ((c.tc : Thread Cert.ResBwdRefIdeal.nD Cert.ResBwdRefIdeal.τ).loc Cert.ResBwdRefIdeal.main_arg1)
          ∧ r.2.mem ((c.tc : Thread Cert.ResBwdRefIdeal.nD Cert.ResBwdRefIdeal.τ).loc Cert.ResBwdRefIdeal.main_arg2) = m' ((c.tc : Thread Cert.ResBwdRefIdeal.nD Cert.ResBwdRefIdeal.τ).loc Cert.ResBwdRefIdeal.main_arg2))

def preserves_MixResBwd_MixResBwdIdeal : Prop :=
  True

def algebraic_MixResBwdIdeal_MixResBwdRefIdeal [hMixResBwdIdeal : Cert.MixResBwdIdeal.Facts] [hMixResBwdRefIdeal : Cert.MixResBwdRefIdeal.Facts] : Prop :=
  ∀ (m : (ℓ : Loc Cert.MixResBwdIdeal.nD Cert.MixResBwdIdeal.τ Cert.MixResBwdIdeal.sig) → Buf (Elt Ideal) ℓ) (g : Dev Cert.MixResBwdIdeal.nD → PrngReg)
    (m' : (ℓ : Loc Cert.MixResBwdRefIdeal.nD Cert.MixResBwdRefIdeal.τ Cert.MixResBwdRefIdeal.sig) → Buf (Elt Ideal) ℓ) (g' : Dev Cert.MixResBwdRefIdeal.nD → PrngReg), Pre_MixResBwdIdeal m →
    (∀ c : Dev Cert.MixResBwdIdeal.nD,
      m' ((c.tc : Thread Cert.MixResBwdRefIdeal.nD Cert.MixResBwdRefIdeal.τ).loc Cert.MixResBwdRefIdeal.main_arg0) = m ((c.tc : Thread Cert.MixResBwdIdeal.nD Cert.MixResBwdIdeal.τ).loc Cert.MixResBwdIdeal.main_arg0)
      ∧ m' ((c.tc : Thread Cert.MixResBwdRefIdeal.nD Cert.MixResBwdRefIdeal.τ).loc Cert.MixResBwdRefIdeal.main_arg1) = m ((c.tc : Thread Cert.MixResBwdIdeal.nD Cert.MixResBwdIdeal.τ).loc Cert.MixResBwdIdeal.main_arg1)
      ∧ m' ((c.tc : Thread Cert.MixResBwdRefIdeal.nD Cert.MixResBwdRefIdeal.τ).loc Cert.MixResBwdRefIdeal.main_arg2) = m ((c.tc : Thread Cert.MixResBwdIdeal.nD Cert.MixResBwdIdeal.τ).loc Cert.MixResBwdIdeal.main_arg2)) →
    ∃ (v0 : (c : Dev Cert.MixResBwdIdeal.nD) → Buf (Elt Ideal) ((c.tc : Thread Cert.MixResBwdIdeal.nD Cert.MixResBwdIdeal.τ).loc Cert.MixResBwdIdeal.main_v0_0)) (v1 : (c : Dev Cert.MixResBwdIdeal.nD) → Buf (Elt Ideal) ((c.tc : Thread Cert.MixResBwdIdeal.nD Cert.MixResBwdIdeal.τ).loc Cert.MixResBwdIdeal.main_v0_1)),
      θ_run (Cert.MixResBwdIdeal.defs (F := Ideal)) (onTc (τ := Cert.MixResBwdIdeal.τ) (Cert.MixResBwdIdeal.main (F := Ideal))) ⟨m, fun _ => 0, g⟩ (fun r => ∀ c : Dev Cert.MixResBwdIdeal.nD,
          r.2.mem ((c.tc : Thread Cert.MixResBwdIdeal.nD Cert.MixResBwdIdeal.τ).loc Cert.MixResBwdIdeal.main_v0_0) = v0 c
          ∧ r.2.mem ((c.tc : Thread Cert.MixResBwdIdeal.nD Cert.MixResBwdIdeal.τ).loc Cert.MixResBwdIdeal.main_v0_1) = v1 c
          ∧ r.2.mem ((c.tc : Thread Cert.MixResBwdIdeal.nD Cert.MixResBwdIdeal.τ).loc Cert.MixResBwdIdeal.main_arg0) = m ((c.tc : Thread Cert.MixResBwdIdeal.nD Cert.MixResBwdIdeal.τ).loc Cert.MixResBwdIdeal.main_arg0)
          ∧ r.2.mem ((c.tc : Thread Cert.MixResBwdIdeal.nD Cert.MixResBwdIdeal.τ).loc Cert.MixResBwdIdeal.main_arg1) = m ((c.tc : Thread Cert.MixResBwdIdeal.nD Cert.MixResBwdIdeal.τ).loc Cert.MixResBwdIdeal.main_arg1)
          ∧ r.2.mem ((c.tc : Thread Cert.MixResBwdIdeal.nD Cert.MixResBwdIdeal.τ).loc Cert.MixResBwdIdeal.main_arg2) = m ((c.tc : Thread Cert.MixResBwdIdeal.nD Cert.MixResBwdIdeal.τ).loc Cert.MixResBwdIdeal.main_arg2))
      ∧ θ_run (Cert.MixResBwdRefIdeal.defs (F := Ideal)) (onTc (τ := Cert.MixResBwdRefIdeal.τ) (Cert.MixResBwdRefIdeal.main (F := Ideal))) ⟨m', fun _ => 0, g'⟩ (fun r => ∀ c : Dev Cert.MixResBwdRefIdeal.nD,
          r.2.mem ((c.tc : Thread Cert.MixResBwdRefIdeal.nD Cert.MixResBwdRefIdeal.τ).loc Cert.MixResBwdRefIdeal.main_v7) = v0 c
          ∧ r.2.mem ((c.tc : Thread Cert.MixResBwdRefIdeal.nD Cert.MixResBwdRefIdeal.τ).loc Cert.MixResBwdRefIdeal.main_v6) = v1 c
          ∧ r.2.mem ((c.tc : Thread Cert.MixResBwdRefIdeal.nD Cert.MixResBwdRefIdeal.τ).loc Cert.MixResBwdRefIdeal.main_arg0) = m' ((c.tc : Thread Cert.MixResBwdRefIdeal.nD Cert.MixResBwdRefIdeal.τ).loc Cert.MixResBwdRefIdeal.main_arg0)
          ∧ r.2.mem ((c.tc : Thread Cert.MixResBwdRefIdeal.nD Cert.MixResBwdRefIdeal.τ).loc Cert.MixResBwdRefIdeal.main_arg1) = m' ((c.tc : Thread Cert.MixResBwdRefIdeal.nD Cert.MixResBwdRefIdeal.τ).loc Cert.MixResBwdRefIdeal.main_arg1)
          ∧ r.2.mem ((c.tc : Thread Cert.MixResBwdRefIdeal.nD Cert.MixResBwdRefIdeal.τ).loc Cert.MixResBwdRefIdeal.main_arg2) = m' ((c.tc : Thread Cert.MixResBwdRefIdeal.nD Cert.MixResBwdRefIdeal.τ).loc Cert.MixResBwdRefIdeal.main_arg2))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hGateUpDw : Cert.GateUpDw.Facts) (hGateUpDwIdeal : Cert.GateUpDwIdeal.Facts) (hGateUpDwRefIdeal : Cert.GateUpDwRefIdeal.Facts) (hGateUpDx : Cert.GateUpDx.Facts) (hGateUpDxIdeal : Cert.GateUpDxIdeal.Facts) (hGateUpDxRefIdeal : Cert.GateUpDxRefIdeal.Facts) (hGateUpDwLow : Cert.GateUpDwLow.Facts) (hGateUpDwLowIdeal : Cert.GateUpDwLowIdeal.Facts) (hGateUpDwLowRefIdeal : Cert.GateUpDwLowRefIdeal.Facts) (hMixIn : Cert.MixIn.Facts) (hMixInIdeal : Cert.MixInIdeal.Facts) (hMixInRefIdeal : Cert.MixInRefIdeal.Facts) (hMixInDw : Cert.MixInDw.Facts) (hMixInDwIdeal : Cert.MixInDwIdeal.Facts) (hMixInDwRefIdeal : Cert.MixInDwRefIdeal.Facts) (hMixInDx : Cert.MixInDx.Facts) (hMixInDxIdeal : Cert.MixInDxIdeal.Facts) (hMixInDxRefIdeal : Cert.MixInDxRefIdeal.Facts) (hMixOut : Cert.MixOut.Facts) (hMixOutIdeal : Cert.MixOutIdeal.Facts) (hMixOutRefIdeal : Cert.MixOutRefIdeal.Facts) (hMixOutDw : Cert.MixOutDw.Facts) (hMixOutDwIdeal : Cert.MixOutDwIdeal.Facts) (hMixOutDwRefIdeal : Cert.MixOutDwRefIdeal.Facts) (hMixOutDx : Cert.MixOutDx.Facts) (hMixOutDxIdeal : Cert.MixOutDxIdeal.Facts) (hMixOutDxRefIdeal : Cert.MixOutDxRefIdeal.Facts) (hPreFwd : Cert.PreFwd.Facts) (hPreFwdIdeal : Cert.PreFwdIdeal.Facts) (hPreFwdRefIdeal : Cert.PreFwdRefIdeal.Facts) (hPreBwd : Cert.PreBwd.Facts) (hPreBwdIdeal : Cert.PreBwdIdeal.Facts) (hPreBwdRefIdeal : Cert.PreBwdRefIdeal.Facts) (hResBwd : Cert.ResBwd.Facts) (hResBwdIdeal : Cert.ResBwdIdeal.Facts) (hResBwdRefIdeal : Cert.ResBwdRefIdeal.Facts) (hMixResBwd : Cert.MixResBwd.Facts) (hMixResBwdIdeal : Cert.MixResBwdIdeal.Facts) (hMixResBwdRefIdeal : Cert.MixResBwdRefIdeal.Facts),
    quiescent_Kernel (hKernel := hKernel)
    ∧ quiescent_KernelIdeal (hKernelIdeal := hKernelIdeal)
    ∧ quiescent_ReferenceIdeal (hReferenceIdeal := hReferenceIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_GateUpDw (hGateUpDw := hGateUpDw)
    ∧ quiescent_GateUpDwIdeal (hGateUpDwIdeal := hGateUpDwIdeal)
    ∧ quiescent_GateUpDwRefIdeal (hGateUpDwRefIdeal := hGateUpDwRefIdeal)
    ∧ quiescent_GateUpDx (hGateUpDx := hGateUpDx)
    ∧ quiescent_GateUpDxIdeal (hGateUpDxIdeal := hGateUpDxIdeal)
    ∧ quiescent_GateUpDxRefIdeal (hGateUpDxRefIdeal := hGateUpDxRefIdeal)
    ∧ quiescent_GateUpDwLow (hGateUpDwLow := hGateUpDwLow)
    ∧ quiescent_GateUpDwLowIdeal (hGateUpDwLowIdeal := hGateUpDwLowIdeal)
    ∧ quiescent_GateUpDwLowRefIdeal (hGateUpDwLowRefIdeal := hGateUpDwLowRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixInDw (hMixInDw := hMixInDw)
    ∧ quiescent_MixInDwIdeal (hMixInDwIdeal := hMixInDwIdeal)
    ∧ quiescent_MixInDwRefIdeal (hMixInDwRefIdeal := hMixInDwRefIdeal)
    ∧ quiescent_MixInDx (hMixInDx := hMixInDx)
    ∧ quiescent_MixInDxIdeal (hMixInDxIdeal := hMixInDxIdeal)
    ∧ quiescent_MixInDxRefIdeal (hMixInDxRefIdeal := hMixInDxRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_PreFwd (hPreFwd := hPreFwd)
    ∧ quiescent_PreFwdIdeal (hPreFwdIdeal := hPreFwdIdeal)
    ∧ quiescent_PreFwdRefIdeal (hPreFwdRefIdeal := hPreFwdRefIdeal)
    ∧ quiescent_PreBwd (hPreBwd := hPreBwd)
    ∧ quiescent_PreBwdIdeal (hPreBwdIdeal := hPreBwdIdeal)
    ∧ quiescent_PreBwdRefIdeal (hPreBwdRefIdeal := hPreBwdRefIdeal)
    ∧ quiescent_ResBwd (hResBwd := hResBwd)
    ∧ quiescent_ResBwdIdeal (hResBwdIdeal := hResBwdIdeal)
    ∧ quiescent_ResBwdRefIdeal (hResBwdRefIdeal := hResBwdRefIdeal)
    ∧ quiescent_MixResBwd (hMixResBwd := hMixResBwd)
    ∧ quiescent_MixResBwdIdeal (hMixResBwdIdeal := hMixResBwdIdeal)
    ∧ quiescent_MixResBwdRefIdeal (hMixResBwdRefIdeal := hMixResBwdRefIdeal)
    ∧ preserves_Kernel_KernelIdeal
    ∧ algebraic_KernelIdeal_ReferenceIdeal (hKernelIdeal := hKernelIdeal) (hReferenceIdeal := hReferenceIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_GateUpDw_GateUpDwIdeal
    ∧ algebraic_GateUpDwIdeal_GateUpDwRefIdeal (hGateUpDwIdeal := hGateUpDwIdeal) (hGateUpDwRefIdeal := hGateUpDwRefIdeal)
    ∧ preserves_GateUpDx_GateUpDxIdeal
    ∧ algebraic_GateUpDxIdeal_GateUpDxRefIdeal (hGateUpDxIdeal := hGateUpDxIdeal) (hGateUpDxRefIdeal := hGateUpDxRefIdeal)
    ∧ preserves_GateUpDwLow_GateUpDwLowIdeal
    ∧ algebraic_GateUpDwLowIdeal_GateUpDwLowRefIdeal (hGateUpDwLowIdeal := hGateUpDwLowIdeal) (hGateUpDwLowRefIdeal := hGateUpDwLowRefIdeal)
    ∧ preserves_MixIn_MixInIdeal
    ∧ algebraic_MixInIdeal_MixInRefIdeal (hMixInIdeal := hMixInIdeal) (hMixInRefIdeal := hMixInRefIdeal)
    ∧ preserves_MixInDw_MixInDwIdeal
    ∧ algebraic_MixInDwIdeal_MixInDwRefIdeal (hMixInDwIdeal := hMixInDwIdeal) (hMixInDwRefIdeal := hMixInDwRefIdeal)
    ∧ preserves_MixInDx_MixInDxIdeal
    ∧ algebraic_MixInDxIdeal_MixInDxRefIdeal (hMixInDxIdeal := hMixInDxIdeal) (hMixInDxRefIdeal := hMixInDxRefIdeal)
    ∧ preserves_MixOut_MixOutIdeal
    ∧ algebraic_MixOutIdeal_MixOutRefIdeal (hMixOutIdeal := hMixOutIdeal) (hMixOutRefIdeal := hMixOutRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_PreFwd_PreFwdIdeal
    ∧ algebraic_PreFwdIdeal_PreFwdRefIdeal (hPreFwdIdeal := hPreFwdIdeal) (hPreFwdRefIdeal := hPreFwdRefIdeal)
    ∧ preserves_PreBwd_PreBwdIdeal
    ∧ algebraic_PreBwdIdeal_PreBwdRefIdeal (hPreBwdIdeal := hPreBwdIdeal) (hPreBwdRefIdeal := hPreBwdRefIdeal)
    ∧ preserves_ResBwd_ResBwdIdeal
    ∧ algebraic_ResBwdIdeal_ResBwdRefIdeal (hResBwdIdeal := hResBwdIdeal) (hResBwdRefIdeal := hResBwdRefIdeal)
    ∧ preserves_MixResBwd_MixResBwdIdeal
    ∧ algebraic_MixResBwdIdeal_MixResBwdRefIdeal (hMixResBwdIdeal := hMixResBwdIdeal) (hMixResBwdRefIdeal := hMixResBwdRefIdeal)
-- ==== Kernel.lean ====
abbrev S4096x1024 : Shape := ⟨2, ![4096, 1024]⟩
abbrev S8x4096x64 : Shape := ⟨3, ![8, 4096, 64]⟩
abbrev S8x64x1x128 : Shape := ⟨4, ![8, 64, 1, 128]⟩
abbrev S64x8x128x128 : Shape := ⟨4, ![64, 8, 128, 128]⟩
abbrev S64x1024 : Shape := ⟨2, ![64, 1024]⟩
abbrev S8x64x64 : Shape := ⟨3, ![8, 64, 64]⟩
abbrev S8x1x1x128 : Shape := ⟨4, ![8, 1, 1, 128]⟩
abbrev S1x8x128x128 : Shape := ⟨4, ![1, 8, 128, 128]⟩
abbrev S8x128x128 : Shape := ⟨3, ![8, 128, 128]⟩
abbrev S1x128x128 : Shape := ⟨3, ![1, 128, 128]⟩
abbrev S128x128 : Shape := ⟨2, ![128, 128]⟩
abbrev S64x128 : Shape := ⟨2, ![64, 128]⟩
abbrev S1x64x64 : Shape := ⟨3, ![1, 64, 64]⟩
abbrev S64x64 : Shape := ⟨2, ![64, 64]⟩
abbrev S1x1x1x128 : Shape := ⟨4, ![1, 1, 1, 128]⟩
abbrev S1x128 : Shape := ⟨2, ![1, 128]⟩
abbrev S1x1x128x128 : Shape := ⟨4, ![1, 1, 128, 128]⟩
abbrev S128 : Shape := ⟨1, ![128]⟩

abbrev nBuf : Space → Nat
  | .hbm => 15
  | .vmem => 46
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S8x4096x64, .f32⟩
  | .hbm, ⟨5, _⟩ => ⟨S8x64x1x128, .f32⟩
  | .hbm, ⟨6, _⟩ => ⟨S4096x1024, .f32⟩
  | .hbm, ⟨7, _⟩ => ⟨S4096x1024, .f32⟩
  | .hbm, ⟨8, _⟩ => ⟨S64x8x128x128, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S8x4096x64, .f32⟩
  | .hbm, ⟨14, _⟩ => ⟨S8x64x1x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S8x64x64, .f32⟩
  | .local _ .vmem, ⟨9, _⟩ => ⟨S8x64x64, .f32⟩
  | .local _ .vmem, ⟨10, _⟩ => ⟨S8x1x1x128, .f32⟩
  | .local _ .vmem, ⟨11, _⟩ => ⟨S8x1x1x128, .f32⟩
  | .local _ .vmem, ⟨12, _⟩ => ⟨S64x1024, .f32⟩
  | .local _ .vmem, ⟨13, _⟩ => ⟨S64x1024, .f32⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S8x64x64, .f32⟩
  | .local _ .vmem, ⟨26, _⟩ => ⟨S8x64x64, .f32⟩
  | .local _ .vmem, ⟨27, _⟩ => ⟨S8x1x1x128, .f32⟩
  | .local _ .vmem, ⟨28, _⟩ => ⟨S8x1x1x128, .f32⟩
  | .local _ .vmem, ⟨29, _⟩ => ⟨S1x8x128x128, .f32⟩
  | .local _ .vmem, ⟨30, _⟩ => ⟨S1x8x128x128, .f32⟩
  | .local _ .vmem, ⟨31, _⟩ => ⟨S64x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S8x64x64, .f32⟩
  | .local _ .vmem, ⟨42, _⟩ => ⟨S8x64x64, .f32⟩
  | .local _ .vmem, ⟨43, _⟩ => ⟨S8x1x1x128, .f32⟩
  | .local _ .vmem, ⟨44, _⟩ => ⟨S8x1x1x128, .f32⟩
  | .local _ .vmem, ⟨45, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_4 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_6 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_7 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_12 (i : grid1.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc1_transform_13 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x8x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S64x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S64x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S64x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S64x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S8x64x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S8x1x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S4096x1024 : Shape := ⟨2, ![4096, 1024]⟩
abbrev S8x4096x64 : Shape := ⟨3, ![8, 4096, 64]⟩
abbrev S8x64x1x128 : Shape := ⟨4, ![8, 64, 1, 128]⟩
abbrev S64x64x8x128 : Shape := ⟨4, ![64, 64, 8, 128]⟩
abbrev S64x8x64x128 : Shape := ⟨4, ![64, 8, 64, 128]⟩
abbrev S8x64x64x64 : Shape := ⟨4, ![8, 64, 64, 64]⟩
abbrev S64x8x64x64 : Shape := ⟨4, ![64, 8, 64, 64]⟩
abbrev S64x8x1x128 : Shape := ⟨4, ![64, 8, 1, 128]⟩
abbrev S_ : Shape := ⟨0, ![]⟩
abbrev S8x128x128 : Shape := ⟨3, ![8, 128, 128]⟩
abbrev S64x8x128x128 : Shape := ⟨4, ![64, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x1x128 : Shape := ⟨4, ![1, 8, 1, 128]⟩
abbrev S8x1x128 : Shape := ⟨3, ![8, 1, 128]⟩
abbrev S1x8x128x128 : Shape := ⟨4, ![1, 8, 128, 128]⟩
abbrev S8x128x64 : Shape := ⟨3, ![8, 128, 64]⟩
abbrev S8x128 : Shape := ⟨2, ![8, 128]⟩

abbrev nBuf : Space → Nat
  | .hbm => 245
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S8x4096x64, .f32⟩
  | 5 => ⟨S8x64x1x128, .f32⟩
  | 6 => ⟨S4096x1024, .f32⟩
  | 7 => ⟨S64x64x8x128, .f32⟩
  | 8 => ⟨S64x8x64x128, .f32⟩
  | 9 => ⟨S64x64x8x128, .f32⟩
  | 10 => ⟨S64x8x64x128, .f32⟩
  | 11 => ⟨S64x64x8x128, .f32⟩
  | 12 => ⟨S64x8x64x128, .f32⟩
  | 13 => ⟨S64x64x8x128, .f32⟩
  | 14 => ⟨S64x8x64x128, .f32⟩
  | 15 => ⟨S8x64x64x64, .f32⟩
  | 16 => ⟨S64x8x64x64, .f32⟩
  | 17 => ⟨S64x8x1x128, .f32⟩
  | 18 => ⟨S_, .f32⟩
  | 19 => ⟨S8x128x128, .f32⟩
  | 20 => ⟨S_, .f32⟩
  | 21 => ⟨S64x8x64x128, .f32⟩
  | 22 => ⟨S_, .f32⟩
  | 23 => ⟨S64x8x128x128, .f32⟩
  | 24 => ⟨S_, .f32⟩
  | 25 => ⟨S64x8x64x128, .f32⟩
  | 26 => ⟨S_, .i32⟩
  | 27 => ⟨S64x8x64x128, .f32⟩
  | 28 => ⟨S64x8x64x128, .f32⟩
  | 29 => ⟨S64x8x64x128, .f32⟩
  | 30 => ⟨S64x8x64x128, .f32⟩
  | 31 => ⟨S64x8x64x64, .f32⟩
  | 32 => ⟨S64x8x1x128, .f32⟩
  | 33 => ⟨S_, .i32⟩
  | 34 => ⟨S8x128x128, .f32⟩
  | 35 => ⟨S64x8x64x128, .f32⟩
  | 36 => ⟨S64x8x128x128, .f32⟩
  | 37 => ⟨S64x8x64x128, .f32⟩
  | 38 => ⟨S_, .i32⟩
  | 39 => ⟨S_, .i1⟩
  | 40 => ⟨S_, .i32⟩
  | 41 => ⟨S_, .i32⟩
  | 42 => ⟨S_, .i32⟩
  | 43 => ⟨S1x8x64x128, .f32⟩
  | 44 => ⟨S8x64x128, .f32⟩
  | 45 => ⟨S_, .i32⟩
  | 46 => ⟨S_, .i32⟩
  | 47 => ⟨S_, .i32⟩
  | 48 => ⟨S1x8x64x128, .f32⟩
  | 49 => ⟨S8x64x128, .f32⟩
  | 50 => ⟨S_, .i32⟩
  | 51 => ⟨S_, .i32⟩
  | 52 => ⟨S_, .i32⟩
  | 53 => ⟨S1x8x64x128, .f32⟩
  | 54 => ⟨S8x64x128, .f32⟩
  | 55 => ⟨S_, .i32⟩
  | 56 => ⟨S_, .i32⟩
  | 57 => ⟨S_, .i32⟩
  | 58 => ⟨S1x8x64x128, .f32⟩
  | 59 => ⟨S8x64x128, .f32⟩
  | 60 => ⟨S_, .i32⟩
  | 61 => ⟨S_, .i32⟩
  | 62 => ⟨S_, .i32⟩
  | 63 => ⟨S1x8x64x64, .f32⟩
  | 64 => ⟨S8x64x64, .f32⟩
  | 65 => ⟨S_, .i32⟩
  | 66 => ⟨S_, .i32⟩
  | 67 => ⟨S_, .i32⟩
  | 68 => ⟨S1x8x1x128, .f32⟩
  | 69 => ⟨S8x1x128, .f32⟩
  | 70 => ⟨S8x64x128, .f32⟩
  | 71 => ⟨S8x64x128, .f32⟩
  | 72 => ⟨S8x64x128, .f32⟩
  | 73 => ⟨S8x64x128, .f32⟩
  | 74 => ⟨S8x64x128, .f32⟩
  | 75 => ⟨S8x128x128, .f32⟩
  | 76 => ⟨S8x128x128, .f32⟩
  | 77 => ⟨S8x128x128, .f32⟩
  | 78 => ⟨S8x128x128, .f32⟩
  | 79 => ⟨S1x8x64x128, .f32⟩
  | 80 => ⟨S_, .i32⟩
  | 81 => ⟨S_, .i32⟩
  | 82 => ⟨S_, .i32⟩
  | 83 => ⟨S64x8x64x128, .f32⟩
  | 84 => ⟨S1x8x128x128, .f32⟩
  | 85 => ⟨S_, .i32⟩
  | 86 => ⟨S_, .i32⟩
  | 87 => ⟨S_, .i32⟩
  | 88 => ⟨S64x8x128x128, .f32⟩
  | 89 => ⟨S1x8x64x128, .f32⟩
  | 90 => ⟨S_, .i32⟩
  | 91 => ⟨S_, .i32⟩
  | 92 => ⟨S_, .i32⟩
  | 93 => ⟨S64x8x64x128, .f32⟩
  | 94 => ⟨S_, .i32⟩
  | 95 => ⟨S_, .i32⟩
  | 96 => ⟨S64x64x8x128, .f32⟩
  | 97 => ⟨S4096x1024, .f32⟩
  | 98 => ⟨S_, .f32⟩
  | 99 => ⟨S8x128x128, .f32⟩
  | 100 => ⟨S64x64x8x128, .f32⟩
  | 101 => ⟨S64x8x64x128, .f32⟩
  | 102 => ⟨S_, .f32⟩
  | 103 => ⟨S8x128x128, .f32⟩
  | 104 => ⟨S_, .f32⟩
  | 105 => ⟨S64x8x64x128, .f32⟩
  | 106 => ⟨S_, .f32⟩
  | 107 => ⟨S64x8x64x128, .f32⟩
  | 108 => ⟨S_, .f32⟩
  | 109 => ⟨S64x8x64x128, .f32⟩
  | 110 => ⟨S_, .f32⟩
  | 111 => ⟨S64x8x64x128, .f32⟩
  | 112 => ⟨S_, .f32⟩
  | 113 => ⟨S64x8x64x64, .f32⟩
  | 114 => ⟨S_, .f32⟩
  | 115 => ⟨S64x8x1x128, .f32⟩
  | 116 => ⟨S_, .i32⟩
  | 117 => ⟨S64x8x64x128, .f32⟩
  | 118 => ⟨S64x8x128x128, .f32⟩
  | 119 => ⟨S64x8x64x128, .f32⟩
  | 120 => ⟨S64x8x64x128, .f32⟩
  | 121 => ⟨S64x8x64x128, .f32⟩
  | 122 => ⟨S64x8x64x64, .f32⟩
  | 123 => ⟨S64x8x1x128, .f32⟩
  | 124 => ⟨S64x8x64x128, .f32⟩
  | 125 => ⟨S_, .i32⟩
  | 126 => ⟨S8x128x128, .f32⟩
  | 127 => ⟨S64x8x64x128, .f32⟩
  | _ => ⟨S4096x1024, .f32⟩

abbrev hbmTy0_1 (i : Nat) : BufTy := match i % 128 with
  | 0 => ⟨S64x8x64x128, .f32⟩
  | 1 => ⟨S64x8x64x128, .f32⟩
  | 2 => ⟨S64x8x64x128, .f32⟩
  | 3 => ⟨S64x8x64x64, .f32⟩
  | 4 => ⟨S64x8x1x128, .f32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S1x8x64x128, .f32⟩
  | 15 => ⟨S8x64x128, .f32⟩
  | 16 => ⟨S_, .i32⟩
  | 17 => ⟨S_, .i32⟩
  | 18 => ⟨S_, .i32⟩
  | 19 => ⟨S1x8x128x128, .f32⟩
  | 20 => ⟨S8x128x128, .f32⟩
  | 21 => ⟨S_, .i32⟩
  | 22 => ⟨S_, .i32⟩
  | 23 => ⟨S_, .i32⟩
  | 24 => ⟨S1x8x64x128, .f32⟩
  | 25 => ⟨S8x64x128, .f32⟩
  | 26 => ⟨S_, .i32⟩
  | 27 => ⟨S_, .i32⟩
  | 28 => ⟨S_, .i32⟩
  | 29 => ⟨S1x8x64x128, .f32⟩
  | 30 => ⟨S8x64x128, .f32⟩
  | 31 => ⟨S_, .i32⟩
  | 32 => ⟨S_, .i32⟩
  | 33 => ⟨S_, .i32⟩
  | 34 => ⟨S1x8x64x128, .f32⟩
  | 35 => ⟨S8x64x128, .f32⟩
  | 36 => ⟨S_, .i32⟩
  | 37 => ⟨S_, .i32⟩
  | 38 => ⟨S_, .i32⟩
  | 39 => ⟨S1x8x64x64, .f32⟩
  | 40 => ⟨S8x64x64, .f32⟩
  | 41 => ⟨S_, .i32⟩
  | 42 => ⟨S_, .i32⟩
  | 43 => ⟨S_, .i32⟩
  | 44 => ⟨S1x8x1x128, .f32⟩
  | 45 => ⟨S8x1x128, .f32⟩
  | 46 => ⟨S_, .i32⟩
  | 47 => ⟨S_, .i32⟩
  | 48 => ⟨S_, .i32⟩
  | 49 => ⟨S1x8x64x128, .f32⟩
  | 50 => ⟨S8x64x128, .f32⟩
  | 51 => ⟨S8x128x64, .f32⟩
  | 52 => ⟨S8x64x128, .f32⟩
  | 53 => ⟨S8x128x64, .f32⟩
  | 54 => ⟨S8x64x128, .f32⟩
  | 55 => ⟨S8x128x128, .f32⟩
  | 56 => ⟨S_, .f32⟩
  | 57 => ⟨S8x128, .f32⟩
  | 58 => ⟨S8x1x128, .f32⟩
  | 59 => ⟨S8x128x128, .f32⟩
  | 60 => ⟨S8x128x128, .f32⟩
  | 61 => ⟨S8x128x64, .f32⟩
  | 62 => ⟨S8x64x128, .f32⟩
  | 63 => ⟨S8x64x128, .f32⟩
  | 64 => ⟨S8x64x64, .f32⟩
  | 65 => ⟨S8x128x128, .f32⟩
  | 66 => ⟨S8x128x128, .f32⟩
  | 67 => ⟨S8x128x128, .f32⟩
  | 68 => ⟨S8x64x128, .f32⟩
  | 69 => ⟨S8x64x128, .f32⟩
  | 70 => ⟨S8x128x128, .f32⟩
  | 71 => ⟨S8x128x128, .f32⟩
  | 72 => ⟨S8x128x128, .f32⟩
  | 73 => ⟨S8x64x128, .f32⟩
  | 74 => ⟨S1x8x64x128, .f32⟩
  | 75 => ⟨S_, .i32⟩
  | 76 => ⟨S_, .i32⟩
  | 77 => ⟨S_, .i32⟩
  | 78 => ⟨S64x8x64x128, .f32⟩
  | 79 => ⟨S1x8x64x128, .f32⟩
  | 80 => ⟨S_, .i32⟩
  | 81 => ⟨S_, .i32⟩
  | 82 => ⟨S_, .i32⟩
  | 83 => ⟨S64x8x64x128, .f32⟩
  | 84 => ⟨S1x8x64x128, .f32⟩
  | 85 => ⟨S_, .i32⟩
  | 86 => ⟨S_, .i32⟩
  | 87 => ⟨S_, .i32⟩
  | 88 => ⟨S64x8x64x128, .f32⟩
  | 89 => ⟨S1x8x64x128, .f32⟩
  | 90 => ⟨S_, .i32⟩
  | 91 => ⟨S_, .i32⟩
  | 92 => ⟨S_, .i32⟩
  | 93 => ⟨S64x8x64x128, .f32⟩
  | 94 => ⟨S1x8x64x64, .f32⟩
  | 95 => ⟨S_, .i32⟩
  | 96 => ⟨S_, .i32⟩
  | 97 => ⟨S_, .i32⟩
  | 98 => ⟨S64x8x64x64, .f32⟩
  | 99 => ⟨S1x8x1x128, .f32⟩
  | 100 => ⟨S_, .i32⟩
  | 101 => ⟨S_, .i32⟩
  | 102 => ⟨S_, .i32⟩
  | 103 => ⟨S64x8x1x128, .f32⟩
  | 104 => ⟨S_, .i32⟩
  | 105 => ⟨S_, .i32⟩
  | 106 => ⟨S8x64x1x128, .f32⟩
  | 107 => ⟨S8x64x64x64, .f32⟩
  | 108 => ⟨S8x4096x64, .f32⟩
  | 109 => ⟨S64x64x8x128, .f32⟩
  | 110 => ⟨S4096x1024, .f32⟩
  | 111 => ⟨S64x64x8x128, .f32⟩
  | 112 => ⟨S4096x1024, .f32⟩
  | 113 => ⟨S64x64x8x128, .f32⟩
  | 114 => ⟨S4096x1024, .f32⟩
  | 115 => ⟨S64x64x8x128, .f32⟩
  | 116 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_c : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev main_v15_4 : Ref sig .tc := ⟨.hbm, 31, rfl⟩
abbrev main_v15_5 : Ref sig .tc := ⟨.hbm, 32, rfl⟩
abbrev main_v15_6 : Ref sig .tc := ⟨.hbm, 33, rfl⟩
abbrev main_v15_7 : Ref sig .tc := ⟨.hbm, 34, rfl⟩
abbrev main_v15_8 : Ref sig .tc := ⟨.hbm, 35, rfl⟩
abbrev main_v15_9 : Ref sig .tc := ⟨.hbm, 36, rfl⟩
abbrev main_v15_10 : Ref sig .tc := ⟨.hbm, 37, rfl⟩
abbrev main_while0c_c_22 : Ref sig .tc := ⟨.hbm, 38, rfl⟩
abbrev main_while0c_v40 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_v0 : Ref sig .tc := ⟨.hbm, 43, rfl⟩
abbrev main_while0b_v40 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_v0 : Ref sig .tc := ⟨.hbm, 48, rfl⟩
abbrev main_while0b_v41 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_v0 : Ref sig .tc := ⟨.hbm, 53, rfl⟩
abbrev main_while0b_v42 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_call3_c_1 : Ref sig .tc := ⟨.hbm, 57, rfl⟩
abbrev main_while0b_call3_v0 : Ref sig .tc := ⟨.hbm, 58, rfl⟩
abbrev main_while0b_v43 : Ref sig .tc := ⟨.hbm, 59, rfl⟩
abbrev main_while0b_call4_c : Ref sig .tc := ⟨.hbm, 60, rfl⟩
abbrev main_while0b_call4_c_0 : Ref sig .tc := ⟨.hbm, 61, rfl⟩
abbrev main_while0b_call4_c_1 : Ref sig .tc := ⟨.hbm, 62, rfl⟩
abbrev main_while0b_call4_v0 : Ref sig .tc := ⟨.hbm, 63, rfl⟩
abbrev main_while0b_v44 : Ref sig .tc := ⟨.hbm, 64, rfl⟩
abbrev main_while0b_call5_c : Ref sig .tc := ⟨.hbm, 65, rfl⟩
abbrev main_while0b_call5_c_0 : Ref sig .tc := ⟨.hbm, 66, rfl⟩
abbrev main_while0b_call5_c_1 : Ref sig .tc := ⟨.hbm, 67, rfl⟩
abbrev main_while0b_call5_v0 : Ref sig .tc := ⟨.hbm, 68, rfl⟩
abbrev main_while0b_v45 : Ref sig .tc := ⟨.hbm, 69, rfl⟩
abbrev main_while0b_v46 : Ref sig .tc := ⟨.hbm, 70, rfl⟩
abbrev main_while0b_v47 : Ref sig .tc := ⟨.hbm, 71, rfl⟩
abbrev main_while0b_v48 : Ref sig .tc := ⟨.hbm, 72, rfl⟩
abbrev main_while0b_v49 : Ref sig .tc := ⟨.hbm, 73, rfl⟩
abbrev main_while0b_v50 : Ref sig .tc := ⟨.hbm, 74, rfl⟩
abbrev main_while0b_v51 : Ref sig .tc := ⟨.hbm, 75, rfl⟩
abbrev main_while0b_v52 : Ref sig .tc := ⟨.hbm, 76, rfl⟩
abbrev main_while0b_v53 : Ref sig .tc := ⟨.hbm, 77, rfl⟩
abbrev main_while0b_v54 : Ref sig .tc := ⟨.hbm, 78, rfl⟩
abbrev main_while0b_call6_v0 : Ref sig .tc := ⟨.hbm, 79, rfl⟩
abbrev main_while0b_call6_c : Ref sig .tc := ⟨.hbm, 80, rfl⟩
abbrev main_while0b_call6_c_0 : Ref sig .tc := ⟨.hbm, 81, rfl⟩
abbrev main_while0b_call6_c_1 : Ref sig .tc := ⟨.hbm, 82, rfl⟩
abbrev main_while0b_v55 : Ref sig .tc := ⟨.hbm, 83, rfl⟩
abbrev main_while0b_call7_v0 : Ref sig .tc := ⟨.hbm, 84, rfl⟩
abbrev main_while0b_call7_c : Ref sig .tc := ⟨.hbm, 85, rfl⟩
abbrev main_while0b_call7_c_0 : Ref sig .tc := ⟨.hbm, 86, rfl⟩
abbrev main_while0b_call7_c_1 : Ref sig .tc := ⟨.hbm, 87, rfl⟩
abbrev main_while0b_v56 : Ref sig .tc := ⟨.hbm, 88, rfl⟩
abbrev main_while0b_call8_v0 : Ref sig .tc := ⟨.hbm, 89, rfl⟩
abbrev main_while0b_call8_c : Ref sig .tc := ⟨.hbm, 90, rfl⟩
abbrev main_while0b_call8_c_0 : Ref sig .tc := ⟨.hbm, 91, rfl⟩
abbrev main_while0b_call8_c_1 : Ref sig .tc := ⟨.hbm, 92, rfl⟩
abbrev main_while0b_v57 : Ref sig .tc := ⟨.hbm, 93, rfl⟩
abbrev main_while0b_c_22 : Ref sig .tc := ⟨.hbm, 94, rfl⟩
abbrev main_while0b_v58 : Ref sig .tc := ⟨.hbm, 95, rfl⟩
abbrev main_v16 : Ref sig .tc := ⟨.hbm, 96, rfl⟩
abbrev main_v17 : Ref sig .tc := ⟨.hbm, 97, rfl⟩
abbrev main_cst_3 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst_4 : Ref sig .tc := ⟨.hbm, 102, rfl⟩
abbrev main_v21 : Ref sig .tc := ⟨.hbm, 103, rfl⟩
abbrev main_cst_5 : Ref sig .tc := ⟨.hbm, 104, rfl⟩
abbrev main_v22 : Ref sig .tc := ⟨.hbm, 105, rfl⟩
abbrev main_cst_6 : Ref sig .tc := ⟨.hbm, 106, rfl⟩
abbrev main_v23 : Ref sig .tc := ⟨.hbm, 107, rfl⟩
abbrev main_cst_7 : Ref sig .tc := ⟨.hbm, 108, rfl⟩
abbrev main_v24 : Ref sig .tc := ⟨.hbm, 109, rfl⟩
abbrev main_cst_8 : Ref sig .tc := ⟨.hbm, 110, rfl⟩
abbrev main_v25 : Ref sig .tc := ⟨.hbm, 111, rfl⟩
abbrev main_cst_9 : Ref sig .tc := ⟨.hbm, 112, rfl⟩
abbrev main_v26 : Ref sig .tc := ⟨.hbm, 113, rfl⟩
abbrev main_cst_10 : Ref sig .tc := ⟨.hbm, 114, rfl⟩
abbrev main_v27 : Ref sig .tc := ⟨.hbm, 115, rfl⟩
abbrev main_c_11 : Ref sig .tc := ⟨.hbm, 116, rfl⟩
abbrev main_v28_0 : Ref sig .tc := ⟨.hbm, 117, rfl⟩
abbrev main_v28_1 : Ref sig .tc := ⟨.hbm, 118, rfl⟩
abbrev main_v28_2 : Ref sig .tc := ⟨.hbm, 119, rfl⟩
abbrev main_v28_3 : Ref sig .tc := ⟨.hbm, 120, rfl⟩
abbrev main_v28_4 : Ref sig .tc := ⟨.hbm, 121, rfl⟩
abbrev main_v28_5 : Ref sig .tc := ⟨.hbm, 122, rfl⟩
abbrev main_v28_6 : Ref sig .tc := ⟨.hbm, 123, rfl⟩
abbrev main_v28_7 : Ref sig .tc := ⟨.hbm, 124, rfl⟩
abbrev main_v28_8 : Ref sig .tc := ⟨.hbm, 125, rfl⟩
abbrev main_v28_9 : Ref sig .tc := ⟨.hbm, 126, rfl⟩
abbrev main_v28_10 : Ref sig .tc := ⟨.hbm, 127, rfl⟩
abbrev main_v28_11 : Ref sig .tc := ⟨.hbm, 128, rfl⟩
abbrev main_v28_12 : Ref sig .tc := ⟨.hbm, 129, rfl⟩
abbrev main_v28_13 : Ref sig .tc := ⟨.hbm, 130, rfl⟩
abbrev main_v28_14 : Ref sig .tc := ⟨.hbm, 131, rfl⟩
abbrev main_v28_15 : Ref sig .tc := ⟨.hbm, 132, rfl⟩
abbrev main_while1c_c_27 : Ref sig .tc := ⟨.hbm, 133, rfl⟩
abbrev main_while1c_v40 : Ref sig .tc := ⟨.hbm, 134, rfl⟩
abbrev main_while1b_c_27 : Ref sig .tc := ⟨.hbm, 135, rfl⟩
abbrev main_while1b_v40 : Ref sig .tc := ⟨.hbm, 136, rfl⟩
abbrev main_while1b_c_28 : Ref sig .tc := ⟨.hbm, 137, rfl⟩
abbrev main_while1b_v41 : Ref sig .tc := ⟨.hbm, 138, rfl⟩
abbrev main_while1b_call9_c : Ref sig .tc := ⟨.hbm, 139, rfl⟩
abbrev main_while1b_call9_c_0 : Ref sig .tc := ⟨.hbm, 140, rfl⟩
abbrev main_while1b_call9_c_1 : Ref sig .tc := ⟨.hbm, 141, rfl⟩
abbrev main_while1b_call9_v0 : Ref sig .tc := ⟨.hbm, 142, rfl⟩
abbrev main_while1b_v42 : Ref sig .tc := ⟨.hbm, 143, rfl⟩
abbrev main_while1b_call10_c : Ref sig .tc := ⟨.hbm, 144, rfl⟩
abbrev main_while1b_call10_c_0 : Ref sig .tc := ⟨.hbm, 145, rfl⟩
abbrev main_while1b_call10_c_1 : Ref sig .tc := ⟨.hbm, 146, rfl⟩
abbrev main_while1b_call10_v0 : Ref sig .tc := ⟨.hbm, 147, rfl⟩
abbrev main_while1b_v43 : Ref sig .tc := ⟨.hbm, 148, rfl⟩
abbrev main_while1b_call11_c : Ref sig .tc := ⟨.hbm, 149, rfl⟩
abbrev main_while1b_call11_c_0 : Ref sig .tc := ⟨.hbm, 150, rfl⟩
abbrev main_while1b_call11_c_1 : Ref sig .tc := ⟨.hbm, 151, rfl⟩
abbrev main_while1b_call11_v0 : Ref sig .tc := ⟨.hbm, 152, rfl⟩
abbrev main_while1b_v44 : Ref sig .tc := ⟨.hbm, 153, rfl⟩
abbrev main_while1b_call12_c : Ref sig .tc := ⟨.hbm, 154, rfl⟩
abbrev main_while1b_call12_c_0 : Ref sig .tc := ⟨.hbm, 155, rfl⟩
abbrev main_while1b_call12_c_1 : Ref sig .tc := ⟨.hbm, 156, rfl⟩
abbrev main_while1b_call12_v0 : Ref sig .tc := ⟨.hbm, 157, rfl⟩
abbrev main_while1b_v45 : Ref sig .tc := ⟨.hbm, 158, rfl⟩
abbrev main_while1b_call13_c : Ref sig .tc := ⟨.hbm, 159, rfl⟩
abbrev main_while1b_call13_c_0 : Ref sig .tc := ⟨.hbm, 160, rfl⟩
abbrev main_while1b_call13_c_1 : Ref sig .tc := ⟨.hbm, 161, rfl⟩
abbrev main_while1b_call13_v0 : Ref sig .tc := ⟨.hbm, 162, rfl⟩
abbrev main_while1b_v46 : Ref sig .tc := ⟨.hbm, 163, rfl⟩
abbrev main_while1b_call14_c : Ref sig .tc := ⟨.hbm, 164, rfl⟩
abbrev main_while1b_call14_c_0 : Ref sig .tc := ⟨.hbm, 165, rfl⟩
abbrev main_while1b_call14_c_1 : Ref sig .tc := ⟨.hbm, 166, rfl⟩
abbrev main_while1b_call14_v0 : Ref sig .tc := ⟨.hbm, 167, rfl⟩
abbrev main_while1b_v47 : Ref sig .tc := ⟨.hbm, 168, rfl⟩
abbrev main_while1b_call15_c : Ref sig .tc := ⟨.hbm, 169, rfl⟩
abbrev main_while1b_call15_c_0 : Ref sig .tc := ⟨.hbm, 170, rfl⟩
abbrev main_while1b_call15_c_1 : Ref sig .tc := ⟨.hbm, 171, rfl⟩
abbrev main_while1b_call15_v0 : Ref sig .tc := ⟨.hbm, 172, rfl⟩
abbrev main_while1b_v48 : Ref sig .tc := ⟨.hbm, 173, rfl⟩
abbrev main_while1b_call16_c : Ref sig .tc := ⟨.hbm, 174, rfl⟩
abbrev main_while1b_call16_c_0 : Ref sig .tc := ⟨.hbm, 175, rfl⟩
abbrev main_while1b_call16_c_1 : Ref sig .tc := ⟨.hbm, 176, rfl⟩
abbrev main_while1b_call16_v0 : Ref sig .tc := ⟨.hbm, 177, rfl⟩
abbrev main_while1b_v49 : Ref sig .tc := ⟨.hbm, 178, rfl⟩
abbrev main_while1b_v50 : Ref sig .tc := ⟨.hbm, 179, rfl⟩
abbrev main_while1b_v51 : Ref sig .tc := ⟨.hbm, 180, rfl⟩
abbrev main_while1b_v52 : Ref sig .tc := ⟨.hbm, 181, rfl⟩
abbrev main_while1b_v53 : Ref sig .tc := ⟨.hbm, 182, rfl⟩
abbrev main_while1b_v54 : Ref sig .tc := ⟨.hbm, 183, rfl⟩
abbrev main_while1b_cst_29 : Ref sig .tc := ⟨.hbm, 184, rfl⟩
abbrev main_while1b_v55 : Ref sig .tc := ⟨.hbm, 185, rfl⟩
abbrev main_while1b_v56 : Ref sig .tc := ⟨.hbm, 186, rfl⟩
abbrev main_while1b_v57 : Ref sig .tc := ⟨.hbm, 187, rfl⟩
abbrev main_while1b_v58 : Ref sig .tc := ⟨.hbm, 188, rfl⟩
abbrev main_while1b_v59 : Ref sig .tc := ⟨.hbm, 189, rfl⟩
abbrev main_while1b_v60 : Ref sig .tc := ⟨.hbm, 190, rfl⟩
abbrev main_while1b_v61 : Ref sig .tc := ⟨.hbm, 191, rfl⟩
abbrev main_while1b_v62 : Ref sig .tc := ⟨.hbm, 192, rfl⟩
abbrev main_while1b_v63 : Ref sig .tc := ⟨.hbm, 193, rfl⟩
abbrev main_while1b_v64 : Ref sig .tc := ⟨.hbm, 194, rfl⟩
abbrev main_while1b_v65 : Ref sig .tc := ⟨.hbm, 195, rfl⟩
abbrev main_while1b_v66 : Ref sig .tc := ⟨.hbm, 196, rfl⟩
abbrev main_while1b_v67 : Ref sig .tc := ⟨.hbm, 197, rfl⟩
abbrev main_while1b_v68 : Ref sig .tc := ⟨.hbm, 198, rfl⟩
abbrev main_while1b_v69 : Ref sig .tc := ⟨.hbm, 199, rfl⟩
abbrev main_while1b_v70 : Ref sig .tc := ⟨.hbm, 200, rfl⟩
abbrev main_while1b_v71 : Ref sig .tc := ⟨.hbm, 201, rfl⟩
abbrev main_while1b_call17_v0 : Ref sig .tc := ⟨.hbm, 202, rfl⟩
abbrev main_while1b_call17_c : Ref sig .tc := ⟨.hbm, 203, rfl⟩
abbrev main_while1b_call17_c_0 : Ref sig .tc := ⟨.hbm, 204, rfl⟩
abbrev main_while1b_call17_c_1 : Ref sig .tc := ⟨.hbm, 205, rfl⟩
abbrev main_while1b_v72 : Ref sig .tc := ⟨.hbm, 206, rfl⟩
abbrev main_while1b_call18_v0 : Ref sig .tc := ⟨.hbm, 207, rfl⟩
abbrev main_while1b_call18_c : Ref sig .tc := ⟨.hbm, 208, rfl⟩
abbrev main_while1b_call18_c_0 : Ref sig .tc := ⟨.hbm, 209, rfl⟩
abbrev main_while1b_call18_c_1 : Ref sig .tc := ⟨.hbm, 210, rfl⟩
abbrev main_while1b_v73 : Ref sig .tc := ⟨.hbm, 211, rfl⟩
abbrev main_while1b_call19_v0 : Ref sig .tc := ⟨.hbm, 212, rfl⟩
abbrev main_while1b_call19_c : Ref sig .tc := ⟨.hbm, 213, rfl⟩
abbrev main_while1b_call19_c_0 : Ref sig .tc := ⟨.hbm, 214, rfl⟩
abbrev main_while1b_call19_c_1 : Ref sig .tc := ⟨.hbm, 215, rfl⟩
abbrev main_while1b_v74 : Ref sig .tc := ⟨.hbm, 216, rfl⟩
abbrev main_while1b_call20_v0 : Ref sig .tc := ⟨.hbm, 217, rfl⟩
abbrev main_while1b_call20_c : Ref sig .tc := ⟨.hbm, 218, rfl⟩
abbrev main_while1b_call20_c_0 : Ref sig .tc := ⟨.hbm, 219, rfl⟩
abbrev main_while1b_call20_c_1 : Ref sig .tc := ⟨.hbm, 220, rfl⟩
abbrev main_while1b_v75 : Ref sig .tc := ⟨.hbm, 221, rfl⟩
abbrev main_while1b_call21_v0 : Ref sig .tc := ⟨.hbm, 222, rfl⟩
abbrev main_while1b_call21_c : Ref sig .tc := ⟨.hbm, 223, rfl⟩
abbrev main_while1b_call21_c_0 : Ref sig .tc := ⟨.hbm, 224, rfl⟩
abbrev main_while1b_call21_c_1 : Ref sig .tc := ⟨.hbm, 225, rfl⟩
abbrev main_while1b_v76 : Ref sig .tc := ⟨.hbm, 226, rfl⟩
abbrev main_while1b_call22_v0 : Ref sig .tc := ⟨.hbm, 227, rfl⟩
abbrev main_while1b_call22_c : Ref sig .tc := ⟨.hbm, 228, rfl⟩
abbrev main_while1b_call22_c_0 : Ref sig .tc := ⟨.hbm, 229, rfl⟩
abbrev main_while1b_call22_c_1 : Ref sig .tc := ⟨.hbm, 230, rfl⟩
abbrev main_while1b_v77 : Ref sig .tc := ⟨.hbm, 231, rfl⟩
abbrev main_while1b_c_30 : Ref sig .tc := ⟨.hbm, 232, rfl⟩
abbrev main_while1b_v78 : Ref sig .tc := ⟨.hbm, 233, rfl⟩
abbrev main_v29 : Ref sig .tc := ⟨.hbm, 234, rfl⟩
abbrev main_v30 : Ref sig .tc := ⟨.hbm, 235, rfl⟩
abbrev main_v31 : Ref sig .tc := ⟨.hbm, 236, rfl⟩
abbrev main_v32 : Ref sig .tc := ⟨.hbm, 237, rfl⟩
abbrev main_v33 : Ref sig .tc := ⟨.hbm, 238, rfl⟩
abbrev main_v34 : Ref sig .tc := ⟨.hbm, 239, rfl⟩
abbrev main_v35 : Ref sig .tc := ⟨.hbm, 240, rfl⟩
abbrev main_v36 : Ref sig .tc := ⟨.hbm, 241, rfl⟩
abbrev main_v37 : Ref sig .tc := ⟨.hbm, 242, rfl⟩
abbrev main_v38 : Ref sig .tc := ⟨.hbm, 243, rfl⟩
abbrev main_v39 : Ref sig .tc := ⟨.hbm, 244, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== GateUp.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S512x2048 : Shape := ⟨2, ![512, 2048]⟩
abbrev S2048x2816 : Shape := ⟨2, ![2048, 2816]⟩
abbrev S512x2816 : Shape := ⟨2, ![512, 2816]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .f32⟩
  | .hbm, ⟨3, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x2816, .bf16⟩
  | .local _ .vmem, ⟨3, _⟩ => ⟨S2048x2816, .bf16⟩
  | .local _ .vmem, ⟨4, _⟩ => ⟨S512x2816, .f32⟩
  | .local _ .vmem, ⟨5, _⟩ => ⟨S512x2816, .f32⟩
  | .local _ .vmem, ⟨6, _⟩ => ⟨S512x1408, .bf16⟩
  | .local _ .vmem, ⟨7, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateUpRefIdeal.lean ====
abbrev S4096x2048 : Shape := ⟨2, ![4096, 2048]⟩
abbrev S2048x11264 : Shape := ⟨2, ![2048, 11264]⟩
abbrev S4096x11264 : Shape := ⟨2, ![4096, 11264]⟩
abbrev S4096x4x2x1408 : Shape := ⟨4, ![4096, 4, 2, 1408]⟩
abbrev S4096x4x1x1408 : Shape := ⟨4, ![4096, 4, 1, 1408]⟩
abbrev S4096x4x1408 : Shape := ⟨3, ![4096, 4, 1408]⟩
abbrev S4096x5632 : Shape := ⟨2, ![4096, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x4x2x1408, .f32⟩
  | .hbm, ⟨6, _⟩ => ⟨S4096x4x1x1408, .f32⟩
  | .hbm, ⟨7, _⟩ => ⟨S4096x4x1408, .f32⟩
  | .hbm, ⟨8, _⟩ => ⟨S4096x5632, .f32⟩
  | .hbm, ⟨9, _⟩ => ⟨S4096x4x1x1408, .f32⟩
  | .hbm, ⟨10, _⟩ => ⟨S4096x4x1408, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S512x5632 : Shape := ⟨2, ![512, 5632]⟩
abbrev S5632x512 : Shape := ⟨2, ![5632, 512]⟩
abbrev S512x512 : Shape := ⟨2, ![512, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S4096x2048 : Shape := ⟨2, ![4096, 2048]⟩
abbrev S5632x2048 : Shape := ⟨2, ![5632, 2048]⟩
abbrev S4096x11264 : Shape := ⟨2, ![4096, 11264]⟩
abbrev S512x2048 : Shape := ⟨2, ![512, 2048]⟩
abbrev S1408x2048 : Shape := ⟨2, ![1408, 2048]⟩
abbrev S512x2816 : Shape := ⟨2, ![512, 2816]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x11264, .f32⟩
  | .hbm, ⟨3, _⟩ => ⟨S4096x11264, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x2816, .f32⟩
  | .local _ .vmem, ⟨5, _⟩ => ⟨S512x2816, .f32⟩
  | .local _ .vmem, ⟨6, _⟩ => ⟨S512x2816, .bf16⟩
  | .local _ .vmem, ⟨7, _⟩ => ⟨S512x2816, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S4096x2048 : Shape := ⟨2, ![4096, 2048]⟩
abbrev S5632x2048 : Shape := ⟨2, ![5632, 2048]⟩
abbrev S4096x11264 : Shape := ⟨2, ![4096, 11264]⟩
abbrev S4096x4x2x1408 : Shape := ⟨4, ![4096, 4, 2, 1408]⟩
abbrev S4096x4x1x1408 : Shape := ⟨4, ![4096, 4, 1, 1408]⟩
abbrev S4096x4x1408 : Shape := ⟨3, ![4096, 4, 1408]⟩
abbrev S4096x5632 : Shape := ⟨2, ![4096, 5632]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x11264, .f32⟩
  | .hbm, ⟨3, _⟩ => ⟨S4096x4x2x1408, .f32⟩
  | .hbm, ⟨4, _⟩ => ⟨S4096x4x1x1408, .f32⟩
  | .hbm, ⟨5, _⟩ => ⟨S4096x4x1408, .f32⟩
  | .hbm, ⟨6, _⟩ => ⟨S4096x5632, .f32⟩
  | .hbm, ⟨7, _⟩ => ⟨S4096x4x1x1408, .f32⟩
  | .hbm, ⟨8, _⟩ => ⟨S4096x4x1408, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S5632x2048, .f32⟩
  | .hbm, ⟨25, _⟩ => ⟨S4096x2048, .f32⟩
  | .hbm, ⟨26, _⟩ => ⟨S4096x2048, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S_, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x4x1408, .f32⟩
  | .hbm, ⟨41, _⟩ => ⟨S4096x4x1x1408, .f32⟩
  | .hbm, ⟨42, _⟩ => ⟨S_, .f32⟩
  | .hbm, ⟨43, _⟩ => ⟨S4096x4x2x1408, .f32⟩
  | .hbm, ⟨44, _⟩ => ⟨S4096x4x1408, .f32⟩
  | .hbm, ⟨45, _⟩ => ⟨S4096x4x1x1408, .f32⟩
  | .hbm, ⟨46, _⟩ => ⟨S_, .f32⟩
  | .hbm, ⟨47, _⟩ => ⟨S4096x4x2x1408, .f32⟩
  | .hbm, ⟨48, _⟩ => ⟨S4096x4x2x1408, .f32⟩
  | .hbm, ⟨49, _⟩ => ⟨S4096x11264, .f32⟩
  | .hbm, ⟨50, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== GateUpDw.lean ====
abbrev S4096x2048 : Shape := ⟨2, ![4096, 2048]⟩
abbrev S4096x11264 : Shape := ⟨2, ![4096, 11264]⟩
abbrev S4x2048x2816 : Shape := ⟨3, ![4, 2048, 2816]⟩
abbrev S2048x512 : Shape := ⟨2, ![2048, 512]⟩
abbrev S2048x2816 : Shape := ⟨2, ![2048, 2816]⟩
abbrev S1x512x2816 : Shape := ⟨3, ![1, 512, 2816]⟩
abbrev S512x2816 : Shape := ⟨2, ![512, 2816]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4x2048x2816, .f32⟩
  | .local _ .vmem, ⟨0, _⟩ => ⟨S2048x512, .bf16⟩
  | .local _ .vmem, ⟨1, _⟩ => ⟨S2048x512, .bf16⟩
  | .local _ .vmem, ⟨2, _⟩ => ⟨S2048x2816, .bf16⟩
  | .local _ .vmem, ⟨3, _⟩ => ⟨S2048x2816, .bf16⟩
  | .local _ .vmem, ⟨4, _⟩ => ⟨S1x512x2816, .f32⟩
  | .local _ .vmem, ⟨5, _⟩ => ⟨S1x512x2816, .f32⟩
  | .local _ .vmem, ⟨6, _⟩ => ⟨S512x2816, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpDwRefIdeal.lean ====
abbrev S4096x2048 : Shape := ⟨2, ![4096, 2048]⟩
abbrev S4096x11264 : Shape := ⟨2, ![4096, 11264]⟩
abbrev S_ : Shape := ⟨0, ![]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S11264x2048 : Shape := ⟨2, ![11264, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S4x2048x2816, .f32⟩
  | .hbm, ⟨4, _⟩ => ⟨S4096x2048, .f32⟩
  | .hbm, ⟨5, _⟩ => ⟨S2048x4x2816, .f32⟩
  | .hbm, ⟨6, _⟩ => ⟨S2048x11264, .f32⟩
  | .hbm, ⟨7, _⟩ => ⟨S4096x11264, .f32⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S2048x4x2816, .f32⟩
  | .hbm, ⟨12, _⟩ => ⟨S4x2048x2816, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GateUpDx.lean ====
abbrev S4096x11264 : Shape := ⟨2, ![4096, 11264]⟩
abbrev S2048x11264 : Shape := ⟨2, ![2048, 11264]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpDxRefIdeal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S_, .f32⟩
  | .hbm, ⟨3, _⟩ => ⟨S4096x2048, .f32⟩
  | .hbm, ⟨4, _⟩ => ⟨S2048x11264, .f32⟩
  | .hbm, ⟨5, _⟩ => ⟨S4096x11264, .f32⟩
  | .hbm, ⟨6, _⟩ => ⟨S4096x11264, .f32⟩
  | .hbm, ⟨7, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateUpDwLow.lean ====
abbrev S4096x2048 : Shape := ⟨2, ![4096, 2048]⟩
abbrev S4096x11264 : Shape := ⟨2, ![4096, 11264]⟩
abbrev S4x2048x2816 : Shape := ⟨3, ![4, 2048, 2816]⟩
abbrev S2048x512 : Shape := ⟨2, ![2048, 512]⟩
abbrev S2048x2816 : Shape := ⟨2, ![2048, 2816]⟩
abbrev S1x512x2816 : Shape := ⟨3, ![1, 512, 2816]⟩
abbrev S512x2816 : Shape := ⟨2, ![512, 2816]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4x2048x2816, .bf16⟩
  | .local _ .vmem, ⟨0, _⟩ => ⟨S2048x512, .bf16⟩
  | .local _ .vmem, ⟨1, _⟩ => ⟨S2048x512, .bf16⟩
  | .local _ .vmem, ⟨2, _⟩ => ⟨S2048x2816, .bf16⟩
  | .local _ .vmem, ⟨3, _⟩ => ⟨S2048x2816, .bf16⟩
  | .local _ .vmem, ⟨4, _⟩ => ⟨S1x512x2816, .bf16⟩
  | .local _ .vmem, ⟨5, _⟩ => ⟨S1x512x2816, .bf16⟩
  | .local _ .vmem, ⟨6, _⟩ => ⟨S512x2816, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpDwLowRefIdeal.lean ====
abbrev S4096x2048 : Shape := ⟨2, ![4096, 2048]⟩
abbrev S4096x11264 : Shape := ⟨2, ![4096, 11264]⟩
abbrev S_ : Shape := ⟨0, ![]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S11264x2048 : Shape := ⟨2, ![11264, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S4x2048x2816, .f32⟩
  | .hbm, ⟨4, _⟩ => ⟨S4096x2048, .f32⟩
  | .hbm, ⟨5, _⟩ => ⟨S2048x4x2816, .f32⟩
  | .hbm, ⟨6, _⟩ => ⟨S2048x11264, .f32⟩
  | .hbm, ⟨7, _⟩ => ⟨S4096x11264, .f32⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S2048x4x2816, .f32⟩
  | .hbm, ⟨12, _⟩ => ⟨S4x2048x2816, .f32⟩
  | .hbm, ⟨13, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== MixIn.lean ====
abbrev S4096x2048 : Shape := ⟨2, ![4096, 2048]⟩
abbrev S2048x7296 : Shape := ⟨2, ![2048, 7296]⟩
abbrev S4096x7296 : Shape := ⟨2, ![4096, 7296]⟩
abbrev S512x2048 : Shape := ⟨2, ![512, 2048]⟩
abbrev S2048x2432 : Shape := ⟨2, ![2048, 2432]⟩
abbrev S512x2432 : Shape := ⟨2, ![512, 2432]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x7296, .bf16⟩
  | .hbm, ⟨2, _⟩ => ⟨S4096x7296, .f32⟩
  | .local _ .vmem, ⟨0, _⟩ => ⟨S512x2048, .bf16⟩
  | .local _ .vmem, ⟨1, _⟩ => ⟨S512x2048, .bf16⟩
  | .local _ .vmem, ⟨2, _⟩ => ⟨S2048x2432, .bf16⟩
  | .local _ .vmem, ⟨3, _⟩ => ⟨S2048x2432, .bf16⟩
  | .local _ .vmem, ⟨4, _⟩ => ⟨S512x2432, .f32⟩
  | .local _ .vmem, ⟨5, _⟩ => ⟨S512x2432, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4096x2048 : Shape := ⟨2, ![4096, 2048]⟩
abbrev S2048x7296 : Shape := ⟨2, ![2048, 7296]⟩
abbrev S4096x7296 : Shape := ⟨2, ![4096, 7296]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x7296, .bf16⟩
  | .hbm, ⟨2, _⟩ => ⟨S4096x2048, .f32⟩
  | .hbm, ⟨3, _⟩ => ⟨S2048x7296, .f32⟩
  | .hbm, ⟨4, _⟩ => ⟨S4096x7296, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixInDw.lean ====
abbrev S4096x2048 : Shape := ⟨2, ![4096, 2048]⟩
abbrev S4096x7296 : Shape := ⟨2, ![4096, 7296]⟩
abbrev S2048x7296 : Shape := ⟨2, ![2048, 7296]⟩
abbrev S2048x512 : Shape := ⟨2, ![2048, 512]⟩
abbrev S2048x2432 : Shape := ⟨2, ![2048, 2432]⟩
abbrev S512x2432 : Shape := ⟨2, ![512, 2432]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x7296, .bf16⟩
  | .hbm, ⟨2, _⟩ => ⟨S2048x7296, .bf16⟩
  | .local _ .vmem, ⟨0, _⟩ => ⟨S2048x512, .bf16⟩
  | .local _ .vmem, ⟨1, _⟩ => ⟨S2048x512, .bf16⟩
  | .local _ .vmem, ⟨2, _⟩ => ⟨S2048x2432, .bf16⟩
  | .local _ .vmem, ⟨3, _⟩ => ⟨S2048x2432, .bf16⟩
  | .local _ .vmem, ⟨4, _⟩ => ⟨S512x2432, .bf16⟩
  | .local _ .vmem, ⟨5, _⟩ => ⟨S512x2432, .bf16⟩
  | .local _ .vmem, ⟨6, _⟩ => ⟨S512x2432, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDwRefIdeal.lean ====
abbrev S4096x2048 : Shape := ⟨2, ![4096, 2048]⟩
abbrev S4096x7296 : Shape := ⟨2, ![4096, 7296]⟩
abbrev S_ : Shape := ⟨0, ![]⟩
abbrev S2048x7296 : Shape := ⟨2, ![2048, 7296]⟩
abbrev S7296x2048 : Shape := ⟨2, ![7296, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x7296, .bf16⟩
  | .hbm, ⟨2, _⟩ => ⟨S_, .f32⟩
  | .hbm, ⟨3, _⟩ => ⟨S2048x7296, .f32⟩
  | .hbm, ⟨4, _⟩ => ⟨S4096x2048, .f32⟩
  | .hbm, ⟨5, _⟩ => ⟨S4096x7296, .f32⟩
  | .hbm, ⟨6, _⟩ => ⟨S4096x7296, .f32⟩
  | .hbm, ⟨7, _⟩ => ⟨S7296x2048, .f32⟩
  | .hbm, ⟨8, _⟩ => ⟨S2048x7296, .f32⟩
  | .hbm, ⟨9, _⟩ => ⟨S2048x7296, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixInDx.lean ====
abbrev S4096x7296 : Shape := ⟨2, ![4096, 7296]⟩
abbrev S2048x7296 : Shape := ⟨2, ![2048, 7296]⟩
abbrev S4096x2048 : Shape := ⟨2, ![4096, 2048]⟩
abbrev S1024x2432 : Shape := ⟨2, ![1024, 2432]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x7296, .bf16⟩
  | .hbm, ⟨1, _⟩ => ⟨S2048x7296, .bf16⟩
  | .hbm, ⟨2, _⟩ => ⟨S4096x2048, .f32⟩
  | .local _ .vmem, ⟨0, _⟩ => ⟨S1024x2432, .bf16⟩
  | .local _ .vmem, ⟨1, _⟩ => ⟨S1024x2432, .bf16⟩
  | .local _ .vmem, ⟨2, _⟩ => ⟨S1024x2432, .bf16⟩
  | .local _ .vmem, ⟨3, _⟩ => ⟨S1024x2432, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDxRefIdeal.lean ====
abbrev S4096x7296 : Shape := ⟨2, ![4096, 7296]⟩
abbrev S2048x7296 : Shape := ⟨2, ![2048, 7296]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x7296, .bf16⟩
  | .hbm, ⟨1, _⟩ => ⟨S2048x7296, .bf16⟩
  | .hbm, ⟨2, _⟩ => ⟨S_, .f32⟩
  | .hbm, ⟨3, _⟩ => ⟨S4096x2048, .f32⟩
  | .hbm, ⟨4, _⟩ => ⟨S2048x7296, .f32⟩
  | .hbm, ⟨5, _⟩ => ⟨S4096x7296, .f32⟩
  | .hbm, ⟨6, _⟩ => ⟨S4096x7296, .f32⟩
  | .hbm, ⟨7, _⟩ => ⟨S4096x2048, .f32⟩
  | _, _ => ⟨S4096x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOut.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MixOutRefIdeal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MixOutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PreFwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreFwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== PreBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PreBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== ResBwd.lean ====
abbrev S1x2048 : Shape := ⟨2, ![1, 2048]⟩
abbrev S4096x2048 : Shape := ⟨2, ![4096, 2048]⟩
abbrev S256x2048 : Shape := ⟨2, ![256, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S1x2048, .f32⟩
  | .local _ .vmem, ⟨0, _⟩ => ⟨S1x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ResBwdRefIdeal.lean ====
abbrev S1x2048 : Shape := ⟨2, ![1, 2048]⟩
abbrev S4096x2048 : Shape := ⟨2, ![4096, 2048]⟩
abbrev S_ : Shape := ⟨0, ![]⟩
abbrev S2048 : Shape := ⟨1, ![2048]⟩

abbrev nBuf : Space → Nat
  | .hbm => 18
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S4096x2048, .bf16⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== MixResBwd.lean ====
abbrev S1x2048 : Shape := ⟨2, ![1, 2048]⟩
abbrev S4096x2048 : Shape := ⟨2, ![4096, 2048]⟩
abbrev S256x2048 : Shape := ⟨2, ![256, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S1x2048, .f32⟩
  | .local _ .vmem, ⟨0, _⟩ => ⟨S1x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MixResBwdRefIdeal.lean ====
abbrev S1x2048 : Shape := ⟨2, ![1, 2048]⟩
abbrev S4096x2048 : Shape := ⟨2, ![4096, 2048]⟩
abbrev S_ : Shape := ⟨0, ![]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S4096x2048, .bf16⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Scan.ScanFwdRunA.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The forward scan over the chunks: one chunk's run on any staging memrefs -/

/-- The grid point is the first one, as the kernel tests it. -/
abbrev cond0 (i : grid0.Coords) : Prop := (Scalar.cmpi .ne (Scalar.extui (Scalar.cmpi .eq (BitVec.ofNat 32 (i 0).val) 0#32)) 0#32) = 1#1
/-- The kernel's test holds at the first point only. -/
theorem hcond0 : ∀ t : Fin cfg0.N, cond0 (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    have h : cond0 (grid0.coords t) ↔ t.val % 64 = 0 := by
      simp only [cond0, e0]
      word_cmp
    rw [h, Nat.mod_eq_of_lt ht]
   : ∀ t : Fin grid0.N, cond0 (grid0.coords t) ↔ t.val = 0)

/-- Each window's staging memref at a point, and that it is a whole buffer. -/
abbrev ms0_0 (t : Fin cfg0.N) : Memref sig .tc .vmem S64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x128x128 .f32 := win0_7.stage (cfg0.slots t 7)
abbrev hs0_7 (t : Fin cfg0.N) : (ms0_7 t).IsWhole := hstage0_7 ((cfg0.slots t 7).cast nbuf0_7)
/-- The carried state's scratch buffer, and its view. -/
abbrev scM0 : Memref sig .tc .vmem S8x128x128 .f32 := Memref.whole cc0_scratch0
abbrev VS0 : View sig .tc .vmem S8x128x128 .f32 := scM0.view
/-- One staging buffer of each output, through which its contents are stated. -/
abbrev VO0_6 : View sig .tc .vmem S64x1024 .f32 := (Memref.whole cc0_stg6_0 : Memref sig .tc .vmem S64x1024 .f32).view
abbrev VO0_7 : View sig .tc .vmem S1x8x128x128 .f32 := (Memref.whole cc0_stg7_0 : Memref sig .tc .vmem S1x8x128x128 .f32).view

set_option maxHeartbeats 1000000 in
/-- One chunk of the forward scan at the first point, where the carried state is set to zero: the pieces its stores leave in each output buffer and in the carried
    state, with the proof that on whole buffers holding the inputs the body runs, keeps the inputs and leaves those pieces. -/
noncomputable def run0_A (c : Dev nD) (i : grid0.Coords) (a0 : Memref sig .tc .vmem S64x1024 .f32) (h0 : a0.IsWhole) (a1 : Memref sig .tc .vmem S64x1024 .f32) (h1 : a1.IsWhole) (a2 : Memref sig .tc .vmem S64x1024 .f32) (h2 : a2.IsWhole) (a3 : Memref sig .tc .vmem S64x1024 .f32) (h3 : a3.IsWhole) (a4 : Memref sig .tc .vmem S8x64x64 .f32) (h4 : a4.IsWhole) (a5 : Memref sig .tc .vmem S8x1x1x128 .f32) (h5 : a5.IsWhole) (a6 : Memref sig .tc .vmem S64x1024 .f32) (h6 : a6.IsWhole) (a7 : Memref sig .tc .vmem S1x8x128x128 .f32) (h7 : a7.IsWhole) (am : Memref sig .tc .vmem S8x128x128 .f32) (hs : am.IsWhole) (hc : cond0 i)
    (x0 : Vec F S64x1024 .f32) (x1 : Vec F S64x1024 .f32) (x2 : Vec F S64x1024 .f32) (x3 : Vec F S64x1024 .f32) (x4 : Vec F S8x64x64 .f32) (x5 : Vec F S8x1x1x128 .f32) :
    Σ' (L6 : List (View.Piece (Elt F) S64x1024 .f32)), Σ' (L7 : List (View.Piece (Elt F) S1x8x128x128 .f32)), { LS : List (View.Piece (Elt F) S8x128x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d) ∗ (∃ d, owns (c : Thread nD τ) am fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, a6.view.loc (c : Thread nD τ) ↦[a6.view.set]{fullShare} a6.view.writes (Elt F) f L6) ∗ (∃ f, a7.view.loc (c : Thread nD τ) ↦[a7.view.set]{fullShare} a7.view.writes (Elt F) f L7) ∗ (∃ f, am.view.loc (c : Thread nD τ) ↦[am.view.set]{fullShare} am.view.writes (Elt F) f LS)) -∗ K ⟨⟩))
          ⊢ wp frame (wpE (defs₀ (F := F)) Variants.none c none) E (cc0_delta_scan i a0 h0 a1 h1 a2 h2 a3 h3 a4 h4 a5 h5 a6 h6 a7 h7 am hs) K } := by
  refine ⟨?_, ?_, ?_, fun E K => ?run⟩
  case run =>
    simp only [cc0_delta_scan_eq_skeleton]; unfold cc0_delta_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact HS

end Cert.KernelIdeal.Scan

end
-- ==== Proof.Scan.ScanFwdRunB.lean ====
module

public import proofs.«01_k».proof.Proof.Scan.ScanFwdRunA

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One chunk of the forward scan at a later point, the carried state at `xs`: the pieces its stores leave in each output buffer and in the carried
    state, with the proof that on whole buffers holding the inputs the body runs, keeps the inputs and leaves those pieces. -/
noncomputable def run0_B (c : Dev nD) (i : grid0.Coords) (a0 : Memref sig .tc .vmem S64x1024 .f32) (h0 : a0.IsWhole) (a1 : Memref sig .tc .vmem S64x1024 .f32) (h1 : a1.IsWhole) (a2 : Memref sig .tc .vmem S64x1024 .f32) (h2 : a2.IsWhole) (a3 : Memref sig .tc .vmem S64x1024 .f32) (h3 : a3.IsWhole) (a4 : Memref sig .tc .vmem S8x64x64 .f32) (h4 : a4.IsWhole) (a5 : Memref sig .tc .vmem S8x1x1x128 .f32) (h5 : a5.IsWhole) (a6 : Memref sig .tc .vmem S64x1024 .f32) (h6 : a6.IsWhole) (a7 : Memref sig .tc .vmem S1x8x128x128 .f32) (h7 : a7.IsWhole) (am : Memref sig .tc .vmem S8x128x128 .f32) (hs : am.IsWhole) (hc : ¬cond0 i)
    (x0 : Vec F S64x1024 .f32) (x1 : Vec F S64x1024 .f32) (x2 : Vec F S64x1024 .f32) (x3 : Vec F S64x1024 .f32) (x4 : Vec F S8x64x64 .f32) (x5 : Vec F S8x1x1x128 .f32) (xs : Vec F S8x128x128 .f32) :
    Σ' (L6 : List (View.Piece (Elt F) S64x1024 .f32)), Σ' (L7 : List (View.Piece (Elt F) S1x8x128x128 .f32)), { LS : List (View.Piece (Elt F) S8x128x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d) ∗ owns (c : Thread nD τ) am fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, a6.view.loc (c : Thread nD τ) ↦[a6.view.set]{fullShare} a6.view.writes (Elt F) f L6) ∗ (∃ f, a7.view.loc (c : Thread nD τ) ↦[a7.view.set]{fullShare} a7.view.writes (Elt F) f L7) ∗ (∃ f, am.view.loc (c : Thread nD τ) ↦[am.view.set]{fullShare} am.view.writes (Elt F) f LS)) -∗ K ⟨⟩))
          ⊢ wp frame (wpE (defs₀ (F := F)) Variants.none c none) E (cc0_delta_scan i a0 h0 a1 h1 a2 h2 a3 h3 a4 h4 a5 h5 a6 h6 a7 h7 am hs) K } := by
  refine ⟨?_, ?_, ?_, fun E K => ?run⟩
  case run =>
    simp only [cc0_delta_scan_eq_skeleton]; unfold cc0_delta_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := hs.eq_unread hfs
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact HS

end Cert.KernelIdeal.Scan

end
-- ==== Proof.Scan.ScanFwd.lean ====
module

public import proofs.«01_k».proof.Proof.Scan.ScanFwdRunB

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The forward scan as a region entered with the buffers at `V` -/

/-- A window's block at a point, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The chunk's run at a grid point: its memrefs, its input blocks, the carried state it finds. -/
abbrev rA0 (c : Dev nD) (t : Fin cfg0.N) (h : t.val = 0) :=
  run0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0 t).mpr h) (iblk0 V c 0 t) (iblk0 V c 1 t) (iblk0 V c 2 t) (iblk0 V c 3 t) (iblk0 V c 4 t) (iblk0 V c 5 t)
abbrev rB0 (c : Dev nD) (t : Fin cfg0.N) (h : ¬t.val = 0) (xs : Vec F S8x128x128 .f32) :=
  run0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun e => h ((hcond0 t).mp e)) (iblk0 V c 0 t) (iblk0 V c 1 t) (iblk0 V c 2 t) (iblk0 V c 3 t) (iblk0 V c 4 t) (iblk0 V c 5 t) xs
/-- The pieces of the chunk outputs cover its block; what they leave in it. -/
theorem cov0_A_6 (c : Dev nD) (t : Fin cfg0.N) (h : t.val = 0) (y : S64x1024.Idx) : ∃ pc ∈ (rA0 V c t h).1, y ∈ pc.1.set :=
  View.cover_of_tiledL (rA0 V c t h).1 S64x128.size (by sl_kernel_rfl) y
def o0_A_6 (c : Dev nD) (t : Fin cfg0.N) (h : t.val = 0) : Vec F S64x1024 .f32 :=
  VO0_6.read (Elt F) (VO0_6.writes (Elt F) VO0_6.junk (rA0 V c t h).1)
/-- The pieces of the state each chunk starts from cover its block; what they leave in it. -/
theorem cov0_A_7 (c : Dev nD) (t : Fin cfg0.N) (h : t.val = 0) (y : S1x8x128x128.Idx) : ∃ pc ∈ (rA0 V c t h).2.1, y ∈ pc.1.set :=
  View.cover_of_tiledL (rA0 V c t h).2.1 S1x1x128x128.size (by sl_kernel_rfl) y
def o0_A_7 (c : Dev nD) (t : Fin cfg0.N) (h : t.val = 0) : Vec F S1x8x128x128 .f32 :=
  VO0_7.read (Elt F) (VO0_7.writes (Elt F) VO0_7.junk (rA0 V c t h).2.1)
/-- The pieces of the carried state cover it; what they leave in it. -/
theorem cov0_A_s (c : Dev nD) (t : Fin cfg0.N) (h : t.val = 0) (y : S8x128x128.Idx) : ∃ pc ∈ (rA0 V c t h).2.2.1, y ∈ pc.1.set :=
  View.cover_of_wholeMem (rA0 V c t h).2.2.1 (by sl_whole_mem) y
def o0_A_s (c : Dev nD) (t : Fin cfg0.N) (h : t.val = 0) : Vec F S8x128x128 .f32 :=
  VS0.read (Elt F) (VS0.writes (Elt F) VS0.junk (rA0 V c t h).2.2.1)
/-- The pieces of the chunk outputs cover its block; what they leave in it. -/
theorem cov0_B_6 (c : Dev nD) (t : Fin cfg0.N) (h : ¬t.val = 0) (xs : Vec F S8x128x128 .f32) (y : S64x1024.Idx) : ∃ pc ∈ (rB0 V c t h xs).1, y ∈ pc.1.set :=
  View.cover_of_tiledL (rB0 V c t h xs).1 S64x128.size (by sl_kernel_rfl) y
def o0_B_6 (c : Dev nD) (t : Fin cfg0.N) (h : ¬t.val = 0) (xs : Vec F S8x128x128 .f32) : Vec F S64x1024 .f32 :=
  VO0_6.read (Elt F) (VO0_6.writes (Elt F) VO0_6.junk (rB0 V c t h xs).1)
/-- The pieces of the state each chunk starts from cover its block; what they leave in it. -/
theorem cov0_B_7 (c : Dev nD) (t : Fin cfg0.N) (h : ¬t.val = 0) (xs : Vec F S8x128x128 .f32) (y : S1x8x128x128.Idx) : ∃ pc ∈ (rB0 V c t h xs).2.1, y ∈ pc.1.set :=
  View.cover_of_tiledL (rB0 V c t h xs).2.1 S1x1x128x128.size (by sl_kernel_rfl) y
def o0_B_7 (c : Dev nD) (t : Fin cfg0.N) (h : ¬t.val = 0) (xs : Vec F S8x128x128 .f32) : Vec F S1x8x128x128 .f32 :=
  VO0_7.read (Elt F) (VO0_7.writes (Elt F) VO0_7.junk (rB0 V c t h xs).2.1)
/-- The pieces of the carried state cover it; what they leave in it. -/
theorem cov0_B_s (c : Dev nD) (t : Fin cfg0.N) (h : ¬t.val = 0) (xs : Vec F S8x128x128 .f32) (y : S8x128x128.Idx) : ∃ pc ∈ (rB0 V c t h xs).2.2.1, y ∈ pc.1.set :=
  View.cover_of_tiledL (rB0 V c t h xs).2.2.1 S1x128x128.size (by sl_kernel_rfl) y
def o0_B_s (c : Dev nD) (t : Fin cfg0.N) (h : ¬t.val = 0) (xs : Vec F S8x128x128 .f32) : Vec F S8x128x128 .f32 :=
  VS0.read (Elt F) (VS0.writes (Elt F) VS0.junk (rB0 V c t h xs).2.2.1)

/-- The carried state after the point at position `n`. -/
def st0 (c : Dev nD) : (n : ℕ) → n < cfg0.N → Vec F S8x128x128 .f32
  | 0, hn => o0_A_s V c ⟨0, hn⟩ rfl
  | n + 1, hn => o0_B_s V c ⟨n + 1, hn⟩ (Nat.succ_ne_zero n) (st0 c n (Nat.lt_of_succ_lt hn))
theorem st0_A (c : Dev nD) (t : Fin cfg0.N) (h : t.val = 0) : st0 V c t.val t.isLt = o0_A_s V c t h := by
  obtain ⟨n, hn⟩ := t
  cases n with
  | zero => rfl
  | succ n => exact absurd h (Nat.succ_ne_zero n)
theorem st0_B (c : Dev nD) (t : Fin cfg0.N) (h : ¬t.val = 0) :
    st0 V c t.val t.isLt = o0_B_s V c t h (st0 V c (t.val - 1) (Nat.lt_of_le_of_lt (Nat.sub_le _ _) t.isLt)) := by
  obtain ⟨n, hn⟩ := t
  cases n with
  | zero => exact absurd rfl h
  | succ n => rfl

/-- What a point leaves in the block of the chunk outputs. -/
def out0_6 (c : Dev nD) (t : Fin cfg0.N) : Vec F S64x1024 .f32 :=
  if h : t.val = 0 then o0_A_6 V c t h else o0_B_6 V c t h (st0 V c (t.val - 1) (Nat.lt_of_le_of_lt (Nat.sub_le _ _) t.isLt))
/-- What a point leaves in the block of the state each chunk starts from. -/
def out0_7 (c : Dev nD) (t : Fin cfg0.N) : Vec F S1x8x128x128 .f32 :=
  if h : t.val = 0 then o0_A_7 V c t h else o0_B_7 V c t h (st0 V c (t.val - 1) (Nat.lt_of_le_of_lt (Nat.sub_le _ _) t.isLt))

/-- The scoped buffers of the region beside its carried state. -/
abbrev rest0 (c : Dev nD) : sProp 𝕄 :=
  Pipeline.scopedRestBut (Ix := Unit) (Name := ℕ) (U := UR sig nD τ) (Lvl := ℕ) (Val := Elt F) spec0 c [cc0_scratch0]
theorem PhiA0_eq (c : Dev nD) :
    (Pipeline.ΦA spec0 c : sProp 𝕄) = iprop(iprop((∃ d, owns (c : Thread nD τ) scM0 fullShare d) ∗ rest0 c) ∗ (∃ r, prngReg c r)) := by
  unfold Pipeline.ΦA
  rw [show (Pipeline.scopedRest (Ix := Unit) (Name := ℕ) (U := UR sig nD τ) (Lvl := ℕ) (Val := Elt F) spec0 c : sProp 𝕄) = _
    from Pipeline.scopedRest_split_of_list spec0 c [cc0_scratch0] (by decide) (by decide)]
  simp only [scM0, owns_whole]; try rfl

/-- The region's invariant before position `n`: at the first the scratch at anything, later at what the point before left. -/
def Phi0 (c : Dev nD) : (n : ℕ) → n ≤ cfg0.N → sProp 𝕄
  | 0, _ => Pipeline.ΦA spec0 c
  | n + 1, hn => iprop(iprop(owns (c : Thread nD τ) scM0 fullShare (st0 V c n hn) ∗ rest0 c) ∗ (∃ r, prngReg c r))
theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) scM0 fullShare (st0 V c n hn) ∗ rest0 c) ∗ (∃ r, prngReg c r)) := rfl
theorem Phi0_pos (c : Dev nD) (n : ℕ) (h : n ≤ cfg0.N) (hz : n ≠ 0) :
    Phi0 V c n h = iprop(iprop(owns (c : Thread nD τ) scM0 fullShare (st0 V c (n - 1) (by omega)) ∗ rest0 c) ∗ (∃ r, prngReg c r)) := by
  cases n with
  | zero => exact absurd rfl hz
  | succ n => rfl

/-- The region's proof data: its arrays as entered, each input's buffer at its block and each output's at `out0_w` after a point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 V c t
    | ⟨7, _⟩ => out0_7 V c t
  Φ t := Phi0 V c t.val (Nat.le_of_lt_succ t.isLt)
  q _ := fullShare
  owed _ := 0
theorem A0_eq (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; exact Pipeline.Dat.Φ_castSucc (Phi0 V c) t
/-- What the body leaves in each window's buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 V c t := by dsimp only [dat0]
theorem after0_7 (c : Dev nD) (t : Fin cfg0.N) : (dat0 V c).after 7 t = out0_7 V c t := by dsimp only [dat0]
/-- Each input's staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A0_eq]; try rfl) t d).trans
    (by unfold Dat.fetched Dat.blockOf iblk0; rw [A0_eq]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A0_eq]; try rfl) t d).trans
    (by unfold Dat.fetched Dat.blockOf iblk0; rw [A0_eq]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A0_eq]; try rfl) t d).trans
    (by unfold Dat.fetched Dat.blockOf iblk0; rw [A0_eq]; try rfl)

/-- What the body is called with at a point, and what it returns. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 6400000 in
/-- The body at any point: the run of its case, the carried state handed on. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7]
  rw [show (dat0 V c).Φ t.succ = Phi0 V c (t.val + 1) t.isLt from rfl, Phi0_succ, Phi0_castSucc V c t]
  by_cases h : t.val = 0
  · rw [Phi0_zero V c _ _ h, PhiA0_eq, st0_A V c t h]
    rw [show out0_6 V c t = o0_A_6 V c t h from dif_pos h]
    rw [show out0_7 V c t = o0_A_7 V c t h from dif_pos h]
    unfold o0_A_6 o0_A_7 o0_A_s
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rA0 V c t h).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, ⟨%es, HS⟩⟩
    isplitl [HS HR Hg]
    · isplitl [HS HR]
      · isplitl [HS]
        · unfold owns; iexists _; isplitr
          swap; · iexact HS
          ipureintro; exact View.read_writes_of_cover _ _ _ _ _ (cov0_A_s V c t h)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cov0_A_6 V c t h)
    unfold owns; iexists _; isplitr
    swap; · iexact H7
    ipureintro; exact View.read_writes_of_cover _ _ _ _ _ (cov0_A_7 V c t h)
  · rw [Phi0_pos V c _ _ h, st0_B V c t h]
    rw [show out0_6 V c t = o0_B_6 V c t h _ from dif_neg h]
    rw [show out0_7 V c t = o0_B_7 V c t h _ from dif_neg h]
    unfold o0_B_6 o0_B_7 o0_B_s
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rB0 V c t h _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, ⟨%es, HS⟩⟩
    isplitl [HS HR Hg]
    · isplitl [HS HR]
      · isplitl [HS]
        · unfold owns; iexists _; isplitr
          swap; · iexact HS
          ipureintro; exact View.read_writes_of_cover _ _ _ _ _ (cov0_B_s V c t h _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cov0_B_6 V c t h _)
    unfold owns; iexists _; isplitr
    swap; · iexact H7
    ipureintro; exact View.read_writes_of_cover _ _ _ _ _ (cov0_B_7 V c t h _)

/-- The library's body obligation, at every point. -/
theorem body_obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body0 V c t) rfl .rfl fun _ => .rfl

/-- After the last point the invariant gives the class's back, the carried state forgotten. -/
theorem Phi0_last (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = Phi0 V c (Fin.last cfg0.N).val (Nat.le_of_lt_succ (Fin.last cfg0.N).isLt) from rfl,
    Phi0_pos V c _ _ hne, PhiA0_eq]
  iintro ⟨⟨HS, HR⟩, Hg⟩
  isplitl [HS HR]
  · isplitl [HS]
    · iexists _; iexact HS
    iexact HR
  iexact Hg

end Cert.KernelIdeal.Scan

end
-- ==== Proof.Scan.ScanBwdRunA.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The backward scan over the chunks: one chunk's run on any staging memrefs -/

/-- The grid point is the first one, as the kernel tests it. -/
abbrev cond1 (i : grid1.Coords) : Prop := (Scalar.cmpi .ne (Scalar.extui (Scalar.cmpi .eq (BitVec.ofNat 32 (i 0).val) 0#32)) 0#32) = 1#1
/-- The kernel's test holds at the first point only. -/
theorem hcond1 : ∀ t : Fin cfg1.N, cond1 (grid1.coords t) ↔ t.val = 0 :=
  (fun t => by
    have ht : t.val < 64 := Nat.lt_of_lt_of_eq t.isLt N_1
    have e0 : (grid1.coords t 0).val = t.val / 1 % 64 := Pipeline.Grid.coords_val t 0 (by decide) rfl
    have h : cond1 (grid1.coords t) ↔ t.val % 64 = 0 := by
      simp only [cond1, e0]
      word_cmp
    rw [h, Nat.mod_eq_of_lt ht]
   : ∀ t : Fin grid1.N, cond1 (grid1.coords t) ↔ t.val = 0)

/-- Each window's staging memref at a point, and that it is a whole buffer. -/
abbrev ms1_0 (t : Fin cfg1.N) : Memref sig .tc .vmem S64x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x1x1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x8x128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64x1024 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S64x1024 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S8x64x64 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S8x1x1x128 .f32 := win1_13.stage (cfg1.slots t 13)
abbrev hs1_13 (t : Fin cfg1.N) : (ms1_13 t).IsWhole := hstage1_13 ((cfg1.slots t 13).cast nbuf1_13)
/-- The carried state's scratch buffer, and its view. -/
abbrev scM1 : Memref sig .tc .vmem S8x128x128 .f32 := Memref.whole cc1_scratch0
abbrev VS1 : View sig .tc .vmem S8x128x128 .f32 := scM1.view
/-- One staging buffer of each output, through which its contents are stated. -/
abbrev VO1_8 : View sig .tc .vmem S64x1024 .f32 := (Memref.whole cc1_stg8_0 : Memref sig .tc .vmem S64x1024 .f32).view
abbrev VO1_9 : View sig .tc .vmem S64x1024 .f32 := (Memref.whole cc1_stg9_0 : Memref sig .tc .vmem S64x1024 .f32).view
abbrev VO1_10 : View sig .tc .vmem S64x1024 .f32 := (Memref.whole cc1_stg10_0 : Memref sig .tc .vmem S64x1024 .f32).view
abbrev VO1_11 : View sig .tc .vmem S64x1024 .f32 := (Memref.whole cc1_stg11_0 : Memref sig .tc .vmem S64x1024 .f32).view
abbrev VO1_12 : View sig .tc .vmem S8x64x64 .f32 := (Memref.whole cc1_stg12_0 : Memref sig .tc .vmem S8x64x64 .f32).view
abbrev VO1_13 : View sig .tc .vmem S8x1x1x128 .f32 := (Memref.whole cc1_stg13_0 : Memref sig .tc .vmem S8x1x1x128 .f32).view

set_option maxHeartbeats 1000000 in
/-- One chunk of the backward scan at the first point, where the carried state is set to zero: the pieces its stores leave in each output buffer and in the carried
    state, with the proof that on whole buffers holding the inputs the body runs, keeps the inputs and leaves those pieces. -/
noncomputable def run1_A (c : Dev nD) (i : grid1.Coords) (a0 : Memref sig .tc .vmem S64x1024 .f32) (h0 : a0.IsWhole) (a1 : Memref sig .tc .vmem S64x1024 .f32) (h1 : a1.IsWhole) (a2 : Memref sig .tc .vmem S64x1024 .f32) (h2 : a2.IsWhole) (a3 : Memref sig .tc .vmem S64x1024 .f32) (h3 : a3.IsWhole) (a4 : Memref sig .tc .vmem S8x64x64 .f32) (h4 : a4.IsWhole) (a5 : Memref sig .tc .vmem S8x1x1x128 .f32) (h5 : a5.IsWhole) (a6 : Memref sig .tc .vmem S1x8x128x128 .f32) (h6 : a6.IsWhole) (a7 : Memref sig .tc .vmem S64x1024 .f32) (h7 : a7.IsWhole) (a8 : Memref sig .tc .vmem S64x1024 .f32) (h8 : a8.IsWhole) (a9 : Memref sig .tc .vmem S64x1024 .f32) (h9 : a9.IsWhole) (a10 : Memref sig .tc .vmem S64x1024 .f32) (h10 : a10.IsWhole) (a11 : Memref sig .tc .vmem S64x1024 .f32) (h11 : a11.IsWhole) (a12 : Memref sig .tc .vmem S8x64x64 .f32) (h12 : a12.IsWhole) (a13 : Memref sig .tc .vmem S8x1x1x128 .f32) (h13 : a13.IsWhole) (am : Memref sig .tc .vmem S8x128x128 .f32) (hs : am.IsWhole) (hc : cond1 i)
    (x0 : Vec F S64x1024 .f32) (x1 : Vec F S64x1024 .f32) (x2 : Vec F S64x1024 .f32) (x3 : Vec F S64x1024 .f32) (x4 : Vec F S8x64x64 .f32) (x5 : Vec F S8x1x1x128 .f32) (x6 : Vec F S1x8x128x128 .f32) (x7 : Vec F S64x1024 .f32) :
    Σ' (L8 : List (View.Piece (Elt F) S64x1024 .f32)), Σ' (L9 : List (View.Piece (Elt F) S64x1024 .f32)), Σ' (L10 : List (View.Piece (Elt F) S64x1024 .f32)), Σ' (L11 : List (View.Piece (Elt F) S64x1024 .f32)), Σ' (L12 : List (View.Piece (Elt F) S8x64x64 .f32)), Σ' (L13 : List (View.Piece (Elt F) S8x1x1x128 .f32)), { LS : List (View.Piece (Elt F) S8x128x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) am fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L8) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ f, am.view.loc (c : Thread nD τ) ↦[am.view.set]{fullShare} am.view.writes (Elt F) f LS)) -∗ K ⟨⟩))
          ⊢ wp frame (wpE (defs₀ (F := F)) Variants.none c none) E (cc1_delta_scan_bwd i a0 h0 a1 h1 a2 h2 a3 h3 a4 h4 a5 h5 a6 h6 a7 h7 a8 h8 a9 h9 a10 h10 a11 h11 a12 h12 a13 h13 am hs) K } := by
  refine ⟨?_, ?_, ?_, ?_, ?_, ?_, ?_, fun E K => ?run⟩
  case run =>
    simp only [cc1_delta_scan_bwd_eq_skeleton]; unfold cc1_delta_scan_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds, %fs, -, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS

end Cert.KernelIdeal.Scan

end
-- ==== Proof.Scan.ScanBwdRunB.lean ====
module

public import proofs.«01_k».proof.Proof.Scan.ScanBwdRunA

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One chunk of the backward scan at a later point, the carried state at `xs`: the pieces its stores leave in each output buffer and in the carried
    state, with the proof that on whole buffers holding the inputs the body runs, keeps the inputs and leaves those pieces. -/
noncomputable def run1_B (c : Dev nD) (i : grid1.Coords) (a0 : Memref sig .tc .vmem S64x1024 .f32) (h0 : a0.IsWhole) (a1 : Memref sig .tc .vmem S64x1024 .f32) (h1 : a1.IsWhole) (a2 : Memref sig .tc .vmem S64x1024 .f32) (h2 : a2.IsWhole) (a3 : Memref sig .tc .vmem S64x1024 .f32) (h3 : a3.IsWhole) (a4 : Memref sig .tc .vmem S8x64x64 .f32) (h4 : a4.IsWhole) (a5 : Memref sig .tc .vmem S8x1x1x128 .f32) (h5 : a5.IsWhole) (a6 : Memref sig .tc .vmem S1x8x128x128 .f32) (h6 : a6.IsWhole) (a7 : Memref sig .tc .vmem S64x1024 .f32) (h7 : a7.IsWhole) (a8 : Memref sig .tc .vmem S64x1024 .f32) (h8 : a8.IsWhole) (a9 : Memref sig .tc .vmem S64x1024 .f32) (h9 : a9.IsWhole) (a10 : Memref sig .tc .vmem S64x1024 .f32) (h10 : a10.IsWhole) (a11 : Memref sig .tc .vmem S64x1024 .f32) (h11 : a11.IsWhole) (a12 : Memref sig .tc .vmem S8x64x64 .f32) (h12 : a12.IsWhole) (a13 : Memref sig .tc .vmem S8x1x1x128 .f32) (h13 : a13.IsWhole) (am : Memref sig .tc .vmem S8x128x128 .f32) (hs : am.IsWhole) (hc : ¬cond1 i)
    (x0 : Vec F S64x1024 .f32) (x1 : Vec F S64x1024 .f32) (x2 : Vec F S64x1024 .f32) (x3 : Vec F S64x1024 .f32) (x4 : Vec F S8x64x64 .f32) (x5 : Vec F S8x1x1x128 .f32) (x6 : Vec F S1x8x128x128 .f32) (x7 : Vec F S64x1024 .f32) (xs : Vec F S8x128x128 .f32) :
    Σ' (L8 : List (View.Piece (Elt F) S64x1024 .f32)), Σ' (L9 : List (View.Piece (Elt F) S64x1024 .f32)), Σ' (L10 : List (View.Piece (Elt F) S64x1024 .f32)), Σ' (L11 : List (View.Piece (Elt F) S64x1024 .f32)), Σ' (L12 : List (View.Piece (Elt F) S8x64x64 .f32)), Σ' (L13 : List (View.Piece (Elt F) S8x1x1x128 .f32)), { LS : List (View.Piece (Elt F) S8x128x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ owns (c : Thread nD τ) am fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L8) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ f, am.view.loc (c : Thread nD τ) ↦[am.view.set]{fullShare} am.view.writes (Elt F) f LS)) -∗ K ⟨⟩))
          ⊢ wp frame (wpE (defs₀ (F := F)) Variants.none c none) E (cc1_delta_scan_bwd i a0 h0 a1 h1 a2 h2 a3 h3 a4 h4 a5 h5 a6 h6 a7 h7 a8 h8 a9 h9 a10 h10 a11 h11 a12 h12 a13 h13 am hs) K } := by
  refine ⟨?_, ?_, ?_, ?_, ?_, ?_, ?_, fun E K => ?run⟩
  case run =>
    simp only [cc1_delta_scan_bwd_eq_skeleton]; unfold cc1_delta_scan_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs, %hfs, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := hs.eq_unread hfs
    sl_exec (disch := first | sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS

end Cert.KernelIdeal.Scan

end
-- ==== Proof.Scan.ScanBwd.lean ====
module

public import proofs.«01_k».proof.Proof.Scan.ScanBwdRunB

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The backward scan as a region entered with the buffers at `V` -/

/-- A window's block at a point, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The chunk's run at a grid point: its memrefs, its input blocks, the carried state it finds. -/
abbrev rA1 (c : Dev nD) (t : Fin cfg1.N) (h : t.val = 0) :=
  run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1 (Memref.isWhole_whole _) ((hcond1 t).mpr h) (iblk1 V c 0 t) (iblk1 V c 1 t) (iblk1 V c 2 t) (iblk1 V c 3 t) (iblk1 V c 4 t) (iblk1 V c 5 t) (iblk1 V c 6 t) (iblk1 V c 7 t)
abbrev rB1 (c : Dev nD) (t : Fin cfg1.N) (h : ¬t.val = 0) (xs : Vec F S8x128x128 .f32) :=
  run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1 (Memref.isWhole_whole _) (fun e => h ((hcond1 t).mp e)) (iblk1 V c 0 t) (iblk1 V c 1 t) (iblk1 V c 2 t) (iblk1 V c 3 t) (iblk1 V c 4 t) (iblk1 V c 5 t) (iblk1 V c 6 t) (iblk1 V c 7 t) xs
/-- The pieces of u's gradient cover its block; what they leave in it. -/
theorem cov1_A_8 (c : Dev nD) (t : Fin cfg1.N) (h : t.val = 0) (y : S64x1024.Idx) : ∃ pc ∈ (rA1 V c t h).1, y ∈ pc.1.set :=
  View.cover_of_tiledL (rA1 V c t h).1 S64x128.size (by sl_kernel_rfl) y
def o1_A_8 (c : Dev nD) (t : Fin cfg1.N) (h : t.val = 0) : Vec F S64x1024 .f32 :=
  VO1_8.read (Elt F) (VO1_8.writes (Elt F) VO1_8.junk (rA1 V c t h).1)
/-- The pieces of w's gradient cover its block; what they leave in it. -/
theorem cov1_A_9 (c : Dev nD) (t : Fin cfg1.N) (h : t.val = 0) (y : S64x1024.Idx) : ∃ pc ∈ (rA1 V c t h).2.1, y ∈ pc.1.set :=
  View.cover_of_tiledL (rA1 V c t h).2.1 S64x128.size (by sl_kernel_rfl) y
def o1_A_9 (c : Dev nD) (t : Fin cfg1.N) (h : t.val = 0) : Vec F S64x1024 .f32 :=
  VO1_9.read (Elt F) (VO1_9.writes (Elt F) VO1_9.junk (rA1 V c t h).2.1)
/-- The pieces of the queries' gradient cover its block; what they leave in it. -/
theorem cov1_A_10 (c : Dev nD) (t : Fin cfg1.N) (h : t.val = 0) (y : S64x1024.Idx) : ∃ pc ∈ (rA1 V c t h).2.2.1, y ∈ pc.1.set :=
  View.cover_of_tiledL (rA1 V c t h).2.2.1 S64x128.size (by sl_kernel_rfl) y
def o1_A_10 (c : Dev nD) (t : Fin cfg1.N) (h : t.val = 0) : Vec F S64x1024 .f32 :=
  VO1_10.read (Elt F) (VO1_10.writes (Elt F) VO1_10.junk (rA1 V c t h).2.2.1)
/-- The pieces of the keys' gradient cover its block; what they leave in it. -/
theorem cov1_A_11 (c : Dev nD) (t : Fin cfg1.N) (h : t.val = 0) (y : S64x1024.Idx) : ∃ pc ∈ (rA1 V c t h).2.2.2.1, y ∈ pc.1.set :=
  View.cover_of_tiledL (rA1 V c t h).2.2.2.1 S64x128.size (by sl_kernel_rfl) y
def o1_A_11 (c : Dev nD) (t : Fin cfg1.N) (h : t.val = 0) : Vec F S64x1024 .f32 :=
  VO1_11.read (Elt F) (VO1_11.writes (Elt F) VO1_11.junk (rA1 V c t h).2.2.2.1)
/-- The pieces of the intra-chunk matrices' gradient cover its block; what they leave in it. -/
theorem cov1_A_12 (c : Dev nD) (t : Fin cfg1.N) (h : t.val = 0) (y : S8x64x64.Idx) : ∃ pc ∈ (rA1 V c t h).2.2.2.2.1, y ∈ pc.1.set :=
  View.cover_of_tiledL (rA1 V c t h).2.2.2.2.1 S1x64x64.size (by sl_kernel_rfl) y
def o1_A_12 (c : Dev nD) (t : Fin cfg1.N) (h : t.val = 0) : Vec F S8x64x64 .f32 :=
  VO1_12.read (Elt F) (VO1_12.writes (Elt F) VO1_12.junk (rA1 V c t h).2.2.2.2.1)
/-- The pieces of the decays' gradient cover its block; what they leave in it. -/
theorem cov1_A_13 (c : Dev nD) (t : Fin cfg1.N) (h : t.val = 0) (y : S8x1x1x128.Idx) : ∃ pc ∈ (rA1 V c t h).2.2.2.2.2.1, y ∈ pc.1.set :=
  View.cover_of_tiledL (rA1 V c t h).2.2.2.2.2.1 S1x1x1x128.size (by sl_kernel_rfl) y
def o1_A_13 (c : Dev nD) (t : Fin cfg1.N) (h : t.val = 0) : Vec F S8x1x1x128 .f32 :=
  VO1_13.read (Elt F) (VO1_13.writes (Elt F) VO1_13.junk (rA1 V c t h).2.2.2.2.2.1)
/-- The pieces of the carried state cover it; what they leave in it. -/
theorem cov1_A_s (c : Dev nD) (t : Fin cfg1.N) (h : t.val = 0) (y : S8x128x128.Idx) : ∃ pc ∈ (rA1 V c t h).2.2.2.2.2.2.1, y ∈ pc.1.set :=
  View.cover_of_wholeMem (rA1 V c t h).2.2.2.2.2.2.1 (by sl_whole_mem) y
def o1_A_s (c : Dev nD) (t : Fin cfg1.N) (h : t.val = 0) : Vec F S8x128x128 .f32 :=
  VS1.read (Elt F) (VS1.writes (Elt F) VS1.junk (rA1 V c t h).2.2.2.2.2.2.1)
/-- The pieces of u's gradient cover its block; what they leave in it. -/
theorem cov1_B_8 (c : Dev nD) (t : Fin cfg1.N) (h : ¬t.val = 0) (xs : Vec F S8x128x128 .f32) (y : S64x1024.Idx) : ∃ pc ∈ (rB1 V c t h xs).1, y ∈ pc.1.set :=
  View.cover_of_tiledL (rB1 V c t h xs).1 S64x128.size (by sl_kernel_rfl) y
def o1_B_8 (c : Dev nD) (t : Fin cfg1.N) (h : ¬t.val = 0) (xs : Vec F S8x128x128 .f32) : Vec F S64x1024 .f32 :=
  VO1_8.read (Elt F) (VO1_8.writes (Elt F) VO1_8.junk (rB1 V c t h xs).1)
/-- The pieces of w's gradient cover its block; what they leave in it. -/
theorem cov1_B_9 (c : Dev nD) (t : Fin cfg1.N) (h : ¬t.val = 0) (xs : Vec F S8x128x128 .f32) (y : S64x1024.Idx) : ∃ pc ∈ (rB1 V c t h xs).2.1, y ∈ pc.1.set :=
  View.cover_of_tiledL (rB1 V c t h xs).2.1 S64x128.size (by sl_kernel_rfl) y
def o1_B_9 (c : Dev nD) (t : Fin cfg1.N) (h : ¬t.val = 0) (xs : Vec F S8x128x128 .f32) : Vec F S64x1024 .f32 :=
  VO1_9.read (Elt F) (VO1_9.writes (Elt F) VO1_9.junk (rB1 V c t h xs).2.1)
/-- The pieces of the queries' gradient cover its block; what they leave in it. -/
theorem cov1_B_10 (c : Dev nD) (t : Fin cfg1.N) (h : ¬t.val = 0) (xs : Vec F S8x128x128 .f32) (y : S64x1024.Idx) : ∃ pc ∈ (rB1 V c t h xs).2.2.1, y ∈ pc.1.set :=
  View.cover_of_tiledL (rB1 V c t h xs).2.2.1 S64x128.size (by sl_kernel_rfl) y
def o1_B_10 (c : Dev nD) (t : Fin cfg1.N) (h : ¬t.val = 0) (xs : Vec F S8x128x128 .f32) : Vec F S64x1024 .f32 :=
  VO1_10.read (Elt F) (VO1_10.writes (Elt F) VO1_10.junk (rB1 V c t h xs).2.2.1)
/-- The pieces of the keys' gradient cover its block; what they leave in it. -/
theorem cov1_B_11 (c : Dev nD) (t : Fin cfg1.N) (h : ¬t.val = 0) (xs : Vec F S8x128x128 .f32) (y : S64x1024.Idx) : ∃ pc ∈ (rB1 V c t h xs).2.2.2.1, y ∈ pc.1.set :=
  View.cover_of_tiledL (rB1 V c t h xs).2.2.2.1 S64x128.size (by sl_kernel_rfl) y
def o1_B_11 (c : Dev nD) (t : Fin cfg1.N) (h : ¬t.val = 0) (xs : Vec F S8x128x128 .f32) : Vec F S64x1024 .f32 :=
  VO1_11.read (Elt F) (VO1_11.writes (Elt F) VO1_11.junk (rB1 V c t h xs).2.2.2.1)
/-- The pieces of the intra-chunk matrices' gradient cover its block; what they leave in it. -/
theorem cov1_B_12 (c : Dev nD) (t : Fin cfg1.N) (h : ¬t.val = 0) (xs : Vec F S8x128x128 .f32) (y : S8x64x64.Idx) : ∃ pc ∈ (rB1 V c t h xs).2.2.2.2.1, y ∈ pc.1.set :=
  View.cover_of_tiledL (rB1 V c t h xs).2.2.2.2.1 S1x64x64.size (by sl_kernel_rfl) y
def o1_B_12 (c : Dev nD) (t : Fin cfg1.N) (h : ¬t.val = 0) (xs : Vec F S8x128x128 .f32) : Vec F S8x64x64 .f32 :=
  VO1_12.read (Elt F) (VO1_12.writes (Elt F) VO1_12.junk (rB1 V c t h xs).2.2.2.2.1)
/-- The pieces of the decays' gradient cover its block; what they leave in it. -/
theorem cov1_B_13 (c : Dev nD) (t : Fin cfg1.N) (h : ¬t.val = 0) (xs : Vec F S8x128x128 .f32) (y : S8x1x1x128.Idx) : ∃ pc ∈ (rB1 V c t h xs).2.2.2.2.2.1, y ∈ pc.1.set :=
  View.cover_of_tiledL (rB1 V c t h xs).2.2.2.2.2.1 S1x1x1x128.size (by sl_kernel_rfl) y
def o1_B_13 (c : Dev nD) (t : Fin cfg1.N) (h : ¬t.val = 0) (xs : Vec F S8x128x128 .f32) : Vec F S8x1x1x128 .f32 :=
  VO1_13.read (Elt F) (VO1_13.writes (Elt F) VO1_13.junk (rB1 V c t h xs).2.2.2.2.2.1)
/-- The pieces of the carried state cover it; what they leave in it. -/
theorem cov1_B_s (c : Dev nD) (t : Fin cfg1.N) (h : ¬t.val = 0) (xs : Vec F S8x128x128 .f32) (y : S8x128x128.Idx) : ∃ pc ∈ (rB1 V c t h xs).2.2.2.2.2.2.1, y ∈ pc.1.set :=
  View.cover_of_tiledL (rB1 V c t h xs).2.2.2.2.2.2.1 S1x128x128.size (by sl_kernel_rfl) y
def o1_B_s (c : Dev nD) (t : Fin cfg1.N) (h : ¬t.val = 0) (xs : Vec F S8x128x128 .f32) : Vec F S8x128x128 .f32 :=
  VS1.read (Elt F) (VS1.writes (Elt F) VS1.junk (rB1 V c t h xs).2.2.2.2.2.2.1)

/-- The carried state after the point at position `n`. -/
def st1 (c : Dev nD) : (n : ℕ) → n < cfg1.N → Vec F S8x128x128 .f32
  | 0, hn => o1_A_s V c ⟨0, hn⟩ rfl
  | n + 1, hn => o1_B_s V c ⟨n + 1, hn⟩ (Nat.succ_ne_zero n) (st1 c n (Nat.lt_of_succ_lt hn))
theorem st1_A (c : Dev nD) (t : Fin cfg1.N) (h : t.val = 0) : st1 V c t.val t.isLt = o1_A_s V c t h := by
  obtain ⟨n, hn⟩ := t
  cases n with
  | zero => rfl
  | succ n => exact absurd h (Nat.succ_ne_zero n)
theorem st1_B (c : Dev nD) (t : Fin cfg1.N) (h : ¬t.val = 0) :
    st1 V c t.val t.isLt = o1_B_s V c t h (st1 V c (t.val - 1) (Nat.lt_of_le_of_lt (Nat.sub_le _ _) t.isLt)) := by
  obtain ⟨n, hn⟩ := t
  cases n with
  | zero => exact absurd rfl h
  | succ n => rfl

/-- What a point leaves in the block of u's gradient. -/
def out1_8 (c : Dev nD) (t : Fin cfg1.N) : Vec F S64x1024 .f32 :=
  if h : t.val = 0 then o1_A_8 V c t h else o1_B_8 V c t h (st1 V c (t.val - 1) (Nat.lt_of_le_of_lt (Nat.sub_le _ _) t.isLt))
/-- What a point leaves in the block of w's gradient. -/
def out1_9 (c : Dev nD) (t : Fin cfg1.N) : Vec F S64x1024 .f32 :=
  if h : t.val = 0 then o1_A_9 V c t h else o1_B_9 V c t h (st1 V c (t.val - 1) (Nat.lt_of_le_of_lt (Nat.sub_le _ _) t.isLt))
/-- What a point leaves in the block of the queries' gradient. -/
def out1_10 (c : Dev nD) (t : Fin cfg1.N) : Vec F S64x1024 .f32 :=
  if h : t.val = 0 then o1_A_10 V c t h else o1_B_10 V c t h (st1 V c (t.val - 1) (Nat.lt_of_le_of_lt (Nat.sub_le _ _) t.isLt))
/-- What a point leaves in the block of the keys' gradient. -/
def out1_11 (c : Dev nD) (t : Fin cfg1.N) : Vec F S64x1024 .f32 :=
  if h : t.val = 0 then o1_A_11 V c t h else o1_B_11 V c t h (st1 V c (t.val - 1) (Nat.lt_of_le_of_lt (Nat.sub_le _ _) t.isLt))
/-- What a point leaves in the block of the intra-chunk matrices' gradient. -/
def out1_12 (c : Dev nD) (t : Fin cfg1.N) : Vec F S8x64x64 .f32 :=
  if h : t.val = 0 then o1_A_12 V c t h else o1_B_12 V c t h (st1 V c (t.val - 1) (Nat.lt_of_le_of_lt (Nat.sub_le _ _) t.isLt))
/-- What a point leaves in the block of the decays' gradient. -/
def out1_13 (c : Dev nD) (t : Fin cfg1.N) : Vec F S8x1x1x128 .f32 :=
  if h : t.val = 0 then o1_A_13 V c t h else o1_B_13 V c t h (st1 V c (t.val - 1) (Nat.lt_of_le_of_lt (Nat.sub_le _ _) t.isLt))

/-- The scoped buffers of the region beside its carried state. -/
abbrev rest1 (c : Dev nD) : sProp 𝕄 :=
  Pipeline.scopedRestBut (Ix := Unit) (Name := ℕ) (U := UR sig nD τ) (Lvl := ℕ) (Val := Elt F) spec1 c [cc1_scratch0]
theorem PhiA1_eq (c : Dev nD) :
    (Pipeline.ΦA spec1 c : sProp 𝕄) = iprop(iprop((∃ d, owns (c : Thread nD τ) scM1 fullShare d) ∗ rest1 c) ∗ (∃ r, prngReg c r)) := by
  unfold Pipeline.ΦA
  rw [show (Pipeline.scopedRest (Ix := Unit) (Name := ℕ) (U := UR sig nD τ) (Lvl := ℕ) (Val := Elt F) spec1 c : sProp 𝕄) = _
    from Pipeline.scopedRest_split_of_list spec1 c [cc1_scratch0] (by decide) (by decide)]
  simp only [scM1, owns_whole]; try rfl

/-- The region's invariant before position `n`: at the first the scratch at anything, later at what the point before left. -/
def Phi1 (c : Dev nD) : (n : ℕ) → n ≤ cfg1.N → sProp 𝕄
  | 0, _ => Pipeline.ΦA spec1 c
  | n + 1, hn => iprop(iprop(owns (c : Thread nD τ) scM1 fullShare (st1 V c n hn) ∗ rest1 c) ∗ (∃ r, prngReg c r))
theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) scM1 fullShare (st1 V c n hn) ∗ rest1 c) ∗ (∃ r, prngReg c r)) := rfl
theorem Phi1_pos (c : Dev nD) (n : ℕ) (h : n ≤ cfg1.N) (hz : n ≠ 0) :
    Phi1 V c n h = iprop(iprop(owns (c : Thread nD τ) scM1 fullShare (st1 V c (n - 1) (by omega)) ∗ rest1 c) ∗ (∃ r, prngReg c r)) := by
  cases n with
  | zero => exact absurd rfl hz
  | succ n => rfl

/-- The region's proof data: its arrays as entered, each input's buffer at its block and each output's at `out1_w` after a point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 V c t
    | ⟨9, _⟩ => out1_9 V c t
    | ⟨10, _⟩ => out1_10 V c t
    | ⟨11, _⟩ => out1_11 V c t
    | ⟨12, _⟩ => out1_12 V c t
    | ⟨13, _⟩ => out1_13 V c t
  Φ t := Phi1 V c t.val (Nat.le_of_lt_succ t.isLt)
  q _ := fullShare
  owed _ := 0
theorem A1_eq (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; exact Pipeline.Dat.Φ_castSucc (Phi1 V c) t
/-- What the body leaves in each window's buffer. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 V c t := by dsimp only [dat1]
theorem after1_9 (c : Dev nD) (t : Fin cfg1.N) : (dat1 V c).after 9 t = out1_9 V c t := by dsimp only [dat1]
theorem after1_10 (c : Dev nD) (t : Fin cfg1.N) : (dat1 V c).after 10 t = out1_10 V c t := by dsimp only [dat1]
theorem after1_11 (c : Dev nD) (t : Fin cfg1.N) : (dat1 V c).after 11 t = out1_11 V c t := by dsimp only [dat1]
theorem after1_12 (c : Dev nD) (t : Fin cfg1.N) : (dat1 V c).after 12 t = out1_12 V c t := by dsimp only [dat1]
theorem after1_13 (c : Dev nD) (t : Fin cfg1.N) : (dat1 V c).after 13 t = out1_13 V c t := by dsimp only [dat1]
/-- Each input's staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A1_eq]; try rfl) t d).trans
    (by unfold Dat.fetched Dat.blockOf iblk1; rw [A1_eq]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A1_eq]; try rfl) t d).trans
    (by unfold Dat.fetched Dat.blockOf iblk1; rw [A1_eq]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A1_eq]; try rfl) t d).trans
    (by unfold Dat.fetched Dat.blockOf iblk1; rw [A1_eq]; try rfl)

/-- What the body is called with at a point, and what it returns. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t))

set_option maxHeartbeats 6400000 in
/-- The body at any point: the run of its case, the carried state handed on. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9, after1_10, after1_11, after1_12, after1_13]
  rw [show (dat1 V c).Φ t.succ = Phi1 V c (t.val + 1) t.isLt from rfl, Phi1_succ, Phi1_castSucc V c t]
  by_cases h : t.val = 0
  · rw [Phi1_zero V c _ _ h, PhiA1_eq, st1_A V c t h]
    rw [show out1_8 V c t = o1_A_8 V c t h from dif_pos h]
    rw [show out1_9 V c t = o1_A_9 V c t h from dif_pos h]
    rw [show out1_10 V c t = o1_A_10 V c t h from dif_pos h]
    rw [show out1_11 V c t = o1_A_11 V c t h from dif_pos h]
    rw [show out1_12 V c t = o1_A_12 V c t h from dif_pos h]
    rw [show out1_13 V c t = o1_A_13 V c t h from dif_pos h]
    unfold o1_A_8 o1_A_9 o1_A_10 o1_A_11 o1_A_12 o1_A_13 o1_A_s
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((rA1 V c t h).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    iintro ⟨H0, H1, H2, H3, H4, H5, H6, H7, ⟨%e8, H8⟩, ⟨%e9, H9⟩, ⟨%e10, H10⟩, ⟨%e11, H11⟩, ⟨%e12, H12⟩, ⟨%e13, H13⟩, ⟨%es, HS⟩⟩
    isplitl [HS HR Hg]
    · isplitl [HS HR]
      · isplitl [HS]
        · unfold owns; iexists _; isplitr
          swap; · iexact HS
          ipureintro; exact View.read_writes_of_cover _ _ _ _ _ (cov1_A_s V c t h)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cov1_A_8 V c t h)
    isplitl [H9]
    · unfold owns; iexists _; isplitr
      swap; · iexact H9
      ipureintro; exact View.read_writes_of_cover _ _ _ _ _ (cov1_A_9 V c t h)
    isplitl [H10]
    · unfold owns; iexists _; isplitr
      swap; · iexact H10
      ipureintro; exact View.read_writes_of_cover _ _ _ _ _ (cov1_A_10 V c t h)
    isplitl [H11]
    · unfold owns; iexists _; isplitr
      swap; · iexact H11
      ipureintro; exact View.read_writes_of_cover _ _ _ _ _ (cov1_A_11 V c t h)
    isplitl [H12]
    · unfold owns; iexists _; isplitr
      swap; · iexact H12
      ipureintro; exact View.read_writes_of_cover _ _ _ _ _ (cov1_A_12 V c t h)
    unfold owns; iexists _; isplitr
    swap; · iexact H13
    ipureintro; exact View.read_writes_of_cover _ _ _ _ _ (cov1_A_13 V c t h)
  · rw [Phi1_pos V c _ _ h, st1_B V c t h]
    rw [show out1_8 V c t = o1_B_8 V c t h _ from dif_neg h]
    rw [show out1_9 V c t = o1_B_9 V c t h _ from dif_neg h]
    rw [show out1_10 V c t = o1_B_10 V c t h _ from dif_neg h]
    rw [show out1_11 V c t = o1_B_11 V c t h _ from dif_neg h]
    rw [show out1_12 V c t = o1_B_12 V c t h _ from dif_neg h]
    rw [show out1_13 V c t = o1_B_13 V c t h _ from dif_neg h]
    unfold o1_B_8 o1_B_9 o1_B_10 o1_B_11 o1_B_12 o1_B_13 o1_B_s
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((rB1 V c t h _).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexact HS
    iintro ⟨H0, H1, H2, H3, H4, H5, H6, H7, ⟨%e8, H8⟩, ⟨%e9, H9⟩, ⟨%e10, H10⟩, ⟨%e11, H11⟩, ⟨%e12, H12⟩, ⟨%e13, H13⟩, ⟨%es, HS⟩⟩
    isplitl [HS HR Hg]
    · isplitl [HS HR]
      · isplitl [HS]
        · unfold owns; iexists _; isplitr
          swap; · iexact HS
          ipureintro; exact View.read_writes_of_cover _ _ _ _ _ (cov1_B_s V c t h _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cov1_B_8 V c t h _)
    isplitl [H9]
    · unfold owns; iexists _; isplitr
      swap; · iexact H9
      ipureintro; exact View.read_writes_of_cover _ _ _ _ _ (cov1_B_9 V c t h _)
    isplitl [H10]
    · unfold owns; iexists _; isplitr
      swap; · iexact H10
      ipureintro; exact View.read_writes_of_cover _ _ _ _ _ (cov1_B_10 V c t h _)
    isplitl [H11]
    · unfold owns; iexists _; isplitr
      swap; · iexact H11
      ipureintro; exact View.read_writes_of_cover _ _ _ _ _ (cov1_B_11 V c t h _)
    isplitl [H12]
    · unfold owns; iexists _; isplitr
      swap; · iexact H12
      ipureintro; exact View.read_writes_of_cover _ _ _ _ _ (cov1_B_12 V c t h _)
    unfold owns; iexists _; isplitr
    swap; · iexact H13
    ipureintro; exact View.read_writes_of_cover _ _ _ _ _ (cov1_B_13 V c t h _)

/-- The library's body obligation, at every point. -/
theorem body_obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound_body1 V c t) rfl .rfl fun _ => .rfl

/-- After the last point the invariant gives the class's back, the carried state forgotten. -/
theorem Phi1_last (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = Phi1 V c (Fin.last cfg1.N).val (Nat.le_of_lt_succ (Fin.last cfg1.N).isLt) from rfl,
    Phi1_pos V c _ _ hne, PhiA1_eq]
  iintro ⟨⟨HS, HR⟩, Hg⟩
  isplitl [HS HR]
  · isplitl [HS]
    · iexists _; iexact HS
    iexact HR
  iexact Hg

end Cert.KernelIdeal.Scan

end
-- ==== Proof.Scan.Launch.lean ====
module

public import proofs.«01_k».proof.Proof.Scan.ScanFwd
public import proofs.«01_k».proof.Proof.Scan.ScanBwd
public import Idealize.ShloMosaic.Lib.Pipeline.RegionsLoop
public import Idealize.ShloMosaic.Lib.Pipeline.FrameSuffix

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of both scans: the buffers after each region, and the launch -/

/-- The seven argument arrays. -/
abbrev argRefs : List (Ref sig .tc) := [main_arg0, main_arg1, main_arg2, main_arg3, main_arg4, main_arg5, main_arg6]

/-- The buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- The buffers after region 0: its arrays at what its points write back, every other as before. -/
def W1 (c : Dev nD) : Valuation τ sig (Elt F) :=
  Pipeline.withArrays spec0 c (W0 m c) fun w => (dat0 (V0 m) c).arrAt w cfg0.N
abbrev V1 : (c : Dev nD) → (b : Ref sig .tc) → Buf (Elt F) ((c : Thread nD τ).loc b) := fun c b => W1 m c b
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- A buffer that is no output array of region 0 is unchanged by it. -/
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((dat0 (V0 m) c).arrAt_in w (h w rfl) _).trans (A0_eq (V0 m) c w))
  · exact W1_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) (a : Ref sig .tc) (ha : a ∈ argRefs) : W1 m c (Proc.devRef .tc a) = m ((c : Thread nD τ).loc a) :=
  (W1_of m c a (argsIn0 a ha)).trans (rfl)
theorem arrays0 (c : Dev nD) (w : Fin cfg0.W) : (dat0 (V0 m) c).arrAt w cfg0.N = V1 m c (Pipeline.arrRef spec0 w) :=
  (W1_arr m c w).symm
theorem others0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- The buffers after region 1: its arrays at what its points write back, every other as before. -/
def W2 (c : Dev nD) : Valuation τ sig (Elt F) :=
  Pipeline.withArrays spec1 c (W1 m c) fun w => (dat1 (V1 m) c).arrAt w cfg1.N
abbrev V2 : (c : Dev nD) → (b : Ref sig .tc) → Buf (Elt F) ((c : Thread nD τ).loc b) := fun c b => W2 m c b
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- A buffer that is no output array of region 1 is unchanged by it. -/
theorem W2_of (c : Dev nD) (r : Ref sig .tc) (h : ∀ w : Fin cfg1.W, Pipeline.arrRef spec1 w = r → (cfg1.win w).isOut = false) :
    W2 m c (Proc.devRef .tc r) = W1 m c (Proc.devRef .tc r) := by
  by_cases hw : ∃ w : Fin cfg1.W, Pipeline.arrRef spec1 w = r
  · obtain ⟨w, rfl⟩ := hw
    exact (W2_arr m c w).trans (((dat1 (V1 m) c).arrAt_in w (h w rfl) _).trans (A1_eq (V1 m) c w))
  · exact W2_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) (a : Ref sig .tc) (ha : a ∈ argRefs) : W2 m c (Proc.devRef .tc a) = m ((c : Thread nD τ).loc a) :=
  (W2_of m c a (argsIn1 a ha)).trans (W1_args m c a ha)
theorem arrays1 (c : Dev nD) (w : Fin cfg1.W) : (dat1 (V1 m) c).arrAt w cfg1.N = V2 m c (Pipeline.arrRef spec1 w) :=
  (W2_arr m c w).symm
theorem others1 (c : Dev nD) : ∀ b, b ∉ Finset.univ.image (Pipeline.arrRef spec1) → V2 m c b = V1 m c b :=
  fun b hb => W2_of_ne m c b fun w e => hb (Finset.mem_image.mpr ⟨w, Finset.mem_univ _, e⟩)

abbrev adm : (p : Fin 2) → (pcfgs (F := F) p).Adm := fun p => (cfgs p).toPCfg_adm
/-- Both regions' proof data, each at the buffers it is entered with. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev Lnone : GSem nD τ sig → Finset Unit := fun _ => ∅
abbrev lv : GSem nD τ sig → Unit → ℕ := fun _ _ => 0
/-- What rides beside the buffers: the generator's register and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

set_option backward.isDefEq.respectTransparency.types false in
/-- Region 0 as a segment of the run, from the buffers at `W0` to the buffers at `W1`. -/
def reg0 : Pipeline.RegionSeg (pcfgs (F := F)) adm (pdats m) () defs₀ 𝒱₀ Lnone lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ Lnone lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (A0_eq (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hl : (pdats m 0 c).Φ (Fin.last _) ⊢ Pipeline.ΦA spec0 c := Phi0_last (V0 m) c
    unfold Pipeline.ΦA at hl
    iintro H
    ihave H := hl $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (arrays0 m c) (others0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run, from the buffers at `W1` to the buffers at `W2`. -/
def reg1 : Pipeline.RegionSeg (pcfgs (F := F)) adm (pdats m) () defs₀ 𝒱₀ Lnone lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ Lnone lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) (A1_eq (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hl : (pdats m 1 c).Φ (Fin.last _) ⊢ Pipeline.ΦA spec1 c := Phi1_last (V1 m) c
    unfold Pipeline.ΦA at hl
    iintro H
    ihave H := hl $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (arrays1 m c) (others1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ Lnone lv) := [.region (reg0 m), .region (reg1 m)]
theorem main_run (c : Dev nD) : main (F := F) c = Pipeline.Seg.run (segs m) := (main_chain c).trans (by chain_rfl)
theorem no_unscoped : ∀ sm : SemLoc sig, sm.isScoped .tc = true := by decide

set_option backward.isDefEq.respectTransparency.types false in
/-- From any memory with zero counters every fair execution ends, nothing faulting, with every buffer of the host at `W2`
    and every counter at zero. -/
theorem run_main : θ_run defs (onTc (τ := τ) (main (F := F))) ⟨m, fun _ => 0, ρ⟩ (fun r =>
      (∀ c : Dev nD, ∀ b : Ref sig .tc, ¬ (Proc.devRef .tc b : DevRef τ sig).isScoped → r.2.mem ((c.tc : Thread nD τ).loc b) = V2 m c b)
      ∧ r.2.sem = fun _ => 0) :=
  Pipeline.θ_run_regions_kit_sems (pcfgs (F := F)) adm (pdats m) () cellOf_inj emb₁ defs₀ 𝒱₀ Lnone lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach Lnone lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h hz => ⟨fun c b hb => h c _ (mem_uc b hb), funext fun g => hz g (.inr (no_unscoped g.2))⟩)

/-- The argument arrays end as launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c main_arg0 (by decide)).trans (W2_args m c main_arg0 (by decide)),
    (h.1 c main_arg1 (by decide)).trans (W2_args m c main_arg1 (by decide)),
    (h.1 c main_arg2 (by decide)).trans (W2_args m c main_arg2 (by decide)),
    (h.1 c main_arg3 (by decide)).trans (W2_args m c main_arg3 (by decide)),
    (h.1 c main_arg4 (by decide)).trans (W2_args m c main_arg4 (by decide)),
    (h.1 c main_arg5 (by decide)).trans (W2_args m c main_arg5 (by decide)),
    (h.1 c main_arg6 (by decide)).trans (W2_args m c main_arg6 (by decide))⟩, h.2⟩) (run_main m ρ)

end Cert.KernelIdeal.Scan

end
-- ==== Proof.Scan.FrameKernel.lean ====
/- The kernel's frame over machine floats, from the run written over any float values: the two programs have the same text. -/
module

public import proofs.«01_k».proof.Defs
public import proofs.«01_k».proof.Proof.Gen.Kernel
public import proofs.«01_k».proof.Proof.Scan.Launch

@[expose] public section

set_option maxHeartbeats 40000000

namespace Cert.Proof.Scan

open Idealize.ShloMosaic Idealize.SL.Sem

/-- The two programs' kernel bodies are the same. -/
theorem bodies (p : Proc Cert.Kernel.τ) (l : Fin 2) (x : Cert.Kernel.Λ₀.Args l) :
    Cert.Kernel.defs₀ (F := Bits) p l x = Cert.KernelIdeal.defs₀ (F := Bits) p l x := by
  cases p with
  | tc =>
    match l, x with
    | 0, (t, s) => rfl
    | 1, (t, s) => rfl
  | scScalar _ => rfl
  | scVector _ _ => rfl

/-- And so are the body tables with the pipelines' own labels. -/
theorem tables : Cert.Kernel.defs (F := Bits) = Pipeline.defs Cert.Kernel.pcfgs (Cert.KernelIdeal.defs₀ (F := Bits)) :=
  congrArg (Pipeline.defs Cert.Kernel.pcfgs) (funext fun p => funext fun l => funext fun x => bodies p l x)

theorem frame_kernel : Cert.quiescent_Kernel := fun m g _ => by
  rw [tables]
  exact (θ_run Cert.KernelIdeal.defs _ _).mono (fun _ h => h) (Cert.KernelIdeal.Scan.frame (F := Bits) m g)

end Cert.Proof.Scan

end
-- ==== Proof.Scan.ChunkMath.lean ====
module

public import Idealize.ShloMosaic.Lib.Pointwise

@[expose] public section

noncomputable section

namespace Cert.DeltaScan

open Idealize.ShloMosaic

/-! # One chunk of the gated delta rule, in extended reals

  Eight heads, 64 rows in a chunk, 128 columns in a head. `u w q k` are the rows of one chunk, `A` its 64×64 matrices, `g` its decays,
  `s` the state the chunk starts from and `ds` the derivative with respect to the state the chunk ends in. -/

abbrev Rows := Fin 8 → Fin 64 → Fin 128 → EReal
abbrev Sq := Fin 8 → Fin 64 → Fin 64 → EReal
abbrev Dec := Fin 8 → Fin 128 → EReal
abbrev St := Fin 8 → Fin 128 → Fin 128 → EReal

variable (u w q k : Rows) (A : Sq) (g : Dec) (s : St) (dO : Rows) (ds : St)

/-- The corrected values `u - w s`. -/
def vnew : Rows := fun h r e => u h r e - ∑ d : Fin 128, w h r d * s h d e
/-- The chunk's output `q s + A v`. -/
def outp : Rows := fun h r e => (∑ d : Fin 128, q h r d * s h d e) + ∑ j : Fin 64, A h r j * vnew u w s h j e
/-- The state after the chunk: `s` scaled column by column, plus `kᵀ v`. -/
def next : St := fun h d e => s h d e * g h e + ∑ r : Fin 64, k h r d * vnew u w s h r e

/-- The derivative with respect to the corrected values (and so to `u`). -/
def du : Rows := fun h r e => (∑ d : Fin 128, k h r d * ds h d e) + ∑ i : Fin 64, A h i r * dO h i e
/-- The derivative with respect to `w`. -/
def dw : Rows := fun h r d => ∑ e : Fin 128, (0 - du k A dO ds h r e) * s h d e
/-- The derivative with respect to `q`. -/
def dq : Rows := fun h r d => ∑ e : Fin 128, dO h r e * s h d e
/-- The derivative with respect to `k`. -/
def dk : Rows := fun h r d => ∑ e : Fin 128, vnew u w s h r e * ds h d e
/-- The derivative with respect to `A`. -/
def dA : Sq := fun h i j => ∑ e : Fin 128, dO h i e * vnew u w s h j e
/-- The derivative with respect to the decays. -/
def dg : Dec := fun h e => ∑ d : Fin 128, s h d e * ds h d e
/-- The derivative with respect to the state the chunk starts from. -/
def prev : St := fun h d e =>
  ds h d e * g h e + (∑ r : Fin 64, q h r d * dO h r e) + ∑ r : Fin 64, w h r d * (0 - du k A dO ds h r e)

/-! ## Arrays and blocks read head by head -/

/-- Column `e` of head `h` among the 1024 columns of all heads. -/
abbrev col (h : Fin 8) (e : Fin 128) : Fin 1024 := ⟨128 * h.val + e.val, by omega⟩
/-- Row `r` of chunk `n` among the 4096 rows of all chunks. -/
abbrev row (n r : Fin 64) : Fin 4096 := ⟨64 * n.val + r.val, by omega⟩

/-- A block of one chunk's rows, read head by head. -/
def bRows (x : (⟨2, ![64, 1024]⟩ : Shape).Idx → EReal) : Rows := fun h r e => x (ix2 r (col h e))
def bSq (x : (⟨3, ![8, 64, 64]⟩ : Shape).Idx → EReal) : Sq := fun h i j => x (ix3 h i j)
def bDec (x : (⟨4, ![8, 1, 1, 128]⟩ : Shape).Idx → EReal) : Dec := fun h e => x (ix4 h 0 0 e)
def bSt (x : (⟨3, ![8, 128, 128]⟩ : Shape).Idx → EReal) : St := fun h d e => x (ix3 h d e)
def bSt1 (x : (⟨4, ![1, 8, 128, 128]⟩ : Shape).Idx → EReal) : St := fun h d e => x (ix4 0 h d e)

/-- The block that reads so. -/
def ofRows (f : Rows) : (⟨2, ![64, 1024]⟩ : Shape).Idx → EReal := fun y =>
  f ⟨(y 1).val / 128, by have : (y 1).val < 1024 := (y 1).isLt; omega⟩ (y 0) ⟨(y 1).val % 128, Nat.mod_lt _ (by decide)⟩
def ofSq (f : Sq) : (⟨3, ![8, 64, 64]⟩ : Shape).Idx → EReal := fun y => f (y 0) (y 1) (y 2)
def ofDec (f : Dec) : (⟨4, ![8, 1, 1, 128]⟩ : Shape).Idx → EReal := fun y => f (y 0) (y 3)
def ofSt (f : St) : (⟨3, ![8, 128, 128]⟩ : Shape).Idx → EReal := fun y => f (y 0) (y 1) (y 2)
def ofSt1 (f : St) : (⟨4, ![1, 8, 128, 128]⟩ : Shape).Idx → EReal := fun y => f (y 1) (y 2) (y 3)

theorem ofRows_at (f : Rows) (h : Fin 8) (r : Fin 64) (e : Fin 128) (y : (⟨2, ![64, 1024]⟩ : Shape).Idx)
    (h0 : (y 0).val = r.val) (h1 : (y 1).val = 128 * h.val + e.val) : ofRows f y = f h r e := by
  unfold ofRows
  have e1 : (⟨(y 1).val / 128, by have : (y 1).val < 1024 := (y 1).isLt; omega⟩ : Fin 8) = h := Fin.ext (by simp only [h1]; omega)
  have e2 : (⟨(y 1).val % 128, Nat.mod_lt _ (by decide)⟩ : Fin 128) = e := Fin.ext (by simp only [h1]; omega)
  have e0 : (y 0 : Fin 64) = r := Fin.ext h0
  rw [e1, e2, e0]
theorem ofSq_at (f : Sq) (h : Fin 8) (i j : Fin 64) (y : (⟨3, ![8, 64, 64]⟩ : Shape).Idx)
    (h0 : (y 0).val = h.val) (h1 : (y 1).val = i.val) (h2 : (y 2).val = j.val) : ofSq f y = f h i j := by
  unfold ofSq
  rw [show (y 0 : Fin 8) = h from Fin.ext h0, show (y 1 : Fin 64) = i from Fin.ext h1, show (y 2 : Fin 64) = j from Fin.ext h2]
theorem ofDec_at (f : Dec) (h : Fin 8) (e : Fin 128) (y : (⟨4, ![8, 1, 1, 128]⟩ : Shape).Idx)
    (h0 : (y 0).val = h.val) (h1 : (y 3).val = e.val) : ofDec f y = f h e := by
  unfold ofDec
  rw [show (y 0 : Fin 8) = h from Fin.ext h0, show (y 3 : Fin 128) = e from Fin.ext h1]
theorem ofSt_at (f : St) (h : Fin 8) (d e : Fin 128) (y : (⟨3, ![8, 128, 128]⟩ : Shape).Idx)
    (h0 : (y 0).val = h.val) (h1 : (y 1).val = d.val) (h2 : (y 2).val = e.val) : ofSt f y = f h d e := by
  unfold ofSt
  rw [show (y 0 : Fin 8) = h from Fin.ext h0, show (y 1 : Fin 128) = d from Fin.ext h1, show (y 2 : Fin 128) = e from Fin.ext h2]
theorem ofSt1_at (f : St) (h : Fin 8) (d e : Fin 128) (y : (⟨4, ![1, 8, 128, 128]⟩ : Shape).Idx)
    (h0 : (y 1).val = h.val) (h1 : (y 2).val = d.val) (h2 : (y 3).val = e.val) : ofSt1 f y = f h d e := by
  unfold ofSt1
  rw [show (y 1 : Fin 8) = h from Fin.ext h0, show (y 2 : Fin 128) = d from Fin.ext h1, show (y 3 : Fin 128) = e from Fin.ext h2]

@[simp] theorem bSt_ofSt (f : St) : bSt (ofSt f) = f := rfl
@[simp] theorem bSt1_ofSt1 (f : St) : bSt1 (ofSt1 f) = f := rfl

/-! ## All chunks -/

/-- Chunk `n`, and the chunk the backward scan reaches at its step `n`: it goes through the chunks from the last to the first. -/
def ck (n : ℕ) : Fin 64 := ⟨n % 64, Nat.mod_lt _ (by decide)⟩
def rk (n : ℕ) : Fin 64 := ck (63 - n)
theorem ck_val (t : Fin 64) : ck t.val = t := Fin.ext (Nat.mod_eq_of_lt t.isLt)

variable (us ws qs ks : Fin 64 → Rows) (As : Fin 64 → Sq) (gs : Fin 64 → Dec) (dOs : Fin 64 → Rows)

/-- The state chunk `n` starts from. -/
def state : ℕ → St
  | 0 => fun _ _ _ => 0
  | n + 1 => next (us (ck n)) (ws (ck n)) (ks (ck n)) (gs (ck n)) (state n)
/-- The derivative with respect to the state that the backward scan carries into its step `n`. -/
def dstate : ℕ → St
  | 0 => fun _ _ _ => 0
  | n + 1 => prev (ws (rk n)) (qs (rk n)) (ks (rk n)) (As (rk n)) (gs (rk n)) (dOs (rk n)) (dstate n)

/-- The seven results, chunk by chunk. -/
def O (n : Fin 64) : Rows := outp (us n) (ws n) (qs n) (As n) (state us ws ks gs n.val)
def DU (n : Fin 64) : Rows := du (ks n) (As n) (dOs n) (dstate ws qs ks As gs dOs (63 - n.val))
def DW (n : Fin 64) : Rows := dw (ks n) (As n) (state us ws ks gs n.val) (dOs n) (dstate ws qs ks As gs dOs (63 - n.val))
def DQ (n : Fin 64) : Rows := dq (state us ws ks gs n.val) (dOs n)
def DK (n : Fin 64) : Rows := dk (us n) (ws n) (state us ws ks gs n.val) (dstate ws qs ks As gs dOs (63 - n.val))
def DA (n : Fin 64) : Sq := dA (us n) (ws n) (state us ws ks gs n.val) (dOs n)
def DG (n : Fin 64) : Dec := dg (state us ws ks gs n.val) (dstate ws qs ks As gs dOs (63 - n.val))

/-- The arrays read chunk by chunk. -/
def cRows (X : (⟨2, ![4096, 1024]⟩ : Shape).Idx → EReal) (n : Fin 64) : Rows := fun h r e => X (ix2 (row n r) (col h e))
def cSq (X : (⟨3, ![8, 4096, 64]⟩ : Shape).Idx → EReal) (n : Fin 64) : Sq := fun h i j => X (ix3 h (row n i) j)
def cDec (X : (⟨4, ![8, 64, 1, 128]⟩ : Shape).Idx → EReal) (n : Fin 64) : Dec := fun h e => X (ix4 h n 0 e)

/-- The arrays that read so. -/
def ofChunks (f : Fin 64 → Rows) : (⟨2, ![4096, 1024]⟩ : Shape).Idx → EReal := fun y =>
  f ⟨(y 0).val / 64, by have : (y 0).val < 4096 := (y 0).isLt; omega⟩ ⟨(y 1).val / 128, by have : (y 1).val < 1024 := (y 1).isLt; omega⟩
    ⟨(y 0).val % 64, Nat.mod_lt _ (by decide)⟩ ⟨(y 1).val % 128, Nat.mod_lt _ (by decide)⟩
def ofChunksSq (f : Fin 64 → Sq) : (⟨3, ![8, 4096, 64]⟩ : Shape).Idx → EReal := fun y =>
  f ⟨(y 1).val / 64, by have : (y 1).val < 4096 := (y 1).isLt; omega⟩ (y 0) ⟨(y 1).val % 64, Nat.mod_lt _ (by decide)⟩ (y 2)
def ofChunksDec (f : Fin 64 → Dec) : (⟨4, ![8, 64, 1, 128]⟩ : Shape).Idx → EReal := fun y => f (y 1) (y 0) (y 3)

theorem ofChunks_at (f : Fin 64 → Rows) (n : Fin 64) (g : Rows) (hg : f n = g) (x : (⟨2, ![64, 1024]⟩ : Shape).Idx) (y : (⟨2, ![4096, 1024]⟩ : Shape).Idx)
    (h0 : (y 0).val = n.val * 64 + (x 0).val) (h1 : (y 1).val = (x 1).val) : ofRows g x = ofChunks f y := by
  subst hg
  unfold ofChunks ofRows
  have hx : (x 0).val < 64 := (x 0).isLt
  have e0 : (⟨(y 0).val / 64, by have : (y 0).val < 4096 := (y 0).isLt; omega⟩ : Fin 64) = n := Fin.ext (by simp only [h0]; omega)
  have e1 : (⟨(y 0).val % 64, Nat.mod_lt _ (by decide)⟩ : Fin 64) = x 0 := Fin.ext (by simp only [h0]; omega)
  rw [e0, e1]; simp only [h1]
theorem ofChunksSq_at (f : Fin 64 → Sq) (n : Fin 64) (g : Sq) (hg : f n = g) (x : (⟨3, ![8, 64, 64]⟩ : Shape).Idx) (y : (⟨3, ![8, 4096, 64]⟩ : Shape).Idx)
    (h0 : (y 0).val = (x 0).val) (h1 : (y 1).val = n.val * 64 + (x 1).val) (h2 : (y 2).val = (x 2).val) : ofSq g x = ofChunksSq f y := by
  subst hg
  unfold ofChunksSq ofSq
  have hx : (x 1).val < 64 := (x 1).isLt
  have e0 : (⟨(y 1).val / 64, by have : (y 1).val < 4096 := (y 1).isLt; omega⟩ : Fin 64) = n := Fin.ext (by simp only [h1]; omega)
  have e1 : (⟨(y 1).val % 64, Nat.mod_lt _ (by decide)⟩ : Fin 64) = x 1 := Fin.ext (by simp only [h1]; omega)
  rw [e0, e1, show (y 0 : Fin 8) = x 0 from Fin.ext h0, show (y 2 : Fin 64) = x 2 from Fin.ext h2]
theorem ofChunksDec_at (f : Fin 64 → Dec) (n : Fin 64) (g : Dec) (hg : f n = g) (x : (⟨4, ![8, 1, 1, 128]⟩ : Shape).Idx) (y : (⟨4, ![8, 64, 1, 128]⟩ : Shape).Idx)
    (h0 : (y 0).val = (x 0).val) (h1 : (y 1).val = n.val) (h3 : (y 3).val = (x 3).val) : ofDec g x = ofChunksDec f y := by
  subst hg
  unfold ofChunksDec ofDec
  rw [show (y 0 : Fin 8) = x 0 from Fin.ext h0, show (y 1 : Fin 64) = n from Fin.ext h1, show (y 3 : Fin 128) = x 3 from Fin.ext h3]

/-- The states of all chunks, as an array. -/
def cSt (X : (⟨4, ![64, 8, 128, 128]⟩ : Shape).Idx → EReal) (n : Fin 64) : St := fun h d e => X (ix4 n h d e)
def ofChunksSt (f : Fin 64 → St) : (⟨4, ![64, 8, 128, 128]⟩ : Shape).Idx → EReal := fun y => f (y 0) (y 1) (y 2) (y 3)
theorem cSt_ofChunksSt (f : Fin 64 → St) : cSt (ofChunksSt f) = f := rfl
theorem ofChunksSt_at (f : Fin 64 → St) (n : Fin 64) (g : St) (hg : f n = g) (x : (⟨4, ![1, 8, 128, 128]⟩ : Shape).Idx) (y : (⟨4, ![64, 8, 128, 128]⟩ : Shape).Idx)
    (h0 : (y 0).val = n.val) (h1 : (y 1).val = (x 1).val) (h2 : (y 2).val = (x 2).val) (h3 : (y 3).val = (x 3).val) : ofSt1 g x = ofChunksSt f y := by
  subst hg
  unfold ofChunksSt ofSt1
  rw [show (y 0 : Fin 64) = n from Fin.ext h0, show (y 1 : Fin 8) = x 1 from Fin.ext h1, show (y 2 : Fin 128) = x 2 from Fin.ext h2,
    show (y 3 : Fin 128) = x 3 from Fin.ext h3]

end Cert.DeltaScan

end
-- ==== Proof.Scan.FwdPieces.lean ====
module

public import proofs.«01_k».proof.Proof.Scan.ScanFwd
public import proofs.«01_k».proof.Proof.Scan.ChunkMath
public import Idealize.ShloMosaic.Lib.Pipeline.Value
public import Idealize.ShloMosaic.Lib.Pipeline.CanonAppend
public import Idealize.ShloMosaic.Lib.Pipeline.ValueKit

@[expose] public section

set_option maxRecDepth 16384

noncomputable section

namespace Cert.KernelIdeal.Scan

open Cert.DeltaScan
open Cert.KernelIdeal Cert.KernelIdeal.Gen Idealize.ShloMosaic Idealize.ShloMosaic.TcCoe Idealize.ShloMosaic.Tactic Idealize.SL.Sem

/-! # What one chunk of the forward scan stores, head by head -/

/-- A load from a buffer filled by one store through its whole rectangle reads the payload. -/
theorem readCov_zeroed {S : Shape} (v : View sig .tc .vmem S .f32) {off : Fin S.rank → ℕ} (inb : ∀ a, off a + S.size a ≤ S.size a)
    (w : S.Idx → Elt Ideal .f32) (r : Rect S) (h0 : ∀ a, off a = 0) :
    v.readCov [(⟨Rect.unit off (no_index S.size) inb, w⟩ : View.Piece (Elt Ideal) S .f32)] r.toLoadRect = View.ld w r := by
  have h := View.canon_unit_zero (Val := Elt Ideal) (e := .f32) (funext h0) inb w
  rw [View.readCov_eq_canon_ld _ _ _ (fun y => ⟨_, List.mem_singleton_self _, View.mem_set_unit_zero (funext h0) inb y⟩)]
  exact congrArg (fun X => View.ld X r) h

/-! A block's array is given by its heads: a store to head `k` writes what the array holds there if it does so entry by entry. -/

theorem ofRows_piece (T : Rows) (k : Fin 8) {off : Fin 2 → ℕ} {inb} {w : (⟨2, ![64, 128]⟩ : Shape).Idx → EReal}
    (h : ∀ r e, w (ix2 r e) = T k r e) (h0 : off 0 = 0 := by rfl) (h1 : off 1 = 128 * k.val := by rfl) :
    ∀ x, w x = ofRows T ((Rect.unit (s := ⟨2, ![64, 1024]⟩) off ![64, 128] inb).emb x) := by
  intro x; idx_vars x
  rw [ofRows_at T k x0 x1 _ ((ValueKit.rect_emb_unit_val _ _ _ _ _).trans ((congrArg (· + x0.val) h0).trans (Nat.zero_add _)))
    ((ValueKit.rect_emb_unit_val _ _ _ _ _).trans (congrArg (· + x1.val) h1))]
  exact h x0 x1

theorem ofSq_piece (T : Sq) (k : Fin 8) {off : Fin 3 → ℕ} {inb} {w : (⟨3, ![1, 64, 64]⟩ : Shape).Idx → EReal}
    (h : ∀ r e, w (ix3 0 r e) = T k r e) (h0 : off 0 = k.val := by rfl) (h1 : off 1 = 0 := by rfl) (h2 : off 2 = 0 := by rfl) :
    ∀ x, w x = ofSq T ((Rect.unit (s := ⟨3, ![8, 64, 64]⟩) off ![1, 64, 64] inb).emb x) := by
  intro x; idx_vars x
  obtain rfl : x0 = 0 := Subsingleton.elim _ _
  rw [ofSq_at T k x1 x2 _ ((ValueKit.rect_emb_unit_val _ _ _ _ _).trans h0)
    ((ValueKit.rect_emb_unit_val _ _ _ _ _).trans ((congrArg (· + x1.val) h1).trans (Nat.zero_add _)))
    ((ValueKit.rect_emb_unit_val _ _ _ _ _).trans ((congrArg (· + x2.val) h2).trans (Nat.zero_add _)))]
  exact h x1 x2

theorem ofDec_piece (T : Dec) (k : Fin 8) {off : Fin 4 → ℕ} {inb} {w : (⟨4, ![1, 1, 1, 128]⟩ : Shape).Idx → EReal}
    (h : ∀ e, w (ix4 0 0 0 e) = T k e) (h0 : off 0 = k.val := by rfl) (h3 : off 3 = 0 := by rfl) :
    ∀ x, w x = ofDec T ((Rect.unit (s := ⟨4, ![8, 1, 1, 128]⟩) off ![1, 1, 1, 128] inb).emb x) := by
  intro x; idx_vars x
  obtain rfl : x0 = 0 := Subsingleton.elim _ _
  obtain rfl : x1 = 0 := Subsingleton.elim _ _
  obtain rfl : x2 = 0 := Subsingleton.elim _ _
  rw [ofDec_at T k x3 _ ((ValueKit.rect_emb_unit_val _ _ _ _ _).trans h0)
    ((ValueKit.rect_emb_unit_val _ _ _ _ _).trans ((congrArg (· + x3.val) h3).trans (Nat.zero_add _)))]
  exact h x3

theorem ofSt_piece (T : St) (k : Fin 8) {off : Fin 3 → ℕ} {inb} {w : (⟨3, ![1, 128, 128]⟩ : Shape).Idx → EReal}
    (h : ∀ d e, w (ix3 0 d e) = T k d e) (h0 : off 0 = k.val := by rfl) (h1 : off 1 = 0 := by rfl) (h2 : off 2 = 0 := by rfl) :
    ∀ x, w x = ofSt T ((Rect.unit (s := ⟨3, ![8, 128, 128]⟩) off ![1, 128, 128] inb).emb x) := by
  intro x; idx_vars x
  obtain rfl : x0 = 0 := Subsingleton.elim _ _
  rw [ofSt_at T k x1 x2 _ ((ValueKit.rect_emb_unit_val _ _ _ _ _).trans h0)
    ((ValueKit.rect_emb_unit_val _ _ _ _ _).trans ((congrArg (· + x1.val) h1).trans (Nat.zero_add _)))
    ((ValueKit.rect_emb_unit_val _ _ _ _ _).trans ((congrArg (· + x2.val) h2).trans (Nat.zero_add _)))]
  exact h x1 x2

theorem ofSt1_piece (T : St) (k : Fin 8) {off : Fin 4 → ℕ} {inb} {w : (⟨4, ![1, 1, 128, 128]⟩ : Shape).Idx → EReal}
    (h : ∀ d e, w (ix4 0 0 d e) = T k d e) (h1 : off 1 = k.val := by rfl) (h2 : off 2 = 0 := by rfl) (h3 : off 3 = 0 := by rfl) :
    ∀ x, w x = ofSt1 T ((Rect.unit (s := ⟨4, ![1, 8, 128, 128]⟩) off ![1, 1, 128, 128] inb).emb x) := by
  intro x; idx_vars x
  obtain rfl : x0 = 0 := Subsingleton.elim _ _
  obtain rfl : x1 = 0 := Subsingleton.elim _ _
  rw [ofSt1_at T k x2 x3 _ ((ValueKit.rect_emb_unit_val _ _ _ _ _).trans h1)
    ((ValueKit.rect_emb_unit_val _ _ _ _ _).trans ((congrArg (· + x2.val) h2).trans (Nat.zero_add _)))
    ((ValueKit.rect_emb_unit_val _ _ _ _ _).trans ((congrArg (· + x3.val) h3).trans (Nat.zero_add _)))]
  exact h x2 x3

variable (c : Dev nD) (i : grid0.Coords) (a0 : Memref sig .tc .vmem S64x1024 .f32) (h0 : a0.IsWhole) (a1 : Memref sig .tc .vmem S64x1024 .f32) (h1 : a1.IsWhole) (a2 : Memref sig .tc .vmem S64x1024 .f32) (h2 : a2.IsWhole) (a3 : Memref sig .tc .vmem S64x1024 .f32) (h3 : a3.IsWhole) (a4 : Memref sig .tc .vmem S8x64x64 .f32) (h4 : a4.IsWhole) (a5 : Memref sig .tc .vmem S8x1x1x128 .f32) (h5 : a5.IsWhole) (a6 : Memref sig .tc .vmem S64x1024 .f32) (h6 : a6.IsWhole) (a7 : Memref sig .tc .vmem S1x8x128x128 .f32) (h7 : a7.IsWhole) (am : Memref sig .tc .vmem S8x128x128 .f32) (hs : am.IsWhole)
variable (x0 : Vec Ideal S64x1024 .f32) (x1 : Vec Ideal S64x1024 .f32) (x2 : Vec Ideal S64x1024 .f32) (x3 : Vec Ideal S64x1024 .f32) (x4 : Vec Ideal S8x64x64 .f32) (x5 : Vec Ideal S8x1x1x128 .f32)

set_option maxHeartbeats 4000000 in
/-- At the first point, the chunk outputs: what each store writes. -/
theorem pieces0_A_6 (hc : cond0 i) :
    ∀ p ∈ (run0_A (F := Ideal) c i a0 h0 a1 h1 a2 h2 a3 h3 a4 h4 a5 h5 a6 h6 a7 h7 am hs hc x0 x1 x2 x3 x4 x5).1, ∀ x : p.1.shape.Idx, p.2 x = (ofRows (outp (bRows x0) (bRows x1) (bRows x2) (bSq x4) (fun _ _ _ => 0))) (p.1.emb x) := by
  unfold run0_A; dsimp only; sl_unfold_words
  simp (disch := decide) only [View.readAt_eq_ld, h0.read_unread, h1.read_unread, h2.read_unread, h3.read_unread, h4.read_unread, h5.read_unread, readCov_zeroed]
  simp only [List.forall_mem_cons]
  refine ⟨ofRows_piece _ 7 ?_, ofRows_piece _ 6 ?_, ofRows_piece _ 5 ?_, ofRows_piece _ 4 ?_, ofRows_piece _ 3 ?_, ofRows_piece _ 2 ?_, ofRows_piece _ 1 ?_, ofRows_piece _ 0 ?_, fun _ h => nomatch h⟩
  all_goals intros; unfold_payloads; pointwise [outp, vnew, bRows, bSq, bSt, col]

set_option maxHeartbeats 4000000 in
/-- At the first point, the state the chunk starts from: what each store writes. -/
theorem pieces0_A_7 (hc : cond0 i) :
    ∀ p ∈ (run0_A (F := Ideal) c i a0 h0 a1 h1 a2 h2 a3 h3 a4 h4 a5 h5 a6 h6 a7 h7 am hs hc x0 x1 x2 x3 x4 x5).2.1, ∀ x : p.1.shape.Idx, p.2 x = (ofSt1 (fun _ _ _ => 0)) (p.1.emb x) := by
  unfold run0_A; dsimp only; sl_unfold_words
  simp (disch := decide) only [View.readAt_eq_ld, h0.read_unread, h1.read_unread, h2.read_unread, h3.read_unread, h4.read_unread, h5.read_unread, readCov_zeroed]
  simp only [List.forall_mem_cons]
  refine ⟨ofSt1_piece _ 7 ?_, ofSt1_piece _ 6 ?_, ofSt1_piece _ 5 ?_, ofSt1_piece _ 4 ?_, ofSt1_piece _ 3 ?_, ofSt1_piece _ 2 ?_, ofSt1_piece _ 1 ?_, ofSt1_piece _ 0 ?_, fun _ h => nomatch h⟩
  all_goals intros; unfold_payloads; pointwise [bSt]

set_option maxHeartbeats 4000000 in
/-- At the first point, the carried state: what each store writes. -/
theorem pieces0_A_s (hc : cond0 i) :
    ∀ p ∈ ((run0_A (F := Ideal) c i a0 h0 a1 h1 a2 h2 a3 h3 a4 h4 a5 h5 a6 h6 a7 h7 am hs hc x0 x1 x2 x3 x4 x5).2.2.1).take 8, ∀ x : p.1.shape.Idx, p.2 x = (ofSt (next (bRows x0) (bRows x1) (bRows x3) (bDec x5) (fun _ _ _ => 0))) (p.1.emb x) := by
  unfold run0_A; dsimp only; sl_unfold_words
  simp (disch := decide) only [View.readAt_eq_ld, h0.read_unread, h1.read_unread, h2.read_unread, h3.read_unread, h4.read_unread, h5.read_unread, readCov_zeroed]
  simp only [List.take_succ_cons, List.take_zero]
  simp only [List.forall_mem_cons]
  refine ⟨ofSt_piece _ 7 ?_, ofSt_piece _ 6 ?_, ofSt_piece _ 5 ?_, ofSt_piece _ 4 ?_, ofSt_piece _ 3 ?_, ofSt_piece _ 2 ?_, ofSt_piece _ 1 ?_, ofSt_piece _ 0 ?_, fun _ h => nomatch h⟩
  all_goals intros; unfold_payloads; pointwise [next, vnew, bRows, bDec, bSt, col]

set_option maxHeartbeats 4000000 in
/-- At a later point, the chunk outputs: what each store writes. -/
theorem pieces0_B_6 (hc : ¬cond0 i) (xs : Vec Ideal S8x128x128 .f32) :
    ∀ p ∈ (run0_B (F := Ideal) c i a0 h0 a1 h1 a2 h2 a3 h3 a4 h4 a5 h5 a6 h6 a7 h7 am hs hc x0 x1 x2 x3 x4 x5 xs).1, ∀ x : p.1.shape.Idx, p.2 x = (ofRows (outp (bRows x0) (bRows x1) (bRows x2) (bSq x4) (bSt xs))) (p.1.emb x) := by
  unfold run0_B; dsimp only; sl_unfold_words
  simp only [View.readAt_eq_ld, h0.read_unread, h1.read_unread, h2.read_unread, h3.read_unread, h4.read_unread, h5.read_unread, hs.read_unread]
  simp only [List.forall_mem_cons]
  refine ⟨ofRows_piece _ 7 ?_, ofRows_piece _ 6 ?_, ofRows_piece _ 5 ?_, ofRows_piece _ 4 ?_, ofRows_piece _ 3 ?_, ofRows_piece _ 2 ?_, ofRows_piece _ 1 ?_, ofRows_piece _ 0 ?_, fun _ h => nomatch h⟩
  all_goals intros; unfold_payloads; pointwise [outp, vnew, bRows, bSq, bSt, col]

set_option maxHeartbeats 4000000 in
/-- At a later point, the state the chunk starts from: what each store writes. -/
theorem pieces0_B_7 (hc : ¬cond0 i) (xs : Vec Ideal S8x128x128 .f32) :
    ∀ p ∈ (run0_B (F := Ideal) c i a0 h0 a1 h1 a2 h2 a3 h3 a4 h4 a5 h5 a6 h6 a7 h7 am hs hc x0 x1 x2 x3 x4 x5 xs).2.1, ∀ x : p.1.shape.Idx, p.2 x = (ofSt1 (bSt xs)) (p.1.emb x) := by
  unfold run0_B; dsimp only; sl_unfold_words
  simp only [View.readAt_eq_ld, h0.read_unread, h1.read_unread, h2.read_unread, h3.read_unread, h4.read_unread, h5.read_unread, hs.read_unread]
  simp only [List.forall_mem_cons]
  refine ⟨ofSt1_piece _ 7 ?_, ofSt1_piece _ 6 ?_, ofSt1_piece _ 5 ?_, ofSt1_piece _ 4 ?_, ofSt1_piece _ 3 ?_, ofSt1_piece _ 2 ?_, ofSt1_piece _ 1 ?_, ofSt1_piece _ 0 ?_, fun _ h => nomatch h⟩
  all_goals intros; unfold_payloads; pointwise [bSt]

set_option maxHeartbeats 4000000 in
/-- At a later point, the carried state: what each store writes. -/
theorem pieces0_B_s (hc : ¬cond0 i) (xs : Vec Ideal S8x128x128 .f32) :
    ∀ p ∈ (run0_B (F := Ideal) c i a0 h0 a1 h1 a2 h2 a3 h3 a4 h4 a5 h5 a6 h6 a7 h7 am hs hc x0 x1 x2 x3 x4 x5 xs).2.2.1, ∀ x : p.1.shape.Idx, p.2 x = (ofSt (next (bRows x0) (bRows x1) (bRows x3) (bDec x5) (bSt xs))) (p.1.emb x) := by
  unfold run0_B; dsimp only; sl_unfold_words
  simp only [View.readAt_eq_ld, h0.read_unread, h1.read_unread, h2.read_unread, h3.read_unread, h4.read_unread, h5.read_unread, hs.read_unread]
  simp only [List.forall_mem_cons]
  refine ⟨ofSt_piece _ 7 ?_, ofSt_piece _ 6 ?_, ofSt_piece _ 5 ?_, ofSt_piece _ 4 ?_, ofSt_piece _ 3 ?_, ofSt_piece _ 2 ?_, ofSt_piece _ 1 ?_, ofSt_piece _ 0 ?_, fun _ h => nomatch h⟩
  all_goals intros; unfold_payloads; pointwise [next, vnew, bRows, bDec, bSt, col]

end Cert.KernelIdeal.Scan

end
-- ==== Proof.Scan.FwdValue.lean ====
module

public import proofs.«01_k».proof.Proof.Scan.FwdPieces

@[expose] public section

set_option maxRecDepth 16384

noncomputable section

namespace Cert.KernelIdeal.Scan

open Cert.DeltaScan
open Cert.KernelIdeal Cert.KernelIdeal.Gen Idealize.ShloMosaic Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! # What the forward scan computes -/

theorem o0_A_6_eq (c : Dev nD) (t : Fin cfg0.N) (h : t.val = 0) :
    o0_A_6 V c t h = ofRows (outp (bRows (iblk0 V c 0 t)) (bRows (iblk0 V c 1 t)) (bRows (iblk0 V c 2 t)) (bSq (iblk0 V c 4 t)) (fun _ _ _ => 0)) := by
  funext y
  unfold o0_A_6
  rw [View.read_writes_eq_canon _ _ _ (cov0_A_6 V c t h)]
  exact View.canon_apply_of_pieces _ _ (pieces0_A_6 _ _ _ _ _ _ _ _ _ _ _ _ _ _ _ _ _ _ _ _ _ _ _ _ _ _ _) y (cov0_A_6 V c t h y)
theorem o0_B_6_eq (c : Dev nD) (t : Fin cfg0.N) (h : ¬t.val = 0) (xs : Vec Ideal S8x128x128 .f32) :
    o0_B_6 V c t h xs = ofRows (outp (bRows (iblk0 V c 0 t)) (bRows (iblk0 V c 1 t)) (bRows (iblk0 V c 2 t)) (bSq (iblk0 V c 4 t)) (bSt xs)) := by
  funext y
  unfold o0_B_6
  rw [View.read_writes_eq_canon _ _ _ (cov0_B_6 V c t h xs)]
  exact View.canon_apply_of_pieces _ _ (pieces0_B_6 _ _ _ _ _ _ _ _ _ _ _ _ _ _ _ _ _ _ _ _ _ _ _ _ _ _ _ _) y (cov0_B_6 V c t h xs y)
theorem o0_A_7_eq (c : Dev nD) (t : Fin cfg0.N) (h : t.val = 0) : o0_A_7 V c t h = ofSt1 (fun _ _ _ => 0) := by
  funext y
  unfold o0_A_7
  rw [View.read_writes_eq_canon _ _ _ (cov0_A_7 V c t h)]
  exact View.canon_apply_of_pieces _ _ (pieces0_A_7 _ _ _ _ _ _ _ _ _ _ _ _ _ _ _ _ _ _ _ _ _ _ _ _ _ _ _) y (cov0_A_7 V c t h y)
theorem o0_B_7_eq (c : Dev nD) (t : Fin cfg0.N) (h : ¬t.val = 0) (xs : Vec Ideal S8x128x128 .f32) : o0_B_7 V c t h xs = ofSt1 (bSt xs) := by
  funext y
  unfold o0_B_7
  rw [View.read_writes_eq_canon _ _ _ (cov0_B_7 V c t h xs)]
  exact View.canon_apply_of_pieces _ _ (pieces0_B_7 _ _ _ _ _ _ _ _ _ _ _ _ _ _ _ _ _ _ _ _ _ _ _ _ _ _ _ _) y (cov0_B_7 V c t h xs y)
theorem o0_A_s_eq (c : Dev nD) (t : Fin cfg0.N) (h : t.val = 0) :
    o0_A_s V c t h = ofSt (next (bRows (iblk0 V c 0 t)) (bRows (iblk0 V c 1 t)) (bRows (iblk0 V c 3 t)) (bDec (iblk0 V c 5 t)) (fun _ _ _ => 0)) := by
  funext y
  unfold o0_A_s
  rw [View.read_writes_eq_canon _ _ _ (cov0_A_s V c t h), ← List.take_append_drop 8 (rA0 V c t h).2.2.1]
  exact View.canon_append_of_pieces _ _ _ (pieces0_A_s _ _ _ _ _ _ _ _ _ _ _ _ _ _ _ _ _ _ _ _ _ _ _ _ _ _ _) y
    (View.cover_of_tiledL ((rA0 V c t h).2.2.1.take 8) S1x128x128.size (by sl_kernel_rfl) y)
theorem o0_B_s_eq (c : Dev nD) (t : Fin cfg0.N) (h : ¬t.val = 0) (xs : Vec Ideal S8x128x128 .f32) :
    o0_B_s V c t h xs = ofSt (next (bRows (iblk0 V c 0 t)) (bRows (iblk0 V c 1 t)) (bRows (iblk0 V c 3 t)) (bDec (iblk0 V c 5 t)) (bSt xs)) := by
  funext y
  unfold o0_B_s
  rw [View.read_writes_eq_canon _ _ _ (cov0_B_s V c t h xs)]
  exact View.canon_apply_of_pieces _ _ (pieces0_B_s _ _ _ _ _ _ _ _ _ _ _ _ _ _ _ _ _ _ _ _ _ _ _ _ _ _ _ _) y (cov0_B_s V c t h xs y)

/-! ## The blocks of the arguments -/

/-- A point's chunk. -/
def pt0 (t : Fin cfg0.N) : Fin 64 := t.cast N_0
theorem pt0_eq (t : Fin cfg0.N) : pt0 t = ck t.val := (ck_val (pt0 t)).symm

theorem idx0 : ∀ t : Fin cfg0.N, win0_0.index t = ![t.val, 0] ∧ win0_1.index t = ![t.val, 0] ∧ win0_2.index t = ![t.val, 0]
    ∧ win0_3.index t = ![t.val, 0] ∧ win0_4.index t = ![0, t.val, 0] ∧ win0_5.index t = ![0, t.val, 0, 0]
    ∧ win0_6.index t = ![t.val, 0] ∧ win0_7.index t = ![t.val, 0, 0, 0] :=
  (by decide +kernel : ∀ t : Fin grid0.N, _)

theorem blk0_0 (c : Dev nD) (t : Fin cfg0.N) : bRows (iblk0 V c 0 t) = cRows (V c main_arg0) (pt0 t) := by
  funext h r e; unfold bRows cRows row col pt0
  blk_ext [iblk0, idx0 t, Fin.val_cast]
theorem blk0_1 (c : Dev nD) (t : Fin cfg0.N) : bRows (iblk0 V c 1 t) = cRows (V c main_arg1) (pt0 t) := by
  funext h r e; unfold bRows cRows row col pt0
  blk_ext [iblk0, idx0 t, Fin.val_cast]
theorem blk0_2 (c : Dev nD) (t : Fin cfg0.N) : bRows (iblk0 V c 2 t) = cRows (V c main_arg2) (pt0 t) := by
  funext h r e; unfold bRows cRows row col pt0
  blk_ext [iblk0, idx0 t, Fin.val_cast]
theorem blk0_3 (c : Dev nD) (t : Fin cfg0.N) : bRows (iblk0 V c 3 t) = cRows (V c main_arg3) (pt0 t) := by
  funext h r e; unfold bRows cRows row col pt0
  blk_ext [iblk0, idx0 t, Fin.val_cast]
theorem blk0_4 (c : Dev nD) (t : Fin cfg0.N) : bSq (iblk0 V c 4 t) = cSq (V c main_arg4) (pt0 t) := by
  funext h r e; unfold bSq cSq row pt0
  blk_ext [iblk0, idx0 t, Fin.val_cast]
theorem blk0_5 (c : Dev nD) (t : Fin cfg0.N) : bDec (iblk0 V c 5 t) = cDec (V c main_arg5) (pt0 t) := by
  funext h e; unfold bDec cDec pt0
  blk_ext [iblk0, idx0 t, Fin.val_cast]

/-! ## The carried state and the results -/

/-- The state after the point at position `n`, in the argument arrays. -/
theorem st0_eq (c : Dev nD) : ∀ (n : ℕ) (hn : n < cfg0.N),
    st0 V c n hn = ofSt (state (cRows (V c main_arg0)) (cRows (V c main_arg1)) (cRows (V c main_arg3)) (cDec (V c main_arg5)) (n + 1))
  | 0, hn => by
    rw [show st0 V c 0 hn = o0_A_s V c ⟨0, hn⟩ rfl from rfl, o0_A_s_eq, blk0_0, blk0_1, blk0_3, blk0_5, pt0_eq]
    rfl
  | n + 1, hn => by
    rw [show st0 V c (n + 1) hn = o0_B_s V c ⟨n + 1, hn⟩ (Nat.succ_ne_zero n) (st0 V c n (Nat.lt_of_succ_lt hn)) from rfl,
      o0_B_s_eq, st0_eq c n, blk0_0, blk0_1, blk0_3, blk0_5, pt0_eq, bSt_ofSt]
    rfl

theorem out0_6_eq (c : Dev nD) (t : Fin cfg0.N) :
    out0_6 V c t = ofRows (O (cRows (V c main_arg0)) (cRows (V c main_arg1)) (cRows (V c main_arg2)) (cRows (V c main_arg3)) (cSq (V c main_arg4))
      (cDec (V c main_arg5)) (pt0 t)) := by
  unfold out0_6
  have hp : (pt0 t).val = t.val := rfl
  split
  · next h =>
    rw [o0_A_6_eq, blk0_0, blk0_1, blk0_2, blk0_4]
    unfold O; rw [hp, h]; rfl
  · next h =>
    obtain ⟨n, hn⟩ : ∃ n, t.val = n + 1 := ⟨t.val - 1, by omega⟩
    rw [o0_B_6_eq, blk0_0, blk0_1, blk0_2, blk0_4, st0_eq, bSt_ofSt]
    unfold O; rw [hp, show t.val - 1 + 1 = t.val by omega]

theorem out0_7_eq (c : Dev nD) (t : Fin cfg0.N) :
    out0_7 V c t = ofSt1 (state (cRows (V c main_arg0)) (cRows (V c main_arg1)) (cRows (V c main_arg3)) (cDec (V c main_arg5)) t.val) := by
  unfold out0_7
  split
  · next h => rw [o0_A_7_eq, h]; rfl
  · next h => rw [o0_B_7_eq, st0_eq, bSt_ofSt, show t.val - 1 + 1 = t.val by omega]

/-- The chunk outputs the forward scan leaves. -/
theorem arr0_6 (c : Dev nD) : (dat0 V c).arrAt 6 cfg0.N =
    ofChunks (O (cRows (V c main_arg0)) (cRows (V c main_arg1)) (cRows (V c main_arg2)) (cRows (V c main_arg3)) (cSq (V c main_arg4)) (cDec (V c main_arg5))) := by
  refine (dat0 V c).arrAt_eq_of_covers 6 _ (by decide +kernel) fun t hf y => ?_
  blk_simp
  rw [after0_6, out0_6_eq]
  exact ofChunks_at _ (pt0 t) _ rfl _ _ (by blk_simp [idx0 t]; rfl) (by blk_simp [idx0 t])

/-- The states the forward scan leaves for the backward one: the one each chunk starts from. -/
theorem arr0_7 (c : Dev nD) : (dat0 V c).arrAt 7 cfg0.N =
    ofChunksSt fun n => state (cRows (V c main_arg0)) (cRows (V c main_arg1)) (cRows (V c main_arg3)) (cDec (V c main_arg5)) n.val := by
  refine (dat0 V c).arrAt_eq_of_covers 7 _ (by decide +kernel) fun t hf y => ?_
  blk_simp
  rw [after0_7, out0_7_eq]
  refine ofChunksSt_at (fun n => state (cRows (V c main_arg0)) (cRows (V c main_arg1)) (cRows (V c main_arg3)) (cDec (V c main_arg5)) n.val)
    (pt0 t) _ rfl _ _ ?_ ?_ ?_ ?_
  · have h : (y 0).val < 1 := (y 0).isLt
    blk_simp [idx0 t]; simp only [pt0, Fin.val_cast]
  all_goals blk_simp [idx0 t]

end Cert.KernelIdeal.Scan

end
-- ==== Proof.Scan.BwdPieces.lean ====
module

public import proofs.«01_k».proof.Proof.Scan.ScanBwd
public import proofs.«01_k».proof.Proof.Scan.FwdPieces
public import Idealize.ShloMosaic.Lib.Pipeline.Value
public import Idealize.ShloMosaic.Lib.Pipeline.CanonAppend
public import Idealize.ShloMosaic.Lib.Pipeline.ValueKit

@[expose] public section

set_option maxRecDepth 16384

noncomputable section

namespace Cert.KernelIdeal.Scan

open Cert.DeltaScan
open Cert.KernelIdeal Cert.KernelIdeal.Gen Idealize.ShloMosaic Idealize.ShloMosaic.TcCoe Idealize.ShloMosaic.Tactic Idealize.SL.Sem

/-! # What one chunk of the backward scan stores, head by head -/

variable (c : Dev nD) (i : grid1.Coords) (a0 : Memref sig .tc .vmem S64x1024 .f32) (h0 : a0.IsWhole) (a1 : Memref sig .tc .vmem S64x1024 .f32) (h1 : a1.IsWhole) (a2 : Memref sig .tc .vmem S64x1024 .f32) (h2 : a2.IsWhole) (a3 : Memref sig .tc .vmem S64x1024 .f32) (h3 : a3.IsWhole) (a4 : Memref sig .tc .vmem S8x64x64 .f32) (h4 : a4.IsWhole) (a5 : Memref sig .tc .vmem S8x1x1x128 .f32) (h5 : a5.IsWhole) (a6 : Memref sig .tc .vmem S1x8x128x128 .f32) (h6 : a6.IsWhole) (a7 : Memref sig .tc .vmem S64x1024 .f32) (h7 : a7.IsWhole) (a8 : Memref sig .tc .vmem S64x1024 .f32) (h8 : a8.IsWhole) (a9 : Memref sig .tc .vmem S64x1024 .f32) (h9 : a9.IsWhole) (a10 : Memref sig .tc .vmem S64x1024 .f32) (h10 : a10.IsWhole) (a11 : Memref sig .tc .vmem S64x1024 .f32) (h11 : a11.IsWhole) (a12 : Memref sig .tc .vmem S8x64x64 .f32) (h12 : a12.IsWhole) (a13 : Memref sig .tc .vmem S8x1x1x128 .f32) (h13 : a13.IsWhole) (am : Memref sig .tc .vmem S8x128x128 .f32) (hs : am.IsWhole)
variable (x0 : Vec Ideal S64x1024 .f32) (x1 : Vec Ideal S64x1024 .f32) (x2 : Vec Ideal S64x1024 .f32) (x3 : Vec Ideal S64x1024 .f32) (x4 : Vec Ideal S8x64x64 .f32) (x5 : Vec Ideal S8x1x1x128 .f32) (x6 : Vec Ideal S1x8x128x128 .f32) (x7 : Vec Ideal S64x1024 .f32)

set_option maxHeartbeats 4000000 in
/-- At the first point, the derivative of u: what each store writes. -/
theorem pieces1_A_8 (hc : cond1 i) :
    ∀ p ∈ (run1_A (F := Ideal) c i a0 h0 a1 h1 a2 h2 a3 h3 a4 h4 a5 h5 a6 h6 a7 h7 a8 h8 a9 h9 a10 h10 a11 h11 a12 h12 a13 h13 am hs hc x0 x1 x2 x3 x4 x5 x6 x7).1, ∀ x : p.1.shape.Idx, p.2 x = (ofRows (du (bRows x3) (bSq x4) (bRows x7) (fun _ _ _ => 0))) (p.1.emb x) := by
  unfold run1_A; dsimp only; sl_unfold_words
  simp (disch := decide) only [View.readAt_eq_ld, h0.read_unread, h1.read_unread, h2.read_unread, h3.read_unread, h4.read_unread, h5.read_unread, h6.read_unread, h7.read_unread, readCov_zeroed]
  simp only [List.forall_mem_cons]
  refine ⟨ofRows_piece _ 7 ?_, ofRows_piece _ 6 ?_, ofRows_piece _ 5 ?_, ofRows_piece _ 4 ?_, ofRows_piece _ 3 ?_, ofRows_piece _ 2 ?_, ofRows_piece _ 1 ?_, ofRows_piece _ 0 ?_, fun _ h => nomatch h⟩
  all_goals intros; unfold_payloads; pointwise [du, dw, dq, dk, dA, dg, prev, vnew, bRows, bSq, bDec, bSt, bSt1, col]

set_option maxHeartbeats 4000000 in
/-- At the first point, the derivative of w: what each store writes. -/
theorem pieces1_A_9 (hc : cond1 i) :
    ∀ p ∈ (run1_A (F := Ideal) c i a0 h0 a1 h1 a2 h2 a3 h3 a4 h4 a5 h5 a6 h6 a7 h7 a8 h8 a9 h9 a10 h10 a11 h11 a12 h12 a13 h13 am hs hc x0 x1 x2 x3 x4 x5 x6 x7).2.1, ∀ x : p.1.shape.Idx, p.2 x = (ofRows (dw (bRows x3) (bSq x4) (bSt1 x6) (bRows x7) (fun _ _ _ => 0))) (p.1.emb x) := by
  unfold run1_A; dsimp only; sl_unfold_words
  simp (disch := decide) only [View.readAt_eq_ld, h0.read_unread, h1.read_unread, h2.read_unread, h3.read_unread, h4.read_unread, h5.read_unread, h6.read_unread, h7.read_unread, readCov_zeroed]
  simp only [List.forall_mem_cons]
  refine ⟨ofRows_piece _ 7 ?_, ofRows_piece _ 6 ?_, ofRows_piece _ 5 ?_, ofRows_piece _ 4 ?_, ofRows_piece _ 3 ?_, ofRows_piece _ 2 ?_, ofRows_piece _ 1 ?_, ofRows_piece _ 0 ?_, fun _ h => nomatch h⟩
  all_goals intros; unfold_payloads; pointwise [du, dw, dq, dk, dA, dg, prev, vnew, bRows, bSq, bDec, bSt, bSt1, col]

set_option maxHeartbeats 4000000 in
/-- At the first point, the derivative of q: what each store writes. -/
theorem pieces1_A_10 (hc : cond1 i) :
    ∀ p ∈ (run1_A (F := Ideal) c i a0 h0 a1 h1 a2 h2 a3 h3 a4 h4 a5 h5 a6 h6 a7 h7 a8 h8 a9 h9 a10 h10 a11 h11 a12 h12 a13 h13 am hs hc x0 x1 x2 x3 x4 x5 x6 x7).2.2.1, ∀ x : p.1.shape.Idx, p.2 x = (ofRows (dq (bSt1 x6) (bRows x7))) (p.1.emb x) := by
  unfold run1_A; dsimp only; sl_unfold_words
  simp (disch := decide) only [View.readAt_eq_ld, h0.read_unread, h1.read_unread, h2.read_unread, h3.read_unread, h4.read_unread, h5.read_unread, h6.read_unread, h7.read_unread, readCov_zeroed]
  simp only [List.forall_mem_cons]
  refine ⟨ofRows_piece _ 7 ?_, ofRows_piece _ 6 ?_, ofRows_piece _ 5 ?_, ofRows_piece _ 4 ?_, ofRows_piece _ 3 ?_, ofRows_piece _ 2 ?_, ofRows_piece _ 1 ?_, ofRows_piece _ 0 ?_, fun _ h => nomatch h⟩
  all_goals intros; unfold_payloads; pointwise [du, dw, dq, dk, dA, dg, prev, vnew, bRows, bSq, bDec, bSt, bSt1, col]

set_option maxHeartbeats 4000000 in
/-- At the first point, the derivative of k: what each store writes. -/
theorem pieces1_A_11 (hc : cond1 i) :
    ∀ p ∈ (run1_A (F := Ideal) c i a0 h0 a1 h1 a2 h2 a3 h3 a4 h4 a5 h5 a6 h6 a7 h7 a8 h8 a9 h9 a10 h10 a11 h11 a12 h12 a13 h13 am hs hc x0 x1 x2 x3 x4 x5 x6 x7).2.2.2.1, ∀ x : p.1.shape.Idx, p.2 x = (ofRows (dk (bRows x0) (bRows x1) (bSt1 x6) (fun _ _ _ => 0))) (p.1.emb x) := by
  unfold run1_A; dsimp only; sl_unfold_words
  simp (disch := decide) only [View.readAt_eq_ld, h0.read_unread, h1.read_unread, h2.read_unread, h3.read_unread, h4.read_unread, h5.read_unread, h6.read_unread, h7.read_unread, readCov_zeroed]
  simp only [List.forall_mem_cons]
  refine ⟨ofRows_piece _ 7 ?_, ofRows_piece _ 6 ?_, ofRows_piece _ 5 ?_, ofRows_piece _ 4 ?_, ofRows_piece _ 3 ?_, ofRows_piece _ 2 ?_, ofRows_piece _ 1 ?_, ofRows_piece _ 0 ?_, fun _ h => nomatch h⟩
  all_goals intros; unfold_payloads; pointwise [du, dw, dq, dk, dA, dg, prev, vnew, bRows, bSq, bDec, bSt, bSt1, col]

set_option maxHeartbeats 4000000 in
/-- At the first point, the derivative of the matrices: what each store writes. -/
theorem pieces1_A_12 (hc : cond1 i) :
    ∀ p ∈ (run1_A (F := Ideal) c i a0 h0 a1 h1 a2 h2 a3 h3 a4 h4 a5 h5 a6 h6 a7 h7 a8 h8 a9 h9 a10 h10 a11 h11 a12 h12 a13 h13 am hs hc x0 x1 x2 x3 x4 x5 x6 x7).2.2.2.2.1, ∀ x : p.1.shape.Idx, p.2 x = (ofSq (dA (bRows x0) (bRows x1) (bSt1 x6) (bRows x7))) (p.1.emb x) := by
  unfold run1_A; dsimp only; sl_unfold_words
  simp (disch := decide) only [View.readAt_eq_ld, h0.read_unread, h1.read_unread, h2.read_unread, h3.read_unread, h4.read_unread, h5.read_unread, h6.read_unread, h7.read_unread, readCov_zeroed]
  simp only [List.forall_mem_cons]
  refine ⟨ofSq_piece _ 7 ?_, ofSq_piece _ 6 ?_, ofSq_piece _ 5 ?_, ofSq_piece _ 4 ?_, ofSq_piece _ 3 ?_, ofSq_piece _ 2 ?_, ofSq_piece _ 1 ?_, ofSq_piece _ 0 ?_, fun _ h => nomatch h⟩
  all_goals intros; unfold_payloads; pointwise [du, dw, dq, dk, dA, dg, prev, vnew, bRows, bSq, bDec, bSt, bSt1, col]

set_option maxHeartbeats 4000000 in
/-- At the first point, the derivative of the decays: what each store writes. -/
theorem pieces1_A_13 (hc : cond1 i) :
    ∀ p ∈ (run1_A (F := Ideal) c i a0 h0 a1 h1 a2 h2 a3 h3 a4 h4 a5 h5 a6 h6 a7 h7 a8 h8 a9 h9 a10 h10 a11 h11 a12 h12 a13 h13 am hs hc x0 x1 x2 x3 x4 x5 x6 x7).2.2.2.2.2.1, ∀ x : p.1.shape.Idx, p.2 x = (ofDec (dg (bSt1 x6) (fun _ _ _ => 0))) (p.1.emb x) := by
  unfold run1_A; dsimp only; sl_unfold_words
  simp (disch := decide) only [View.readAt_eq_ld, h0.read_unread, h1.read_unread, h2.read_unread, h3.read_unread, h4.read_unread, h5.read_unread, h6.read_unread, h7.read_unread, readCov_zeroed]
  simp only [List.forall_mem_cons]
  refine ⟨ofDec_piece _ 7 ?_, ofDec_piece _ 6 ?_, ofDec_piece _ 5 ?_, ofDec_piece _ 4 ?_, ofDec_piece _ 3 ?_, ofDec_piece _ 2 ?_, ofDec_piece _ 1 ?_, ofDec_piece _ 0 ?_, fun _ h => nomatch h⟩
  all_goals intros; unfold_payloads; pointwise [du, dw, dq, dk, dA, dg, prev, vnew, bRows, bSq, bDec, bSt, bSt1, col]

set_option maxHeartbeats 4000000 in
/-- At the first point, the carried derivative: what each store writes. -/
theorem pieces1_A_s (hc : cond1 i) :
    ∀ p ∈ ((run1_A (F := Ideal) c i a0 h0 a1 h1 a2 h2 a3 h3 a4 h4 a5 h5 a6 h6 a7 h7 a8 h8 a9 h9 a10 h10 a11 h11 a12 h12 a13 h13 am hs hc x0 x1 x2 x3 x4 x5 x6 x7).2.2.2.2.2.2.1).take 8, ∀ x : p.1.shape.Idx, p.2 x = (ofSt (prev (bRows x1) (bRows x2) (bRows x3) (bSq x4) (bDec x5) (bRows x7) (fun _ _ _ => 0))) (p.1.emb x) := by
  unfold run1_A; dsimp only; sl_unfold_words
  simp (disch := decide) only [View.readAt_eq_ld, h0.read_unread, h1.read_unread, h2.read_unread, h3.read_unread, h4.read_unread, h5.read_unread, h6.read_unread, h7.read_unread, readCov_zeroed]
  simp only [List.take_succ_cons, List.take_zero]
  simp only [List.forall_mem_cons]
  refine ⟨ofSt_piece _ 7 ?_, ofSt_piece _ 6 ?_, ofSt_piece _ 5 ?_, ofSt_piece _ 4 ?_, ofSt_piece _ 3 ?_, ofSt_piece _ 2 ?_, ofSt_piece _ 1 ?_, ofSt_piece _ 0 ?_, fun _ h => nomatch h⟩
  all_goals intros; unfold_payloads; pointwise [du, dw, dq, dk, dA, dg, prev, vnew, bRows, bSq, bDec, bSt, bSt1, col]

set_option maxHeartbeats 4000000 in
/-- At a later point, the derivative of u: what each store writes. -/
theorem pieces1_B_8 (hc : ¬cond1 i) (xs : Vec Ideal S8x128x128 .f32) :
    ∀ p ∈ (run1_B (F := Ideal) c i a0 h0 a1 h1 a2 h2 a3 h3 a4 h4 a5 h5 a6 h6 a7 h7 a8 h8 a9 h9 a10 h10 a11 h11 a12 h12 a13 h13 am hs hc x0 x1 x2 x3 x4 x5 x6 x7 xs).1, ∀ x : p.1.shape.Idx, p.2 x = (ofRows (du (bRows x3) (bSq x4) (bRows x7) (bSt xs))) (p.1.emb x) := by
  unfold run1_B; dsimp only; sl_unfold_words
  simp only [View.readAt_eq_ld, h0.read_unread, h1.read_unread, h2.read_unread, h3.read_unread, h4.read_unread, h5.read_unread, h6.read_unread, h7.read_unread, hs.read_unread]
  simp only [List.forall_mem_cons]
  refine ⟨ofRows_piece _ 7 ?_, ofRows_piece _ 6 ?_, ofRows_piece _ 5 ?_, ofRows_piece _ 4 ?_, ofRows_piece _ 3 ?_, ofRows_piece _ 2 ?_, ofRows_piece _ 1 ?_, ofRows_piece _ 0 ?_, fun _ h => nomatch h⟩
  all_goals intros; unfold_payloads; pointwise [du, dw, dq, dk, dA, dg, prev, vnew, bRows, bSq, bDec, bSt, bSt1, col]

set_option maxHeartbeats 4000000 in
/-- At a later point, the derivative of w: what each store writes. -/
theorem pieces1_B_9 (hc : ¬cond1 i) (xs : Vec Ideal S8x128x128 .f32) :
    ∀ p ∈ (run1_B (F := Ideal) c i a0 h0 a1 h1 a2 h2 a3 h3 a4 h4 a5 h5 a6 h6 a7 h7 a8 h8 a9 h9 a10 h10 a11 h11 a12 h12 a13 h13 am hs hc x0 x1 x2 x3 x4 x5 x6 x7 xs).2.1, ∀ x : p.1.shape.Idx, p.2 x = (ofRows (dw (bRows x3) (bSq x4) (bSt1 x6) (bRows x7) (bSt xs))) (p.1.emb x) := by
  unfold run1_B; dsimp only; sl_unfold_words
  simp only [View.readAt_eq_ld, h0.read_unread, h1.read_unread, h2.read_unread, h3.read_unread, h4.read_unread, h5.read_unread, h6.read_unread, h7.read_unread, hs.read_unread]
  simp only [List.forall_mem_cons]
  refine ⟨ofRows_piece _ 7 ?_, ofRows_piece _ 6 ?_, ofRows_piece _ 5 ?_, ofRows_piece _ 4 ?_, ofRows_piece _ 3 ?_, ofRows_piece _ 2 ?_, ofRows_piece _ 1 ?_, ofRows_piece _ 0 ?_, fun _ h => nomatch h⟩
  all_goals intros; unfold_payloads; pointwise [du, dw, dq, dk, dA, dg, prev, vnew, bRows, bSq, bDec, bSt, bSt1, col]

set_option maxHeartbeats 4000000 in
/-- At a later point, the derivative of q: what each store writes. -/
theorem pieces1_B_10 (hc : ¬cond1 i) (xs : Vec Ideal S8x128x128 .f32) :
    ∀ p ∈ (run1_B (F := Ideal) c i a0 h0 a1 h1 a2 h2 a3 h3 a4 h4 a5 h5 a6 h6 a7 h7 a8 h8 a9 h9 a10 h10 a11 h11 a12 h12 a13 h13 am hs hc x0 x1 x2 x3 x4 x5 x6 x7 xs).2.2.1, ∀ x : p.1.shape.Idx, p.2 x = (ofRows (dq (bSt1 x6) (bRows x7))) (p.1.emb x) := by
  unfold run1_B; dsimp only; sl_unfold_words
  simp only [View.readAt_eq_ld, h0.read_unread, h1.read_unread, h2.read_unread, h3.read_unread, h4.read_unread, h5.read_unread, h6.read_unread, h7.read_unread, hs.read_unread]
  simp only [List.forall_mem_cons]
  refine ⟨ofRows_piece _ 7 ?_, ofRows_piece _ 6 ?_, ofRows_piece _ 5 ?_, ofRows_piece _ 4 ?_, ofRows_piece _ 3 ?_, ofRows_piece _ 2 ?_, ofRows_piece _ 1 ?_, ofRows_piece _ 0 ?_, fun _ h => nomatch h⟩
  all_goals intros; unfold_payloads; pointwise [du, dw, dq, dk, dA, dg, prev, vnew, bRows, bSq, bDec, bSt, bSt1, col]

set_option maxHeartbeats 4000000 in
/-- At a later point, the derivative of k: what each store writes. -/
theorem pieces1_B_11 (hc : ¬cond1 i) (xs : Vec Ideal S8x128x128 .f32) :
    ∀ p ∈ (run1_B (F := Ideal) c i a0 h0 a1 h1 a2 h2 a3 h3 a4 h4 a5 h5 a6 h6 a7 h7 a8 h8 a9 h9 a10 h10 a11 h11 a12 h12 a13 h13 am hs hc x0 x1 x2 x3 x4 x5 x6 x7 xs).2.2.2.1, ∀ x : p.1.shape.Idx, p.2 x = (ofRows (dk (bRows x0) (bRows x1) (bSt1 x6) (bSt xs))) (p.1.emb x) := by
  unfold run1_B; dsimp only; sl_unfold_words
  simp only [View.readAt_eq_ld, h0.read_unread, h1.read_unread, h2.read_unread, h3.read_unread, h4.read_unread, h5.read_unread, h6.read_unread, h7.read_unread, hs.read_unread]
  simp only [List.forall_mem_cons]
  refine ⟨ofRows_piece _ 7 ?_, ofRows_piece _ 6 ?_, ofRows_piece _ 5 ?_, ofRows_piece _ 4 ?_, ofRows_piece _ 3 ?_, ofRows_piece _ 2 ?_, ofRows_piece _ 1 ?_, ofRows_piece _ 0 ?_, fun _ h => nomatch h⟩
  all_goals intros; unfold_payloads; pointwise [du, dw, dq, dk, dA, dg, prev, vnew, bRows, bSq, bDec, bSt, bSt1, col]

set_option maxHeartbeats 4000000 in
/-- At a later point, the derivative of the matrices: what each store writes. -/
theorem pieces1_B_12 (hc : ¬cond1 i) (xs : Vec Ideal S8x128x128 .f32) :
    ∀ p ∈ (run1_B (F := Ideal) c i a0 h0 a1 h1 a2 h2 a3 h3 a4 h4 a5 h5 a6 h6 a7 h7 a8 h8 a9 h9 a10 h10 a11 h11 a12 h12 a13 h13 am hs hc x0 x1 x2 x3 x4 x5 x6 x7 xs).2.2.2.2.1, ∀ x : p.1.shape.Idx, p.2 x = (ofSq (dA (bRows x0) (bRows x1) (bSt1 x6) (bRows x7))) (p.1.emb x) := by
  unfold run1_B; dsimp only; sl_unfold_words
  simp only [View.readAt_eq_ld, h0.read_unread, h1.read_unread, h2.read_unread, h3.read_unread, h4.read_unread, h5.read_unread, h6.read_unread, h7.read_unread, hs.read_unread]
  simp only [List.forall_mem_cons]
  refine ⟨ofSq_piece _ 7 ?_, ofSq_piece _ 6 ?_, ofSq_piece _ 5 ?_, ofSq_piece _ 4 ?_, ofSq_piece _ 3 ?_, ofSq_piece _ 2 ?_, ofSq_piece _ 1 ?_, ofSq_piece _ 0 ?_, fun _ h => nomatch h⟩
  all_goals intros; unfold_payloads; pointwise [du, dw, dq, dk, dA, dg, prev, vnew, bRows, bSq, bDec, bSt, bSt1, col]

set_option maxHeartbeats 4000000 in
/-- At a later point, the derivative of the decays: what each store writes. -/
theorem pieces1_B_13 (hc : ¬cond1 i) (xs : Vec Ideal S8x128x128 .f32) :
    ∀ p ∈ (run1_B (F := Ideal) c i a0 h0 a1 h1 a2 h2 a3 h3 a4 h4 a5 h5 a6 h6 a7 h7 a8 h8 a9 h9 a10 h10 a11 h11 a12 h12 a13 h13 am hs hc x0 x1 x2 x3 x4 x5 x6 x7 xs).2.2.2.2.2.1, ∀ x : p.1.shape.Idx, p.2 x = (ofDec (dg (bSt1 x6) (bSt xs))) (p.1.emb x) := by
  unfold run1_B; dsimp only; sl_unfold_words
  simp only [View.readAt_eq_ld, h0.read_unread, h1.read_unread, h2.read_unread, h3.read_unread, h4.read_unread, h5.read_unread, h6.read_unread, h7.read_unread, hs.read_unread]
  simp only [List.forall_mem_cons]
  refine ⟨ofDec_piece _ 7 ?_, ofDec_piece _ 6 ?_, ofDec_piece _ 5 ?_, ofDec_piece _ 4 ?_, ofDec_piece _ 3 ?_, ofDec_piece _ 2 ?_, ofDec_piece _ 1 ?_, ofDec_piece _ 0 ?_, fun _ h => nomatch h⟩
  all_goals intros; unfold_payloads; pointwise [du, dw, dq, dk, dA, dg, prev, vnew, bRows, bSq, bDec, bSt, bSt1, col]

set_option maxHeartbeats 4000000 in
/-- At a later point, the carried derivative: what each store writes. -/
theorem pieces1_B_s (hc : ¬cond1 i) (xs : Vec Ideal S8x128x128 .f32) :
    ∀ p ∈ (run1_B (F := Ideal) c i a0 h0 a1 h1 a2 h2 a3 h3 a4 h4 a5 h5 a6 h6 a7 h7 a8 h8 a9 h9 a10 h10 a11 h11 a12 h12 a13 h13 am hs hc x0 x1 x2 x3 x4 x5 x6 x7 xs).2.2.2.2.2.2.1, ∀ x : p.1.shape.Idx, p.2 x = (ofSt (prev (bRows x1) (bRows x2) (bRows x3) (bSq x4) (bDec x5) (bRows x7) (bSt xs))) (p.1.emb x) := by
  unfold run1_B; dsimp only; sl_unfold_words
  simp only [View.readAt_eq_ld, h0.read_unread, h1.read_unread, h2.read_unread, h3.read_unread, h4.read_unread, h5.read_unread, h6.read_unread, h7.read_unread, hs.read_unread]
  simp only [List.forall_mem_cons]
  refine ⟨ofSt_piece _ 7 ?_, ofSt_piece _ 6 ?_, ofSt_piece _ 5 ?_, ofSt_piece _ 4 ?_, ofSt_piece _ 3 ?_, ofSt_piece _ 2 ?_, ofSt_piece _ 1 ?_, ofSt_piece _ 0 ?_, fun _ h => nomatch h⟩
  all_goals intros; unfold_payloads; pointwise [du, dw, dq, dk, dA, dg, prev, vnew, bRows, bSq, bDec, bSt, bSt1, col]

end Cert.KernelIdeal.Scan

end
-- ==== Proof.Scan.BwdValue.lean ====
module

public import proofs.«01_k».proof.Proof.Scan.FwdValue
public import proofs.«01_k».proof.Proof.Scan.BwdPieces

@[expose] public section

set_option maxRecDepth 16384

noncomputable section

namespace Cert.KernelIdeal.Scan

open Cert.DeltaScan
open Cert.KernelIdeal Cert.KernelIdeal.Gen Idealize.ShloMosaic Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-! # What the backward scan computes -/

theorem o1_A_8_eq (c : Dev nD) (t : Fin cfg1.N) (h : t.val = 0) :
    o1_A_8 V c t h = ofRows (du (bRows (iblk1 V c 3 t)) (bSq (iblk1 V c 4 t)) (bRows (iblk1 V c 7 t)) (fun _ _ _ => 0)) := by
  funext y
  unfold o1_A_8
  rw [View.read_writes_eq_canon _ _ _ (cov1_A_8 V c t h)]
  exact View.canon_apply_of_pieces _ _ (pieces1_A_8 _ _ _ _ _ _ _ _ _ _ _ _ _ _ _ _ _ _ _ _ _ _ _ _ _ _ _ _ _ _ _ _ _ _ _ _ _ _ _ _ _) y (cov1_A_8 V c t h y)
theorem o1_B_8_eq (c : Dev nD) (t : Fin cfg1.N) (h : ¬t.val = 0) (xs : Vec Ideal S8x128x128 .f32) :
    o1_B_8 V c t h xs = ofRows (du (bRows (iblk1 V c 3 t)) (bSq (iblk1 V c 4 t)) (bRows (iblk1 V c 7 t)) (bSt xs)) := by
  funext y
  unfold o1_B_8
  rw [View.read_writes_eq_canon _ _ _ (cov1_B_8 V c t h xs)]
  exact View.canon_apply_of_pieces _ _ (pieces1_B_8 _ _ _ _ _ _ _ _ _ _ _ _ _ _ _ _ _ _ _ _ _ _ _ _ _ _ _ _ _ _ _ _ _ _ _ _ _ _ _ _ _ _) y (cov1_B_8 V c t h xs y)
theorem o1_A_9_eq (c : Dev nD) (t : Fin cfg1.N) (h : t.val = 0) :
    o1_A_9 V c t h = ofRows (dw (bRows (iblk1 V c 3 t)) (bSq (iblk1 V c 4 t)) (bSt1 (iblk1 V c 6 t)) (bRows (iblk1 V c 7 t)) (fun _ _ _ => 0)) := by
  funext y
  unfold o1_A_9
  rw [View.read_writes_eq_canon _ _ _ (cov1_A_9 V c t h)]
  exact View.canon_apply_of_pieces _ _ (pieces1_A_9 _ _ _ _ _ _ _ _ _ _ _ _ _ _ _ _ _ _ _ _ _ _ _ _ _ _ _ _ _ _ _ _ _ _ _ _ _ _ _ _ _) y (cov1_A_9 V c t h y)
theorem o1_B_9_eq (c : Dev nD) (t : Fin cfg1.N) (h : ¬t.val = 0) (xs : Vec Ideal S8x128x128 .f32) :
    o1_B_9 V c t h xs = ofRows (dw (bRows (iblk1 V c 3 t)) (bSq (iblk1 V c 4 t)) (bSt1 (iblk1 V c 6 t)) (bRows (iblk1 V c 7 t)) (bSt xs)) := by
  funext y
  unfold o1_B_9
  rw [View.read_writes_eq_canon _ _ _ (cov1_B_9 V c t h xs)]
  exact View.canon_apply_of_pieces _ _ (pieces1_B_9 _ _ _ _ _ _ _ _ _ _ _ _ _ _ _ _ _ _ _ _ _ _ _ _ _ _ _ _ _ _ _ _ _ _ _ _ _ _ _ _ _ _) y (cov1_B_9 V c t h xs y)
theorem o1_A_10_eq (c : Dev nD) (t : Fin cfg1.N) (h : t.val = 0) :
    o1_A_10 V c t h = ofRows (dq (bSt1 (iblk1 V c 6 t)) (bRows (iblk1 V c 7 t))) := by
  funext y
  unfold o1_A_10
  rw [View.read_writes_eq_canon _ _ _ (cov1_A_10 V c t h)]
  exact View.canon_apply_of_pieces _ _ (pieces1_A_10 _ _ _ _ _ _ _ _ _ _ _ _ _ _ _ _ _ _ _ _ _ _ _ _ _ _ _ _ _ _ _ _ _ _ _ _ _ _ _ _ _) y (cov1_A_10 V c t h y)
theorem o1_B_10_eq (c : Dev nD) (t : Fin cfg1.N) (h : ¬t.val = 0) (xs : Vec Ideal S8x128x128 .f32) :
    o1_B_10 V c t h xs = ofRows (dq (bSt1 (iblk1 V c 6 t)) (bRows (iblk1 V c 7 t))) := by
  funext y
  unfold o1_B_10
  rw [View.read_writes_eq_canon _ _ _ (cov1_B_10 V c t h xs)]
  exact View.canon_apply_of_pieces _ _ (pieces1_B_10 _ _ _ _ _ _ _ _ _ _ _ _ _ _ _ _ _ _ _ _ _ _ _ _ _ _ _ _ _ _ _ _ _ _ _ _ _ _ _ _ _ _) y (cov1_B_10 V c t h xs y)
theorem o1_A_11_eq (c : Dev nD) (t : Fin cfg1.N) (h : t.val = 0) :
    o1_A_11 V c t h = ofRows (dk (bRows (iblk1 V c 0 t)) (bRows (iblk1 V c 1 t)) (bSt1 (iblk1 V c 6 t)) (fun _ _ _ => 0)) := by
  funext y
  unfold o1_A_11
  rw [View.read_writes_eq_canon _ _ _ (cov1_A_11 V c t h)]
  exact View.canon_apply_of_pieces _ _ (pieces1_A_11 _ _ _ _ _ _ _ _ _ _ _ _ _ _ _ _ _ _ _ _ _ _ _ _ _ _ _ _ _ _ _ _ _ _ _ _ _ _ _ _ _) y (cov1_A_11 V c t h y)
theorem o1_B_11_eq (c : Dev nD) (t : Fin cfg1.N) (h : ¬t.val = 0) (xs : Vec Ideal S8x128x128 .f32) :
    o1_B_11 V c t h xs = ofRows (dk (bRows (iblk1 V c 0 t)) (bRows (iblk1 V c 1 t)) (bSt1 (iblk1 V c 6 t)) (bSt xs)) := by
  funext y
  unfold o1_B_11
  rw [View.read_writes_eq_canon _ _ _ (cov1_B_11 V c t h xs)]
  exact View.canon_apply_of_pieces _ _ (pieces1_B_11 _ _ _ _ _ _ _ _ _ _ _ _ _ _ _ _ _ _ _ _ _ _ _ _ _ _ _ _ _ _ _ _ _ _ _ _ _ _ _ _ _ _) y (cov1_B_11 V c t h xs y)
theorem o1_A_12_eq (c : Dev nD) (t : Fin cfg1.N) (h : t.val = 0) :
    o1_A_12 V c t h = ofSq (dA (bRows (iblk1 V c 0 t)) (bRows (iblk1 V c 1 t)) (bSt1 (iblk1 V c 6 t)) (bRows (iblk1 V c 7 t))) := by
  funext y
  unfold o1_A_12
  rw [View.read_writes_eq_canon _ _ _ (cov1_A_12 V c t h)]
  exact View.canon_apply_of_pieces _ _ (pieces1_A_12 _ _ _ _ _ _ _ _ _ _ _ _ _ _ _ _ _ _ _ _ _ _ _ _ _ _ _ _ _ _ _ _ _ _ _ _ _ _ _ _ _) y (cov1_A_12 V c t h y)
theorem o1_B_12_eq (c : Dev nD) (t : Fin cfg1.N) (h : ¬t.val = 0) (xs : Vec Ideal S8x128x128 .f32) :
    o1_B_12 V c t h xs = ofSq (dA (bRows (iblk1 V c 0 t)) (bRows (iblk1 V c 1 t)) (bSt1 (iblk1 V c 6 t)) (bRows (iblk1 V c 7 t))) := by
  funext y
  unfold o1_B_12
  rw [View.read_writes_eq_canon _ _ _ (cov1_B_12 V c t h xs)]
  exact View.canon_apply_of_pieces _ _ (pieces1_B_12 _ _ _ _ _ _ _ _ _ _ _ _ _ _ _ _ _ _ _ _ _ _ _ _ _ _ _ _ _ _ _ _ _ _ _ _ _ _ _ _ _ _) y (cov1_B_12 V c t h xs y)
theorem o1_A_13_eq (c : Dev nD) (t : Fin cfg1.N) (h : t.val = 0) :
    o1_A_13 V c t h = ofDec (dg (bSt1 (iblk1 V c 6 t)) (fun _ _ _ => 0)) := by
  funext y
  unfold o1_A_13
  rw [View.read_writes_eq_canon _ _ _ (cov1_A_13 V c t h)]
  exact View.canon_apply_of_pieces _ _ (pieces1_A_13 _ _ _ _ _ _ _ _ _ _ _ _ _ _ _ _ _ _ _ _ _ _ _ _ _ _ _ _ _ _ _ _ _ _ _ _ _ _ _ _ _) y (cov1_A_13 V c t h y)
theorem o1_B_13_eq (c : Dev nD) (t : Fin cfg1.N) (h : ¬t.val = 0) (xs : Vec Ideal S8x128x128 .f32) :
    o1_B_13 V c t h xs = ofDec (dg (bSt1 (iblk1 V c 6 t)) (bSt xs)) := by
  funext y
  unfold o1_B_13
  rw [View.read_writes_eq_canon _ _ _ (cov1_B_13 V c t h xs)]
  exact View.canon_apply_of_pieces _ _ (pieces1_B_13 _ _ _ _ _ _ _ _ _ _ _ _ _ _ _ _ _ _ _ _ _ _ _ _ _ _ _ _ _ _ _ _ _ _ _ _ _ _ _ _ _ _) y (cov1_B_13 V c t h xs y)
theorem o1_A_s_eq (c : Dev nD) (t : Fin cfg1.N) (h : t.val = 0) :
    o1_A_s V c t h = ofSt (prev (bRows (iblk1 V c 1 t)) (bRows (iblk1 V c 2 t)) (bRows (iblk1 V c 3 t)) (bSq (iblk1 V c 4 t)) (bDec (iblk1 V c 5 t)) (bRows (iblk1 V c 7 t)) (fun _ _ _ => 0)) := by
  funext y
  unfold o1_A_s
  rw [View.read_writes_eq_canon _ _ _ (cov1_A_s V c t h), ← List.take_append_drop 8 (rA1 V c t h).2.2.2.2.2.2.1]
  exact View.canon_append_of_pieces _ _ _ (pieces1_A_s _ _ _ _ _ _ _ _ _ _ _ _ _ _ _ _ _ _ _ _ _ _ _ _ _ _ _ _ _ _ _ _ _ _ _ _ _ _ _ _ _) y
    (View.cover_of_tiledL ((rA1 V c t h).2.2.2.2.2.2.1.take 8) S1x128x128.size (by sl_kernel_rfl) y)
theorem o1_B_s_eq (c : Dev nD) (t : Fin cfg1.N) (h : ¬t.val = 0) (xs : Vec Ideal S8x128x128 .f32) :
    o1_B_s V c t h xs = ofSt (prev (bRows (iblk1 V c 1 t)) (bRows (iblk1 V c 2 t)) (bRows (iblk1 V c 3 t)) (bSq (iblk1 V c 4 t)) (bDec (iblk1 V c 5 t)) (bRows (iblk1 V c 7 t)) (bSt xs)) := by
  funext y
  unfold o1_B_s
  rw [View.read_writes_eq_canon _ _ _ (cov1_B_s V c t h xs)]
  exact View.canon_apply_of_pieces _ _ (pieces1_B_s _ _ _ _ _ _ _ _ _ _ _ _ _ _ _ _ _ _ _ _ _ _ _ _ _ _ _ _ _ _ _ _ _ _ _ _ _ _ _ _ _ _) y (cov1_B_s V c t h xs y)

/-! ## The blocks of the arguments -/

/-- The chunk a point reaches. -/
def pt1 (t : Fin cfg1.N) : Fin 64 := ⟨63 - t.val, by omega⟩
theorem pt1_eq (t : Fin cfg1.N) : pt1 t = rk t.val := (ck_val (pt1 t)).symm
theorem pt1_inv (t : Fin cfg1.N) : 63 - (pt1 t).val = t.val := by
  have h : t.val < 64 := Nat.lt_of_lt_of_eq t.isLt N_1
  simp only [pt1]; omega

theorem idx1 : ∀ t : Fin cfg1.N, win1_0.index t = ![63 - t.val, 0]
    ∧ win1_1.index t = ![63 - t.val, 0]
    ∧ win1_2.index t = ![63 - t.val, 0]
    ∧ win1_3.index t = ![63 - t.val, 0]
    ∧ win1_4.index t = ![0, 63 - t.val, 0]
    ∧ win1_5.index t = ![0, 63 - t.val, 0, 0]
    ∧ win1_6.index t = ![63 - t.val, 0, 0, 0]
    ∧ win1_7.index t = ![63 - t.val, 0]
    ∧ win1_8.index t = ![63 - t.val, 0]
    ∧ win1_9.index t = ![63 - t.val, 0]
    ∧ win1_10.index t = ![63 - t.val, 0]
    ∧ win1_11.index t = ![63 - t.val, 0]
    ∧ win1_12.index t = ![0, 63 - t.val, 0]
    ∧ win1_13.index t = ![0, 63 - t.val, 0, 0] :=
  (by decide +kernel : ∀ t : Fin grid1.N, _)

theorem blk1_0 (c : Dev nD) (t : Fin cfg1.N) : bRows (iblk1 V c 0 t) = cRows (V c main_arg0) (pt1 t) := by
  funext h r e; unfold bRows cRows row col pt1
  blk_ext [iblk1, idx1 t]
theorem blk1_1 (c : Dev nD) (t : Fin cfg1.N) : bRows (iblk1 V c 1 t) = cRows (V c main_arg1) (pt1 t) := by
  funext h r e; unfold bRows cRows row col pt1
  blk_ext [iblk1, idx1 t]
theorem blk1_2 (c : Dev nD) (t : Fin cfg1.N) : bRows (iblk1 V c 2 t) = cRows (V c main_arg2) (pt1 t) := by
  funext h r e; unfold bRows cRows row col pt1
  blk_ext [iblk1, idx1 t]
theorem blk1_3 (c : Dev nD) (t : Fin cfg1.N) : bRows (iblk1 V c 3 t) = cRows (V c main_arg3) (pt1 t) := by
  funext h r e; unfold bRows cRows row col pt1
  blk_ext [iblk1, idx1 t]
theorem blk1_4 (c : Dev nD) (t : Fin cfg1.N) : bSq (iblk1 V c 4 t) = cSq (V c main_arg4) (pt1 t) := by
  funext h r e; unfold bSq cSq row pt1
  blk_ext [iblk1, idx1 t]
theorem blk1_5 (c : Dev nD) (t : Fin cfg1.N) : bDec (iblk1 V c 5 t) = cDec (V c main_arg5) (pt1 t) := by
  funext h e; unfold bDec cDec pt1
  blk_ext [iblk1, idx1 t]
theorem blk1_6 (c : Dev nD) (t : Fin cfg1.N) : bSt1 (iblk1 V c 6 t) = cSt (V c main_v0_1) (pt1 t) := by
  funext h d e; unfold bSt1 cSt pt1
  blk_ext [iblk1, idx1 t]
theorem blk1_7 (c : Dev nD) (t : Fin cfg1.N) : bRows (iblk1 V c 7 t) = cRows (V c main_arg6) (pt1 t) := by
  funext h r e; unfold bRows cRows row col pt1
  blk_ext [iblk1, idx1 t]

/-! ## The carried derivative and the results -/

/-- The derivative after the point at position `n`, in the argument arrays. -/
theorem st1_eq (c : Dev nD) : ∀ (n : ℕ) (hn : n < cfg1.N), st1 V c n hn = ofSt (dstate (cRows (V c main_arg1)) (cRows (V c main_arg2)) (cRows (V c main_arg3)) (cSq (V c main_arg4)) (cDec (V c main_arg5)) (cRows (V c main_arg6)) (n + 1))
  | 0, hn => by
    rw [show st1 V c 0 hn = o1_A_s V c ⟨0, hn⟩ rfl from rfl, o1_A_s_eq, blk1_1, blk1_2, blk1_3, blk1_4, blk1_5, blk1_7, pt1_eq]
    rfl
  | n + 1, hn => by
    rw [show st1 V c (n + 1) hn = o1_B_s V c ⟨n + 1, hn⟩ (Nat.succ_ne_zero n) (st1 V c n (Nat.lt_of_succ_lt hn)) from rfl,
      o1_B_s_eq, st1_eq c n, blk1_1, blk1_2, blk1_3, blk1_4, blk1_5, blk1_7, pt1_eq, bSt_ofSt]
    rfl

theorem out1_8_eq (c : Dev nD) (t : Fin cfg1.N) :
    out1_8 V c t = ofRows (du (cRows (V c main_arg3) (pt1 t)) (cSq (V c main_arg4) (pt1 t)) (cRows (V c main_arg6) (pt1 t)) (dstate (cRows (V c main_arg1)) (cRows (V c main_arg2)) (cRows (V c main_arg3)) (cSq (V c main_arg4)) (cDec (V c main_arg5)) (cRows (V c main_arg6)) t.val)) := by
  unfold out1_8
  split
  · next h =>
    rw [o1_A_8_eq, blk1_3, blk1_4, blk1_7, h]; rfl
  · next h =>
    rw [o1_B_8_eq, blk1_3, blk1_4, blk1_7, st1_eq, bSt_ofSt, show t.val - 1 + 1 = t.val by omega]
theorem arr1_8 (c : Dev nD) : (dat1 V c).arrAt 8 cfg1.N =
    ofChunks fun n => du (cRows (V c main_arg3) n) (cSq (V c main_arg4) n) (cRows (V c main_arg6) n) (dstate (cRows (V c main_arg1)) (cRows (V c main_arg2)) (cRows (V c main_arg3)) (cSq (V c main_arg4)) (cDec (V c main_arg5)) (cRows (V c main_arg6)) (63 - n.val)) := by
  refine (dat1 V c).arrAt_eq_of_covers 8 _ (by decide +kernel) fun t hf y => ?_
  blk_simp
  rw [after1_8, out1_8_eq]
  exact ofChunks_at _ (pt1 t) _ (by rw [pt1_inv]) _ _ (by blk_simp [idx1 t]; rfl) (by blk_simp [idx1 t])

theorem out1_9_eq (c : Dev nD) (t : Fin cfg1.N) :
    out1_9 V c t = ofRows (dw (cRows (V c main_arg3) (pt1 t)) (cSq (V c main_arg4) (pt1 t)) (cSt (V c main_v0_1) (pt1 t)) (cRows (V c main_arg6) (pt1 t)) (dstate (cRows (V c main_arg1)) (cRows (V c main_arg2)) (cRows (V c main_arg3)) (cSq (V c main_arg4)) (cDec (V c main_arg5)) (cRows (V c main_arg6)) t.val)) := by
  unfold out1_9
  split
  · next h =>
    rw [o1_A_9_eq, blk1_3, blk1_4, blk1_6, blk1_7, h]; rfl
  · next h =>
    rw [o1_B_9_eq, blk1_3, blk1_4, blk1_6, blk1_7, st1_eq, bSt_ofSt, show t.val - 1 + 1 = t.val by omega]
theorem arr1_9 (c : Dev nD) : (dat1 V c).arrAt 9 cfg1.N =
    ofChunks fun n => dw (cRows (V c main_arg3) n) (cSq (V c main_arg4) n) (cSt (V c main_v0_1) n) (cRows (V c main_arg6) n) (dstate (cRows (V c main_arg1)) (cRows (V c main_arg2)) (cRows (V c main_arg3)) (cSq (V c main_arg4)) (cDec (V c main_arg5)) (cRows (V c main_arg6)) (63 - n.val)) := by
  refine (dat1 V c).arrAt_eq_of_covers 9 _ (by decide +kernel) fun t hf y => ?_
  blk_simp
  rw [after1_9, out1_9_eq]
  exact ofChunks_at _ (pt1 t) _ (by rw [pt1_inv]) _ _ (by blk_simp [idx1 t]; rfl) (by blk_simp [idx1 t])

theorem out1_10_eq (c : Dev nD) (t : Fin cfg1.N) :
    out1_10 V c t = ofRows (dq (cSt (V c main_v0_1) (pt1 t)) (cRows (V c main_arg6) (pt1 t))) := by
  unfold out1_10
  split
  · next h =>
    rw [o1_A_10_eq, blk1_6, blk1_7]
  · next h =>
    rw [o1_B_10_eq, blk1_6, blk1_7]
theorem arr1_10 (c : Dev nD) : (dat1 V c).arrAt 10 cfg1.N =
    ofChunks fun n => dq (cSt (V c main_v0_1) n) (cRows (V c main_arg6) n) := by
  refine (dat1 V c).arrAt_eq_of_covers 10 _ (by decide +kernel) fun t hf y => ?_
  blk_simp
  rw [after1_10, out1_10_eq]
  exact ofChunks_at (fun n : Fin 64 => dq (cSt (V c main_v0_1) n) (cRows (V c main_arg6) n)) (pt1 t) _ rfl _ _ (by blk_simp [idx1 t]; rfl) (by blk_simp [idx1 t])

theorem out1_11_eq (c : Dev nD) (t : Fin cfg1.N) :
    out1_11 V c t = ofRows (dk (cRows (V c main_arg0) (pt1 t)) (cRows (V c main_arg1) (pt1 t)) (cSt (V c main_v0_1) (pt1 t)) (dstate (cRows (V c main_arg1)) (cRows (V c main_arg2)) (cRows (V c main_arg3)) (cSq (V c main_arg4)) (cDec (V c main_arg5)) (cRows (V c main_arg6)) t.val)) := by
  unfold out1_11
  split
  · next h =>
    rw [o1_A_11_eq, blk1_0, blk1_1, blk1_6, h]; rfl
  · next h =>
    rw [o1_B_11_eq, blk1_0, blk1_1, blk1_6, st1_eq, bSt_ofSt, show t.val - 1 + 1 = t.val by omega]
theorem arr1_11 (c : Dev nD) : (dat1 V c).arrAt 11 cfg1.N =
    ofChunks fun n => dk (cRows (V c main_arg0) n) (cRows (V c main_arg1) n) (cSt (V c main_v0_1) n) (dstate (cRows (V c main_arg1)) (cRows (V c main_arg2)) (cRows (V c main_arg3)) (cSq (V c main_arg4)) (cDec (V c main_arg5)) (cRows (V c main_arg6)) (63 - n.val)) := by
  refine (dat1 V c).arrAt_eq_of_covers 11 _ (by decide +kernel) fun t hf y => ?_
  blk_simp
  rw [after1_11, out1_11_eq]
  exact ofChunks_at _ (pt1 t) _ (by rw [pt1_inv]) _ _ (by blk_simp [idx1 t]; rfl) (by blk_simp [idx1 t])

theorem out1_12_eq (c : Dev nD) (t : Fin cfg1.N) :
    out1_12 V c t = ofSq (dA (cRows (V c main_arg0) (pt1 t)) (cRows (V c main_arg1) (pt1 t)) (cSt (V c main_v0_1) (pt1 t)) (cRows (V c main_arg6) (pt1 t))) := by
  unfold out1_12
  split
  · next h =>
    rw [o1_A_12_eq, blk1_0, blk1_1, blk1_6, blk1_7]
  · next h =>
    rw [o1_B_12_eq, blk1_0, blk1_1, blk1_6, blk1_7]
theorem arr1_12 (c : Dev nD) : (dat1 V c).arrAt 12 cfg1.N =
    ofChunksSq fun n => dA (cRows (V c main_arg0) n) (cRows (V c main_arg1) n) (cSt (V c main_v0_1) n) (cRows (V c main_arg6) n) := by
  refine (dat1 V c).arrAt_eq_of_covers 12 _ (by decide +kernel) fun t hf y => ?_
  blk_simp
  rw [after1_12, out1_12_eq]
  exact ofChunksSq_at (fun n : Fin 64 => dA (cRows (V c main_arg0) n) (cRows (V c main_arg1) n) (cSt (V c main_v0_1) n) (cRows (V c main_arg6) n)) (pt1 t) _ rfl _ _ (by blk_simp [idx1 t]) (by blk_simp [idx1 t]; rfl) (by blk_simp [idx1 t])

theorem out1_13_eq (c : Dev nD) (t : Fin cfg1.N) :
    out1_13 V c t = ofDec (dg (cSt (V c main_v0_1) (pt1 t)) (dstate (cRows (V c main_arg1)) (cRows (V c main_arg2)) (cRows (V c main_arg3)) (cSq (V c main_arg4)) (cDec (V c main_arg5)) (cRows (V c main_arg6)) t.val)) := by
  unfold out1_13
  split
  · next h =>
    rw [o1_A_13_eq, blk1_6, h]; rfl
  · next h =>
    rw [o1_B_13_eq, blk1_6, st1_eq, bSt_ofSt, show t.val - 1 + 1 = t.val by omega]
theorem arr1_13 (c : Dev nD) : (dat1 V c).arrAt 13 cfg1.N =
    ofChunksDec fun n => dg (cSt (V c main_v0_1) n) (dstate (cRows (V c main_arg1)) (cRows (V c main_arg2)) (cRows (V c main_arg3)) (cSq (V c main_arg4)) (cDec (V c main_arg5)) (cRows (V c main_arg6)) (63 - n.val)) := by
  refine (dat1 V c).arrAt_eq_of_covers 13 _ (by decide +kernel) fun t hf y => ?_
  blk_simp
  rw [after1_13, out1_13_eq]
  exact ofChunksDec_at _ (pt1 t) _ (by rw [pt1_inv]) _ _ (by blk_simp [idx1 t]) (by
    have h : (y 1).val < 1 := (y 1).isLt
    blk_simp [idx1 t]; simp only [pt1]) (by blk_simp [idx1 t])

end Cert.KernelIdeal.Scan

end
-- ==== Proof.Scan.KernelValue.lean ====
/- The kernel's results, over the extended reals: the seven arrays its two calls write, as functions of its arguments. -/
module

public import proofs.«01_k».proof.Proof.Scan.Launch
public import proofs.«01_k».proof.Proof.Scan.BwdValue

@[expose] public section

set_option maxRecDepth 16384

noncomputable section

namespace Cert.KernelIdeal.Scan

open Cert.KernelIdeal Cert.KernelIdeal.Gen Cert.DeltaScan
open Idealize.ShloMosaic Idealize.ShloMosaic.TcCoe

variable (m : (ℓ : Loc nD τ sig) → Buf (Elt Ideal) ℓ) (c : Dev nD)

/-- Chunk by chunk, the arrays the program is given. -/
abbrev aU : Fin 64 → Rows := cRows (m ((c : Thread nD τ).loc main_arg0))
abbrev aW : Fin 64 → Rows := cRows (m ((c : Thread nD τ).loc main_arg1))
abbrev aQ : Fin 64 → Rows := cRows (m ((c : Thread nD τ).loc main_arg2))
abbrev aK : Fin 64 → Rows := cRows (m ((c : Thread nD τ).loc main_arg3))
abbrev aA : Fin 64 → Sq := cSq (m ((c : Thread nD τ).loc main_arg4))
abbrev aG : Fin 64 → Dec := cDec (m ((c : Thread nD τ).loc main_arg5))
abbrev aD : Fin 64 → Rows := cRows (m ((c : Thread nD τ).loc main_arg6))

/-- The second call finds the arguments as they were given. -/
theorem arg_kept (a : Ref sig .tc) (ha : a ∈ argRefs) : V1 m c a = m ((c : Thread nD τ).loc a) := W1_args m c a ha

/-- The second call finds, as states, the ones each chunk starts from. -/
theorem states_kept : cSt (V1 m c main_v0_1) = fun n => state (aU m c) (aW m c) (aK m c) (aG m c) n.val := by
  have e : V1 m c main_v0_1 = ofChunksSt fun n => state (aU m c) (aW m c) (aK m c) (aG m c) n.val :=
    (W1_arr m c 7).trans (arr0_7 (V0 m) c)
  rw [e, cSt_ofChunksSt]

theorem res_o : V2 m c main_v0_0 = ofChunks (O (aU m c) (aW m c) (aQ m c) (aK m c) (aA m c) (aG m c)) :=
  (W2_of_ne m c main_v0_0 (by decide)).trans ((W1_arr m c 6).trans (arr0_6 (V0 m) c))

theorem res_du : V2 m c main_v1_0 = ofChunks (DU (aW m c) (aQ m c) (aK m c) (aA m c) (aG m c) (aD m c)) := by
  refine (W2_arr m c 8).trans ((arr1_8 (V1 m) c).trans ?_)
  rw [arg_kept m c main_arg1 (by decide), arg_kept m c main_arg2 (by decide), arg_kept m c main_arg3 (by decide),
    arg_kept m c main_arg4 (by decide), arg_kept m c main_arg5 (by decide), arg_kept m c main_arg6 (by decide)]
  rfl

theorem res_dw : V2 m c main_v1_1 = ofChunks (DW (aU m c) (aW m c) (aQ m c) (aK m c) (aA m c) (aG m c) (aD m c)) := by
  refine (W2_arr m c 9).trans ((arr1_9 (V1 m) c).trans ?_)
  rw [states_kept, arg_kept m c main_arg1 (by decide), arg_kept m c main_arg2 (by decide), arg_kept m c main_arg3 (by decide),
    arg_kept m c main_arg4 (by decide), arg_kept m c main_arg5 (by decide), arg_kept m c main_arg6 (by decide)]
  rfl

theorem res_dq : V2 m c main_v1_2 = ofChunks (DQ (aU m c) (aW m c) (aK m c) (aG m c) (aD m c)) := by
  refine (W2_arr m c 10).trans ((arr1_10 (V1 m) c).trans ?_)
  rw [states_kept, arg_kept m c main_arg6 (by decide)]
  rfl

theorem res_dk : V2 m c main_v1_3 = ofChunks (DK (aU m c) (aW m c) (aQ m c) (aK m c) (aA m c) (aG m c) (aD m c)) := by
  refine (W2_arr m c 11).trans ((arr1_11 (V1 m) c).trans ?_)
  rw [states_kept, arg_kept m c main_arg0 (by decide), arg_kept m c main_arg1 (by decide), arg_kept m c main_arg2 (by decide),
    arg_kept m c main_arg3 (by decide), arg_kept m c main_arg4 (by decide), arg_kept m c main_arg5 (by decide), arg_kept m c main_arg6 (by decide)]
  rfl

theorem res_dA : V2 m c main_v1_4 = ofChunksSq (DA (aU m c) (aW m c) (aK m c) (aG m c) (aD m c)) := by
  refine (W2_arr m c 12).trans ((arr1_12 (V1 m) c).trans ?_)
  rw [states_kept, arg_kept m c main_arg0 (by decide), arg_kept m c main_arg1 (by decide), arg_kept m c main_arg6 (by decide)]
  rfl

theorem res_dg : V2 m c main_v1_5 = ofChunksDec (DG (aU m c) (aW m c) (aQ m c) (aK m c) (aA m c) (aG m c) (aD m c)) := by
  refine (W2_arr m c 13).trans ((arr1_13 (V1 m) c).trans ?_)
  rw [states_kept, arg_kept m c main_arg1 (by decide), arg_kept m c main_arg2 (by decide), arg_kept m c main_arg3 (by decide),
    arg_kept m c main_arg4 (by decide), arg_kept m c main_arg5 (by decide), arg_kept m c main_arg6 (by decide)]
  rfl

end Cert.KernelIdeal.Scan

end
-- ==== Proof.Scan.RefOps.lean ====
/- The reference program's host operations as lists: the stretch before the forward loop, a trip of the forward
   loop, the stretch between the loops, a trip of the backward loop, and the stretch after it; and that @main and the two
   loop bodies run these lists in order. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.StableHlo

variable {F : FTy → Type} [FloatOps F]

local notation "Ops" => List (HloOp τ sig (Elt F))
/-- What a block of host operations is: a program of the TensorCore. -/
abbrev Blk (F : FTy → Type) [FloatOps F] := Prog (TpuEff nD τ sig (Elt F) (HostLoop.Sig (Pipeline.Sig Λ₀ (Fin 0) fun p => (pcfgs (F := F) p).Adm) 2) .tc) PUnit

/-- The operands as stacks of chunks, and what the forward loop starts from. -/
def opsPre : Ops :=
  [ StableHlo.reshape main_arg0 main_v0 (rfl : (.f32 : EltTy) = .f32) shapeCasts_S4096x1024_S64x64x8x128,
    StableHlo.unary main_v0 main_v1 ((transpose S64x8x64x128 [0, 2, 1, 3] · transposes_S64x64x8x128_S64x8x64x128_0_2_1_3) : (⟨S64x64x8x128, .f32⟩ : BufTy).Contents (Elt F) → (⟨S64x8x64x128, .f32⟩ : BufTy).Contents (Elt F)),
    StableHlo.reshape main_arg1 main_v2 (rfl : (.f32 : EltTy) = .f32) shapeCasts_S4096x1024_S64x64x8x128,
    StableHlo.unary main_v2 main_v3 ((transpose S64x8x64x128 [0, 2, 1, 3] · transposes_S64x64x8x128_S64x8x64x128_0_2_1_3) : (⟨S64x64x8x128, .f32⟩ : BufTy).Contents (Elt F) → (⟨S64x8x64x128, .f32⟩ : BufTy).Contents (Elt F)),
    StableHlo.reshape main_arg2 main_v4 (rfl : (.f32 : EltTy) = .f32) shapeCasts_S4096x1024_S64x64x8x128,
    StableHlo.unary main_v4 main_v5 ((transpose S64x8x64x128 [0, 2, 1, 3] · transposes_S64x64x8x128_S64x8x64x128_0_2_1_3) : (⟨S64x64x8x128, .f32⟩ : BufTy).Contents (Elt F) → (⟨S64x8x64x128, .f32⟩ : BufTy).Contents (Elt F)),
    StableHlo.reshape main_arg3 main_v6 (rfl : (.f32 : EltTy) = .f32) shapeCasts_S4096x1024_S64x64x8x128,
    StableHlo.unary main_v6 main_v7 ((transpose S64x8x64x128 [0, 2, 1, 3] · transposes_S64x64x8x128_S64x8x64x128_0_2_1_3) : (⟨S64x64x8x128, .f32⟩ : BufTy).Contents (Elt F) → (⟨S64x8x64x128, .f32⟩ : BufTy).Contents (Elt F)),
    StableHlo.reshape main_arg4 main_v8 (rfl : (.f32 : EltTy) = .f32) shapeCasts_S8x4096x64_S8x64x64x64,
    StableHlo.unary main_v8 main_v9 ((transpose S64x8x64x64 [1, 0, 2, 3] · transposes_S8x64x64x64_S64x8x64x64_1_0_2_3) : (⟨S8x64x64x64, .f32⟩ : BufTy).Contents (Elt F) → (⟨S64x8x64x64, .f32⟩ : BufTy).Contents (Elt F)),
    StableHlo.unary main_arg5 main_v10 ((transpose S64x8x1x128 [1, 0, 2, 3] · transposes_S8x64x1x128_S64x8x1x128_1_0_2_3) : (⟨S8x64x1x128, .f32⟩ : BufTy).Contents (Elt F) → (⟨S64x8x1x128, .f32⟩ : BufTy).Contents (Elt F)),
    StableHlo.nullary main_cst (constant S_ .f32 0x00000000#32),
    StableHlo.unary main_cst main_v11 (broadcastInDim S8x128x128 ![] bcast_S_S8x128x128 : (⟨S_, .f32⟩ : BufTy).Contents (Elt F) → (⟨S8x128x128, .f32⟩ : BufTy).Contents (Elt F)),
    StableHlo.nullary main_cst_0 (constant S_ .f32 0x00000000#32),
    StableHlo.unary main_cst_0 main_v12 (broadcastInDim S64x8x64x128 ![] bcast_S_S64x8x64x128 : (⟨S_, .f32⟩ : BufTy).Contents (Elt F) → (⟨S64x8x64x128, .f32⟩ : BufTy).Contents (Elt F)),
    StableHlo.nullary main_cst_1 (constant S_ .f32 0x00000000#32),
    StableHlo.unary main_cst_1 main_v13 (broadcastInDim S64x8x128x128 ![] bcast_S_S64x8x128x128 : (⟨S_, .f32⟩ : BufTy).Contents (Elt F) → (⟨S64x8x128x128, .f32⟩ : BufTy).Contents (Elt F)),
    StableHlo.nullary main_cst_2 (constant S_ .f32 0x00000000#32),
    StableHlo.unary main_cst_2 main_v14 (broadcastInDim S64x8x64x128 ![] bcast_S_S64x8x64x128 : (⟨S_, .f32⟩ : BufTy).Contents (Elt F) → (⟨S64x8x64x128, .f32⟩ : BufTy).Contents (Elt F)),
    StableHlo.nullary main_c (constantI S_ 32 0#32),
    StableHlo.unary main_v1 main_v15_0 id,
    StableHlo.unary main_v3 main_v15_1 id,
    StableHlo.unary main_v5 main_v15_2 id,
    StableHlo.unary main_v7 main_v15_3 id,
    StableHlo.unary main_v9 main_v15_4 id,
    StableHlo.unary main_v10 main_v15_5 id,
    StableHlo.unary main_c main_v15_6 id,
    StableHlo.unary main_v11 main_v15_7 id,
    StableHlo.unary main_v12 main_v15_8 id,
    StableHlo.unary main_v13 main_v15_9 id,
    StableHlo.unary main_v14 main_v15_10 id ]
theorem opsPre_sub : (opsPre : Ops).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem opsPre_fresh : (opsPre : Ops).Forall fun op => op.fresh = ∅ :=
  StableHlo.forall_fresh_of_map rfl
/-- What it writes. -/
abbrev opsPre_W : List (Ref sig .tc) := [main_v0, main_v1, main_v2, main_v3, main_v4, main_v5, main_v6, main_v7, main_v8, main_v9, main_v10, main_cst, main_v11, main_cst_0, main_v12, main_cst_1, main_v13, main_cst_2, main_v14, main_c, main_v15_0, main_v15_1, main_v15_2, main_v15_3, main_v15_4, main_v15_5, main_v15_6, main_v15_7, main_v15_8, main_v15_9, main_v15_10]
theorem opsPre_writes : (opsPre : Ops).Forall fun op => op.writes ⊆ (opsPre_W.map (Proc.devRef (τ := τ) .tc)).toFinset :=
  StableHlo.forall_writes_sub_of_map rfl
theorem opsPre_keep (V : Valuation τ sig (Elt F)) (r : Ref sig .tc) (h : r ∉ opsPre_W) :
    after opsPre V (no_index (Proc.devRef .tc r)) = V (Proc.devRef .tc r) :=
  after_of_writes_sub opsPre V opsPre_writes (h)

/-- The forward result, and what the backward loop starts from. -/
def opsMid : Ops :=
  [ StableHlo.unary main_v15_8 main_v16 ((transpose S64x64x8x128 [0, 2, 1, 3] · transposes_S64x8x64x128_S64x64x8x128_0_2_1_3) : (⟨S64x8x64x128, .f32⟩ : BufTy).Contents (Elt F) → (⟨S64x64x8x128, .f32⟩ : BufTy).Contents (Elt F)),
    StableHlo.reshape main_v16 main_v17 (rfl : (.f32 : EltTy) = .f32) shapeCasts_S64x64x8x128_S4096x1024,
    StableHlo.nullary main_cst_3 (constant S_ .f32 0x00000000#32),
    StableHlo.unary main_cst_3 main_v18 (broadcastInDim S8x128x128 ![] bcast_S_S8x128x128 : (⟨S_, .f32⟩ : BufTy).Contents (Elt F) → (⟨S8x128x128, .f32⟩ : BufTy).Contents (Elt F)),
    StableHlo.reshape main_arg6 main_v19 (rfl : (.f32 : EltTy) = .f32) shapeCasts_S4096x1024_S64x64x8x128,
    StableHlo.unary main_v19 main_v20 ((transpose S64x8x64x128 [0, 2, 1, 3] · transposes_S64x64x8x128_S64x8x64x128_0_2_1_3) : (⟨S64x64x8x128, .f32⟩ : BufTy).Contents (Elt F) → (⟨S64x8x64x128, .f32⟩ : BufTy).Contents (Elt F)),
    StableHlo.nullary main_cst_4 (constant S_ .f32 0x00000000#32),
    StableHlo.unary main_cst_4 main_v21 (broadcastInDim S8x128x128 ![] bcast_S_S8x128x128 : (⟨S_, .f32⟩ : BufTy).Contents (Elt F) → (⟨S8x128x128, .f32⟩ : BufTy).Contents (Elt F)),
    StableHlo.nullary main_cst_5 (constant S_ .f32 0x00000000#32),
    StableHlo.unary main_cst_5 main_v22 (broadcastInDim S64x8x64x128 ![] bcast_S_S64x8x64x128 : (⟨S_, .f32⟩ : BufTy).Contents (Elt F) → (⟨S64x8x64x128, .f32⟩ : BufTy).Contents (Elt F)),
    StableHlo.nullary main_cst_6 (constant S_ .f32 0x00000000#32),
    StableHlo.unary main_cst_6 main_v23 (broadcastInDim S64x8x64x128 ![] bcast_S_S64x8x64x128 : (⟨S_, .f32⟩ : BufTy).Contents (Elt F) → (⟨S64x8x64x128, .f32⟩ : BufTy).Contents (Elt F)),
    StableHlo.nullary main_cst_7 (constant S_ .f32 0x00000000#32),
    StableHlo.unary main_cst_7 main_v24 (broadcastInDim S64x8x64x128 ![] bcast_S_S64x8x64x128 : (⟨S_, .f32⟩ : BufTy).Contents (Elt F) → (⟨S64x8x64x128, .f32⟩ : BufTy).Contents (Elt F)),
    StableHlo.nullary main_cst_8 (constant S_ .f32 0x00000000#32),
    StableHlo.unary main_cst_8 main_v25 (broadcastInDim S64x8x64x128 ![] bcast_S_S64x8x64x128 : (⟨S_, .f32⟩ : BufTy).Contents (Elt F) → (⟨S64x8x64x128, .f32⟩ : BufTy).Contents (Elt F)),
    StableHlo.nullary main_cst_9 (constant S_ .f32 0x00000000#32),
    StableHlo.unary main_cst_9 main_v26 (broadcastInDim S64x8x64x64 ![] bcast_S_S64x8x64x64 : (⟨S_, .f32⟩ : BufTy).Contents (Elt F) → (⟨S64x8x64x64, .f32⟩ : BufTy).Contents (Elt F)),
    StableHlo.nullary main_cst_10 (constant S_ .f32 0x00000000#32),
    StableHlo.unary main_cst_10 main_v27 (broadcastInDim S64x8x1x128 ![] bcast_S_S64x8x1x128 : (⟨S_, .f32⟩ : BufTy).Contents (Elt F) → (⟨S64x8x1x128, .f32⟩ : BufTy).Contents (Elt F)),
    StableHlo.nullary main_c_11 (constantI S_ 32 0#32),
    StableHlo.unary main_v20 main_v28_0 id,
    StableHlo.unary main_v15_9 main_v28_1 id,
    StableHlo.unary main_v3 main_v28_2 id,
    StableHlo.unary main_v5 main_v28_3 id,
    StableHlo.unary main_v15_10 main_v28_4 id,
    StableHlo.unary main_v9 main_v28_5 id,
    StableHlo.unary main_v10 main_v28_6 id ]
theorem opsMid_sub : (opsMid : Ops).Forall fun op => op.bufs ⊆ StableHlo.tcRefs τ sig :=
  ⟨StableHlo.unary_bufs_sub .., StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem opsMid_fresh : (opsMid : Ops).Forall fun op => op.fresh = ∅ :=
  StableHlo.forall_fresh_of_map rfl
/-- What it writes. -/
abbrev opsMid_W : List (Ref sig .tc) := [main_v16, main_v17, main_cst_3, main_v18, main_v19, main_v20, main_cst_4, main_v21, main_cst_5, main_v22, main_cst_6, main_v23, main_cst_7, main_v24, main_cst_8, main_v25, main_cst_9, main_v26, main_cst_10, main_v27, main_c_11, main_v28_0, main_v28_1, main_v28_2, main_v28_3, main_v28_4, main_v28_5, main_v28_6]
theorem opsMid_writes : (opsMid : Ops).Forall fun op => op.writes ⊆ (opsMid_W.map (Proc.devRef (τ := τ) .tc)).toFinset :=
  StableHlo.forall_writes_sub_of_map rfl
theorem opsMid_keep (V : Valuation τ sig (Elt F)) (r : Ref sig .tc) (h : r ∉ opsMid_W) :
    after opsMid V (no_index (Proc.devRef .tc r)) = V (Proc.devRef .tc r) :=
  after_of_writes_sub opsMid V opsMid_writes (h)

/-- The rest of what the backward loop starts from. -/
def opsMid_1 : Ops :=
  [ StableHlo.unary main_v7 main_v28_7 id,
    StableHlo.unary main_c_11 main_v28_8 id,
    StableHlo.unary main_v21 main_v28_9 id,
    StableHlo.unary main_v22 main_v28_10 id,
    StableHlo.unary main_v23 main_v28_11 id,
    StableHlo.unary main_v24 main_v28_12 id,
    StableHlo.unary main_v25 main_v28_13 id,
    StableHlo.unary main_v26 main_v28_14 id,
    StableHlo.unary main_v27 main_v28_15 id ]
theorem opsMid_1_sub : (opsMid_1 : Ops).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem opsMid_1_fresh : (opsMid_1 : Ops).Forall fun op => op.fresh = ∅ :=
  StableHlo.forall_fresh_of_map rfl
/-- What it writes. -/
abbrev opsMid_1_W : List (Ref sig .tc) := [main_v28_7, main_v28_8, main_v28_9, main_v28_10, main_v28_11, main_v28_12, main_v28_13, main_v28_14, main_v28_15]
theorem opsMid_1_writes : (opsMid_1 : Ops).Forall fun op => op.writes ⊆ (opsMid_1_W.map (Proc.devRef (τ := τ) .tc)).toFinset :=
  StableHlo.forall_writes_sub_of_map rfl
theorem opsMid_1_keep (V : Valuation τ sig (Elt F)) (r : Ref sig .tc) (h : r ∉ opsMid_1_W) :
    after opsMid_1 V (no_index (Proc.devRef .tc r)) = V (Proc.devRef .tc r) :=
  after_of_writes_sub opsMid_1 V opsMid_1_writes (h)

/-- The gradients, read back from their stacks. -/
def opsPost : Ops :=
  [ StableHlo.unary main_v28_15 main_v29 ((transpose S8x64x1x128 [1, 0, 2, 3] · transposes_S64x8x1x128_S8x64x1x128_1_0_2_3) : (⟨S64x8x1x128, .f32⟩ : BufTy).Contents (Elt F) → (⟨S8x64x1x128, .f32⟩ : BufTy).Contents (Elt F)),
    StableHlo.unary main_v28_14 main_v30 ((transpose S8x64x64x64 [1, 0, 2, 3] · transposes_S64x8x64x64_S8x64x64x64_1_0_2_3) : (⟨S64x8x64x64, .f32⟩ : BufTy).Contents (Elt F) → (⟨S8x64x64x64, .f32⟩ : BufTy).Contents (Elt F)),
    StableHlo.reshape main_v30 main_v31 (rfl : (.f32 : EltTy) = .f32) shapeCasts_S8x64x64x64_S8x4096x64,
    StableHlo.unary main_v28_13 main_v32 ((transpose S64x64x8x128 [0, 2, 1, 3] · transposes_S64x8x64x128_S64x64x8x128_0_2_1_3) : (⟨S64x8x64x128, .f32⟩ : BufTy).Contents (Elt F) → (⟨S64x64x8x128, .f32⟩ : BufTy).Contents (Elt F)),
    StableHlo.reshape main_v32 main_v33 (rfl : (.f32 : EltTy) = .f32) shapeCasts_S64x64x8x128_S4096x1024,
    StableHlo.unary main_v28_12 main_v34 ((transpose S64x64x8x128 [0, 2, 1, 3] · transposes_S64x8x64x128_S64x64x8x128_0_2_1_3) : (⟨S64x8x64x128, .f32⟩ : BufTy).Contents (Elt F) → (⟨S64x64x8x128, .f32⟩ : BufTy).Contents (Elt F)),
    StableHlo.reshape main_v34 main_v35 (rfl : (.f32 : EltTy) = .f32) shapeCasts_S64x64x8x128_S4096x1024,
    StableHlo.unary main_v28_11 main_v36 ((transpose S64x64x8x128 [0, 2, 1, 3] · transposes_S64x8x64x128_S64x64x8x128_0_2_1_3) : (⟨S64x8x64x128, .f32⟩ : BufTy).Contents (Elt F) → (⟨S64x64x8x128, .f32⟩ : BufTy).Contents (Elt F)),
    StableHlo.reshape main_v36 main_v37 (rfl : (.f32 : EltTy) = .f32) shapeCasts_S64x64x8x128_S4096x1024,
    StableHlo.unary main_v28_10 main_v38 ((transpose S64x64x8x128 [0, 2, 1, 3] · transposes_S64x8x64x128_S64x64x8x128_0_2_1_3) : (⟨S64x8x64x128, .f32⟩ : BufTy).Contents (Elt F) → (⟨S64x64x8x128, .f32⟩ : BufTy).Contents (Elt F)),
    StableHlo.reshape main_v38 main_v39 (rfl : (.f32 : EltTy) = .f32) shapeCasts_S64x64x8x128_S4096x1024 ]
theorem opsPost_sub : (opsPost : Ops).Forall fun op => op.bufs ⊆ StableHlo.tcRefs τ sig :=
  ⟨StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
theorem opsPost_fresh : (opsPost : Ops).Forall fun op => op.fresh = ∅ :=
  StableHlo.forall_fresh_of_map rfl
/-- What it writes. -/
abbrev opsPost_W : List (Ref sig .tc) := [main_v29, main_v30, main_v31, main_v32, main_v33, main_v34, main_v35, main_v36, main_v37, main_v38, main_v39]
theorem opsPost_writes : (opsPost : Ops).Forall fun op => op.writes ⊆ (opsPost_W.map (Proc.devRef (τ := τ) .tc)).toFinset :=
  StableHlo.forall_writes_sub_of_map rfl
theorem opsPost_keep (V : Valuation τ sig (Elt F)) (r : Ref sig .tc) (h : r ∉ opsPost_W) :
    after opsPost V (no_index (Proc.devRef .tc r)) = V (Proc.devRef .tc r) :=
  after_of_writes_sub opsPost V opsPost_writes (h)

/-- The condition of the loop: its counter against 64. -/
def ops0_cond : Ops :=
  [ StableHlo.nullary main_while0c_c_22 (constantI S_ 32 64#32),
    StableHlo.binary main_v15_6 main_while0c_c_22 main_while0c_v40 (cmpi .slt : (⟨S_, .i32⟩ : BufTy).Contents (Elt F) → (⟨S_, .i32⟩ : BufTy).Contents (Elt F) → (⟨S_, .i1⟩ : BufTy).Contents (Elt F)) ]
theorem ops0_cond_sub : (ops0_cond : Ops).Forall fun op => op.bufs ⊆ StableHlo.tcRefs τ sig :=
  ⟨StableHlo.nullary_bufs_sub .., StableHlo.binary_bufs_sub ..⟩
theorem ops0_cond_fresh : (ops0_cond : Ops).Forall fun op => op.fresh = ∅ :=
  StableHlo.forall_fresh_of_map rfl
/-- What it writes. -/
abbrev ops0_cond_W : List (Ref sig .tc) := [main_while0c_c_22, main_while0c_v40]
theorem ops0_cond_writes : (ops0_cond : Ops).Forall fun op => op.writes ⊆ (ops0_cond_W.map (Proc.devRef (τ := τ) .tc)).toFinset :=
  StableHlo.forall_writes_sub_of_map rfl
theorem ops0_cond_keep (V : Valuation τ sig (Elt F)) (r : Ref sig .tc) (h : r ∉ ops0_cond_W) :
    after ops0_cond V (no_index (Proc.devRef .tc r)) = V (Proc.devRef .tc r) :=
  after_of_writes_sub ops0_cond V ops0_cond_writes (h)

/-- The condition of the loop: its counter against 64. -/
def ops1_cond : Ops :=
  [ StableHlo.nullary main_while1c_c_27 (constantI S_ 32 64#32),
    StableHlo.binary main_v28_8 main_while1c_c_27 main_while1c_v40 (cmpi .slt : (⟨S_, .i32⟩ : BufTy).Contents (Elt F) → (⟨S_, .i32⟩ : BufTy).Contents (Elt F) → (⟨S_, .i1⟩ : BufTy).Contents (Elt F)) ]
theorem ops1_cond_sub : (ops1_cond : Ops).Forall fun op => op.bufs ⊆ StableHlo.tcRefs τ sig :=
  ⟨StableHlo.nullary_bufs_sub .., StableHlo.binary_bufs_sub ..⟩
theorem ops1_cond_fresh : (ops1_cond : Ops).Forall fun op => op.fresh = ∅ :=
  StableHlo.forall_fresh_of_map rfl
/-- What it writes. -/
abbrev ops1_cond_W : List (Ref sig .tc) := [main_while1c_c_27, main_while1c_v40]
theorem ops1_cond_writes : (ops1_cond : Ops).Forall fun op => op.writes ⊆ (ops1_cond_W.map (Proc.devRef (τ := τ) .tc)).toFinset :=
  StableHlo.forall_writes_sub_of_map rfl
theorem ops1_cond_keep (V : Valuation τ sig (Elt F)) (r : Ref sig .tc) (h : r ∉ ops1_cond_W) :
    after ops1_cond V (no_index (Proc.devRef .tc r)) = V (Proc.devRef .tc r) :=
  after_of_writes_sub ops1_cond V ops1_cond_writes (h)

/-- Chunk read or written at the counter, a call of the trip. -/
def ops0_0 : Ops :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v15_0 : StableHlo.TRef sig ⟨S64x8x64x128, .f32⟩) ![(.of main_v15_6 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x8x64x128, .f32⟩) (fun x i => Host.dynamicSlice S1x8x64x128 x (fun k => (i k (Shape.Idx.first h_S_)).toInt) sliceFits_S64x8x64x128_S1x8x64x128),
    StableHlo.TRef.reshape (.of main_while0b_call0_v0 : StableHlo.TRef sig ⟨S1x8x64x128, .f32⟩) (.of main_while0b_v40 : StableHlo.TRef sig ⟨S8x64x128, .f32⟩) (rfl : (.f32 : EltTy) = .f32) shapeCasts_S1x8x64x128_S8x64x128 ]
theorem ops0_0_sub : (ops0_0 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops0_0_fresh : (ops0_0 : Ops).Forall fun op => op.fresh = ∅ :=
  StableHlo.forall_fresh_of_map rfl
/-- What it writes. -/
abbrev ops0_0_W : List (Ref sig .tc) := [main_while0b_call0_c, main_while0b_call0_c_0, main_while0b_call0_c_1, main_while0b_call0_v0, main_while0b_v40]
theorem ops0_0_writes : (ops0_0 : Ops).Forall fun op => op.writes ⊆ (ops0_0_W.map (Proc.devRef (τ := τ) .tc)).toFinset :=
  StableHlo.forall_writes_sub_of_map rfl
theorem ops0_0_keep (V : Valuation τ sig (Elt F)) (r : Ref sig .tc) (h : r ∉ ops0_0_W) :
    after ops0_0 V (no_index (Proc.devRef .tc r)) = V (Proc.devRef .tc r) :=
  after_of_writes_sub ops0_0 V ops0_0_writes (h)

/-- Chunk read or written at the counter, a call of the trip. -/
def ops0_1 : Ops :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v15_1 : StableHlo.TRef sig ⟨S64x8x64x128, .f32⟩) ![(.of main_v15_6 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x8x64x128, .f32⟩) (fun x i => Host.dynamicSlice S1x8x64x128 x (fun k => (i k (Shape.Idx.first h_S_)).toInt) sliceFits_S64x8x64x128_S1x8x64x128),
    StableHlo.TRef.reshape (.of main_while0b_call1_v0 : StableHlo.TRef sig ⟨S1x8x64x128, .f32⟩) (.of main_while0b_v41 : StableHlo.TRef sig ⟨S8x64x128, .f32⟩) (rfl : (.f32 : EltTy) = .f32) shapeCasts_S1x8x64x128_S8x64x128 ]
theorem ops0_1_sub : (ops0_1 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops0_1_fresh : (ops0_1 : Ops).Forall fun op => op.fresh = ∅ :=
  StableHlo.forall_fresh_of_map rfl
/-- What it writes. -/
abbrev ops0_1_W : List (Ref sig .tc) := [main_while0b_call1_c, main_while0b_call1_c_0, main_while0b_call1_c_1, main_while0b_call1_v0, main_while0b_v41]
theorem ops0_1_writes : (ops0_1 : Ops).Forall fun op => op.writes ⊆ (ops0_1_W.map (Proc.devRef (τ := τ) .tc)).toFinset :=
  StableHlo.forall_writes_sub_of_map rfl
theorem ops0_1_keep (V : Valuation τ sig (Elt F)) (r : Ref sig .tc) (h : r ∉ ops0_1_W) :
    after ops0_1 V (no_index (Proc.devRef .tc r)) = V (Proc.devRef .tc r) :=
  after_of_writes_sub ops0_1 V ops0_1_writes (h)

/-- Chunk read or written at the counter, a call of the trip. -/
def ops0_2 : Ops :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v15_2 : StableHlo.TRef sig ⟨S64x8x64x128, .f32⟩) ![(.of main_v15_6 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x8x64x128, .f32⟩) (fun x i => Host.dynamicSlice S1x8x64x128 x (fun k => (i k (Shape.Idx.first h_S_)).toInt) sliceFits_S64x8x64x128_S1x8x64x128),
    StableHlo.TRef.reshape (.of main_while0b_call2_v0 : StableHlo.TRef sig ⟨S1x8x64x128, .f32⟩) (.of main_while0b_v42 : StableHlo.TRef sig ⟨S8x64x128, .f32⟩) (rfl : (.f32 : EltTy) = .f32) shapeCasts_S1x8x64x128_S8x64x128 ]
theorem ops0_2_sub : (ops0_2 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops0_2_fresh : (ops0_2 : Ops).Forall fun op => op.fresh = ∅ :=
  StableHlo.forall_fresh_of_map rfl
/-- What it writes. -/
abbrev ops0_2_W : List (Ref sig .tc) := [main_while0b_call2_c, main_while0b_call2_c_0, main_while0b_call2_c_1, main_while0b_call2_v0, main_while0b_v42]
theorem ops0_2_writes : (ops0_2 : Ops).Forall fun op => op.writes ⊆ (ops0_2_W.map (Proc.devRef (τ := τ) .tc)).toFinset :=
  StableHlo.forall_writes_sub_of_map rfl
theorem ops0_2_keep (V : Valuation τ sig (Elt F)) (r : Ref sig .tc) (h : r ∉ ops0_2_W) :
    after ops0_2 V (no_index (Proc.devRef .tc r)) = V (Proc.devRef .tc r) :=
  after_of_writes_sub ops0_2 V ops0_2_writes (h)

/-- Chunk read or written at the counter, a call of the trip. -/
def ops0_3 : Ops :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v15_3 : StableHlo.TRef sig ⟨S64x8x64x128, .f32⟩) ![(.of main_v15_6 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x8x64x128, .f32⟩) (fun x i => Host.dynamicSlice S1x8x64x128 x (fun k => (i k (Shape.Idx.first h_S_)).toInt) sliceFits_S64x8x64x128_S1x8x64x128),
    StableHlo.TRef.reshape (.of main_while0b_call3_v0 : StableHlo.TRef sig ⟨S1x8x64x128, .f32⟩) (.of main_while0b_v43 : StableHlo.TRef sig ⟨S8x64x128, .f32⟩) (rfl : (.f32 : EltTy) = .f32) shapeCasts_S1x8x64x128_S8x64x128 ]
theorem ops0_3_sub : (ops0_3 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops0_3_fresh : (ops0_3 : Ops).Forall fun op => op.fresh = ∅ :=
  StableHlo.forall_fresh_of_map rfl
/-- What it writes. -/
abbrev ops0_3_W : List (Ref sig .tc) := [main_while0b_call3_c, main_while0b_call3_c_0, main_while0b_call3_c_1, main_while0b_call3_v0, main_while0b_v43]
theorem ops0_3_writes : (ops0_3 : Ops).Forall fun op => op.writes ⊆ (ops0_3_W.map (Proc.devRef (τ := τ) .tc)).toFinset :=
  StableHlo.forall_writes_sub_of_map rfl
theorem ops0_3_keep (V : Valuation τ sig (Elt F)) (r : Ref sig .tc) (h : r ∉ ops0_3_W) :
    after ops0_3 V (no_index (Proc.devRef .tc r)) = V (Proc.devRef .tc r) :=
  after_of_writes_sub ops0_3 V ops0_3_writes (h)

/-- Chunk read or written at the counter, a call of the trip. -/
def ops0_4 : Ops :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v15_4 : StableHlo.TRef sig ⟨S64x8x64x64, .f32⟩) ![(.of main_v15_6 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x8x64x64, .f32⟩) (fun x i => Host.dynamicSlice S1x8x64x64 x (fun k => (i k (Shape.Idx.first h_S_)).toInt) sliceFits_S64x8x64x64_S1x8x64x64),
    StableHlo.TRef.reshape (.of main_while0b_call4_v0 : StableHlo.TRef sig ⟨S1x8x64x64, .f32⟩) (.of main_while0b_v44 : StableHlo.TRef sig ⟨S8x64x64, .f32⟩) (rfl : (.f32 : EltTy) = .f32) shapeCasts_S1x8x64x64_S8x64x64 ]
theorem ops0_4_sub : (ops0_4 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops0_4_fresh : (ops0_4 : Ops).Forall fun op => op.fresh = ∅ :=
  StableHlo.forall_fresh_of_map rfl
/-- What it writes. -/
abbrev ops0_4_W : List (Ref sig .tc) := [main_while0b_call4_c, main_while0b_call4_c_0, main_while0b_call4_c_1, main_while0b_call4_v0, main_while0b_v44]
theorem ops0_4_writes : (ops0_4 : Ops).Forall fun op => op.writes ⊆ (ops0_4_W.map (Proc.devRef (τ := τ) .tc)).toFinset :=
  StableHlo.forall_writes_sub_of_map rfl
theorem ops0_4_keep (V : Valuation τ sig (Elt F)) (r : Ref sig .tc) (h : r ∉ ops0_4_W) :
    after ops0_4 V (no_index (Proc.devRef .tc r)) = V (Proc.devRef .tc r) :=
  after_of_writes_sub ops0_4 V ops0_4_writes (h)

/-- Chunk read or written at the counter, a call of the trip. -/
def ops0_5 : Ops :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.unaryIndexed (.of main_v15_5 : StableHlo.TRef sig ⟨S64x8x1x128, .f32⟩) ![(.of main_v15_6 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_call5_v0 : StableHlo.TRef sig ⟨S1x8x1x128, .f32⟩) (fun x i => Host.dynamicSlice S1x8x1x128 x (fun k => (i k (Shape.Idx.first h_S_)).toInt) sliceFits_S64x8x1x128_S1x8x1x128),
    StableHlo.TRef.reshape (.of main_while0b_call5_v0 : StableHlo.TRef sig ⟨S1x8x1x128, .f32⟩) (.of main_while0b_v45 : StableHlo.TRef sig ⟨S8x1x128, .f32⟩) (rfl : (.f32 : EltTy) = .f32) shapeCasts_S1x8x1x128_S8x1x128 ]
theorem ops0_5_sub : (ops0_5 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops0_5_fresh : (ops0_5 : Ops).Forall fun op => op.fresh = ∅ :=
  StableHlo.forall_fresh_of_map rfl
/-- What it writes. -/
abbrev ops0_5_W : List (Ref sig .tc) := [main_while0b_call5_c, main_while0b_call5_c_0, main_while0b_call5_c_1, main_while0b_call5_v0, main_while0b_v45]
theorem ops0_5_writes : (ops0_5 : Ops).Forall fun op => op.writes ⊆ (ops0_5_W.map (Proc.devRef (τ := τ) .tc)).toFinset :=
  StableHlo.forall_writes_sub_of_map rfl
theorem ops0_5_keep (V : Valuation τ sig (Elt F)) (r : Ref sig .tc) (h : r ∉ ops0_5_W) :
    after ops0_5 V (no_index (Proc.devRef .tc r)) = V (Proc.devRef .tc r) :=
  after_of_writes_sub ops0_5 V ops0_5_writes (h)

/-- Operations of the trip. -/
def ops0_6 : Ops :=
  [ StableHlo.binary main_while0b_v41 main_v15_7 main_while0b_v46 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    StableHlo.binary main_while0b_v40 main_while0b_v46 main_while0b_v47 (subf : (⟨S8x64x128, .f32⟩ : BufTy).Contents (Elt F) → (⟨S8x64x128, .f32⟩ : BufTy).Contents (Elt F) → (⟨S8x64x128, .f32⟩ : BufTy).Contents (Elt F)),
    StableHlo.binary main_while0b_v42 main_v15_7 main_while0b_v48 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    StableHlo.binary main_while0b_v44 main_while0b_v47 main_while0b_v49 ((fun l r => Host.dotGeneral dot_S8x64x64_S8x64x128_S8x64x128_2_1_1_2_0_0 none l r) : (⟨S8x64x64, .f32⟩ : BufTy).Contents (Elt F) → (⟨S8x64x128, .f32⟩ : BufTy).Contents (Elt F) → (⟨S8x64x128, .f32⟩ : BufTy).Contents (Elt F)),
    StableHlo.binary main_while0b_v48 main_while0b_v49 main_while0b_v50 (addf : (⟨S8x64x128, .f32⟩ : BufTy).Contents (Elt F) → (⟨S8x64x128, .f32⟩ : BufTy).Contents (Elt F) → (⟨S8x64x128, .f32⟩ : BufTy).Contents (Elt F)),
    StableHlo.unary main_while0b_v45 main_while0b_v51 (broadcastInDim S8x128x128 ![0, 1, 2] bcast_S8x1x128_S8x128x128_0_1_2 : (⟨S8x1x128, .f32⟩ : BufTy).Contents (Elt F) → (⟨S8x128x128, .f32⟩ : BufTy).Contents (Elt F)),
    StableHlo.binary main_v15_7 main_while0b_v51 main_while0b_v52 (mulf : (⟨S8x128x128, .f32⟩ : BufTy).Contents (Elt F) → (⟨S8x128x128, .f32⟩ : BufTy).Contents (Elt F) → (⟨S8x128x128, .f32⟩ : BufTy).Contents (Elt F)),
    StableHlo.binary main_while0b_v43 main_while0b_v47 main_while0b_v53 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.binary main_while0b_v52 main_while0b_v53 main_while0b_v54 (addf : (⟨S8x128x128, .f32⟩ : BufTy).Contents (Elt F) → (⟨S8x128x128, .f32⟩ : BufTy).Contents (Elt F) → (⟨S8x128x128, .f32⟩ : BufTy).Contents (Elt F)) ]
theorem ops0_6_sub : (ops0_6 : Ops).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub ..⟩
theorem ops0_6_fresh : (ops0_6 : Ops).Forall fun op => op.fresh = ∅ :=
  StableHlo.forall_fresh_of_map rfl
/-- What it writes. -/
abbrev ops0_6_W : List (Ref sig .tc) := [main_while0b_v46, main_while0b_v47, main_while0b_v48, main_while0b_v49, main_while0b_v50, main_while0b_v51, main_while0b_v52, main_while0b_v53, main_while0b_v54]
theorem ops0_6_writes : (ops0_6 : Ops).Forall fun op => op.writes ⊆ (ops0_6_W.map (Proc.devRef (τ := τ) .tc)).toFinset :=
  StableHlo.forall_writes_sub_of_map rfl
theorem ops0_6_keep (V : Valuation τ sig (Elt F)) (r : Ref sig .tc) (h : r ∉ ops0_6_W) :
    after ops0_6 V (no_index (Proc.devRef .tc r)) = V (Proc.devRef .tc r) :=
  after_of_writes_sub ops0_6 V ops0_6_writes (h)

/-- Chunk read or written at the counter, a call of the trip. -/
def ops0_7 : Ops :=
  [ StableHlo.TRef.unary (.of main_while0b_v50 : StableHlo.TRef sig ⟨S8x64x128, .f32⟩) (.of main_while0b_call6_v0 : StableHlo.TRef sig ⟨S1x8x64x128, .f32⟩) (broadcastInDim S1x8x64x128 ![1, 2, 3] bcast_S8x64x128_S1x8x64x128_1_2_3),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.binaryIndexed (.of main_v15_8 : StableHlo.TRef sig ⟨S64x8x64x128, .f32⟩) (.of main_while0b_call6_v0 : StableHlo.TRef sig ⟨S1x8x64x128, .f32⟩) ![(.of main_v15_6 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_v55 : StableHlo.TRef sig ⟨S64x8x64x128, .f32⟩) (fun x u i => Host.dynamicUpdateSlice x u (fun k => (i k (Shape.Idx.first h_S_)).toInt) updateFits_S64x8x64x128_S1x8x64x128) ]
theorem ops0_7_sub : (ops0_7 : Ops).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem ops0_7_fresh : (ops0_7 : Ops).Forall fun op => op.fresh = ∅ :=
  StableHlo.forall_fresh_of_map rfl
/-- What it writes. -/
abbrev ops0_7_W : List (Ref sig .tc) := [main_while0b_call6_v0, main_while0b_call6_c, main_while0b_call6_c_0, main_while0b_call6_c_1, main_while0b_v55]
theorem ops0_7_writes : (ops0_7 : Ops).Forall fun op => op.writes ⊆ (ops0_7_W.map (Proc.devRef (τ := τ) .tc)).toFinset :=
  StableHlo.forall_writes_sub_of_map rfl
theorem ops0_7_keep (V : Valuation τ sig (Elt F)) (r : Ref sig .tc) (h : r ∉ ops0_7_W) :
    after ops0_7 V (no_index (Proc.devRef .tc r)) = V (Proc.devRef .tc r) :=
  after_of_writes_sub ops0_7 V ops0_7_writes (h)

/-- Chunk read or written at the counter, a call of the trip. -/
def ops0_8 : Ops :=
  [ StableHlo.TRef.unary (.of main_v15_7 : StableHlo.TRef sig ⟨S8x128x128, .f32⟩) (.of main_while0b_call7_v0 : StableHlo.TRef sig ⟨S1x8x128x128, .f32⟩) (broadcastInDim S1x8x128x128 ![1, 2, 3] bcast_S8x128x128_S1x8x128x128_1_2_3),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.binaryIndexed (.of main_v15_9 : StableHlo.TRef sig ⟨S64x8x128x128, .f32⟩) (.of main_while0b_call7_v0 : StableHlo.TRef sig ⟨S1x8x128x128, .f32⟩) ![(.of main_v15_6 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_v56 : StableHlo.TRef sig ⟨S64x8x128x128, .f32⟩) (fun x u i => Host.dynamicUpdateSlice x u (fun k => (i k (Shape.Idx.first h_S_)).toInt) updateFits_S64x8x128x128_S1x8x128x128) ]
theorem ops0_8_sub : (ops0_8 : Ops).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem ops0_8_fresh : (ops0_8 : Ops).Forall fun op => op.fresh = ∅ :=
  StableHlo.forall_fresh_of_map rfl
/-- What it writes. -/
abbrev ops0_8_W : List (Ref sig .tc) := [main_while0b_call7_v0, main_while0b_call7_c, main_while0b_call7_c_0, main_while0b_call7_c_1, main_while0b_v56]
theorem ops0_8_writes : (ops0_8 : Ops).Forall fun op => op.writes ⊆ (ops0_8_W.map (Proc.devRef (τ := τ) .tc)).toFinset :=
  StableHlo.forall_writes_sub_of_map rfl
theorem ops0_8_keep (V : Valuation τ sig (Elt F)) (r : Ref sig .tc) (h : r ∉ ops0_8_W) :
    after ops0_8 V (no_index (Proc.devRef .tc r)) = V (Proc.devRef .tc r) :=
  after_of_writes_sub ops0_8 V ops0_8_writes (h)

/-- Chunk read or written at the counter, a call of the trip. -/
def ops0_9 : Ops :=
  [ StableHlo.TRef.unary (.of main_while0b_v47 : StableHlo.TRef sig ⟨S8x64x128, .f32⟩) (.of main_while0b_call8_v0 : StableHlo.TRef sig ⟨S1x8x64x128, .f32⟩) (broadcastInDim S1x8x64x128 ![1, 2, 3] bcast_S8x64x128_S1x8x64x128_1_2_3),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.nullary (.of main_while0b_call8_c_1 : StableHlo.TRef sig ⟨S_, .i32⟩) (constantI S_ 32 0#32),
    StableHlo.TRef.binaryIndexed (.of main_v15_10 : StableHlo.TRef sig ⟨S64x8x64x128, .f32⟩) (.of main_while0b_call8_v0 : StableHlo.TRef sig ⟨S1x8x64x128, .f32⟩) ![(.of main_v15_6 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩)] (.of main_while0b_v57 : StableHlo.TRef sig ⟨S64x8x64x128, .f32⟩) (fun x u i => Host.dynamicUpdateSlice x u (fun k => (i k (Shape.Idx.first h_S_)).toInt) updateFits_S64x8x64x128_S1x8x64x128) ]
theorem ops0_9_sub : (ops0_9 : Ops).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem ops0_9_fresh : (ops0_9 : Ops).Forall fun op => op.fresh = ∅ :=
  StableHlo.forall_fresh_of_map rfl
/-- What it writes. -/
abbrev ops0_9_W : List (Ref sig .tc) := [main_while0b_call8_v0, main_while0b_call8_c, main_while0b_call8_c_0, main_while0b_call8_c_1, main_while0b_v57]
theorem ops0_9_writes : (ops0_9 : Ops).Forall fun op => op.writes ⊆ (ops0_9_W.map (Proc.devRef (τ := τ) .tc)).toFinset :=
  StableHlo.forall_writes_sub_of_map rfl
theorem ops0_9_keep (V : Valuation τ sig (Elt F)) (r : Ref sig .tc) (h : r ∉ ops0_9_W) :
    after ops0_9 V (no_index (Proc.devRef .tc r)) = V (Proc.devRef .tc r) :=
  after_of_writes_sub ops0_9 V ops0_9_writes (h)

/-- Operations of the trip. -/
def ops0_10 : Ops :=
  [ StableHlo.nullary main_while0b_c_22 (constantI S_ 32 1#32),
    StableHlo.binary main_v15_6 main_while0b_c_22 main_while0b_v58 (addi : (⟨S_, .i32⟩ : BufTy).Contents (Elt F) → (⟨S_, .i32⟩ : BufTy).Contents (Elt F) → (⟨S_, .i32⟩ : BufTy).Contents (Elt F)),
    StableHlo.unary main_while0b_v58 main_v15_6 id,
    StableHlo.unary main_while0b_v54 main_v15_7 id,
    StableHlo.unary main_while0b_v55 main_v15_8 id,
    StableHlo.unary main_while0b_v56 main_v15_9 id,
    StableHlo.unary main_while0b_v57 main_v15_10 id ]
theorem ops0_10_sub : (ops0_10 : Ops).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
theorem ops0_10_fresh : (ops0_10 : Ops).Forall fun op => op.fresh = ∅ :=
  StableHlo.forall_fresh_of_map rfl
/-- What it writes. -/
abbrev ops0_10_W : List (Ref sig .tc) := [main_while0b_c_22, main_while0b_v58, main_v15_6, main_v15_7, main_v15_8, main_v15_9, main_v15_10]
theorem ops0_10_writes : (ops0_10 : Ops).Forall fun op => op.writes ⊆ (ops0_10_W.map (Proc.devRef (τ := τ) .tc)).toFinset :=
  StableHlo.forall_writes_sub_of_map rfl
theorem ops0_10_keep (V : Valuation τ sig (Elt F)) (r : Ref sig .tc) (h : r ∉ ops0_10_W) :
    after ops0_10 V (no_index (Proc.devRef .tc r)) = V (Proc.devRef .tc r) :=
  after_of_writes_sub ops0_10 V ops0_10_writes (h)

/-- Operations of the trip. -/
def ops1_0 : Ops :=
  [ StableHlo.nullary main_while1b_c_27 (constantI S_ 32 64#32),
    StableHlo.binary main_while1b_c_27 main_v28_8 main_while1b_v40 (subi : (⟨S_, .i32⟩ : BufTy).Contents (Elt F) → (⟨S_, .i32⟩ : BufTy).Contents (Elt F) → (⟨S_, .i32⟩ : BufTy).Contents (Elt F)),
    StableHlo.nullary main_while1b_c_28 (constantI S_ 32 1#32),
    StableHlo.binary main_while1b_v40 main_while1b_c_28 main_while1b_v41 (subi : (⟨S_, .i32⟩ : BufTy).Contents (Elt F) → (⟨S_, .i32⟩ : BufTy).Contents (Elt F) → (⟨S_, .i32⟩ : BufTy).Contents (Elt F)) ]
theorem ops1_0_sub : (ops1_0 : Ops).Forall fun op => op.bufs ⊆ StableHlo.tcRefs τ sig :=
  ⟨StableHlo.nullary_bufs_sub .., StableHlo.binary_bufs_sub .., StableHlo.nullary_bufs_sub .., StableHlo.binary_bufs_sub ..⟩
theorem ops1_0_fresh : (ops1_0 : Ops).Forall fun op => op.fresh = ∅ :=
  StableHlo.forall_fresh_of_map rfl
/-- What it writes. -/
abbrev ops1_0_W : List (Ref sig .tc) := [main_while1b_c_27, main_while1b_v40, main_while1b_c_28, main_while1b_v41]
theorem ops1_0_writes : (ops1_0 : Ops).Forall fun op => op.writes ⊆ (ops1_0_W.map (Proc.devRef (τ := τ) .tc)).toFinset :=
  StableHlo.forall_writes_sub_of_map rfl
theorem ops1_0_keep (V : Valuation τ sig (Elt F)) (r : Ref sig .tc) (h : r ∉ ops1_0_W) :
    after ops1_0 V (no_index (Proc.devRef .tc r)) = V (Proc.devRef .tc r) :=
  after_of_writes_sub ops1_0 V ops1_0_writes (h)

/-- Chunk read or written at the counter, a call of the trip. -/
def ops1_1 : Ops :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.nullary (.of main_while1b_call9_c_1 : StableHlo.TRef sig ⟨S_, .i32⟩) (constantI S_ 32 0#32),
    StableHlo.TRef.unaryIndexed (.of main_v28_0 : StableHlo.TRef sig ⟨S64x8x64x128, .f32⟩) ![(.of main_while1b_v41 : StableHlo.TRef sig ⟨S_, .i32⟩), (.of main_while1b_call9_c : StableHlo.TRef sig ⟨S_, .i32⟩), (.of main_while1b_call9_c_0 : StableHlo.TRef sig ⟨S_, .i32⟩), (.of main_while1b_call9_c_1 : StableHlo.TRef sig ⟨S_, .i32⟩)] (.of main_while1b_call9_v0 : StableHlo.TRef sig ⟨S1x8x64x128, .f32⟩) (fun x i => Host.dynamicSlice S1x8x64x128 x (fun k => (i k (Shape.Idx.first h_S_)).toInt) sliceFits_S64x8x64x128_S1x8x64x128),
    StableHlo.TRef.reshape (.of main_while1b_call9_v0 : StableHlo.TRef sig ⟨S1x8x64x128, .f32⟩) (.of main_while1b_v42 : StableHlo.TRef sig ⟨S8x64x128, .f32⟩) (rfl : (.f32 : EltTy) = .f32) shapeCasts_S1x8x64x128_S8x64x128 ]
theorem ops1_1_sub : (ops1_1 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops1_1_fresh : (ops1_1 : Ops).Forall fun op => op.fresh = ∅ :=
  StableHlo.forall_fresh_of_map rfl
/-- What it writes. -/
abbrev ops1_1_W : List (Ref sig .tc) := [main_while1b_call9_c, main_while1b_call9_c_0, main_while1b_call9_c_1, main_while1b_call9_v0, main_while1b_v42]
theorem ops1_1_writes : (ops1_1 : Ops).Forall fun op => op.writes ⊆ (ops1_1_W.map (Proc.devRef (τ := τ) .tc)).toFinset :=
  StableHlo.forall_writes_sub_of_map rfl
theorem ops1_1_keep (V : Valuation τ sig (Elt F)) (r : Ref sig .tc) (h : r ∉ ops1_1_W) :
    after ops1_1 V (no_index (Proc.devRef .tc r)) = V (Proc.devRef .tc r) :=
  after_of_writes_sub ops1_1 V ops1_1_writes (h)

/-- Chunk read or written at the counter, a call of the trip. -/
def ops1_2 : Ops :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.unaryIndexed (.of main_v28_1 : StableHlo.TRef sig ⟨S64x8x128x128, .f32⟩) ![(.of main_while1b_v41 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩)] (.of main_while1b_call10_v0 : StableHlo.TRef sig ⟨S1x8x128x128, .f32⟩) (fun x i => Host.dynamicSlice S1x8x128x128 x (fun k => (i k (Shape.Idx.first h_S_)).toInt) sliceFits_S64x8x128x128_S1x8x128x128),
    StableHlo.TRef.reshape (.of main_while1b_call10_v0 : StableHlo.TRef sig ⟨S1x8x128x128, .f32⟩) (.of main_while1b_v43 : StableHlo.TRef sig ⟨S8x128x128, .f32⟩) (rfl : (.f32 : EltTy) = .f32) shapeCasts_S1x8x128x128_S8x128x128 ]
theorem ops1_2_sub : (ops1_2 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops1_2_fresh : (ops1_2 : Ops).Forall fun op => op.fresh = ∅ :=
  StableHlo.forall_fresh_of_map rfl
/-- What it writes. -/
abbrev ops1_2_W : List (Ref sig .tc) := [main_while1b_call10_c, main_while1b_call10_c_0, main_while1b_call10_c_1, main_while1b_call10_v0, main_while1b_v43]
theorem ops1_2_writes : (ops1_2 : Ops).Forall fun op => op.writes ⊆ (ops1_2_W.map (Proc.devRef (τ := τ) .tc)).toFinset :=
  StableHlo.forall_writes_sub_of_map rfl
theorem ops1_2_keep (V : Valuation τ sig (Elt F)) (r : Ref sig .tc) (h : r ∉ ops1_2_W) :
    after ops1_2 V (no_index (Proc.devRef .tc r)) = V (Proc.devRef .tc r) :=
  after_of_writes_sub ops1_2 V ops1_2_writes (h)

/-- Chunk read or written at the counter, a call of the trip. -/
def ops1_3 : Ops :=
  [ StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.unaryIndexed (.of main_v28_2 : StableHlo.TRef sig ⟨S64x8x64x128, .f32⟩) ![(.of main_while1b_v41 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩)] (.of main_while1b_call11_v0 : StableHlo.TRef sig ⟨S1x8x64x128, .f32⟩) (fun x i => Host.dynamicSlice S1x8x64x128 x (fun k => (i k (Shape.Idx.first h_S_)).toInt) sliceFits_S64x8x64x128_S1x8x64x128),
    StableHlo.TRef.reshape (.of main_while1b_call11_v0 : StableHlo.TRef sig ⟨S1x8x64x128, .f32⟩) (.of main_while1b_v44 : StableHlo.TRef sig ⟨S8x64x128, .f32⟩) (rfl : (.f32 : EltTy) = .f32) shapeCasts_S1x8x64x128_S8x64x128 ]
theorem ops1_3_sub : (ops1_3 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops1_3_fresh : (ops1_3 : Ops).Forall fun op => op.fresh = ∅ :=
  StableHlo.forall_fresh_of_map rfl
/-- What it writes. -/
abbrev ops1_3_W : List (Ref sig .tc) := [main_while1b_call11_c, main_while1b_call11_c_0, main_while1b_call11_c_1, main_while1b_call11_v0, main_while1b_v44]
theorem ops1_3_writes : (ops1_3 : Ops).Forall fun op => op.writes ⊆ (ops1_3_W.map (Proc.devRef (τ := τ) .tc)).toFinset :=
  StableHlo.forall_writes_sub_of_map rfl
theorem ops1_3_keep (V : Valuation τ sig (Elt F)) (r : Ref sig .tc) (h : r ∉ ops1_3_W) :
    after ops1_3 V (no_index (Proc.devRef .tc r)) = V (Proc.devRef .tc r) :=
  after_of_writes_sub ops1_3 V ops1_3_writes (h)

/-- Chunk read or written at the counter, a call of the trip. -/
def ops1_4 : Ops :=
  [ StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.unaryIndexed (.of main_v28_3 : StableHlo.TRef sig ⟨S64x8x64x128, .f32⟩) ![(.of main_while1b_v41 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩)] (.of main_while1b_call12_v0 : StableHlo.TRef sig ⟨S1x8x64x128, .f32⟩) (fun x i => Host.dynamicSlice S1x8x64x128 x (fun k => (i k (Shape.Idx.first h_S_)).toInt) sliceFits_S64x8x64x128_S1x8x64x128),
    StableHlo.TRef.reshape (.of main_while1b_call12_v0 : StableHlo.TRef sig ⟨S1x8x64x128, .f32⟩) (.of main_while1b_v45 : StableHlo.TRef sig ⟨S8x64x128, .f32⟩) (rfl : (.f32 : EltTy) = .f32) shapeCasts_S1x8x64x128_S8x64x128 ]
theorem ops1_4_sub : (ops1_4 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops1_4_fresh : (ops1_4 : Ops).Forall fun op => op.fresh = ∅ :=
  StableHlo.forall_fresh_of_map rfl
/-- What it writes. -/
abbrev ops1_4_W : List (Ref sig .tc) := [main_while1b_call12_c, main_while1b_call12_c_0, main_while1b_call12_c_1, main_while1b_call12_v0, main_while1b_v45]
theorem ops1_4_writes : (ops1_4 : Ops).Forall fun op => op.writes ⊆ (ops1_4_W.map (Proc.devRef (τ := τ) .tc)).toFinset :=
  StableHlo.forall_writes_sub_of_map rfl
theorem ops1_4_keep (V : Valuation τ sig (Elt F)) (r : Ref sig .tc) (h : r ∉ ops1_4_W) :
    after ops1_4 V (no_index (Proc.devRef .tc r)) = V (Proc.devRef .tc r) :=
  after_of_writes_sub ops1_4 V ops1_4_writes (h)

/-- Chunk read or written at the counter, a call of the trip. -/
def ops1_5 : Ops :=
  [ StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.unaryIndexed (.of main_v28_4 : StableHlo.TRef sig ⟨S64x8x64x128, .f32⟩) ![(.of main_while1b_v41 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩)] (.of main_while1b_call13_v0 : StableHlo.TRef sig ⟨S1x8x64x128, .f32⟩) (fun x i => Host.dynamicSlice S1x8x64x128 x (fun k => (i k (Shape.Idx.first h_S_)).toInt) sliceFits_S64x8x64x128_S1x8x64x128),
    StableHlo.TRef.reshape (.of main_while1b_call13_v0 : StableHlo.TRef sig ⟨S1x8x64x128, .f32⟩) (.of main_while1b_v46 : StableHlo.TRef sig ⟨S8x64x128, .f32⟩) (rfl : (.f32 : EltTy) = .f32) shapeCasts_S1x8x64x128_S8x64x128 ]
theorem ops1_5_sub : (ops1_5 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops1_5_fresh : (ops1_5 : Ops).Forall fun op => op.fresh = ∅ :=
  StableHlo.forall_fresh_of_map rfl
/-- What it writes. -/
abbrev ops1_5_W : List (Ref sig .tc) := [main_while1b_call13_c, main_while1b_call13_c_0, main_while1b_call13_c_1, main_while1b_call13_v0, main_while1b_v46]
theorem ops1_5_writes : (ops1_5 : Ops).Forall fun op => op.writes ⊆ (ops1_5_W.map (Proc.devRef (τ := τ) .tc)).toFinset :=
  StableHlo.forall_writes_sub_of_map rfl
theorem ops1_5_keep (V : Valuation τ sig (Elt F)) (r : Ref sig .tc) (h : r ∉ ops1_5_W) :
    after ops1_5 V (no_index (Proc.devRef .tc r)) = V (Proc.devRef .tc r) :=
  after_of_writes_sub ops1_5 V ops1_5_writes (h)

/-- Chunk read or written at the counter, a call of the trip. -/
def ops1_6 : Ops :=
  [ StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.unaryIndexed (.of main_v28_5 : StableHlo.TRef sig ⟨S64x8x64x64, .f32⟩) ![(.of main_while1b_v41 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩)] (.of main_while1b_call14_v0 : StableHlo.TRef sig ⟨S1x8x64x64, .f32⟩) (fun x i => Host.dynamicSlice S1x8x64x64 x (fun k => (i k (Shape.Idx.first h_S_)).toInt) sliceFits_S64x8x64x64_S1x8x64x64),
    StableHlo.TRef.reshape (.of main_while1b_call14_v0 : StableHlo.TRef sig ⟨S1x8x64x64, .f32⟩) (.of main_while1b_v47 : StableHlo.TRef sig ⟨S8x64x64, .f32⟩) (rfl : (.f32 : EltTy) = .f32) shapeCasts_S1x8x64x64_S8x64x64 ]
theorem ops1_6_sub : (ops1_6 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops1_6_fresh : (ops1_6 : Ops).Forall fun op => op.fresh = ∅ :=
  StableHlo.forall_fresh_of_map rfl
/-- What it writes. -/
abbrev ops1_6_W : List (Ref sig .tc) := [main_while1b_call14_c, main_while1b_call14_c_0, main_while1b_call14_c_1, main_while1b_call14_v0, main_while1b_v47]
theorem ops1_6_writes : (ops1_6 : Ops).Forall fun op => op.writes ⊆ (ops1_6_W.map (Proc.devRef (τ := τ) .tc)).toFinset :=
  StableHlo.forall_writes_sub_of_map rfl
theorem ops1_6_keep (V : Valuation τ sig (Elt F)) (r : Ref sig .tc) (h : r ∉ ops1_6_W) :
    after ops1_6 V (no_index (Proc.devRef .tc r)) = V (Proc.devRef .tc r) :=
  after_of_writes_sub ops1_6 V ops1_6_writes (h)

/-- Chunk read or written at the counter, a call of the trip. -/
def ops1_7 : Ops :=
  [ StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.unaryIndexed (.of main_v28_6 : StableHlo.TRef sig ⟨S64x8x1x128, .f32⟩) ![(.of main_while1b_v41 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩)] (.of main_while1b_call15_v0 : StableHlo.TRef sig ⟨S1x8x1x128, .f32⟩) (fun x i => Host.dynamicSlice S1x8x1x128 x (fun k => (i k (Shape.Idx.first h_S_)).toInt) sliceFits_S64x8x1x128_S1x8x1x128),
    StableHlo.TRef.reshape (.of main_while1b_call15_v0 : StableHlo.TRef sig ⟨S1x8x1x128, .f32⟩) (.of main_while1b_v48 : StableHlo.TRef sig ⟨S8x1x128, .f32⟩) (rfl : (.f32 : EltTy) = .f32) shapeCasts_S1x8x1x128_S8x1x128 ]
theorem ops1_7_sub : (ops1_7 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops1_7_fresh : (ops1_7 : Ops).Forall fun op => op.fresh = ∅ :=
  StableHlo.forall_fresh_of_map rfl
/-- What it writes. -/
abbrev ops1_7_W : List (Ref sig .tc) := [main_while1b_call15_c, main_while1b_call15_c_0, main_while1b_call15_c_1, main_while1b_call15_v0, main_while1b_v48]
theorem ops1_7_writes : (ops1_7 : Ops).Forall fun op => op.writes ⊆ (ops1_7_W.map (Proc.devRef (τ := τ) .tc)).toFinset :=
  StableHlo.forall_writes_sub_of_map rfl
theorem ops1_7_keep (V : Valuation τ sig (Elt F)) (r : Ref sig .tc) (h : r ∉ ops1_7_W) :
    after ops1_7 V (no_index (Proc.devRef .tc r)) = V (Proc.devRef .tc r) :=
  after_of_writes_sub ops1_7 V ops1_7_writes (h)

/-- Chunk read or written at the counter, a call of the trip. -/
def ops1_8 : Ops :=
  [ StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.nullary (.of main_while1b_call16_c_1 : StableHlo.TRef sig ⟨S_, .i32⟩) (constantI S_ 32 0#32),
    StableHlo.TRef.unaryIndexed (.of main_v28_7 : StableHlo.TRef sig ⟨S64x8x64x128, .f32⟩) ![(.of main_while1b_v41 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩)] (.of main_while1b_call16_v0 : StableHlo.TRef sig ⟨S1x8x64x128, .f32⟩) (fun x i => Host.dynamicSlice S1x8x64x128 x (fun k => (i k (Shape.Idx.first h_S_)).toInt) sliceFits_S64x8x64x128_S1x8x64x128),
    StableHlo.TRef.reshape (.of main_while1b_call16_v0 : StableHlo.TRef sig ⟨S1x8x64x128, .f32⟩) (.of main_while1b_v49 : StableHlo.TRef sig ⟨S8x64x128, .f32⟩) (rfl : (.f32 : EltTy) = .f32) shapeCasts_S1x8x64x128_S8x64x128 ]
theorem ops1_8_sub : (ops1_8 : Ops).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem ops1_8_fresh : (ops1_8 : Ops).Forall fun op => op.fresh = ∅ :=
  StableHlo.forall_fresh_of_map rfl
/-- What it writes. -/
abbrev ops1_8_W : List (Ref sig .tc) := [main_while1b_call16_c, main_while1b_call16_c_0, main_while1b_call16_c_1, main_while1b_call16_v0, main_while1b_v49]
theorem ops1_8_writes : (ops1_8 : Ops).Forall fun op => op.writes ⊆ (ops1_8_W.map (Proc.devRef (τ := τ) .tc)).toFinset :=
  StableHlo.forall_writes_sub_of_map rfl
theorem ops1_8_keep (V : Valuation τ sig (Elt F)) (r : Ref sig .tc) (h : r ∉ ops1_8_W) :
    after ops1_8 V (no_index (Proc.devRef .tc r)) = V (Proc.devRef .tc r) :=
  after_of_writes_sub ops1_8 V ops1_8_writes (h)

/-- Operations of the trip. -/
def ops1_9 : Ops :=
  [ StableHlo.binary main_v28_9 main_while1b_v49 main_while1b_v50 ((fun l r => Host.dotGeneral dot_S8x128x128_S8x64x128_S8x128x64_1_2_2_1_0_0 none l r) : (⟨S8x128x128, .f32⟩ : BufTy).Contents (Elt F) → (⟨S8x64x128, .f32⟩ : BufTy).Contents (Elt F) → (⟨S8x128x64, .f32⟩ : BufTy).Contents (Elt F)),
    StableHlo.unary main_while1b_v50 main_while1b_v51 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_v28_9 main_while1b_v46 main_while1b_v52 ((fun l r => Host.dotGeneral dot_S8x128x128_S8x64x128_S8x128x64_2_2_1_1_0_0 none l r) : (⟨S8x128x128, .f32⟩ : BufTy).Contents (Elt F) → (⟨S8x64x128, .f32⟩ : BufTy).Contents (Elt F) → (⟨S8x128x64, .f32⟩ : BufTy).Contents (Elt F)),
    StableHlo.unary main_while1b_v52 main_while1b_v53 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_while1b_v43 main_v28_9 main_while1b_v54 (mulf : (⟨S8x128x128, .f32⟩ : BufTy).Contents (Elt F) → (⟨S8x128x128, .f32⟩ : BufTy).Contents (Elt F) → (⟨S8x128x128, .f32⟩ : BufTy).Contents (Elt F)),
    StableHlo.nullary main_while1b_cst_29 (constant S_ .f32 0x00000000#32),
    StableHlo.binary main_while1b_v54 main_while1b_cst_29 main_while1b_v55 ((fun x v => Host.reduceAdd x v reducesTo_S8x128x128_S8x128_d1 h_S_) : (⟨S8x128x128, .f32⟩ : BufTy).Contents (Elt F) → (⟨S_, .f32⟩ : BufTy).Contents (Elt F) → (⟨S8x128, .f32⟩ : BufTy).Contents (Elt F)),
    StableHlo.reshape main_while1b_v55 main_while1b_v56 (rfl : (.f32 : EltTy) = .f32) shapeCasts_S8x128_S8x1x128,
    StableHlo.unary main_while1b_v48 main_while1b_v57 (broadcastInDim S8x128x128 ![0, 1, 2] bcast_S8x1x128_S8x128x128_0_1_2 : (⟨S8x1x128, .f32⟩ : BufTy).Contents (Elt F) → (⟨S8x128x128, .f32⟩ : BufTy).Contents (Elt F)),
    StableHlo.binary main_v28_9 main_while1b_v57 main_while1b_v58 (mulf : (⟨S8x128x128, .f32⟩ : BufTy).Contents (Elt F) → (⟨S8x128x128, .f32⟩ : BufTy).Contents (Elt F) → (⟨S8x128x128, .f32⟩ : BufTy).Contents (Elt F)),
    StableHlo.binary main_while1b_v42 main_while1b_v47 main_while1b_v59 ((fun l r => Host.dotGeneral dot_S8x64x128_S8x64x64_S8x128x64_1_1_2_2_0_0 none l r) : (⟨S8x64x128, .f32⟩ : BufTy).Contents (Elt F) → (⟨S8x64x64, .f32⟩ : BufTy).Contents (Elt F) → (⟨S8x128x64, .f32⟩ : BufTy).Contents (Elt F)),
    StableHlo.unary main_while1b_v59 main_while1b_v60 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_while1b_v51 main_while1b_v60 main_while1b_v61 (addf : (⟨S8x64x128, .f32⟩ : BufTy).Contents (Elt F) → (⟨S8x64x128, .f32⟩ : BufTy).Contents (Elt F) → (⟨S8x64x128, .f32⟩ : BufTy).Contents (Elt F)),
    StableHlo.binary main_while1b_v42 main_while1b_v46 main_while1b_v62 ((fun l r => Host.dotGeneral dot_S8x64x128_S8x64x128_S8x64x64_2_2_1_1_0_0 none l r) : (⟨S8x64x128, .f32⟩ : BufTy).Contents (Elt F) → (⟨S8x64x128, .f32⟩ : BufTy).Contents (Elt F) → (⟨S8x64x64, .f32⟩ : BufTy).Contents (Elt F)),
    StableHlo.binary main_while1b_v42 main_while1b_v45 main_while1b_v63 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.unary main_while1b_v63 main_while1b_v64 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v58 main_while1b_v64 main_while1b_v65 (addf : (⟨S8x128x128, .f32⟩ : BufTy).Contents (Elt F) → (⟨S8x128x128, .f32⟩ : BufTy).Contents (Elt F) → (⟨S8x128x128, .f32⟩ : BufTy).Contents (Elt F)),
    StableHlo.binary main_while1b_v42 main_while1b_v43 main_while1b_v66 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)),
    StableHlo.unary main_while1b_v61 main_while1b_v67 (Host.negf : (⟨S8x64x128, .f32⟩ : BufTy).Contents (Elt F) → (⟨S8x64x128, .f32⟩ : BufTy).Contents (Elt F)),
    StableHlo.binary main_while1b_v67 main_while1b_v44 main_while1b_v68 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.unary main_while1b_v68 main_while1b_v69 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v65 main_while1b_v69 main_while1b_v70 (addf : (⟨S8x128x128, .f32⟩ : BufTy).Contents (Elt F) → (⟨S8x128x128, .f32⟩ : BufTy).Contents (Elt F) → (⟨S8x128x128, .f32⟩ : BufTy).Contents (Elt F)),
    StableHlo.binary main_while1b_v67 main_while1b_v43 main_while1b_v71 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)) ]
theorem ops1_9_sub : (ops1_9 : Ops).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub ..⟩
theorem ops1_9_fresh : (ops1_9 : Ops).Forall fun op => op.fresh = ∅ :=
  StableHlo.forall_fresh_of_map rfl
/-- What it writes. -/
abbrev ops1_9_W : List (Ref sig .tc) := [main_while1b_v50, main_while1b_v51, main_while1b_v52, main_while1b_v53, main_while1b_v54, main_while1b_cst_29, main_while1b_v55, main_while1b_v56, main_while1b_v57, main_while1b_v58, main_while1b_v59, main_while1b_v60, main_while1b_v61, main_while1b_v62, main_while1b_v63, main_while1b_v64, main_while1b_v65, main_while1b_v66, main_while1b_v67, main_while1b_v68, main_while1b_v69, main_while1b_v70, main_while1b_v71]
theorem ops1_9_writes : (ops1_9 : Ops).Forall fun op => op.writes ⊆ (ops1_9_W.map (Proc.devRef (τ := τ) .tc)).toFinset :=
  StableHlo.forall_writes_sub_of_map rfl
theorem ops1_9_keep (V : Valuation τ sig (Elt F)) (r : Ref sig .tc) (h : r ∉ ops1_9_W) :
    after ops1_9 V (no_index (Proc.devRef .tc r)) = V (Proc.devRef .tc r) :=
  after_of_writes_sub ops1_9 V ops1_9_writes (h)

/-- Chunk read or written at the counter, a call of the trip. -/
def ops1_10 : Ops :=
  [ StableHlo.TRef.unary (.of main_while1b_v61 : StableHlo.TRef sig ⟨S8x64x128, .f32⟩) (.of main_while1b_call17_v0 : StableHlo.TRef sig ⟨S1x8x64x128, .f32⟩) (broadcastInDim S1x8x64x128 ![1, 2, 3] bcast_S8x64x128_S1x8x64x128_1_2_3),
    StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.binaryIndexed (.of main_v28_10 : StableHlo.TRef sig ⟨S64x8x64x128, .f32⟩) (.of main_while1b_call17_v0 : StableHlo.TRef sig ⟨S1x8x64x128, .f32⟩) ![(.of main_while1b_v41 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩)] (.of main_while1b_v72 : StableHlo.TRef sig ⟨S64x8x64x128, .f32⟩) (fun x u i => Host.dynamicUpdateSlice x u (fun k => (i k (Shape.Idx.first h_S_)).toInt) updateFits_S64x8x64x128_S1x8x64x128) ]
theorem ops1_10_sub : (ops1_10 : Ops).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem ops1_10_fresh : (ops1_10 : Ops).Forall fun op => op.fresh = ∅ :=
  StableHlo.forall_fresh_of_map rfl
/-- What it writes. -/
abbrev ops1_10_W : List (Ref sig .tc) := [main_while1b_call17_v0, main_while1b_call17_c, main_while1b_call17_c_0, main_while1b_call17_c_1, main_while1b_v72]
theorem ops1_10_writes : (ops1_10 : Ops).Forall fun op => op.writes ⊆ (ops1_10_W.map (Proc.devRef (τ := τ) .tc)).toFinset :=
  StableHlo.forall_writes_sub_of_map rfl
theorem ops1_10_keep (V : Valuation τ sig (Elt F)) (r : Ref sig .tc) (h : r ∉ ops1_10_W) :
    after ops1_10 V (no_index (Proc.devRef .tc r)) = V (Proc.devRef .tc r) :=
  after_of_writes_sub ops1_10 V ops1_10_writes (h)

/-- Chunk read or written at the counter, a call of the trip. -/
def ops1_11 : Ops :=
  [ StableHlo.TRef.unary (.of main_while1b_v71 : StableHlo.TRef sig ⟨S8x64x128, .f32⟩) (.of main_while1b_call18_v0 : StableHlo.TRef sig ⟨S1x8x64x128, .f32⟩) (broadcastInDim S1x8x64x128 ![1, 2, 3] bcast_S8x64x128_S1x8x64x128_1_2_3),
    StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.binaryIndexed (.of main_v28_11 : StableHlo.TRef sig ⟨S64x8x64x128, .f32⟩) (.of main_while1b_call18_v0 : StableHlo.TRef sig ⟨S1x8x64x128, .f32⟩) ![(.of main_while1b_v41 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩)] (.of main_while1b_v73 : StableHlo.TRef sig ⟨S64x8x64x128, .f32⟩) (fun x u i => Host.dynamicUpdateSlice x u (fun k => (i k (Shape.Idx.first h_S_)).toInt) updateFits_S64x8x64x128_S1x8x64x128) ]
theorem ops1_11_sub : (ops1_11 : Ops).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem ops1_11_fresh : (ops1_11 : Ops).Forall fun op => op.fresh = ∅ :=
  StableHlo.forall_fresh_of_map rfl
/-- What it writes. -/
abbrev ops1_11_W : List (Ref sig .tc) := [main_while1b_call18_v0, main_while1b_call18_c, main_while1b_call18_c_0, main_while1b_call18_c_1, main_while1b_v73]
theorem ops1_11_writes : (ops1_11 : Ops).Forall fun op => op.writes ⊆ (ops1_11_W.map (Proc.devRef (τ := τ) .tc)).toFinset :=
  StableHlo.forall_writes_sub_of_map rfl
theorem ops1_11_keep (V : Valuation τ sig (Elt F)) (r : Ref sig .tc) (h : r ∉ ops1_11_W) :
    after ops1_11 V (no_index (Proc.devRef .tc r)) = V (Proc.devRef .tc r) :=
  after_of_writes_sub ops1_11 V ops1_11_writes (h)

/-- Chunk read or written at the counter, a call of the trip. -/
def ops1_12 : Ops :=
  [ StableHlo.TRef.unary (.of main_while1b_v66 : StableHlo.TRef sig ⟨S8x64x128, .f32⟩) (.of main_while1b_call19_v0 : StableHlo.TRef sig ⟨S1x8x64x128, .f32⟩) (broadcastInDim S1x8x64x128 ![1, 2, 3] bcast_S8x64x128_S1x8x64x128_1_2_3),
    StableHlo.TRef.nullary (.of main_while1b_call19_c : StableHlo.TRef sig ⟨S_, .i32⟩) (constantI S_ 32 0#32),
    StableHlo.TRef.nullary (.of main_while1b_call19_c_0 : StableHlo.TRef sig ⟨S_, .i32⟩) (constantI S_ 32 0#32),
    StableHlo.TRef.nullary (.of main_while1b_call19_c_1 : StableHlo.TRef sig ⟨S_, .i32⟩) (constantI S_ 32 0#32),
    StableHlo.TRef.binaryIndexed (.of main_v28_12 : StableHlo.TRef sig ⟨S64x8x64x128, .f32⟩) (.of main_while1b_call19_v0 : StableHlo.TRef sig ⟨S1x8x64x128, .f32⟩) ![(.of main_while1b_v41 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩)] (.of main_while1b_v74 : StableHlo.TRef sig ⟨S64x8x64x128, .f32⟩) (fun x u i => Host.dynamicUpdateSlice x u (fun k => (i k (Shape.Idx.first h_S_)).toInt) updateFits_S64x8x64x128_S1x8x64x128) ]
theorem ops1_12_sub : (ops1_12 : Ops).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem ops1_12_fresh : (ops1_12 : Ops).Forall fun op => op.fresh = ∅ :=
  StableHlo.forall_fresh_of_map rfl
/-- What it writes. -/
abbrev ops1_12_W : List (Ref sig .tc) := [main_while1b_call19_v0, main_while1b_call19_c, main_while1b_call19_c_0, main_while1b_call19_c_1, main_while1b_v74]
theorem ops1_12_writes : (ops1_12 : Ops).Forall fun op => op.writes ⊆ (ops1_12_W.map (Proc.devRef (τ := τ) .tc)).toFinset :=
  StableHlo.forall_writes_sub_of_map rfl
theorem ops1_12_keep (V : Valuation τ sig (Elt F)) (r : Ref sig .tc) (h : r ∉ ops1_12_W) :
    after ops1_12 V (no_index (Proc.devRef .tc r)) = V (Proc.devRef .tc r) :=
  after_of_writes_sub ops1_12 V ops1_12_writes (h)

/-- Chunk read or written at the counter, a call of the trip. -/
def ops1_13 : Ops :=
  [ StableHlo.TRef.unary (.of main_while1b_v53 : StableHlo.TRef sig ⟨S8x64x128, .f32⟩) (.of main_while1b_call20_v0 : StableHlo.TRef sig ⟨S1x8x64x128, .f32⟩) (broadcastInDim S1x8x64x128 ![1, 2, 3] bcast_S8x64x128_S1x8x64x128_1_2_3),
    StableHlo.TRef.nullary (.of main_while1b_call20_c : StableHlo.TRef sig ⟨S_, .i32⟩) (constantI S_ 32 0#32),
    StableHlo.TRef.nullary (.of main_while1b_call20_c_0 : StableHlo.TRef sig ⟨S_, .i32⟩) (constantI S_ 32 0#32),
    StableHlo.TRef.nullary (.of main_while1b_call20_c_1 : StableHlo.TRef sig ⟨S_, .i32⟩) (constantI S_ 32 0#32),
    StableHlo.TRef.binaryIndexed (.of main_v28_13 : StableHlo.TRef sig ⟨S64x8x64x128, .f32⟩) (.of main_while1b_call20_v0 : StableHlo.TRef sig ⟨S1x8x64x128, .f32⟩) ![(.of main_while1b_v41 : StableHlo.TRef sig ⟨S_, .i32⟩), (.of main_while1b_call20_c : StableHlo.TRef sig ⟨S_, .i32⟩), (.of main_while1b_call20_c_0 : StableHlo.TRef sig ⟨S_, .i32⟩), (.of main_while1b_call20_c_1 : StableHlo.TRef sig ⟨S_, .i32⟩)] (.of main_while1b_v75 : StableHlo.TRef sig ⟨S64x8x64x128, .f32⟩) (fun x u i => Host.dynamicUpdateSlice x u (fun k => (i k (Shape.Idx.first h_S_)).toInt) updateFits_S64x8x64x128_S1x8x64x128) ]
theorem ops1_13_sub : (ops1_13 : Ops).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem ops1_13_fresh : (ops1_13 : Ops).Forall fun op => op.fresh = ∅ :=
  StableHlo.forall_fresh_of_map rfl
/-- What it writes. -/
abbrev ops1_13_W : List (Ref sig .tc) := [main_while1b_call20_v0, main_while1b_call20_c, main_while1b_call20_c_0, main_while1b_call20_c_1, main_while1b_v75]
theorem ops1_13_writes : (ops1_13 : Ops).Forall fun op => op.writes ⊆ (ops1_13_W.map (Proc.devRef (τ := τ) .tc)).toFinset :=
  StableHlo.forall_writes_sub_of_map rfl
theorem ops1_13_keep (V : Valuation τ sig (Elt F)) (r : Ref sig .tc) (h : r ∉ ops1_13_W) :
    after ops1_13 V (no_index (Proc.devRef .tc r)) = V (Proc.devRef .tc r) :=
  after_of_writes_sub ops1_13 V ops1_13_writes (h)

/-- Chunk read or written at the counter, a call of the trip. -/
def ops1_14 : Ops :=
  [ StableHlo.TRef.unary (.of main_while1b_v62 : StableHlo.TRef sig ⟨S8x64x64, .f32⟩) (.of main_while1b_call21_v0 : StableHlo.TRef sig ⟨S1x8x64x64, .f32⟩) (broadcastInDim S1x8x64x64 ![1, 2, 3] bcast_S8x64x64_S1x8x64x64_1_2_3),
    StableHlo.TRef.nullary (.of main_while1b_call21_c : StableHlo.TRef sig ⟨S_, .i32⟩) (constantI S_ 32 0#32),
    StableHlo.TRef.nullary (.of main_while1b_call21_c_0 : StableHlo.TRef sig ⟨S_, .i32⟩) (constantI S_ 32 0#32),
    StableHlo.TRef.nullary (.of main_while1b_call21_c_1 : StableHlo.TRef sig ⟨S_, .i32⟩) (constantI S_ 32 0#32),
    StableHlo.TRef.binaryIndexed (.of main_v28_14 : StableHlo.TRef sig ⟨S64x8x64x64, .f32⟩) (.of main_while1b_call21_v0 : StableHlo.TRef sig ⟨S1x8x64x64, .f32⟩) ![(.of main_while1b_v41 : StableHlo.TRef sig ⟨S_, .i32⟩), (.of main_while1b_call21_c : StableHlo.TRef sig ⟨S_, .i32⟩), (.of main_while1b_call21_c_0 : StableHlo.TRef sig ⟨S_, .i32⟩), (.of main_while1b_call21_c_1 : StableHlo.TRef sig ⟨S_, .i32⟩)] (.of main_while1b_v76 : StableHlo.TRef sig ⟨S64x8x64x64, .f32⟩) (fun x u i => Host.dynamicUpdateSlice x u (fun k => (i k (Shape.Idx.first h_S_)).toInt) updateFits_S64x8x64x64_S1x8x64x64) ]
theorem ops1_14_sub : (ops1_14 : Ops).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem ops1_14_fresh : (ops1_14 : Ops).Forall fun op => op.fresh = ∅ :=
  StableHlo.forall_fresh_of_map rfl
/-- What it writes. -/
abbrev ops1_14_W : List (Ref sig .tc) := [main_while1b_call21_v0, main_while1b_call21_c, main_while1b_call21_c_0, main_while1b_call21_c_1, main_while1b_v76]
theorem ops1_14_writes : (ops1_14 : Ops).Forall fun op => op.writes ⊆ (ops1_14_W.map (Proc.devRef (τ := τ) .tc)).toFinset :=
  StableHlo.forall_writes_sub_of_map rfl
theorem ops1_14_keep (V : Valuation τ sig (Elt F)) (r : Ref sig .tc) (h : r ∉ ops1_14_W) :
    after ops1_14 V (no_index (Proc.devRef .tc r)) = V (Proc.devRef .tc r) :=
  after_of_writes_sub ops1_14 V ops1_14_writes (h)

/-- Chunk read or written at the counter, a call of the trip. -/
def ops1_15 : Ops :=
  [ StableHlo.TRef.unary (.of main_while1b_v56 : StableHlo.TRef sig ⟨S8x1x128, .f32⟩) (.of main_while1b_call22_v0 : StableHlo.TRef sig ⟨S1x8x1x128, .f32⟩) (broadcastInDim S1x8x1x128 ![1, 2, 3] bcast_S8x1x128_S1x8x1x128_1_2_3),
    StableHlo.TRef.nullary (.of main_while1b_call22_c : StableHlo.TRef sig ⟨S_, .i32⟩) (constantI S_ 32 0#32),
    StableHlo.TRef.nullary (.of main_while1b_call22_c_0 : StableHlo.TRef sig ⟨S_, .i32⟩) (constantI S_ 32 0#32),
    StableHlo.TRef.nullary (.of main_while1b_call22_c_1 : StableHlo.TRef sig ⟨S_, .i32⟩) (constantI S_ 32 0#32),
    StableHlo.TRef.binaryIndexed (.of main_v28_15 : StableHlo.TRef sig ⟨S64x8x1x128, .f32⟩) (.of main_while1b_call22_v0 : StableHlo.TRef sig ⟨S1x8x1x128, .f32⟩) ![(.of main_while1b_v41 : StableHlo.TRef sig ⟨S_, .i32⟩), (.of main_while1b_call22_c : StableHlo.TRef sig ⟨S_, .i32⟩), (.of main_while1b_call22_c_0 : StableHlo.TRef sig ⟨S_, .i32⟩), (.of main_while1b_call22_c_1 : StableHlo.TRef sig ⟨S_, .i32⟩)] (.of main_while1b_v77 : StableHlo.TRef sig ⟨S64x8x1x128, .f32⟩) (fun x u i => Host.dynamicUpdateSlice x u (fun k => (i k (Shape.Idx.first h_S_)).toInt) updateFits_S64x8x1x128_S1x8x1x128) ]
theorem ops1_15_sub : (ops1_15 : Ops).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem ops1_15_fresh : (ops1_15 : Ops).Forall fun op => op.fresh = ∅ :=
  StableHlo.forall_fresh_of_map rfl
/-- What it writes. -/
abbrev ops1_15_W : List (Ref sig .tc) := [main_while1b_call22_v0, main_while1b_call22_c, main_while1b_call22_c_0, main_while1b_call22_c_1, main_while1b_v77]
theorem ops1_15_writes : (ops1_15 : Ops).Forall fun op => op.writes ⊆ (ops1_15_W.map (Proc.devRef (τ := τ) .tc)).toFinset :=
  StableHlo.forall_writes_sub_of_map rfl
theorem ops1_15_keep (V : Valuation τ sig (Elt F)) (r : Ref sig .tc) (h : r ∉ ops1_15_W) :
    after ops1_15 V (no_index (Proc.devRef .tc r)) = V (Proc.devRef .tc r) :=
  after_of_writes_sub ops1_15 V ops1_15_writes (h)

/-- Operations of the trip. -/
def ops1_16 : Ops :=
  [ StableHlo.nullary main_while1b_c_30 (constantI S_ 32 1#32),
    StableHlo.binary main_v28_8 main_while1b_c_30 main_while1b_v78 (addi : (⟨S_, .i32⟩ : BufTy).Contents (Elt F) → (⟨S_, .i32⟩ : BufTy).Contents (Elt F) → (⟨S_, .i32⟩ : BufTy).Contents (Elt F)),
    StableHlo.unary main_while1b_v78 main_v28_8 id,
    StableHlo.unary main_while1b_v70 main_v28_9 id,
    StableHlo.unary main_while1b_v72 main_v28_10 id,
    StableHlo.unary main_while1b_v73 main_v28_11 id,
    StableHlo.unary main_while1b_v74 main_v28_12 id,
    StableHlo.unary main_while1b_v75 main_v28_13 id,
    StableHlo.unary main_while1b_v76 main_v28_14 id,
    StableHlo.unary main_while1b_v77 main_v28_15 id ]
theorem ops1_16_sub : (ops1_16 : Ops).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem ops1_16_fresh : (ops1_16 : Ops).Forall fun op => op.fresh = ∅ :=
  StableHlo.forall_fresh_of_map rfl
/-- What it writes. -/
abbrev ops1_16_W : List (Ref sig .tc) := [main_while1b_c_30, main_while1b_v78, main_v28_8, main_v28_9, main_v28_10, main_v28_11, main_v28_12, main_v28_13, main_v28_14, main_v28_15]
theorem ops1_16_writes : (ops1_16 : Ops).Forall fun op => op.writes ⊆ (ops1_16_W.map (Proc.devRef (τ := τ) .tc)).toFinset :=
  StableHlo.forall_writes_sub_of_map rfl
theorem ops1_16_keep (V : Valuation τ sig (Elt F)) (r : Ref sig .tc) (h : r ∉ ops1_16_W) :
    after ops1_16 V (no_index (Proc.devRef .tc r)) = V (Proc.devRef .tc r) :=
  after_of_writes_sub ops1_16 V ops1_16_writes (h)

abbrev preI : List Ops := [opsPre]
theorem preI_plain : Plain (preI (F := F)) := .cons opsPre_sub (hf := List.forall_iff_forall_mem.mp opsPre_fresh) (.nil)

abbrev midI : List Ops := [opsMid, opsMid_1]
theorem midI_plain : Plain (midI (F := F)) := .cons opsMid_sub (hf := List.forall_iff_forall_mem.mp opsMid_fresh) (.cons opsMid_1_sub (hf := List.forall_iff_forall_mem.mp opsMid_1_fresh) (.nil))

abbrev postI : List Ops := [opsPost]
theorem postI_plain : Plain (postI (F := F)) := .cons opsPost_sub (hf := List.forall_iff_forall_mem.mp opsPost_fresh) (.nil)

abbrev body0I : List Ops := [ops0_0, ops0_1, ops0_2, ops0_3, ops0_4, ops0_5, ops0_6, ops0_7, ops0_8, ops0_9, ops0_10]
theorem body0I_plain : Plain (body0I (F := F)) := .cons ops0_0_sub (hf := List.forall_iff_forall_mem.mp ops0_0_fresh) (.cons ops0_1_sub (hf := List.forall_iff_forall_mem.mp ops0_1_fresh) (.cons ops0_2_sub (hf := List.forall_iff_forall_mem.mp ops0_2_fresh) (.cons ops0_3_sub (hf := List.forall_iff_forall_mem.mp ops0_3_fresh) (.cons ops0_4_sub (hf := List.forall_iff_forall_mem.mp ops0_4_fresh) (.cons ops0_5_sub (hf := List.forall_iff_forall_mem.mp ops0_5_fresh) (.cons ops0_6_sub (hf := List.forall_iff_forall_mem.mp ops0_6_fresh) (.cons ops0_7_sub (hf := List.forall_iff_forall_mem.mp ops0_7_fresh) (.cons ops0_8_sub (hf := List.forall_iff_forall_mem.mp ops0_8_fresh) (.cons ops0_9_sub (hf := List.forall_iff_forall_mem.mp ops0_9_fresh) (.cons ops0_10_sub (hf := List.forall_iff_forall_mem.mp ops0_10_fresh) (.nil)))))))))))

abbrev body1I : List Ops := [ops1_0, ops1_1, ops1_2, ops1_3, ops1_4, ops1_5, ops1_6, ops1_7, ops1_8, ops1_9, ops1_10, ops1_11, ops1_12, ops1_13, ops1_14, ops1_15, ops1_16]
theorem body1I_plain : Plain (body1I (F := F)) := .cons ops1_0_sub (hf := List.forall_iff_forall_mem.mp ops1_0_fresh) (.cons ops1_1_sub (hf := List.forall_iff_forall_mem.mp ops1_1_fresh) (.cons ops1_2_sub (hf := List.forall_iff_forall_mem.mp ops1_2_fresh) (.cons ops1_3_sub (hf := List.forall_iff_forall_mem.mp ops1_3_fresh) (.cons ops1_4_sub (hf := List.forall_iff_forall_mem.mp ops1_4_fresh) (.cons ops1_5_sub (hf := List.forall_iff_forall_mem.mp ops1_5_fresh) (.cons ops1_6_sub (hf := List.forall_iff_forall_mem.mp ops1_6_fresh) (.cons ops1_7_sub (hf := List.forall_iff_forall_mem.mp ops1_7_fresh) (.cons ops1_8_sub (hf := List.forall_iff_forall_mem.mp ops1_8_fresh) (.cons ops1_9_sub (hf := List.forall_iff_forall_mem.mp ops1_9_fresh) (.cons ops1_10_sub (hf := List.forall_iff_forall_mem.mp ops1_10_fresh) (.cons ops1_11_sub (hf := List.forall_iff_forall_mem.mp ops1_11_fresh) (.cons ops1_12_sub (hf := List.forall_iff_forall_mem.mp ops1_12_fresh) (.cons ops1_13_sub (hf := List.forall_iff_forall_mem.mp ops1_13_fresh) (.cons ops1_14_sub (hf := List.forall_iff_forall_mem.mp ops1_14_fresh) (.cons ops1_15_sub (hf := List.forall_iff_forall_mem.mp ops1_15_fresh) (.cons ops1_16_sub (hf := List.forall_iff_forall_mem.mp ops1_16_fresh) (.nil)))))))))))))))))

theorem main_chain (c : Dev nD) : main (F := F) c = (Pipeline.chain
  [ StableHlo.seq opsPre,
    HostLoop.enter 0,
    StableHlo.seq opsMid,
    StableHlo.seq opsMid_1,
    HostLoop.enter 1,
    StableHlo.seq opsPost ] : Blk F) := by
  rewrite [StableHlo.chain_seq_cons, Pipeline.chain_cons, StableHlo.chain_seq_cons, StableHlo.chain_seq_cons, Pipeline.chain_cons, StableHlo.chain_seq_cons]
  chain_rfl

theorem body0_chain : main_while0_body (F := F) = (Pipeline.chain
  [ StableHlo.seq ops0_0,
    StableHlo.seq ops0_1,
    StableHlo.seq ops0_2,
    StableHlo.seq ops0_3,
    StableHlo.seq ops0_4,
    StableHlo.seq ops0_5,
    StableHlo.seq ops0_6,
    StableHlo.seq ops0_7,
    StableHlo.seq ops0_8,
    StableHlo.seq ops0_9,
    StableHlo.seq ops0_10 ] : Blk F) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, StableHlo.chain_seq_cons]
  chain_rfl

theorem body1_chain : main_while1_body (F := F) = (Pipeline.chain
  [ StableHlo.seq ops1_0,
    StableHlo.seq ops1_1,
    StableHlo.seq ops1_2,
    StableHlo.seq ops1_3,
    StableHlo.seq ops1_4,
    StableHlo.seq ops1_5,
    StableHlo.seq ops1_6,
    StableHlo.seq ops1_7,
    StableHlo.seq ops1_8,
    StableHlo.seq ops1_9,
    StableHlo.seq ops1_10,
    StableHlo.seq ops1_11,
    StableHlo.seq ops1_12,
    StableHlo.seq ops1_13,
    StableHlo.seq ops1_14,
    StableHlo.seq ops1_15,
    StableHlo.seq ops1_16 ] : Blk F) := by
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

end Cert.ReferenceIdeal.Scan

end
-- ==== Proof.Scan.HostChunk.lean ====
/- The reference program's operations on one chunk and on stacks of chunks, over the extended reals: each written as the
   function of heads, rows and columns that it computes. -/
module

public import proofs.«01_k».proof.Proof.Gen.ReferenceIdeal
public import proofs.«01_k».proof.Proof.Scan.ChunkMath
public import Idealize.ShloMosaic.Lib.Pointwise

@[expose] public section

set_option maxRecDepth 16384

noncomputable section

namespace Cert.ReferenceIdeal.Scan

open Cert.ReferenceIdeal Cert.ReferenceIdeal.Gen Cert.DeltaScan
open Idealize.ShloMosaic Idealize.ShloMosaic.TcCoe Idealize.ShloMosaic.Tactic

/-! ## One chunk, and stacks of chunks, as arrays -/

def of3 (f : Rows) : S8x64x128.Idx → EReal := fun y => f (y 0) (y 1) (y 2)
def ofDec3 (f : Dec) : S8x1x128.Idx → EReal := fun y => f (y 0) (y 2)
def stk (f : Fin 64 → Rows) : S64x8x64x128.Idx → EReal := fun y => f (y 0) (y 1) (y 2) (y 3)
def stkSq (f : Fin 64 → Sq) : S64x8x64x64.Idx → EReal := fun y => f (y 0) (y 1) (y 2) (y 3)
def stkDec (f : Fin 64 → Dec) : S64x8x1x128.Idx → EReal := fun y => f (y 0) (y 1) (y 3)

theorem update_at {α : Type} (f : Fin 64 → α) (n m : Fin 64) (a : α) :
    Function.update f n a m = if m = n then a else f m := by
  by_cases h : m = n
  · subst h; rw [Function.update_self, if_pos rfl]
  · rw [Function.update_of_ne h, if_neg h]

/-! ## Reading a chunk of a stack, and writing one -/

theorem slice_stk (f : Fin 64 → Rows) (n : Fin 64) (start : Fin 4 → Int) (h0 : start 0 = n.val) (h1 : start 1 = 0) (h2 : start 2 = 0) (h3 : start 3 = 0) :
    shapeCast S8x64x128 (Host.dynamicSlice (s := S64x8x64x128) S1x8x64x128 (stk f) start sliceFits_S64x8x64x128_S1x8x64x128) shapeCasts_S1x8x64x128_S8x64x128 = of3 (f n) := by
  funext y
  idx_vars y
  have hn := n.isLt
  have c0 : Host.clampedStart S64x8x64x128 S1x8x64x128 rfl start 0 = n.val := Host.clampedStart_of_le (s := S64x8x64x128) (t := S1x8x64x128) rfl start 0 n.val h0 (by show n.val + 1 ≤ 64; omega)
  have c1 : Host.clampedStart S64x8x64x128 S1x8x64x128 rfl start 1 = 0 := Host.clampedStart_of_le (s := S64x8x64x128) (t := S1x8x64x128) rfl start 1 0 h1 (by decide)
  have c2 : Host.clampedStart S64x8x64x128 S1x8x64x128 rfl start 2 = 0 := Host.clampedStart_of_le (s := S64x8x64x128) (t := S1x8x64x128) rfl start 2 0 h2 (by decide)
  have c3 : Host.clampedStart S64x8x64x128 S1x8x64x128 rfl start 3 = 0 := Host.clampedStart_of_le (s := S64x8x64x128) (t := S1x8x64x128) rfl start 3 0 h3 (by decide)
  pointwise [stk, of3, c0, c1, c2, c3]

theorem update_stk (f : Fin 64 → Rows) (a : Rows) (n : Fin 64) (start : Fin 4 → Int) (h0 : start 0 = n.val) (h1 : start 1 = 0) (h2 : start 2 = 0) (h3 : start 3 = 0) :
    Host.dynamicUpdateSlice (s := S64x8x64x128) (u := S1x8x64x128) (stk f) (broadcastInDim S1x8x64x128 ![1, 2, 3] bcast_S8x64x128_S1x8x64x128_1_2_3 (of3 a)) start updateFits_S64x8x64x128_S1x8x64x128 = stk (Function.update f n a) := by
  funext y
  idx_vars y
  have hn := n.isLt
  have c0 : Host.clampedStart S64x8x64x128 S1x8x64x128 rfl start 0 = n.val := Host.clampedStart_of_le (s := S64x8x64x128) (t := S1x8x64x128) rfl start 0 n.val h0 (by show n.val + 1 ≤ 64; omega)
  have c1 : Host.clampedStart S64x8x64x128 S1x8x64x128 rfl start 1 = 0 := Host.clampedStart_of_le (s := S64x8x64x128) (t := S1x8x64x128) rfl start 1 0 h1 (by decide)
  have c2 : Host.clampedStart S64x8x64x128 S1x8x64x128 rfl start 2 = 0 := Host.clampedStart_of_le (s := S64x8x64x128) (t := S1x8x64x128) rfl start 2 0 h2 (by decide)
  have c3 : Host.clampedStart S64x8x64x128 S1x8x64x128 rfl start 3 = 0 := Host.clampedStart_of_le (s := S64x8x64x128) (t := S1x8x64x128) rfl start 3 0 h3 (by decide)
  pointwise [stk, of3, c0, c1, c2, c3, update_at]
  by_cases h : y0 = n
  · subst h
    rw [dif_pos ⟨le_rfl, Nat.lt_succ_self _⟩, if_pos rfl]
  · rw [dif_neg (fun hh => h (Fin.ext (by omega))), if_neg h]

theorem slice_stkSq (f : Fin 64 → Sq) (n : Fin 64) (start : Fin 4 → Int) (h0 : start 0 = n.val) (h1 : start 1 = 0) (h2 : start 2 = 0) (h3 : start 3 = 0) :
    shapeCast S8x64x64 (Host.dynamicSlice (s := S64x8x64x64) S1x8x64x64 (stkSq f) start sliceFits_S64x8x64x64_S1x8x64x64) shapeCasts_S1x8x64x64_S8x64x64 = ofSq (f n) := by
  funext y
  idx_vars y
  have hn := n.isLt
  have c0 : Host.clampedStart S64x8x64x64 S1x8x64x64 rfl start 0 = n.val := Host.clampedStart_of_le (s := S64x8x64x64) (t := S1x8x64x64) rfl start 0 n.val h0 (by show n.val + 1 ≤ 64; omega)
  have c1 : Host.clampedStart S64x8x64x64 S1x8x64x64 rfl start 1 = 0 := Host.clampedStart_of_le (s := S64x8x64x64) (t := S1x8x64x64) rfl start 1 0 h1 (by decide)
  have c2 : Host.clampedStart S64x8x64x64 S1x8x64x64 rfl start 2 = 0 := Host.clampedStart_of_le (s := S64x8x64x64) (t := S1x8x64x64) rfl start 2 0 h2 (by decide)
  have c3 : Host.clampedStart S64x8x64x64 S1x8x64x64 rfl start 3 = 0 := Host.clampedStart_of_le (s := S64x8x64x64) (t := S1x8x64x64) rfl start 3 0 h3 (by decide)
  pointwise [stkSq, ofSq, c0, c1, c2, c3]

theorem update_stkSq (f : Fin 64 → Sq) (a : Sq) (n : Fin 64) (start : Fin 4 → Int) (h0 : start 0 = n.val) (h1 : start 1 = 0) (h2 : start 2 = 0) (h3 : start 3 = 0) :
    Host.dynamicUpdateSlice (s := S64x8x64x64) (u := S1x8x64x64) (stkSq f) (broadcastInDim S1x8x64x64 ![1, 2, 3] bcast_S8x64x64_S1x8x64x64_1_2_3 (ofSq a)) start updateFits_S64x8x64x64_S1x8x64x64 = stkSq (Function.update f n a) := by
  funext y
  idx_vars y
  have hn := n.isLt
  have c0 : Host.clampedStart S64x8x64x64 S1x8x64x64 rfl start 0 = n.val := Host.clampedStart_of_le (s := S64x8x64x64) (t := S1x8x64x64) rfl start 0 n.val h0 (by show n.val + 1 ≤ 64; omega)
  have c1 : Host.clampedStart S64x8x64x64 S1x8x64x64 rfl start 1 = 0 := Host.clampedStart_of_le (s := S64x8x64x64) (t := S1x8x64x64) rfl start 1 0 h1 (by decide)
  have c2 : Host.clampedStart S64x8x64x64 S1x8x64x64 rfl start 2 = 0 := Host.clampedStart_of_le (s := S64x8x64x64) (t := S1x8x64x64) rfl start 2 0 h2 (by decide)
  have c3 : Host.clampedStart S64x8x64x64 S1x8x64x64 rfl start 3 = 0 := Host.clampedStart_of_le (s := S64x8x64x64) (t := S1x8x64x64) rfl start 3 0 h3 (by decide)
  pointwise [stkSq, ofSq, c0, c1, c2, c3, update_at]
  by_cases h : y0 = n
  · subst h
    rw [dif_pos ⟨le_rfl, Nat.lt_succ_self _⟩, if_pos rfl]
  · rw [dif_neg (fun hh => h (Fin.ext (by omega))), if_neg h]

theorem slice_stkDec (f : Fin 64 → Dec) (n : Fin 64) (start : Fin 4 → Int) (h0 : start 0 = n.val) (h1 : start 1 = 0) (h2 : start 2 = 0) (h3 : start 3 = 0) :
    shapeCast S8x1x128 (Host.dynamicSlice (s := S64x8x1x128) S1x8x1x128 (stkDec f) start sliceFits_S64x8x1x128_S1x8x1x128) shapeCasts_S1x8x1x128_S8x1x128 = ofDec3 (f n) := by
  funext y
  idx_vars y
  have hn := n.isLt
  have c0 : Host.clampedStart S64x8x1x128 S1x8x1x128 rfl start 0 = n.val := Host.clampedStart_of_le (s := S64x8x1x128) (t := S1x8x1x128) rfl start 0 n.val h0 (by show n.val + 1 ≤ 64; omega)
  have c1 : Host.clampedStart S64x8x1x128 S1x8x1x128 rfl start 1 = 0 := Host.clampedStart_of_le (s := S64x8x1x128) (t := S1x8x1x128) rfl start 1 0 h1 (by decide)
  have c2 : Host.clampedStart S64x8x1x128 S1x8x1x128 rfl start 2 = 0 := Host.clampedStart_of_le (s := S64x8x1x128) (t := S1x8x1x128) rfl start 2 0 h2 (by decide)
  have c3 : Host.clampedStart S64x8x1x128 S1x8x1x128 rfl start 3 = 0 := Host.clampedStart_of_le (s := S64x8x1x128) (t := S1x8x1x128) rfl start 3 0 h3 (by decide)
  pointwise [stkDec, ofDec3, c0, c1, c2, c3]

theorem update_stkDec (f : Fin 64 → Dec) (a : Dec) (n : Fin 64) (start : Fin 4 → Int) (h0 : start 0 = n.val) (h1 : start 1 = 0) (h2 : start 2 = 0) (h3 : start 3 = 0) :
    Host.dynamicUpdateSlice (s := S64x8x1x128) (u := S1x8x1x128) (stkDec f) (broadcastInDim S1x8x1x128 ![1, 2, 3] bcast_S8x1x128_S1x8x1x128_1_2_3 (ofDec3 a)) start updateFits_S64x8x1x128_S1x8x1x128 = stkDec (Function.update f n a) := by
  funext y
  idx_vars y
  have hn := n.isLt
  have c0 : Host.clampedStart S64x8x1x128 S1x8x1x128 rfl start 0 = n.val := Host.clampedStart_of_le (s := S64x8x1x128) (t := S1x8x1x128) rfl start 0 n.val h0 (by show n.val + 1 ≤ 64; omega)
  have c1 : Host.clampedStart S64x8x1x128 S1x8x1x128 rfl start 1 = 0 := Host.clampedStart_of_le (s := S64x8x1x128) (t := S1x8x1x128) rfl start 1 0 h1 (by decide)
  have c2 : Host.clampedStart S64x8x1x128 S1x8x1x128 rfl start 2 = 0 := Host.clampedStart_of_le (s := S64x8x1x128) (t := S1x8x1x128) rfl start 2 0 h2 (by decide)
  have c3 : Host.clampedStart S64x8x1x128 S1x8x1x128 rfl start 3 = 0 := Host.clampedStart_of_le (s := S64x8x1x128) (t := S1x8x1x128) rfl start 3 0 h3 (by decide)
  pointwise [stkDec, ofDec3, c0, c1, c2, c3, update_at]
  by_cases h : y0 = n
  · subst h
    rw [dif_pos ⟨le_rfl, Nat.lt_succ_self _⟩, if_pos rfl]
  · rw [dif_neg (fun hh => h (Fin.ext (by omega))), if_neg h]

theorem slice_ofChunksSt (f : Fin 64 → St) (n : Fin 64) (start : Fin 4 → Int) (h0 : start 0 = n.val) (h1 : start 1 = 0) (h2 : start 2 = 0) (h3 : start 3 = 0) :
    shapeCast S8x128x128 (Host.dynamicSlice (s := S64x8x128x128) S1x8x128x128 (ofChunksSt f) start sliceFits_S64x8x128x128_S1x8x128x128) shapeCasts_S1x8x128x128_S8x128x128 = ofSt (f n) := by
  funext y
  idx_vars y
  have hn := n.isLt
  have c0 : Host.clampedStart S64x8x128x128 S1x8x128x128 rfl start 0 = n.val := Host.clampedStart_of_le (s := S64x8x128x128) (t := S1x8x128x128) rfl start 0 n.val h0 (by show n.val + 1 ≤ 64; omega)
  have c1 : Host.clampedStart S64x8x128x128 S1x8x128x128 rfl start 1 = 0 := Host.clampedStart_of_le (s := S64x8x128x128) (t := S1x8x128x128) rfl start 1 0 h1 (by decide)
  have c2 : Host.clampedStart S64x8x128x128 S1x8x128x128 rfl start 2 = 0 := Host.clampedStart_of_le (s := S64x8x128x128) (t := S1x8x128x128) rfl start 2 0 h2 (by decide)
  have c3 : Host.clampedStart S64x8x128x128 S1x8x128x128 rfl start 3 = 0 := Host.clampedStart_of_le (s := S64x8x128x128) (t := S1x8x128x128) rfl start 3 0 h3 (by decide)
  pointwise [ofChunksSt, ofSt, c0, c1, c2, c3]

theorem update_ofChunksSt (f : Fin 64 → St) (a : St) (n : Fin 64) (start : Fin 4 → Int) (h0 : start 0 = n.val) (h1 : start 1 = 0) (h2 : start 2 = 0) (h3 : start 3 = 0) :
    Host.dynamicUpdateSlice (s := S64x8x128x128) (u := S1x8x128x128) (ofChunksSt f) (broadcastInDim S1x8x128x128 ![1, 2, 3] bcast_S8x128x128_S1x8x128x128_1_2_3 (ofSt a)) start updateFits_S64x8x128x128_S1x8x128x128 = ofChunksSt (Function.update f n a) := by
  funext y
  idx_vars y
  have hn := n.isLt
  have c0 : Host.clampedStart S64x8x128x128 S1x8x128x128 rfl start 0 = n.val := Host.clampedStart_of_le (s := S64x8x128x128) (t := S1x8x128x128) rfl start 0 n.val h0 (by show n.val + 1 ≤ 64; omega)
  have c1 : Host.clampedStart S64x8x128x128 S1x8x128x128 rfl start 1 = 0 := Host.clampedStart_of_le (s := S64x8x128x128) (t := S1x8x128x128) rfl start 1 0 h1 (by decide)
  have c2 : Host.clampedStart S64x8x128x128 S1x8x128x128 rfl start 2 = 0 := Host.clampedStart_of_le (s := S64x8x128x128) (t := S1x8x128x128) rfl start 2 0 h2 (by decide)
  have c3 : Host.clampedStart S64x8x128x128 S1x8x128x128 rfl start 3 = 0 := Host.clampedStart_of_le (s := S64x8x128x128) (t := S1x8x128x128) rfl start 3 0 h3 (by decide)
  pointwise [ofChunksSt, ofSt, c0, c1, c2, c3, update_at]
  by_cases h : y0 = n
  · subst h
    rw [dif_pos ⟨le_rfl, Nat.lt_succ_self _⟩, if_pos rfl]
  · rw [dif_neg (fun hh => h (Fin.ext (by omega))), if_neg h]

/-! ## The operations on a chunk -/

theorem dot_ws (w : Rows) (s : St) : Host.dotGeneral (F := Ideal) (φ₁ := .f32) (φ₂ := .f32) dot_S8x64x128_S8x128x128_S8x64x128_2_1_1_2_0_0 none (of3 w) (ofSt s)
    = of3 fun h r e => ∑ d : Fin 128, w h r d * s h d e := by
  funext y
  idx_vars y
  pointwise [of3, ofSq, ofSt, dot_S8x64x128_S8x128x128_S8x64x128_2_1_1_2_0_0]

theorem dot_Av (A : Sq) (v : Rows) : Host.dotGeneral (F := Ideal) (φ₁ := .f32) (φ₂ := .f32) dot_S8x64x64_S8x64x128_S8x64x128_2_1_1_2_0_0 none (ofSq A) (of3 v)
    = of3 fun h r e => ∑ j : Fin 64, A h r j * v h j e := by
  funext y
  idx_vars y
  pointwise [of3, ofSq, ofSt, dot_S8x64x64_S8x64x128_S8x64x128_2_1_1_2_0_0]

theorem dot_kv (k v : Rows) : Host.dotGeneral (F := Ideal) (φ₁ := .f32) (φ₂ := .f32) dot_S8x64x128_S8x64x128_S8x128x128_1_1_2_2_0_0 none (of3 k) (of3 v)
    = ofSt fun h d e => ∑ r : Fin 64, k h r d * v h r e := by
  funext y
  idx_vars y
  pointwise [of3, ofSq, ofSt, dot_S8x64x128_S8x64x128_S8x128x128_1_1_2_2_0_0]

theorem dot_sw (s : St) (w : Rows) : transpose S8x64x128 [0, 2, 1] (Host.dotGeneral (F := Ideal) (φ₁ := .f32) (φ₂ := .f32) dot_S8x128x128_S8x64x128_S8x128x64_1_2_2_1_0_0 none (ofSt s) (of3 w)) transposes_S8x128x64_S8x64x128_0_2_1
    = of3 fun h r e => ∑ d : Fin 128, w h r d * s h d e := by
  funext y
  idx_vars y
  pointwise [of3, ofSq, ofSt, dot_S8x128x128_S8x64x128_S8x128x64_1_2_2_1_0_0]
  exact Finset.sum_congr rfl fun _ _ => mul_comm _ _

theorem dot_sv (s : St) (v : Rows) : transpose S8x64x128 [0, 2, 1] (Host.dotGeneral (F := Ideal) (φ₁ := .f32) (φ₂ := .f32) dot_S8x128x128_S8x64x128_S8x128x64_2_2_1_1_0_0 none (ofSt s) (of3 v)) transposes_S8x128x64_S8x64x128_0_2_1
    = of3 fun h r d => ∑ e : Fin 128, v h r e * s h d e := by
  funext y
  idx_vars y
  pointwise [of3, ofSq, ofSt, dot_S8x128x128_S8x64x128_S8x128x64_2_2_1_1_0_0]
  exact Finset.sum_congr rfl fun _ _ => mul_comm _ _

theorem dot_oA (o : Rows) (A : Sq) : transpose S8x64x128 [0, 2, 1] (Host.dotGeneral (F := Ideal) (φ₁ := .f32) (φ₂ := .f32) dot_S8x64x128_S8x64x64_S8x128x64_1_1_2_2_0_0 none (of3 o) (ofSq A)) transposes_S8x128x64_S8x64x128_0_2_1
    = of3 fun h r e => ∑ i : Fin 64, A h i r * o h i e := by
  funext y
  idx_vars y
  pointwise [of3, ofSq, ofSt, dot_S8x64x128_S8x64x64_S8x128x64_1_1_2_2_0_0]
  exact Finset.sum_congr rfl fun _ _ => mul_comm _ _

theorem dot_ov (o v : Rows) : Host.dotGeneral (F := Ideal) (φ₁ := .f32) (φ₂ := .f32) dot_S8x64x128_S8x64x128_S8x64x64_2_2_1_1_0_0 none (of3 o) (of3 v)
    = ofSq fun h i j => ∑ e : Fin 128, o h i e * v h j e := by
  funext y
  idx_vars y
  pointwise [of3, ofSq, ofSt, dot_S8x64x128_S8x64x128_S8x64x64_2_2_1_1_0_0]

theorem dot_oq (o q : Rows) : transpose S8x128x128 [0, 2, 1] (Host.dotGeneral (F := Ideal) (φ₁ := .f32) (φ₂ := .f32) dot_S8x64x128_S8x64x128_S8x128x128_1_1_2_2_0_0 none (of3 o) (of3 q)) transposes_S8x128x128_S8x128x128_0_2_1
    = ofSt fun h d e => ∑ r : Fin 64, q h r d * o h r e := by
  funext y
  idx_vars y
  pointwise [of3, ofSq, ofSt, dot_S8x64x128_S8x64x128_S8x128x128_1_1_2_2_0_0]
  exact Finset.sum_congr rfl fun _ _ => mul_comm _ _

theorem dot_os (o : Rows) (s : St) : Host.dotGeneral (F := Ideal) (φ₁ := .f32) (φ₂ := .f32) dot_S8x64x128_S8x128x128_S8x64x128_2_2_1_1_0_0 none (of3 o) (ofSt s)
    = of3 fun h r d => ∑ e : Fin 128, o h r e * s h d e := by
  funext y
  idx_vars y
  pointwise [of3, ofSq, ofSt, dot_S8x64x128_S8x128x128_S8x64x128_2_2_1_1_0_0]

theorem sub_rows (a b : Rows) : subf (F := Ideal) (φ := .f32) (of3 a) (of3 b) = of3 fun h r e => a h r e - b h r e := rfl
theorem add_rows (a b : Rows) : addf (F := Ideal) (φ := .f32) (of3 a) (of3 b) = of3 fun h r e => a h r e + b h r e := rfl
theorem add_st (a b : St) : addf (F := Ideal) (φ := .f32) (ofSt a) (ofSt b) = ofSt fun h d e => a h d e + b h d e := rfl
theorem mul_st (a b : St) : mulf (F := Ideal) (φ := .f32) (ofSt a) (ofSt b) = ofSt fun h d e => a h d e * b h d e := rfl
theorem neg_rows (a : Rows) : Host.negf (F := Ideal) (φ := .f32) (of3 a) = of3 fun h r e => 0 - a h r e := by
  funext y
  show -(a (y 0) (y 1) (y 2)) = 0 - a (y 0) (y 1) (y 2)
  rw [sub_eq_add_neg, zero_add]
theorem bcast_dec (g : Dec) : broadcastInDim S8x128x128 ![0, 1, 2] bcast_S8x1x128_S8x128x128_0_1_2 (ofDec3 g) = ofSt fun h _ e => g h e := by
  funext y
  idx_vars y
  pointwise [ofDec3, ofSt]
/-- The sum over the rows of a state, laid out as a chunk's decays. -/
theorem sum_st (a : St) : shapeCast S8x1x128 (Host.reduceAdd (F := Ideal) (φ := .f32) (ofSt a) (constant S_ .f32 0x00000000#32) reducesTo_S8x128x128_S8x128_d1 h_S_) shapeCasts_S8x128_S8x1x128
    = ofDec3 fun h e => ∑ d : Fin 128, a h d e := by
  funext y
  idx_vars y
  pointwise [ofDec3, ofSt]

/-! ## The arrays as stacks of chunks, and back -/

theorem stack_rows (X : S4096x1024.Idx → EReal) : transpose S64x8x64x128 [0, 2, 1, 3] (shapeCast S64x64x8x128 X shapeCasts_S4096x1024_S64x64x8x128) transposes_S64x64x8x128_S64x8x64x128_0_2_1_3
    = stk (cRows X) := by
  funext y
  idx_vars y
  pointwise [stk, cRows, row, col, Nat.mul_comm 64, Nat.mul_comm 128]
theorem stack_sq (X : S8x4096x64.Idx → EReal) : transpose S64x8x64x64 [1, 0, 2, 3] (shapeCast S8x64x64x64 X shapeCasts_S8x4096x64_S8x64x64x64) transposes_S8x64x64x64_S64x8x64x64_1_0_2_3
    = stkSq (cSq X) := by
  funext y
  idx_vars y
  pointwise [stkSq, cSq, row, col, Nat.mul_comm 64]
theorem stack_dec (X : S8x64x1x128.Idx → EReal) : transpose S64x8x1x128 [1, 0, 2, 3] X transposes_S8x64x1x128_S64x8x1x128_1_0_2_3
    = stkDec (cDec X) := by
  funext y
  idx_vars y
  pointwise [stkDec, cDec]
theorem unstack_rows (f : Fin 64 → Rows) : shapeCast S4096x1024 (transpose S64x64x8x128 [0, 2, 1, 3] (stk f) transposes_S64x8x64x128_S64x64x8x128_0_2_1_3) shapeCasts_S64x64x8x128_S4096x1024
    = ofChunks f := by
  funext y
  idx_vars y
  pointwise [stk, ofChunks]
theorem unstack_sq (f : Fin 64 → Sq) : shapeCast S8x4096x64 (transpose S8x64x64x64 [1, 0, 2, 3] (stkSq f) transposes_S64x8x64x64_S8x64x64x64_1_0_2_3) shapeCasts_S8x64x64x64_S8x4096x64
    = ofChunksSq f := by
  funext y
  idx_vars y
  pointwise [stkSq, ofChunksSq]
theorem unstack_dec (f : Fin 64 → Dec) : transpose S8x64x1x128 [1, 0, 2, 3] (stkDec f) transposes_S64x8x1x128_S8x64x1x128_1_0_2_3
    = ofChunksDec f := by
  funext y
  idx_vars y
  pointwise [stkDec, ofChunksDec]

theorem zero_rows : broadcastInDim S64x8x64x128 ![] bcast_S_S64x8x64x128 (constant (F := Ideal) S_ .f32 0x00000000#32) = stk fun _ _ _ _ => 0 := by
  funext y
  idx_vars y
  pointwise [stk]

theorem zero_sq : broadcastInDim S64x8x64x64 ![] bcast_S_S64x8x64x64 (constant (F := Ideal) S_ .f32 0x00000000#32) = stkSq fun _ _ _ _ => 0 := by
  funext y
  idx_vars y
  pointwise [stkSq]

theorem zero_dec : broadcastInDim S64x8x1x128 ![] bcast_S_S64x8x1x128 (constant (F := Ideal) S_ .f32 0x00000000#32) = stkDec fun _ _ _ => 0 := by
  funext y
  idx_vars y
  pointwise [stkDec]

theorem zero_sts : broadcastInDim S64x8x128x128 ![] bcast_S_S64x8x128x128 (constant (F := Ideal) S_ .f32 0x00000000#32) = ofChunksSt fun _ _ _ _ => 0 := by
  funext y
  idx_vars y
  pointwise [ofChunksSt]

theorem zero_st : broadcastInDim S8x128x128 ![] bcast_S_S8x128x128 (constant (F := Ideal) S_ .f32 0x00000000#32) = ofSt fun _ _ _ => 0 := by
  funext y
  idx_vars y
  pointwise [ofSt]

end Cert.ReferenceIdeal.Scan

end
-- ==== Proof.Scan.RefStretch.lean ====
/- What each stretch of the reference program's operations leaves in the buffers it writes, from what its operands hold:
   a chunk of a stack, the products and sums of one chunk, a stack with one chunk replaced. -/
module

public import proofs.«01_k».proof.Proof.Scan.RefOps
public import proofs.«01_k».proof.Proof.Scan.HostChunk

@[expose] public section

set_option maxRecDepth 16384

noncomputable section

namespace Cert.ReferenceIdeal.Scan

open Cert.ReferenceIdeal Cert.ReferenceIdeal.Gen Cert.DeltaScan
open Idealize.ShloMosaic Idealize.ShloMosaic.TcCoe Idealize.ShloMosaic.Tactic
open Idealize.ShloMosaic.StableHlo

local notation "Val" => Valuation τ sig (Elt Ideal)

/-- The contents of a counter that stands at `n`. -/
def cnt (n : ℕ) : (⟨S_, .i32⟩ : BufTy).Contents (Elt Ideal) := fun _ => BitVec.ofNat 32 n

theorem toInt_ofNat (n : ℕ) (h : n < 64) : (BitVec.ofNat 32 n).toInt = (n : ℤ) := by
  rw [BitVec.toInt_eq_toNat_cond, BitVec.toNat_ofNat]
  have : n % 2 ^ 32 = n := Nat.mod_eq_of_lt (by omega)
  rw [this, if_pos (by omega)]

theorem ops0_0_val (V : Val) (f : Fin 64 → Rows) (n : Fin 64) (hx : V (Proc.devRef .tc main_v15_0) = stk f) (hc : V (Proc.devRef .tc main_v15_6) = cnt n.val) :
    after ops0_0 V (Proc.devRef .tc main_while0b_v40) = of3 (f n) := by
  have e : after ops0_0 V (Proc.devRef .tc main_while0b_v40) = shapeCast S8x64x128 (Host.dynamicSlice S1x8x64x128 (V (Proc.devRef .tc main_v15_0))
      (fun k => (((![V (Proc.devRef .tc main_v15_6), constantI S_ 32 0#32, constantI S_ 32 0#32, constantI S_ 32 0#32] : Fin 4 → (⟨S_, .i32⟩ : BufTy).Contents (Elt Ideal))) k (Shape.Idx.first h_S_)).toInt) sliceFits_S64x8x64x128_S1x8x64x128) shapeCasts_S1x8x64x128_S8x64x128 := by
    unfold ops0_0
    after_results_entrywise [cast_eq]
  rw [e, hx]
  exact slice_stk f n _ (by rw [hc]; exact toInt_ofNat n.val n.isLt) rfl rfl rfl

theorem ops0_1_val (V : Val) (f : Fin 64 → Rows) (n : Fin 64) (hx : V (Proc.devRef .tc main_v15_1) = stk f) (hc : V (Proc.devRef .tc main_v15_6) = cnt n.val) :
    after ops0_1 V (Proc.devRef .tc main_while0b_v41) = of3 (f n) := by
  have e : after ops0_1 V (Proc.devRef .tc main_while0b_v41) = shapeCast S8x64x128 (Host.dynamicSlice S1x8x64x128 (V (Proc.devRef .tc main_v15_1))
      (fun k => (((![V (Proc.devRef .tc main_v15_6), constantI S_ 32 0#32, constantI S_ 32 0#32, constantI S_ 32 0#32] : Fin 4 → (⟨S_, .i32⟩ : BufTy).Contents (Elt Ideal))) k (Shape.Idx.first h_S_)).toInt) sliceFits_S64x8x64x128_S1x8x64x128) shapeCasts_S1x8x64x128_S8x64x128 := by
    unfold ops0_1
    after_results_entrywise [cast_eq]
  rw [e, hx]
  exact slice_stk f n _ (by rw [hc]; exact toInt_ofNat n.val n.isLt) rfl rfl rfl

theorem ops0_2_val (V : Val) (f : Fin 64 → Rows) (n : Fin 64) (hx : V (Proc.devRef .tc main_v15_2) = stk f) (hc : V (Proc.devRef .tc main_v15_6) = cnt n.val) :
    after ops0_2 V (Proc.devRef .tc main_while0b_v42) = of3 (f n) := by
  have e : after ops0_2 V (Proc.devRef .tc main_while0b_v42) = shapeCast S8x64x128 (Host.dynamicSlice S1x8x64x128 (V (Proc.devRef .tc main_v15_2))
      (fun k => (((![V (Proc.devRef .tc main_v15_6), constantI S_ 32 0#32, constantI S_ 32 0#32, constantI S_ 32 0#32] : Fin 4 → (⟨S_, .i32⟩ : BufTy).Contents (Elt Ideal))) k (Shape.Idx.first h_S_)).toInt) sliceFits_S64x8x64x128_S1x8x64x128) shapeCasts_S1x8x64x128_S8x64x128 := by
    unfold ops0_2
    after_results_entrywise [cast_eq]
  rw [e, hx]
  exact slice_stk f n _ (by rw [hc]; exact toInt_ofNat n.val n.isLt) rfl rfl rfl

theorem ops0_3_val (V : Val) (f : Fin 64 → Rows) (n : Fin 64) (hx : V (Proc.devRef .tc main_v15_3) = stk f) (hc : V (Proc.devRef .tc main_v15_6) = cnt n.val) :
    after ops0_3 V (Proc.devRef .tc main_while0b_v43) = of3 (f n) := by
  have e : after ops0_3 V (Proc.devRef .tc main_while0b_v43) = shapeCast S8x64x128 (Host.dynamicSlice S1x8x64x128 (V (Proc.devRef .tc main_v15_3))
      (fun k => (((![V (Proc.devRef .tc main_v15_6), constantI S_ 32 0#32, constantI S_ 32 0#32, constantI S_ 32 0#32] : Fin 4 → (⟨S_, .i32⟩ : BufTy).Contents (Elt Ideal))) k (Shape.Idx.first h_S_)).toInt) sliceFits_S64x8x64x128_S1x8x64x128) shapeCasts_S1x8x64x128_S8x64x128 := by
    unfold ops0_3
    after_results_entrywise [cast_eq]
  rw [e, hx]
  exact slice_stk f n _ (by rw [hc]; exact toInt_ofNat n.val n.isLt) rfl rfl rfl

theorem ops0_4_val (V : Val) (f : Fin 64 → Sq) (n : Fin 64) (hx : V (Proc.devRef .tc main_v15_4) = stkSq f) (hc : V (Proc.devRef .tc main_v15_6) = cnt n.val) :
    after ops0_4 V (Proc.devRef .tc main_while0b_v44) = ofSq (f n) := by
  have e : after ops0_4 V (Proc.devRef .tc main_while0b_v44) = shapeCast S8x64x64 (Host.dynamicSlice S1x8x64x64 (V (Proc.devRef .tc main_v15_4))
      (fun k => (((![V (Proc.devRef .tc main_v15_6), constantI S_ 32 0#32, constantI S_ 32 0#32, constantI S_ 32 0#32] : Fin 4 → (⟨S_, .i32⟩ : BufTy).Contents (Elt Ideal))) k (Shape.Idx.first h_S_)).toInt) sliceFits_S64x8x64x64_S1x8x64x64) shapeCasts_S1x8x64x64_S8x64x64 := by
    unfold ops0_4
    after_results_entrywise [cast_eq]
  rw [e, hx]
  exact slice_stkSq f n _ (by rw [hc]; exact toInt_ofNat n.val n.isLt) rfl rfl rfl

theorem ops0_5_val (V : Val) (f : Fin 64 → Dec) (n : Fin 64) (hx : V (Proc.devRef .tc main_v15_5) = stkDec f) (hc : V (Proc.devRef .tc main_v15_6) = cnt n.val) :
    after ops0_5 V (Proc.devRef .tc main_while0b_v45) = ofDec3 (f n) := by
  have e : after ops0_5 V (Proc.devRef .tc main_while0b_v45) = shapeCast S8x1x128 (Host.dynamicSlice S1x8x1x128 (V (Proc.devRef .tc main_v15_5))
      (fun k => (((![V (Proc.devRef .tc main_v15_6), constantI S_ 32 0#32, constantI S_ 32 0#32, constantI S_ 32 0#32] : Fin 4 → (⟨S_, .i32⟩ : BufTy).Contents (Elt Ideal))) k (Shape.Idx.first h_S_)).toInt) sliceFits_S64x8x1x128_S1x8x1x128) shapeCasts_S1x8x1x128_S8x1x128 := by
    unfold ops0_5
    after_results_entrywise [cast_eq]
  rw [e, hx]
  exact slice_stkDec f n _ (by rw [hc]; exact toInt_ofNat n.val n.isLt) rfl rfl rfl

theorem ops0_7_val (V : Val) (f : Fin 64 → Rows) (a : Rows) (n : Fin 64) (hx : V (Proc.devRef .tc main_v15_8) = stk f) (ha : V (Proc.devRef .tc main_while0b_v50) = of3 a) (hc : V (Proc.devRef .tc main_v15_6) = cnt n.val) :
    after ops0_7 V (Proc.devRef .tc main_while0b_v55) = stk (Function.update f n a) := by
  have e : after ops0_7 V (Proc.devRef .tc main_while0b_v55) = Host.dynamicUpdateSlice (s := S64x8x64x128) (V (Proc.devRef .tc main_v15_8)) (broadcastInDim S1x8x64x128 ![1, 2, 3] bcast_S8x64x128_S1x8x64x128_1_2_3 (V (Proc.devRef .tc main_while0b_v50)))
      (fun k => (((![V (Proc.devRef .tc main_v15_6), constantI S_ 32 0#32, constantI S_ 32 0#32, constantI S_ 32 0#32] : Fin 4 → (⟨S_, .i32⟩ : BufTy).Contents (Elt Ideal))) k (Shape.Idx.first h_S_)).toInt) updateFits_S64x8x64x128_S1x8x64x128 := by
    unfold ops0_7
    after_results_entrywise [cast_eq]
  rw [e, hx, ha]
  exact update_stk f a n _ (by rw [hc]; exact toInt_ofNat n.val n.isLt) rfl rfl rfl

theorem ops0_8_val (V : Val) (f : Fin 64 → St) (a : St) (n : Fin 64) (hx : V (Proc.devRef .tc main_v15_9) = ofChunksSt f) (ha : V (Proc.devRef .tc main_v15_7) = ofSt a) (hc : V (Proc.devRef .tc main_v15_6) = cnt n.val) :
    after ops0_8 V (Proc.devRef .tc main_while0b_v56) = ofChunksSt (Function.update f n a) := by
  have e : after ops0_8 V (Proc.devRef .tc main_while0b_v56) = Host.dynamicUpdateSlice (s := S64x8x128x128) (V (Proc.devRef .tc main_v15_9)) (broadcastInDim S1x8x128x128 ![1, 2, 3] bcast_S8x128x128_S1x8x128x128_1_2_3 (V (Proc.devRef .tc main_v15_7)))
      (fun k => (((![V (Proc.devRef .tc main_v15_6), constantI S_ 32 0#32, constantI S_ 32 0#32, constantI S_ 32 0#32] : Fin 4 → (⟨S_, .i32⟩ : BufTy).Contents (Elt Ideal))) k (Shape.Idx.first h_S_)).toInt) updateFits_S64x8x128x128_S1x8x128x128 := by
    unfold ops0_8
    after_results_entrywise [cast_eq]
  rw [e, hx, ha]
  exact update_ofChunksSt f a n _ (by rw [hc]; exact toInt_ofNat n.val n.isLt) rfl rfl rfl

theorem ops0_9_val (V : Val) (f : Fin 64 → Rows) (a : Rows) (n : Fin 64) (hx : V (Proc.devRef .tc main_v15_10) = stk f) (ha : V (Proc.devRef .tc main_while0b_v47) = of3 a) (hc : V (Proc.devRef .tc main_v15_6) = cnt n.val) :
    after ops0_9 V (Proc.devRef .tc main_while0b_v57) = stk (Function.update f n a) := by
  have e : after ops0_9 V (Proc.devRef .tc main_while0b_v57) = Host.dynamicUpdateSlice (s := S64x8x64x128) (V (Proc.devRef .tc main_v15_10)) (broadcastInDim S1x8x64x128 ![1, 2, 3] bcast_S8x64x128_S1x8x64x128_1_2_3 (V (Proc.devRef .tc main_while0b_v47)))
      (fun k => (((![V (Proc.devRef .tc main_v15_6), constantI S_ 32 0#32, constantI S_ 32 0#32, constantI S_ 32 0#32] : Fin 4 → (⟨S_, .i32⟩ : BufTy).Contents (Elt Ideal))) k (Shape.Idx.first h_S_)).toInt) updateFits_S64x8x64x128_S1x8x64x128 := by
    unfold ops0_9
    after_results_entrywise [cast_eq]
  rw [e, hx, ha]
  exact update_stk f a n _ (by rw [hc]; exact toInt_ofNat n.val n.isLt) rfl rfl rfl

theorem ops1_1_val (V : Val) (f : Fin 64 → Rows) (n : Fin 64) (hx : V (Proc.devRef .tc main_v28_0) = stk f) (hc : V (Proc.devRef .tc main_while1b_v41) = cnt n.val) :
    after ops1_1 V (Proc.devRef .tc main_while1b_v42) = of3 (f n) := by
  have e : after ops1_1 V (Proc.devRef .tc main_while1b_v42) = shapeCast S8x64x128 (Host.dynamicSlice S1x8x64x128 (V (Proc.devRef .tc main_v28_0))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) sliceFits_S64x8x64x128_S1x8x64x128) shapeCasts_S1x8x64x128_S8x64x128 := by
    unfold ops1_1
    after_results_entrywise [cast_eq]
  rw [e, hx]
  exact slice_stk f n _ (by rw [hc]; exact toInt_ofNat n.val n.isLt) rfl rfl rfl

theorem ops1_2_val (V : Val) (f : Fin 64 → St) (n : Fin 64) (hx : V (Proc.devRef .tc main_v28_1) = ofChunksSt f) (hc : V (Proc.devRef .tc main_while1b_v41) = cnt n.val) :
    after ops1_2 V (Proc.devRef .tc main_while1b_v43) = ofSt (f n) := by
  have e : after ops1_2 V (Proc.devRef .tc main_while1b_v43) = shapeCast S8x128x128 (Host.dynamicSlice S1x8x128x128 (V (Proc.devRef .tc main_v28_1))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) sliceFits_S64x8x128x128_S1x8x128x128) shapeCasts_S1x8x128x128_S8x128x128 := by
    unfold ops1_2
    after_results_entrywise [cast_eq]
  rw [e, hx]
  exact slice_ofChunksSt f n _ (by rw [hc]; exact toInt_ofNat n.val n.isLt) rfl rfl rfl

theorem ops1_3_val (V : Val) (f : Fin 64 → Rows) (n : Fin 64) (hx : V (Proc.devRef .tc main_v28_2) = stk f) (hc : V (Proc.devRef .tc main_while1b_v41) = cnt n.val) :
    after ops1_3 V (Proc.devRef .tc main_while1b_v44) = of3 (f n) := by
  have e : after ops1_3 V (Proc.devRef .tc main_while1b_v44) = shapeCast S8x64x128 (Host.dynamicSlice S1x8x64x128 (V (Proc.devRef .tc main_v28_2))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) sliceFits_S64x8x64x128_S1x8x64x128) shapeCasts_S1x8x64x128_S8x64x128 := by
    unfold ops1_3
    after_results_entrywise [cast_eq]
  rw [e, hx]
  exact slice_stk f n _ (by rw [hc]; exact toInt_ofNat n.val n.isLt) rfl rfl rfl

theorem ops1_4_val (V : Val) (f : Fin 64 → Rows) (n : Fin 64) (hx : V (Proc.devRef .tc main_v28_3) = stk f) (hc : V (Proc.devRef .tc main_while1b_v41) = cnt n.val) :
    after ops1_4 V (Proc.devRef .tc main_while1b_v45) = of3 (f n) := by
  have e : after ops1_4 V (Proc.devRef .tc main_while1b_v45) = shapeCast S8x64x128 (Host.dynamicSlice S1x8x64x128 (V (Proc.devRef .tc main_v28_3))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) sliceFits_S64x8x64x128_S1x8x64x128) shapeCasts_S1x8x64x128_S8x64x128 := by
    unfold ops1_4
    after_results_entrywise [cast_eq]
  rw [e, hx]
  exact slice_stk f n _ (by rw [hc]; exact toInt_ofNat n.val n.isLt) rfl rfl rfl

theorem ops1_5_val (V : Val) (f : Fin 64 → Rows) (n : Fin 64) (hx : V (Proc.devRef .tc main_v28_4) = stk f) (hc : V (Proc.devRef .tc main_while1b_v41) = cnt n.val) :
    after ops1_5 V (Proc.devRef .tc main_while1b_v46) = of3 (f n) := by
  have e : after ops1_5 V (Proc.devRef .tc main_while1b_v46) = shapeCast S8x64x128 (Host.dynamicSlice S1x8x64x128 (V (Proc.devRef .tc main_v28_4))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) sliceFits_S64x8x64x128_S1x8x64x128) shapeCasts_S1x8x64x128_S8x64x128 := by
    unfold ops1_5
    after_results_entrywise [cast_eq]
  rw [e, hx]
  exact slice_stk f n _ (by rw [hc]; exact toInt_ofNat n.val n.isLt) rfl rfl rfl

theorem ops1_6_val (V : Val) (f : Fin 64 → Sq) (n : Fin 64) (hx : V (Proc.devRef .tc main_v28_5) = stkSq f) (hc : V (Proc.devRef .tc main_while1b_v41) = cnt n.val) :
    after ops1_6 V (Proc.devRef .tc main_while1b_v47) = ofSq (f n) := by
  have e : after ops1_6 V (Proc.devRef .tc main_while1b_v47) = shapeCast S8x64x64 (Host.dynamicSlice S1x8x64x64 (V (Proc.devRef .tc main_v28_5))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) sliceFits_S64x8x64x64_S1x8x64x64) shapeCasts_S1x8x64x64_S8x64x64 := by
    unfold ops1_6
    after_results_entrywise [cast_eq]
  rw [e, hx]
  exact slice_stkSq f n _ (by rw [hc]; exact toInt_ofNat n.val n.isLt) rfl rfl rfl

theorem ops1_7_val (V : Val) (f : Fin 64 → Dec) (n : Fin 64) (hx : V (Proc.devRef .tc main_v28_6) = stkDec f) (hc : V (Proc.devRef .tc main_while1b_v41) = cnt n.val) :
    after ops1_7 V (Proc.devRef .tc main_while1b_v48) = ofDec3 (f n) := by
  have e : after ops1_7 V (Proc.devRef .tc main_while1b_v48) = shapeCast S8x1x128 (Host.dynamicSlice S1x8x1x128 (V (Proc.devRef .tc main_v28_6))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) sliceFits_S64x8x1x128_S1x8x1x128) shapeCasts_S1x8x1x128_S8x1x128 := by
    unfold ops1_7
    after_results_entrywise [cast_eq]
  rw [e, hx]
  exact slice_stkDec f n _ (by rw [hc]; exact toInt_ofNat n.val n.isLt) rfl rfl rfl

theorem ops1_8_val (V : Val) (f : Fin 64 → Rows) (n : Fin 64) (hx : V (Proc.devRef .tc main_v28_7) = stk f) (hc : V (Proc.devRef .tc main_while1b_v41) = cnt n.val) :
    after ops1_8 V (Proc.devRef .tc main_while1b_v49) = of3 (f n) := by
  have e : after ops1_8 V (Proc.devRef .tc main_while1b_v49) = shapeCast S8x64x128 (Host.dynamicSlice S1x8x64x128 (V (Proc.devRef .tc main_v28_7))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) sliceFits_S64x8x64x128_S1x8x64x128) shapeCasts_S1x8x64x128_S8x64x128 := by
    unfold ops1_8
    after_results_entrywise [cast_eq]
  rw [e, hx]
  exact slice_stk f n _ (by rw [hc]; exact toInt_ofNat n.val n.isLt) rfl rfl rfl

theorem ops1_10_val (V : Val) (f : Fin 64 → Rows) (a : Rows) (n : Fin 64) (hx : V (Proc.devRef .tc main_v28_10) = stk f) (ha : V (Proc.devRef .tc main_while1b_v61) = of3 a) (hc : V (Proc.devRef .tc main_while1b_v41) = cnt n.val) :
    after ops1_10 V (Proc.devRef .tc main_while1b_v72) = stk (Function.update f n a) := by
  have e : after ops1_10 V (Proc.devRef .tc main_while1b_v72) = Host.dynamicUpdateSlice (s := S64x8x64x128) (V (Proc.devRef .tc main_v28_10)) (broadcastInDim S1x8x64x128 ![1, 2, 3] bcast_S8x64x128_S1x8x64x128_1_2_3 (V (Proc.devRef .tc main_while1b_v61)))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) updateFits_S64x8x64x128_S1x8x64x128 := by
    unfold ops1_10
    after_results_entrywise [cast_eq]
  rw [e, hx, ha]
  exact update_stk f a n _ (by rw [hc]; exact toInt_ofNat n.val n.isLt) rfl rfl rfl

theorem ops1_11_val (V : Val) (f : Fin 64 → Rows) (a : Rows) (n : Fin 64) (hx : V (Proc.devRef .tc main_v28_11) = stk f) (ha : V (Proc.devRef .tc main_while1b_v71) = of3 a) (hc : V (Proc.devRef .tc main_while1b_v41) = cnt n.val) :
    after ops1_11 V (Proc.devRef .tc main_while1b_v73) = stk (Function.update f n a) := by
  have e : after ops1_11 V (Proc.devRef .tc main_while1b_v73) = Host.dynamicUpdateSlice (s := S64x8x64x128) (V (Proc.devRef .tc main_v28_11)) (broadcastInDim S1x8x64x128 ![1, 2, 3] bcast_S8x64x128_S1x8x64x128_1_2_3 (V (Proc.devRef .tc main_while1b_v71)))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) updateFits_S64x8x64x128_S1x8x64x128 := by
    unfold ops1_11
    after_results_entrywise [cast_eq]
  rw [e, hx, ha]
  exact update_stk f a n _ (by rw [hc]; exact toInt_ofNat n.val n.isLt) rfl rfl rfl

theorem ops1_12_val (V : Val) (f : Fin 64 → Rows) (a : Rows) (n : Fin 64) (hx : V (Proc.devRef .tc main_v28_12) = stk f) (ha : V (Proc.devRef .tc main_while1b_v66) = of3 a) (hc : V (Proc.devRef .tc main_while1b_v41) = cnt n.val) :
    after ops1_12 V (Proc.devRef .tc main_while1b_v74) = stk (Function.update f n a) := by
  have e : after ops1_12 V (Proc.devRef .tc main_while1b_v74) = Host.dynamicUpdateSlice (s := S64x8x64x128) (V (Proc.devRef .tc main_v28_12)) (broadcastInDim S1x8x64x128 ![1, 2, 3] bcast_S8x64x128_S1x8x64x128_1_2_3 (V (Proc.devRef .tc main_while1b_v66)))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) updateFits_S64x8x64x128_S1x8x64x128 := by
    unfold ops1_12
    after_results_entrywise [cast_eq]
  rw [e, hx, ha]
  exact update_stk f a n _ (by rw [hc]; exact toInt_ofNat n.val n.isLt) rfl rfl rfl

theorem ops1_13_val (V : Val) (f : Fin 64 → Rows) (a : Rows) (n : Fin 64) (hx : V (Proc.devRef .tc main_v28_13) = stk f) (ha : V (Proc.devRef .tc main_while1b_v53) = of3 a) (hc : V (Proc.devRef .tc main_while1b_v41) = cnt n.val) :
    after ops1_13 V (Proc.devRef .tc main_while1b_v75) = stk (Function.update f n a) := by
  have e : after ops1_13 V (Proc.devRef .tc main_while1b_v75) = Host.dynamicUpdateSlice (s := S64x8x64x128) (V (Proc.devRef .tc main_v28_13)) (broadcastInDim S1x8x64x128 ![1, 2, 3] bcast_S8x64x128_S1x8x64x128_1_2_3 (V (Proc.devRef .tc main_while1b_v53)))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) updateFits_S64x8x64x128_S1x8x64x128 := by
    unfold ops1_13
    after_results_entrywise [cast_eq]
  rw [e, hx, ha]
  exact update_stk f a n _ (by rw [hc]; exact toInt_ofNat n.val n.isLt) rfl rfl rfl

theorem ops1_14_val (V : Val) (f : Fin 64 → Sq) (a : Sq) (n : Fin 64) (hx : V (Proc.devRef .tc main_v28_14) = stkSq f) (ha : V (Proc.devRef .tc main_while1b_v62) = ofSq a) (hc : V (Proc.devRef .tc main_while1b_v41) = cnt n.val) :
    after ops1_14 V (Proc.devRef .tc main_while1b_v76) = stkSq (Function.update f n a) := by
  have e : after ops1_14 V (Proc.devRef .tc main_while1b_v76) = Host.dynamicUpdateSlice (s := S64x8x64x64) (V (Proc.devRef .tc main_v28_14)) (broadcastInDim S1x8x64x64 ![1, 2, 3] bcast_S8x64x64_S1x8x64x64_1_2_3 (V (Proc.devRef .tc main_while1b_v62)))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) updateFits_S64x8x64x64_S1x8x64x64 := by
    unfold ops1_14
    after_results_entrywise [cast_eq]
  rw [e, hx, ha]
  exact update_stkSq f a n _ (by rw [hc]; exact toInt_ofNat n.val n.isLt) rfl rfl rfl

theorem ops1_15_val (V : Val) (f : Fin 64 → Dec) (a : Dec) (n : Fin 64) (hx : V (Proc.devRef .tc main_v28_15) = stkDec f) (ha : V (Proc.devRef .tc main_while1b_v56) = ofDec3 a) (hc : V (Proc.devRef .tc main_while1b_v41) = cnt n.val) :
    after ops1_15 V (Proc.devRef .tc main_while1b_v77) = stkDec (Function.update f n a) := by
  have e : after ops1_15 V (Proc.devRef .tc main_while1b_v77) = Host.dynamicUpdateSlice (s := S64x8x1x128) (V (Proc.devRef .tc main_v28_15)) (broadcastInDim S1x8x1x128 ![1, 2, 3] bcast_S8x1x128_S1x8x1x128_1_2_3 (V (Proc.devRef .tc main_while1b_v56)))
      (fun k => (((![V (Proc.devRef .tc main_while1b_v41), constantI S_ 32 0#32, constantI S_ 32 0#32, constantI S_ 32 0#32] : Fin 4 → (⟨S_, .i32⟩ : BufTy).Contents (Elt Ideal))) k (Shape.Idx.first h_S_)).toInt) updateFits_S64x8x1x128_S1x8x1x128 := by
    unfold ops1_15
    after_results_entrywise [cast_eq]
  rw [e, hx, ha]
  exact update_stkDec f a n _ (by rw [hc]; exact toInt_ofNat n.val n.isLt) rfl rfl rfl

theorem ops0_6_vnew (V : Val) (u w q k : Rows) (A : Sq) (g : Dec) (s : St) (h0 : V (Proc.devRef .tc main_while0b_v40) = of3 u) (h1 : V (Proc.devRef .tc main_while0b_v41) = of3 w) (h2 : V (Proc.devRef .tc main_while0b_v42) = of3 q) (h3 : V (Proc.devRef .tc main_while0b_v43) = of3 k) (h4 : V (Proc.devRef .tc main_while0b_v44) = ofSq A) (h5 : V (Proc.devRef .tc main_while0b_v45) = ofDec3 g) (h6 : V (Proc.devRef .tc main_v15_7) = ofSt s) :
    after ops0_6 V (Proc.devRef .tc main_while0b_v47) = of3 (vnew u w s) := by
  have e : after ops0_6 V (Proc.devRef .tc main_while0b_v47) = (subf (F := Ideal) (φ := .f32) (of3 u) (Host.dotGeneral (F := Ideal) (φ₁ := .f32) (φ₂ := .f32) dot_S8x64x128_S8x128x128_S8x64x128_2_1_1_2_0_0 none (of3 w) (ofSt s))) := by
    unfold ops0_6
    after_results
    simp only [h0, h1, h2, h3, h4, h5, h6]
    try rfl
  rw [e]
  repeat' first | rw [dot_ws] | rw [dot_Av] | rw [dot_kv] | rw [dot_sw] | rw [dot_sv] | rw [dot_oA] | rw [dot_ov] | rw [dot_oq] | rw [dot_os] | rw [sub_rows] | rw [add_rows] | rw [add_st] | rw [mul_st] | rw [neg_rows] | rw [bcast_dec] | rw [sum_st]
  try rfl

theorem ops0_6_outp (V : Val) (u w q k : Rows) (A : Sq) (g : Dec) (s : St) (h0 : V (Proc.devRef .tc main_while0b_v40) = of3 u) (h1 : V (Proc.devRef .tc main_while0b_v41) = of3 w) (h2 : V (Proc.devRef .tc main_while0b_v42) = of3 q) (h3 : V (Proc.devRef .tc main_while0b_v43) = of3 k) (h4 : V (Proc.devRef .tc main_while0b_v44) = ofSq A) (h5 : V (Proc.devRef .tc main_while0b_v45) = ofDec3 g) (h6 : V (Proc.devRef .tc main_v15_7) = ofSt s) :
    after ops0_6 V (Proc.devRef .tc main_while0b_v50) = of3 (outp u w q A s) := by
  have e : after ops0_6 V (Proc.devRef .tc main_while0b_v50) = (addf (F := Ideal) (φ := .f32) (Host.dotGeneral (F := Ideal) (φ₁ := .f32) (φ₂ := .f32) dot_S8x64x128_S8x128x128_S8x64x128_2_1_1_2_0_0 none (of3 q) (ofSt s)) (Host.dotGeneral (F := Ideal) (φ₁ := .f32) (φ₂ := .f32) dot_S8x64x64_S8x64x128_S8x64x128_2_1_1_2_0_0 none (ofSq A) (subf (F := Ideal) (φ := .f32) (of3 u) (Host.dotGeneral (F := Ideal) (φ₁ := .f32) (φ₂ := .f32) dot_S8x64x128_S8x128x128_S8x64x128_2_1_1_2_0_0 none (of3 w) (ofSt s))))) := by
    unfold ops0_6
    after_results
    simp only [h0, h1, h2, h3, h4, h5, h6]
    try rfl
  rw [e]
  repeat' first | rw [dot_ws] | rw [dot_Av] | rw [dot_kv] | rw [dot_sw] | rw [dot_sv] | rw [dot_oA] | rw [dot_ov] | rw [dot_oq] | rw [dot_os] | rw [sub_rows] | rw [add_rows] | rw [add_st] | rw [mul_st] | rw [neg_rows] | rw [bcast_dec] | rw [sum_st]
  try rfl

theorem ops0_6_next (V : Val) (u w q k : Rows) (A : Sq) (g : Dec) (s : St) (h0 : V (Proc.devRef .tc main_while0b_v40) = of3 u) (h1 : V (Proc.devRef .tc main_while0b_v41) = of3 w) (h2 : V (Proc.devRef .tc main_while0b_v42) = of3 q) (h3 : V (Proc.devRef .tc main_while0b_v43) = of3 k) (h4 : V (Proc.devRef .tc main_while0b_v44) = ofSq A) (h5 : V (Proc.devRef .tc main_while0b_v45) = ofDec3 g) (h6 : V (Proc.devRef .tc main_v15_7) = ofSt s) :
    after ops0_6 V (Proc.devRef .tc main_while0b_v54) = ofSt (next u w k g s) := by
  have e : after ops0_6 V (Proc.devRef .tc main_while0b_v54) = (addf (F := Ideal) (φ := .f32) (mulf (F := Ideal) (φ := .f32) (ofSt s) (broadcastInDim S8x128x128 ![0, 1, 2] bcast_S8x1x128_S8x128x128_0_1_2 (ofDec3 g))) (Host.dotGeneral (F := Ideal) (φ₁ := .f32) (φ₂ := .f32) dot_S8x64x128_S8x64x128_S8x128x128_1_1_2_2_0_0 none (of3 k) (subf (F := Ideal) (φ := .f32) (of3 u) (Host.dotGeneral (F := Ideal) (φ₁ := .f32) (φ₂ := .f32) dot_S8x64x128_S8x128x128_S8x64x128_2_1_1_2_0_0 none (of3 w) (ofSt s))))) := by
    unfold ops0_6
    after_results
    simp only [h0, h1, h2, h3, h4, h5, h6]
    try rfl
  rw [e]
  repeat' first | rw [dot_ws] | rw [dot_Av] | rw [dot_kv] | rw [dot_sw] | rw [dot_sv] | rw [dot_oA] | rw [dot_ov] | rw [dot_oq] | rw [dot_os] | rw [sub_rows] | rw [add_rows] | rw [add_st] | rw [mul_st] | rw [neg_rows] | rw [bcast_dec] | rw [sum_st]
  try rfl

theorem ops1_0_val (V : Val) (k : ℕ) (hk : k < 64) (hc : V (Proc.devRef .tc main_v28_8) = cnt k) :
    after ops1_0 V (Proc.devRef .tc main_while1b_v41) = cnt (63 - k) := by
  unfold ops1_0
  after_results
  rw [hc]
  funext y
  show (64#32 - BitVec.ofNat 32 k) - 1#32 = BitVec.ofNat 32 (63 - k)
  apply BitVec.eq_of_toNat_eq
  simp only [BitVec.toNat_sub, BitVec.toNat_ofNat]
  omega

theorem ops1_9_du (V : Val) (v w q k : Rows) (A : Sq) (g : Dec) (s : St) (dO : Rows) (ds : St) (h0 : V (Proc.devRef .tc main_while1b_v42) = of3 dO) (h1 : V (Proc.devRef .tc main_while1b_v43) = ofSt s) (h2 : V (Proc.devRef .tc main_while1b_v44) = of3 w) (h3 : V (Proc.devRef .tc main_while1b_v45) = of3 q) (h4 : V (Proc.devRef .tc main_while1b_v46) = of3 v) (h5 : V (Proc.devRef .tc main_while1b_v47) = ofSq A) (h6 : V (Proc.devRef .tc main_while1b_v48) = ofDec3 g) (h7 : V (Proc.devRef .tc main_while1b_v49) = of3 k) (h8 : V (Proc.devRef .tc main_v28_9) = ofSt ds) :
    after ops1_9 V (Proc.devRef .tc main_while1b_v61) = of3 (du k A dO ds) := by
  have e : after ops1_9 V (Proc.devRef .tc main_while1b_v61) = (addf (F := Ideal) (φ := .f32) (transpose S8x64x128 [0, 2, 1] (Host.dotGeneral (F := Ideal) (φ₁ := .f32) (φ₂ := .f32) dot_S8x128x128_S8x64x128_S8x128x64_1_2_2_1_0_0 none (ofSt ds) (of3 k)) transposes_S8x128x64_S8x64x128_0_2_1) (transpose S8x64x128 [0, 2, 1] (Host.dotGeneral (F := Ideal) (φ₁ := .f32) (φ₂ := .f32) dot_S8x64x128_S8x64x64_S8x128x64_1_1_2_2_0_0 none (of3 dO) (ofSq A)) transposes_S8x128x64_S8x64x128_0_2_1)) := by
    unfold ops1_9
    after_results
    simp only [h0, h1, h2, h3, h4, h5, h6, h7, h8]
    try rfl
  rw [e]
  repeat' first | rw [dot_ws] | rw [dot_Av] | rw [dot_sw] | rw [dot_sv] | rw [dot_oA] | rw [dot_ov] | rw [dot_oq] | rw [dot_os] | rw [sub_rows] | rw [add_rows] | rw [add_st] | rw [mul_st] | rw [neg_rows] | rw [bcast_dec] | rw [sum_st]
  try rfl

theorem ops1_9_dw (V : Val) (v w q k : Rows) (A : Sq) (g : Dec) (s : St) (dO : Rows) (ds : St) (h0 : V (Proc.devRef .tc main_while1b_v42) = of3 dO) (h1 : V (Proc.devRef .tc main_while1b_v43) = ofSt s) (h2 : V (Proc.devRef .tc main_while1b_v44) = of3 w) (h3 : V (Proc.devRef .tc main_while1b_v45) = of3 q) (h4 : V (Proc.devRef .tc main_while1b_v46) = of3 v) (h5 : V (Proc.devRef .tc main_while1b_v47) = ofSq A) (h6 : V (Proc.devRef .tc main_while1b_v48) = ofDec3 g) (h7 : V (Proc.devRef .tc main_while1b_v49) = of3 k) (h8 : V (Proc.devRef .tc main_v28_9) = ofSt ds) :
    after ops1_9 V (Proc.devRef .tc main_while1b_v71) = of3 (dw k A s dO ds) := by
  have e : after ops1_9 V (Proc.devRef .tc main_while1b_v71) = (Host.dotGeneral (F := Ideal) (φ₁ := .f32) (φ₂ := .f32) dot_S8x64x128_S8x128x128_S8x64x128_2_2_1_1_0_0 none (Host.negf (F := Ideal) (φ := .f32) (addf (F := Ideal) (φ := .f32) (transpose S8x64x128 [0, 2, 1] (Host.dotGeneral (F := Ideal) (φ₁ := .f32) (φ₂ := .f32) dot_S8x128x128_S8x64x128_S8x128x64_1_2_2_1_0_0 none (ofSt ds) (of3 k)) transposes_S8x128x64_S8x64x128_0_2_1) (transpose S8x64x128 [0, 2, 1] (Host.dotGeneral (F := Ideal) (φ₁ := .f32) (φ₂ := .f32) dot_S8x64x128_S8x64x64_S8x128x64_1_1_2_2_0_0 none (of3 dO) (ofSq A)) transposes_S8x128x64_S8x64x128_0_2_1))) (ofSt s)) := by
    unfold ops1_9
    after_results
    simp only [h0, h1, h2, h3, h4, h5, h6, h7, h8]
    try rfl
  rw [e]
  repeat' first | rw [dot_ws] | rw [dot_Av] | rw [dot_sw] | rw [dot_sv] | rw [dot_oA] | rw [dot_ov] | rw [dot_oq] | rw [dot_os] | rw [sub_rows] | rw [add_rows] | rw [add_st] | rw [mul_st] | rw [neg_rows] | rw [bcast_dec] | rw [sum_st]
  try rfl

theorem ops1_9_dq (V : Val) (v w q k : Rows) (A : Sq) (g : Dec) (s : St) (dO : Rows) (ds : St) (h0 : V (Proc.devRef .tc main_while1b_v42) = of3 dO) (h1 : V (Proc.devRef .tc main_while1b_v43) = ofSt s) (h2 : V (Proc.devRef .tc main_while1b_v44) = of3 w) (h3 : V (Proc.devRef .tc main_while1b_v45) = of3 q) (h4 : V (Proc.devRef .tc main_while1b_v46) = of3 v) (h5 : V (Proc.devRef .tc main_while1b_v47) = ofSq A) (h6 : V (Proc.devRef .tc main_while1b_v48) = ofDec3 g) (h7 : V (Proc.devRef .tc main_while1b_v49) = of3 k) (h8 : V (Proc.devRef .tc main_v28_9) = ofSt ds) :
    after ops1_9 V (Proc.devRef .tc main_while1b_v66) = of3 (dq s dO) := by
  have e : after ops1_9 V (Proc.devRef .tc main_while1b_v66) = (Host.dotGeneral (F := Ideal) (φ₁ := .f32) (φ₂ := .f32) dot_S8x64x128_S8x128x128_S8x64x128_2_2_1_1_0_0 none (of3 dO) (ofSt s)) := by
    unfold ops1_9
    after_results
    simp only [h0, h1, h2, h3, h4, h5, h6, h7, h8]
    try rfl
  rw [e]
  repeat' first | rw [dot_ws] | rw [dot_Av] | rw [dot_sw] | rw [dot_sv] | rw [dot_oA] | rw [dot_ov] | rw [dot_oq] | rw [dot_os] | rw [sub_rows] | rw [add_rows] | rw [add_st] | rw [mul_st] | rw [neg_rows] | rw [bcast_dec] | rw [sum_st]
  try rfl

theorem ops1_9_dk (V : Val) (v w q k : Rows) (A : Sq) (g : Dec) (s : St) (dO : Rows) (ds : St) (h0 : V (Proc.devRef .tc main_while1b_v42) = of3 dO) (h1 : V (Proc.devRef .tc main_while1b_v43) = ofSt s) (h2 : V (Proc.devRef .tc main_while1b_v44) = of3 w) (h3 : V (Proc.devRef .tc main_while1b_v45) = of3 q) (h4 : V (Proc.devRef .tc main_while1b_v46) = of3 v) (h5 : V (Proc.devRef .tc main_while1b_v47) = ofSq A) (h6 : V (Proc.devRef .tc main_while1b_v48) = ofDec3 g) (h7 : V (Proc.devRef .tc main_while1b_v49) = of3 k) (h8 : V (Proc.devRef .tc main_v28_9) = ofSt ds) :
    after ops1_9 V (Proc.devRef .tc main_while1b_v53) = of3 (fun h r d => ∑ e : Fin 128, v h r e * ds h d e) := by
  have e : after ops1_9 V (Proc.devRef .tc main_while1b_v53) = (transpose S8x64x128 [0, 2, 1] (Host.dotGeneral (F := Ideal) (φ₁ := .f32) (φ₂ := .f32) dot_S8x128x128_S8x64x128_S8x128x64_2_2_1_1_0_0 none (ofSt ds) (of3 v)) transposes_S8x128x64_S8x64x128_0_2_1) := by
    unfold ops1_9
    after_results
    simp only [h0, h1, h2, h3, h4, h5, h6, h7, h8]
    try rfl
  rw [e]
  repeat' first | rw [dot_ws] | rw [dot_Av] | rw [dot_sw] | rw [dot_sv] | rw [dot_oA] | rw [dot_ov] | rw [dot_oq] | rw [dot_os] | rw [sub_rows] | rw [add_rows] | rw [add_st] | rw [mul_st] | rw [neg_rows] | rw [bcast_dec] | rw [sum_st]
  try rfl

theorem ops1_9_dA (V : Val) (v w q k : Rows) (A : Sq) (g : Dec) (s : St) (dO : Rows) (ds : St) (h0 : V (Proc.devRef .tc main_while1b_v42) = of3 dO) (h1 : V (Proc.devRef .tc main_while1b_v43) = ofSt s) (h2 : V (Proc.devRef .tc main_while1b_v44) = of3 w) (h3 : V (Proc.devRef .tc main_while1b_v45) = of3 q) (h4 : V (Proc.devRef .tc main_while1b_v46) = of3 v) (h5 : V (Proc.devRef .tc main_while1b_v47) = ofSq A) (h6 : V (Proc.devRef .tc main_while1b_v48) = ofDec3 g) (h7 : V (Proc.devRef .tc main_while1b_v49) = of3 k) (h8 : V (Proc.devRef .tc main_v28_9) = ofSt ds) :
    after ops1_9 V (Proc.devRef .tc main_while1b_v62) = ofSq (fun h i j => ∑ e : Fin 128, dO h i e * v h j e) := by
  have e : after ops1_9 V (Proc.devRef .tc main_while1b_v62) = (Host.dotGeneral (F := Ideal) (φ₁ := .f32) (φ₂ := .f32) dot_S8x64x128_S8x64x128_S8x64x64_2_2_1_1_0_0 none (of3 dO) (of3 v)) := by
    unfold ops1_9
    after_results
    simp only [h0, h1, h2, h3, h4, h5, h6, h7, h8]
    try rfl
  rw [e]
  repeat' first | rw [dot_ws] | rw [dot_Av] | rw [dot_sw] | rw [dot_sv] | rw [dot_oA] | rw [dot_ov] | rw [dot_oq] | rw [dot_os] | rw [sub_rows] | rw [add_rows] | rw [add_st] | rw [mul_st] | rw [neg_rows] | rw [bcast_dec] | rw [sum_st]
  try rfl

theorem ops1_9_dg (V : Val) (v w q k : Rows) (A : Sq) (g : Dec) (s : St) (dO : Rows) (ds : St) (h0 : V (Proc.devRef .tc main_while1b_v42) = of3 dO) (h1 : V (Proc.devRef .tc main_while1b_v43) = ofSt s) (h2 : V (Proc.devRef .tc main_while1b_v44) = of3 w) (h3 : V (Proc.devRef .tc main_while1b_v45) = of3 q) (h4 : V (Proc.devRef .tc main_while1b_v46) = of3 v) (h5 : V (Proc.devRef .tc main_while1b_v47) = ofSq A) (h6 : V (Proc.devRef .tc main_while1b_v48) = ofDec3 g) (h7 : V (Proc.devRef .tc main_while1b_v49) = of3 k) (h8 : V (Proc.devRef .tc main_v28_9) = ofSt ds) :
    after ops1_9 V (Proc.devRef .tc main_while1b_v56) = ofDec3 (dg s ds) := by
  have e : after ops1_9 V (Proc.devRef .tc main_while1b_v56) = (shapeCast S8x1x128 (Host.reduceAdd (F := Ideal) (φ := .f32) (mulf (F := Ideal) (φ := .f32) (ofSt s) (ofSt ds)) (constant S_ .f32 0x00000000#32) reducesTo_S8x128x128_S8x128_d1 h_S_) shapeCasts_S8x128_S8x1x128) := by
    unfold ops1_9
    after_results
    simp only [h0, h1, h2, h3, h4, h5, h6, h7, h8]
    try rfl
  rw [e]
  repeat' first | rw [dot_ws] | rw [dot_Av] | rw [dot_sw] | rw [dot_sv] | rw [dot_oA] | rw [dot_ov] | rw [dot_oq] | rw [dot_os] | rw [sub_rows] | rw [add_rows] | rw [add_st] | rw [mul_st] | rw [neg_rows] | rw [bcast_dec] | rw [sum_st]
  try rfl

theorem ops1_9_prev (V : Val) (v w q k : Rows) (A : Sq) (g : Dec) (s : St) (dO : Rows) (ds : St) (h0 : V (Proc.devRef .tc main_while1b_v42) = of3 dO) (h1 : V (Proc.devRef .tc main_while1b_v43) = ofSt s) (h2 : V (Proc.devRef .tc main_while1b_v44) = of3 w) (h3 : V (Proc.devRef .tc main_while1b_v45) = of3 q) (h4 : V (Proc.devRef .tc main_while1b_v46) = of3 v) (h5 : V (Proc.devRef .tc main_while1b_v47) = ofSq A) (h6 : V (Proc.devRef .tc main_while1b_v48) = ofDec3 g) (h7 : V (Proc.devRef .tc main_while1b_v49) = of3 k) (h8 : V (Proc.devRef .tc main_v28_9) = ofSt ds) :
    after ops1_9 V (Proc.devRef .tc main_while1b_v70) = ofSt (prev w q k A g dO ds) := by
  have e : after ops1_9 V (Proc.devRef .tc main_while1b_v70) = (addf (F := Ideal) (φ := .f32) (addf (F := Ideal) (φ := .f32) (mulf (F := Ideal) (φ := .f32) (ofSt ds) (broadcastInDim S8x128x128 ![0, 1, 2] bcast_S8x1x128_S8x128x128_0_1_2 (ofDec3 g))) (transpose S8x128x128 [0, 2, 1] (Host.dotGeneral (F := Ideal) (φ₁ := .f32) (φ₂ := .f32) dot_S8x64x128_S8x64x128_S8x128x128_1_1_2_2_0_0 none (of3 dO) (of3 q)) transposes_S8x128x128_S8x128x128_0_2_1)) (transpose S8x128x128 [0, 2, 1] (Host.dotGeneral (F := Ideal) (φ₁ := .f32) (φ₂ := .f32) dot_S8x64x128_S8x64x128_S8x128x128_1_1_2_2_0_0 none (Host.negf (F := Ideal) (φ := .f32) (addf (F := Ideal) (φ := .f32) (transpose S8x64x128 [0, 2, 1] (Host.dotGeneral (F := Ideal) (φ₁ := .f32) (φ₂ := .f32) dot_S8x128x128_S8x64x128_S8x128x64_1_2_2_1_0_0 none (ofSt ds) (of3 k)) transposes_S8x128x64_S8x64x128_0_2_1) (transpose S8x64x128 [0, 2, 1] (Host.dotGeneral (F := Ideal) (φ₁ := .f32) (φ₂ := .f32) dot_S8x64x128_S8x64x64_S8x128x64_1_1_2_2_0_0 none (of3 dO) (ofSq A)) transposes_S8x128x64_S8x64x128_0_2_1))) (of3 w)) transposes_S8x128x128_S8x128x128_0_2_1)) := by
    unfold ops1_9
    after_results
    simp only [h0, h1, h2, h3, h4, h5, h6, h7, h8]
    try rfl
  rw [e]
  repeat' first | rw [dot_ws] | rw [dot_Av] | rw [dot_sw] | rw [dot_sv] | rw [dot_oA] | rw [dot_ov] | rw [dot_oq] | rw [dot_os] | rw [sub_rows] | rw [add_rows] | rw [add_st] | rw [mul_st] | rw [neg_rows] | rw [bcast_dec] | rw [sum_st]
  try rfl

theorem ops0_10_ctr (V : Val) (k : ℕ) (hc : V (Proc.devRef .tc main_v15_6) = cnt k) : after ops0_10 V (Proc.devRef .tc main_v15_6) = cnt (k + 1) := by
  unfold ops0_10
  after_results
  rw [hc]
  funext y
  show BitVec.ofNat 32 k + 1#32 = BitVec.ofNat 32 (k + 1)
  rw [← BitVec.ofNat_add_ofNat]

theorem ops0_10_main_v15_7 (V : Val) : after ops0_10 V (Proc.devRef .tc main_v15_7) = V (Proc.devRef .tc main_while0b_v54) := by
  unfold ops0_10
  after_results
  rfl

theorem ops0_10_main_v15_8 (V : Val) : after ops0_10 V (Proc.devRef .tc main_v15_8) = V (Proc.devRef .tc main_while0b_v55) := by
  unfold ops0_10
  after_results
  rfl

theorem ops0_10_main_v15_9 (V : Val) : after ops0_10 V (Proc.devRef .tc main_v15_9) = V (Proc.devRef .tc main_while0b_v56) := by
  unfold ops0_10
  after_results
  rfl

theorem ops0_10_main_v15_10 (V : Val) : after ops0_10 V (Proc.devRef .tc main_v15_10) = V (Proc.devRef .tc main_while0b_v57) := by
  unfold ops0_10
  after_results
  rfl

theorem ops1_16_ctr (V : Val) (k : ℕ) (hc : V (Proc.devRef .tc main_v28_8) = cnt k) : after ops1_16 V (Proc.devRef .tc main_v28_8) = cnt (k + 1) := by
  unfold ops1_16
  after_results
  rw [hc]
  funext y
  show BitVec.ofNat 32 k + 1#32 = BitVec.ofNat 32 (k + 1)
  rw [← BitVec.ofNat_add_ofNat]

theorem ops1_16_main_v28_9 (V : Val) : after ops1_16 V (Proc.devRef .tc main_v28_9) = V (Proc.devRef .tc main_while1b_v70) := by
  unfold ops1_16
  after_results
  rfl

theorem ops1_16_main_v28_10 (V : Val) : after ops1_16 V (Proc.devRef .tc main_v28_10) = V (Proc.devRef .tc main_while1b_v72) := by
  unfold ops1_16
  after_results
  rfl

theorem ops1_16_main_v28_11 (V : Val) : after ops1_16 V (Proc.devRef .tc main_v28_11) = V (Proc.devRef .tc main_while1b_v73) := by
  unfold ops1_16
  after_results
  rfl

theorem ops1_16_main_v28_12 (V : Val) : after ops1_16 V (Proc.devRef .tc main_v28_12) = V (Proc.devRef .tc main_while1b_v74) := by
  unfold ops1_16
  after_results
  rfl

theorem ops1_16_main_v28_13 (V : Val) : after ops1_16 V (Proc.devRef .tc main_v28_13) = V (Proc.devRef .tc main_while1b_v75) := by
  unfold ops1_16
  after_results
  rfl

theorem ops1_16_main_v28_14 (V : Val) : after ops1_16 V (Proc.devRef .tc main_v28_14) = V (Proc.devRef .tc main_while1b_v76) := by
  unfold ops1_16
  after_results
  rfl

theorem ops1_16_main_v28_15 (V : Val) : after ops1_16 V (Proc.devRef .tc main_v28_15) = V (Proc.devRef .tc main_while1b_v77) := by
  unfold ops1_16
  after_results
  rfl

end Cert.ReferenceIdeal.Scan

end
-- ==== Proof.Scan.RefRun.lean ====
/- The reference program's run: two counted loops of 64 trips with stretches of host operations before, between and
   after them. Every execution terminates, every buffer ends at the fold of the operations, and every semaphore at zero. -/
module

public import proofs.«01_k».proof.Proof.Scan.RefOps
public import Idealize.ShloMosaic.Lib.Scf.ExitTest
public import Idealize.ShloMosaic.Lib.Scf.Counter

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket ucRefs sub_ucRefs)

variable {F : FTy → Type} [FloatOps F]
variable (m : (ℓ : Loc nD τ sig) → Buf (Elt F) ℓ) (ρ : Dev nD → PrngReg)

/-! ## The buffers at each point of the run -/

/-- At the forward loop's entry. -/
def entry0 (c : Dev nD) : Valuation τ sig (Elt F) := afterL preI (launchContents m c)
/-- Before the forward loop's `k`-th test. -/
def at0 (k : ℕ) (c : Dev nD) : Valuation τ sig (Elt F) := atTrip ops0_cond body0I (entry0 m) k c
/-- At the backward loop's entry. -/
def entry1 (c : Dev nD) : Valuation τ sig (Elt F) := afterL midI (after ops0_cond (at0 m 64 c))
/-- Before the backward loop's `k`-th test. -/
def at1 (k : ℕ) (c : Dev nD) : Valuation τ sig (Elt F) := atTrip ops1_cond body1I (entry1 m) k c
/-- At the end. -/
def final (c : Dev nD) : Valuation τ sig (Elt F) := afterL postI (after ops1_cond (at1 m 64 c))

theorem at0_succ (k : ℕ) (c : Dev nD) : at0 m (k + 1) c = afterL body0I (after ops0_cond (at0 m k c)) := rfl
theorem at1_succ (k : ℕ) (c : Dev nD) : at1 m (k + 1) c = afterL body1I (after ops1_cond (at1 m k c)) := rfl

/-! ## The counters -/

set_option maxRecDepth 100000 in
theorem ctr0_tail (X : Valuation τ sig (Elt F)) :
    after ops0_10 X (Proc.devRef .tc main_v15_6) = addi (X (Proc.devRef .tc main_v15_6)) (constantI S_ 32 1#32) := by
  unfold ops0_10
  after_results
  rfl

/-- A trip adds one to the counter. -/
theorem ctr0_step (X : Valuation τ sig (Elt F)) :
    afterL body0I (after ops0_cond X) (Proc.devRef .tc main_v15_6) = addi (X (Proc.devRef .tc main_v15_6)) (constantI S_ 32 1#32) := by
  simp only [afterL_cons, afterL_nil]
  rw [ctr0_tail, ops0_9_keep _ _ (by decide), ops0_8_keep _ _ (by decide), ops0_7_keep _ _ (by decide), ops0_6_keep _ _ (by decide), ops0_5_keep _ _ (by decide), ops0_4_keep _ _ (by decide), ops0_3_keep _ _ (by decide), ops0_2_keep _ _ (by decide), ops0_1_keep _ _ (by decide), ops0_0_keep _ _ (by decide), ops0_cond_keep _ _ (by decide)]

set_option maxRecDepth 100000 in
theorem ctr0_entry (c : Dev nD) : entry0 m c (Proc.devRef .tc main_v15_6) = fun _ => (0#32 : BitVec 32) := by
  simp only [entry0, afterL_cons, afterL_nil]
  unfold opsPre
  after_reads_simp
  rfl

/-- Before the `k`-th test the counter is `k`. -/
theorem at0_ctr (c : Dev nD) : ∀ k, at0 m k c (Proc.devRef .tc main_v15_6) = fun _ => Scf.iv 0#32 1#32 k
  | 0 => by rw [show at0 m 0 c = entry0 m c from rfl, ctr0_entry, Scf.iv_zero]
  | k + 1 => by
    rw [at0_succ, ctr0_step, at0_ctr c k, Scf.iv_succ]
    rfl

set_option maxRecDepth 100000 in
theorem ctr1_tail (X : Valuation τ sig (Elt F)) :
    after ops1_16 X (Proc.devRef .tc main_v28_8) = addi (X (Proc.devRef .tc main_v28_8)) (constantI S_ 32 1#32) := by
  unfold ops1_16
  after_results
  rfl

/-- A trip adds one to the counter. -/
theorem ctr1_step (X : Valuation τ sig (Elt F)) :
    afterL body1I (after ops1_cond X) (Proc.devRef .tc main_v28_8) = addi (X (Proc.devRef .tc main_v28_8)) (constantI S_ 32 1#32) := by
  simp only [afterL_cons, afterL_nil]
  rw [ctr1_tail, ops1_15_keep _ _ (by decide), ops1_14_keep _ _ (by decide), ops1_13_keep _ _ (by decide), ops1_12_keep _ _ (by decide), ops1_11_keep _ _ (by decide), ops1_10_keep _ _ (by decide), ops1_9_keep _ _ (by decide), ops1_8_keep _ _ (by decide), ops1_7_keep _ _ (by decide), ops1_6_keep _ _ (by decide), ops1_5_keep _ _ (by decide), ops1_4_keep _ _ (by decide), ops1_3_keep _ _ (by decide), ops1_2_keep _ _ (by decide), ops1_1_keep _ _ (by decide), ops1_0_keep _ _ (by decide), ops1_cond_keep _ _ (by decide)]

set_option maxRecDepth 100000 in
theorem ctr1_entry (c : Dev nD) : entry1 m c (Proc.devRef .tc main_v28_8) = fun _ => (0#32 : BitVec 32) := by
  simp only [entry1, afterL_cons, afterL_nil]
  have h : ∀ V : Valuation τ sig (Elt F), after opsMid_1 V (Proc.devRef .tc main_v28_8) = V (Proc.devRef .tc main_c_11) := fun V => by
    unfold opsMid_1
    after_results
    rfl
  rw [h]
  unfold opsMid
  after_reads_simp
  rfl

/-- Before the `k`-th test the counter is `k`. -/
theorem at1_ctr (c : Dev nD) : ∀ k, at1 m k c (Proc.devRef .tc main_v28_8) = fun _ => Scf.iv 0#32 1#32 k
  | 0 => by rw [show at1 m 0 c = entry1 m c from rfl, ctr1_entry, Scf.iv_zero]
  | k + 1 => by
    rw [at1_succ, ctr1_step, at1_ctr c k, Scf.iv_succ]
    rfl

-- `iapply` of a rule stated for any thread at the TensorCore thread unifies only when unification may unfold
-- plain definitions in a metavariable's type
set_option backward.isDefEq.respectTransparency.types false in
/-- The test: it returns 1 exactly while the counter is below 64. -/
theorem cond0_spec : CondSpec (pcfgs (F := F)) defs₀ loops (main_while0_cond (F := F)) ops0_cond body0I (entry0 m) 64 := by
  intro k hk c bd
  have hctr := at0_ctr m c k
  rw [at0] at hctr
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip ops0_cond body0I (entry0 m) k c) main_v15_6 HostLoop.idx0)
        (HloOp.result _ (atTrip ops0_cond body0I (entry0 m) k c) main_while0c_c_22 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  unfold ops0_cond
  rw [after_cons, after_cons, after_nil]; iexact Hh

-- `iapply` of a rule stated for any thread at the TensorCore thread unifies only when unification may unfold
-- plain definitions in a metavariable's type
set_option backward.isDefEq.respectTransparency.types false in
/-- The test: it returns 1 exactly while the counter is below 64. -/
theorem cond1_spec : CondSpec (pcfgs (F := F)) defs₀ loops (main_while1_cond (F := F)) ops1_cond body1I (entry1 m) 64 := by
  intro k hk c bd
  have hctr := at1_ctr m c k
  rw [at1] at hctr
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip ops1_cond body1I (entry1 m) k c) main_v28_8 HostLoop.idx0)
        (HloOp.result _ (atTrip ops1_cond body1I (entry1 m) k c) main_while1c_c_27 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  unfold ops1_cond
  rw [after_cons, after_cons, after_nil]; iexact Hh

/-! ## The run -/

/-- Every semaphore is a scoped one. -/
theorem no_unscoped : ∀ s : SemLoc sig, s.isScoped .tc = true := by decide

local notation "𝕄" => MT nD τ sig Unit (Elt F) ℕ (Option PUnit) ℕ

-- the program launches no kernel: nothing is admitted, there is no ticket and no level
abbrev noAdm : (p : Fin 0) → (pcfgs (F := F) p).Adm := fun p => p.elim0
abbrev noTicket : Fin 0 → Ticket (Ix := Unit) (Name := ℕ) (U := Option PUnit) (Lvl := ℕ) (nD := nD) (τ := τ) (pcfgs (F := F)) noAdm := fun j => j.elim0
abbrev noCells : GSem nD τ sig → Finset Unit := fun _ => ∅
abbrev noLevel : GSem nD τ sig → Unit → ℕ := fun _ _ => 0

theorem cells_inj : Function.Injective (Pipeline.cellOf (nD := nD) (τ := τ) (Pipeline.pin (pcfgs (F := F)) noAdm)) :=
  fun k => k.1.elim0

/-- What a core carries beside its buffers: that it owes nothing. -/
abbrev Owes (c : Dev nD) : sProp 𝕄 := iprop(∃ W, owes (c : Thread nD τ) (0 : CellTallies nD τ sig Unit) W)

/-- A test's specification with what the core owes carried past it. -/
theorem loopCond {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (h : CondSpec (pcfgs (F := F)) defs₀ loops cond condOps bodyI W₀ n) :
    LoopCond (pcfgs (F := F)) defs₀ Variants.none loops Owes cond condOps bodyI W₀ n := fun k hk c bd => by
  have hfr : ∀ v : Elt F .i1,
      iprop(iprop(⌜v = 1#1 ↔ k < n⌝ ∗ boundary (c : Thread nD τ) ∗ held (c : Thread nD τ) (ucRefs τ sig) (after condOps (atTrip condOps bodyI W₀ k c))) ∗ Owes c)
        ⊢ iprop(⌜v = 1#1 ↔ k < n⌝ ∗ boundary (c : Thread nD τ) ∗ held (c : Thread nD τ) (ucRefs τ sig) (after condOps (atTrip condOps bodyI W₀ k c)) ∗ Owes c) := fun v => by
    iintro ⟨⟨%hv, Hb, Hh⟩, HO⟩
    isplitr; · ipureintro; exact hv
    isplitl [Hb]; · iexact Hb
    isplitl [Hh] <;> iassumption
  refine BIBase.Entails.trans ?_ (((sep_mono_left (h k hk c bd)).trans (wp_frame_r _ _ _)).trans (wp_mono _ _ _ hfr))
  iintro ⟨Hb, Hh, HO⟩
  isplitl [Hb Hh]; · isplitl [Hb] <;> iassumption
  iexact HO

/-- The five parts of @main as segments of the run. -/
def segs : List (CSeg (pcfgs (F := F)) noAdm defs₀ Variants.none noCells noLevel loops noTicket) :=
  segsOf _ _ _ _ _ _ _ _ Owes preI preI_plain (launchContents m)
    ++ loopSeg _ _ _ _ _ _ _ _ 0 main_while0_cond main_while0_body rfl ops0_cond body0I body0I_plain (by rw [body0_chain]; rfl) 64 (entry0 m) Owes (loopCond (cond0_spec m))
      :: (segsOf _ _ _ _ _ _ _ _ Owes midI midI_plain (fun c => after ops0_cond (at0 m 64 c))
    ++ loopSeg _ _ _ _ _ _ _ _ 1 main_while1_cond main_while1_body rfl ops1_cond body1I body1I_plain (by rw [body1_chain]; rfl) 64 (entry1 m) Owes (loopCond (cond1_spec m))
      :: segsOf _ _ _ _ _ _ _ _ Owes postI postI_plain (fun c => after ops1_cond (at1 m 64 c)))

/-- Their programs, in order, are @main. -/
theorem segs_prog (c : Dev nD) : main (F := F) c = Pipeline.chain ((segs m).map CSeg.prog) := by
  unfold segs
  rw [List.map_append, List.map_cons, List.map_append, List.map_cons, segsOf_prog, segsOf_prog, segsOf_prog, main_chain]
  rfl

/-- Each ends where the next begins. -/
theorem segs_chains : CSeg.Chains (fun c => iprop(held (c : Thread nD τ) (ucRefs τ sig) (launchContents m c) ∗ Owes c)) (segs m)
    (fun c => iprop(iprop(held (c : Thread nD τ) (ucRefs τ sig) (final m c)) ∗ ∃ W, owes (c : Thread nD τ) (0 : CellTallies nD τ sig Unit) W)) := by
  unfold segs
  exact CSeg.Chains.append (segsOf_chains _ _ _ _ _ _ _ _ Owes preI preI_plain _)
    ⟨fun _ => .rfl, CSeg.Chains.append (segsOf_chains _ _ _ _ _ _ _ _ Owes midI midI_plain _)
      ⟨fun _ => .rfl, segsOf_chains _ _ _ _ _ _ _ _ Owes postI postI_plain _⟩⟩

/-- On every device, from any memory with zero counters: every weakly fair execution of @main terminates with every
    unscoped buffer at the fold and every semaphore at zero. -/
theorem run_main : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = final m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm cells_inj defs₀ Variants.none noCells noLevel loops noTicket m ρ main (segs m)
    (fun c Q => by rw [segs_prog m c]; exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owes c))
    (Tₙ := fun c => iprop(held (c : Thread nD τ) (ucRefs τ sig) (final m c)))
    (hch := segs_chains m)
    (hinit := by
      refine Pipeline.initEach noCells noLevel fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), funext fun g => hs g (Or.inr (no_unscoped g.2))⟩)

/-! ## The argument arrays -/

/-- The buffers the program is launched on. -/
abbrev argRefs : List (Ref sig .tc) := [main_arg0, main_arg1, main_arg2, main_arg3, main_arg4, main_arg5, main_arg6]

theorem hd (W : List (Ref sig .tc)) (h : ∀ a ∈ argRefs, a ∉ W) (a : Ref sig .tc) (ha : a ∈ argRefs) : a ∉ W := h a ha

theorem trip0_args (X : Valuation τ sig (Elt F)) (a : Ref sig .tc) (ha : a ∈ argRefs) :
    afterL body0I (after ops0_cond X) (Proc.devRef .tc a) = X (Proc.devRef .tc a) := by
  simp only [afterL_cons, afterL_nil]
  rw [ops0_10_keep _ _ (hd _ (by decide +kernel) _ ha), ops0_9_keep _ _ (hd _ (by decide +kernel) _ ha), ops0_8_keep _ _ (hd _ (by decide +kernel) _ ha), ops0_7_keep _ _ (hd _ (by decide +kernel) _ ha), ops0_6_keep _ _ (hd _ (by decide +kernel) _ ha), ops0_5_keep _ _ (hd _ (by decide +kernel) _ ha), ops0_4_keep _ _ (hd _ (by decide +kernel) _ ha), ops0_3_keep _ _ (hd _ (by decide +kernel) _ ha), ops0_2_keep _ _ (hd _ (by decide +kernel) _ ha), ops0_1_keep _ _ (hd _ (by decide +kernel) _ ha), ops0_0_keep _ _ (hd _ (by decide +kernel) _ ha), ops0_cond_keep _ _ (hd _ (by decide +kernel) _ ha)]

theorem at0_args (c : Dev nD) (a : Ref sig .tc) (ha : a ∈ argRefs) : ∀ k, at0 m k c (Proc.devRef .tc a) = m (c.tc.loc a)
  | 0 => by
    show entry0 m c (Proc.devRef .tc a) = _
    simp only [entry0, afterL_cons, afterL_nil]
    rw [opsPre_keep _ _ (hd _ (by decide +kernel) _ ha)]

  | k + 1 => by rw [at0_succ, trip0_args _ a ha, at0_args c a ha k]

theorem trip1_args (X : Valuation τ sig (Elt F)) (a : Ref sig .tc) (ha : a ∈ argRefs) :
    afterL body1I (after ops1_cond X) (Proc.devRef .tc a) = X (Proc.devRef .tc a) := by
  simp only [afterL_cons, afterL_nil]
  rw [ops1_16_keep _ _ (hd _ (by decide +kernel) _ ha), ops1_15_keep _ _ (hd _ (by decide +kernel) _ ha), ops1_14_keep _ _ (hd _ (by decide +kernel) _ ha), ops1_13_keep _ _ (hd _ (by decide +kernel) _ ha), ops1_12_keep _ _ (hd _ (by decide +kernel) _ ha), ops1_11_keep _ _ (hd _ (by decide +kernel) _ ha), ops1_10_keep _ _ (hd _ (by decide +kernel) _ ha), ops1_9_keep _ _ (hd _ (by decide +kernel) _ ha), ops1_8_keep _ _ (hd _ (by decide +kernel) _ ha), ops1_7_keep _ _ (hd _ (by decide +kernel) _ ha), ops1_6_keep _ _ (hd _ (by decide +kernel) _ ha), ops1_5_keep _ _ (hd _ (by decide +kernel) _ ha), ops1_4_keep _ _ (hd _ (by decide +kernel) _ ha), ops1_3_keep _ _ (hd _ (by decide +kernel) _ ha), ops1_2_keep _ _ (hd _ (by decide +kernel) _ ha), ops1_1_keep _ _ (hd _ (by decide +kernel) _ ha), ops1_0_keep _ _ (hd _ (by decide +kernel) _ ha), ops1_cond_keep _ _ (hd _ (by decide +kernel) _ ha)]

theorem at1_args (c : Dev nD) (a : Ref sig .tc) (ha : a ∈ argRefs) : ∀ k, at1 m k c (Proc.devRef .tc a) = m (c.tc.loc a)
  | 0 => by
    show entry1 m c (Proc.devRef .tc a) = _
    simp only [entry1, afterL_cons, afterL_nil]
    rw [opsMid_1_keep _ _ (hd _ (by decide +kernel) _ ha), opsMid_keep _ _ (hd _ (by decide +kernel) _ ha), ops0_cond_keep _ _ (hd _ (by decide +kernel) _ ha), at0_args m c a ha 64]

  | k + 1 => by rw [at1_succ, trip1_args _ a ha, at1_args c a ha k]

theorem final_args (c : Dev nD) (a : Ref sig .tc) (ha : a ∈ argRefs) : final m c (Proc.devRef .tc a) = m (c.tc.loc a) := by
  simp only [final, afterL_cons, afterL_nil]
  rw [opsPost_keep _ _ (hd _ (by decide +kernel) _ ha), ops1_cond_keep _ _ (hd _ (by decide +kernel) _ ha), at1_args m c a ha 64]

end Cert.ReferenceIdeal.Scan

end
-- ==== Proof.Scan.RefValue.lean ====
/- The reference program's results: the forward loop carries the state and stacks the outputs, the states and the corrected
   values; the backward loop carries the derivative with respect to the state from the last chunk to the first. -/
module

public import proofs.«01_k».proof.Proof.Scan.RefStretch
public import proofs.«01_k».proof.Proof.Scan.RefRun

@[expose] public section

set_option maxRecDepth 100000
set_option maxHeartbeats 1600000

noncomputable section

namespace Cert.ReferenceIdeal.Scan

open Cert.ReferenceIdeal Cert.ReferenceIdeal.Gen Cert.DeltaScan
open Idealize.ShloMosaic Idealize.ShloMosaic.TcCoe Idealize.ShloMosaic.Tactic
open Idealize.ShloMosaic.StableHlo

/-- The buffers' contents, over the extended reals. -/
local notation "Val" => Valuation τ sig (Elt Ideal)

/-! ## Stacks filled from the first chunk on, and from the last -/

/-- The chunks below `k` hold `f`, the others `z`. -/
def upto {β : Type} (k : ℕ) (f : Fin 64 → β) (z : β) : Fin 64 → β := fun n => if n.val < k then f n else z
/-- The last `k` chunks hold `f`, the others `z`. -/
def last {β : Type} (k : ℕ) (f : Fin 64 → β) (z : β) : Fin 64 → β := fun n => if 63 - n.val < k then f n else z

theorem upto_zero {β : Type} (f : Fin 64 → β) (z : β) : upto 0 f z = fun _ => z := funext fun n => if_neg (Nat.not_lt_zero _)
theorem last_zero {β : Type} (f : Fin 64 → β) (z : β) : last 0 f z = fun _ => z := funext fun n => if_neg (Nat.not_lt_zero _)
theorem upto_all {β : Type} (f : Fin 64 → β) (z : β) : upto 64 f z = f := funext fun n => if_pos n.isLt
theorem last_all {β : Type} (f : Fin 64 → β) (z : β) : last 64 f z = f := funext fun n => if_pos (by omega)
theorem ck_lt (k : ℕ) (h : k < 64) : (ck k).val = k := Nat.mod_eq_of_lt h
theorem rk_lt (k : ℕ) (h : k < 64) : (rk k).val = 63 - k := Nat.mod_eq_of_lt (by omega)
theorem upto_succ {β : Type} (k : ℕ) (h : k < 64) (f : Fin 64 → β) (z a : β) (ha : a = f (ck k)) :
    Function.update (upto k f z) (ck k) a = upto (k + 1) f z := by
  subst ha
  funext n
  rw [update_at]
  unfold upto
  by_cases e : n = ck k
  · subst e
    rw [if_pos rfl, if_pos (by rw [ck_lt k h]; omega)]
  · have ne : n.val ≠ k := fun hh => e (Fin.ext (hh.trans (ck_lt k h).symm))
    rw [if_neg e]
    by_cases l : n.val < k
    · rw [if_pos l, if_pos (by omega)]
    · rw [if_neg l, if_neg (by omega)]
theorem last_succ {β : Type} (k : ℕ) (h : k < 64) (f : Fin 64 → β) (z a : β) (ha : a = f (rk k)) :
    Function.update (last k f z) (rk k) a = last (k + 1) f z := by
  subst ha
  funext n
  rw [update_at]
  unfold last
  have hn := n.isLt
  by_cases e : n = rk k
  · subst e
    rw [if_pos rfl, if_pos (by rw [rk_lt k h]; omega)]
  · have ne : n.val ≠ 63 - k := fun hh => e (Fin.ext (hh.trans (rk_lt k h).symm))
    rw [if_neg e]
    by_cases l : 63 - n.val < k
    · rw [if_pos l, if_pos (by omega)]
    · rw [if_neg l, if_neg (by omega)]

variable (us ws qs ks : Fin 64 → Rows) (As : Fin 64 → Sq) (gs : Fin 64 → Dec) (dOs : Fin 64 → Rows)

/-- The state each chunk starts from, and its corrected values. -/
def STS (n : Fin 64) : St := state us ws ks gs n.val
def VN (n : Fin 64) : Rows := vnew (us n) (ws n) (state us ws ks gs n.val)

/-! ## The forward loop -/

/-- Before the forward loop's `k`-th trip. -/
structure Inv0 (X : Val) (k : ℕ) : Prop where
  v15_6 : X (Proc.devRef .tc main_v15_6) = cnt k
  v15_0 : X (Proc.devRef .tc main_v15_0) = stk us
  v15_1 : X (Proc.devRef .tc main_v15_1) = stk ws
  v15_2 : X (Proc.devRef .tc main_v15_2) = stk qs
  v15_3 : X (Proc.devRef .tc main_v15_3) = stk ks
  v15_4 : X (Proc.devRef .tc main_v15_4) = stkSq As
  v15_5 : X (Proc.devRef .tc main_v15_5) = stkDec gs
  v15_7 : X (Proc.devRef .tc main_v15_7) = ofSt (state us ws ks gs k)
  v15_8 : X (Proc.devRef .tc main_v15_8) = stk (upto k (O us ws qs ks As gs) fun _ _ _ => 0)
  v15_9 : X (Proc.devRef .tc main_v15_9) = ofChunksSt (upto k (STS us ws ks gs) fun _ _ _ => 0)
  v15_10 : X (Proc.devRef .tc main_v15_10) = stk (upto k (VN us ws ks gs) fun _ _ _ => 0)
  v3 : X (Proc.devRef .tc main_v3) = stk ws
  v5 : X (Proc.devRef .tc main_v5) = stk qs
  v7 : X (Proc.devRef .tc main_v7) = stk ks
  v9 : X (Proc.devRef .tc main_v9) = stkSq As
  v10 : X (Proc.devRef .tc main_v10) = stkDec gs

theorem trip0 (k : ℕ) (hk : k < 64) (X0 : Val) (h : Inv0 us ws qs ks As gs X0 k) : Inv0 us ws qs ks As gs (afterL body0I (after ops0_cond X0)) (k + 1) := by
  have hv := ck_lt k hk
  have hctr : X0 (Proc.devRef .tc main_v15_6) = cnt (ck k).val := h.v15_6.trans (congrArg cnt hv.symm)
  simp only [afterL_cons, afterL_nil]
  obtain ⟨X1, e1⟩ : ∃ Y, Y = after ops0_cond X0 := ⟨_, rfl⟩
  rw [← e1]
  have f1 : X1 (Proc.devRef .tc main_v15_0) = stk us := by
    rw [e1, ops0_cond_keep _ _ (by decide)]; exact h.v15_0
  have f2 : X1 (Proc.devRef .tc main_v15_6) = cnt (ck k).val := by
    rw [e1, ops0_cond_keep _ _ (by decide)]; exact hctr
  obtain ⟨X2, e2⟩ : ∃ Y, Y = after ops0_0 X1 := ⟨_, rfl⟩
  rw [← e2]
  have f3 : X2 (Proc.devRef .tc main_while0b_v40) = of3 (us (ck k)) := by
    rw [e2]; exact ops0_0_val _ us (ck k) f1 f2
  have f4 : X2 (Proc.devRef .tc main_v15_1) = stk ws := by
    rw [e2, ops0_0_keep _ _ (by decide), e1, ops0_cond_keep _ _ (by decide)]; exact h.v15_1
  have f5 : X2 (Proc.devRef .tc main_v15_6) = cnt (ck k).val := by
    rw [e2, ops0_0_keep _ _ (by decide)]; exact f2
  obtain ⟨X3, e3⟩ : ∃ Y, Y = after ops0_1 X2 := ⟨_, rfl⟩
  rw [← e3]
  have f6 : X3 (Proc.devRef .tc main_while0b_v41) = of3 (ws (ck k)) := by
    rw [e3]; exact ops0_1_val _ ws (ck k) f4 f5
  have f7 : X3 (Proc.devRef .tc main_v15_2) = stk qs := by
    rw [e3, ops0_1_keep _ _ (by decide), e2, ops0_0_keep _ _ (by decide), e1, ops0_cond_keep _ _ (by decide)]; exact h.v15_2
  have f8 : X3 (Proc.devRef .tc main_v15_6) = cnt (ck k).val := by
    rw [e3, ops0_1_keep _ _ (by decide)]; exact f5
  obtain ⟨X4, e4⟩ : ∃ Y, Y = after ops0_2 X3 := ⟨_, rfl⟩
  rw [← e4]
  have f9 : X4 (Proc.devRef .tc main_while0b_v42) = of3 (qs (ck k)) := by
    rw [e4]; exact ops0_2_val _ qs (ck k) f7 f8
  have f10 : X4 (Proc.devRef .tc main_v15_3) = stk ks := by
    rw [e4, ops0_2_keep _ _ (by decide), e3, ops0_1_keep _ _ (by decide), e2, ops0_0_keep _ _ (by decide), e1, ops0_cond_keep _ _ (by decide)]; exact h.v15_3
  have f11 : X4 (Proc.devRef .tc main_v15_6) = cnt (ck k).val := by
    rw [e4, ops0_2_keep _ _ (by decide)]; exact f8
  obtain ⟨X5, e5⟩ : ∃ Y, Y = after ops0_3 X4 := ⟨_, rfl⟩
  rw [← e5]
  have f12 : X5 (Proc.devRef .tc main_while0b_v43) = of3 (ks (ck k)) := by
    rw [e5]; exact ops0_3_val _ ks (ck k) f10 f11
  have f13 : X5 (Proc.devRef .tc main_v15_4) = stkSq As := by
    rw [e5, ops0_3_keep _ _ (by decide), e4, ops0_2_keep _ _ (by decide), e3, ops0_1_keep _ _ (by decide), e2, ops0_0_keep _ _ (by decide), e1, ops0_cond_keep _ _ (by decide)]; exact h.v15_4
  have f14 : X5 (Proc.devRef .tc main_v15_6) = cnt (ck k).val := by
    rw [e5, ops0_3_keep _ _ (by decide)]; exact f11
  obtain ⟨X6, e6⟩ : ∃ Y, Y = after ops0_4 X5 := ⟨_, rfl⟩
  rw [← e6]
  have f15 : X6 (Proc.devRef .tc main_while0b_v44) = ofSq (As (ck k)) := by
    rw [e6]; exact ops0_4_val _ As (ck k) f13 f14
  have f16 : X6 (Proc.devRef .tc main_v15_5) = stkDec gs := by
    rw [e6, ops0_4_keep _ _ (by decide), e5, ops0_3_keep _ _ (by decide), e4, ops0_2_keep _ _ (by decide), e3, ops0_1_keep _ _ (by decide), e2, ops0_0_keep _ _ (by decide), e1, ops0_cond_keep _ _ (by decide)]; exact h.v15_5
  have f17 : X6 (Proc.devRef .tc main_v15_6) = cnt (ck k).val := by
    rw [e6, ops0_4_keep _ _ (by decide)]; exact f14
  obtain ⟨X7, e7⟩ : ∃ Y, Y = after ops0_5 X6 := ⟨_, rfl⟩
  rw [← e7]
  have f18 : X7 (Proc.devRef .tc main_while0b_v45) = ofDec3 (gs (ck k)) := by
    rw [e7]; exact ops0_5_val _ gs (ck k) f16 f17
  have f19 : X7 (Proc.devRef .tc main_while0b_v40) = of3 (us (ck k)) := by
    rw [e7, ops0_5_keep _ _ (by decide), e6, ops0_4_keep _ _ (by decide), e5, ops0_3_keep _ _ (by decide), e4, ops0_2_keep _ _ (by decide), e3, ops0_1_keep _ _ (by decide)]; exact f3
  have f20 : X7 (Proc.devRef .tc main_while0b_v41) = of3 (ws (ck k)) := by
    rw [e7, ops0_5_keep _ _ (by decide), e6, ops0_4_keep _ _ (by decide), e5, ops0_3_keep _ _ (by decide), e4, ops0_2_keep _ _ (by decide)]; exact f6
  have f21 : X7 (Proc.devRef .tc main_while0b_v42) = of3 (qs (ck k)) := by
    rw [e7, ops0_5_keep _ _ (by decide), e6, ops0_4_keep _ _ (by decide), e5, ops0_3_keep _ _ (by decide)]; exact f9
  have f22 : X7 (Proc.devRef .tc main_while0b_v43) = of3 (ks (ck k)) := by
    rw [e7, ops0_5_keep _ _ (by decide), e6, ops0_4_keep _ _ (by decide)]; exact f12
  have f23 : X7 (Proc.devRef .tc main_while0b_v44) = ofSq (As (ck k)) := by
    rw [e7, ops0_5_keep _ _ (by decide)]; exact f15
  have f24 : X7 (Proc.devRef .tc main_v15_7) = ofSt (state us ws ks gs k) := by
    rw [e7, ops0_5_keep _ _ (by decide), e6, ops0_4_keep _ _ (by decide), e5, ops0_3_keep _ _ (by decide), e4, ops0_2_keep _ _ (by decide), e3, ops0_1_keep _ _ (by decide), e2, ops0_0_keep _ _ (by decide), e1, ops0_cond_keep _ _ (by decide)]; exact h.v15_7
  obtain ⟨X8, e8⟩ : ∃ Y, Y = after ops0_6 X7 := ⟨_, rfl⟩
  rw [← e8]
  have f25 : X8 (Proc.devRef .tc main_while0b_v47) = of3 (vnew (us (ck k)) (ws (ck k)) (state us ws ks gs k)) := by
    rw [e8]; exact ops0_6_vnew _ (us (ck k)) (ws (ck k)) (qs (ck k)) (ks (ck k)) (As (ck k)) (gs (ck k)) (state us ws ks gs k) f19 f20 f21 f22 f23 f18 f24
  have f26 : X8 (Proc.devRef .tc main_while0b_v50) = of3 (outp (us (ck k)) (ws (ck k)) (qs (ck k)) (As (ck k)) (state us ws ks gs k)) := by
    rw [e8]; exact ops0_6_outp _ (us (ck k)) (ws (ck k)) (qs (ck k)) (ks (ck k)) (As (ck k)) (gs (ck k)) (state us ws ks gs k) f19 f20 f21 f22 f23 f18 f24
  have f27 : X8 (Proc.devRef .tc main_while0b_v54) = ofSt (next (us (ck k)) (ws (ck k)) (ks (ck k)) (gs (ck k)) (state us ws ks gs k)) := by
    rw [e8]; exact ops0_6_next _ (us (ck k)) (ws (ck k)) (qs (ck k)) (ks (ck k)) (As (ck k)) (gs (ck k)) (state us ws ks gs k) f19 f20 f21 f22 f23 f18 f24
  have f28 : X8 (Proc.devRef .tc main_v15_8) = stk (upto k (O us ws qs ks As gs) fun _ _ _ => 0) := by
    rw [e8, ops0_6_keep _ _ (by decide), e7, ops0_5_keep _ _ (by decide), e6, ops0_4_keep _ _ (by decide), e5, ops0_3_keep _ _ (by decide), e4, ops0_2_keep _ _ (by decide), e3, ops0_1_keep _ _ (by decide), e2, ops0_0_keep _ _ (by decide), e1, ops0_cond_keep _ _ (by decide)]; exact h.v15_8
  have f29 : X8 (Proc.devRef .tc main_v15_6) = cnt (ck k).val := by
    rw [e8, ops0_6_keep _ _ (by decide), e7, ops0_5_keep _ _ (by decide)]; exact f17
  obtain ⟨X9, e9⟩ : ∃ Y, Y = after ops0_7 X8 := ⟨_, rfl⟩
  rw [← e9]
  have f30 : X9 (Proc.devRef .tc main_while0b_v55) = stk (upto (k + 1) (O us ws qs ks As gs) fun _ _ _ => 0) := by
    rw [e9]; exact (ops0_7_val _ _ (outp (us (ck k)) (ws (ck k)) (qs (ck k)) (As (ck k)) (state us ws ks gs k)) (ck k) f28 f26 f29).trans (congrArg stk (upto_succ k hk _ _ _ (by unfold O; rw [hv])))
  have f31 : X9 (Proc.devRef .tc main_v15_9) = ofChunksSt (upto k (STS us ws ks gs) fun _ _ _ => 0) := by
    rw [e9, ops0_7_keep _ _ (by decide), e8, ops0_6_keep _ _ (by decide), e7, ops0_5_keep _ _ (by decide), e6, ops0_4_keep _ _ (by decide), e5, ops0_3_keep _ _ (by decide), e4, ops0_2_keep _ _ (by decide), e3, ops0_1_keep _ _ (by decide), e2, ops0_0_keep _ _ (by decide), e1, ops0_cond_keep _ _ (by decide)]; exact h.v15_9
  have f32 : X9 (Proc.devRef .tc main_v15_7) = ofSt (state us ws ks gs k) := by
    rw [e9, ops0_7_keep _ _ (by decide), e8, ops0_6_keep _ _ (by decide)]; exact f24
  have f33 : X9 (Proc.devRef .tc main_v15_6) = cnt (ck k).val := by
    rw [e9, ops0_7_keep _ _ (by decide)]; exact f29
  obtain ⟨X10, e10⟩ : ∃ Y, Y = after ops0_8 X9 := ⟨_, rfl⟩
  rw [← e10]
  have f34 : X10 (Proc.devRef .tc main_while0b_v56) = ofChunksSt (upto (k + 1) (STS us ws ks gs) fun _ _ _ => 0) := by
    rw [e10]; exact (ops0_8_val _ _ (state us ws ks gs k) (ck k) f31 f32 f33).trans (congrArg ofChunksSt (upto_succ k hk _ _ _ (by unfold STS; rw [hv])))
  have f35 : X10 (Proc.devRef .tc main_v15_10) = stk (upto k (VN us ws ks gs) fun _ _ _ => 0) := by
    rw [e10, ops0_8_keep _ _ (by decide), e9, ops0_7_keep _ _ (by decide), e8, ops0_6_keep _ _ (by decide), e7, ops0_5_keep _ _ (by decide), e6, ops0_4_keep _ _ (by decide), e5, ops0_3_keep _ _ (by decide), e4, ops0_2_keep _ _ (by decide), e3, ops0_1_keep _ _ (by decide), e2, ops0_0_keep _ _ (by decide), e1, ops0_cond_keep _ _ (by decide)]; exact h.v15_10
  have f36 : X10 (Proc.devRef .tc main_while0b_v47) = of3 (vnew (us (ck k)) (ws (ck k)) (state us ws ks gs k)) := by
    rw [e10, ops0_8_keep _ _ (by decide), e9, ops0_7_keep _ _ (by decide)]; exact f25
  have f37 : X10 (Proc.devRef .tc main_v15_6) = cnt (ck k).val := by
    rw [e10, ops0_8_keep _ _ (by decide)]; exact f33
  obtain ⟨X11, e11⟩ : ∃ Y, Y = after ops0_9 X10 := ⟨_, rfl⟩
  rw [← e11]
  have f38 : X11 (Proc.devRef .tc main_while0b_v57) = stk (upto (k + 1) (VN us ws ks gs) fun _ _ _ => 0) := by
    rw [e11]; exact (ops0_9_val _ _ (vnew (us (ck k)) (ws (ck k)) (state us ws ks gs k)) (ck k) f35 f36 f37).trans (congrArg stk (upto_succ k hk _ _ _ (by unfold VN; rw [hv])))
  have f39 : X11 (Proc.devRef .tc main_v15_6) = cnt (ck k).val := by
    rw [e11, ops0_9_keep _ _ (by decide)]; exact f37
  have f40 : X11 (Proc.devRef .tc main_while0b_v54) = ofSt (next (us (ck k)) (ws (ck k)) (ks (ck k)) (gs (ck k)) (state us ws ks gs k)) := by
    rw [e11, ops0_9_keep _ _ (by decide), e10, ops0_8_keep _ _ (by decide), e9, ops0_7_keep _ _ (by decide)]; exact f27
  have f41 : X11 (Proc.devRef .tc main_while0b_v55) = stk (upto (k + 1) (O us ws qs ks As gs) fun _ _ _ => 0) := by
    rw [e11, ops0_9_keep _ _ (by decide), e10, ops0_8_keep _ _ (by decide)]; exact f30
  have f42 : X11 (Proc.devRef .tc main_while0b_v56) = ofChunksSt (upto (k + 1) (STS us ws ks gs) fun _ _ _ => 0) := by
    rw [e11, ops0_9_keep _ _ (by decide)]; exact f34
  obtain ⟨X12, e12⟩ : ∃ Y, Y = after ops0_10 X11 := ⟨_, rfl⟩
  rw [← e12]
  have fc : X12 (Proc.devRef .tc main_v15_6) = cnt (k + 1) := by
    rw [e12]; exact ops0_10_ctr _ k (f39.trans (congrArg cnt hv))
  have f43 : X12 (Proc.devRef .tc main_v15_0) = stk us := by
    rw [e12, ops0_10_keep _ _ (by decide), e11, ops0_9_keep _ _ (by decide), e10, ops0_8_keep _ _ (by decide), e9, ops0_7_keep _ _ (by decide), e8, ops0_6_keep _ _ (by decide), e7, ops0_5_keep _ _ (by decide), e6, ops0_4_keep _ _ (by decide), e5, ops0_3_keep _ _ (by decide), e4, ops0_2_keep _ _ (by decide), e3, ops0_1_keep _ _ (by decide), e2, ops0_0_keep _ _ (by decide)]; exact f1
  have f44 : X12 (Proc.devRef .tc main_v15_1) = stk ws := by
    rw [e12, ops0_10_keep _ _ (by decide), e11, ops0_9_keep _ _ (by decide), e10, ops0_8_keep _ _ (by decide), e9, ops0_7_keep _ _ (by decide), e8, ops0_6_keep _ _ (by decide), e7, ops0_5_keep _ _ (by decide), e6, ops0_4_keep _ _ (by decide), e5, ops0_3_keep _ _ (by decide), e4, ops0_2_keep _ _ (by decide), e3, ops0_1_keep _ _ (by decide)]; exact f4
  have f45 : X12 (Proc.devRef .tc main_v15_2) = stk qs := by
    rw [e12, ops0_10_keep _ _ (by decide), e11, ops0_9_keep _ _ (by decide), e10, ops0_8_keep _ _ (by decide), e9, ops0_7_keep _ _ (by decide), e8, ops0_6_keep _ _ (by decide), e7, ops0_5_keep _ _ (by decide), e6, ops0_4_keep _ _ (by decide), e5, ops0_3_keep _ _ (by decide), e4, ops0_2_keep _ _ (by decide)]; exact f7
  have f46 : X12 (Proc.devRef .tc main_v15_3) = stk ks := by
    rw [e12, ops0_10_keep _ _ (by decide), e11, ops0_9_keep _ _ (by decide), e10, ops0_8_keep _ _ (by decide), e9, ops0_7_keep _ _ (by decide), e8, ops0_6_keep _ _ (by decide), e7, ops0_5_keep _ _ (by decide), e6, ops0_4_keep _ _ (by decide), e5, ops0_3_keep _ _ (by decide)]; exact f10
  have f47 : X12 (Proc.devRef .tc main_v15_4) = stkSq As := by
    rw [e12, ops0_10_keep _ _ (by decide), e11, ops0_9_keep _ _ (by decide), e10, ops0_8_keep _ _ (by decide), e9, ops0_7_keep _ _ (by decide), e8, ops0_6_keep _ _ (by decide), e7, ops0_5_keep _ _ (by decide), e6, ops0_4_keep _ _ (by decide)]; exact f13
  have f48 : X12 (Proc.devRef .tc main_v15_5) = stkDec gs := by
    rw [e12, ops0_10_keep _ _ (by decide), e11, ops0_9_keep _ _ (by decide), e10, ops0_8_keep _ _ (by decide), e9, ops0_7_keep _ _ (by decide), e8, ops0_6_keep _ _ (by decide), e7, ops0_5_keep _ _ (by decide)]; exact f16
  have f49 : X12 (Proc.devRef .tc main_v3) = stk ws := by
    rw [e12, ops0_10_keep _ _ (by decide), e11, ops0_9_keep _ _ (by decide), e10, ops0_8_keep _ _ (by decide), e9, ops0_7_keep _ _ (by decide), e8, ops0_6_keep _ _ (by decide), e7, ops0_5_keep _ _ (by decide), e6, ops0_4_keep _ _ (by decide), e5, ops0_3_keep _ _ (by decide), e4, ops0_2_keep _ _ (by decide), e3, ops0_1_keep _ _ (by decide), e2, ops0_0_keep _ _ (by decide), e1, ops0_cond_keep _ _ (by decide)]; exact h.v3
  have f50 : X12 (Proc.devRef .tc main_v5) = stk qs := by
    rw [e12, ops0_10_keep _ _ (by decide), e11, ops0_9_keep _ _ (by decide), e10, ops0_8_keep _ _ (by decide), e9, ops0_7_keep _ _ (by decide), e8, ops0_6_keep _ _ (by decide), e7, ops0_5_keep _ _ (by decide), e6, ops0_4_keep _ _ (by decide), e5, ops0_3_keep _ _ (by decide), e4, ops0_2_keep _ _ (by decide), e3, ops0_1_keep _ _ (by decide), e2, ops0_0_keep _ _ (by decide), e1, ops0_cond_keep _ _ (by decide)]; exact h.v5
  have f51 : X12 (Proc.devRef .tc main_v7) = stk ks := by
    rw [e12, ops0_10_keep _ _ (by decide), e11, ops0_9_keep _ _ (by decide), e10, ops0_8_keep _ _ (by decide), e9, ops0_7_keep _ _ (by decide), e8, ops0_6_keep _ _ (by decide), e7, ops0_5_keep _ _ (by decide), e6, ops0_4_keep _ _ (by decide), e5, ops0_3_keep _ _ (by decide), e4, ops0_2_keep _ _ (by decide), e3, ops0_1_keep _ _ (by decide), e2, ops0_0_keep _ _ (by decide), e1, ops0_cond_keep _ _ (by decide)]; exact h.v7
  have f52 : X12 (Proc.devRef .tc main_v9) = stkSq As := by
    rw [e12, ops0_10_keep _ _ (by decide), e11, ops0_9_keep _ _ (by decide), e10, ops0_8_keep _ _ (by decide), e9, ops0_7_keep _ _ (by decide), e8, ops0_6_keep _ _ (by decide), e7, ops0_5_keep _ _ (by decide), e6, ops0_4_keep _ _ (by decide), e5, ops0_3_keep _ _ (by decide), e4, ops0_2_keep _ _ (by decide), e3, ops0_1_keep _ _ (by decide), e2, ops0_0_keep _ _ (by decide), e1, ops0_cond_keep _ _ (by decide)]; exact h.v9
  have f53 : X12 (Proc.devRef .tc main_v10) = stkDec gs := by
    rw [e12, ops0_10_keep _ _ (by decide), e11, ops0_9_keep _ _ (by decide), e10, ops0_8_keep _ _ (by decide), e9, ops0_7_keep _ _ (by decide), e8, ops0_6_keep _ _ (by decide), e7, ops0_5_keep _ _ (by decide), e6, ops0_4_keep _ _ (by decide), e5, ops0_3_keep _ _ (by decide), e4, ops0_2_keep _ _ (by decide), e3, ops0_1_keep _ _ (by decide), e2, ops0_0_keep _ _ (by decide), e1, ops0_cond_keep _ _ (by decide)]; exact h.v10
  exact ⟨fc, f43, f44, f45, f46, f47, f48, (by rw [e12]; exact (ops0_10_main_v15_7 _).trans f40), (by rw [e12]; exact (ops0_10_main_v15_8 _).trans f41), (by rw [e12]; exact (ops0_10_main_v15_9 _).trans f42), (by rw [e12]; exact (ops0_10_main_v15_10 _).trans f38), f49, f50, f51, f52, f53⟩

variable (m : (ℓ : Loc nD τ sig) → Buf (Elt Ideal) ℓ) (c : Dev nD)

/-- Chunk by chunk, the arrays the program is given. -/
abbrev aU : Fin 64 → Rows := cRows (m (c.tc.loc main_arg0))
abbrev aW : Fin 64 → Rows := cRows (m (c.tc.loc main_arg1))
abbrev aQ : Fin 64 → Rows := cRows (m (c.tc.loc main_arg2))
abbrev aK : Fin 64 → Rows := cRows (m (c.tc.loc main_arg3))
abbrev aA : Fin 64 → Sq := cSq (m (c.tc.loc main_arg4))
abbrev aG : Fin 64 → Dec := cDec (m (c.tc.loc main_arg5))
abbrev aD : Fin 64 → Rows := cRows (m (c.tc.loc main_arg6))

theorem opsPre_main_v15_0 (V : Val) : after opsPre V (Proc.devRef .tc main_v15_0) = stk (cRows (V (Proc.devRef .tc main_arg0))) := by
  unfold opsPre
  after_results
  exact stack_rows _

theorem opsPre_main_v15_1 (V : Val) : after opsPre V (Proc.devRef .tc main_v15_1) = stk (cRows (V (Proc.devRef .tc main_arg1))) := by
  unfold opsPre
  after_results
  exact stack_rows _

theorem opsPre_main_v15_2 (V : Val) : after opsPre V (Proc.devRef .tc main_v15_2) = stk (cRows (V (Proc.devRef .tc main_arg2))) := by
  unfold opsPre
  after_results
  exact stack_rows _

theorem opsPre_main_v15_3 (V : Val) : after opsPre V (Proc.devRef .tc main_v15_3) = stk (cRows (V (Proc.devRef .tc main_arg3))) := by
  unfold opsPre
  after_results
  exact stack_rows _

theorem opsPre_main_v15_4 (V : Val) : after opsPre V (Proc.devRef .tc main_v15_4) = stkSq (cSq (V (Proc.devRef .tc main_arg4))) := by
  unfold opsPre
  after_results
  exact stack_sq _

theorem opsPre_main_v15_5 (V : Val) : after opsPre V (Proc.devRef .tc main_v15_5) = stkDec (cDec (V (Proc.devRef .tc main_arg5))) := by
  unfold opsPre
  after_results
  exact stack_dec _

theorem opsPre_main_v15_6 (V : Val) : after opsPre V (Proc.devRef .tc main_v15_6) = cnt 0 := by
  unfold opsPre
  after_results
  rfl

theorem opsPre_main_v15_7 (V : Val) : after opsPre V (Proc.devRef .tc main_v15_7) = ofSt fun _ _ _ => 0 := by
  unfold opsPre
  after_results
  exact zero_st

theorem opsPre_main_v15_8 (V : Val) : after opsPre V (Proc.devRef .tc main_v15_8) = stk fun _ _ _ _ => 0 := by
  unfold opsPre
  after_results
  exact zero_rows

theorem opsPre_main_v15_9 (V : Val) : after opsPre V (Proc.devRef .tc main_v15_9) = ofChunksSt fun _ _ _ _ => 0 := by
  unfold opsPre
  after_results
  exact zero_sts

theorem opsPre_main_v15_10 (V : Val) : after opsPre V (Proc.devRef .tc main_v15_10) = stk fun _ _ _ _ => 0 := by
  unfold opsPre
  after_results
  exact zero_rows

theorem opsPre_main_v3 (V : Val) : after opsPre V (Proc.devRef .tc main_v3) = stk (cRows (V (Proc.devRef .tc main_arg1))) := by
  unfold opsPre
  after_results
  exact stack_rows _

theorem opsPre_main_v5 (V : Val) : after opsPre V (Proc.devRef .tc main_v5) = stk (cRows (V (Proc.devRef .tc main_arg2))) := by
  unfold opsPre
  after_results
  exact stack_rows _

theorem opsPre_main_v7 (V : Val) : after opsPre V (Proc.devRef .tc main_v7) = stk (cRows (V (Proc.devRef .tc main_arg3))) := by
  unfold opsPre
  after_results
  exact stack_rows _

theorem opsPre_main_v9 (V : Val) : after opsPre V (Proc.devRef .tc main_v9) = stkSq (cSq (V (Proc.devRef .tc main_arg4))) := by
  unfold opsPre
  after_results
  exact stack_sq _

theorem opsPre_main_v10 (V : Val) : after opsPre V (Proc.devRef .tc main_v10) = stkDec (cDec (V (Proc.devRef .tc main_arg5))) := by
  unfold opsPre
  after_results
  exact stack_dec _

/-- At the forward loop's entry. -/
theorem inv0_entry : Inv0 (aU m c) (aW m c) (aQ m c) (aK m c) (aA m c) (aG m c) (entry0 m c) 0 := by
  simp only [entry0, afterL_cons, afterL_nil]
  refine ⟨opsPre_main_v15_6 _, opsPre_main_v15_0 _, opsPre_main_v15_1 _, opsPre_main_v15_2 _, opsPre_main_v15_3 _, opsPre_main_v15_4 _, opsPre_main_v15_5 _, opsPre_main_v15_7 _, (show _ = _ by rw [upto_zero]; exact opsPre_main_v15_8 _), (show _ = _ by rw [upto_zero]; exact opsPre_main_v15_9 _), (show _ = _ by rw [upto_zero]; exact opsPre_main_v15_10 _), opsPre_main_v3 _, opsPre_main_v5 _, opsPre_main_v7 _, opsPre_main_v9 _, opsPre_main_v10 _⟩

/-- Before the forward loop's `k`-th trip. -/
theorem inv0_at : ∀ k, k ≤ 64 → Inv0 (aU m c) (aW m c) (aQ m c) (aK m c) (aA m c) (aG m c) (at0 m k c) k
  | 0, _ => inv0_entry m c
  | k + 1, h => by
    rw [at0_succ]
    exact trip0 _ _ _ _ _ _ k (by omega) _ (inv0_at k (by omega))

/-! ## The backward loop -/

/-- Before the backward loop's `k`-th trip. -/
structure Inv1 (X : Val) (k : ℕ) : Prop where
  v28_8 : X (Proc.devRef .tc main_v28_8) = cnt k
  v28_0 : X (Proc.devRef .tc main_v28_0) = stk dOs
  v28_1 : X (Proc.devRef .tc main_v28_1) = ofChunksSt (STS us ws ks gs)
  v28_2 : X (Proc.devRef .tc main_v28_2) = stk ws
  v28_3 : X (Proc.devRef .tc main_v28_3) = stk qs
  v28_4 : X (Proc.devRef .tc main_v28_4) = stk (VN us ws ks gs)
  v28_5 : X (Proc.devRef .tc main_v28_5) = stkSq As
  v28_6 : X (Proc.devRef .tc main_v28_6) = stkDec gs
  v28_7 : X (Proc.devRef .tc main_v28_7) = stk ks
  v28_9 : X (Proc.devRef .tc main_v28_9) = ofSt (dstate ws qs ks As gs dOs k)
  v28_10 : X (Proc.devRef .tc main_v28_10) = stk (last k (DU ws qs ks As gs dOs) fun _ _ _ => 0)
  v28_11 : X (Proc.devRef .tc main_v28_11) = stk (last k (DW us ws qs ks As gs dOs) fun _ _ _ => 0)
  v28_12 : X (Proc.devRef .tc main_v28_12) = stk (last k (DQ us ws ks gs dOs) fun _ _ _ => 0)
  v28_13 : X (Proc.devRef .tc main_v28_13) = stk (last k (DK us ws qs ks As gs dOs) fun _ _ _ => 0)
  v28_14 : X (Proc.devRef .tc main_v28_14) = stkSq (last k (DA us ws ks gs dOs) fun _ _ _ => 0)
  v28_15 : X (Proc.devRef .tc main_v28_15) = stkDec (last k (DG us ws qs ks As gs dOs) fun _ _ => 0)
  v17 : X (Proc.devRef .tc main_v17) = ofChunks (O us ws qs ks As gs)

theorem trip1 (k : ℕ) (hk : k < 64) (X0 : Val) (h : Inv1 us ws qs ks As gs dOs X0 k) : Inv1 us ws qs ks As gs dOs (afterL body1I (after ops1_cond X0)) (k + 1) := by
  have hv := rk_lt k hk
  have hd : 63 - (rk k).val = k := by omega
  simp only [afterL_cons, afterL_nil]
  obtain ⟨X1, e1⟩ : ∃ Y, Y = after ops1_cond X0 := ⟨_, rfl⟩
  rw [← e1]
  have f1 : X1 (Proc.devRef .tc main_v28_8) = cnt k := by
    rw [e1, ops1_cond_keep _ _ (by decide)]; exact h.v28_8
  obtain ⟨X2, e2⟩ : ∃ Y, Y = after ops1_0 X1 := ⟨_, rfl⟩
  rw [← e2]
  have f2 : X2 (Proc.devRef .tc main_while1b_v41) = cnt (rk k).val := by
    rw [e2]; exact (ops1_0_val _ k hk f1).trans (congrArg cnt hv.symm)
  have f3 : X2 (Proc.devRef .tc main_v28_0) = stk dOs := by
    rw [e2, ops1_0_keep _ _ (by decide), e1, ops1_cond_keep _ _ (by decide)]; exact h.v28_0
  obtain ⟨X3, e3⟩ : ∃ Y, Y = after ops1_1 X2 := ⟨_, rfl⟩
  rw [← e3]
  have f4 : X3 (Proc.devRef .tc main_while1b_v42) = of3 (dOs (rk k)) := by
    rw [e3]; exact ops1_1_val _ dOs (rk k) f3 f2
  have f5 : X3 (Proc.devRef .tc main_v28_1) = ofChunksSt (STS us ws ks gs) := by
    rw [e3, ops1_1_keep _ _ (by decide), e2, ops1_0_keep _ _ (by decide), e1, ops1_cond_keep _ _ (by decide)]; exact h.v28_1
  have f6 : X3 (Proc.devRef .tc main_while1b_v41) = cnt (rk k).val := by
    rw [e3, ops1_1_keep _ _ (by decide)]; exact f2
  obtain ⟨X4, e4⟩ : ∃ Y, Y = after ops1_2 X3 := ⟨_, rfl⟩
  rw [← e4]
  have f7 : X4 (Proc.devRef .tc main_while1b_v43) = ofSt ((STS us ws ks gs) (rk k)) := by
    rw [e4]; exact ops1_2_val _ (STS us ws ks gs) (rk k) f5 f6
  have f8 : X4 (Proc.devRef .tc main_v28_2) = stk ws := by
    rw [e4, ops1_2_keep _ _ (by decide), e3, ops1_1_keep _ _ (by decide), e2, ops1_0_keep _ _ (by decide), e1, ops1_cond_keep _ _ (by decide)]; exact h.v28_2
  have f9 : X4 (Proc.devRef .tc main_while1b_v41) = cnt (rk k).val := by
    rw [e4, ops1_2_keep _ _ (by decide)]; exact f6
  obtain ⟨X5, e5⟩ : ∃ Y, Y = after ops1_3 X4 := ⟨_, rfl⟩
  rw [← e5]
  have f10 : X5 (Proc.devRef .tc main_while1b_v44) = of3 (ws (rk k)) := by
    rw [e5]; exact ops1_3_val _ ws (rk k) f8 f9
  have f11 : X5 (Proc.devRef .tc main_v28_3) = stk qs := by
    rw [e5, ops1_3_keep _ _ (by decide), e4, ops1_2_keep _ _ (by decide), e3, ops1_1_keep _ _ (by decide), e2, ops1_0_keep _ _ (by decide), e1, ops1_cond_keep _ _ (by decide)]; exact h.v28_3
  have f12 : X5 (Proc.devRef .tc main_while1b_v41) = cnt (rk k).val := by
    rw [e5, ops1_3_keep _ _ (by decide)]; exact f9
  obtain ⟨X6, e6⟩ : ∃ Y, Y = after ops1_4 X5 := ⟨_, rfl⟩
  rw [← e6]
  have f13 : X6 (Proc.devRef .tc main_while1b_v45) = of3 (qs (rk k)) := by
    rw [e6]; exact ops1_4_val _ qs (rk k) f11 f12
  have f14 : X6 (Proc.devRef .tc main_v28_4) = stk (VN us ws ks gs) := by
    rw [e6, ops1_4_keep _ _ (by decide), e5, ops1_3_keep _ _ (by decide), e4, ops1_2_keep _ _ (by decide), e3, ops1_1_keep _ _ (by decide), e2, ops1_0_keep _ _ (by decide), e1, ops1_cond_keep _ _ (by decide)]; exact h.v28_4
  have f15 : X6 (Proc.devRef .tc main_while1b_v41) = cnt (rk k).val := by
    rw [e6, ops1_4_keep _ _ (by decide)]; exact f12
  obtain ⟨X7, e7⟩ : ∃ Y, Y = after ops1_5 X6 := ⟨_, rfl⟩
  rw [← e7]
  have f16 : X7 (Proc.devRef .tc main_while1b_v46) = of3 ((VN us ws ks gs) (rk k)) := by
    rw [e7]; exact ops1_5_val _ (VN us ws ks gs) (rk k) f14 f15
  have f17 : X7 (Proc.devRef .tc main_v28_5) = stkSq As := by
    rw [e7, ops1_5_keep _ _ (by decide), e6, ops1_4_keep _ _ (by decide), e5, ops1_3_keep _ _ (by decide), e4, ops1_2_keep _ _ (by decide), e3, ops1_1_keep _ _ (by decide), e2, ops1_0_keep _ _ (by decide), e1, ops1_cond_keep _ _ (by decide)]; exact h.v28_5
  have f18 : X7 (Proc.devRef .tc main_while1b_v41) = cnt (rk k).val := by
    rw [e7, ops1_5_keep _ _ (by decide)]; exact f15
  obtain ⟨X8, e8⟩ : ∃ Y, Y = after ops1_6 X7 := ⟨_, rfl⟩
  rw [← e8]
  have f19 : X8 (Proc.devRef .tc main_while1b_v47) = ofSq (As (rk k)) := by
    rw [e8]; exact ops1_6_val _ As (rk k) f17 f18
  have f20 : X8 (Proc.devRef .tc main_v28_6) = stkDec gs := by
    rw [e8, ops1_6_keep _ _ (by decide), e7, ops1_5_keep _ _ (by decide), e6, ops1_4_keep _ _ (by decide), e5, ops1_3_keep _ _ (by decide), e4, ops1_2_keep _ _ (by decide), e3, ops1_1_keep _ _ (by decide), e2, ops1_0_keep _ _ (by decide), e1, ops1_cond_keep _ _ (by decide)]; exact h.v28_6
  have f21 : X8 (Proc.devRef .tc main_while1b_v41) = cnt (rk k).val := by
    rw [e8, ops1_6_keep _ _ (by decide)]; exact f18
  obtain ⟨X9, e9⟩ : ∃ Y, Y = after ops1_7 X8 := ⟨_, rfl⟩
  rw [← e9]
  have f22 : X9 (Proc.devRef .tc main_while1b_v48) = ofDec3 (gs (rk k)) := by
    rw [e9]; exact ops1_7_val _ gs (rk k) f20 f21
  have f23 : X9 (Proc.devRef .tc main_v28_7) = stk ks := by
    rw [e9, ops1_7_keep _ _ (by decide), e8, ops1_6_keep _ _ (by decide), e7, ops1_5_keep _ _ (by decide), e6, ops1_4_keep _ _ (by decide), e5, ops1_3_keep _ _ (by decide), e4, ops1_2_keep _ _ (by decide), e3, ops1_1_keep _ _ (by decide), e2, ops1_0_keep _ _ (by decide), e1, ops1_cond_keep _ _ (by decide)]; exact h.v28_7
  have f24 : X9 (Proc.devRef .tc main_while1b_v41) = cnt (rk k).val := by
    rw [e9, ops1_7_keep _ _ (by decide)]; exact f21
  obtain ⟨X10, e10⟩ : ∃ Y, Y = after ops1_8 X9 := ⟨_, rfl⟩
  rw [← e10]
  have f25 : X10 (Proc.devRef .tc main_while1b_v49) = of3 (ks (rk k)) := by
    rw [e10]; exact ops1_8_val _ ks (rk k) f23 f24
  have f26 : X10 (Proc.devRef .tc main_while1b_v42) = of3 (dOs (rk k)) := by
    rw [e10, ops1_8_keep _ _ (by decide), e9, ops1_7_keep _ _ (by decide), e8, ops1_6_keep _ _ (by decide), e7, ops1_5_keep _ _ (by decide), e6, ops1_4_keep _ _ (by decide), e5, ops1_3_keep _ _ (by decide), e4, ops1_2_keep _ _ (by decide)]; exact f4
  have f27 : X10 (Proc.devRef .tc main_while1b_v43) = ofSt ((STS us ws ks gs) (rk k)) := by
    rw [e10, ops1_8_keep _ _ (by decide), e9, ops1_7_keep _ _ (by decide), e8, ops1_6_keep _ _ (by decide), e7, ops1_5_keep _ _ (by decide), e6, ops1_4_keep _ _ (by decide), e5, ops1_3_keep _ _ (by decide)]; exact f7
  have f28 : X10 (Proc.devRef .tc main_while1b_v44) = of3 (ws (rk k)) := by
    rw [e10, ops1_8_keep _ _ (by decide), e9, ops1_7_keep _ _ (by decide), e8, ops1_6_keep _ _ (by decide), e7, ops1_5_keep _ _ (by decide), e6, ops1_4_keep _ _ (by decide)]; exact f10
  have f29 : X10 (Proc.devRef .tc main_while1b_v45) = of3 (qs (rk k)) := by
    rw [e10, ops1_8_keep _ _ (by decide), e9, ops1_7_keep _ _ (by decide), e8, ops1_6_keep _ _ (by decide), e7, ops1_5_keep _ _ (by decide)]; exact f13
  have f30 : X10 (Proc.devRef .tc main_while1b_v46) = of3 ((VN us ws ks gs) (rk k)) := by
    rw [e10, ops1_8_keep _ _ (by decide), e9, ops1_7_keep _ _ (by decide), e8, ops1_6_keep _ _ (by decide)]; exact f16
  have f31 : X10 (Proc.devRef .tc main_while1b_v47) = ofSq (As (rk k)) := by
    rw [e10, ops1_8_keep _ _ (by decide), e9, ops1_7_keep _ _ (by decide)]; exact f19
  have f32 : X10 (Proc.devRef .tc main_while1b_v48) = ofDec3 (gs (rk k)) := by
    rw [e10, ops1_8_keep _ _ (by decide)]; exact f22
  have f33 : X10 (Proc.devRef .tc main_v28_9) = ofSt (dstate ws qs ks As gs dOs k) := by
    rw [e10, ops1_8_keep _ _ (by decide), e9, ops1_7_keep _ _ (by decide), e8, ops1_6_keep _ _ (by decide), e7, ops1_5_keep _ _ (by decide), e6, ops1_4_keep _ _ (by decide), e5, ops1_3_keep _ _ (by decide), e4, ops1_2_keep _ _ (by decide), e3, ops1_1_keep _ _ (by decide), e2, ops1_0_keep _ _ (by decide), e1, ops1_cond_keep _ _ (by decide)]; exact h.v28_9
  obtain ⟨X11, e11⟩ : ∃ Y, Y = after ops1_9 X10 := ⟨_, rfl⟩
  rw [← e11]
  have f34 : X11 (Proc.devRef .tc main_while1b_v61) = of3 (du (ks (rk k)) (As (rk k)) (dOs (rk k)) (dstate ws qs ks As gs dOs k)) := by
    rw [e11]; exact ops1_9_du _ (VN us ws ks gs (rk k)) (ws (rk k)) (qs (rk k)) (ks (rk k)) (As (rk k)) (gs (rk k)) (STS us ws ks gs (rk k)) (dOs (rk k)) (dstate ws qs ks As gs dOs k) f26 f27 f28 f29 f30 f31 f32 f25 f33
  have f35 : X11 (Proc.devRef .tc main_while1b_v71) = of3 (dw (ks (rk k)) (As (rk k)) (STS us ws ks gs (rk k)) (dOs (rk k)) (dstate ws qs ks As gs dOs k)) := by
    rw [e11]; exact ops1_9_dw _ (VN us ws ks gs (rk k)) (ws (rk k)) (qs (rk k)) (ks (rk k)) (As (rk k)) (gs (rk k)) (STS us ws ks gs (rk k)) (dOs (rk k)) (dstate ws qs ks As gs dOs k) f26 f27 f28 f29 f30 f31 f32 f25 f33
  have f36 : X11 (Proc.devRef .tc main_while1b_v66) = of3 (dq (STS us ws ks gs (rk k)) (dOs (rk k))) := by
    rw [e11]; exact ops1_9_dq _ (VN us ws ks gs (rk k)) (ws (rk k)) (qs (rk k)) (ks (rk k)) (As (rk k)) (gs (rk k)) (STS us ws ks gs (rk k)) (dOs (rk k)) (dstate ws qs ks As gs dOs k) f26 f27 f28 f29 f30 f31 f32 f25 f33
  have f37 : X11 (Proc.devRef .tc main_while1b_v53) = of3 (fun h r d => ∑ e : Fin 128, (VN us ws ks gs (rk k)) h r e * (dstate ws qs ks As gs dOs k) h d e) := by
    rw [e11]; exact ops1_9_dk _ (VN us ws ks gs (rk k)) (ws (rk k)) (qs (rk k)) (ks (rk k)) (As (rk k)) (gs (rk k)) (STS us ws ks gs (rk k)) (dOs (rk k)) (dstate ws qs ks As gs dOs k) f26 f27 f28 f29 f30 f31 f32 f25 f33
  have f38 : X11 (Proc.devRef .tc main_while1b_v62) = ofSq (fun h i j => ∑ e : Fin 128, dOs (rk k) h i e * (VN us ws ks gs (rk k)) h j e) := by
    rw [e11]; exact ops1_9_dA _ (VN us ws ks gs (rk k)) (ws (rk k)) (qs (rk k)) (ks (rk k)) (As (rk k)) (gs (rk k)) (STS us ws ks gs (rk k)) (dOs (rk k)) (dstate ws qs ks As gs dOs k) f26 f27 f28 f29 f30 f31 f32 f25 f33
  have f39 : X11 (Proc.devRef .tc main_while1b_v56) = ofDec3 (dg (STS us ws ks gs (rk k)) (dstate ws qs ks As gs dOs k)) := by
    rw [e11]; exact ops1_9_dg _ (VN us ws ks gs (rk k)) (ws (rk k)) (qs (rk k)) (ks (rk k)) (As (rk k)) (gs (rk k)) (STS us ws ks gs (rk k)) (dOs (rk k)) (dstate ws qs ks As gs dOs k) f26 f27 f28 f29 f30 f31 f32 f25 f33
  have f40 : X11 (Proc.devRef .tc main_while1b_v70) = ofSt (prev (ws (rk k)) (qs (rk k)) (ks (rk k)) (As (rk k)) (gs (rk k)) (dOs (rk k)) (dstate ws qs ks As gs dOs k)) := by
    rw [e11]; exact ops1_9_prev _ (VN us ws ks gs (rk k)) (ws (rk k)) (qs (rk k)) (ks (rk k)) (As (rk k)) (gs (rk k)) (STS us ws ks gs (rk k)) (dOs (rk k)) (dstate ws qs ks As gs dOs k) f26 f27 f28 f29 f30 f31 f32 f25 f33
  have f41 : X11 (Proc.devRef .tc main_v28_10) = stk (last k (DU ws qs ks As gs dOs) fun _ _ _ => 0) := by
    rw [e11, ops1_9_keep _ _ (by decide), e10, ops1_8_keep _ _ (by decide), e9, ops1_7_keep _ _ (by decide), e8, ops1_6_keep _ _ (by decide), e7, ops1_5_keep _ _ (by decide), e6, ops1_4_keep _ _ (by decide), e5, ops1_3_keep _ _ (by decide), e4, ops1_2_keep _ _ (by decide), e3, ops1_1_keep _ _ (by decide), e2, ops1_0_keep _ _ (by decide), e1, ops1_cond_keep _ _ (by decide)]; exact h.v28_10
  have f42 : X11 (Proc.devRef .tc main_while1b_v41) = cnt (rk k).val := by
    rw [e11, ops1_9_keep _ _ (by decide), e10, ops1_8_keep _ _ (by decide)]; exact f24
  obtain ⟨X12, e12⟩ : ∃ Y, Y = after ops1_10 X11 := ⟨_, rfl⟩
  rw [← e12]
  have f43 : X12 (Proc.devRef .tc main_while1b_v72) = stk (last (k + 1) (DU ws qs ks As gs dOs) fun _ _ _ => 0) := by
    rw [e12]; exact (ops1_10_val _ _ (du (ks (rk k)) (As (rk k)) (dOs (rk k)) (dstate ws qs ks As gs dOs k)) (rk k) f41 f34 f42).trans (congrArg stk (last_succ k hk _ _ _ (by unfold DU; first | (rw [hd]; done) | (rw [hd]; rfl) | rfl)))
  have f44 : X12 (Proc.devRef .tc main_v28_11) = stk (last k (DW us ws qs ks As gs dOs) fun _ _ _ => 0) := by
    rw [e12, ops1_10_keep _ _ (by decide), e11, ops1_9_keep _ _ (by decide), e10, ops1_8_keep _ _ (by decide), e9, ops1_7_keep _ _ (by decide), e8, ops1_6_keep _ _ (by decide), e7, ops1_5_keep _ _ (by decide), e6, ops1_4_keep _ _ (by decide), e5, ops1_3_keep _ _ (by decide), e4, ops1_2_keep _ _ (by decide), e3, ops1_1_keep _ _ (by decide), e2, ops1_0_keep _ _ (by decide), e1, ops1_cond_keep _ _ (by decide)]; exact h.v28_11
  have f45 : X12 (Proc.devRef .tc main_while1b_v71) = of3 (dw (ks (rk k)) (As (rk k)) (STS us ws ks gs (rk k)) (dOs (rk k)) (dstate ws qs ks As gs dOs k)) := by
    rw [e12, ops1_10_keep _ _ (by decide)]; exact f35
  have f46 : X12 (Proc.devRef .tc main_while1b_v41) = cnt (rk k).val := by
    rw [e12, ops1_10_keep _ _ (by decide)]; exact f42
  obtain ⟨X13, e13⟩ : ∃ Y, Y = after ops1_11 X12 := ⟨_, rfl⟩
  rw [← e13]
  have f47 : X13 (Proc.devRef .tc main_while1b_v73) = stk (last (k + 1) (DW us ws qs ks As gs dOs) fun _ _ _ => 0) := by
    rw [e13]; exact (ops1_11_val _ _ (dw (ks (rk k)) (As (rk k)) (STS us ws ks gs (rk k)) (dOs (rk k)) (dstate ws qs ks As gs dOs k)) (rk k) f44 f45 f46).trans (congrArg stk (last_succ k hk _ _ _ (by unfold DW; first | (rw [hd]; done) | (rw [hd]; rfl) | rfl)))
  have f48 : X13 (Proc.devRef .tc main_v28_12) = stk (last k (DQ us ws ks gs dOs) fun _ _ _ => 0) := by
    rw [e13, ops1_11_keep _ _ (by decide), e12, ops1_10_keep _ _ (by decide), e11, ops1_9_keep _ _ (by decide), e10, ops1_8_keep _ _ (by decide), e9, ops1_7_keep _ _ (by decide), e8, ops1_6_keep _ _ (by decide), e7, ops1_5_keep _ _ (by decide), e6, ops1_4_keep _ _ (by decide), e5, ops1_3_keep _ _ (by decide), e4, ops1_2_keep _ _ (by decide), e3, ops1_1_keep _ _ (by decide), e2, ops1_0_keep _ _ (by decide), e1, ops1_cond_keep _ _ (by decide)]; exact h.v28_12
  have f49 : X13 (Proc.devRef .tc main_while1b_v66) = of3 (dq (STS us ws ks gs (rk k)) (dOs (rk k))) := by
    rw [e13, ops1_11_keep _ _ (by decide), e12, ops1_10_keep _ _ (by decide)]; exact f36
  have f50 : X13 (Proc.devRef .tc main_while1b_v41) = cnt (rk k).val := by
    rw [e13, ops1_11_keep _ _ (by decide)]; exact f46
  obtain ⟨X14, e14⟩ : ∃ Y, Y = after ops1_12 X13 := ⟨_, rfl⟩
  rw [← e14]
  have f51 : X14 (Proc.devRef .tc main_while1b_v74) = stk (last (k + 1) (DQ us ws ks gs dOs) fun _ _ _ => 0) := by
    rw [e14]; exact (ops1_12_val _ _ (dq (STS us ws ks gs (rk k)) (dOs (rk k))) (rk k) f48 f49 f50).trans (congrArg stk (last_succ k hk _ _ _ (by unfold DQ; first | (rw [hd]; done) | (rw [hd]; rfl) | rfl)))
  have f52 : X14 (Proc.devRef .tc main_v28_13) = stk (last k (DK us ws qs ks As gs dOs) fun _ _ _ => 0) := by
    rw [e14, ops1_12_keep _ _ (by decide), e13, ops1_11_keep _ _ (by decide), e12, ops1_10_keep _ _ (by decide), e11, ops1_9_keep _ _ (by decide), e10, ops1_8_keep _ _ (by decide), e9, ops1_7_keep _ _ (by decide), e8, ops1_6_keep _ _ (by decide), e7, ops1_5_keep _ _ (by decide), e6, ops1_4_keep _ _ (by decide), e5, ops1_3_keep _ _ (by decide), e4, ops1_2_keep _ _ (by decide), e3, ops1_1_keep _ _ (by decide), e2, ops1_0_keep _ _ (by decide), e1, ops1_cond_keep _ _ (by decide)]; exact h.v28_13
  have f53 : X14 (Proc.devRef .tc main_while1b_v53) = of3 (fun h r d => ∑ e : Fin 128, (VN us ws ks gs (rk k)) h r e * (dstate ws qs ks As gs dOs k) h d e) := by
    rw [e14, ops1_12_keep _ _ (by decide), e13, ops1_11_keep _ _ (by decide), e12, ops1_10_keep _ _ (by decide)]; exact f37
  have f54 : X14 (Proc.devRef .tc main_while1b_v41) = cnt (rk k).val := by
    rw [e14, ops1_12_keep _ _ (by decide)]; exact f50
  obtain ⟨X15, e15⟩ : ∃ Y, Y = after ops1_13 X14 := ⟨_, rfl⟩
  rw [← e15]
  have f55 : X15 (Proc.devRef .tc main_while1b_v75) = stk (last (k + 1) (DK us ws qs ks As gs dOs) fun _ _ _ => 0) := by
    rw [e15]; exact (ops1_13_val _ _ (fun h r d => ∑ e : Fin 128, (VN us ws ks gs (rk k)) h r e * (dstate ws qs ks As gs dOs k) h d e) (rk k) f52 f53 f54).trans (congrArg stk (last_succ k hk _ _ _ (by unfold DK; first | (rw [hd]; done) | (rw [hd]; rfl) | rfl)))
  have f56 : X15 (Proc.devRef .tc main_v28_14) = stkSq (last k (DA us ws ks gs dOs) fun _ _ _ => 0) := by
    rw [e15, ops1_13_keep _ _ (by decide), e14, ops1_12_keep _ _ (by decide), e13, ops1_11_keep _ _ (by decide), e12, ops1_10_keep _ _ (by decide), e11, ops1_9_keep _ _ (by decide), e10, ops1_8_keep _ _ (by decide), e9, ops1_7_keep _ _ (by decide), e8, ops1_6_keep _ _ (by decide), e7, ops1_5_keep _ _ (by decide), e6, ops1_4_keep _ _ (by decide), e5, ops1_3_keep _ _ (by decide), e4, ops1_2_keep _ _ (by decide), e3, ops1_1_keep _ _ (by decide), e2, ops1_0_keep _ _ (by decide), e1, ops1_cond_keep _ _ (by decide)]; exact h.v28_14
  have f57 : X15 (Proc.devRef .tc main_while1b_v62) = ofSq (fun h i j => ∑ e : Fin 128, dOs (rk k) h i e * (VN us ws ks gs (rk k)) h j e) := by
    rw [e15, ops1_13_keep _ _ (by decide), e14, ops1_12_keep _ _ (by decide), e13, ops1_11_keep _ _ (by decide), e12, ops1_10_keep _ _ (by decide)]; exact f38
  have f58 : X15 (Proc.devRef .tc main_while1b_v41) = cnt (rk k).val := by
    rw [e15, ops1_13_keep _ _ (by decide)]; exact f54
  obtain ⟨X16, e16⟩ : ∃ Y, Y = after ops1_14 X15 := ⟨_, rfl⟩
  rw [← e16]
  have f59 : X16 (Proc.devRef .tc main_while1b_v76) = stkSq (last (k + 1) (DA us ws ks gs dOs) fun _ _ _ => 0) := by
    rw [e16]; exact (ops1_14_val _ _ (fun h i j => ∑ e : Fin 128, dOs (rk k) h i e * (VN us ws ks gs (rk k)) h j e) (rk k) f56 f57 f58).trans (congrArg stkSq (last_succ k hk _ _ _ (by unfold DA; first | (rw [hd]; done) | (rw [hd]; rfl) | rfl)))
  have f60 : X16 (Proc.devRef .tc main_v28_15) = stkDec (last k (DG us ws qs ks As gs dOs) fun _ _ => 0) := by
    rw [e16, ops1_14_keep _ _ (by decide), e15, ops1_13_keep _ _ (by decide), e14, ops1_12_keep _ _ (by decide), e13, ops1_11_keep _ _ (by decide), e12, ops1_10_keep _ _ (by decide), e11, ops1_9_keep _ _ (by decide), e10, ops1_8_keep _ _ (by decide), e9, ops1_7_keep _ _ (by decide), e8, ops1_6_keep _ _ (by decide), e7, ops1_5_keep _ _ (by decide), e6, ops1_4_keep _ _ (by decide), e5, ops1_3_keep _ _ (by decide), e4, ops1_2_keep _ _ (by decide), e3, ops1_1_keep _ _ (by decide), e2, ops1_0_keep _ _ (by decide), e1, ops1_cond_keep _ _ (by decide)]; exact h.v28_15
  have f61 : X16 (Proc.devRef .tc main_while1b_v56) = ofDec3 (dg (STS us ws ks gs (rk k)) (dstate ws qs ks As gs dOs k)) := by
    rw [e16, ops1_14_keep _ _ (by decide), e15, ops1_13_keep _ _ (by decide), e14, ops1_12_keep _ _ (by decide), e13, ops1_11_keep _ _ (by decide), e12, ops1_10_keep _ _ (by decide)]; exact f39
  have f62 : X16 (Proc.devRef .tc main_while1b_v41) = cnt (rk k).val := by
    rw [e16, ops1_14_keep _ _ (by decide)]; exact f58
  obtain ⟨X17, e17⟩ : ∃ Y, Y = after ops1_15 X16 := ⟨_, rfl⟩
  rw [← e17]
  have f63 : X17 (Proc.devRef .tc main_while1b_v77) = stkDec (last (k + 1) (DG us ws qs ks As gs dOs) fun _ _ => 0) := by
    rw [e17]; exact (ops1_15_val _ _ (dg (STS us ws ks gs (rk k)) (dstate ws qs ks As gs dOs k)) (rk k) f60 f61 f62).trans (congrArg stkDec (last_succ k hk _ _ _ (by unfold DG; first | (rw [hd]; done) | (rw [hd]; rfl) | rfl)))
  have f64 : X17 (Proc.devRef .tc main_v28_8) = cnt k := by
    rw [e17, ops1_15_keep _ _ (by decide), e16, ops1_14_keep _ _ (by decide), e15, ops1_13_keep _ _ (by decide), e14, ops1_12_keep _ _ (by decide), e13, ops1_11_keep _ _ (by decide), e12, ops1_10_keep _ _ (by decide), e11, ops1_9_keep _ _ (by decide), e10, ops1_8_keep _ _ (by decide), e9, ops1_7_keep _ _ (by decide), e8, ops1_6_keep _ _ (by decide), e7, ops1_5_keep _ _ (by decide), e6, ops1_4_keep _ _ (by decide), e5, ops1_3_keep _ _ (by decide), e4, ops1_2_keep _ _ (by decide), e3, ops1_1_keep _ _ (by decide), e2, ops1_0_keep _ _ (by decide)]; exact f1
  have f65 : X17 (Proc.devRef .tc main_while1b_v70) = ofSt (prev (ws (rk k)) (qs (rk k)) (ks (rk k)) (As (rk k)) (gs (rk k)) (dOs (rk k)) (dstate ws qs ks As gs dOs k)) := by
    rw [e17, ops1_15_keep _ _ (by decide), e16, ops1_14_keep _ _ (by decide), e15, ops1_13_keep _ _ (by decide), e14, ops1_12_keep _ _ (by decide), e13, ops1_11_keep _ _ (by decide), e12, ops1_10_keep _ _ (by decide)]; exact f40
  have f66 : X17 (Proc.devRef .tc main_while1b_v72) = stk (last (k + 1) (DU ws qs ks As gs dOs) fun _ _ _ => 0) := by
    rw [e17, ops1_15_keep _ _ (by decide), e16, ops1_14_keep _ _ (by decide), e15, ops1_13_keep _ _ (by decide), e14, ops1_12_keep _ _ (by decide), e13, ops1_11_keep _ _ (by decide)]; exact f43
  have f67 : X17 (Proc.devRef .tc main_while1b_v73) = stk (last (k + 1) (DW us ws qs ks As gs dOs) fun _ _ _ => 0) := by
    rw [e17, ops1_15_keep _ _ (by decide), e16, ops1_14_keep _ _ (by decide), e15, ops1_13_keep _ _ (by decide), e14, ops1_12_keep _ _ (by decide)]; exact f47
  have f68 : X17 (Proc.devRef .tc main_while1b_v74) = stk (last (k + 1) (DQ us ws ks gs dOs) fun _ _ _ => 0) := by
    rw [e17, ops1_15_keep _ _ (by decide), e16, ops1_14_keep _ _ (by decide), e15, ops1_13_keep _ _ (by decide)]; exact f51
  have f69 : X17 (Proc.devRef .tc main_while1b_v75) = stk (last (k + 1) (DK us ws qs ks As gs dOs) fun _ _ _ => 0) := by
    rw [e17, ops1_15_keep _ _ (by decide), e16, ops1_14_keep _ _ (by decide)]; exact f55
  have f70 : X17 (Proc.devRef .tc main_while1b_v76) = stkSq (last (k + 1) (DA us ws ks gs dOs) fun _ _ _ => 0) := by
    rw [e17, ops1_15_keep _ _ (by decide)]; exact f59
  obtain ⟨X18, e18⟩ : ∃ Y, Y = after ops1_16 X17 := ⟨_, rfl⟩
  rw [← e18]
  have f71 : X18 (Proc.devRef .tc main_v28_0) = stk dOs := by
    rw [e18, ops1_16_keep _ _ (by decide), e17, ops1_15_keep _ _ (by decide), e16, ops1_14_keep _ _ (by decide), e15, ops1_13_keep _ _ (by decide), e14, ops1_12_keep _ _ (by decide), e13, ops1_11_keep _ _ (by decide), e12, ops1_10_keep _ _ (by decide), e11, ops1_9_keep _ _ (by decide), e10, ops1_8_keep _ _ (by decide), e9, ops1_7_keep _ _ (by decide), e8, ops1_6_keep _ _ (by decide), e7, ops1_5_keep _ _ (by decide), e6, ops1_4_keep _ _ (by decide), e5, ops1_3_keep _ _ (by decide), e4, ops1_2_keep _ _ (by decide), e3, ops1_1_keep _ _ (by decide)]; exact f3
  have f72 : X18 (Proc.devRef .tc main_v28_1) = ofChunksSt (STS us ws ks gs) := by
    rw [e18, ops1_16_keep _ _ (by decide), e17, ops1_15_keep _ _ (by decide), e16, ops1_14_keep _ _ (by decide), e15, ops1_13_keep _ _ (by decide), e14, ops1_12_keep _ _ (by decide), e13, ops1_11_keep _ _ (by decide), e12, ops1_10_keep _ _ (by decide), e11, ops1_9_keep _ _ (by decide), e10, ops1_8_keep _ _ (by decide), e9, ops1_7_keep _ _ (by decide), e8, ops1_6_keep _ _ (by decide), e7, ops1_5_keep _ _ (by decide), e6, ops1_4_keep _ _ (by decide), e5, ops1_3_keep _ _ (by decide), e4, ops1_2_keep _ _ (by decide)]; exact f5
  have f73 : X18 (Proc.devRef .tc main_v28_2) = stk ws := by
    rw [e18, ops1_16_keep _ _ (by decide), e17, ops1_15_keep _ _ (by decide), e16, ops1_14_keep _ _ (by decide), e15, ops1_13_keep _ _ (by decide), e14, ops1_12_keep _ _ (by decide), e13, ops1_11_keep _ _ (by decide), e12, ops1_10_keep _ _ (by decide), e11, ops1_9_keep _ _ (by decide), e10, ops1_8_keep _ _ (by decide), e9, ops1_7_keep _ _ (by decide), e8, ops1_6_keep _ _ (by decide), e7, ops1_5_keep _ _ (by decide), e6, ops1_4_keep _ _ (by decide), e5, ops1_3_keep _ _ (by decide)]; exact f8
  have f74 : X18 (Proc.devRef .tc main_v28_3) = stk qs := by
    rw [e18, ops1_16_keep _ _ (by decide), e17, ops1_15_keep _ _ (by decide), e16, ops1_14_keep _ _ (by decide), e15, ops1_13_keep _ _ (by decide), e14, ops1_12_keep _ _ (by decide), e13, ops1_11_keep _ _ (by decide), e12, ops1_10_keep _ _ (by decide), e11, ops1_9_keep _ _ (by decide), e10, ops1_8_keep _ _ (by decide), e9, ops1_7_keep _ _ (by decide), e8, ops1_6_keep _ _ (by decide), e7, ops1_5_keep _ _ (by decide), e6, ops1_4_keep _ _ (by decide)]; exact f11
  have f75 : X18 (Proc.devRef .tc main_v28_4) = stk (VN us ws ks gs) := by
    rw [e18, ops1_16_keep _ _ (by decide), e17, ops1_15_keep _ _ (by decide), e16, ops1_14_keep _ _ (by decide), e15, ops1_13_keep _ _ (by decide), e14, ops1_12_keep _ _ (by decide), e13, ops1_11_keep _ _ (by decide), e12, ops1_10_keep _ _ (by decide), e11, ops1_9_keep _ _ (by decide), e10, ops1_8_keep _ _ (by decide), e9, ops1_7_keep _ _ (by decide), e8, ops1_6_keep _ _ (by decide), e7, ops1_5_keep _ _ (by decide)]; exact f14
  have f76 : X18 (Proc.devRef .tc main_v28_5) = stkSq As := by
    rw [e18, ops1_16_keep _ _ (by decide), e17, ops1_15_keep _ _ (by decide), e16, ops1_14_keep _ _ (by decide), e15, ops1_13_keep _ _ (by decide), e14, ops1_12_keep _ _ (by decide), e13, ops1_11_keep _ _ (by decide), e12, ops1_10_keep _ _ (by decide), e11, ops1_9_keep _ _ (by decide), e10, ops1_8_keep _ _ (by decide), e9, ops1_7_keep _ _ (by decide), e8, ops1_6_keep _ _ (by decide)]; exact f17
  have f77 : X18 (Proc.devRef .tc main_v28_6) = stkDec gs := by
    rw [e18, ops1_16_keep _ _ (by decide), e17, ops1_15_keep _ _ (by decide), e16, ops1_14_keep _ _ (by decide), e15, ops1_13_keep _ _ (by decide), e14, ops1_12_keep _ _ (by decide), e13, ops1_11_keep _ _ (by decide), e12, ops1_10_keep _ _ (by decide), e11, ops1_9_keep _ _ (by decide), e10, ops1_8_keep _ _ (by decide), e9, ops1_7_keep _ _ (by decide)]; exact f20
  have f78 : X18 (Proc.devRef .tc main_v28_7) = stk ks := by
    rw [e18, ops1_16_keep _ _ (by decide), e17, ops1_15_keep _ _ (by decide), e16, ops1_14_keep _ _ (by decide), e15, ops1_13_keep _ _ (by decide), e14, ops1_12_keep _ _ (by decide), e13, ops1_11_keep _ _ (by decide), e12, ops1_10_keep _ _ (by decide), e11, ops1_9_keep _ _ (by decide), e10, ops1_8_keep _ _ (by decide)]; exact f23
  have f79 : X18 (Proc.devRef .tc main_v17) = ofChunks (O us ws qs ks As gs) := by
    rw [e18, ops1_16_keep _ _ (by decide), e17, ops1_15_keep _ _ (by decide), e16, ops1_14_keep _ _ (by decide), e15, ops1_13_keep _ _ (by decide), e14, ops1_12_keep _ _ (by decide), e13, ops1_11_keep _ _ (by decide), e12, ops1_10_keep _ _ (by decide), e11, ops1_9_keep _ _ (by decide), e10, ops1_8_keep _ _ (by decide), e9, ops1_7_keep _ _ (by decide), e8, ops1_6_keep _ _ (by decide), e7, ops1_5_keep _ _ (by decide), e6, ops1_4_keep _ _ (by decide), e5, ops1_3_keep _ _ (by decide), e4, ops1_2_keep _ _ (by decide), e3, ops1_1_keep _ _ (by decide), e2, ops1_0_keep _ _ (by decide), e1, ops1_cond_keep _ _ (by decide)]; exact h.v17
  exact ⟨(by rw [e18]; exact ops1_16_ctr _ k f64), f71, f72, f73, f74, f75, f76, f77, f78, (by rw [e18]; exact (ops1_16_main_v28_9 _).trans f65), (by rw [e18]; exact (ops1_16_main_v28_10 _).trans f66), (by rw [e18]; exact (ops1_16_main_v28_11 _).trans f67), (by rw [e18]; exact (ops1_16_main_v28_12 _).trans f68), (by rw [e18]; exact (ops1_16_main_v28_13 _).trans f69), (by rw [e18]; exact (ops1_16_main_v28_14 _).trans f70), (by rw [e18]; exact (ops1_16_main_v28_15 _).trans f63), f79⟩

theorem opsMid_main_v28_0 (V : Val) : after opsMid V (Proc.devRef .tc main_v28_0) = stk (cRows (V (Proc.devRef .tc main_arg6))) := by
  unfold opsMid
  after_results
  exact stack_rows _

theorem opsMid_main_v28_1 (V : Val) : after opsMid V (Proc.devRef .tc main_v28_1) = V (Proc.devRef .tc main_v15_9) := by
  unfold opsMid
  after_results
  rfl

theorem opsMid_main_v28_2 (V : Val) : after opsMid V (Proc.devRef .tc main_v28_2) = V (Proc.devRef .tc main_v3) := by
  unfold opsMid
  after_results
  rfl

theorem opsMid_main_v28_3 (V : Val) : after opsMid V (Proc.devRef .tc main_v28_3) = V (Proc.devRef .tc main_v5) := by
  unfold opsMid
  after_results
  rfl

theorem opsMid_main_v28_4 (V : Val) : after opsMid V (Proc.devRef .tc main_v28_4) = V (Proc.devRef .tc main_v15_10) := by
  unfold opsMid
  after_results
  rfl

theorem opsMid_main_v28_5 (V : Val) : after opsMid V (Proc.devRef .tc main_v28_5) = V (Proc.devRef .tc main_v9) := by
  unfold opsMid
  after_results
  rfl

theorem opsMid_main_v28_6 (V : Val) : after opsMid V (Proc.devRef .tc main_v28_6) = V (Proc.devRef .tc main_v10) := by
  unfold opsMid
  after_results
  rfl

theorem opsMid_main_v17 (V : Val) (f : Fin 64 → Rows) (h : V (Proc.devRef .tc main_v15_8) = stk f) : after opsMid V (Proc.devRef .tc main_v17) = ofChunks f := by
  have e : after opsMid V (Proc.devRef .tc main_v17) = shapeCast S4096x1024 (transpose S64x64x8x128 [0, 2, 1, 3] (V (Proc.devRef .tc main_v15_8)) transposes_S64x8x64x128_S64x64x8x128_0_2_1_3) shapeCasts_S64x64x8x128_S4096x1024 := by
    unfold opsMid
    after_results
    rfl
  rw [e, h]
  exact unstack_rows f

theorem opsMid_main_c_11 (V : Val) : after opsMid V (Proc.devRef .tc main_c_11) = cnt 0 := by
  unfold opsMid
  after_results
  rfl

theorem opsMid_main_v21 (V : Val) : after opsMid V (Proc.devRef .tc main_v21) = ofSt fun _ _ _ => 0 := by
  unfold opsMid
  after_results
  exact zero_st

theorem opsMid_main_v22 (V : Val) : after opsMid V (Proc.devRef .tc main_v22) = stk fun _ _ _ _ => 0 := by
  unfold opsMid
  after_results
  exact zero_rows

theorem opsMid_main_v23 (V : Val) : after opsMid V (Proc.devRef .tc main_v23) = stk fun _ _ _ _ => 0 := by
  unfold opsMid
  after_results
  exact zero_rows

theorem opsMid_main_v24 (V : Val) : after opsMid V (Proc.devRef .tc main_v24) = stk fun _ _ _ _ => 0 := by
  unfold opsMid
  after_results
  exact zero_rows

theorem opsMid_main_v25 (V : Val) : after opsMid V (Proc.devRef .tc main_v25) = stk fun _ _ _ _ => 0 := by
  unfold opsMid
  after_results
  exact zero_rows

theorem opsMid_main_v26 (V : Val) : after opsMid V (Proc.devRef .tc main_v26) = stkSq fun _ _ _ _ => 0 := by
  unfold opsMid
  after_results
  exact zero_sq

theorem opsMid_main_v27 (V : Val) : after opsMid V (Proc.devRef .tc main_v27) = stkDec fun _ _ _ => 0 := by
  unfold opsMid
  after_results
  exact zero_dec

theorem opsMid_1_main_v28_7 (V : Val) : after opsMid_1 V (Proc.devRef .tc main_v28_7) = V (Proc.devRef .tc main_v7) := by
  unfold opsMid_1
  after_results
  rfl

theorem opsMid_1_main_v28_8 (V : Val) : after opsMid_1 V (Proc.devRef .tc main_v28_8) = V (Proc.devRef .tc main_c_11) := by
  unfold opsMid_1
  after_results
  rfl

theorem opsMid_1_main_v28_9 (V : Val) : after opsMid_1 V (Proc.devRef .tc main_v28_9) = V (Proc.devRef .tc main_v21) := by
  unfold opsMid_1
  after_results
  rfl

theorem opsMid_1_main_v28_10 (V : Val) : after opsMid_1 V (Proc.devRef .tc main_v28_10) = V (Proc.devRef .tc main_v22) := by
  unfold opsMid_1
  after_results
  rfl

theorem opsMid_1_main_v28_11 (V : Val) : after opsMid_1 V (Proc.devRef .tc main_v28_11) = V (Proc.devRef .tc main_v23) := by
  unfold opsMid_1
  after_results
  rfl

theorem opsMid_1_main_v28_12 (V : Val) : after opsMid_1 V (Proc.devRef .tc main_v28_12) = V (Proc.devRef .tc main_v24) := by
  unfold opsMid_1
  after_results
  rfl

theorem opsMid_1_main_v28_13 (V : Val) : after opsMid_1 V (Proc.devRef .tc main_v28_13) = V (Proc.devRef .tc main_v25) := by
  unfold opsMid_1
  after_results
  rfl

theorem opsMid_1_main_v28_14 (V : Val) : after opsMid_1 V (Proc.devRef .tc main_v28_14) = V (Proc.devRef .tc main_v26) := by
  unfold opsMid_1
  after_results
  rfl

theorem opsMid_1_main_v28_15 (V : Val) : after opsMid_1 V (Proc.devRef .tc main_v28_15) = V (Proc.devRef .tc main_v27) := by
  unfold opsMid_1
  after_results
  rfl

/-- At the backward loop's entry. -/
theorem inv1_entry : Inv1 (aU m c) (aW m c) (aQ m c) (aK m c) (aA m c) (aG m c) (aD m c) (entry1 m c) 0 := by
  have h := inv0_at m c 64 le_rfl
  simp only [entry1, afterL_cons, afterL_nil]
  exact ⟨(opsMid_1_main_v28_8 _).trans (opsMid_main_c_11 _),
    (opsMid_1_keep _ _ (by decide)).trans ((opsMid_main_v28_0 _).trans (congrArg (fun x => stk (cRows x)) ((ops0_cond_keep _ _ (by decide)).trans (at0_args m c main_arg6 (by decide) 64)))),
    (opsMid_1_keep _ _ (by decide)).trans ((opsMid_main_v28_1 _).trans ((ops0_cond_keep _ _ (by decide)).trans (h.v15_9.trans (by rw [upto_all])))),
    (opsMid_1_keep _ _ (by decide)).trans ((opsMid_main_v28_2 _).trans ((ops0_cond_keep _ _ (by decide)).trans h.v3)),
    (opsMid_1_keep _ _ (by decide)).trans ((opsMid_main_v28_3 _).trans ((ops0_cond_keep _ _ (by decide)).trans h.v5)),
    (opsMid_1_keep _ _ (by decide)).trans ((opsMid_main_v28_4 _).trans ((ops0_cond_keep _ _ (by decide)).trans (h.v15_10.trans (by rw [upto_all])))),
    (opsMid_1_keep _ _ (by decide)).trans ((opsMid_main_v28_5 _).trans ((ops0_cond_keep _ _ (by decide)).trans h.v9)),
    (opsMid_1_keep _ _ (by decide)).trans ((opsMid_main_v28_6 _).trans ((ops0_cond_keep _ _ (by decide)).trans h.v10)),
    (opsMid_1_main_v28_7 _).trans ((opsMid_keep _ _ (by decide)).trans ((ops0_cond_keep _ _ (by decide)).trans h.v7)),
    (opsMid_1_main_v28_9 _).trans (opsMid_main_v21 _),
    (show _ = _ by rw [last_zero]; exact (opsMid_1_main_v28_10 _).trans (opsMid_main_v22 _)),
    (show _ = _ by rw [last_zero]; exact (opsMid_1_main_v28_11 _).trans (opsMid_main_v23 _)),
    (show _ = _ by rw [last_zero]; exact (opsMid_1_main_v28_12 _).trans (opsMid_main_v24 _)),
    (show _ = _ by rw [last_zero]; exact (opsMid_1_main_v28_13 _).trans (opsMid_main_v25 _)),
    (show _ = _ by rw [last_zero]; exact (opsMid_1_main_v28_14 _).trans (opsMid_main_v26 _)),
    (show _ = _ by rw [last_zero]; exact (opsMid_1_main_v28_15 _).trans (opsMid_main_v27 _)),
    (opsMid_1_keep _ _ (by decide)).trans (opsMid_main_v17 _ _ ((ops0_cond_keep _ _ (by decide)).trans (h.v15_8.trans (by rw [upto_all]))))⟩

/-- Before the backward loop's `k`-th trip. -/
theorem inv1_at : ∀ k, k ≤ 64 → Inv1 (aU m c) (aW m c) (aQ m c) (aK m c) (aA m c) (aG m c) (aD m c) (at1 m k c) k
  | 0, _ => inv1_entry m c
  | k + 1, h => by
    rw [at1_succ]
    exact trip1 _ _ _ _ _ _ _ k (by omega) _ (inv1_at k (by omega))

/-! ## The results -/

theorem opsPost_main_v39 (V : Val) (f : Fin 64 → Rows) (h : V (Proc.devRef .tc main_v28_10) = stk f) : after opsPost V (Proc.devRef .tc main_v39) = ofChunks f := by
  have e : after opsPost V (Proc.devRef .tc main_v39) = shapeCast S4096x1024 (transpose S64x64x8x128 [0, 2, 1, 3] (V (Proc.devRef .tc main_v28_10)) transposes_S64x8x64x128_S64x64x8x128_0_2_1_3) shapeCasts_S64x64x8x128_S4096x1024 := by
    unfold opsPost
    after_results
    try rfl
  rw [e, h]
  exact unstack_rows f

theorem opsPost_main_v37 (V : Val) (f : Fin 64 → Rows) (h : V (Proc.devRef .tc main_v28_11) = stk f) : after opsPost V (Proc.devRef .tc main_v37) = ofChunks f := by
  have e : after opsPost V (Proc.devRef .tc main_v37) = shapeCast S4096x1024 (transpose S64x64x8x128 [0, 2, 1, 3] (V (Proc.devRef .tc main_v28_11)) transposes_S64x8x64x128_S64x64x8x128_0_2_1_3) shapeCasts_S64x64x8x128_S4096x1024 := by
    unfold opsPost
    after_results
    try rfl
  rw [e, h]
  exact unstack_rows f

theorem opsPost_main_v35 (V : Val) (f : Fin 64 → Rows) (h : V (Proc.devRef .tc main_v28_12) = stk f) : after opsPost V (Proc.devRef .tc main_v35) = ofChunks f := by
  have e : after opsPost V (Proc.devRef .tc main_v35) = shapeCast S4096x1024 (transpose S64x64x8x128 [0, 2, 1, 3] (V (Proc.devRef .tc main_v28_12)) transposes_S64x8x64x128_S64x64x8x128_0_2_1_3) shapeCasts_S64x64x8x128_S4096x1024 := by
    unfold opsPost
    after_results
    try rfl
  rw [e, h]
  exact unstack_rows f

theorem opsPost_main_v33 (V : Val) (f : Fin 64 → Rows) (h : V (Proc.devRef .tc main_v28_13) = stk f) : after opsPost V (Proc.devRef .tc main_v33) = ofChunks f := by
  have e : after opsPost V (Proc.devRef .tc main_v33) = shapeCast S4096x1024 (transpose S64x64x8x128 [0, 2, 1, 3] (V (Proc.devRef .tc main_v28_13)) transposes_S64x8x64x128_S64x64x8x128_0_2_1_3) shapeCasts_S64x64x8x128_S4096x1024 := by
    unfold opsPost
    after_results
    try rfl
  rw [e, h]
  exact unstack_rows f

theorem opsPost_main_v31 (V : Val) (f : Fin 64 → Sq) (h : V (Proc.devRef .tc main_v28_14) = stkSq f) : after opsPost V (Proc.devRef .tc main_v31) = ofChunksSq f := by
  have e : after opsPost V (Proc.devRef .tc main_v31) = shapeCast S8x4096x64 (transpose S8x64x64x64 [1, 0, 2, 3] (V (Proc.devRef .tc main_v28_14)) transposes_S64x8x64x64_S8x64x64x64_1_0_2_3) shapeCasts_S8x64x64x64_S8x4096x64 := by
    unfold opsPost
    after_results
    try rfl
  rw [e, h]
  exact unstack_sq f

theorem opsPost_main_v29 (V : Val) (f : Fin 64 → Dec) (h : V (Proc.devRef .tc main_v28_15) = stkDec f) : after opsPost V (Proc.devRef .tc main_v29) = ofChunksDec f := by
  have e : after opsPost V (Proc.devRef .tc main_v29) = transpose S8x64x1x128 [1, 0, 2, 3] (V (Proc.devRef .tc main_v28_15)) transposes_S64x8x1x128_S8x64x1x128_1_0_2_3 := by
    unfold opsPost
    after_results
    try rfl
  rw [e, h]
  exact unstack_dec f

/-- The output, chunk by chunk. -/
theorem final_o : final m c (Proc.devRef .tc main_v17) = ofChunks (O (aU m c) (aW m c) (aQ m c) (aK m c) (aA m c) (aG m c)) := by
  have h := inv1_at m c 64 le_rfl
  simp only [final, afterL_cons, afterL_nil]
  exact (opsPost_keep _ _ (by decide)).trans ((ops1_cond_keep _ _ (by decide)).trans h.v17)

theorem final_du : final m c (Proc.devRef .tc main_v39) = ofChunks (DU (aW m c) (aQ m c) (aK m c) (aA m c) (aG m c) (aD m c)) := by
  have h := inv1_at m c 64 le_rfl
  simp only [final, afterL_cons, afterL_nil]
  exact opsPost_main_v39 _ _ ((ops1_cond_keep _ _ (by decide)).trans (h.v28_10.trans (by rw [last_all])))

theorem final_dw : final m c (Proc.devRef .tc main_v37) = ofChunks (DW (aU m c) (aW m c) (aQ m c) (aK m c) (aA m c) (aG m c) (aD m c)) := by
  have h := inv1_at m c 64 le_rfl
  simp only [final, afterL_cons, afterL_nil]
  exact opsPost_main_v37 _ _ ((ops1_cond_keep _ _ (by decide)).trans (h.v28_11.trans (by rw [last_all])))

theorem final_dq : final m c (Proc.devRef .tc main_v35) = ofChunks (DQ (aU m c) (aW m c) (aK m c) (aG m c) (aD m c)) := by
  have h := inv1_at m c 64 le_rfl
  simp only [final, afterL_cons, afterL_nil]
  exact opsPost_main_v35 _ _ ((ops1_cond_keep _ _ (by decide)).trans (h.v28_12.trans (by rw [last_all])))

theorem final_dk : final m c (Proc.devRef .tc main_v33) = ofChunks (DK (aU m c) (aW m c) (aQ m c) (aK m c) (aA m c) (aG m c) (aD m c)) := by
  have h := inv1_at m c 64 le_rfl
  simp only [final, afterL_cons, afterL_nil]
  exact opsPost_main_v33 _ _ ((ops1_cond_keep _ _ (by decide)).trans (h.v28_13.trans (by rw [last_all])))

theorem final_dA : final m c (Proc.devRef .tc main_v31) = ofChunksSq (DA (aU m c) (aW m c) (aK m c) (aG m c) (aD m c)) := by
  have h := inv1_at m c 64 le_rfl
  simp only [final, afterL_cons, afterL_nil]
  exact opsPost_main_v31 _ _ ((ops1_cond_keep _ _ (by decide)).trans (h.v28_14.trans (by rw [last_all])))

theorem final_dg : final m c (Proc.devRef .tc main_v29) = ofChunksDec (DG (aU m c) (aW m c) (aQ m c) (aK m c) (aA m c) (aG m c) (aD m c)) := by
  have h := inv1_at m c 64 le_rfl
  simp only [final, afterL_cons, afterL_nil]
  exact opsPost_main_v29 _ _ ((ops1_cond_keep _ _ (by decide)).trans (h.v28_15.trans (by rw [last_all])))

end Cert.ReferenceIdeal.Scan

end
-- ==== Proof.Scan.Claims.lean ====
/- The claims about the gated delta rule's two scans. -/
module

public import proofs.«01_k».proof.Defs
public import proofs.«01_k».proof.Proof.Scan.FrameKernel
public import proofs.«01_k».proof.Proof.Scan.KernelValue
public import proofs.«01_k».proof.Proof.Scan.RefValue

@[expose] public section

noncomputable section

namespace Cert.Proof.Scan

open Idealize.ShloMosaic Idealize.SL.Sem Cert.DeltaScan

theorem frame_kernelIdeal : Cert.quiescent_KernelIdeal :=
  fun m g _ => Cert.KernelIdeal.Scan.frame (F := Ideal) m g

theorem frame_reference : Cert.quiescent_ReferenceIdeal := fun m g _ =>
  (θ_run Cert.ReferenceIdeal.defs _ _).mono (fun r h => ⟨fun c => ⟨(h.1 c Cert.ReferenceIdeal.main_arg0 (by decide)).trans (Cert.ReferenceIdeal.Scan.final_args m c Cert.ReferenceIdeal.main_arg0 (by decide)),
    (h.1 c Cert.ReferenceIdeal.main_arg1 (by decide)).trans (Cert.ReferenceIdeal.Scan.final_args m c Cert.ReferenceIdeal.main_arg1 (by decide)),
    (h.1 c Cert.ReferenceIdeal.main_arg2 (by decide)).trans (Cert.ReferenceIdeal.Scan.final_args m c Cert.ReferenceIdeal.main_arg2 (by decide)),
    (h.1 c Cert.ReferenceIdeal.main_arg3 (by decide)).trans (Cert.ReferenceIdeal.Scan.final_args m c Cert.ReferenceIdeal.main_arg3 (by decide)),
    (h.1 c Cert.ReferenceIdeal.main_arg4 (by decide)).trans (Cert.ReferenceIdeal.Scan.final_args m c Cert.ReferenceIdeal.main_arg4 (by decide)),
    (h.1 c Cert.ReferenceIdeal.main_arg5 (by decide)).trans (Cert.ReferenceIdeal.Scan.final_args m c Cert.ReferenceIdeal.main_arg5 (by decide)),
    (h.1 c Cert.ReferenceIdeal.main_arg6 (by decide)).trans (Cert.ReferenceIdeal.Scan.final_args m c Cert.ReferenceIdeal.main_arg6 (by decide))⟩, h.2⟩)
    (Cert.ReferenceIdeal.Scan.run_main (F := Ideal) m g)

theorem algebraic : Cert.algebraic_KernelIdeal_ReferenceIdeal := by
  intro m g m' g' _ hin
  have hU (c : Dev Cert.KernelIdeal.nD) : Cert.ReferenceIdeal.Scan.aU m' c = Cert.KernelIdeal.Scan.aU m c := congrArg cRows (hin c).1
  have hW (c : Dev Cert.KernelIdeal.nD) : Cert.ReferenceIdeal.Scan.aW m' c = Cert.KernelIdeal.Scan.aW m c := congrArg cRows (hin c).2.1
  have hQ (c : Dev Cert.KernelIdeal.nD) : Cert.ReferenceIdeal.Scan.aQ m' c = Cert.KernelIdeal.Scan.aQ m c := congrArg cRows (hin c).2.2.1
  have hK (c : Dev Cert.KernelIdeal.nD) : Cert.ReferenceIdeal.Scan.aK m' c = Cert.KernelIdeal.Scan.aK m c := congrArg cRows (hin c).2.2.2.1
  have hA (c : Dev Cert.KernelIdeal.nD) : Cert.ReferenceIdeal.Scan.aA m' c = Cert.KernelIdeal.Scan.aA m c := congrArg cSq (hin c).2.2.2.2.1
  have hG (c : Dev Cert.KernelIdeal.nD) : Cert.ReferenceIdeal.Scan.aG m' c = Cert.KernelIdeal.Scan.aG m c := congrArg cDec (hin c).2.2.2.2.2.1
  have hD (c : Dev Cert.KernelIdeal.nD) : Cert.ReferenceIdeal.Scan.aD m' c = Cert.KernelIdeal.Scan.aD m c := congrArg cRows (hin c).2.2.2.2.2.2
  refine ⟨fun c => ofChunks (O (Cert.KernelIdeal.Scan.aU m c) (Cert.KernelIdeal.Scan.aW m c) (Cert.KernelIdeal.Scan.aQ m c) (Cert.KernelIdeal.Scan.aK m c) (Cert.KernelIdeal.Scan.aA m c) (Cert.KernelIdeal.Scan.aG m c)),
    fun c => ofChunks (DU (Cert.KernelIdeal.Scan.aW m c) (Cert.KernelIdeal.Scan.aQ m c) (Cert.KernelIdeal.Scan.aK m c) (Cert.KernelIdeal.Scan.aA m c) (Cert.KernelIdeal.Scan.aG m c) (Cert.KernelIdeal.Scan.aD m c)),
    fun c => ofChunks (DW (Cert.KernelIdeal.Scan.aU m c) (Cert.KernelIdeal.Scan.aW m c) (Cert.KernelIdeal.Scan.aQ m c) (Cert.KernelIdeal.Scan.aK m c) (Cert.KernelIdeal.Scan.aA m c) (Cert.KernelIdeal.Scan.aG m c) (Cert.KernelIdeal.Scan.aD m c)),
    fun c => ofChunks (DQ (Cert.KernelIdeal.Scan.aU m c) (Cert.KernelIdeal.Scan.aW m c) (Cert.KernelIdeal.Scan.aK m c) (Cert.KernelIdeal.Scan.aG m c) (Cert.KernelIdeal.Scan.aD m c)),
    fun c => ofChunks (DK (Cert.KernelIdeal.Scan.aU m c) (Cert.KernelIdeal.Scan.aW m c) (Cert.KernelIdeal.Scan.aQ m c) (Cert.KernelIdeal.Scan.aK m c) (Cert.KernelIdeal.Scan.aA m c) (Cert.KernelIdeal.Scan.aG m c) (Cert.KernelIdeal.Scan.aD m c)),
    fun c => ofChunksSq (DA (Cert.KernelIdeal.Scan.aU m c) (Cert.KernelIdeal.Scan.aW m c) (Cert.KernelIdeal.Scan.aK m c) (Cert.KernelIdeal.Scan.aG m c) (Cert.KernelIdeal.Scan.aD m c)),
    fun c => ofChunksDec (DG (Cert.KernelIdeal.Scan.aU m c) (Cert.KernelIdeal.Scan.aW m c) (Cert.KernelIdeal.Scan.aQ m c) (Cert.KernelIdeal.Scan.aK m c) (Cert.KernelIdeal.Scan.aA m c) (Cert.KernelIdeal.Scan.aG m c) (Cert.KernelIdeal.Scan.aD m c)),
    ?_, ?_⟩
  · exact (θ_run Cert.KernelIdeal.defs _ _).mono (fun r h c => ⟨(h.1 c Cert.KernelIdeal.main_v0_0 (by decide)).trans (Cert.KernelIdeal.Scan.res_o m c),
      (h.1 c Cert.KernelIdeal.main_v1_0 (by decide)).trans (Cert.KernelIdeal.Scan.res_du m c),
      (h.1 c Cert.KernelIdeal.main_v1_1 (by decide)).trans (Cert.KernelIdeal.Scan.res_dw m c),
      (h.1 c Cert.KernelIdeal.main_v1_2 (by decide)).trans (Cert.KernelIdeal.Scan.res_dq m c),
      (h.1 c Cert.KernelIdeal.main_v1_3 (by decide)).trans (Cert.KernelIdeal.Scan.res_dk m c),
      (h.1 c Cert.KernelIdeal.main_v1_4 (by decide)).trans (Cert.KernelIdeal.Scan.res_dA m c),
      (h.1 c Cert.KernelIdeal.main_v1_5 (by decide)).trans (Cert.KernelIdeal.Scan.res_dg m c),
      (h.1 c Cert.KernelIdeal.main_arg0 (by decide)).trans (Cert.KernelIdeal.Scan.W2_args m c Cert.KernelIdeal.main_arg0 (by decide)),
      (h.1 c Cert.KernelIdeal.main_arg1 (by decide)).trans (Cert.KernelIdeal.Scan.W2_args m c Cert.KernelIdeal.main_arg1 (by decide)),
      (h.1 c Cert.KernelIdeal.main_arg2 (by decide)).trans (Cert.KernelIdeal.Scan.W2_args m c Cert.KernelIdeal.main_arg2 (by decide)),
      (h.1 c Cert.KernelIdeal.main_arg3 (by decide)).trans (Cert.KernelIdeal.Scan.W2_args m c Cert.KernelIdeal.main_arg3 (by decide)),
      (h.1 c Cert.KernelIdeal.main_arg4 (by decide)).trans (Cert.KernelIdeal.Scan.W2_args m c Cert.KernelIdeal.main_arg4 (by decide)),
      (h.1 c Cert.KernelIdeal.main_arg5 (by decide)).trans (Cert.KernelIdeal.Scan.W2_args m c Cert.KernelIdeal.main_arg5 (by decide)),
      (h.1 c Cert.KernelIdeal.main_arg6 (by decide)).trans (Cert.KernelIdeal.Scan.W2_args m c Cert.KernelIdeal.main_arg6 (by decide))⟩) (Cert.KernelIdeal.Scan.run_main (F := Ideal) m g)
  · exact (θ_run Cert.ReferenceIdeal.defs _ _).mono (fun r h c => ⟨(h.1 c Cert.ReferenceIdeal.main_v17 (by decide)).trans ((Cert.ReferenceIdeal.Scan.final_o m' c).trans (by rw [hU, hW, hQ, hK, hA, hG])),
      (h.1 c Cert.ReferenceIdeal.main_v39 (by decide)).trans ((Cert.ReferenceIdeal.Scan.final_du m' c).trans (by rw [hW, hQ, hK, hA, hG, hD])),
      (h.1 c Cert.ReferenceIdeal.main_v37 (by decide)).trans ((Cert.ReferenceIdeal.Scan.final_dw m' c).trans (by rw [hU, hW, hQ, hK, hA, hG, hD])),
      (h.1 c Cert.ReferenceIdeal.main_v35 (by decide)).trans ((Cert.ReferenceIdeal.Scan.final_dq m' c).trans (by rw [hU, hW, hK, hG, hD])),
      (h.1 c Cert.ReferenceIdeal.main_v33 (by decide)).trans ((Cert.ReferenceIdeal.Scan.final_dk m' c).trans (by rw [hU, hW, hQ, hK, hA, hG, hD])),
      (h.1 c Cert.ReferenceIdeal.main_v31 (by decide)).trans ((Cert.ReferenceIdeal.Scan.final_dA m' c).trans (by rw [hU, hW, hK, hG, hD])),
      (h.1 c Cert.ReferenceIdeal.main_v29 (by decide)).trans ((Cert.ReferenceIdeal.Scan.final_dg m' c).trans (by rw [hU, hW, hQ, hK, hA, hG, hD])),
      (h.1 c Cert.ReferenceIdeal.main_arg0 (by decide)).trans (Cert.ReferenceIdeal.Scan.final_args m' c Cert.ReferenceIdeal.main_arg0 (by decide)),
      (h.1 c Cert.ReferenceIdeal.main_arg1 (by decide)).trans (Cert.ReferenceIdeal.Scan.final_args m' c Cert.ReferenceIdeal.main_arg1 (by decide)),
      (h.1 c Cert.ReferenceIdeal.main_arg2 (by decide)).trans (Cert.ReferenceIdeal.Scan.final_args m' c Cert.ReferenceIdeal.main_arg2 (by decide)),
      (h.1 c Cert.ReferenceIdeal.main_arg3 (by decide)).trans (Cert.ReferenceIdeal.Scan.final_args m' c Cert.ReferenceIdeal.main_arg3 (by decide)),
      (h.1 c Cert.ReferenceIdeal.main_arg4 (by decide)).trans (Cert.ReferenceIdeal.Scan.final_args m' c Cert.ReferenceIdeal.main_arg4 (by decide)),
      (h.1 c Cert.ReferenceIdeal.main_arg5 (by decide)).trans (Cert.ReferenceIdeal.Scan.final_args m' c Cert.ReferenceIdeal.main_arg5 (by decide)),
      (h.1 c Cert.ReferenceIdeal.main_arg6 (by decide)).trans (Cert.ReferenceIdeal.Scan.final_args m' c Cert.ReferenceIdeal.main_arg6 (by decide))⟩) (Cert.ReferenceIdeal.Scan.run_main (F := Ideal) m' g')

end Cert.Proof.Scan

end
-- ==== Proof.Ffn.Sums.lean ====
/- Matrices read at natural numbers, and sums taken a block at a time: what the products of the feed-forward calls share. -/
module

public import Idealize.ShloMosaic.Lib.Pipeline.ValueKit
public import Idealize.ShloMosaic.Lib.ValueIdx
public import Idealize.ShloMosaic.Lib.Pointwise

@[expose] public section

noncomputable section

namespace Cert.Ffn

open Idealize.ShloMosaic

/-- The zero offsets of a whole block, as constants. -/
theorem hz : (![0, 0] : Fin 2 → Nat) = fun _ => 0 := funext fun a => by fin_cases a <;> rfl
theorem hz3 : (![0, 0, 0] : Fin 3 → Nat) = fun _ => 0 := funext fun a => by fin_cases a <;> rfl

/-- A matrix read at two natural numbers, zero outside its extents. -/
def el {R C : ℕ} (X : (⟨2, ![R, C]⟩ : Shape).Idx → EReal) (i j : ℕ) : EReal :=
  if h : i < R ∧ j < C then X (ix2 ⟨i, h.1⟩ ⟨j, h.2⟩) else 0

/-- The array whose entries are those of a function of two natural numbers. -/
def tab {R C : ℕ} (f : ℕ → ℕ → EReal) : (⟨2, ![R, C]⟩ : Shape).Idx → EReal := fun y => f (y 0).val (y 1).val

/-- The same for three coordinates. -/
def tab3 {A B C : ℕ} (f : ℕ → ℕ → ℕ → EReal) : (⟨3, ![A, B, C]⟩ : Shape).Idx → EReal := fun y => f (y 0).val (y 1).val (y 2).val

theorem el_eq {R C : ℕ} (X : (⟨2, ![R, C]⟩ : Shape).Idx → EReal) (y : (⟨2, ![R, C]⟩ : Shape).Idx) (i j : ℕ)
    (hi : (y 0).val = i) (hj : (y 1).val = j) : X y = el X i j := by
  subst hi; subst hj
  have h : (y 0).val < R ∧ (y 1).val < C := ⟨(y 0).isLt, (y 1).isLt⟩
  rw [el, dif_pos h]
  exact congrArg X (eq_ix2 y)

theorem el_tab {R C : ℕ} (f : ℕ → ℕ → EReal) (i j : ℕ) (hi : i < R) (hj : j < C) : el (tab (R := R) (C := C) f) i j = f i j := by
  rw [el, dif_pos ⟨hi, hj⟩]; rfl

/-- The sum of `f` over the numbers below `n`. -/
def upto (n : ℕ) (f : ℕ → EReal) : EReal := ∑ x ∈ Finset.range n, f x

theorem sum_eq_upto {n : ℕ} (g : Fin n → EReal) (f : ℕ → EReal) (h : ∀ k : Fin n, g k = f k.val) : ∑ k, g k = upto n f := by
  rw [upto, Finset.sum_range]; exact Finset.sum_congr rfl fun k _ => h k

/-- The sum over one more block of `b`. -/
theorem upto_add {a b n : ℕ} (f : ℕ → EReal) (hn : n = a + b) (g : Fin b → EReal) (h : ∀ k : Fin b, g k = f (a + k.val)) :
    upto a f + ∑ k, g k = upto n f := by
  subst hn
  rw [upto, upto, Finset.sum_range_add, Finset.sum_range (fun x => f (a + x))]
  exact congrArg _ (Finset.sum_congr rfl fun k _ => h k)

/-- A running sum kept over runs of `nk` points: if a run's first point sets it to that point's `b` summands, and each further point but
    the last adds its own, then before the last point it is the sum over the blocks gone through. -/
theorem run_upto {ι : Type} {nk b N : ℕ} (sc : ∀ n, n < N → ι → EReal) (p : ∀ n, n < N → ι → Fin b → EReal) (f : ℕ → ι → ℕ → EReal)
    (hp : ∀ n h y k, p n h y k = f (n / nk) y (n % nk * b + k.val))
    (h0 : ∀ n h y, n % nk = 0 → sc n h y = ∑ k, p n h y k)
    (h1 : ∀ n h h' y, (n + 1) % nk ≠ 0 → (n + 1) % nk + 1 ≠ nk → sc (n + 1) h y = sc n h' y + ∑ k, p (n + 1) h y k) (y : ι) :
    ∀ n (h : n < N), n % nk + 1 ≠ nk → sc n h y = upto ((n % nk + 1) * b) (f (n / nk) y) := by
  have start : ∀ n (h : n < N), n % nk = 0 → sc n h y = upto ((n % nk + 1) * b) (f (n / nk) y) := fun n h e => by
    rw [h0 n h y e, e, Nat.zero_add, Nat.one_mul]
    exact sum_eq_upto _ _ fun k => (hp n h y k).trans (by rw [e, Nat.zero_mul, Nat.zero_add])
  intro n
  induction n with
  | zero => exact fun h _ => start 0 h (Nat.zero_mod nk)
  | succ n ih =>
    intro h hn
    by_cases e : (n + 1) % nk = 0
    · exact start _ h e
    · have ed : (n + 1) / nk = n / nk := by
        rw [Nat.succ_div, if_neg (fun d => e (Nat.mod_eq_zero_of_dvd d)), Nat.add_zero]
      have em : (n + 1) % nk = n % nk + 1 := by
        have a := Nat.div_add_mod n nk
        have a' := Nat.div_add_mod (n + 1) nk
        rw [ed] at a'
        omega
      have hd : n % nk + 1 ≠ nk := fun d => by
        rcases Nat.eq_zero_or_pos nk with z | z
        · omega
        · exact absurd (em.trans d) (Nat.mod_lt _ z).ne
      rw [h1 n h (Nat.lt_of_succ_lt h) y e hn, ih (Nat.lt_of_succ_lt h) hd, em, ed]
      exact upto_add _ (Nat.succ_mul _ _) _ fun k => (hp _ h y k).trans (by rw [ed, em])

/-- With the last point's summands the running sum is the whole one. -/
theorem run_total {ι : Type} {nk b N : ℕ} (sc : ∀ n, n < N → ι → EReal) (p : ∀ n, n < N → ι → Fin b → EReal) (f : ℕ → ι → ℕ → EReal)
    (hp : ∀ n h y k, p n h y k = f (n / nk) y (n % nk * b + k.val))
    (h0 : ∀ n h y, n % nk = 0 → sc n h y = ∑ k, p n h y k)
    (h1 : ∀ n h h' y, (n + 1) % nk ≠ 0 → (n + 1) % nk + 1 ≠ nk → sc (n + 1) h y = sc n h' y + ∑ k, p (n + 1) h y k) (y : ι)
    (t : ℕ) (h : t < N) (h' : t - 1 < N) (hk : 1 < nk) (ht : t % nk + 1 = nk) (l : ℕ) (hl : l = nk * b) :
    sc (t - 1) h' y + ∑ k, p t h y k = upto l (f (t / nk) y) := by
  obtain ⟨n, rfl⟩ : ∃ n, t = n + 1 := ⟨t - 1, by
    have : t ≠ 0 := by rintro rfl; rw [Nat.zero_mod] at ht; omega
    omega⟩
  have ed : (n + 1) / nk = n / nk := by
    rw [Nat.succ_div, if_neg (fun d => by rw [Nat.mod_eq_zero_of_dvd d] at ht; omega), Nat.add_zero]
  have em : (n + 1) % nk = n % nk + 1 := by
    have a := Nat.div_add_mod n nk
    have a' := Nat.div_add_mod (n + 1) nk
    rw [ed] at a'
    omega
  have hs : sc n h' y = _ := run_upto sc p f hp h0 h1 y n h' (by omega)
  refine (congrArg (· + _) hs).trans ?_
  rw [ed]
  have hn : nk = n % nk + 1 + 1 := by omega
  exact upto_add _ (hl.trans ((congrArg (· * b) hn).trans (Nat.succ_mul _ _))) _ fun k => (hp _ h y k).trans (by rw [ed, em])

/-- A gated hidden value: `g * sigmoid g * u`. -/
def swish (g u : EReal) : EReal := g * Ideal.div 1 (1 + Ideal.exp (0 - g)) * u

/-- The gate's share of a hidden value's gradient `d`, in the order the chain rule gives. -/
def gateGrad (d g u : EReal) : EReal :=
  d * u * Ideal.div 1 (1 + Ideal.exp (0 - g))
    + (0 - (0 - g * (d * u) * Ideal.div 1 ((1 + Ideal.exp (0 - g)) * (1 + Ideal.exp (0 - g)))) * Ideal.exp (0 - g))

/-- The up's share. -/
def upGrad (d g : EReal) : EReal := g * Ideal.div 1 (1 + Ideal.exp (0 - g)) * d

end Cert.Ffn

end
-- ==== Proof.Ffn.GateUp.lean ====
/- The first feed-forward product `ab = h · w` and the hidden layer `gate * sigmoid gate * up` made of its halves. -/
module

public import proofs.«01_k».proof.Defs
public import proofs.«01_k».proof.Proof.Ffn.Sums
public import proofs.«01_k».proof.Proof.Gen.GateUpIdeal.Value
public import proofs.«01_k».proof.Proof.Gen.GateUp
public import proofs.«01_k».proof.Proof.Gen.GateUpRefIdeal.Run

@[expose] public section

set_option maxRecDepth 16384

noncomputable section

namespace Cert.GateUpIdeal.Ffn

open Cert.Ffn
open Cert.GateUpIdeal Cert.GateUpIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- A summand of the product's entry `(i, j)`: the `x`-th of the sum over the columns. -/
def term (c : Dev nD) (i j : ℕ) : ℕ → EReal := fun x =>
  el (R := 4096) (C := 2048) (m ((c : Thread nD τ).loc main_arg0)) i x * el (R := 2048) (C := 11264) (m ((c : Thread nD τ).loc main_arg1)) x j

/-- The product's entry `(i, j)`. -/
def prod (c : Dev nD) (i j : ℕ) : EReal := upto 2048 (term m c i j)

/-- The blocks a point reads. -/
abbrev xs (c : Dev nD) (t : Fin cfg0.N) : S512x2048.Idx → EReal := iblk m c 0 t
abbrev ws (c : Dev nD) (t : Fin cfg0.N) : S2048x2816.Idx → EReal := iblk m c 1 t

/-- Which block a point reads and writes: the columns move outermost. -/
theorem idx : ∀ t : Fin cfg0.N,
    ((cfg0.win 0).index t 0 = t.val % 8 ∧ (cfg0.win 0).index t 1 = 0) ∧ ((cfg0.win 1).index t 0 = 0 ∧ (cfg0.win 1).index t 1 = t.val / 8)
      ∧ ((cfg0.win 2).index t 0 = t.val % 8 ∧ (cfg0.win 2).index t 1 = t.val / 8)
      ∧ ((cfg0.win 3).index t 0 = t.val % 8 ∧ (cfg0.win 3).index t 1 = t.val / 8) := by
  decide +kernel

theorem pay1_apply (x : Vec Ideal S512x2048 .bf16) (w : Vec Ideal S2048x2816 .bf16) (y : S512x2816.Idx) :
    k0_pay1 x w y = ∑ k : Fin 2048, (x (ix2 (y 0) k) : EReal) * (w (ix2 k (y 1)) : EReal) := by
  pointwise [k0_pay1]

theorem pay2_apply (x : Vec Ideal S512x2048 .bf16) (w : Vec Ideal S2048x2816 .bf16) (y : S512x1408.Idx) :
    k0_pay2 x w y = swish (k0_pay1 x w (ix2 (y 0) ⟨(y 1).val, Nat.lt_trans (y 1).isLt (by decide)⟩))
      (k0_pay1 x w (ix2 (y 0) ⟨1408 + (y 1).val, Nat.add_lt_add_left (y 1).isLt 1408⟩)) := by
  unfold swish
  pointwise [k0_pay2]

/-- A point's product is its block of the whole one. -/
theorem block (c : Dev nD) (t : Fin cfg0.N) (y : S512x2816.Idx) :
    k0_pay1 (F := Ideal) (iblk m c 0 t) (iblk m c 1 t) y = prod m c (t.val % 8 * 512 + (y 0).val) (t.val / 8 * 2816 + (y 1).val) := by
  refine (pay1_apply (xs m c t) (ws m c t) y).trans ?_
  refine sum_eq_upto _ _ fun k => ?_
  unfold xs ws; blk_simp [iblk]
  exact congrArg₂ (· * ·) (el_eq _ _ _ _ (by blk_simp [idx t]) (by blk_simp [idx t])) (el_eq _ _ _ _ (by blk_simp [idx t]) (by blk_simp [idx t]))

/-- The product, whole. -/
def result (c : Dev nD) : Buf (Elt Ideal) ((c : Thread nD τ).loc main_v0_0) :=
  tab (R := 4096) (C := 11264) (prod m c)

/-- The hidden layer: each of the four slabs of the product holds a gate half and an up half. -/
def hidden (c : Dev nD) : Buf (Elt Ideal) ((c : Thread nD τ).loc main_v0_1) :=
  tab (R := 4096) (C := 5632) fun i j => swish (prod m c i (j / 1408 * 2816 + j % 1408)) (prod m c i (j / 1408 * 2816 + 1408 + j % 1408))

theorem arr (c : Dev nD) : (dats m 0 c).arrAt 2 cfg0.N = result m c := by
  refine (dats m 0 c).arrAt_eq_of_covers 2 _ (by decide +kernel) fun t hf y => ?_
  blk_simp
  rw [after0_2]
  unfold out0_2
  rw [View.canon_unit_zero hz]
  simp only [View.ld_unit_zero (S := S512x2048) hz, View.ld_unit_zero (S := S2048x2816) hz]
  refine (block m c t y).trans ?_
  unfold result tab
  blk_simp [idx t]

theorem arr_hidden (c : Dev nD) : (dats m 0 c).arrAt 3 cfg0.N = hidden m c := by
  refine (dats m 0 c).arrAt_eq_of_covers 3 _ (by decide +kernel) fun t hf y => ?_
  blk_simp
  rw [after0_3]
  unfold out0_3
  rw [View.canon_unit_zero hz]
  simp only [View.ld_unit_zero (S := S512x2048) hz, View.ld_unit_zero (S := S2048x2816) hz]
  refine (pay2_apply _ _ y).trans ?_
  rw [block, block]
  have hy : (y 1).val < 1408 := (y 1).isLt
  have e1 : (t.val / 8 * 1408 + (y 1).val) / 1408 = t.val / 8 := by omega
  have e2 : (t.val / 8 * 1408 + (y 1).val) % 1408 = (y 1).val := by omega
  unfold hidden tab
  blk_simp [idx t]
  rw [e1, e2, Nat.add_assoc]

end Cert.GateUpIdeal.Ffn

namespace Cert.Proof.GateUp

open Cert.Ffn Idealize.ShloMosaic Idealize.SL.Sem

/-- The reference's product is the same sum. -/
theorem ref_eq (h : Vec Ideal Cert.GateUpRefIdeal.S4096x2048 .bf16) (w : Vec Ideal Cert.GateUpRefIdeal.S2048x11264 .bf16) :
    Host.dotGeneral (F := Ideal) Cert.GateUpRefIdeal.dot_S4096x2048_S2048x11264_S4096x11264_1_0_0_1_n_n none
      (extf (F := Ideal) .f32 h Cert.GateUpRefIdeal.Gen.bitsLt_bf16_f32) (extf (F := Ideal) .f32 w Cert.GateUpRefIdeal.Gen.bitsLt_bf16_f32)
      = tab (R := 4096) (C := 11264) (fun i j => upto 2048 fun x => el h i x * el w x j) := by
  funext y
  pointwise [tab]
  exact sum_eq_upto _ _ fun k => congrArg₂ (· * ·) (el_eq _ _ _ _ rfl rfl) (el_eq _ _ _ _ rfl rfl)

section
open Cert.GateUpRefIdeal Cert.GateUpRefIdeal.Gen

/-- The reference's hidden layer, of any product, through its reshapes. -/
theorem ref_hidden (a : Vec Ideal S4096x11264 .f32) :
    truncf (F := Ideal) .bf16 (mulf (mulf (shapeCast _ (shapeCast _ (extractStridedSlice S4096x4x1x1408 ![0, 0, 0, 0] (shapeCast _ a shapeCasts_S4096x11264_S4096x4x2x1408) slices_S4096x4x2x1408_S4096x4x1x1408_0_0_0_0) shapeCasts_S4096x4x1x1408_S4096x4x1408) shapeCasts_S4096x4x1408_S4096x5632)
      (Host.divf (broadcastInDim S4096x5632 ![] bcast_S_S4096x5632 (constant S_ .f32 0x3F800000#32))
        (addf (broadcastInDim S4096x5632 ![] bcast_S_S4096x5632 (constant S_ .f32 0x3F800000#32))
          (Host.exp (Host.negf (shapeCast _ (shapeCast _ (extractStridedSlice S4096x4x1x1408 ![0, 0, 0, 0] (shapeCast _ a shapeCasts_S4096x11264_S4096x4x2x1408) slices_S4096x4x2x1408_S4096x4x1x1408_0_0_0_0) shapeCasts_S4096x4x1x1408_S4096x4x1408) shapeCasts_S4096x4x1408_S4096x5632))))))
      (shapeCast _ (shapeCast _ (extractStridedSlice S4096x4x1x1408 ![0, 0, 1, 0] (shapeCast _ a shapeCasts_S4096x11264_S4096x4x2x1408) slices_S4096x4x2x1408_S4096x4x1x1408_0_0_1_0) shapeCasts_S4096x4x1x1408_S4096x4x1408) shapeCasts_S4096x4x1408_S4096x5632)) bitsLt_bf16_f32
      = tab (R := 4096) (C := 5632) (fun i j => swish (el a i (j / 1408 * 2816 + j % 1408)) (el a i (j / 1408 * 2816 + 1408 + j % 1408))) := by
  funext y
  pointwise [tab]
  rw [swish, zero_sub]
  have hy : (y 1).val < 5632 := (y 1).isLt
  have e1 : a (ix2 (y 0) ⟨(y 1).val / 1408 * 2816 + (y 1).val % 1408, by omega⟩) = el a (y 0).val ((y 1).val / 1408 * 2816 + (y 1).val % 1408) :=
    el_eq _ _ _ _ rfl rfl
  have e2 : a (ix2 (y 0) ⟨(y 1).val / 1408 * 2816 + 1408 + (y 1).val % 1408, by omega⟩)
      = el a (y 0).val ((y 1).val / 1408 * 2816 + 1408 + (y 1).val % 1408) :=
    el_eq _ _ _ _ rfl rfl
  rw [e1, e2]

end

theorem frame_ideal : Cert.quiescent_GateUpIdeal := fun m g _ => Cert.GateUpIdeal.Gen.frame (F := Ideal) m g

/-- The two programs' kernel bodies are the same, so the run is the same over any float values. -/
theorem frame : Cert.quiescent_GateUp := fun m g _ => by
  rw [show Cert.GateUp.defs (F := Bits) = Cert.GateUpIdeal.defs from
    congrArg (fun b => Pipeline.defs Cert.GateUp.pcfgs (Defs.onTc b)) (funext fun | 0 => rfl)]
  exact Cert.GateUpIdeal.Gen.frame (F := Bits) m g

/-- The hidden layer of the product. -/
theorem hidden_eq (m : (ℓ : Loc Cert.GateUpIdeal.nD Cert.GateUpIdeal.τ Cert.GateUpIdeal.sig) → Buf (Elt Ideal) ℓ) (c : Dev Cert.GateUpIdeal.nD)
    (a : Vec Ideal Cert.GateUpRefIdeal.S4096x11264 .f32) (h : a = Cert.GateUpIdeal.Ffn.result m c) :
    tab (R := 4096) (C := 5632) (fun i j => swish (el a i (j / 1408 * 2816 + j % 1408)) (el a i (j / 1408 * 2816 + 1408 + j % 1408)))
      = Cert.GateUpIdeal.Ffn.hidden m c := by
  subst h
  funext y
  have h0 : (y 0).val < 4096 := (y 0).isLt
  have h1 : (y 1).val < 5632 := (y 1).isLt
  exact congrArg₂ swish (el_tab _ _ _ h0 (by omega)) (el_tab _ _ _ h0 (by omega))

theorem frame_reference : Cert.quiescent_GateUpRefIdeal := fun m g _ =>
  (θ_run Cert.GateUpRefIdeal.defs _ _).mono (fun r h => ⟨fun c => (h c).2.2, sem_eq_zero_of_no_sems (by decide) r.2⟩)
    (Cert.GateUpRefIdeal.Value.run (F := Ideal) m g)

theorem algebraic : Cert.algebraic_GateUpIdeal_GateUpRefIdeal := by
  intro m g m' g' _ hin
  have hp : ∀ c : Dev Cert.GateUpIdeal.nD, Host.dotGeneral (F := Ideal) Cert.GateUpRefIdeal.dot_S4096x2048_S2048x11264_S4096x11264_1_0_0_1_n_n none
      (extf (F := Ideal) .f32 (m' ((c.tc : Thread Cert.GateUpRefIdeal.nD Cert.GateUpRefIdeal.τ).loc Cert.GateUpRefIdeal.main_arg0)) Cert.GateUpRefIdeal.Gen.bitsLt_bf16_f32)
      (extf (F := Ideal) .f32 (m' ((c.tc : Thread Cert.GateUpRefIdeal.nD Cert.GateUpRefIdeal.τ).loc Cert.GateUpRefIdeal.main_arg1)) Cert.GateUpRefIdeal.Gen.bitsLt_bf16_f32)
      = Cert.GateUpIdeal.Ffn.result m c := fun c => (ref_eq _ _).trans (by rw [(hin c).1, (hin c).2]; rfl)
  refine ⟨Cert.GateUpIdeal.Ffn.result m, Cert.GateUpIdeal.Ffn.hidden m, ?_, ?_⟩
  · exact (θ_run Cert.GateUpIdeal.defs _ _).mono
      (fun r h c => ⟨(h c).1.trans (Cert.GateUpIdeal.Ffn.arr m c), (h c).2.1.trans (Cert.GateUpIdeal.Ffn.arr_hidden m c), (h c).2.2⟩)
      (Cert.GateUpIdeal.Value.run_blocks (F := Ideal) m g)
  · exact (θ_run Cert.GateUpRefIdeal.defs _ _).mono
      (fun r h c => ⟨(h c).1.trans (hp c), (h c).2.1.trans ((ref_hidden _).trans (hidden_eq m c _ (hp c))), (h c).2.2⟩)
      (Cert.GateUpRefIdeal.Value.run (F := Ideal) m' g')

end Cert.Proof.GateUp

end
-- ==== Proof.Ffn.Down.lean ====
/- The second feed-forward product `f = s · w` and the residual `x + 0.5 * gate * f`. -/
module

public import proofs.«01_k».proof.Defs
public import proofs.«01_k».proof.Proof.Ffn.Sums
public import proofs.«01_k».proof.Proof.Gen.DownIdeal.Value
public import proofs.«01_k».proof.Proof.Gen.Down
public import proofs.«01_k».proof.Proof.Gen.DownRefIdeal.Run

@[expose] public section

set_option maxRecDepth 16384

noncomputable section

namespace Cert.DownIdeal.Ffn

open Cert.Ffn
open Cert.DownIdeal Cert.DownIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- A summand of the product's entry `(i, j)`. -/
def term (c : Dev nD) (i j : ℕ) : ℕ → EReal := fun x =>
  el (R := 4096) (C := 5632) (m ((c : Thread nD τ).loc main_arg0)) i x * el (R := 5632) (C := 2048) (m ((c : Thread nD τ).loc main_arg1)) x j

/-- The product's entry `(i, j)`. -/
def prod (c : Dev nD) (i j : ℕ) : EReal := upto 5632 (term m c i j)

/-- The blocks a point reads. -/
abbrev xs (c : Dev nD) (t : Fin cfg0.N) : S512x5632.Idx → EReal := iblk m c 0 t
abbrev ws (c : Dev nD) (t : Fin cfg0.N) : S5632x512.Idx → EReal := iblk m c 1 t
abbrev rs (c : Dev nD) (t : Fin cfg0.N) : S512x512.Idx → EReal := iblk m c 2 t
abbrev gs (c : Dev nD) (t : Fin cfg0.N) : S1x512.Idx → EReal := iblk m c 3 t

/-- Which block a point reads and writes: the rows move outermost. -/
theorem idx : ∀ t : Fin cfg0.N,
    ((cfg0.win 0).index t 0 = t.val / 4 ∧ (cfg0.win 0).index t 1 = 0) ∧ ((cfg0.win 1).index t 0 = 0 ∧ (cfg0.win 1).index t 1 = t.val % 4)
      ∧ ((cfg0.win 2).index t 0 = t.val / 4 ∧ (cfg0.win 2).index t 1 = t.val % 4) ∧ ((cfg0.win 3).index t 0 = 0 ∧ (cfg0.win 3).index t 1 = t.val % 4)
      ∧ ((cfg0.win 4).index t 0 = t.val / 4 ∧ (cfg0.win 4).index t 1 = t.val % 4)
      ∧ ((cfg0.win 5).index t 0 = t.val / 4 ∧ (cfg0.win 5).index t 1 = t.val % 4) := by
  decide +kernel

theorem pay1_apply (x : Vec Ideal S512x5632 .bf16) (w : Vec Ideal S5632x512 .bf16) (y : S512x512.Idx) :
    k0_pay1 x w y = ∑ k : Fin 5632, (x (ix2 (y 0) k) : EReal) * (w (ix2 k (y 1)) : EReal) := by
  pointwise [k0_pay1]

theorem pay2_apply (x : Vec Ideal S512x5632 .bf16) (w : Vec Ideal S5632x512 .bf16) (r : Vec Ideal S512x512 .f32) (g : Vec Ideal S1x512 .f32) (y : S512x512.Idx) :
    k0_pay2 x w r g y = (r y : EReal) + Ideal.ofBits .f32 0x3F000000#32 * (g (ix2 0 (y 1)) : EReal) * (k0_pay1 x w y : EReal) := by
  pointwise [k0_pay2]

/-- A point's product is its block of the whole one. -/
theorem block (c : Dev nD) (t : Fin cfg0.N) (y : S512x512.Idx) :
    k0_pay1 (F := Ideal) (iblk m c 0 t) (iblk m c 1 t) y = prod m c (t.val / 4 * 512 + (y 0).val) (t.val % 4 * 512 + (y 1).val) := by
  refine (pay1_apply (xs m c t) (ws m c t) y).trans ?_
  refine sum_eq_upto _ _ fun k => ?_
  unfold xs ws; blk_simp [iblk]
  exact congrArg₂ (· * ·) (el_eq _ _ _ _ (by blk_simp [idx t]) (by blk_simp [idx t])) (el_eq _ _ _ _ (by blk_simp [idx t]) (by blk_simp [idx t]))

theorem rs_eq (c : Dev nD) (t : Fin cfg0.N) (y : S512x512.Idx) :
    rs m c t y = el (R := 4096) (C := 2048) (m ((c : Thread nD τ).loc main_arg2)) (t.val / 4 * 512 + (y 0).val) (t.val % 4 * 512 + (y 1).val) := by
  unfold rs; blk_simp [iblk]
  exact el_eq _ _ _ _ (by blk_simp [idx t]) (by blk_simp [idx t])

theorem gs_eq (c : Dev nD) (t : Fin cfg0.N) (j : Fin 512) :
    gs m c t (ix2 0 j) = el (R := 1) (C := 2048) (m ((c : Thread nD τ).loc main_arg3)) 0 (t.val % 4 * 512 + j.val) := by
  unfold gs; blk_simp [iblk]
  exact el_eq _ _ _ _ (by blk_simp [idx t]; rfl) (by blk_simp [idx t])

/-- The product, whole. -/
def result (c : Dev nD) : Buf (Elt Ideal) ((c : Thread nD τ).loc main_v0_0) :=
  tab (R := 4096) (C := 2048) (prod m c)

/-- The residual stream after it. -/
def residual (c : Dev nD) : Buf (Elt Ideal) ((c : Thread nD τ).loc main_v0_1) :=
  tab (R := 4096) (C := 2048) fun i j => el (R := 4096) (C := 2048) (m ((c : Thread nD τ).loc main_arg2)) i j
    + Ideal.ofBits .f32 0x3F000000#32 * el (R := 1) (C := 2048) (m ((c : Thread nD τ).loc main_arg3)) 0 j * prod m c i j

theorem arr (c : Dev nD) : (dats m 0 c).arrAt 4 cfg0.N = result m c := by
  refine (dats m 0 c).arrAt_eq_of_covers 4 _ (by decide +kernel) fun t hf y => ?_
  blk_simp
  rw [after0_4]
  unfold out0_4
  rw [View.canon_unit_zero hz]
  simp only [View.ld_unit_zero (S := S512x5632) hz, View.ld_unit_zero (S := S5632x512) hz]
  refine (block m c t y).trans ?_
  unfold result tab
  blk_simp [idx t]

theorem arr_residual (c : Dev nD) : (dats m 0 c).arrAt 5 cfg0.N = residual m c := by
  refine (dats m 0 c).arrAt_eq_of_covers 5 _ (by decide +kernel) fun t hf y => ?_
  blk_simp
  rw [after0_5]
  unfold out0_5
  rw [View.canon_unit_zero hz]
  simp only [View.ld_unit_zero (S := S512x5632) hz, View.ld_unit_zero (S := S5632x512) hz, View.ld_unit_zero (S := S512x512) hz, View.ld_unit_zero (S := S1x512) hz]
  refine (pay2_apply _ _ (rs m c t) (gs m c t) y).trans ?_
  refine (congrArg₂ (· + ·) (rs_eq m c t y) (congrArg₂ (· * ·) (congrArg (Ideal.ofBits .f32 0x3F000000#32 * ·) (gs_eq m c t (y 1))) (block m c t y))).trans ?_
  unfold residual tab
  blk_simp [idx t]

end Cert.DownIdeal.Ffn

namespace Cert.Proof.Down

open Cert.Ffn Idealize.ShloMosaic Idealize.SL.Sem

/-- The reference's product is the same sum. -/
theorem ref_eq (s : Vec Ideal Cert.DownRefIdeal.S4096x5632 .bf16) (w : Vec Ideal Cert.DownRefIdeal.S5632x2048 .bf16) :
    Host.dotGeneral (F := Ideal) Cert.DownRefIdeal.dot_S4096x5632_S5632x2048_S4096x2048_1_0_0_1_n_n none
      (extf (F := Ideal) .f32 s Cert.DownRefIdeal.Gen.bitsLt_bf16_f32) (extf (F := Ideal) .f32 w Cert.DownRefIdeal.Gen.bitsLt_bf16_f32)
      = tab (R := 4096) (C := 2048) (fun i j => upto 5632 fun x => el s i x * el w x j) := by
  funext y
  pointwise [tab]
  exact sum_eq_upto _ _ fun k => congrArg₂ (· * ·) (el_eq _ _ _ _ rfl rfl) (el_eq _ _ _ _ rfl rfl)

section
open Cert.DownRefIdeal Cert.DownRefIdeal.Gen

/-- The reference's residual, of any product. -/
theorem ref_residual (x f : Vec Ideal S4096x2048 .f32) (g : Vec Ideal S1x2048 .f32) (p : ℕ → ℕ → EReal) (hf : f = tab (R := 4096) (C := 2048) p) :
    addf (F := Ideal) x (mulf (broadcastInDim S4096x2048 ![0, 1] bcast_S1x2048_S4096x2048_0_1 (mulf (broadcastInDim S1x2048 ![] bcast_S_S1x2048 (constant S_ .f32 0x3F000000#32)) g)) f)
      = tab (R := 4096) (C := 2048) (fun i j => el x i j + Ideal.ofBits .f32 0x3F000000#32 * el g 0 j * p i j) := by
  subst hf
  funext y
  pointwise [tab]
  have e1 := el_eq x y _ _ rfl rfl
  have e2 := el_eq g (ix2 0 (y 1)) _ _ rfl rfl
  rw [e1, e2]
  rfl

end

theorem frame_ideal : Cert.quiescent_DownIdeal := fun m g _ => Cert.DownIdeal.Gen.frame (F := Ideal) m g

/-- The two programs' kernel bodies are the same, so the run is the same over any float values. -/
theorem frame : Cert.quiescent_Down := fun m g _ => by
  rw [show Cert.Down.defs (F := Bits) = Cert.DownIdeal.defs from
    congrArg (fun b => Pipeline.defs Cert.Down.pcfgs (Defs.onTc b)) (funext fun | 0 => rfl)]
  exact Cert.DownIdeal.Gen.frame (F := Bits) m g

theorem frame_reference : Cert.quiescent_DownRefIdeal := fun m g _ =>
  (θ_run Cert.DownRefIdeal.defs _ _).mono (fun r h => ⟨fun c => (h c).2.2, sem_eq_zero_of_no_sems (by decide) r.2⟩)
    (Cert.DownRefIdeal.Value.run (F := Ideal) m g)

theorem algebraic : Cert.algebraic_DownIdeal_DownRefIdeal := by
  intro m g m' g' _ hin
  have hp : ∀ c : Dev Cert.DownIdeal.nD, Host.dotGeneral (F := Ideal) Cert.DownRefIdeal.dot_S4096x5632_S5632x2048_S4096x2048_1_0_0_1_n_n none
      (extf (F := Ideal) .f32 (m' ((c.tc : Thread Cert.DownRefIdeal.nD Cert.DownRefIdeal.τ).loc Cert.DownRefIdeal.main_arg0)) Cert.DownRefIdeal.Gen.bitsLt_bf16_f32)
      (extf (F := Ideal) .f32 (m' ((c.tc : Thread Cert.DownRefIdeal.nD Cert.DownRefIdeal.τ).loc Cert.DownRefIdeal.main_arg1)) Cert.DownRefIdeal.Gen.bitsLt_bf16_f32)
      = Cert.DownIdeal.Ffn.result m c := fun c => (ref_eq _ _).trans (by rw [(hin c).1, (hin c).2.1]; rfl)
  refine ⟨Cert.DownIdeal.Ffn.result m, Cert.DownIdeal.Ffn.residual m, ?_, ?_⟩
  · exact (θ_run Cert.DownIdeal.defs _ _).mono
      (fun r h c => ⟨(h c).1.trans (Cert.DownIdeal.Ffn.arr m c), (h c).2.1.trans (Cert.DownIdeal.Ffn.arr_residual m c), (h c).2.2⟩)
      (Cert.DownIdeal.Value.run_blocks (F := Ideal) m g)
  · exact (θ_run Cert.DownRefIdeal.defs _ _).mono
      (fun r h c => ⟨(h c).1.trans (hp c), (h c).2.1.trans ((ref_residual (m' ((c.tc : Thread Cert.DownRefIdeal.nD Cert.DownRefIdeal.τ).loc Cert.DownRefIdeal.main_arg2)) _ (m' ((c.tc : Thread Cert.DownRefIdeal.nD Cert.DownRefIdeal.τ).loc Cert.DownRefIdeal.main_arg3)) (Cert.DownIdeal.Ffn.prod m c) (hp c)).trans (by rw [(hin c).2.2.1, (hin c).2.2.2]; rfl)), (h c).2.2⟩)
      (Cert.DownRefIdeal.Value.run (F := Ideal) m' g')

end Cert.Proof.Down

end
-- ==== Proof.Ffn.DownDw.lean ====
/- The weight gradient of the second feed-forward product: `dw = sᵀ · df`, summed two blocks of rows at a time. -/
module

public import proofs.«01_k».proof.Defs
public import proofs.«01_k».proof.Proof.Ffn.Sums
public import proofs.«01_k».proof.Proof.Gen.DownDwIdeal.Value
public import proofs.«01_k».proof.Proof.Gen.DownDw
public import proofs.«01_k».proof.Proof.Gen.DownDwRefIdeal.Run

@[expose] public section

set_option maxRecDepth 16384

noncomputable section

namespace Cert.DownDwIdeal.Ffn

open Cert.Ffn
open Cert.DownDwIdeal Cert.DownDwIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

section Cases
variable (c : Dev nD) (i : grid0.Coords)
  (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (x : Vec Ideal S2048x1408 .bf16) (w : Vec Ideal S2048x1024 .bf16) (s : Vec Ideal S1408x1024 .f32)

/-- The first block of rows: the scratch is set to the block's product. -/
theorem first (hc0 : cond0_0 i) (hc1 : ¬cond0_1 i) (hc2 : ¬cond0_2 i) :
    sout0_A_0 c i a3 h3 a4 h4 a5 h5 a6 h6 hc0 hc1 hc2 x w = k0_pay2 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  simp only [View.readAt_eq_ld, h3.read_unread, h4.read_unread, View.ld_unit_zero (S := S2048x1408) hz, View.ld_unit_zero (S := S2048x1024) hz]

/-- The last block: the scratch and the block's product together are the output. -/
theorem last (hc0 : ¬cond0_0 i) (hc1 : ¬cond0_1 i) (hc2 : cond0_2 i) :
    out0_B_2 c i a3 h3 a4 h4 a5 h5 a6 h6 hc0 hc1 hc2 x w s = k0_pay4 x w s := by
  unfold out0_B_2
  rw [View.read_writes_eq_canon _ _ _ (cover0_B_2 c i a3 h3 a4 h4 a5 h5 a6 h6 hc0 hc1 hc2 x w s)]
  unfold kernelRun0_B
  dsimp only
  rw [View.canon_unit_zero hz]
  simp only [View.readAt_eq_ld, h3.read_unread, h4.read_unread, h6.read_unread, View.ld_unit_zero (S := S2048x1408) hz, View.ld_unit_zero (S := S2048x1024) hz, View.ld_unit_zero (S := S1408x1024) hz]

end Cases

theorem idx : ∀ t : Fin cfg0.N, win0_0.index t = ![t.val % 2, t.val / 2 / 2] ∧ win0_1.index t = ![t.val % 2, t.val / 2 % 2]
    ∧ win0_2.index t = ![t.val / 2 / 2, t.val / 2 % 2] :=
  (by decide +kernel : ∀ t : Fin grid0.N, _)

/-- The summand of the entry in row `i` and column `j`. -/
abbrev term (c : Dev nD) (i j x : ℕ) : EReal := el (V m c main_arg0) x i * el (V m c main_arg1) x j

/-- The summand of the entry `y` of the `r`-th run's block. -/
abbrev runTerm (c : Dev nD) (r : ℕ) (y : S1408x1024.Idx) : ℕ → EReal := term m c (r / 2 * 1408 + (y 0).val) (r % 2 * 1024 + (y 1).val)

/-- The blocks a point reads. -/
abbrev xs (c : Dev nD) (t : Fin cfg0.N) : S2048x1408.Idx → EReal := iblk m c 0 t
abbrev ws (c : Dev nD) (t : Fin cfg0.N) : S2048x1024.Idx → EReal := iblk m c 1 t

/-- A point's product, as summands of the whole one. -/
theorem part (c : Dev nD) (t : Fin cfg0.N) (y : S1408x1024.Idx) (k : Fin 2048) :
    xs m c t (ix2 k (y 0)) * ws m c t (ix2 k (y 1)) = runTerm m c (t.val / 2) y (t.val % 2 * 2048 + k.val) := by
  unfold xs ws; blk_simp [iblk]
  exact congrArg₂ (· * ·) (el_eq _ _ _ _ (by blk_simp [idx t]) (by blk_simp [idx t])) (el_eq _ _ _ _ (by blk_simp [idx t]) (by blk_simp [idx t]))

theorem pay2_apply (x : Vec Ideal S2048x1408 .bf16) (w : Vec Ideal S2048x1024 .bf16) (y : S1408x1024.Idx) :
    k0_pay2 x w y = ∑ k : Fin 2048, (x (ix2 k (y 0)) : EReal) * (w (ix2 k (y 1)) : EReal) := by
  pointwise [k0_pay2, k0_pay1]

theorem pay4_apply (x : Vec Ideal S2048x1408 .bf16) (w : Vec Ideal S2048x1024 .bf16) (s : Vec Ideal S1408x1024 .f32) (y : S1408x1024.Idx) :
    k0_pay4 x w s y = (s y : EReal) + ∑ k : Fin 2048, (x (ix2 k (y 0)) : EReal) * (w (ix2 k (y 1)) : EReal) := by
  pointwise [k0_pay4, k0_pay1]

/-- A run's first point leaves its product in the scratch. -/
theorem scratch_first (c : Dev nD) (n : ℕ) (h : n < cfg0.N) (y : S1408x1024.Idx) (e : n % 2 = 0) :
    (outsAt0 m c n h).2 y = ∑ k, xs m c ⟨n, h⟩ (ix2 k (y 0)) * ws m c ⟨n, h⟩ (ix2 k (y 1)) := by
  rw [outsAt0_A m c ⟨n, h⟩ e (show ¬n % 2 = 1 by omega), first]
  exact pay2_apply _ _ y

/-- The product, whole. -/
def result (c : Dev nD) : Buf (Elt Ideal) ((c : Thread nD τ).loc main_v0) :=
  tab (R := 5632) (C := 2048) fun i j => upto 4096 (term m c i j)

/-- The array the call leaves. -/
theorem arr (c : Dev nD) : (dats m 0 c).arrAt 2 cfg0.N = result m c := by
  refine (dats m 0 c).arrAt_eq_of_covers 2 _ (by decide +kernel) fun t hf y => ?_
  have hm : t.val % 2 = 1 := (flush0_2 t).mp hf
  blk_simp
  rw [after0_2, outsAt0_B m c t (by omega) hm, last]
  refine (pay4_apply _ _ _ y).trans ?_
  refine (run_total (nk := 2) _ _ (runTerm m c) (fun n h => part m c ⟨n, h⟩) (scratch_first m c) (fun _ _ _ _ e l => by omega) y t.val t.isLt _
    (by decide) (by omega) 4096 rfl).trans ?_
  unfold result tab
  blk_simp [idx t]

end Cert.DownDwIdeal.Ffn

namespace Cert.Proof.DownDw

open Cert.Ffn Idealize.ShloMosaic Idealize.SL.Sem

/-- The reference's one product is the same sum. -/
theorem ref_eq (s : Vec Ideal Cert.DownDwRefIdeal.S4096x5632 .bf16) (d : Vec Ideal Cert.DownDwRefIdeal.S4096x2048 .bf16) :
    truncf (F := Ideal) .bf16 (transpose Cert.DownDwRefIdeal.S5632x2048 [1, 0] (Host.dotGeneral (F := Ideal) Cert.DownDwRefIdeal.dot_S4096x2048_S4096x5632_S2048x5632_0_0_1_1_n_n none
      (extf (F := Ideal) .f32 d Cert.DownDwRefIdeal.Gen.bitsLt_bf16_f32) (extf (F := Ideal) .f32 s Cert.DownDwRefIdeal.Gen.bitsLt_bf16_f32))
      Cert.DownDwRefIdeal.Gen.transposes_S2048x5632_S5632x2048_1_0) Cert.DownDwRefIdeal.Gen.bitsLt_bf16_f32
      = tab (R := 5632) (C := 2048) (fun i j => upto 4096 fun x => el s x i * el d x j) := by
  funext y
  pointwise [tab]
  exact sum_eq_upto _ _ fun k => (congrArg₂ (· * ·) (el_eq _ _ _ _ rfl rfl) (el_eq _ _ _ _ rfl rfl)).trans (mul_comm _ _)

theorem frame_ideal : Cert.quiescent_DownDwIdeal := fun m g _ => Cert.DownDwIdeal.Gen.frame (F := Ideal) m g

/-- The two programs' kernel bodies are the same, so the run is the same over any float values. -/
theorem frame : Cert.quiescent_DownDw := fun m g _ => by
  rw [show Cert.DownDw.defs (F := Bits) = Cert.DownDwIdeal.defs from
    congrArg (fun b => Pipeline.defs Cert.DownDw.pcfgs (Defs.onTc b)) (funext fun | 0 => rfl)]
  exact Cert.DownDwIdeal.Gen.frame (F := Bits) m g

theorem frame_reference : Cert.quiescent_DownDwRefIdeal := fun m g _ =>
  (θ_run Cert.DownDwRefIdeal.defs _ _).mono (fun r h => ⟨fun c => (h c).2, sem_eq_zero_of_no_sems (by decide) r.2⟩)
    (Cert.DownDwRefIdeal.Value.run (F := Ideal) m g)

theorem algebraic : Cert.algebraic_DownDwIdeal_DownDwRefIdeal := by
  intro m g m' g' _ hin
  refine ⟨Cert.DownDwIdeal.Ffn.result m, ?_, ?_⟩
  · exact (θ_run Cert.DownDwIdeal.defs _ _).mono (fun r h c => ⟨(h c).1.trans (Cert.DownDwIdeal.Ffn.arr m c), (h c).2⟩)
      (Cert.DownDwIdeal.Value.run_blocks (F := Ideal) m g)
  · exact (θ_run Cert.DownDwRefIdeal.defs _ _).mono (fun r h c => ⟨(h c).1.trans ((ref_eq _ _).trans (by rw [(hin c).1, (hin c).2]; rfl)), (h c).2⟩)
      (Cert.DownDwRefIdeal.Value.run (F := Ideal) m' g')

end Cert.Proof.DownDw

end
-- ==== Proof.Ffn.DownDx.lean ====
/- The gradient of `ab`: the hidden layer takes `dh = df · wᵀ` back through the gated product of its two halves. -/
module

public import proofs.«01_k».proof.Defs
public import proofs.«01_k».proof.Proof.Ffn.Sums
public import proofs.«01_k».proof.Proof.Gen.DownDxIdeal.Value
public import proofs.«01_k».proof.Proof.Gen.DownDx
public import proofs.«01_k».proof.Proof.Gen.DownDxRefIdeal.Run

@[expose] public section

set_option maxRecDepth 16384

noncomputable section

namespace Cert.DownDxIdeal.Ffn

open Cert.Ffn
open Cert.DownDxIdeal Cert.DownDxIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- A summand of the product's entry `(i, j)`. -/
def term (c : Dev nD) (i j : ℕ) : ℕ → EReal := fun x =>
  el (R := 4096) (C := 2048) (m ((c : Thread nD τ).loc main_arg0)) i x * el (R := 5632) (C := 2048) (m ((c : Thread nD τ).loc main_arg1)) j x

/-- The hidden layer's gradient. -/
def prod (c : Dev nD) (i j : ℕ) : EReal := upto 2048 (term m c i j)

/-- The forward pass's product. -/
def ab (c : Dev nD) : ℕ → ℕ → EReal := el (R := 4096) (C := 11264) (m ((c : Thread nD τ).loc main_arg2))

/-- The gradient's entry: the first 1408 columns of each slab of 2816 are gates, the others ups. -/
def entry (c : Dev nD) (i j : ℕ) : EReal :=
  if j % 2816 < 1408 then gateGrad (prod m c i (j / 2816 * 1408 + j % 1408)) (ab m c i j) (ab m c i (j + 1408))
  else upGrad (prod m c i (j / 2816 * 1408 + j % 1408)) (ab m c i (j - 1408))

/-- The blocks a point reads. -/
abbrev xs (c : Dev nD) (t : Fin cfg0.N) : S512x2048.Idx → EReal := iblk m c 0 t
abbrev ws (c : Dev nD) (t : Fin cfg0.N) : S1408x2048.Idx → EReal := iblk m c 1 t
abbrev abs (c : Dev nD) (t : Fin cfg0.N) : S512x2816.Idx → EReal := iblk m c 2 t

/-- Which block a point reads and writes: the columns move outermost. -/
theorem idx : ∀ t : Fin cfg0.N,
    ((cfg0.win 0).index t 0 = t.val % 8 ∧ (cfg0.win 0).index t 1 = 0) ∧ ((cfg0.win 1).index t 0 = t.val / 8 ∧ (cfg0.win 1).index t 1 = 0)
      ∧ ((cfg0.win 2).index t 0 = t.val % 8 ∧ (cfg0.win 2).index t 1 = t.val / 8)
      ∧ ((cfg0.win 3).index t 0 = t.val % 8 ∧ (cfg0.win 3).index t 1 = t.val / 8) := by
  decide +kernel

theorem pay1_apply (x : Vec Ideal S512x2048 .bf16) (w : Vec Ideal S1408x2048 .bf16) (y : S512x1408.Idx) :
    k0_pay1 x w y = ∑ k : Fin 2048, (x (ix2 (y 0) k) : EReal) * (w (ix2 (y 1) k) : EReal) := by
  pointwise [k0_pay1]

theorem pay5_apply (x : Vec Ideal S512x2048 .bf16) (w : Vec Ideal S1408x2048 .bf16) (g u : Vec Ideal S512x1408 .f32) (y : S512x1408.Idx) :
    k0_pay5 x w g u y = gateGrad (k0_pay1 x w y) (g y) (u y) := by
  unfold gateGrad
  pointwise [k0_pay5, k0_pay4, k0_pay3, k0_pay2]

theorem pay6_apply (x : Vec Ideal S512x2048 .bf16) (w : Vec Ideal S1408x2048 .bf16) (g : Vec Ideal S512x1408 .f32) (y : S512x1408.Idx) :
    k0_pay6 x w g y = upGrad (k0_pay1 x w y) (g y) := by
  unfold upGrad
  pointwise [k0_pay6, k0_pay4, k0_pay3, k0_pay2]

/-- A point's product is its block of the whole one. -/
theorem block (c : Dev nD) (t : Fin cfg0.N) (y : S512x1408.Idx) :
    k0_pay1 (F := Ideal) (iblk m c 0 t) (iblk m c 1 t) y = prod m c (t.val % 8 * 512 + (y 0).val) (t.val / 8 * 1408 + (y 1).val) := by
  refine (pay1_apply (xs m c t) (ws m c t) y).trans ?_
  refine sum_eq_upto _ _ fun k => ?_
  unfold xs ws; blk_simp [iblk]
  exact congrArg₂ (· * ·) (el_eq _ _ _ _ (by blk_simp [idx t]) (by blk_simp [idx t])) (el_eq _ _ _ _ (by blk_simp [idx t]) (by blk_simp [idx t]))

theorem abs_eq (c : Dev nD) (t : Fin cfg0.N) (y : S512x2816.Idx) :
    abs m c t y = ab m c (t.val % 8 * 512 + (y 0).val) (t.val / 8 * 2816 + (y 1).val) := by
  unfold abs; blk_simp [iblk]
  exact el_eq _ _ _ _ (by blk_simp [idx t]) (by blk_simp [idx t])

/-- The gate half of a point's block. -/
theorem gates (c : Dev nD) (t : Fin cfg0.N) (x : S512x1408.Idx) :
    k0_pay5 (F := Ideal) (iblk m c 0 t) (iblk m c 1 t) (View.ld (abs m c t) r0_2) (View.ld (abs m c t) r0_3) x
      = entry m c (t.val % 8 * 512 + ((r0_2.idx x) 0).val) (t.val / 8 * 2816 + ((r0_2.idx x) 1).val) := by
  have hx : (x 1).val < 1408 := (x 1).isLt
  have e0 : ((r0_2.idx x) 0).val = (x 0).val := by show 0 + 1 * (x 0).val = (x 0).val; omega
  have e1 : ((r0_2.idx x) 1).val = (x 1).val := by show 0 + 1 * (x 1).val = (x 1).val; omega
  have f0 : ((r0_3.idx x) 0).val = (x 0).val := by show 0 + 1 * (x 0).val = (x 0).val; omega
  have f1 : ((r0_3.idx x) 1).val = 1408 + (x 1).val := by show 1408 + 1 * (x 1).val = 1408 + (x 1).val; omega
  refine (pay5_apply _ _ _ _ x).trans ?_
  rw [block, e0, e1, entry, if_pos (by omega)]
  have g1 : (t.val / 8 * 2816 + (x 1).val) / 2816 * 1408 + (t.val / 8 * 2816 + (x 1).val) % 1408 = t.val / 8 * 1408 + (x 1).val := by omega
  rw [g1]
  refine congrArg₂ (gateGrad _) ((abs_eq m c t (r0_2.idx x)).trans ?_) ((abs_eq m c t (r0_3.idx x)).trans ?_)
  · rw [e0, e1]
  · rw [f0, f1]; congr 1; omega

/-- The up half of a point's block. -/
theorem ups (c : Dev nD) (t : Fin cfg0.N) (x : S512x1408.Idx) :
    k0_pay6 (F := Ideal) (iblk m c 0 t) (iblk m c 1 t) (View.ld (abs m c t) r0_2) x
      = entry m c (t.val % 8 * 512 + ((r0_3.idx x) 0).val) (t.val / 8 * 2816 + ((r0_3.idx x) 1).val) := by
  have hx : (x 1).val < 1408 := (x 1).isLt
  have e0 : ((r0_2.idx x) 0).val = (x 0).val := by show 0 + 1 * (x 0).val = (x 0).val; omega
  have e1 : ((r0_2.idx x) 1).val = (x 1).val := by show 0 + 1 * (x 1).val = (x 1).val; omega
  have f0 : ((r0_3.idx x) 0).val = (x 0).val := by show 0 + 1 * (x 0).val = (x 0).val; omega
  have f1 : ((r0_3.idx x) 1).val = 1408 + (x 1).val := by show 1408 + 1 * (x 1).val = 1408 + (x 1).val; omega
  refine (pay6_apply _ _ _ x).trans ?_
  rw [block, f0, f1, entry, if_neg (by omega)]
  have g1 : (t.val / 8 * 2816 + (1408 + (x 1).val)) / 2816 * 1408 + (t.val / 8 * 2816 + (1408 + (x 1).val)) % 1408 = t.val / 8 * 1408 + (x 1).val := by omega
  rw [g1]
  refine congrArg (upGrad _) ((abs_eq m c t (r0_2.idx x)).trans ?_)
  rw [e0, e1]; congr 1; omega

/-- A point's block, whole. -/
theorem halves (c : Dev nD) (t : Fin cfg0.N) (y : S512x2816.Idx) :
    out0_3 (F := Ideal) (iblk m c 0 t) (iblk m c 1 t) (abs m c t) y = entry m c (t.val % 8 * 512 + (y 0).val) (t.val / 8 * 2816 + (y 1).val) := by
  unfold out0_3
  simp only [View.ld_unit_zero (S := S512x2048) hz, View.ld_unit_zero (S := S1408x2048) hz]
  refine View.canon_apply_of_pieces (Val := Elt Ideal) (e := .bf16) (fun y : S512x2816.Idx => entry m c (t.val % 8 * 512 + (y 0).val) (t.val / 8 * 2816 + (y 1).val)) _ ?_ y (cover0_3 _ _ y)
  intro pc hpc
  rcases List.mem_cons.mp hpc with rfl | hpc
  · exact ups m c t
  rcases List.mem_cons.mp hpc with rfl | hpc
  · exact gates m c t
  nomatch hpc

/-- The gradient, whole. -/
def result (c : Dev nD) : Buf (Elt Ideal) ((c : Thread nD τ).loc main_v0) :=
  tab (R := 4096) (C := 11264) (entry m c)

theorem arr (c : Dev nD) : (dats m 0 c).arrAt 3 cfg0.N = result m c := by
  refine (dats m 0 c).arrAt_eq_of_covers 3 _ (by decide +kernel) fun t hf y => ?_
  blk_simp
  rw [after0_3]
  refine (halves m c t y).trans ?_
  unfold result tab
  blk_simp [idx t]

end Cert.DownDxIdeal.Ffn

namespace Cert.Proof.DownDx

open Cert.Ffn Idealize.ShloMosaic Idealize.SL.Sem

/-- The reference's product is the same sum. -/
theorem ref_eq (d : Vec Ideal Cert.DownDxRefIdeal.S4096x2048 .bf16) (w : Vec Ideal Cert.DownDxRefIdeal.S5632x2048 .bf16) (y : Cert.DownDxRefIdeal.S4096x5632.Idx) :
    Host.dotGeneral (F := Ideal) Cert.DownDxRefIdeal.dot_S4096x2048_S5632x2048_S4096x5632_1_1_0_0_n_n none
      (extf (F := Ideal) .f32 d Cert.DownDxRefIdeal.Gen.bitsLt_bf16_f32) (extf (F := Ideal) .f32 w Cert.DownDxRefIdeal.Gen.bitsLt_bf16_f32) y
      = upto 2048 fun x => el d (y 0).val x * el w (y 1).val x := by
  pointwise []
  exact sum_eq_upto _ _ fun k => congrArg₂ (· * ·) (el_eq _ _ _ _ rfl rfl) (el_eq _ _ _ _ rfl rfl)

section
open Cert.DownDxRefIdeal Cert.DownDxRefIdeal.Gen

/-- The gate half of `ab`, through the reference's reshapes. -/
theorem ref_gate (a : Vec Ideal S4096x11264 .f32) (y : S4096x5632.Idx) :
    shapeCast _ (shapeCast _ (extractStridedSlice S4096x4x1x1408 ![0, 0, 0, 0] (shapeCast _ a shapeCasts_S4096x11264_S4096x4x2x1408) slices_S4096x4x2x1408_S4096x4x1x1408_0_0_0_0) shapeCasts_S4096x4x1x1408_S4096x4x1408) shapeCasts_S4096x4x1408_S4096x5632 y
      = el a (y 0).val ((y 1).val / 1408 * 2816 + (y 1).val % 1408) := by
  pointwise []
  exact el_eq _ _ _ _ rfl rfl

/-- The up half. -/
theorem ref_up (a : Vec Ideal S4096x11264 .f32) (y : S4096x5632.Idx) :
    shapeCast _ (shapeCast _ (extractStridedSlice S4096x4x1x1408 ![0, 0, 1, 0] (shapeCast _ a shapeCasts_S4096x11264_S4096x4x2x1408) slices_S4096x4x2x1408_S4096x4x1x1408_0_0_1_0) shapeCasts_S4096x4x1x1408_S4096x4x1408) shapeCasts_S4096x4x1408_S4096x5632 y
      = el a (y 0).val ((y 1).val / 1408 * 2816 + 1408 + (y 1).val % 1408) := by
  pointwise []
  exact el_eq _ _ _ _ rfl rfl

/-- The reference's gradient of the gates, of any gradient `d` of the hidden layer, gates `g` and ups `u`. -/
theorem ref_gateGrad (d g u : Vec Ideal S4096x5632 .f32) (y : S4096x5632.Idx) :
    addf (F := Ideal) (mulf (mulf d u) (Host.divf (broadcastInDim S4096x5632 ![] bcast_S_S4096x5632 (constant S_ .f32 0x3F800000#32)) (addf (broadcastInDim S4096x5632 ![] bcast_S_S4096x5632 (constant S_ .f32 0x3F800000#32)) (Host.exp (Host.negf g)))))
      (Host.negf (mulf (Host.negf (mulf (mulf (mulf g (mulf d u)) (Host.divf (broadcastInDim S4096x5632 ![] bcast_S_S4096x5632 (constant S_ .f32 0x3F800000#32))
        (mulf (addf (broadcastInDim S4096x5632 ![] bcast_S_S4096x5632 (constant S_ .f32 0x3F800000#32)) (Host.exp (Host.negf g))) (addf (broadcastInDim S4096x5632 ![] bcast_S_S4096x5632 (constant S_ .f32 0x3F800000#32)) (Host.exp (Host.negf g))))))
        (broadcastInDim S4096x5632 ![] bcast_S_S4096x5632 (constant S_ .f32 0x3F800000#32)))) (Host.exp (Host.negf g)))) y
      = gateGrad (d y) (g y) (u y) := by
  pointwise []
  simp only [gateGrad, zero_sub]

/-- The reference's gradient of the ups. -/
theorem ref_upGrad (d g : Vec Ideal S4096x5632 .f32) (y : S4096x5632.Idx) :
    mulf (F := Ideal) (mulf g (Host.divf (broadcastInDim S4096x5632 ![] bcast_S_S4096x5632 (constant S_ .f32 0x3F800000#32)) (addf (broadcastInDim S4096x5632 ![] bcast_S_S4096x5632 (constant S_ .f32 0x3F800000#32)) (Host.exp (Host.negf g))))) d y
      = upGrad (d y) (g y) := by
  pointwise []
  simp only [upGrad, zero_sub]

/-- The two gradients laid out in slabs: each padded with zeros where the other goes, and the sum of the two. -/
theorem ref_layout (p q : Vec Ideal S4096x5632 .f32) (fp fq : ℕ → ℕ → EReal)
    (hp : ∀ z : S4096x5632.Idx, p z = fp (z 0).val (z 1).val) (hq : ∀ z : S4096x5632.Idx, q z = fq (z 0).val (z 1).val) (y : S4096x11264.Idx) :
    truncf (F := Ideal) .bf16 (shapeCast _ (addf
      (pad S4096x4x2x1408 ![0, 0, 1, 0] ![0, 0, 0, 0] ![0, 0, 0, 0] (broadcastInDim S4096x4x1x1408 ![0, 1, 3] bcast_S4096x4x1408_S4096x4x1x1408_0_1_3 (shapeCast _ p shapeCasts_S4096x5632_S4096x4x1408)) (constant S_ .f32 0x00000000#32) pads_S4096x4x1x1408_S4096x4x2x1408_000_000_100_000 h_S_)
      (pad S4096x4x2x1408 ![0, 0, 0, 0] ![0, 0, 1, 0] ![0, 0, 0, 0] (broadcastInDim S4096x4x1x1408 ![0, 1, 3] bcast_S4096x4x1408_S4096x4x1x1408_0_1_3 (shapeCast _ q shapeCasts_S4096x5632_S4096x4x1408)) (constant S_ .f32 0x00000000#32) pads_S4096x4x1x1408_S4096x4x2x1408_000_000_010_000 h_S_)) shapeCasts_S4096x4x2x1408_S4096x11264) Cert.DownDxRefIdeal.Gen.bitsLt_bf16_f32 y
      = if (y 1).val % 2816 < 1408 then fq (y 0).val ((y 1).val / 2816 * 1408 + (y 1).val % 1408) else fp (y 0).val ((y 1).val / 2816 * 1408 + (y 1).val % 1408) := by
  have hy : (y 1).val < 11264 := (y 1).isLt
  pointwise []
  by_cases h : (y 1).val % 2816 < 1408
  · rw [dif_neg (by omega), dif_pos (by omega), if_pos h, zero_add]
    exact hq _
  · rw [dif_pos (by omega), dif_neg (by omega), if_neg h, add_zero]
    exact hp _

/-- The reference's gradient of `ab`, entry by entry. -/
theorem ref_entry (m : (ℓ : Loc nD τ sig) → Buf (Elt Ideal) ℓ) (c : Dev nD) (y : S4096x11264.Idx) (P : ℕ → ℕ → EReal)
    (hP : ∀ i j, P i j = upto 2048 fun x => el (R := 4096) (C := 2048) (m ((c.tc : Thread nD τ).loc main_arg0)) i x * el (R := 5632) (C := 2048) (m ((c.tc : Thread nD τ).loc main_arg1)) j x)
    (A : ℕ → ℕ → EReal) (hA : A = el (R := 4096) (C := 11264) (m ((c.tc : Thread nD τ).loc main_arg2))) :
    Cert.DownDxRefIdeal.Value.res_main_v41 (F := Ideal) m c y
      = if (y 1).val % 2816 < 1408 then gateGrad (P (y 0).val ((y 1).val / 2816 * 1408 + (y 1).val % 1408)) (A (y 0).val (y 1).val) (A (y 0).val ((y 1).val + 1408))
        else upGrad (P (y 0).val ((y 1).val / 2816 * 1408 + (y 1).val % 1408)) (A (y 0).val ((y 1).val - 1408)) := by
  have hy : (y 1).val < 11264 := (y 1).isLt
  unfold Cert.DownDxRefIdeal.Value.res_main_v41
  refine (ref_layout _ _
    (fun i j => upGrad (P i j) (A i (j / 1408 * 2816 + j % 1408)))
    (fun i j => gateGrad (P i j) (A i (j / 1408 * 2816 + j % 1408)) (A i (j / 1408 * 2816 + 1408 + j % 1408))) ?_ ?_ y).trans ?_
  · intro z
    refine (ref_upGrad _ _ z).trans ?_
    refine congrArg₂ upGrad ((ref_eq _ _ z).trans (hP _ _).symm) ((ref_gate _ z).trans ?_)
    rw [hA]
  · intro z
    refine (ref_gateGrad _ _ _ z).trans ?_
    rw [ref_eq, ref_gate, ref_up, hP, hA]
  · have e1 : ((y 1).val / 2816 * 1408 + (y 1).val % 1408) / 1408 = (y 1).val / 2816 := by omega
    have e2 : ((y 1).val / 2816 * 1408 + (y 1).val % 1408) % 1408 = (y 1).val % 1408 := by omega
    dsimp only
    rw [e1, e2]
    split_ifs with h
    · have e3 : (y 1).val / 2816 * 2816 + (y 1).val % 1408 = (y 1).val := by omega
      have e4 : (y 1).val / 2816 * 2816 + 1408 + (y 1).val % 1408 = (y 1).val + 1408 := by omega
      rw [e3, e4]
    · have e3 : (y 1).val / 2816 * 2816 + (y 1).val % 1408 = (y 1).val - 1408 := by omega
      rw [e3]

end

theorem frame_ideal : Cert.quiescent_DownDxIdeal := fun m g _ => Cert.DownDxIdeal.Gen.frame (F := Ideal) m g

/-- The two programs' kernel bodies are the same, so the run is the same over any float values. -/
theorem frame : Cert.quiescent_DownDx := fun m g _ => by
  rw [show Cert.DownDx.defs (F := Bits) = Cert.DownDxIdeal.defs from
    congrArg (fun b => Pipeline.defs Cert.DownDx.pcfgs (Defs.onTc b)) (funext fun | 0 => rfl)]
  exact Cert.DownDxIdeal.Gen.frame (F := Bits) m g

theorem frame_reference : Cert.quiescent_DownDxRefIdeal := fun m g _ =>
  (θ_run Cert.DownDxRefIdeal.defs _ _).mono (fun r h => ⟨fun c => (h c).2, sem_eq_zero_of_no_sems (by decide) r.2⟩)
    (Cert.DownDxRefIdeal.Value.run (F := Ideal) m g)

theorem algebraic : Cert.algebraic_DownDxIdeal_DownDxRefIdeal := by
  intro m g m' g' _ hin
  refine ⟨Cert.DownDxIdeal.Ffn.result m, ?_, ?_⟩
  · exact (θ_run Cert.DownDxIdeal.defs _ _).mono (fun r h c => ⟨(h c).1.trans (Cert.DownDxIdeal.Ffn.arr m c), (h c).2⟩)
      (Cert.DownDxIdeal.Value.run_blocks (F := Ideal) m g)
  · refine (θ_run Cert.DownDxRefIdeal.defs _ _).mono (fun r h c => ⟨(h c).1.trans ?_, (h c).2⟩)
      (Cert.DownDxRefIdeal.Value.run (F := Ideal) m' g')
    funext y
    refine (ref_entry m' c y (Cert.DownDxIdeal.Ffn.prod m c) (fun i j => ?_) (Cert.DownDxIdeal.Ffn.ab m c) ?_).trans rfl
    · rw [(hin c).1, (hin c).2.1]; rfl
    · rw [(hin c).2.2]; rfl

end Cert.Proof.DownDx

end
-- ==== Proof.Ffn.GateUpDw.lean ====
/- The weight gradient of the first feed-forward product: `dw = hᵀ · dab`, one slab of columns a device, summed two blocks of rows at a time. -/
module

public import proofs.«01_k».proof.Defs
public import proofs.«01_k».proof.Proof.Ffn.Sums
public import proofs.«01_k».proof.Proof.Gen.GateUpDwIdeal.Value
public import proofs.«01_k».proof.Proof.Gen.GateUpDw
public import proofs.«01_k».proof.Proof.Gen.GateUpDwRefIdeal.Run

@[expose] public section

set_option maxRecDepth 16384

noncomputable section

namespace Cert.GateUpDwIdeal.Ffn

open Cert.Ffn
open Cert.GateUpDwIdeal Cert.GateUpDwIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

section Cases
variable (c : Dev nD) (i : grid0.Coords)
  (a3 : Memref sig .tc .vmem S2048x512 .bf16) (h3 : a3.IsWhole) (a4 : Memref sig .tc .vmem S2048x2816 .bf16) (h4 : a4.IsWhole)
  (a5 : Memref sig .tc .vmem S1x512x2816 .f32) (h5 : a5.IsWhole) (a6 : Memref sig .tc .vmem S512x2816 .f32) (h6 : a6.IsWhole)
  (x : Vec Ideal S2048x512 .bf16) (w : Vec Ideal S2048x2816 .bf16) (s : Vec Ideal S512x2816 .f32)

/-- The first block of rows: the scratch is set to the block's product. -/
theorem first (hc0 : cond0_0 i) (hc1 : ¬cond0_1 i) (hc2 : ¬cond0_2 i) :
    sout0_A_0 c i a3 h3 a4 h4 a5 h5 a6 h6 hc0 hc1 hc2 x w = k0_pay2 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  simp only [View.readAt_eq_ld, h3.read_unread, h4.read_unread, View.ld_unit_zero (S := S2048x512) hz, View.ld_unit_zero (S := S2048x2816) hz]

/-- The last block: the scratch and the block's product together are the output. -/
theorem last (hc0 : ¬cond0_0 i) (hc1 : ¬cond0_1 i) (hc2 : cond0_2 i) :
    out0_B_2 c i a3 h3 a4 h4 a5 h5 a6 h6 hc0 hc1 hc2 x w s = k0_pay4 x w s := by
  unfold out0_B_2
  rw [View.read_writes_eq_canon _ _ _ (cover0_B_2 c i a3 h3 a4 h4 a5 h5 a6 h6 hc0 hc1 hc2 x w s)]
  unfold kernelRun0_B
  dsimp only
  rw [View.canon_unit_zero hz3]
  simp only [View.readAt_eq_ld, h3.read_unread, h4.read_unread, h6.read_unread, View.ld_unit_zero (S := S2048x512) hz, View.ld_unit_zero (S := S2048x2816) hz, View.ld_unit_zero (S := S512x2816) hz]

end Cases

theorem idx : ∀ t : Fin cfg0.N, win0_0.index t = ![t.val % 2, t.val / 2 / 4] ∧ win0_1.index t = ![t.val % 2, t.val / 2 % 4]
    ∧ win0_2.index t = ![t.val / 2 % 4, t.val / 2 / 4, 0] :=
  (by decide +kernel : ∀ t : Fin grid0.N, _)

/-- The summand of the entry in row `i` and column `j`. -/
abbrev term (c : Dev nD) (i j x : ℕ) : EReal := el (V m c main_arg0) x i * el (V m c main_arg1) x j

/-- The summand of the entry `y` of the `r`-th run's block. -/
abbrev runTerm (c : Dev nD) (r : ℕ) (y : S512x2816.Idx) : ℕ → EReal := term m c (r / 4 * 512 + (y 0).val) (r % 4 * 2816 + (y 1).val)

/-- The blocks a point reads. -/
abbrev xs (c : Dev nD) (t : Fin cfg0.N) : S2048x512.Idx → EReal := iblk m c 0 t
abbrev ws (c : Dev nD) (t : Fin cfg0.N) : S2048x2816.Idx → EReal := iblk m c 1 t

/-- A point's product, as summands of the whole one. -/
theorem part (c : Dev nD) (t : Fin cfg0.N) (y : S512x2816.Idx) (k : Fin 2048) :
    xs m c t (ix2 k (y 0)) * ws m c t (ix2 k (y 1)) = runTerm m c (t.val / 2) y (t.val % 2 * 2048 + k.val) := by
  unfold xs ws; blk_simp [iblk]
  exact congrArg₂ (· * ·) (el_eq _ _ _ _ (by blk_simp [idx t]) (by blk_simp [idx t])) (el_eq _ _ _ _ (by blk_simp [idx t]) (by blk_simp [idx t]))

theorem pay2_apply (x : Vec Ideal S2048x512 .bf16) (w : Vec Ideal S2048x2816 .bf16) (y : S512x2816.Idx) :
    k0_pay2 x w y = ∑ k : Fin 2048, (x (ix2 k (y 0)) : EReal) * (w (ix2 k (y 1)) : EReal) := by
  pointwise [k0_pay2, k0_pay1]

theorem pay4_apply (x : Vec Ideal S2048x512 .bf16) (w : Vec Ideal S2048x2816 .bf16) (s : Vec Ideal S512x2816 .f32) (y : S1x512x2816.Idx) :
    k0_pay4 x w s y = (s (ix2 (y 1) (y 2)) : EReal) + ∑ k : Fin 2048, (x (ix2 k (y 1)) : EReal) * (w (ix2 k (y 2)) : EReal) := by
  pointwise [k0_pay4, k0_pay1]

/-- A run's first point leaves its product in the scratch. -/
theorem scratch_first (c : Dev nD) (n : ℕ) (h : n < cfg0.N) (y : S512x2816.Idx) (e : n % 2 = 0) :
    (outsAt0 m c n h).2 y = ∑ k, xs m c ⟨n, h⟩ (ix2 k (y 0)) * ws m c ⟨n, h⟩ (ix2 k (y 1)) := by
  rw [outsAt0_A m c ⟨n, h⟩ e (show ¬n % 2 = 1 by omega), first]
  exact pay2_apply _ _ y

/-- The product, whole: one slab for each device. -/
def result (c : Dev nD) : Buf (Elt Ideal) ((c : Thread nD τ).loc main_v0) :=
  tab3 (A := 4) (B := 2048) (C := 2816) fun d i j => upto 4096 (term m c i (d * 2816 + j))

/-- The array the call leaves. -/
theorem arr (c : Dev nD) : (dats m 0 c).arrAt 2 cfg0.N = result m c := by
  refine (dats m 0 c).arrAt_eq_of_covers 2 _ (by decide +kernel) fun t hf y => ?_
  have hm : t.val % 2 = 1 := (flush0_2 t).mp hf
  blk_simp
  rw [after0_2, outsAt0_B m c t (by omega) hm, last]
  refine (pay4_apply _ _ _ y).trans ?_
  have h : (y 0).val < 1 := (y 0).isLt
  refine (run_total (nk := 2) _ _ (runTerm m c) (fun n h => part m c ⟨n, h⟩) (scratch_first m c) (fun _ _ _ _ e l => by omega) (ix2 (y 1) (y 2)) t.val t.isLt _
    (by decide) (by omega) 4096 rfl).trans ?_
  unfold result tab3
  blk_simp [idx t]
  rfl

end Cert.GateUpDwIdeal.Ffn

namespace Cert.Proof.GateUpDw

open Cert.Ffn Idealize.ShloMosaic Idealize.SL.Sem

/-- The reference's one product is the same sum. -/
theorem ref_eq (h : Vec Ideal Cert.GateUpDwRefIdeal.S4096x2048 .bf16) (d : Vec Ideal Cert.GateUpDwRefIdeal.S4096x11264 .bf16) :
    transpose Cert.GateUpDwRefIdeal.S4x2048x2816 [1, 0, 2] (shapeCast Cert.GateUpDwRefIdeal.S2048x4x2816 (transpose Cert.GateUpDwRefIdeal.S2048x11264 [1, 0] (Host.dotGeneral (F := Ideal) Cert.GateUpDwRefIdeal.dot_S4096x11264_S4096x2048_S11264x2048_0_0_1_1_n_n none
      (extf (F := Ideal) .f32 d Cert.GateUpDwRefIdeal.Gen.bitsLt_bf16_f32) (extf (F := Ideal) .f32 h Cert.GateUpDwRefIdeal.Gen.bitsLt_bf16_f32))
      Cert.GateUpDwRefIdeal.Gen.transposes_S11264x2048_S2048x11264_1_0) Cert.GateUpDwRefIdeal.Gen.shapeCasts_S2048x11264_S2048x4x2816)
      Cert.GateUpDwRefIdeal.Gen.transposes_S2048x4x2816_S4x2048x2816_1_0_2
      = tab3 (A := 4) (B := 2048) (C := 2816) (fun e i j => upto 4096 fun x => el h x i * el d x (e * 2816 + j)) := by
  funext y
  pointwise [tab3]
  exact sum_eq_upto _ _ fun k => (congrArg₂ (· * ·) (el_eq _ _ _ _ rfl rfl) (el_eq _ _ _ _ rfl rfl)).trans (mul_comm _ _)

theorem frame_ideal : Cert.quiescent_GateUpDwIdeal := fun m g _ => Cert.GateUpDwIdeal.Gen.frame (F := Ideal) m g

/-- The two programs' kernel bodies are the same, so the run is the same over any float values. -/
theorem frame : Cert.quiescent_GateUpDw := fun m g _ => by
  rw [show Cert.GateUpDw.defs (F := Bits) = Cert.GateUpDwIdeal.defs from
    congrArg (fun b => Pipeline.defs Cert.GateUpDw.pcfgs (Defs.onTc b)) (funext fun | 0 => rfl)]
  exact Cert.GateUpDwIdeal.Gen.frame (F := Bits) m g

theorem frame_reference : Cert.quiescent_GateUpDwRefIdeal := fun m g _ =>
  (θ_run Cert.GateUpDwRefIdeal.defs _ _).mono (fun r h => ⟨fun c => (h c).2, sem_eq_zero_of_no_sems (by decide) r.2⟩)
    (Cert.GateUpDwRefIdeal.Value.run (F := Ideal) m g)

theorem algebraic : Cert.algebraic_GateUpDwIdeal_GateUpDwRefIdeal := by
  intro m g m' g' _ hin
  refine ⟨Cert.GateUpDwIdeal.Ffn.result m, ?_, ?_⟩
  · exact (θ_run Cert.GateUpDwIdeal.defs _ _).mono (fun r h c => ⟨(h c).1.trans (Cert.GateUpDwIdeal.Ffn.arr m c), (h c).2⟩)
      (Cert.GateUpDwIdeal.Value.run_blocks (F := Ideal) m g)
  · exact (θ_run Cert.GateUpDwRefIdeal.defs _ _).mono (fun r h c => ⟨(h c).1.trans ((ref_eq _ _).trans (by rw [(hin c).1, (hin c).2]; rfl)), (h c).2⟩)
      (Cert.GateUpDwRefIdeal.Value.run (F := Ideal) m' g')

end Cert.Proof.GateUpDw

end
-- ==== Proof.Ffn.GateUpDx.lean ====
/- The input gradient of the first feed-forward product: `dh = dab · wᵀ`, summed four blocks of columns at a time. -/
module

public import proofs.«01_k».proof.Defs
public import proofs.«01_k».proof.Proof.Ffn.Sums
public import proofs.«01_k».proof.Proof.Gen.GateUpDxIdeal.Value
public import proofs.«01_k».proof.Proof.Gen.GateUpDx
public import proofs.«01_k».proof.Proof.Gen.GateUpDxRefIdeal.Run

@[expose] public section

set_option maxRecDepth 16384

noncomputable section

namespace Cert.GateUpDxIdeal.Ffn

open Cert.Ffn
open Cert.GateUpDxIdeal Cert.GateUpDxIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

section Cases
variable (c : Dev nD) (i : grid0.Coords)
  (a3 : Memref sig .tc .vmem S1024x2816 .bf16) (h3 : a3.IsWhole) (a4 : Memref sig .tc .vmem S1024x2816 .bf16) (h4 : a4.IsWhole)
  (a5 : Memref sig .tc .vmem S1024x1024 .f32) (h5 : a5.IsWhole) (a6 : Memref sig .tc .vmem S1024x1024 .f32) (h6 : a6.IsWhole)
  (x w : Vec Ideal S1024x2816 .bf16) (s : Vec Ideal S1024x1024 .f32)

/-- The first block of columns: the scratch is set to the block's product. -/
theorem first (hc0 : cond0_0 i) (hc1 : ¬cond0_1 i) (hc2 : ¬cond0_2 i) :
    sout0_A_0 c i a3 h3 a4 h4 a5 h5 a6 h6 hc0 hc1 hc2 x w = k0_pay2 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  simp only [View.readAt_eq_ld, h3.read_unread, h4.read_unread, View.ld_unit_zero (S := S1024x2816) hz]

/-- A block between: its product is added to the scratch. -/
theorem middle (hc0 : ¬cond0_0 i) (hc1 : cond0_1 i) (hc2 : ¬cond0_2 i) :
    sout0_B_0 c i a3 h3 a4 h4 a5 h5 a6 h6 hc0 hc1 hc2 x w s = k0_pay3 x w s := by
  unfold sout0_B_0
  rw [View.read_writes_eq_canon _ _ _ (scover0_B_0 c i a3 h3 a4 h4 a5 h5 a6 h6 hc0 hc1 hc2 x w s)]
  unfold kernelRun0_B
  dsimp only
  rw [View.canon_unit_zero hz]
  simp only [View.readAt_eq_ld, h3.read_unread, h4.read_unread, h6.read_unread, View.ld_unit_zero (S := S1024x2816) hz, View.ld_unit_zero (S := S1024x1024) hz]

/-- The last block: the scratch and the block's product together are the output. -/
theorem last (hc0 : ¬cond0_0 i) (hc1 : ¬cond0_1 i) (hc2 : cond0_2 i) :
    out0_C_2 c i a3 h3 a4 h4 a5 h5 a6 h6 hc0 hc1 hc2 x w s = k0_pay4 x w s := by
  unfold out0_C_2
  rw [View.read_writes_eq_canon _ _ _ (cover0_C_2 c i a3 h3 a4 h4 a5 h5 a6 h6 hc0 hc1 hc2 x w s)]
  unfold kernelRun0_C
  dsimp only
  rw [View.canon_unit_zero hz]
  simp only [View.readAt_eq_ld, h3.read_unread, h4.read_unread, h6.read_unread, View.ld_unit_zero (S := S1024x2816) hz, View.ld_unit_zero (S := S1024x1024) hz]

end Cases

theorem idx : ∀ t : Fin cfg0.N, win0_0.index t = ![t.val / 4 / 2, t.val % 4] ∧ win0_1.index t = ![t.val / 4 % 2, t.val % 4]
    ∧ win0_2.index t = ![t.val / 4 / 2, t.val / 4 % 2] :=
  (by decide +kernel : ∀ t : Fin grid0.N, _)

/-- The summand of the entry in row `i` and column `j`. -/
abbrev term (c : Dev nD) (i j x : ℕ) : EReal := el (V m c main_arg0) i x * el (V m c main_arg1) j x

/-- The summand of the entry `y` of the `r`-th run's block. -/
abbrev runTerm (c : Dev nD) (r : ℕ) (y : S1024x1024.Idx) : ℕ → EReal := term m c (r / 2 * 1024 + (y 0).val) (r % 2 * 1024 + (y 1).val)

/-- The blocks a point reads. -/
abbrev xs (c : Dev nD) (t : Fin cfg0.N) : S1024x2816.Idx → EReal := iblk m c 0 t
abbrev ws (c : Dev nD) (t : Fin cfg0.N) : S1024x2816.Idx → EReal := iblk m c 1 t

/-- A point's product, as summands of the whole one. -/
theorem part (c : Dev nD) (t : Fin cfg0.N) (y : S1024x1024.Idx) (k : Fin 2816) :
    xs m c t (ix2 (y 0) k) * ws m c t (ix2 (y 1) k)
      = runTerm m c (t.val / 4) y (t.val % 4 * 2816 + k.val) := by
  unfold xs ws; blk_simp [iblk]
  exact congrArg₂ (· * ·) (el_eq _ _ _ _ (by blk_simp [idx t]) (by blk_simp [idx t])) (el_eq _ _ _ _ (by blk_simp [idx t]) (by blk_simp [idx t]))

theorem pay2_apply (x w : Vec Ideal S1024x2816 .bf16) (y : S1024x1024.Idx) :
    k0_pay2 x w y = ∑ k : Fin 2816, (x (ix2 (y 0) k) : EReal) * (w (ix2 (y 1) k) : EReal) := by
  pointwise [k0_pay2, k0_pay1]

theorem pay3_apply (x w : Vec Ideal S1024x2816 .bf16) (s : Vec Ideal S1024x1024 .f32) (y : S1024x1024.Idx) :
    k0_pay3 x w s y = (s y : EReal) + ∑ k : Fin 2816, (x (ix2 (y 0) k) : EReal) * (w (ix2 (y 1) k) : EReal) := by
  pointwise [k0_pay3, k0_pay1]

theorem pay4_apply (x w : Vec Ideal S1024x2816 .bf16) (s : Vec Ideal S1024x1024 .f32) (y : S1024x1024.Idx) :
    k0_pay4 x w s y = (s y : EReal) + ∑ k : Fin 2816, (x (ix2 (y 0) k) : EReal) * (w (ix2 (y 1) k) : EReal) := by
  pointwise [k0_pay4, k0_pay1]

/-- A run's first point leaves its product in the scratch, the points between add theirs. -/
theorem scratch_first (c : Dev nD) (n : ℕ) (h : n < cfg0.N) (y : S1024x1024.Idx) (e : n % 4 = 0) :
    (outsAt0 m c n h).2 y = ∑ k, xs m c ⟨n, h⟩ (ix2 (y 0) k) * ws m c ⟨n, h⟩ (ix2 (y 1) k) := by
  rw [outsAt0_A m c ⟨n, h⟩ e (show ¬(1 ≤ n % 4 ∧ n % 4 ≤ 2) by omega) (show ¬n % 4 = 3 by omega), first]
  exact pay2_apply _ _ y

theorem scratch_next (c : Dev nD) (n : ℕ) (h : n + 1 < cfg0.N) (h' : n < cfg0.N) (y : S1024x1024.Idx) (e : (n + 1) % 4 ≠ 0) (l : (n + 1) % 4 + 1 ≠ 4) :
    (outsAt0 m c (n + 1) h).2 y = (outsAt0 m c n h').2 y + ∑ k, xs m c ⟨n + 1, h⟩ (ix2 (y 0) k) * ws m c ⟨n + 1, h⟩ (ix2 (y 1) k) := by
  rw [outsAt0_B m c ⟨n + 1, h⟩ e (show 1 ≤ (n + 1) % 4 ∧ (n + 1) % 4 ≤ 2 by omega) (show ¬(n + 1) % 4 = 3 by omega), middle]
  exact pay3_apply _ _ _ y

/-- The product, whole. -/
def result (c : Dev nD) : Buf (Elt Ideal) ((c : Thread nD τ).loc main_v0) :=
  tab (R := 4096) (C := 2048) fun i j => upto 11264 (term m c i j)

/-- The array the call leaves. -/
theorem arr (c : Dev nD) : (dats m 0 c).arrAt 2 cfg0.N = result m c := by
  refine (dats m 0 c).arrAt_eq_of_covers 2 _ (by decide +kernel) fun t hf y => ?_
  have hm : t.val % 4 = 3 := (flush0_2 t).mp hf
  blk_simp
  rw [after0_2, outsAt0_C m c t (by omega) (by omega) hm, last]
  refine (pay4_apply _ _ _ y).trans ?_
  refine (run_total (nk := 4) _ _ (runTerm m c) (fun n h => part m c ⟨n, h⟩) (scratch_first m c) (scratch_next m c) y t.val t.isLt _
    (by decide) (by omega) 11264 rfl).trans ?_
  unfold result tab
  blk_simp [idx t]

end Cert.GateUpDxIdeal.Ffn

namespace Cert.Proof.GateUpDx

open Cert.Ffn Idealize.ShloMosaic Idealize.SL.Sem

/-- The reference's one product is the same sum. -/
theorem ref_eq (a : Vec Ideal Cert.GateUpDxRefIdeal.S4096x11264 .bf16) (w : Vec Ideal Cert.GateUpDxRefIdeal.S2048x11264 .bf16) :
    Host.dotGeneral (F := Ideal) Cert.GateUpDxRefIdeal.dot_S4096x11264_S2048x11264_S4096x2048_1_1_0_0_n_n none
      (extf (F := Ideal) .f32 a Cert.GateUpDxRefIdeal.Gen.bitsLt_bf16_f32) (extf (F := Ideal) .f32 w Cert.GateUpDxRefIdeal.Gen.bitsLt_bf16_f32)
      = tab (R := 4096) (C := 2048) (fun i j => upto 11264 fun x => el a i x * el w j x) := by
  funext y
  pointwise [tab]
  exact sum_eq_upto _ _ fun k => congrArg₂ (· * ·) (el_eq _ _ _ _ rfl rfl) (el_eq _ _ _ _ rfl rfl)

theorem frame_ideal : Cert.quiescent_GateUpDxIdeal := fun m g _ => Cert.GateUpDxIdeal.Gen.frame (F := Ideal) m g

/-- The two programs' kernel bodies are the same, so the run is the same over any float values. -/
theorem frame : Cert.quiescent_GateUpDx := fun m g _ => by
  rw [show Cert.GateUpDx.defs (F := Bits) = Cert.GateUpDxIdeal.defs from
    congrArg (fun b => Pipeline.defs Cert.GateUpDx.pcfgs (Defs.onTc b)) (funext fun | 0 => rfl)]
  exact Cert.GateUpDxIdeal.Gen.frame (F := Bits) m g

theorem frame_reference : Cert.quiescent_GateUpDxRefIdeal := fun m g _ =>
  (θ_run Cert.GateUpDxRefIdeal.defs _ _).mono (fun r h => ⟨fun c => (h c).2, sem_eq_zero_of_no_sems (by decide) r.2⟩)
    (Cert.GateUpDxRefIdeal.Value.run (F := Ideal) m g)

theorem algebraic : Cert.algebraic_GateUpDxIdeal_GateUpDxRefIdeal := by
  intro m g m' g' _ hin
  refine ⟨Cert.GateUpDxIdeal.Ffn.result m, ?_, ?_⟩
  · exact (θ_run Cert.GateUpDxIdeal.defs _ _).mono (fun r h c => ⟨(h c).1.trans (Cert.GateUpDxIdeal.Ffn.arr m c), (h c).2⟩)
      (Cert.GateUpDxIdeal.Value.run_blocks (F := Ideal) m g)
  · exact (θ_run Cert.GateUpDxRefIdeal.defs _ _).mono (fun r h c => ⟨(h c).1.trans ((ref_eq _ _).trans (by rw [(hin c).1, (hin c).2]; rfl)), (h c).2⟩)
      (Cert.GateUpDxRefIdeal.Value.run (F := Ideal) m' g')

end Cert.Proof.GateUpDx

end
-- ==== Proof.Ffn.GateUpDwLow.lean ====
/- The second FFN's gradient of the gate and up weights, written in bfloat16: `dw = hᵀ · dab`, summed two blocks of rows at a time. -/
module

public import proofs.«01_k».proof.Defs
public import proofs.«01_k».proof.Proof.Ffn.Sums
public import proofs.«01_k».proof.Proof.Gen.GateUpDwLowIdeal.Value
public import proofs.«01_k».proof.Proof.Gen.GateUpDwLow
public import proofs.«01_k».proof.Proof.Gen.GateUpDwLowRefIdeal.Run

@[expose] public section

set_option maxRecDepth 16384

noncomputable section

namespace Cert.GateUpDwLowIdeal.Ffn

open Cert.Ffn
open Cert.GateUpDwLowIdeal Cert.GateUpDwLowIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

section Cases
variable (c : Dev nD) (i : grid0.Coords)
  (a3 : Memref sig .tc .vmem S2048x512 .bf16) (h3 : a3.IsWhole) (a4 : Memref sig .tc .vmem S2048x2816 .bf16) (h4 : a4.IsWhole)
  (a5 : Memref sig .tc .vmem S1x512x2816 .bf16) (h5 : a5.IsWhole) (a6 : Memref sig .tc .vmem S512x2816 .f32) (h6 : a6.IsWhole)
  (x : Vec Ideal S2048x512 .bf16) (w : Vec Ideal S2048x2816 .bf16) (s : Vec Ideal S512x2816 .f32)

/-- The first block of rows: the scratch is set to the block's product. -/
theorem first (hc0 : cond0_0 i) (hc1 : ¬cond0_1 i) (hc2 : ¬cond0_2 i) :
    sout0_A_0 c i a3 h3 a4 h4 a5 h5 a6 h6 hc0 hc1 hc2 x w = k0_pay2 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  simp only [View.readAt_eq_ld, h3.read_unread, h4.read_unread, View.ld_unit_zero (S := S2048x512) hz, View.ld_unit_zero (S := S2048x2816) hz]

/-- The last block: the scratch and the block's product together are the output. -/
theorem last (hc0 : ¬cond0_0 i) (hc1 : ¬cond0_1 i) (hc2 : cond0_2 i) :
    out0_B_2 c i a3 h3 a4 h4 a5 h5 a6 h6 hc0 hc1 hc2 x w s = k0_pay4 x w s := by
  unfold out0_B_2
  rw [View.read_writes_eq_canon _ _ _ (cover0_B_2 c i a3 h3 a4 h4 a5 h5 a6 h6 hc0 hc1 hc2 x w s)]
  unfold kernelRun0_B
  dsimp only
  rw [View.canon_unit_zero hz3]
  simp only [View.readAt_eq_ld, h3.read_unread, h4.read_unread, h6.read_unread, View.ld_unit_zero (S := S2048x512) hz, View.ld_unit_zero (S := S2048x2816) hz, View.ld_unit_zero (S := S512x2816) hz]

end Cases

theorem idx : ∀ t : Fin cfg0.N, win0_0.index t = ![t.val % 2, t.val / 2 / 4] ∧ win0_1.index t = ![t.val % 2, t.val / 2 % 4]
    ∧ win0_2.index t = ![t.val / 2 % 4, t.val / 2 / 4, 0] :=
  (by decide +kernel : ∀ t : Fin grid0.N, _)

/-- The summand of the entry in row `i` and column `j`. -/
abbrev term (c : Dev nD) (i j x : ℕ) : EReal := el (V m c main_arg0) x i * el (V m c main_arg1) x j

/-- The summand of the entry `y` of the `r`-th run's block. -/
abbrev runTerm (c : Dev nD) (r : ℕ) (y : S512x2816.Idx) : ℕ → EReal := term m c (r / 4 * 512 + (y 0).val) (r % 4 * 2816 + (y 1).val)

/-- The blocks a point reads. -/
abbrev xs (c : Dev nD) (t : Fin cfg0.N) : S2048x512.Idx → EReal := iblk m c 0 t
abbrev ws (c : Dev nD) (t : Fin cfg0.N) : S2048x2816.Idx → EReal := iblk m c 1 t

/-- A point's product, as summands of the whole one. -/
theorem part (c : Dev nD) (t : Fin cfg0.N) (y : S512x2816.Idx) (k : Fin 2048) :
    xs m c t (ix2 k (y 0)) * ws m c t (ix2 k (y 1)) = runTerm m c (t.val / 2) y (t.val % 2 * 2048 + k.val) := by
  unfold xs ws; blk_simp [iblk]
  exact congrArg₂ (· * ·) (el_eq _ _ _ _ (by blk_simp [idx t]) (by blk_simp [idx t])) (el_eq _ _ _ _ (by blk_simp [idx t]) (by blk_simp [idx t]))

theorem pay2_apply (x : Vec Ideal S2048x512 .bf16) (w : Vec Ideal S2048x2816 .bf16) (y : S512x2816.Idx) :
    k0_pay2 x w y = ∑ k : Fin 2048, (x (ix2 k (y 0)) : EReal) * (w (ix2 k (y 1)) : EReal) := by
  pointwise [k0_pay2, k0_pay1]

theorem pay4_apply (x : Vec Ideal S2048x512 .bf16) (w : Vec Ideal S2048x2816 .bf16) (s : Vec Ideal S512x2816 .f32) (y : S1x512x2816.Idx) :
    k0_pay4 x w s y = (s (ix2 (y 1) (y 2)) : EReal) + ∑ k : Fin 2048, (x (ix2 k (y 1)) : EReal) * (w (ix2 k (y 2)) : EReal) := by
  pointwise [k0_pay4, k0_pay1]

/-- A run's first point leaves its product in the scratch. -/
theorem scratch_first (c : Dev nD) (n : ℕ) (h : n < cfg0.N) (y : S512x2816.Idx) (e : n % 2 = 0) :
    (outsAt0 m c n h).2 y = ∑ k, xs m c ⟨n, h⟩ (ix2 k (y 0)) * ws m c ⟨n, h⟩ (ix2 k (y 1)) := by
  rw [outsAt0_A m c ⟨n, h⟩ e (show ¬n % 2 = 1 by omega), first]
  exact pay2_apply _ _ y

/-- The product, whole: one slab for each device. -/
def result (c : Dev nD) : Buf (Elt Ideal) ((c : Thread nD τ).loc main_v0) :=
  tab3 (A := 4) (B := 2048) (C := 2816) fun d i j => upto 4096 (term m c i (d * 2816 + j))

/-- The array the call leaves. -/
theorem arr (c : Dev nD) : (dats m 0 c).arrAt 2 cfg0.N = result m c := by
  refine (dats m 0 c).arrAt_eq_of_covers 2 _ (by decide +kernel) fun t hf y => ?_
  have hm : t.val % 2 = 1 := (flush0_2 t).mp hf
  blk_simp
  rw [after0_2, outsAt0_B m c t (by omega) hm, last]
  refine (pay4_apply _ _ _ y).trans ?_
  have h : (y 0).val < 1 := (y 0).isLt
  refine (run_total (nk := 2) _ _ (runTerm m c) (fun n h => part m c ⟨n, h⟩) (scratch_first m c) (fun _ _ _ _ e l => by omega) (ix2 (y 1) (y 2)) t.val t.isLt _
    (by decide) (by omega) 4096 rfl).trans ?_
  unfold result tab3
  blk_simp [idx t]
  rfl

end Cert.GateUpDwLowIdeal.Ffn

namespace Cert.Proof.GateUpDwLow

open Cert.Ffn Idealize.ShloMosaic Idealize.SL.Sem

/-- The reference's one product is the same sum. -/
theorem ref_eq (h : Vec Ideal Cert.GateUpDwLowRefIdeal.S4096x2048 .bf16) (d : Vec Ideal Cert.GateUpDwLowRefIdeal.S4096x11264 .bf16) :
    truncf (F := Ideal) .bf16 (transpose Cert.GateUpDwLowRefIdeal.S4x2048x2816 [1, 0, 2] (shapeCast Cert.GateUpDwLowRefIdeal.S2048x4x2816 (transpose Cert.GateUpDwLowRefIdeal.S2048x11264 [1, 0] (Host.dotGeneral (F := Ideal) Cert.GateUpDwLowRefIdeal.dot_S4096x11264_S4096x2048_S11264x2048_0_0_1_1_n_n none
      (extf (F := Ideal) .f32 d Cert.GateUpDwLowRefIdeal.Gen.bitsLt_bf16_f32) (extf (F := Ideal) .f32 h Cert.GateUpDwLowRefIdeal.Gen.bitsLt_bf16_f32))
      Cert.GateUpDwLowRefIdeal.Gen.transposes_S11264x2048_S2048x11264_1_0) Cert.GateUpDwLowRefIdeal.Gen.shapeCasts_S2048x11264_S2048x4x2816)
      Cert.GateUpDwLowRefIdeal.Gen.transposes_S2048x4x2816_S4x2048x2816_1_0_2) Cert.GateUpDwLowRefIdeal.Gen.bitsLt_bf16_f32
      = tab3 (A := 4) (B := 2048) (C := 2816) (fun e i j => upto 4096 fun x => el h x i * el d x (e * 2816 + j)) := by
  funext y
  pointwise [tab3]
  exact sum_eq_upto _ _ fun k => (congrArg₂ (· * ·) (el_eq _ _ _ _ rfl rfl) (el_eq _ _ _ _ rfl rfl)).trans (mul_comm _ _)

theorem frame_ideal : Cert.quiescent_GateUpDwLowIdeal := fun m g _ => Cert.GateUpDwLowIdeal.Gen.frame (F := Ideal) m g

/-- The two programs' kernel bodies are the same, so the run is the same over any float values. -/
theorem frame : Cert.quiescent_GateUpDwLow := fun m g _ => by
  rw [show Cert.GateUpDwLow.defs (F := Bits) = Cert.GateUpDwLowIdeal.defs from
    congrArg (fun b => Pipeline.defs Cert.GateUpDwLow.pcfgs (Defs.onTc b)) (funext fun | 0 => rfl)]
  exact Cert.GateUpDwLowIdeal.Gen.frame (F := Bits) m g

theorem frame_reference : Cert.quiescent_GateUpDwLowRefIdeal := fun m g _ =>
  (θ_run Cert.GateUpDwLowRefIdeal.defs _ _).mono (fun r h => ⟨fun c => (h c).2, sem_eq_zero_of_no_sems (by decide) r.2⟩)
    (Cert.GateUpDwLowRefIdeal.Value.run (F := Ideal) m g)

theorem algebraic : Cert.algebraic_GateUpDwLowIdeal_GateUpDwLowRefIdeal := by
  intro m g m' g' _ hin
  refine ⟨Cert.GateUpDwLowIdeal.Ffn.result m, ?_, ?_⟩
  · exact (θ_run Cert.GateUpDwLowIdeal.defs _ _).mono (fun r h c => ⟨(h c).1.trans (Cert.GateUpDwLowIdeal.Ffn.arr m c), (h c).2⟩)
      (Cert.GateUpDwLowIdeal.Value.run_blocks (F := Ideal) m g)
  · exact (θ_run Cert.GateUpDwLowRefIdeal.defs _ _).mono (fun r h c => ⟨(h c).1.trans ((ref_eq _ _).trans (by rw [(hin c).1, (hin c).2]; rfl)), (h c).2⟩)
      (Cert.GateUpDwLowRefIdeal.Value.run (F := Ideal) m' g')

end Cert.Proof.GateUpDwLow

end
-- ==== Proof.Mix.MixIn.lean ====
/- The mixer's input projection `proj = h · w`. -/
module

public import proofs.«01_k».proof.Defs
public import proofs.«01_k».proof.Proof.Ffn.Sums
public import proofs.«01_k».proof.Proof.Gen.MixInIdeal.Value
public import proofs.«01_k».proof.Proof.Gen.MixIn
public import proofs.«01_k».proof.Proof.Gen.MixInRefIdeal.Run

@[expose] public section

set_option maxRecDepth 16384

noncomputable section

namespace Cert.MixInIdeal.Ffn

open Cert.Ffn
open Cert.MixInIdeal Cert.MixInIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- A summand of the product's entry `(i, j)`: the `x`-th of the sum over the columns. -/
def term (c : Dev nD) (i j : ℕ) : ℕ → EReal := fun x =>
  el (R := 4096) (C := 2048) (m ((c : Thread nD τ).loc main_arg0)) i x * el (R := 2048) (C := 7296) (m ((c : Thread nD τ).loc main_arg1)) x j

/-- The product's entry `(i, j)`. -/
def prod (c : Dev nD) (i j : ℕ) : EReal := upto 2048 (term m c i j)

/-- The blocks a point reads. -/
abbrev xs (c : Dev nD) (t : Fin cfg0.N) : S512x2048.Idx → EReal := iblk m c 0 t
abbrev ws (c : Dev nD) (t : Fin cfg0.N) : S2048x2432.Idx → EReal := iblk m c 1 t

/-- Which block a point reads and writes: the columns move outermost. -/
theorem idx : ∀ t : Fin cfg0.N,
    ((cfg0.win 0).index t 0 = t.val % 8 ∧ (cfg0.win 0).index t 1 = 0) ∧ ((cfg0.win 1).index t 0 = 0 ∧ (cfg0.win 1).index t 1 = t.val / 8)
      ∧ ((cfg0.win 2).index t 0 = t.val % 8 ∧ (cfg0.win 2).index t 1 = t.val / 8) := by
  decide +kernel

theorem pay1_apply (x : Vec Ideal S512x2048 .bf16) (w : Vec Ideal S2048x2432 .bf16) (y : S512x2432.Idx) :
    k0_pay1 x w y = ∑ k : Fin 2048, (x (ix2 (y 0) k) : EReal) * (w (ix2 k (y 1)) : EReal) := by
  pointwise [k0_pay1]

/-- A point's product is its block of the whole one. -/
theorem block (c : Dev nD) (t : Fin cfg0.N) (y : S512x2432.Idx) :
    k0_pay1 (F := Ideal) (iblk m c 0 t) (iblk m c 1 t) y = prod m c (t.val % 8 * 512 + (y 0).val) (t.val / 8 * 2432 + (y 1).val) := by
  refine (pay1_apply (xs m c t) (ws m c t) y).trans ?_
  refine sum_eq_upto _ _ fun k => ?_
  unfold xs ws; blk_simp [iblk]
  exact congrArg₂ (· * ·) (el_eq _ _ _ _ (by blk_simp [idx t]) (by blk_simp [idx t])) (el_eq _ _ _ _ (by blk_simp [idx t]) (by blk_simp [idx t]))

/-- The product, whole. -/
def result (c : Dev nD) : Buf (Elt Ideal) ((c : Thread nD τ).loc main_v0) :=
  tab (R := 4096) (C := 7296) (prod m c)

theorem arr (c : Dev nD) : (dats m 0 c).arrAt 2 cfg0.N = result m c := by
  refine (dats m 0 c).arrAt_eq_of_covers 2 _ (by decide +kernel) fun t hf y => ?_
  blk_simp
  rw [after0_2]
  unfold out0_2
  rw [View.canon_unit_zero hz]
  simp only [View.ld_unit_zero (S := S512x2048) hz, View.ld_unit_zero (S := S2048x2432) hz]
  refine (block m c t y).trans ?_
  unfold result tab
  blk_simp [idx t]

end Cert.MixInIdeal.Ffn

namespace Cert.Proof.MixIn

open Cert.Ffn Idealize.ShloMosaic Idealize.SL.Sem

/-- The reference's product is the same sum. -/
theorem ref_eq (h : Vec Ideal Cert.MixInRefIdeal.S4096x2048 .bf16) (w : Vec Ideal Cert.MixInRefIdeal.S2048x7296 .bf16) :
    Host.dotGeneral (F := Ideal) Cert.MixInRefIdeal.dot_S4096x2048_S2048x7296_S4096x7296_1_0_0_1_n_n none
      (extf (F := Ideal) .f32 h Cert.MixInRefIdeal.Gen.bitsLt_bf16_f32) (extf (F := Ideal) .f32 w Cert.MixInRefIdeal.Gen.bitsLt_bf16_f32)
      = tab (R := 4096) (C := 7296) (fun i j => upto 2048 fun x => el h i x * el w x j) := by
  funext y
  pointwise [tab]
  exact sum_eq_upto _ _ fun k => congrArg₂ (· * ·) (el_eq _ _ _ _ rfl rfl) (el_eq _ _ _ _ rfl rfl)

theorem frame_ideal : Cert.quiescent_MixInIdeal := fun m g _ => Cert.MixInIdeal.Gen.frame (F := Ideal) m g

/-- The two programs' kernel bodies are the same, so the run is the same over any float values. -/
theorem frame : Cert.quiescent_MixIn := fun m g _ => by
  rw [show Cert.MixIn.defs (F := Bits) = Cert.MixInIdeal.defs from
    congrArg (fun b => Pipeline.defs Cert.MixIn.pcfgs (Defs.onTc b)) (funext fun | 0 => rfl)]
  exact Cert.MixInIdeal.Gen.frame (F := Bits) m g

theorem frame_reference : Cert.quiescent_MixInRefIdeal := fun m g _ =>
  (θ_run Cert.MixInRefIdeal.defs _ _).mono (fun r h => ⟨fun c => (h c).2, sem_eq_zero_of_no_sems (by decide) r.2⟩)
    (Cert.MixInRefIdeal.Value.run (F := Ideal) m g)

theorem algebraic : Cert.algebraic_MixInIdeal_MixInRefIdeal := by
  intro m g m' g' _ hin
  refine ⟨Cert.MixInIdeal.Ffn.result m, ?_, ?_⟩
  · exact (θ_run Cert.MixInIdeal.defs _ _).mono (fun r h c => ⟨(h c).1.trans (Cert.MixInIdeal.Ffn.arr m c), (h c).2⟩)
      (Cert.MixInIdeal.Value.run_blocks (F := Ideal) m g)
  · exact (θ_run Cert.MixInRefIdeal.defs _ _).mono (fun r h c => ⟨(h c).1.trans ((ref_eq _ _).trans (by rw [(hin c).1, (hin c).2]; rfl)), (h c).2⟩)
      (Cert.MixInRefIdeal.Value.run (F := Ideal) m' g')

end Cert.Proof.MixIn

end
-- ==== Proof.Mix.MixInDw.lean ====
/- The gradient of the input projection's weight: `dw = hᵀ · dproj`, summed two blocks of rows at a time. -/
module

public import proofs.«01_k».proof.Defs
public import proofs.«01_k».proof.Proof.Ffn.Sums
public import proofs.«01_k».proof.Proof.Gen.MixInDwIdeal.Value
public import proofs.«01_k».proof.Proof.Gen.MixInDw
public import proofs.«01_k».proof.Proof.Gen.MixInDwRefIdeal.Run

@[expose] public section

set_option maxRecDepth 16384

noncomputable section

namespace Cert.MixInDwIdeal.Ffn

open Cert.Ffn
open Cert.MixInDwIdeal Cert.MixInDwIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

section Cases
variable (c : Dev nD) (i : grid0.Coords)
  (a3 : Memref sig .tc .vmem S2048x512 .bf16) (h3 : a3.IsWhole) (a4 : Memref sig .tc .vmem S2048x2432 .bf16) (h4 : a4.IsWhole)
  (a5 : Memref sig .tc .vmem S512x2432 .bf16) (h5 : a5.IsWhole) (a6 : Memref sig .tc .vmem S512x2432 .f32) (h6 : a6.IsWhole)
  (x : Vec Ideal S2048x512 .bf16) (w : Vec Ideal S2048x2432 .bf16) (s : Vec Ideal S512x2432 .f32)

/-- The first block of rows: the scratch is set to the block's product. -/
theorem first (hc0 : cond0_0 i) (hc1 : ¬cond0_1 i) (hc2 : ¬cond0_2 i) :
    sout0_A_0 c i a3 h3 a4 h4 a5 h5 a6 h6 hc0 hc1 hc2 x w = k0_pay2 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  simp only [View.readAt_eq_ld, h3.read_unread, h4.read_unread, View.ld_unit_zero (S := S2048x512) hz, View.ld_unit_zero (S := S2048x2432) hz]

/-- The last block: the scratch and the block's product together are the output. -/
theorem last (hc0 : ¬cond0_0 i) (hc1 : ¬cond0_1 i) (hc2 : cond0_2 i) :
    out0_B_2 c i a3 h3 a4 h4 a5 h5 a6 h6 hc0 hc1 hc2 x w s = k0_pay4 x w s := by
  unfold out0_B_2
  rw [View.read_writes_eq_canon _ _ _ (cover0_B_2 c i a3 h3 a4 h4 a5 h5 a6 h6 hc0 hc1 hc2 x w s)]
  unfold kernelRun0_B
  dsimp only
  rw [View.canon_unit_zero hz]
  simp only [View.readAt_eq_ld, h3.read_unread, h4.read_unread, h6.read_unread, View.ld_unit_zero (S := S2048x512) hz, View.ld_unit_zero (S := S2048x2432) hz, View.ld_unit_zero (S := S512x2432) hz]

end Cases

theorem idx : ∀ t : Fin cfg0.N, win0_0.index t = ![t.val % 2, t.val / 2 / 3] ∧ win0_1.index t = ![t.val % 2, t.val / 2 % 3]
    ∧ win0_2.index t = ![t.val / 2 / 3, t.val / 2 % 3] :=
  (by decide +kernel : ∀ t : Fin grid0.N, _)

/-- The summand of the entry in row `i` and column `j`. -/
abbrev term (c : Dev nD) (i j x : ℕ) : EReal := el (V m c main_arg0) x i * el (V m c main_arg1) x j

/-- The summand of the entry `y` of the `r`-th run's block. -/
abbrev runTerm (c : Dev nD) (r : ℕ) (y : S512x2432.Idx) : ℕ → EReal := term m c (r / 3 * 512 + (y 0).val) (r % 3 * 2432 + (y 1).val)

/-- The blocks a point reads. -/
abbrev xs (c : Dev nD) (t : Fin cfg0.N) : S2048x512.Idx → EReal := iblk m c 0 t
abbrev ws (c : Dev nD) (t : Fin cfg0.N) : S2048x2432.Idx → EReal := iblk m c 1 t

/-- A point's product, as summands of the whole one. -/
theorem part (c : Dev nD) (t : Fin cfg0.N) (y : S512x2432.Idx) (k : Fin 2048) :
    xs m c t (ix2 k (y 0)) * ws m c t (ix2 k (y 1)) = runTerm m c (t.val / 2) y (t.val % 2 * 2048 + k.val) := by
  unfold xs ws; blk_simp [iblk]
  exact congrArg₂ (· * ·) (el_eq _ _ _ _ (by blk_simp [idx t]) (by blk_simp [idx t])) (el_eq _ _ _ _ (by blk_simp [idx t]) (by blk_simp [idx t]))

theorem pay2_apply (x : Vec Ideal S2048x512 .bf16) (w : Vec Ideal S2048x2432 .bf16) (y : S512x2432.Idx) :
    k0_pay2 x w y = ∑ k : Fin 2048, (x (ix2 k (y 0)) : EReal) * (w (ix2 k (y 1)) : EReal) := by
  pointwise [k0_pay2, k0_pay1]

theorem pay4_apply (x : Vec Ideal S2048x512 .bf16) (w : Vec Ideal S2048x2432 .bf16) (s : Vec Ideal S512x2432 .f32) (y : S512x2432.Idx) :
    k0_pay4 x w s y = (s y : EReal) + ∑ k : Fin 2048, (x (ix2 k (y 0)) : EReal) * (w (ix2 k (y 1)) : EReal) := by
  pointwise [k0_pay4, k0_pay1]

/-- A run's first point leaves its product in the scratch. -/
theorem scratch_first (c : Dev nD) (n : ℕ) (h : n < cfg0.N) (y : S512x2432.Idx) (e : n % 2 = 0) :
    (outsAt0 m c n h).2 y = ∑ k, xs m c ⟨n, h⟩ (ix2 k (y 0)) * ws m c ⟨n, h⟩ (ix2 k (y 1)) := by
  rw [outsAt0_A m c ⟨n, h⟩ e (show ¬n % 2 = 1 by omega), first]
  exact pay2_apply _ _ y

/-- The product, whole. -/
def result (c : Dev nD) : Buf (Elt Ideal) ((c : Thread nD τ).loc main_v0) :=
  tab (R := 2048) (C := 7296) fun i j => upto 4096 (term m c i j)

/-- The array the call leaves. -/
theorem arr (c : Dev nD) : (dats m 0 c).arrAt 2 cfg0.N = result m c := by
  refine (dats m 0 c).arrAt_eq_of_covers 2 _ (by decide +kernel) fun t hf y => ?_
  have hm : t.val % 2 = 1 := (flush0_2 t).mp hf
  blk_simp
  rw [after0_2, outsAt0_B m c t (by omega) hm, last]
  refine (pay4_apply _ _ _ y).trans ?_
  refine (run_total (nk := 2) _ _ (runTerm m c) (fun n h => part m c ⟨n, h⟩) (scratch_first m c) (fun _ _ _ _ e l => by omega) y t.val t.isLt _
    (by decide) (by omega) 4096 rfl).trans ?_
  unfold result tab
  blk_simp [idx t]

end Cert.MixInDwIdeal.Ffn

namespace Cert.Proof.MixInDw

open Cert.Ffn Idealize.ShloMosaic Idealize.SL.Sem

/-- The reference's one product is the same sum. -/
theorem ref_eq (s : Vec Ideal Cert.MixInDwRefIdeal.S4096x2048 .bf16) (d : Vec Ideal Cert.MixInDwRefIdeal.S4096x7296 .bf16) :
    truncf (F := Ideal) .bf16 (transpose Cert.MixInDwRefIdeal.S2048x7296 [1, 0] (Host.dotGeneral (F := Ideal) Cert.MixInDwRefIdeal.dot_S4096x7296_S4096x2048_S7296x2048_0_0_1_1_n_n none
      (extf (F := Ideal) .f32 d Cert.MixInDwRefIdeal.Gen.bitsLt_bf16_f32) (extf (F := Ideal) .f32 s Cert.MixInDwRefIdeal.Gen.bitsLt_bf16_f32))
      Cert.MixInDwRefIdeal.Gen.transposes_S7296x2048_S2048x7296_1_0) Cert.MixInDwRefIdeal.Gen.bitsLt_bf16_f32
      = tab (R := 2048) (C := 7296) (fun i j => upto 4096 fun x => el s x i * el d x j) := by
  funext y
  pointwise [tab]
  exact sum_eq_upto _ _ fun k => (congrArg₂ (· * ·) (el_eq _ _ _ _ rfl rfl) (el_eq _ _ _ _ rfl rfl)).trans (mul_comm _ _)

theorem frame_ideal : Cert.quiescent_MixInDwIdeal := fun m g _ => Cert.MixInDwIdeal.Gen.frame (F := Ideal) m g

/-- The two programs' kernel bodies are the same, so the run is the same over any float values. -/
theorem frame : Cert.quiescent_MixInDw := fun m g _ => by
  rw [show Cert.MixInDw.defs (F := Bits) = Cert.MixInDwIdeal.defs from
    congrArg (fun b => Pipeline.defs Cert.MixInDw.pcfgs (Defs.onTc b)) (funext fun | 0 => rfl)]
  exact Cert.MixInDwIdeal.Gen.frame (F := Bits) m g

theorem frame_reference : Cert.quiescent_MixInDwRefIdeal := fun m g _ =>
  (θ_run Cert.MixInDwRefIdeal.defs _ _).mono (fun r h => ⟨fun c => (h c).2, sem_eq_zero_of_no_sems (by decide) r.2⟩)
    (Cert.MixInDwRefIdeal.Value.run (F := Ideal) m g)

theorem algebraic : Cert.algebraic_MixInDwIdeal_MixInDwRefIdeal := by
  intro m g m' g' _ hin
  refine ⟨Cert.MixInDwIdeal.Ffn.result m, ?_, ?_⟩
  · exact (θ_run Cert.MixInDwIdeal.defs _ _).mono (fun r h c => ⟨(h c).1.trans (Cert.MixInDwIdeal.Ffn.arr m c), (h c).2⟩)
      (Cert.MixInDwIdeal.Value.run_blocks (F := Ideal) m g)
  · exact (θ_run Cert.MixInDwRefIdeal.defs _ _).mono (fun r h c => ⟨(h c).1.trans ((ref_eq _ _).trans (by rw [(hin c).1, (hin c).2]; rfl)), (h c).2⟩)
      (Cert.MixInDwRefIdeal.Value.run (F := Ideal) m' g')

end Cert.Proof.MixInDw

end
-- ==== Proof.Mix.MixInDx.lean ====
/- The input gradient of the mixer's input projection: `dh = dproj · wᵀ`, summed three blocks of columns at a time. -/
module

public import proofs.«01_k».proof.Defs
public import proofs.«01_k».proof.Proof.Ffn.Sums
public import proofs.«01_k».proof.Proof.Gen.MixInDxIdeal.Value
public import proofs.«01_k».proof.Proof.Gen.MixInDx
public import proofs.«01_k».proof.Proof.Gen.MixInDxRefIdeal.Run

@[expose] public section

set_option maxRecDepth 16384

noncomputable section

namespace Cert.MixInDxIdeal.Ffn

open Cert.Ffn
open Cert.MixInDxIdeal Cert.MixInDxIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

section Cases
variable (c : Dev nD) (i : grid0.Coords)
  (a3 : Memref sig .tc .vmem S1024x2432 .bf16) (h3 : a3.IsWhole) (a4 : Memref sig .tc .vmem S1024x2432 .bf16) (h4 : a4.IsWhole)
  (a5 : Memref sig .tc .vmem S1024x1024 .f32) (h5 : a5.IsWhole) (a6 : Memref sig .tc .vmem S1024x1024 .f32) (h6 : a6.IsWhole)
  (x w : Vec Ideal S1024x2432 .bf16) (s : Vec Ideal S1024x1024 .f32)

/-- The first block of columns: the scratch is set to the block's product. -/
theorem first (hc0 : cond0_0 i) (hc1 : ¬cond0_1 i) (hc2 : ¬cond0_2 i) :
    sout0_A_0 c i a3 h3 a4 h4 a5 h5 a6 h6 hc0 hc1 hc2 x w = k0_pay2 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  simp only [View.readAt_eq_ld, h3.read_unread, h4.read_unread, View.ld_unit_zero (S := S1024x2432) hz]

/-- A block between: its product is added to the scratch. -/
theorem middle (hc0 : ¬cond0_0 i) (hc1 : cond0_1 i) (hc2 : ¬cond0_2 i) :
    sout0_B_0 c i a3 h3 a4 h4 a5 h5 a6 h6 hc0 hc1 hc2 x w s = k0_pay3 x w s := by
  unfold sout0_B_0
  rw [View.read_writes_eq_canon _ _ _ (scover0_B_0 c i a3 h3 a4 h4 a5 h5 a6 h6 hc0 hc1 hc2 x w s)]
  unfold kernelRun0_B
  dsimp only
  rw [View.canon_unit_zero hz]
  simp only [View.readAt_eq_ld, h3.read_unread, h4.read_unread, h6.read_unread, View.ld_unit_zero (S := S1024x2432) hz, View.ld_unit_zero (S := S1024x1024) hz]

/-- The last block: the scratch and the block's product together are the output. -/
theorem last (hc0 : ¬cond0_0 i) (hc1 : ¬cond0_1 i) (hc2 : cond0_2 i) :
    out0_C_2 c i a3 h3 a4 h4 a5 h5 a6 h6 hc0 hc1 hc2 x w s = k0_pay4 x w s := by
  unfold out0_C_2
  rw [View.read_writes_eq_canon _ _ _ (cover0_C_2 c i a3 h3 a4 h4 a5 h5 a6 h6 hc0 hc1 hc2 x w s)]
  unfold kernelRun0_C
  dsimp only
  rw [View.canon_unit_zero hz]
  simp only [View.readAt_eq_ld, h3.read_unread, h4.read_unread, h6.read_unread, View.ld_unit_zero (S := S1024x2432) hz, View.ld_unit_zero (S := S1024x1024) hz]

end Cases

theorem idx : ∀ t : Fin cfg0.N, win0_0.index t = ![t.val / 3 / 2, t.val % 3] ∧ win0_1.index t = ![t.val / 3 % 2, t.val % 3]
    ∧ win0_2.index t = ![t.val / 3 / 2, t.val / 3 % 2] :=
  (by decide +kernel : ∀ t : Fin grid0.N, _)

/-- The summand of the entry in row `i` and column `j`. -/
abbrev term (c : Dev nD) (i j x : ℕ) : EReal := el (V m c main_arg0) i x * el (V m c main_arg1) j x

/-- The summand of the entry `y` of the `r`-th run's block. -/
abbrev runTerm (c : Dev nD) (r : ℕ) (y : S1024x1024.Idx) : ℕ → EReal := term m c (r / 2 * 1024 + (y 0).val) (r % 2 * 1024 + (y 1).val)

/-- The blocks a point reads. -/
abbrev xs (c : Dev nD) (t : Fin cfg0.N) : S1024x2432.Idx → EReal := iblk m c 0 t
abbrev ws (c : Dev nD) (t : Fin cfg0.N) : S1024x2432.Idx → EReal := iblk m c 1 t

/-- A point's product, as summands of the whole one. -/
theorem part (c : Dev nD) (t : Fin cfg0.N) (y : S1024x1024.Idx) (k : Fin 2432) :
    xs m c t (ix2 (y 0) k) * ws m c t (ix2 (y 1) k)
      = runTerm m c (t.val / 3) y (t.val % 3 * 2432 + k.val) := by
  unfold xs ws; blk_simp [iblk]
  exact congrArg₂ (· * ·) (el_eq _ _ _ _ (by blk_simp [idx t]) (by blk_simp [idx t])) (el_eq _ _ _ _ (by blk_simp [idx t]) (by blk_simp [idx t]))

theorem pay2_apply (x w : Vec Ideal S1024x2432 .bf16) (y : S1024x1024.Idx) :
    k0_pay2 x w y = ∑ k : Fin 2432, (x (ix2 (y 0) k) : EReal) * (w (ix2 (y 1) k) : EReal) := by
  pointwise [k0_pay2, k0_pay1]

theorem pay3_apply (x w : Vec Ideal S1024x2432 .bf16) (s : Vec Ideal S1024x1024 .f32) (y : S1024x1024.Idx) :
    k0_pay3 x w s y = (s y : EReal) + ∑ k : Fin 2432, (x (ix2 (y 0) k) : EReal) * (w (ix2 (y 1) k) : EReal) := by
  pointwise [k0_pay3, k0_pay1]

theorem pay4_apply (x w : Vec Ideal S1024x2432 .bf16) (s : Vec Ideal S1024x1024 .f32) (y : S1024x1024.Idx) :
    k0_pay4 x w s y = (s y : EReal) + ∑ k : Fin 2432, (x (ix2 (y 0) k) : EReal) * (w (ix2 (y 1) k) : EReal) := by
  pointwise [k0_pay4, k0_pay1]

/-- A run's first point leaves its product in the scratch, the second adds its own. -/
theorem scratch_first (c : Dev nD) (n : ℕ) (h : n < cfg0.N) (y : S1024x1024.Idx) (e : n % 3 = 0) :
    (outsAt0 m c n h).2 y = ∑ k, xs m c ⟨n, h⟩ (ix2 (y 0) k) * ws m c ⟨n, h⟩ (ix2 (y 1) k) := by
  rw [outsAt0_A m c ⟨n, h⟩ e (show ¬n % 3 = 1 by omega) (show ¬n % 3 = 2 by omega), first]
  exact pay2_apply _ _ y

theorem scratch_next (c : Dev nD) (n : ℕ) (h : n + 1 < cfg0.N) (h' : n < cfg0.N) (y : S1024x1024.Idx) (e : (n + 1) % 3 ≠ 0) (l : (n + 1) % 3 + 1 ≠ 3) :
    (outsAt0 m c (n + 1) h).2 y = (outsAt0 m c n h').2 y + ∑ k, xs m c ⟨n + 1, h⟩ (ix2 (y 0) k) * ws m c ⟨n + 1, h⟩ (ix2 (y 1) k) := by
  rw [outsAt0_B m c ⟨n + 1, h⟩ e (show (n + 1) % 3 = 1 by omega) (show ¬(n + 1) % 3 = 2 by omega), middle]
  exact pay3_apply _ _ _ y

/-- The product, whole. -/
def result (c : Dev nD) : Buf (Elt Ideal) ((c : Thread nD τ).loc main_v0) :=
  tab (R := 4096) (C := 2048) fun i j => upto 7296 (term m c i j)

/-- The array the call leaves. -/
theorem arr (c : Dev nD) : (dats m 0 c).arrAt 2 cfg0.N = result m c := by
  refine (dats m 0 c).arrAt_eq_of_covers 2 _ (by decide +kernel) fun t hf y => ?_
  have hm : t.val % 3 = 2 := (flush0_2 t).mp hf
  blk_simp
  rw [after0_2, outsAt0_C m c t (by omega) (by omega) hm, last]
  refine (pay4_apply _ _ _ y).trans ?_
  refine (run_total (nk := 3) _ _ (runTerm m c) (fun n h => part m c ⟨n, h⟩) (scratch_first m c) (scratch_next m c) y t.val t.isLt _
    (by decide) (by omega) 7296 rfl).trans ?_
  unfold result tab
  blk_simp [idx t]

end Cert.MixInDxIdeal.Ffn

namespace Cert.Proof.MixInDx

open Cert.Ffn Idealize.ShloMosaic Idealize.SL.Sem

/-- The reference's one product is the same sum. -/
theorem ref_eq (a : Vec Ideal Cert.MixInDxRefIdeal.S4096x7296 .bf16) (w : Vec Ideal Cert.MixInDxRefIdeal.S2048x7296 .bf16) :
    Host.dotGeneral (F := Ideal) Cert.MixInDxRefIdeal.dot_S4096x7296_S2048x7296_S4096x2048_1_1_0_0_n_n none
      (extf (F := Ideal) .f32 a Cert.MixInDxRefIdeal.Gen.bitsLt_bf16_f32) (extf (F := Ideal) .f32 w Cert.MixInDxRefIdeal.Gen.bitsLt_bf16_f32)
      = tab (R := 4096) (C := 2048) (fun i j => upto 7296 fun x => el a i x * el w j x) := by
  funext y
  pointwise [tab]
  exact sum_eq_upto _ _ fun k => congrArg₂ (· * ·) (el_eq _ _ _ _ rfl rfl) (el_eq _ _ _ _ rfl rfl)

theorem frame_ideal : Cert.quiescent_MixInDxIdeal := fun m g _ => Cert.MixInDxIdeal.Gen.frame (F := Ideal) m g

/-- The two programs' kernel bodies are the same, so the run is the same over any float values. -/
theorem frame : Cert.quiescent_MixInDx := fun m g _ => by
  rw [show Cert.MixInDx.defs (F := Bits) = Cert.MixInDxIdeal.defs from
    congrArg (fun b => Pipeline.defs Cert.MixInDx.pcfgs (Defs.onTc b)) (funext fun | 0 => rfl)]
  exact Cert.MixInDxIdeal.Gen.frame (F := Bits) m g

theorem frame_reference : Cert.quiescent_MixInDxRefIdeal := fun m g _ =>
  (θ_run Cert.MixInDxRefIdeal.defs _ _).mono (fun r h => ⟨fun c => (h c).2, sem_eq_zero_of_no_sems (by decide) r.2⟩)
    (Cert.MixInDxRefIdeal.Value.run (F := Ideal) m g)

theorem algebraic : Cert.algebraic_MixInDxIdeal_MixInDxRefIdeal := by
  intro m g m' g' _ hin
  refine ⟨Cert.MixInDxIdeal.Ffn.result m, ?_, ?_⟩
  · exact (θ_run Cert.MixInDxIdeal.defs _ _).mono (fun r h c => ⟨(h c).1.trans (Cert.MixInDxIdeal.Ffn.arr m c), (h c).2⟩)
      (Cert.MixInDxIdeal.Value.run_blocks (F := Ideal) m g)
  · exact (θ_run Cert.MixInDxRefIdeal.defs _ _).mono (fun r h c => ⟨(h c).1.trans ((ref_eq _ _).trans (by rw [(hin c).1, (hin c).2]; rfl)), (h c).2⟩)
      (Cert.MixInDxRefIdeal.Value.run (F := Ideal) m' g')

end Cert.Proof.MixInDx

end
-- ==== Proof.Mix.MixOut.lean ====
/- The mixer's output projection `mo = o · w` and the residual `x + gate * mo`. -/
module

public import proofs.«01_k».proof.Defs
public import proofs.«01_k».proof.Proof.Ffn.Sums
public import proofs.«01_k».proof.Proof.Gen.MixOutIdeal.Value
public import proofs.«01_k».proof.Proof.Gen.MixOut
public import proofs.«01_k».proof.Proof.Gen.MixOutRefIdeal.Run

@[expose] public section

set_option maxRecDepth 16384

noncomputable section

namespace Cert.MixOutIdeal.Ffn

open Cert.Ffn
open Cert.MixOutIdeal Cert.MixOutIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- A summand of the product's entry `(i, j)`. -/
def term (c : Dev nD) (i j : ℕ) : ℕ → EReal := fun x =>
  el (R := 4096) (C := 2048) (m ((c : Thread nD τ).loc main_arg0)) i x * el (R := 2048) (C := 2048) (m ((c : Thread nD τ).loc main_arg1)) x j

/-- The product's entry `(i, j)`. -/
def prod (c : Dev nD) (i j : ℕ) : EReal := upto 2048 (term m c i j)

/-- The blocks a point reads. -/
abbrev xs (c : Dev nD) (t : Fin cfg0.N) : S512x2048.Idx → EReal := iblk m c 0 t
abbrev ws (c : Dev nD) (t : Fin cfg0.N) : S2048x512.Idx → EReal := iblk m c 1 t
abbrev rs (c : Dev nD) (t : Fin cfg0.N) : S512x512.Idx → EReal := iblk m c 2 t
abbrev gs (c : Dev nD) (t : Fin cfg0.N) : S1x512.Idx → EReal := iblk m c 3 t

/-- Which block a point reads and writes: the rows move outermost. -/
theorem idx : ∀ t : Fin cfg0.N,
    ((cfg0.win 0).index t 0 = t.val / 4 ∧ (cfg0.win 0).index t 1 = 0) ∧ ((cfg0.win 1).index t 0 = 0 ∧ (cfg0.win 1).index t 1 = t.val % 4)
      ∧ ((cfg0.win 2).index t 0 = t.val / 4 ∧ (cfg0.win 2).index t 1 = t.val % 4) ∧ ((cfg0.win 3).index t 0 = 0 ∧ (cfg0.win 3).index t 1 = t.val % 4)
      ∧ ((cfg0.win 4).index t 0 = t.val / 4 ∧ (cfg0.win 4).index t 1 = t.val % 4)
      ∧ ((cfg0.win 5).index t 0 = t.val / 4 ∧ (cfg0.win 5).index t 1 = t.val % 4) := by
  decide +kernel

theorem pay1_apply (x : Vec Ideal S512x2048 .bf16) (w : Vec Ideal S2048x512 .bf16) (y : S512x512.Idx) :
    k0_pay1 x w y = ∑ k : Fin 2048, (x (ix2 (y 0) k) : EReal) * (w (ix2 k (y 1)) : EReal) := by
  pointwise [k0_pay1]

theorem pay2_apply (x : Vec Ideal S512x2048 .bf16) (w : Vec Ideal S2048x512 .bf16) (r : Vec Ideal S512x512 .f32) (g : Vec Ideal S1x512 .f32) (y : S512x512.Idx) :
    k0_pay2 x w r g y = (r y : EReal) + (g (ix2 0 (y 1)) : EReal) * (k0_pay1 x w y : EReal) := by
  pointwise [k0_pay2]

/-- A point's product is its block of the whole one. -/
theorem block (c : Dev nD) (t : Fin cfg0.N) (y : S512x512.Idx) :
    k0_pay1 (F := Ideal) (iblk m c 0 t) (iblk m c 1 t) y = prod m c (t.val / 4 * 512 + (y 0).val) (t.val % 4 * 512 + (y 1).val) := by
  refine (pay1_apply (xs m c t) (ws m c t) y).trans ?_
  refine sum_eq_upto _ _ fun k => ?_
  unfold xs ws; blk_simp [iblk]
  exact congrArg₂ (· * ·) (el_eq _ _ _ _ (by blk_simp [idx t]) (by blk_simp [idx t])) (el_eq _ _ _ _ (by blk_simp [idx t]) (by blk_simp [idx t]))

theorem rs_eq (c : Dev nD) (t : Fin cfg0.N) (y : S512x512.Idx) :
    rs m c t y = el (R := 4096) (C := 2048) (m ((c : Thread nD τ).loc main_arg2)) (t.val / 4 * 512 + (y 0).val) (t.val % 4 * 512 + (y 1).val) := by
  unfold rs; blk_simp [iblk]
  exact el_eq _ _ _ _ (by blk_simp [idx t]) (by blk_simp [idx t])

theorem gs_eq (c : Dev nD) (t : Fin cfg0.N) (j : Fin 512) :
    gs m c t (ix2 0 j) = el (R := 1) (C := 2048) (m ((c : Thread nD τ).loc main_arg3)) 0 (t.val % 4 * 512 + j.val) := by
  unfold gs; blk_simp [iblk]
  exact el_eq _ _ _ _ (by blk_simp [idx t]; rfl) (by blk_simp [idx t])

/-- The product, whole. -/
def result (c : Dev nD) : Buf (Elt Ideal) ((c : Thread nD τ).loc main_v0_0) :=
  tab (R := 4096) (C := 2048) (prod m c)

/-- The residual stream after it. -/
def residual (c : Dev nD) : Buf (Elt Ideal) ((c : Thread nD τ).loc main_v0_1) :=
  tab (R := 4096) (C := 2048) fun i j => el (R := 4096) (C := 2048) (m ((c : Thread nD τ).loc main_arg2)) i j
    + el (R := 1) (C := 2048) (m ((c : Thread nD τ).loc main_arg3)) 0 j * prod m c i j

theorem arr (c : Dev nD) : (dats m 0 c).arrAt 4 cfg0.N = result m c := by
  refine (dats m 0 c).arrAt_eq_of_covers 4 _ (by decide +kernel) fun t hf y => ?_
  blk_simp
  rw [after0_4]
  unfold out0_4
  rw [View.canon_unit_zero hz]
  simp only [View.ld_unit_zero (S := S512x2048) hz, View.ld_unit_zero (S := S2048x512) hz]
  refine (block m c t y).trans ?_
  unfold result tab
  blk_simp [idx t]

theorem arr_residual (c : Dev nD) : (dats m 0 c).arrAt 5 cfg0.N = residual m c := by
  refine (dats m 0 c).arrAt_eq_of_covers 5 _ (by decide +kernel) fun t hf y => ?_
  blk_simp
  rw [after0_5]
  unfold out0_5
  rw [View.canon_unit_zero hz]
  simp only [View.ld_unit_zero (S := S512x2048) hz, View.ld_unit_zero (S := S2048x512) hz, View.ld_unit_zero (S := S512x512) hz, View.ld_unit_zero (S := S1x512) hz]
  refine (pay2_apply _ _ (rs m c t) (gs m c t) y).trans ?_
  refine (congrArg₂ (· + ·) (rs_eq m c t y) (congrArg₂ (· * ·) (gs_eq m c t (y 1)) (block m c t y))).trans ?_
  unfold residual tab
  blk_simp [idx t]

end Cert.MixOutIdeal.Ffn

namespace Cert.Proof.MixOut

open Cert.Ffn Idealize.ShloMosaic Idealize.SL.Sem

/-- The reference's product is the same sum. -/
theorem ref_eq (s : Vec Ideal Cert.MixOutRefIdeal.S4096x2048 .bf16) (w : Vec Ideal Cert.MixOutRefIdeal.S2048x2048 .bf16) :
    Host.dotGeneral (F := Ideal) Cert.MixOutRefIdeal.dot_S4096x2048_S2048x2048_S4096x2048_1_0_0_1_n_n none
      (extf (F := Ideal) .f32 s Cert.MixOutRefIdeal.Gen.bitsLt_bf16_f32) (extf (F := Ideal) .f32 w Cert.MixOutRefIdeal.Gen.bitsLt_bf16_f32)
      = tab (R := 4096) (C := 2048) (fun i j => upto 2048 fun x => el s i x * el w x j) := by
  funext y
  pointwise [tab]
  exact sum_eq_upto _ _ fun k => congrArg₂ (· * ·) (el_eq _ _ _ _ rfl rfl) (el_eq _ _ _ _ rfl rfl)

section
open Cert.MixOutRefIdeal Cert.MixOutRefIdeal.Gen

/-- The reference's residual, of any product. -/
theorem ref_residual (x f : Vec Ideal S4096x2048 .f32) (g : Vec Ideal S1x2048 .f32) (p : ℕ → ℕ → EReal) (hf : f = tab (R := 4096) (C := 2048) p) :
    addf (F := Ideal) (φ := .f32) x (mulf (broadcastInDim S4096x2048 ![0, 1] bcast_S1x2048_S4096x2048_0_1 g) f)
      = tab (R := 4096) (C := 2048) (fun i j => el x i j + el g 0 j * p i j) := by
  subst hf
  funext y
  pointwise [tab]
  have e1 := el_eq x y _ _ rfl rfl
  have e2 := el_eq g (ix2 0 (y 1)) _ _ rfl rfl
  rw [e1, e2]
  rfl

end

theorem frame_ideal : Cert.quiescent_MixOutIdeal := fun m g _ => Cert.MixOutIdeal.Gen.frame (F := Ideal) m g

/-- The two programs' kernel bodies are the same, so the run is the same over any float values. -/
theorem frame : Cert.quiescent_MixOut := fun m g _ => by
  rw [show Cert.MixOut.defs (F := Bits) = Cert.MixOutIdeal.defs from
    congrArg (fun b => Pipeline.defs Cert.MixOut.pcfgs (Defs.onTc b)) (funext fun | 0 => rfl)]
  exact Cert.MixOutIdeal.Gen.frame (F := Bits) m g

theorem frame_reference : Cert.quiescent_MixOutRefIdeal := fun m g _ =>
  (θ_run Cert.MixOutRefIdeal.defs _ _).mono (fun r h => ⟨fun c => (h c).2.2, sem_eq_zero_of_no_sems (by decide) r.2⟩)
    (Cert.MixOutRefIdeal.Value.run (F := Ideal) m g)

theorem algebraic : Cert.algebraic_MixOutIdeal_MixOutRefIdeal := by
  intro m g m' g' _ hin
  have hp : ∀ c : Dev Cert.MixOutIdeal.nD, Host.dotGeneral (F := Ideal) Cert.MixOutRefIdeal.dot_S4096x2048_S2048x2048_S4096x2048_1_0_0_1_n_n none
      (extf (F := Ideal) .f32 (m' ((c.tc : Thread Cert.MixOutRefIdeal.nD Cert.MixOutRefIdeal.τ).loc Cert.MixOutRefIdeal.main_arg0)) Cert.MixOutRefIdeal.Gen.bitsLt_bf16_f32)
      (extf (F := Ideal) .f32 (m' ((c.tc : Thread Cert.MixOutRefIdeal.nD Cert.MixOutRefIdeal.τ).loc Cert.MixOutRefIdeal.main_arg1)) Cert.MixOutRefIdeal.Gen.bitsLt_bf16_f32)
      = Cert.MixOutIdeal.Ffn.result m c := fun c => (ref_eq _ _).trans (by rw [(hin c).1, (hin c).2.1]; rfl)
  refine ⟨Cert.MixOutIdeal.Ffn.result m, Cert.MixOutIdeal.Ffn.residual m, ?_, ?_⟩
  · exact (θ_run Cert.MixOutIdeal.defs _ _).mono
      (fun r h c => ⟨(h c).1.trans (Cert.MixOutIdeal.Ffn.arr m c), (h c).2.1.trans (Cert.MixOutIdeal.Ffn.arr_residual m c), (h c).2.2⟩)
      (Cert.MixOutIdeal.Value.run_blocks (F := Ideal) m g)
  · exact (θ_run Cert.MixOutRefIdeal.defs _ _).mono
      (fun r h c => ⟨(h c).1.trans (hp c), (h c).2.1.trans ((ref_residual (m' ((c.tc : Thread Cert.MixOutRefIdeal.nD Cert.MixOutRefIdeal.τ).loc Cert.MixOutRefIdeal.main_arg2)) _ (m' ((c.tc : Thread Cert.MixOutRefIdeal.nD Cert.MixOutRefIdeal.τ).loc Cert.MixOutRefIdeal.main_arg3)) (Cert.MixOutIdeal.Ffn.prod m c) (hp c)).trans (by rw [(hin c).2.2.1, (hin c).2.2.2]; rfl)), (h c).2.2⟩)
      (Cert.MixOutRefIdeal.Value.run (F := Ideal) m' g')

end Cert.Proof.MixOut

end
-- ==== Proof.Mix.MixOutDw.lean ====
/- The gradient of the output projection's weight: `dw = oᵀ · dmo`, summed two blocks of rows at a time. -/
module

public import proofs.«01_k».proof.Defs
public import proofs.«01_k».proof.Proof.Ffn.Sums
public import proofs.«01_k».proof.Proof.Gen.MixOutDwIdeal.Value
public import proofs.«01_k».proof.Proof.Gen.MixOutDw
public import proofs.«01_k».proof.Proof.Gen.MixOutDwRefIdeal.Run

@[expose] public section

set_option maxRecDepth 16384

noncomputable section

namespace Cert.MixOutDwIdeal.Ffn

open Cert.Ffn
open Cert.MixOutDwIdeal Cert.MixOutDwIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

section Cases
variable (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x : Vec Ideal S2048x1024 .bf16) (w : Vec Ideal S2048x1024 .bf16) (s : Vec Ideal S1024x1024 .f32)

/-- The first block of rows: the scratch is set to the block's product. -/
theorem first (hc0 : cond0_0 i) (hc1 : ¬cond0_1 i) (hc2 : ¬cond0_2 i) :
    sout0_A_0 c i a3 h3 a4 h4 a5 h5 a6 h6 hc0 hc1 hc2 x w = k0_pay2 x w := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  simp only [View.readAt_eq_ld, h3.read_unread, h4.read_unread, View.ld_unit_zero (S := S2048x1024) hz, View.ld_unit_zero (S := S2048x1024) hz]

/-- The last block: the scratch and the block's product together are the output. -/
theorem last (hc0 : ¬cond0_0 i) (hc1 : ¬cond0_1 i) (hc2 : cond0_2 i) :
    out0_B_2 c i a3 h3 a4 h4 a5 h5 a6 h6 hc0 hc1 hc2 x w s = k0_pay4 x w s := by
  unfold out0_B_2
  rw [View.read_writes_eq_canon _ _ _ (cover0_B_2 c i a3 h3 a4 h4 a5 h5 a6 h6 hc0 hc1 hc2 x w s)]
  unfold kernelRun0_B
  dsimp only
  rw [View.canon_unit_zero hz]
  simp only [View.readAt_eq_ld, h3.read_unread, h4.read_unread, h6.read_unread, View.ld_unit_zero (S := S2048x1024) hz, View.ld_unit_zero (S := S2048x1024) hz, View.ld_unit_zero (S := S1024x1024) hz]

end Cases

theorem idx : ∀ t : Fin cfg0.N, win0_0.index t = ![t.val % 2, t.val / 2 / 2] ∧ win0_1.index t = ![t.val % 2, t.val / 2 % 2]
    ∧ win0_2.index t = ![t.val / 2 / 2, t.val / 2 % 2] :=
  (by decide +kernel : ∀ t : Fin grid0.N, _)

/-- The summand of the entry in row `i` and column `j`. -/
abbrev term (c : Dev nD) (i j x : ℕ) : EReal := el (V m c main_arg0) x i * el (V m c main_arg1) x j

/-- The summand of the entry `y` of the `r`-th run's block. -/
abbrev runTerm (c : Dev nD) (r : ℕ) (y : S1024x1024.Idx) : ℕ → EReal := term m c (r / 2 * 1024 + (y 0).val) (r % 2 * 1024 + (y 1).val)

/-- The blocks a point reads. -/
abbrev xs (c : Dev nD) (t : Fin cfg0.N) : S2048x1024.Idx → EReal := iblk m c 0 t
abbrev ws (c : Dev nD) (t : Fin cfg0.N) : S2048x1024.Idx → EReal := iblk m c 1 t

/-- A point's product, as summands of the whole one. -/
theorem part (c : Dev nD) (t : Fin cfg0.N) (y : S1024x1024.Idx) (k : Fin 2048) :
    xs m c t (ix2 k (y 0)) * ws m c t (ix2 k (y 1)) = runTerm m c (t.val / 2) y (t.val % 2 * 2048 + k.val) := by
  unfold xs ws; blk_simp [iblk]
  exact congrArg₂ (· * ·) (el_eq _ _ _ _ (by blk_simp [idx t]) (by blk_simp [idx t])) (el_eq _ _ _ _ (by blk_simp [idx t]) (by blk_simp [idx t]))

theorem pay2_apply (x : Vec Ideal S2048x1024 .bf16) (w : Vec Ideal S2048x1024 .bf16) (y : S1024x1024.Idx) :
    k0_pay2 x w y = ∑ k : Fin 2048, (x (ix2 k (y 0)) : EReal) * (w (ix2 k (y 1)) : EReal) := by
  pointwise [k0_pay2, k0_pay1]

theorem pay4_apply (x : Vec Ideal S2048x1024 .bf16) (w : Vec Ideal S2048x1024 .bf16) (s : Vec Ideal S1024x1024 .f32) (y : S1024x1024.Idx) :
    k0_pay4 x w s y = (s y : EReal) + ∑ k : Fin 2048, (x (ix2 k (y 0)) : EReal) * (w (ix2 k (y 1)) : EReal) := by
  pointwise [k0_pay4, k0_pay1]

/-- A run's first point leaves its product in the scratch. -/
theorem scratch_first (c : Dev nD) (n : ℕ) (h : n < cfg0.N) (y : S1024x1024.Idx) (e : n % 2 = 0) :
    (outsAt0 m c n h).2 y = ∑ k, xs m c ⟨n, h⟩ (ix2 k (y 0)) * ws m c ⟨n, h⟩ (ix2 k (y 1)) := by
  rw [outsAt0_A m c ⟨n, h⟩ e (show ¬n % 2 = 1 by omega), first]
  exact pay2_apply _ _ y

/-- The product, whole. -/
def result (c : Dev nD) : Buf (Elt Ideal) ((c : Thread nD τ).loc main_v0) :=
  tab (R := 2048) (C := 2048) fun i j => upto 4096 (term m c i j)

/-- The array the call leaves. -/
theorem arr (c : Dev nD) : (dats m 0 c).arrAt 2 cfg0.N = result m c := by
  refine (dats m 0 c).arrAt_eq_of_covers 2 _ (by decide +kernel) fun t hf y => ?_
  have hm : t.val % 2 = 1 := (flush0_2 t).mp hf
  blk_simp
  rw [after0_2, outsAt0_B m c t (by omega) hm, last]
  refine (pay4_apply _ _ _ y).trans ?_
  refine (run_total (nk := 2) _ _ (runTerm m c) (fun n h => part m c ⟨n, h⟩) (scratch_first m c) (fun _ _ _ _ e l => by omega) y t.val t.isLt _
    (by decide) (by omega) 4096 rfl).trans ?_
  unfold result tab
  blk_simp [idx t]

end Cert.MixOutDwIdeal.Ffn

namespace Cert.Proof.MixOutDw

open Cert.Ffn Idealize.ShloMosaic Idealize.SL.Sem

/-- The reference's one product is the same sum. -/
theorem ref_eq (s : Vec Ideal Cert.MixOutDwRefIdeal.S4096x2048 .bf16) (d : Vec Ideal Cert.MixOutDwRefIdeal.S4096x2048 .bf16) :
    truncf (F := Ideal) .bf16 (transpose Cert.MixOutDwRefIdeal.S2048x2048 [1, 0] (Host.dotGeneral (F := Ideal) Cert.MixOutDwRefIdeal.dot_S4096x2048_S4096x2048_S2048x2048_0_0_1_1_n_n none
      (extf (F := Ideal) .f32 d Cert.MixOutDwRefIdeal.Gen.bitsLt_bf16_f32) (extf (F := Ideal) .f32 s Cert.MixOutDwRefIdeal.Gen.bitsLt_bf16_f32))
      Cert.MixOutDwRefIdeal.Gen.transposes_S2048x2048_S2048x2048_1_0) Cert.MixOutDwRefIdeal.Gen.bitsLt_bf16_f32
      = tab (R := 2048) (C := 2048) (fun i j => upto 4096 fun x => el s x i * el d x j) := by
  funext y
  pointwise [tab]
  exact sum_eq_upto _ _ fun k => (congrArg₂ (· * ·) (el_eq _ _ _ _ rfl rfl) (el_eq _ _ _ _ rfl rfl)).trans (mul_comm _ _)

theorem frame_ideal : Cert.quiescent_MixOutDwIdeal := fun m g _ => Cert.MixOutDwIdeal.Gen.frame (F := Ideal) m g

/-- The two programs' kernel bodies are the same, so the run is the same over any float values. -/
theorem frame : Cert.quiescent_MixOutDw := fun m g _ => by
  rw [show Cert.MixOutDw.defs (F := Bits) = Cert.MixOutDwIdeal.defs from
    congrArg (fun b => Pipeline.defs Cert.MixOutDw.pcfgs (Defs.onTc b)) (funext fun | 0 => rfl)]
  exact Cert.MixOutDwIdeal.Gen.frame (F := Bits) m g

theorem frame_reference : Cert.quiescent_MixOutDwRefIdeal := fun m g _ =>
  (θ_run Cert.MixOutDwRefIdeal.defs _ _).mono (fun r h => ⟨fun c => (h c).2, sem_eq_zero_of_no_sems (by decide) r.2⟩)
    (Cert.MixOutDwRefIdeal.Value.run (F := Ideal) m g)

theorem algebraic : Cert.algebraic_MixOutDwIdeal_MixOutDwRefIdeal := by
  intro m g m' g' _ hin
  refine ⟨Cert.MixOutDwIdeal.Ffn.result m, ?_, ?_⟩
  · exact (θ_run Cert.MixOutDwIdeal.defs _ _).mono (fun r h c => ⟨(h c).1.trans (Cert.MixOutDwIdeal.Ffn.arr m c), (h c).2⟩)
      (Cert.MixOutDwIdeal.Value.run_blocks (F := Ideal) m g)
  · exact (θ_run Cert.MixOutDwRefIdeal.defs _ _).mono (fun r h c => ⟨(h c).1.trans ((ref_eq _ _).trans (by rw [(hin c).1, (hin c).2]; rfl)), (h c).2⟩)
      (Cert.MixOutDwRefIdeal.Value.run (F := Ideal) m' g')

end Cert.Proof.MixOutDw

end
-- ==== Proof.Mix.MixOutDx.lean ====
/- The input gradient of the mixer's output projection: `do = dmo · wᵀ`. -/
module

public import proofs.«01_k».proof.Defs
public import proofs.«01_k».proof.Proof.Ffn.Sums
public import proofs.«01_k».proof.Proof.Gen.MixOutDxIdeal.Value
public import proofs.«01_k».proof.Proof.Gen.MixOutDx
public import proofs.«01_k».proof.Proof.Gen.MixOutDxRefIdeal.Run

@[expose] public section

set_option maxRecDepth 16384

noncomputable section

namespace Cert.MixOutDxIdeal.Ffn

open Cert.Ffn
open Cert.MixOutDxIdeal Cert.MixOutDxIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- A summand of the product's entry `(i, j)`: the `x`-th of the sum over the columns. -/
def term (c : Dev nD) (i j : ℕ) : ℕ → EReal := fun x =>
  el (R := 4096) (C := 2048) (m ((c : Thread nD τ).loc main_arg0)) i x * el (R := 2048) (C := 2048) (m ((c : Thread nD τ).loc main_arg1)) j x

/-- The product's entry `(i, j)`. -/
def prod (c : Dev nD) (i j : ℕ) : EReal := upto 2048 (term m c i j)

/-- The blocks a point reads. -/
abbrev xs (c : Dev nD) (t : Fin cfg0.N) : S1024x2048.Idx → EReal := iblk m c 0 t
abbrev ws (c : Dev nD) (t : Fin cfg0.N) : S1024x2048.Idx → EReal := iblk m c 1 t

/-- Which block a point reads and writes: the rows move outermost. -/
theorem idx : ∀ t : Fin cfg0.N,
    ((cfg0.win 0).index t 0 = t.val / 2 ∧ (cfg0.win 0).index t 1 = 0) ∧ ((cfg0.win 1).index t 0 = t.val % 2 ∧ (cfg0.win 1).index t 1 = 0)
      ∧ ((cfg0.win 2).index t 0 = t.val / 2 ∧ (cfg0.win 2).index t 1 = t.val % 2) := by
  decide +kernel

theorem pay1_apply (x : Vec Ideal S1024x2048 .bf16) (w : Vec Ideal S1024x2048 .bf16) (y : S1024x1024.Idx) :
    k0_pay1 x w y = ∑ k : Fin 2048, (x (ix2 (y 0) k) : EReal) * (w (ix2 (y 1) k) : EReal) := by
  pointwise [k0_pay1]

/-- A point's product is its block of the whole one. -/
theorem block (c : Dev nD) (t : Fin cfg0.N) (y : S1024x1024.Idx) :
    k0_pay1 (F := Ideal) (iblk m c 0 t) (iblk m c 1 t) y = prod m c (t.val / 2 * 1024 + (y 0).val) (t.val % 2 * 1024 + (y 1).val) := by
  refine (pay1_apply (xs m c t) (ws m c t) y).trans ?_
  refine sum_eq_upto _ _ fun k => ?_
  unfold xs ws; blk_simp [iblk]
  exact congrArg₂ (· * ·) (el_eq _ _ _ _ (by blk_simp [idx t]) (by blk_simp [idx t])) (el_eq _ _ _ _ (by blk_simp [idx t]) (by blk_simp [idx t]))

/-- The product, whole. -/
def result (c : Dev nD) : Buf (Elt Ideal) ((c : Thread nD τ).loc main_v0) :=
  tab (R := 4096) (C := 2048) (prod m c)

theorem arr (c : Dev nD) : (dats m 0 c).arrAt 2 cfg0.N = result m c := by
  refine (dats m 0 c).arrAt_eq_of_covers 2 _ (by decide +kernel) fun t hf y => ?_
  blk_simp
  rw [after0_2]
  unfold out0_2
  rw [View.canon_unit_zero hz]
  simp only [View.ld_unit_zero (S := S1024x2048) hz, View.ld_unit_zero (S := S1024x2048) hz]
  refine (block m c t y).trans ?_
  unfold result tab
  blk_simp [idx t]

end Cert.MixOutDxIdeal.Ffn

namespace Cert.Proof.MixOutDx

open Cert.Ffn Idealize.ShloMosaic Idealize.SL.Sem

/-- The reference's product is the same sum. -/
theorem ref_eq (h : Vec Ideal Cert.MixOutDxRefIdeal.S4096x2048 .bf16) (w : Vec Ideal Cert.MixOutDxRefIdeal.S2048x2048 .bf16) :
    Host.dotGeneral (F := Ideal) Cert.MixOutDxRefIdeal.dot_S4096x2048_S2048x2048_S4096x2048_1_1_0_0_n_n none
      (extf (F := Ideal) .f32 h Cert.MixOutDxRefIdeal.Gen.bitsLt_bf16_f32) (extf (F := Ideal) .f32 w Cert.MixOutDxRefIdeal.Gen.bitsLt_bf16_f32)
      = tab (R := 4096) (C := 2048) (fun i j => upto 2048 fun x => el h i x * el w j x) := by
  funext y
  pointwise [tab]
  exact sum_eq_upto _ _ fun k => congrArg₂ (· * ·) (el_eq _ _ _ _ rfl rfl) (el_eq _ _ _ _ rfl rfl)

theorem frame_ideal : Cert.quiescent_MixOutDxIdeal := fun m g _ => Cert.MixOutDxIdeal.Gen.frame (F := Ideal) m g

/-- The two programs' kernel bodies are the same, so the run is the same over any float values. -/
theorem frame : Cert.quiescent_MixOutDx := fun m g _ => by
  rw [show Cert.MixOutDx.defs (F := Bits) = Cert.MixOutDxIdeal.defs from
    congrArg (fun b => Pipeline.defs Cert.MixOutDx.pcfgs (Defs.onTc b)) (funext fun | 0 => rfl)]
  exact Cert.MixOutDxIdeal.Gen.frame (F := Bits) m g

theorem frame_reference : Cert.quiescent_MixOutDxRefIdeal := fun m g _ =>
  (θ_run Cert.MixOutDxRefIdeal.defs _ _).mono (fun r h => ⟨fun c => (h c).2, sem_eq_zero_of_no_sems (by decide) r.2⟩)
    (Cert.MixOutDxRefIdeal.Value.run (F := Ideal) m g)

theorem algebraic : Cert.algebraic_MixOutDxIdeal_MixOutDxRefIdeal := by
  intro m g m' g' _ hin
  refine ⟨Cert.MixOutDxIdeal.Ffn.result m, ?_, ?_⟩
  · exact (θ_run Cert.MixOutDxIdeal.defs _ _).mono (fun r h c => ⟨(h c).1.trans (Cert.MixOutDxIdeal.Ffn.arr m c), (h c).2⟩)
      (Cert.MixOutDxIdeal.Value.run_blocks (F := Ideal) m g)
  · exact (θ_run Cert.MixOutDxRefIdeal.defs _ _).mono (fun r h c => ⟨(h c).1.trans ((ref_eq _ _).trans (by rw [(hin c).1, (hin c).2]; rfl)), (h c).2⟩)
      (Cert.MixOutDxRefIdeal.Value.run (F := Ideal) m' g')

end Cert.Proof.MixOutDx

end
-- ==== Proof.Norm.Rows.lean ====
/- Sums down a column taken a block of rows at a time, a row and the factor its norm multiplies it by, and a factor moved out of a sum:
   what the norm, its gradient and the gates' gradients share. -/
module

public import proofs.«01_k».proof.Proof.Ffn.Sums
public import Idealize.ShloMosaic.Lib.IdealHost

@[expose] public section

noncomputable section

namespace Cert.Norm

open Cert.Ffn Idealize.ShloMosaic

/-- A sum kept from the first point on: if the first point leaves its own `b` summands and each further one adds its own, then after
    point `n` it is the sum over all the blocks up to `n`. -/
theorem acc_upto {ι : Type} {b N : ℕ} (sc : ∀ n, n < N → ι → EReal) (p : ∀ n, n < N → ι → Fin b → EReal) (f : ι → ℕ → EReal)
    (hp : ∀ n h y k, p n h y k = f y (n * b + k.val))
    (h0 : ∀ h y, sc 0 h y = ∑ k, p 0 h y k)
    (h1 : ∀ n h h' y, sc (n + 1) h y = sc n h' y + ∑ k, p (n + 1) h y k) (y : ι) :
    ∀ n (h : n < N), sc n h y = upto ((n + 1) * b) (f y) := by
  intro n
  induction n with
  | zero =>
    intro h
    rw [h0 h y, Nat.zero_add, Nat.one_mul]
    exact sum_eq_upto _ _ fun k => (hp 0 h y k).trans (by rw [Nat.zero_mul, Nat.zero_add])
  | succ n ih =>
    intro h
    rw [h1 n h (Nat.lt_of_succ_lt h) y, ih (Nat.lt_of_succ_lt h)]
    exact upto_add _ (Nat.succ_mul _ _) _ fun k => hp _ h y k

/-- A finite factor that is not negative may be taken out of a sum, whatever the summands. -/
theorem mul_upto (a : EReal) (h0 : 0 ≤ a) (ht : a ≠ ⊤) (n : ℕ) (f : ℕ → EReal) : a * upto n f = upto n fun x => a * f x := by
  induction n with
  | zero => simp [upto]
  | succ n ih =>
    unfold upto at ih ⊢
    rw [Finset.sum_range_succ, Finset.sum_range_succ, EReal.left_distrib_of_nonneg_of_ne_top h0 ht, ih]

/-- A row of an activation, or a vector of its width. -/
abbrev Row : Type := Fin 2048 → EReal

/-- Row `i` of an array. -/
def row {R : ℕ} (X : (⟨2, ![R, 2048]⟩ : Shape).Idx → EReal) (i : ℕ) : Row := fun k => el X i k.val

theorem row_eq {R : ℕ} (X : (⟨2, ![R, 2048]⟩ : Shape).Idx → EReal) (i : Fin R) : (fun k : Fin 2048 => X (ix2 i k)) = row X i.val :=
  funext fun _ => el_eq _ _ _ _ rfl rfl

theorem vec_eq (X : (⟨2, ![1, 2048]⟩ : Shape).Idx → EReal) : (fun k : Fin 2048 => X (ix2 0 k)) = row X 0 := row_eq X 0

/-- The mean of a row's squares, with the norm's small constant added. -/
def meanSq (x : Row) : EReal := Ideal.div (∑ k, x k * x k) (Ideal.ofBits .f32 0x45000000#32) + Ideal.ofBits .f32 0x358637BD#32

/-- What the norm multiplies a row by. -/
def rootInv (x : Row) : EReal := Ideal.rsqrt (meanSq x)

/-- The words of a half and of one. -/
abbrev half : EReal := Ideal.ofBits .f32 0x3F000000#32

theorem half_eq : half = ((1 / 2 : ℝ) : EReal) := by
  unfold half
  simp [Ideal.ofBits, Ideal.ieee, -EReal.coe_mul]; norm_num

theorem half_nonneg : 0 ≤ half := by rw [half_eq]; exact_mod_cast (by norm_num : (0 : ℝ) ≤ 1 / 2)

theorem half_ne_top : half ≠ ⊤ := by rw [half_eq]; exact EReal.coe_ne_top _

/-- The gradient that a gate `g` lets through, `a` times `g` times `d`: an array of 4096 rows. -/
def through (a : EReal) (g : (⟨2, ![1, 2048]⟩ : Shape).Idx → EReal) (d : (⟨2, ![4096, 2048]⟩ : Shape).Idx → EReal) : ℕ → ℕ → EReal :=
  fun i j => a * el g 0 j * el d i j

/-- A summand of the gate's own gradient: row `x` of column `j`. -/
def share (a : EReal) (f d : (⟨2, ![4096, 2048]⟩ : Shape).Idx → EReal) (j x : ℕ) : EReal := a * el f x j * el d x j

end Cert.Norm

end
-- ==== Proof.Norm.PreFwd.lean ====
/- A sublayer's entry: every row normed, with its gain, scale and shift, a block of 256 rows at a time. -/
module

public import proofs.«01_k».proof.Defs
public import proofs.«01_k».proof.Proof.Norm.Rows
public import proofs.«01_k».proof.Proof.Gen.PreFwdIdeal.Value
public import proofs.«01_k».proof.Proof.Gen.PreFwd
public import proofs.«01_k».proof.Proof.Gen.PreFwdRefIdeal.Run

@[expose] public section

set_option maxRecDepth 16384

noncomputable section

namespace Cert.Norm

open Cert.Ffn Idealize.ShloMosaic

/-- A row's entry to the sublayer: normed, through gain and scale, and shifted. -/
def entry (x gain shift scale : Row) : Row := fun k => x k * rootInv x * gain k * (1 + scale k) + shift k

/-- The entries of all rows. -/
def wholeEntry (X : (⟨2, ![4096, 2048]⟩ : Shape).Idx → EReal) (G H S : (⟨2, ![1, 2048]⟩ : Shape).Idx → EReal) : (⟨2, ![4096, 2048]⟩ : Shape).Idx → EReal :=
  fun y => entry (row X (y 0).val) (row G 0) (row H 0) (row S 0) (y 1)

end Cert.Norm

namespace Cert.PreFwdIdeal.Norm

open Cert.Ffn Cert.Norm
open Cert.PreFwdIdeal Cert.PreFwdIdeal.Gen Idealize.ShloMosaic Idealize.ShloMosaic.TcCoe Idealize.ShloMosaic.Tactic Idealize.SL.Sem
open Idealize.ShloMosaic.Pipeline (Dat)

theorem pay_apply (x : Vec Ideal S256x2048 .f32) (g h s : Vec Ideal S1x2048 .f32) (i : Fin 256) (k : Fin 2048) : (k0_pay1 x g h s (ix2 i k) : EReal)
    = entry (fun k => x (ix2 i k)) (fun k => g (ix2 0 k)) (fun k => h (ix2 0 k)) (fun k => s (ix2 0 k)) k := by
  pointwise [k0_pay1, entry, rootInv, meanSq]

variable (m : (ℓ : Loc nD τ sig) → Buf (Elt Ideal) ℓ)

/-- The entries, of the arguments as the call finds them. -/
abbrev h (c : Dev nD) : S4096x2048.Idx → EReal := wholeEntry (V m c main_arg0) (V m c main_arg1) (V m c main_arg2) (V m c main_arg3)

theorem idx : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, _)

/-- A point's block of rows, and the vectors that every point reads. -/
theorem x_row (c : Dev nD) (t : Fin cfg0.N) (i : Fin 256) : (fun k => (iblk m c 0 t : Vec Ideal S256x2048 .f32) (ix2 i k)) = row (V m c main_arg0) (t.val * 256 + i.val) := by
  funext k; unfold row; blk_simp [iblk]; exact el_eq _ _ _ _ (by blk_simp [idx t]) (by blk_simp [idx t])
theorem g_row (c : Dev nD) (t : Fin cfg0.N) : (fun k => (iblk m c 1 t : Vec Ideal S1x2048 .f32) (ix2 0 k)) = row (V m c main_arg1) 0 := by
  funext k; unfold row; blk_simp [iblk]; exact el_eq _ _ _ _ (by blk_simp [idx t]; rfl) (by blk_simp [idx t])
theorem h_row (c : Dev nD) (t : Fin cfg0.N) : (fun k => (iblk m c 2 t : Vec Ideal S1x2048 .f32) (ix2 0 k)) = row (V m c main_arg2) 0 := by
  funext k; unfold row; blk_simp [iblk]; exact el_eq _ _ _ _ (by blk_simp [idx t]; rfl) (by blk_simp [idx t])
theorem s_row (c : Dev nD) (t : Fin cfg0.N) : (fun k => (iblk m c 3 t : Vec Ideal S1x2048 .f32) (ix2 0 k)) = row (V m c main_arg3) 0 := by
  funext k; unfold row; blk_simp [iblk]; exact el_eq _ _ _ _ (by blk_simp [idx t]; rfl) (by blk_simp [idx t])

/-- A point's block of entries. -/
theorem block (c : Dev nD) (t : Fin cfg0.N) (i : Fin 256) (k : Fin 2048) :
    (k0_pay1 (F := Ideal) (iblk m c 0 t : Vec Ideal S256x2048 .f32) (iblk m c 1 t : Vec Ideal S1x2048 .f32) (iblk m c 2 t : Vec Ideal S1x2048 .f32)
      (iblk m c 3 t : Vec Ideal S1x2048 .f32) (ix2 i k) : EReal)
      = entry (row (V m c main_arg0) (t.val * 256 + i.val)) (row (V m c main_arg1) 0) (row (V m c main_arg2) 0) (row (V m c main_arg3) 0) k := by
  rw [← x_row, ← g_row m c t, ← h_row m c t, ← s_row m c t]
  exact pay_apply _ _ _ _ i k

/-- The array the call leaves. -/
theorem arr (c : Dev nD) : (dats m 0 c).arrAt 4 cfg0.N = h m c := by
  refine (dats m 0 c).arrAt_eq_of_covers 4 _ (by decide +kernel) fun t hf y => ?_
  blk_simp
  rw [after0_4]
  unfold out0_4
  rw [View.canon_unit_zero hz]
  simp only [View.ld_unit_zero (S := S256x2048) hz, View.ld_unit_zero (S := S1x2048) hz]
  have hy : y = ix2 (y 0) (y 1) := funext fun | 0 => rfl | 1 => rfl
  refine ((congrArg _ hy).trans (block m c t (y 0) (y 1))).trans ?_
  unfold h wholeEntry
  blk_simp [idx t]
  exact congrArg _ (Fin.ext (by blk_simp [idx t]))

end Cert.PreFwdIdeal.Norm

namespace Cert.Proof.PreFwd

open Cert.Ffn Cert.Norm Idealize.ShloMosaic Idealize.SL.Sem
open Cert.PreFwdRefIdeal Cert.PreFwdRefIdeal.Gen Idealize.ShloMosaic.TcCoe

variable (x : FVec Ideal S4096x2048 .f32) (g h s : FVec Ideal S1x2048 .f32)

/-- The reference's factor of the norm, a column. -/
def refInv : FVec Ideal S4096x1 .f32 :=
  Host.rsqrt (addf (Host.divf (broadcastInDim S4096x1 ![0] bcast_S4096_S4096x1_0 (Host.reduceAdd (mulf x x) (constant S_ .f32 0x00000000#32) reducesTo_S4096x2048_S4096_d1 h_S_))
    (broadcastInDim S4096x1 ![] bcast_S_S4096x1 (constant S_ .f32 0x45000000#32))) (broadcastInDim S4096x1 ![] bcast_S_S4096x1 (constant S_ .f32 0x358637BD#32)))

/-- Its entries. -/
def refEntry : FVec Ideal S4096x2048 .bf16 :=
  truncf .bf16 (addf (mulf (mulf (mulf x (broadcastInDim S4096x2048 ![0, 1] bcast_S4096x1_S4096x2048_0_1 (refInv x)))
      (broadcastInDim S4096x2048 ![0, 1] bcast_S1x2048_S4096x2048_0_1 g))
    (broadcastInDim S4096x2048 ![0, 1] bcast_S1x2048_S4096x2048_0_1 (addf (broadcastInDim S1x2048 ![] bcast_S_S1x2048 (constant S_ .f32 0x3F800000#32)) s)))
    (broadcastInDim S4096x2048 ![0, 1] bcast_S1x2048_S4096x2048_0_1 h)) bitsLt_bf16_f32

theorem refInv_apply (i : Fin 4096) : (refInv x (ix2 i 0) : EReal) = rootInv (row x i) := by
  rw [← row_eq]
  pointwise [refInv, rootInv, meanSq]

theorem refEntry_apply (i : Fin 4096) (k : Fin 2048) : (refEntry x g h s (ix2 i k) : EReal) = entry (row x i) (row g 0) (row h 0) (row s 0) k := by
  unfold entry
  rw [← refInv_apply, ← row_eq, ← vec_eq g, ← vec_eq h, ← vec_eq s]
  pointwise [refEntry]

theorem refEntry_eq : refEntry x g h s = wholeEntry x g h s :=
  funext fun y => (congrArg (refEntry x g h s) (show y = ix2 (y 0) (y 1) from funext fun | 0 => rfl | 1 => rfl)).trans (refEntry_apply x g h s (y 0) (y 1))

theorem frame_ideal : Cert.quiescent_PreFwdIdeal := fun m g _ => Cert.PreFwdIdeal.Gen.frame (F := Ideal) m g

/-- The two programs' kernel bodies are the same, so the run is the same over any float values. -/
theorem frame : Cert.quiescent_PreFwd := fun m g _ => by
  rw [show Cert.PreFwd.defs (F := Bits) = Cert.PreFwdIdeal.defs from
    congrArg (fun b => Pipeline.defs Cert.PreFwd.pcfgs (Defs.onTc b)) (funext fun | 0 => rfl)]
  exact Cert.PreFwdIdeal.Gen.frame (F := Bits) m g

theorem frame_reference : Cert.quiescent_PreFwdRefIdeal := fun m g _ =>
  (θ_run Cert.PreFwdRefIdeal.defs _ _).mono (fun r h => ⟨fun c => (h c).2, sem_eq_zero_of_no_sems (by decide) r.2⟩)
    (Cert.PreFwdRefIdeal.Value.run (F := Ideal) m g)

theorem algebraic : Cert.algebraic_PreFwdIdeal_PreFwdRefIdeal := by
  intro m g m' g' _ hin
  refine ⟨Cert.PreFwdIdeal.Norm.h m, ?_, ?_⟩
  · exact (θ_run Cert.PreFwdIdeal.defs _ _).mono (fun r h c => ⟨(h c).1.trans (Cert.PreFwdIdeal.Norm.arr m c), (h c).2⟩)
      (Cert.PreFwdIdeal.Value.run_blocks (F := Ideal) m g)
  · refine (θ_run Cert.PreFwdRefIdeal.defs _ _).mono (fun r h c => ?_) (Cert.PreFwdRefIdeal.Value.run (F := Ideal) m' g')
    obtain ⟨e0, e1, e2, e3⟩ := hin c
    have he : refEntry (m' ((c.tc : Thread nD τ).loc main_arg0)) (m' ((c.tc : Thread nD τ).loc main_arg1)) (m' ((c.tc : Thread nD τ).loc main_arg2))
        (m' ((c.tc : Thread nD τ).loc main_arg3)) = Cert.PreFwdIdeal.Norm.h m c := (refEntry_eq _ _ _ _).trans (by rw [e0, e1, e2, e3])
    exact ⟨(h c).1.trans he, (h c).2⟩

end Cert.Proof.PreFwd

end
-- ==== Proof.Norm.PreBwd.lean ====
/- The gradient of a sublayer's entry: the norm with its gain, scale and shift, differentiated a block of 256 rows at a time. `dx` is written
   block by block; `dgain`, `dshift` and `dscale`, sums over the rows, are kept in their own outputs over the blocks. -/
module

public import proofs.«01_k».proof.Defs
public import proofs.«01_k».proof.Proof.Norm.Rows
public import Idealize.ShloMosaic.Lib.VecWindow
public import proofs.«01_k».proof.Proof.Gen.PreBwdIdeal.Value
public import proofs.«01_k».proof.Proof.Gen.PreBwd
public import proofs.«01_k».proof.Proof.Gen.PreBwdRefIdeal.Run

@[expose] public section

set_option maxRecDepth 16384

noncomputable section

namespace Cert.Norm

open Cert.Ffn Idealize.ShloMosaic

/-- The gradient that reaches the normed row: `d` through the scale and the gain. -/
def reach (gain scale d : Row) : Row := fun k => d k * (1 + scale k) * gain k

/-- The share of a row's gradient that comes through the mean of its squares, as half the factor of `x`. -/
def through_mean (x u : Row) : EReal :=
  Ideal.div ((∑ k, x k * u k) * (Ideal.ofBits .f32 0xBF000000#32 * Ideal.div (rootInv x) (meanSq x))) (Ideal.ofBits .f32 0x45000000#32)

/-- A row's gradient with what came past the norm, `p`. -/
def rowGrad (x u p : Row) : Row := fun k => p k + u k * rootInv x + x k * through_mean x u + through_mean x u * x k

/-- A row's summands of the gain's and of the scale's gradients. -/
def gainShare (x scale d : Row) : Row := fun k => x k * rootInv x * (d k * (1 + scale k))
def scaleShare (x gain d : Row) : Row := fun k => x k * rootInv x * gain k * d k

/-- A row's summands of the three sums: the gain's, the shift's and the scale's gradients. -/
def parts (x gain scale d : Row) : Fin 3 → Row := ![gainShare x scale d, d, scaleShare x gain d]

/-- The gradients of the whole arrays: `dx`, and the three sums down the columns. -/
def wholeDx (X D P : (⟨2, ![4096, 2048]⟩ : Shape).Idx → EReal) (G S : (⟨2, ![1, 2048]⟩ : Shape).Idx → EReal) : (⟨2, ![4096, 2048]⟩ : Shape).Idx → EReal :=
  fun y => rowGrad (row X (y 0).val) (reach (row G 0) (row S 0) (row D (y 0).val)) (row P (y 0).val) (y 1)
def wholeSum (q : Fin 3) (X D : (⟨2, ![4096, 2048]⟩ : Shape).Idx → EReal) (G S : (⟨2, ![1, 2048]⟩ : Shape).Idx → EReal) : (⟨2, ![1, 2048]⟩ : Shape).Idx → EReal :=
  fun y => upto 4096 fun i => parts (row X i) (row G 0) (row S 0) (row D i) q (y 1)

end Cert.Norm

namespace Cert.PreBwdIdeal.Norm

open Cert.Ffn Cert.Norm
open Cert.PreBwdIdeal Cert.PreBwdIdeal.Gen Idealize.ShloMosaic Idealize.ShloMosaic.TcCoe Idealize.ShloMosaic.Tactic Idealize.SL.Sem
open Idealize.ShloMosaic.Pipeline (Dat)

section Payloads
variable (x d p : Vec Ideal S256x2048 .f32) (g s a : Vec Ideal S1x2048 .f32)

/-- A block's row, and a vector, as rows. -/
abbrev br (x : Vec Ideal S256x2048 .f32) (i : Fin 256) : Row := fun k => x (ix2 i k)
abbrev vr (g : Vec Ideal S1x2048 .f32) : Row := fun k => g (ix2 0 k)

theorem pay8_apply (i : Fin 256) : (k0_pay8 x (ix2 i 0) : EReal) = meanSq (br x i) := by
  pointwise [k0_pay8, meanSq]

theorem pay9_apply (i : Fin 256) : (k0_pay9 x (ix2 i 0) : EReal) = rootInv (br x i) := by
  unfold rootInv
  rw [← pay8_apply]
  pointwise [k0_pay9]

theorem pay10_apply (i : Fin 256) (k : Fin 2048) : (k0_pay10 x (ix2 i k) : EReal) = br x i k * rootInv (br x i) := by
  rw [← pay9_apply]
  pointwise [k0_pay10]

theorem pay14_apply (i : Fin 256) (k : Fin 2048) : (k0_pay14 s d (ix2 i k) : EReal) = br d i k * (1 + vr s k) := by
  pointwise [k0_pay14, k0_pay11]

theorem pay16_apply (i : Fin 256) (k : Fin 2048) : (k0_pay16 g s d (ix2 i k) : EReal) = reach (vr g) (vr s) (br d i) k := by
  unfold reach
  rw [← pay14_apply]
  pointwise [k0_pay16]

theorem pay18_apply (i : Fin 256) : (k0_pay18 x g s d (ix2 i 0) : EReal)
    = (∑ k, br x i k * reach (vr g) (vr s) (br d i) k) * (Ideal.ofBits .f32 0xBF000000#32 * Ideal.div (rootInv (br x i)) (meanSq (br x i))) := by
  rw [← pay9_apply, ← pay8_apply]
  simp only [← pay16_apply]
  pointwise [k0_pay18]

theorem pay1_apply (i : Fin 256) (k : Fin 2048) :
    (k0_pay1 x (k0_pay17 x g s d) (k0_pay18 x g s d) k0_pay19 p (ix2 i k) : EReal) = rowGrad (br x i) (reach (vr g) (vr s) (br d i)) (br p i) k := by
  unfold rowGrad through_mean
  rw [← pay18_apply, ← pay16_apply, ← pay9_apply]
  pointwise [k0_pay1, k0_pay17, k0_pay19]
  simp only [Fin.sum_univ_one, add_assoc]

theorem zero_gain (y : S1x2048.Idx) : (k0_pay2 (F := Ideal) y : EReal) = 0 := by pointwise [k0_pay2]
theorem zero_shift (y : S1x2048.Idx) : (k0_pay3 (F := Ideal) y : EReal) = 0 := by pointwise [k0_pay3]
theorem zero_scale (y : S1x2048.Idx) : (k0_pay4 (F := Ideal) y : EReal) = 0 := by pointwise [k0_pay4]

theorem add_gain (j : Fin 2048) :
    (k0_pay5 (k0_pay15 x s d) a (ix2 0 j) : EReal) = (a (ix2 0 j) : EReal) + ∑ i : Fin 256, gainShare (br x i) (vr s) (br d i) j := by
  unfold gainShare
  simp only [← pay10_apply, ← pay14_apply]
  pointwise [k0_pay5, k0_pay15]

theorem add_shift (j : Fin 2048) : (k0_pay6 (k0_pay12 d) a (ix2 0 j) : EReal) = (a (ix2 0 j) : EReal) + ∑ i : Fin 256, br d i j := by
  pointwise [k0_pay6, k0_pay12]

theorem add_scale (j : Fin 2048) :
    (k0_pay7 (k0_pay13 x g d) a (ix2 0 j) : EReal) = (a (ix2 0 j) : EReal) + ∑ i : Fin 256, scaleShare (br x i) (vr g) (br d i) j := by
  unfold scaleShare
  simp only [← pay10_apply]
  pointwise [k0_pay7, k0_pay13, k0_pay11]

end Payloads

variable (m : (ℓ : Loc nD τ sig) → Buf (Elt Ideal) ℓ)

/-- The blocks a point reads. -/
abbrev xs (c : Dev nD) (t : Fin cfg0.N) : Vec Ideal S256x2048 .f32 := iblk m c 0 t
abbrev gs (c : Dev nD) (t : Fin cfg0.N) : Vec Ideal S1x2048 .f32 := iblk m c 1 t
abbrev ss (c : Dev nD) (t : Fin cfg0.N) : Vec Ideal S1x2048 .f32 := iblk m c 3 t
abbrev ds (c : Dev nD) (t : Fin cfg0.N) : Vec Ideal S256x2048 .f32 := iblk m c 4 t
abbrev ps (c : Dev nD) (t : Fin cfg0.N) : Vec Ideal S256x2048 .f32 := iblk m c 5 t

/-- What a point leaves, from the three sums as it finds them. -/
def step (c : Dev nD) (t : Fin cfg0.N) (u v w : Vec Ideal S1x2048 .f32) :
    Vec Ideal S256x2048 .f32 × Vec Ideal S1x2048 .f32 × Vec Ideal S1x2048 .f32 × Vec Ideal S1x2048 .f32 :=
  (k0_pay1 (xs m c t) (k0_pay17 (xs m c t) (gs m c t) (ss m c t) (ds m c t)) (k0_pay18 (xs m c t) (gs m c t) (ss m c t) (ds m c t)) k0_pay19 (ps m c t),
    k0_pay5 (k0_pay15 (xs m c t) (ss m c t) (ds m c t)) u, k0_pay6 (k0_pay12 (ds m c t)) v, k0_pay7 (k0_pay13 (xs m c t) (gs m c t) (ds m c t)) w)

/-- A point whose last stores are the payloads `a`, `b`, `d`, `e` leaves these. -/
theorem stored {f0 : VO0_6.ty.Contents (Elt Ideal)} {f1 : VO0_7.ty.Contents (Elt Ideal)} {f2 : VO0_8.ty.Contents (Elt Ideal)} {f3 : VO0_9.ty.Contents (Elt Ideal)}
    {L0 L1 L2 L3} {o0 o1 o2 o3} (i0 i1 i2 i3) {a b d e a' b' d' e'} (ha : a = a') (hb : b = b') (hd : d = d') (he : e = e') :
    (VO0_6.read (Elt Ideal) (VO0_6.writes (Elt Ideal) f0 (⟨Rect.unit o0 S256x2048.size i0, a⟩ :: L0)),
      VO0_7.read (Elt Ideal) (VO0_7.writes (Elt Ideal) f1 (⟨Rect.unit o1 S1x2048.size i1, b⟩ :: L1)),
      VO0_8.read (Elt Ideal) (VO0_8.writes (Elt Ideal) f2 (⟨Rect.unit o2 S1x2048.size i2, d⟩ :: L2)),
      VO0_9.read (Elt Ideal) (VO0_9.writes (Elt Ideal) f3 (⟨Rect.unit o3 S1x2048.size i3, e⟩ :: L3))) = (a', b', d', e') := by
  rw [View.read_writes_full VO0_6 f0 i0 a L0, View.read_writes_full VO0_7 f1 i1 b L1, View.read_writes_full VO0_8 f2 i2 d L2, View.read_writes_full VO0_9 f3 i3 e L3, ha, hb, hd, he]

/-- The sums are set to zero at the first point and then added to, at every point. -/
theorem first (c : Dev nD) (t : Fin cfg0.N) (e : t.val % 16 = 0) : outsAt0 m c t.val t.isLt = step m c t (k0_pay2 (F := Ideal)) (k0_pay3 (F := Ideal)) (k0_pay4 (F := Ideal)) := by
  rw [outsAt0_A m c t e]
  unfold out0_A_6 out0_A_7 out0_A_8 out0_A_9 kernelRun0_A
  refine stored _ _ _ _ ?_ (congrArg₂ k0_pay5 ?_ (View.readAt_writes_full _ _ _ _ _ _)) (congrArg₂ k0_pay6 ?_ (View.readAt_writes_full _ _ _ _ _ _))
    (congrArg₂ k0_pay7 ?_ (View.readAt_writes_full _ _ _ _ _ _))
  all_goals simp only [kernelRun0_A.sl.r, kernelRun0_A.sl.r_1, kernelRun0_A.sl.r_2, kernelRun0_A.sl.r_3, kernelRun0_A.sl.r_4, kernelRun0_A.sl.r_5, View.readAt_eq_ld,
    (hs0_0 t).read_unread, (hs0_1 t).read_unread, (hs0_3 t).read_unread, (hs0_4 t).read_unread, (hs0_5 t).read_unread,
    View.ld_unit_zero (S := S256x2048) hz, View.ld_unit_zero (S := S1x2048) hz]

theorem next (c : Dev nD) (n : ℕ) (h : n + 1 < cfg0.N) (e : ¬(n + 1) % 16 = 0) :
    outsAt0 m c (n + 1) h = step m c ⟨n + 1, h⟩ (outsAt0 m c n (Nat.lt_of_succ_lt h)).2.1 (outsAt0 m c n (Nat.lt_of_succ_lt h)).2.2.1 (outsAt0 m c n (Nat.lt_of_succ_lt h)).2.2.2 := by
  rw [outsAt0_B m c ⟨n + 1, h⟩ e]
  unfold out0_B_6 out0_B_7 out0_B_8 out0_B_9 kernelRun0_B
  refine stored _ _ _ _ ?_ (congrArg₂ k0_pay5 ?_ ?_) (congrArg₂ k0_pay6 ?_ ?_) (congrArg₂ k0_pay7 ?_ ?_)
  all_goals simp only [kernelRun0_B.sl.r, kernelRun0_B.sl.r_1, kernelRun0_B.sl.r_2, kernelRun0_B.sl.r_3, kernelRun0_B.sl.r_4, kernelRun0_B.sl.r_5, View.readAt_eq_ld,
    (hs0_0 _).read_unread, (hs0_1 _).read_unread, (hs0_3 _).read_unread, (hs0_4 _).read_unread, (hs0_5 _).read_unread,
    (hs0_7 _).read_unread, (hs0_8 _).read_unread, (hs0_9 _).read_unread,
    View.ld_unit_zero (S := S256x2048) hz, View.ld_unit_zero (S := S1x2048) hz]
  all_goals rfl

theorem idx : ∀ t : Fin cfg0.N, win0_0.index t = ![t.val, 0] ∧ win0_1.index t = ![0, 0] ∧ win0_3.index t = ![0, 0] ∧ win0_4.index t = ![t.val, 0]
    ∧ win0_5.index t = ![t.val, 0] ∧ win0_6.index t = ![t.val, 0] ∧ win0_7.index t = ![0, 0] ∧ win0_8.index t = ![0, 0] ∧ win0_9.index t = ![0, 0] :=
  (by decide +kernel : ∀ t : Fin grid0.N, _)

/-- A point's rows are rows of the arrays. -/
theorem x_row (c : Dev nD) (t : Fin cfg0.N) (i : Fin 256) : br (xs m c t) i = row (V m c main_arg0) (t.val * 256 + i.val) := by
  funext k; unfold br xs row; blk_simp [iblk]; exact el_eq _ _ _ _ (by blk_simp [idx t]) (by blk_simp [idx t])
theorem d_row (c : Dev nD) (t : Fin cfg0.N) (i : Fin 256) : br (ds m c t) i = row (V m c main_arg4) (t.val * 256 + i.val) := by
  funext k; unfold br ds row; blk_simp [iblk]; exact el_eq _ _ _ _ (by blk_simp [idx t]) (by blk_simp [idx t])
theorem p_row (c : Dev nD) (t : Fin cfg0.N) (i : Fin 256) : br (ps m c t) i = row (V m c main_arg5) (t.val * 256 + i.val) := by
  funext k; unfold br ps row; blk_simp [iblk]; exact el_eq _ _ _ _ (by blk_simp [idx t]) (by blk_simp [idx t])
theorem g_row (c : Dev nD) (t : Fin cfg0.N) : vr (gs m c t) = row (V m c main_arg1) 0 := by
  funext k; unfold vr gs row; blk_simp [iblk]; exact el_eq _ _ _ _ (by blk_simp [idx t]; rfl) (by blk_simp [idx t])
theorem s_row (c : Dev nD) (t : Fin cfg0.N) : vr (ss m c t) = row (V m c main_arg3) 0 := by
  funext k; unfold vr ss row; blk_simp [iblk]; exact el_eq _ _ _ _ (by blk_simp [idx t]; rfl) (by blk_simp [idx t])

/-- A point's block of `dx`. -/
theorem dx_at (c : Dev nD) (t : Fin cfg0.N) (i : Fin 256) (k : Fin 2048) : ((outsAt0 m c t.val t.isLt).1 (ix2 i k) : EReal)
    = rowGrad (row (V m c main_arg0) (t.val * 256 + i.val)) (reach (row (V m c main_arg1) 0) (row (V m c main_arg3) 0) (row (V m c main_arg4) (t.val * 256 + i.val)))
        (row (V m c main_arg5) (t.val * 256 + i.val)) k := by
  have e : ∃ u v w, outsAt0 m c t.val t.isLt = step m c t u v w := by
    obtain ⟨n, hn⟩ := t
    cases n with
    | zero => exact ⟨_, _, _, first m c ⟨0, hn⟩ rfl⟩
    | succ n => have hl : n + 1 < 16 := hn; exact ⟨_, _, _, next m c n hn (by omega)⟩
  obtain ⟨u, v, w, e⟩ := e
  rw [e, ← x_row, ← d_row, ← p_row, ← g_row m c t, ← s_row m c t]
  exact pay1_apply _ _ _ _ _ i k

/-- The three sums that a point leaves. -/
def sums (o : Vec Ideal S256x2048 .f32 × Vec Ideal S1x2048 .f32 × Vec Ideal S1x2048 .f32 × Vec Ideal S1x2048 .f32) : Fin 3 → Vec Ideal S1x2048 .f32 :=
  ![o.2.1, o.2.2.1, o.2.2.2]

/-- A point adds its rows' summands to each of them. -/
theorem step_sums (c : Dev nD) (t : Fin cfg0.N) (u v w : Vec Ideal S1x2048 .f32) (q : Fin 3) (j : Fin 2048) :
    (sums (step m c t u v w) q (ix2 0 j) : EReal)
      = ((![u, v, w] : Fin 3 → Vec Ideal S1x2048 .f32) q (ix2 0 j) : EReal)
        + ∑ i : Fin 256, parts (br (xs m c t) i) (vr (gs m c t)) (vr (ss m c t)) (br (ds m c t) i) q j := by
  match q with
  | 0 => exact add_gain _ _ _ _ j
  | 1 => exact add_shift _ _ j
  | 2 => exact add_scale _ _ _ _ j

/-- The running sums. -/
theorem sums_at (c : Dev nD) (n : ℕ) (h : n < cfg0.N) (q : Fin 3) (j : Fin 2048) : (sums (outsAt0 m c n h) q (ix2 0 j) : EReal)
    = upto ((n + 1) * 256) fun i => parts (row (V m c main_arg0) i) (row (V m c main_arg1) 0) (row (V m c main_arg3) 0) (row (V m c main_arg4) i) q j := by
  refine acc_upto (fun n h (y : Fin 3 × Fin 2048) => (sums (outsAt0 m c n h) y.1 (ix2 0 y.2) : EReal))
    (fun n h y i => parts (br (xs m c ⟨n, h⟩) i) (vr (gs m c ⟨n, h⟩)) (vr (ss m c ⟨n, h⟩)) (br (ds m c ⟨n, h⟩) i) y.1 y.2)
    (fun y i => parts (row (V m c main_arg0) i) (row (V m c main_arg1) 0) (row (V m c main_arg3) 0) (row (V m c main_arg4) i) y.1 y.2)
    (fun n h y i => by rw [x_row, g_row, s_row, d_row]) (fun h y => ?_) (fun n h h' y => ?_) (q, j) n h
  · refine (congrArg (fun o => (sums o y.1 (ix2 0 y.2) : EReal)) (first m c ⟨0, h⟩ rfl)).trans ((step_sums m c ⟨0, h⟩ _ _ _ y.1 y.2).trans ?_)
    refine (congrArg (· + _) ?_).trans (zero_add _)
    match y.1 with
    | 0 => exact zero_gain (ix2 0 y.2)
    | 1 => exact zero_shift (ix2 0 y.2)
    | 2 => exact zero_scale (ix2 0 y.2)
  · have hl : n + 1 < 16 := h
    exact (congrArg (fun o => (sums o y.1 (ix2 0 y.2) : EReal)) (next m c n h (by omega))).trans (step_sums m c ⟨n + 1, h⟩ _ _ _ y.1 y.2)

/-- The whole gradients, of the arguments as the call finds them. -/
abbrev dx (c : Dev nD) : S4096x2048.Idx → EReal := wholeDx (V m c main_arg0) (V m c main_arg4) (V m c main_arg5) (V m c main_arg1) (V m c main_arg3)
abbrev sum (q : Fin 3) (c : Dev nD) : S1x2048.Idx → EReal := wholeSum q (V m c main_arg0) (V m c main_arg4) (V m c main_arg1) (V m c main_arg3)

/-- The last point's sums are over all the rows. -/
theorem sums_last (c : Dev nD) (t : Fin cfg0.N) (e : t.val % 16 = 15) (q : Fin 3) (y : S1x2048.Idx) : (sums (outsAt0 m c t.val t.isLt) q y : EReal) = sum m q c y := by
  have hl : t.val < 16 := t.isLt
  have hy : y = ix2 0 (y 1) := funext fun | 0 => Subsingleton.elim (α := Fin 1) _ _ | 1 => rfl
  rw [hy]
  refine (sums_at m c t.val t.isLt q (y 1)).trans ?_
  rw [show (t.val + 1) * 256 = 4096 by omega]
  rfl

/-- The arrays the call leaves. -/
theorem arr_dx (c : Dev nD) : (dats m 0 c).arrAt 6 cfg0.N = dx m c := by
  refine (dats m 0 c).arrAt_eq_of_covers 6 _ (by decide +kernel) fun t hf y => ?_
  blk_simp
  rw [after0_6]
  have hy : y = ix2 (y 0) (y 1) := funext fun | 0 => rfl | 1 => rfl
  refine ((congrArg _ hy).trans (dx_at m c t (y 0) (y 1))).trans ?_
  unfold dx wholeDx
  blk_simp [idx t]
  exact congrArg _ (Fin.ext (by blk_simp [idx t]))

theorem arr_gain (c : Dev nD) : (dats m 0 c).arrAt 7 cfg0.N = sum m 0 c := by
  refine (dats m 0 c).arrAt_eq_of_covers 7 _ (by decide +kernel) fun t hf y => ?_
  blk_simp
  rw [after0_7]
  refine (sums_last m c t ((flush0_7 t).mp hf) 0 y).trans (congrArg (sum m 0 c) ?_)
  funext a; apply Fin.ext; match a with | 0 => blk_simp [idx t] | 1 => blk_simp [idx t]

theorem arr_shift (c : Dev nD) : (dats m 0 c).arrAt 8 cfg0.N = sum m 1 c := by
  refine (dats m 0 c).arrAt_eq_of_covers 8 _ (by decide +kernel) fun t hf y => ?_
  blk_simp
  rw [after0_8]
  refine (sums_last m c t ((flush0_8 t).mp hf) 1 y).trans (congrArg (sum m 1 c) ?_)
  funext a; apply Fin.ext; match a with | 0 => blk_simp [idx t] | 1 => blk_simp [idx t]

theorem arr_scale (c : Dev nD) : (dats m 0 c).arrAt 9 cfg0.N = sum m 2 c := by
  refine (dats m 0 c).arrAt_eq_of_covers 9 _ (by decide +kernel) fun t hf y => ?_
  blk_simp
  rw [after0_9]
  refine (sums_last m c t ((flush0_9 t).mp hf) 2 y).trans (congrArg (sum m 2 c) ?_)
  funext a; apply Fin.ext; match a with | 0 => blk_simp [idx t] | 1 => blk_simp [idx t]

end Cert.PreBwdIdeal.Norm

namespace Cert.Proof.PreBwd

open Cert.Ffn Cert.Norm Idealize.ShloMosaic Idealize.SL.Sem
open Cert.PreBwdRefIdeal Cert.PreBwdRefIdeal.Gen Idealize.ShloMosaic.TcCoe

variable (x d p : FVec Ideal S4096x2048 .f32) (g s : FVec Ideal S1x2048 .f32)

/-- The reference's mean of squares and the norm's factor, a column each. -/
def refMean : FVec Ideal S4096x1 .f32 :=
  addf (Host.divf (broadcastInDim S4096x1 ![0] bcast_S4096_S4096x1_0 (Host.reduceAdd (mulf x x) (constant S_ .f32 0x00000000#32) reducesTo_S4096x2048_S4096_d1 h_S_))
    (broadcastInDim S4096x1 ![] bcast_S_S4096x1 (constant S_ .f32 0x45000000#32))) (broadcastInDim S4096x1 ![] bcast_S_S4096x1 (constant S_ .f32 0x358637BD#32))
def refInv : FVec Ideal S4096x1 .f32 := Host.rsqrt (refMean x)

/-- Its gradient past the scale, and that past the gain. -/
def refUp : FVec Ideal S4096x2048 .f32 :=
  mulf (shapeCast _ d shapeCasts_S4096x2048_S4096x2048)
    (broadcastInDim S4096x2048 ![0, 1] bcast_S1x2048_S4096x2048_0_1 (addf (broadcastInDim S1x2048 ![] bcast_S_S1x2048 (constant S_ .f32 0x3F800000#32)) s))
def refReach : FVec Ideal S4096x2048 .f32 := mulf (refUp d s) (broadcastInDim S4096x2048 ![0, 1] bcast_S1x2048_S4096x2048_0_1 g)

/-- The share through the mean of squares, one number a row. -/
def refPull : FVec Ideal S4096 .f32 :=
  Host.reduceAdd (Host.divf (mulf (shapeCast _ (Host.reduceAdd (mulf x (refReach d g s)) (constant S_ .f32 0x00000000#32) reducesTo_S4096x2048_S4096_d1 h_S_) shapeCasts_S4096_S4096x1)
      (mulf (broadcastInDim S4096x1 ![] bcast_S_S4096x1 (constant S_ .f32 0xBF000000#32)) (Host.divf (refInv x) (refMean x))))
    (broadcastInDim S4096x1 ![] bcast_S_S4096x1 (constant S_ .f32 0x45000000#32))) (constant S_ .f32 0x00000000#32) reducesTo_S4096x1_S4096_d1 h_S_

/-- The normed row, and the four gradients. -/
def refNormed : FVec Ideal S4096x2048 .f32 := mulf x (broadcastInDim S4096x2048 ![0, 1] bcast_S4096x1_S4096x2048_0_1 (refInv x))
def refDx : FVec Ideal S4096x2048 .f32 :=
  addf (addf (addf p (mulf (refReach d g s) (broadcastInDim S4096x2048 ![0, 1] bcast_S4096x1_S4096x2048_0_1 (refInv x))))
    (mulf x (broadcastInDim S4096x2048 ![0] bcast_S4096_S4096x2048_0 (refPull x d g s)))) (mulf (broadcastInDim S4096x2048 ![0] bcast_S4096_S4096x2048_0 (refPull x d g s)) x)
def refSummands : Fin 3 → FVec Ideal S4096x2048 .f32 :=
  ![mulf (refNormed x) (refUp d s), d,
    mulf (mulf (refNormed x) (broadcastInDim S4096x2048 ![0, 1] bcast_S1x2048_S4096x2048_0_1 g)) (shapeCast _ d shapeCasts_S4096x2048_S4096x2048)]
def refSum (q : Fin 3) : FVec Ideal S1x2048 .f32 :=
  shapeCast _ (Host.reduceAdd (refSummands x d g s q) (constant S_ .f32 0x00000000#32) reducesTo_S4096x2048_S2048_d0 h_S_) shapeCasts_S2048_S1x2048

theorem refMean_apply (i : Fin 4096) : (refMean x (ix2 i 0) : EReal) = meanSq (row x i) := by
  rw [← row_eq]
  pointwise [refMean, meanSq]

theorem refInv_apply (i : Fin 4096) : (refInv x (ix2 i 0) : EReal) = rootInv (row x i) := by
  unfold rootInv
  rw [← refMean_apply]
  pointwise [refInv]

theorem refUp_apply (i : Fin 4096) (k : Fin 2048) : (refUp d s (ix2 i k) : EReal) = row d i k * (1 + row s 0 k) := by
  rw [← row_eq, ← vec_eq s]
  pointwise [refUp]

theorem refReach_apply (i : Fin 4096) (k : Fin 2048) : (refReach d g s (ix2 i k) : EReal) = reach (row g 0) (row s 0) (row d i) k := by
  unfold reach
  rw [← refUp_apply, ← vec_eq g]
  pointwise [refReach]

theorem refPull_apply (i : Fin 4096) : (refPull x d g s (ix1 i) : EReal) = through_mean (row x i) (reach (row g 0) (row s 0) (row d i)) := by
  unfold through_mean
  simp only [← refInv_apply, ← refMean_apply, ← refReach_apply]
  simp only [← row_eq]
  pointwise [refPull]
  simp only [Fin.sum_univ_one]

theorem refNormed_apply (i : Fin 4096) (k : Fin 2048) : (refNormed x (ix2 i k) : EReal) = row x i k * rootInv (row x i) := by
  rw [← refInv_apply, ← row_eq]
  pointwise [refNormed]

theorem refDx_apply (i : Fin 4096) (k : Fin 2048) :
    (refDx x d p g s (ix2 i k) : EReal) = rowGrad (row x i) (reach (row g 0) (row s 0) (row d i)) (row p i) k := by
  unfold rowGrad
  rw [← refPull_apply, ← refInv_apply, ← refReach_apply]
  simp only [← row_eq]
  pointwise [refDx]

theorem refDx_eq : refDx x d p g s = wholeDx x d p g s :=
  funext fun y => (congrArg (refDx x d p g s) (show y = ix2 (y 0) (y 1) from funext fun | 0 => rfl | 1 => rfl)).trans (refDx_apply x d p g s (y 0) (y 1))

theorem refSummands_apply (q : Fin 3) (i : Fin 4096) (k : Fin 2048) : (refSummands x d g s q (ix2 i k) : EReal) = parts (row x i) (row g 0) (row s 0) (row d i) q k := by
  match q with
  | 0 =>
    show (mulf (refNormed x) (refUp d s) (ix2 i k) : EReal) = gainShare (row x i) (row s 0) (row d i) k
    unfold gainShare
    rw [← refNormed_apply, ← refUp_apply]
    pointwise []
  | 1 => exact congrFun (row_eq d i) k
  | 2 =>
    show (mulf (mulf (refNormed x) (broadcastInDim S4096x2048 ![0, 1] bcast_S1x2048_S4096x2048_0_1 g)) (shapeCast _ d shapeCasts_S4096x2048_S4096x2048) (ix2 i k) : EReal)
      = scaleShare (row x i) (row g 0) (row d i) k
    unfold scaleShare
    rw [← refNormed_apply, ← row_eq, ← vec_eq g]
    pointwise []

theorem refSum_eq (q : Fin 3) : refSum x d g s q = wholeSum q x d g s := by
  funext y
  unfold wholeSum
  rw [← sum_eq_upto (fun i : Fin 4096 => (refSummands x d g s q (ix2 i (y 1)) : EReal)) _ fun i => refSummands_apply x d g s q i (y 1)]
  pointwise [refSum]

theorem frame_ideal : Cert.quiescent_PreBwdIdeal := fun m g _ => Cert.PreBwdIdeal.Gen.frame (F := Ideal) m g

/-- The two programs' kernel bodies are the same, so the run is the same over any float values. -/
theorem frame : Cert.quiescent_PreBwd := fun m g _ => by
  rw [show Cert.PreBwd.defs (F := Bits) = Cert.PreBwdIdeal.defs from
    congrArg (fun b => Pipeline.defs Cert.PreBwd.pcfgs (Defs.onTc b)) (funext fun | 0 => rfl)]
  exact Cert.PreBwdIdeal.Gen.frame (F := Bits) m g

theorem frame_reference : Cert.quiescent_PreBwdRefIdeal := fun m g _ =>
  (θ_run Cert.PreBwdRefIdeal.defs _ _).mono (fun r h => ⟨fun c => (h c).2.2.2.2, sem_eq_zero_of_no_sems (by decide) r.2⟩)
    (Cert.PreBwdRefIdeal.Value.run (F := Ideal) m g)

theorem algebraic : Cert.algebraic_PreBwdIdeal_PreBwdRefIdeal := by
  intro m g m' g' _ hin
  refine ⟨Cert.PreBwdIdeal.Norm.dx m, Cert.PreBwdIdeal.Norm.sum m 0, Cert.PreBwdIdeal.Norm.sum m 1, Cert.PreBwdIdeal.Norm.sum m 2, ?_, ?_⟩
  · exact (θ_run Cert.PreBwdIdeal.defs _ _).mono
      (fun r h c => ⟨(h c).1.trans (Cert.PreBwdIdeal.Norm.arr_dx m c), (h c).2.1.trans (Cert.PreBwdIdeal.Norm.arr_gain m c),
        (h c).2.2.1.trans (Cert.PreBwdIdeal.Norm.arr_shift m c), (h c).2.2.2.1.trans (Cert.PreBwdIdeal.Norm.arr_scale m c), (h c).2.2.2.2⟩)
      (Cert.PreBwdIdeal.Value.run_blocks (F := Ideal) m g)
  · refine (θ_run Cert.PreBwdRefIdeal.defs _ _).mono (fun r h c => ?_) (Cert.PreBwdRefIdeal.Value.run (F := Ideal) m' g')
    obtain ⟨e0, e1, _, e3, e4, e5⟩ := hin c
    have hs (q : Fin 3) : refSum (m' ((c.tc : Thread nD τ).loc main_arg0)) (m' ((c.tc : Thread nD τ).loc main_arg4)) (m' ((c.tc : Thread nD τ).loc main_arg1))
        (m' ((c.tc : Thread nD τ).loc main_arg3)) q = Cert.PreBwdIdeal.Norm.sum m q c := (refSum_eq _ _ _ _ q).trans (by rw [e0, e1, e3, e4])
    have hd : refDx (m' ((c.tc : Thread nD τ).loc main_arg0)) (m' ((c.tc : Thread nD τ).loc main_arg4)) (m' ((c.tc : Thread nD τ).loc main_arg5))
        (m' ((c.tc : Thread nD τ).loc main_arg1)) (m' ((c.tc : Thread nD τ).loc main_arg3)) = Cert.PreBwdIdeal.Norm.dx m c := (refDx_eq _ _ _ _ _).trans (by rw [e0, e1, e3, e4, e5])
    exact ⟨(h c).1.trans hd, (h c).2.1.trans (hs 0), (h c).2.2.1.trans (hs 1), (h c).2.2.2.1.trans (hs 2), (h c).2.2.2.2⟩

end Cert.Proof.PreBwd

end
-- ==== Proof.Norm.ResBwd.lean ====
/- The gradient of a feed-forward half's residual gate: `df = ½ · gate · dx` a block of 256 rows at a time, and `dgate`, the sum down the
   columns of `½ · f · dx`, kept in its own output over the blocks. -/
module

public import proofs.«01_k».proof.Defs
public import proofs.«01_k».proof.Proof.Norm.Rows
public import Idealize.ShloMosaic.Lib.VecWindow
public import proofs.«01_k».proof.Proof.Gen.ResBwdIdeal.Value
public import proofs.«01_k».proof.Proof.Gen.ResBwd
public import proofs.«01_k».proof.Proof.Gen.ResBwdRefIdeal.Run

@[expose] public section

set_option maxRecDepth 16384

noncomputable section

namespace Cert.ResBwdIdeal.Norm

open Cert.Ffn Cert.Norm
open Cert.ResBwdIdeal Cert.ResBwdIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

section Cases
variable (c : Dev nD) (i : grid0.Coords)
  (a1 : Memref sig .tc .vmem S1x2048 .f32) (h1 : a1.IsWhole) (a2 : Memref sig .tc .vmem S256x2048 .f32) (h2 : a2.IsWhole)
  (a3 : Memref sig .tc .vmem S256x2048 .f32) (h3 : a3.IsWhole) (a4 : Memref sig .tc .vmem S256x2048 .bf16) (h4 : a4.IsWhole)
  (a5 : Memref sig .tc .vmem S1x2048 .f32) (h5 : a5.IsWhole)
  (g : Vec Ideal S1x2048 .f32) (f : Vec Ideal S256x2048 .f32) (d : Vec Ideal S256x2048 .f32) (s : Vec Ideal S1x2048 .f32)

/-- The block of `df`, at the first point and at the others. -/
theorem df_first (hc : cond0_0 i) : out0_A_3 c i a1 h1 a2 h2 a3 h3 a4 h4 a5 h5 hc g f d = k0_pay1 d g := by
  unfold out0_A_3 kernelRun0_A
  refine (View.read_writes_full _ _ _ _ _).trans ?_
  simp only [View.readAt_eq_ld, h1.read_unread, h3.read_unread, View.ld_unit_zero (S := S256x2048) hz, View.ld_unit_zero (S := S1x2048) hz]

theorem df_next (hc : ¬cond0_0 i) : out0_B_3 c i a1 h1 a2 h2 a3 h3 a4 h4 a5 h5 hc g f d s = k0_pay1 d g := by
  unfold out0_B_3 kernelRun0_B
  refine (View.read_writes_full _ _ _ _ _).trans ?_
  simp only [View.readAt_eq_ld, h1.read_unread, h3.read_unread, View.ld_unit_zero (S := S256x2048) hz, View.ld_unit_zero (S := S1x2048) hz]

/-- `dgate` is set to zero at the first point and then added to, at every point. -/
theorem dg_first (hc : cond0_0 i) : out0_A_4 c i a1 h1 a2 h2 a3 h3 a4 h4 a5 h5 hc g f d = k0_pay3 d (k0_pay2 (F := Ideal)) f := by
  unfold out0_A_4 kernelRun0_A
  refine (View.read_writes_full _ _ _ _ _).trans ?_
  unfold kernelRun0_A.sl.v11
  simp only [View.readAt_eq_ld, h2.read_unread, h3.read_unread, View.ld_unit_zero (S := S256x2048) hz, View.ld_unit_zero (S := S1x2048) hz]
  exact congrArg (fun s => k0_pay3 d s f) (View.readAt_writes_full _ _ _ _ _ _)

theorem dg_next (hc : ¬cond0_0 i) : out0_B_4 c i a1 h1 a2 h2 a3 h3 a4 h4 a5 h5 hc g f d s = k0_pay3 d s f := by
  unfold out0_B_4 kernelRun0_B
  refine (View.read_writes_full _ _ _ _ _).trans ?_
  simp only [View.readAt_eq_ld, h2.read_unread, h3.read_unread, h5.read_unread, View.ld_unit_zero (S := S256x2048) hz, View.ld_unit_zero (S := S1x2048) hz]

end Cases

theorem idx : ∀ t : Fin cfg0.N, win0_0.index t = ![0, 0] ∧ win0_1.index t = ![t.val, 0] ∧ win0_2.index t = ![t.val, 0]
    ∧ win0_3.index t = ![t.val, 0] ∧ win0_4.index t = ![0, 0] :=
  (by decide +kernel : ∀ t : Fin grid0.N, _)

theorem pay1_apply (d : Vec Ideal S256x2048 .f32) (g : Vec Ideal S1x2048 .f32) (y : S256x2048.Idx) :
    (k0_pay1 d g y : EReal) = half * (g (ix2 0 (y 1)) : EReal) * (d y : EReal) := by
  pointwise [k0_pay1]

theorem pay2_apply (y : S1x2048.Idx) : (k0_pay2 (F := Ideal) y : EReal) = 0 := by
  pointwise [k0_pay2]

theorem pay3_apply (d : Vec Ideal S256x2048 .f32) (s : Vec Ideal S1x2048 .f32) (f : Vec Ideal S256x2048 .f32) (y : S1x2048.Idx) :
    (k0_pay3 d s f y : EReal) = (s y : EReal) + ∑ k : Fin 256, half * (f (ix2 k (y 1)) : EReal) * (d (ix2 k (y 1)) : EReal) := by
  pointwise [k0_pay3]

/-- The blocks a point reads. -/
abbrev gs (c : Dev nD) (t : Fin cfg0.N) : S1x2048.Idx → EReal := iblk m c 0 t
abbrev fs (c : Dev nD) (t : Fin cfg0.N) : S256x2048.Idx → EReal := iblk m c 1 t
abbrev ds (c : Dev nD) (t : Fin cfg0.N) : S256x2048.Idx → EReal := iblk m c 2 t

/-- A point's block of `df`. -/
theorem df_at (c : Dev nD) (t : Fin cfg0.N) : (outsAt0 m c t.val t.isLt).1 = k0_pay1 (F := Ideal) (iblk m c 2 t) (iblk m c 0 t) := by
  by_cases e : t.val % 16 = 0
  · rw [outsAt0_A m c t e, df_first]
  · rw [outsAt0_B m c t e, df_next]

/-- A point's summands of `dgate`, as those of the whole sum. -/
theorem part (c : Dev nD) (t : Fin cfg0.N) (y : S1x2048.Idx) (k : Fin 256) :
    half * fs m c t (ix2 k (y 1)) * ds m c t (ix2 k (y 1)) = share half (V m c main_arg1) (V m c main_arg2) (y 1).val (t.val * 256 + k.val) := by
  unfold fs ds share; blk_simp [iblk]
  exact congrArg₂ (half * · * ·) (el_eq _ _ _ _ (by blk_simp [idx t]) (by blk_simp [idx t])) (el_eq _ _ _ _ (by blk_simp [idx t]) (by blk_simp [idx t]))

/-- The running `dgate` before the last point. -/
theorem dg_at (c : Dev nD) (n : ℕ) (h : n < cfg0.N) (y : S1x2048.Idx) :
    ((outsAt0 m c n h).2 y : EReal) = upto ((n + 1) * 256) (share half (V m c main_arg1) (V m c main_arg2) (y 1).val) := by
  refine acc_upto (fun n h y => ((outsAt0 m c n h).2 y : EReal)) (fun n h y k => half * fs m c ⟨n, h⟩ (ix2 k (y 1)) * ds m c ⟨n, h⟩ (ix2 k (y 1)))
    (fun y => share half (V m c main_arg1) (V m c main_arg2) (y 1).val) (fun n h => part m c ⟨n, h⟩) (fun h y => ?_) (fun n h h' y => ?_) y n h
  · rw [outsAt0_A m c ⟨0, h⟩ rfl, dg_first]
    exact (pay3_apply _ _ _ y).trans (by rw [pay2_apply, zero_add])
  · have hn : n + 1 < 16 := h
    rw [outsAt0_B m c ⟨n + 1, h⟩ (show ¬(n + 1) % 16 = 0 by omega), dg_next]
    exact pay3_apply _ _ _ y

/-- The two gradients, whole. -/
def df (c : Dev nD) : Buf (Elt Ideal) ((c : Thread nD τ).loc main_v0_0) :=
  tab (R := 4096) (C := 2048) (through half (V m c main_arg0) (V m c main_arg2))
def dgate (c : Dev nD) : Buf (Elt Ideal) ((c : Thread nD τ).loc main_v0_1) :=
  tab (R := 1) (C := 2048) fun _ j => upto 4096 (share half (V m c main_arg1) (V m c main_arg2) j)

/-- The arrays the call leaves. -/
theorem arr_df (c : Dev nD) : (dats m 0 c).arrAt 3 cfg0.N = df m c := by
  refine (dats m 0 c).arrAt_eq_of_covers 3 _ (by decide +kernel) fun t hf y => ?_
  blk_simp
  rw [after0_3, df_at]
  refine (pay1_apply _ _ y).trans ?_
  unfold df tab through
  blk_simp [iblk]
  exact congrArg₂ (half * · * ·) (el_eq _ _ _ _ (by blk_simp [idx t]; rfl) (by blk_simp [idx t])) (el_eq _ _ _ _ (by blk_simp [idx t]) (by blk_simp [idx t]))

theorem arr_dgate (c : Dev nD) : (dats m 0 c).arrAt 4 cfg0.N = dgate m c := by
  refine (dats m 0 c).arrAt_eq_of_covers 4 _ (by decide +kernel) fun t hf y => ?_
  have hm : t.val % 16 = 15 := (flush0_4 t).mp hf
  have hl : t.val < 16 := t.isLt
  blk_simp
  rw [after0_4]
  refine (dg_at m c t.val t.isLt y).trans ?_
  rw [show (t.val + 1) * 256 = 4096 by omega]
  unfold dgate tab
  blk_simp [idx t]

end Cert.ResBwdIdeal.Norm

namespace Cert.Proof.ResBwd

open Cert.Ffn Cert.Norm Idealize.ShloMosaic Idealize.SL.Sem

theorem ref_df (g : Vec Ideal Cert.ResBwdRefIdeal.S1x2048 .f32) (d : Vec Ideal Cert.ResBwdRefIdeal.S4096x2048 .f32) :
    truncf (F := Ideal) .bf16 (mulf (F := Ideal) (φ := .f32) (broadcastInDim Cert.ResBwdRefIdeal.S4096x2048 ![0, 1] Cert.ResBwdRefIdeal.Gen.bcast_S1x2048_S4096x2048_0_1
      (mulf (F := Ideal) (φ := .f32) (broadcastInDim Cert.ResBwdRefIdeal.S1x2048 ![] Cert.ResBwdRefIdeal.Gen.bcast_S_S1x2048 (constant (F := Ideal) Cert.ResBwdRefIdeal.S_ .f32 0x3F000000#32)) g)) d)
      Cert.ResBwdRefIdeal.Gen.bitsLt_bf16_f32
      = tab (R := 4096) (C := 2048) (through half g d) := by
  funext y
  pointwise [tab, through]
  exact congrArg₂ (half * · * ·) (el_eq _ _ _ _ rfl rfl) (el_eq _ _ _ _ rfl rfl)

/-- The factor of the whole sum, taken into it. -/
theorem ref_dgate (f d : Vec Ideal Cert.ResBwdRefIdeal.S4096x2048 .f32) :
    mulf (F := Ideal) (φ := .f32) (broadcastInDim Cert.ResBwdRefIdeal.S1x2048 ![] Cert.ResBwdRefIdeal.Gen.bcast_S_S1x2048 (constant (F := Ideal) Cert.ResBwdRefIdeal.S_ .f32 0x3F000000#32))
      (shapeCast _ (Host.reduceAdd (F := Ideal) (φ := .f32) (mulf (F := Ideal) (φ := .f32) d f) (constant (F := Ideal) Cert.ResBwdRefIdeal.S_ .f32 0x00000000#32) Cert.ResBwdRefIdeal.Gen.reducesTo_S4096x2048_S2048_d0 Cert.ResBwdRefIdeal.Gen.h_S_)
        Cert.ResBwdRefIdeal.Gen.shapeCasts_S2048_S1x2048)
      = tab (R := 1) (C := 2048) (fun _ j => upto 4096 (share half f d j)) := by
  funext y
  pointwise [tab]
  exact (congrArg (half * ·) (sum_eq_upto _ (fun x => el f x (y 1).val * el d x (y 1).val) fun k =>
    (congrArg₂ (· * ·) (el_eq _ _ _ _ rfl rfl) (el_eq _ _ _ _ rfl rfl)).trans (mul_comm _ _))).trans
    ((mul_upto half half_nonneg half_ne_top 4096 _).trans (congrArg (upto 4096) (funext fun x => (mul_assoc _ _ _).symm)))

theorem frame_ideal : Cert.quiescent_ResBwdIdeal := fun m g _ => Cert.ResBwdIdeal.Gen.frame (F := Ideal) m g

/-- The two programs' kernel bodies are the same, so the run is the same over any float values. -/
theorem frame : Cert.quiescent_ResBwd := fun m g _ => by
  rw [show Cert.ResBwd.defs (F := Bits) = Cert.ResBwdIdeal.defs from
    congrArg (fun b => Pipeline.defs Cert.ResBwd.pcfgs (Defs.onTc b)) (funext fun | 0 => rfl)]
  exact Cert.ResBwdIdeal.Gen.frame (F := Bits) m g

theorem frame_reference : Cert.quiescent_ResBwdRefIdeal := fun m g _ =>
  (θ_run Cert.ResBwdRefIdeal.defs _ _).mono (fun r h => ⟨fun c => (h c).2.2, sem_eq_zero_of_no_sems (by decide) r.2⟩)
    (Cert.ResBwdRefIdeal.Value.run (F := Ideal) m g)

theorem algebraic : Cert.algebraic_ResBwdIdeal_ResBwdRefIdeal := by
  intro m g m' g' _ hin
  refine ⟨Cert.ResBwdIdeal.Norm.df m, Cert.ResBwdIdeal.Norm.dgate m, ?_, ?_⟩
  · exact (θ_run Cert.ResBwdIdeal.defs _ _).mono
      (fun r h c => ⟨(h c).1.trans (Cert.ResBwdIdeal.Norm.arr_df m c), (h c).2.1.trans (Cert.ResBwdIdeal.Norm.arr_dgate m c), (h c).2.2⟩)
      (Cert.ResBwdIdeal.Value.run_blocks (F := Ideal) m g)
  · exact (θ_run Cert.ResBwdRefIdeal.defs _ _).mono
      (fun r h c => ⟨(h c).1.trans ((ref_df _ _).trans (by rw [(hin c).1, (hin c).2.2]; rfl)),
        (h c).2.1.trans ((ref_dgate _ _).trans (by rw [(hin c).2.1, (hin c).2.2]; rfl)), (h c).2.2⟩)
      (Cert.ResBwdRefIdeal.Value.run (F := Ideal) m' g')

end Cert.Proof.ResBwd

end
-- ==== Proof.Norm.MixResBwd.lean ====
/- The gradient of the mixer's residual gate: `dmo = gate · dx` a block of 256 rows at a time, and `dgate`, the sum down the columns of
   `mo · dx`, kept in its own output over the blocks. -/
module

public import proofs.«01_k».proof.Defs
public import proofs.«01_k».proof.Proof.Norm.Rows
public import Idealize.ShloMosaic.Lib.VecWindow
public import proofs.«01_k».proof.Proof.Gen.MixResBwdIdeal.Value
public import proofs.«01_k».proof.Proof.Gen.MixResBwd
public import proofs.«01_k».proof.Proof.Gen.MixResBwdRefIdeal.Run

@[expose] public section

set_option maxRecDepth 16384

noncomputable section

namespace Cert.MixResBwdIdeal.Norm

open Cert.Ffn Cert.Norm
open Cert.MixResBwdIdeal Cert.MixResBwdIdeal.Gen Idealize.ShloMosaic Idealize.ShloMosaic.TcCoe Idealize.ShloMosaic.Tactic Idealize.SL.Sem

variable (m : (ℓ : Loc nD τ sig) → Buf (Elt Ideal) ℓ)

/-- The blocks a point reads. -/
abbrev gs (c : Dev nD) (t : Fin cfg0.N) : Vec Ideal S1x2048 .f32 := iblk m c 0 t
abbrev os (c : Dev nD) (t : Fin cfg0.N) : Vec Ideal S256x2048 .f32 := iblk m c 1 t
abbrev ds (c : Dev nD) (t : Fin cfg0.N) : Vec Ideal S256x2048 .f32 := iblk m c 2 t

/-- The sum is set to zero at the first point and then added to, at every point. -/
theorem first (c : Dev nD) (t : Fin cfg0.N) (e : t.val % 16 = 0) :
    outsAt0 m c t.val t.isLt = (k0_pay1 (ds m c t) (gs m c t), k0_pay3 (ds m c t) (k0_pay2 (F := Ideal)) (os m c t)) := by
  rw [outsAt0_A m c t e]
  unfold out0_A_3 out0_A_4 kernelRun0_A
  refine congrArg₂ Prod.mk ((View.read_writes_full _ _ _ _ _).trans ?_) ((View.read_writes_full _ _ _ _ _).trans ?_)
  · simp only [View.readAt_eq_ld, (hs0_0 t).read_unread, (hs0_2 t).read_unread, View.ld_unit_zero (S := S256x2048) hz, View.ld_unit_zero (S := S1x2048) hz]
  · unfold kernelRun0_A.sl.v11
    simp only [View.readAt_eq_ld, (hs0_1 t).read_unread, (hs0_2 t).read_unread, View.ld_unit_zero (S := S256x2048) hz]
    exact congrArg (fun s => k0_pay3 (ds m c t) s (os m c t)) (View.readAt_writes_full _ _ _ _ _ _)

theorem next (c : Dev nD) (n : ℕ) (h : n + 1 < cfg0.N) (e : ¬(n + 1) % 16 = 0) : outsAt0 m c (n + 1) h
    = (k0_pay1 (ds m c ⟨n + 1, h⟩) (gs m c ⟨n + 1, h⟩), k0_pay3 (ds m c ⟨n + 1, h⟩) (outsAt0 m c n (Nat.lt_of_succ_lt h)).2 (os m c ⟨n + 1, h⟩)) := by
  rw [outsAt0_B m c ⟨n + 1, h⟩ e]
  unfold out0_B_3 out0_B_4 kernelRun0_B
  refine congrArg₂ Prod.mk ((View.read_writes_full _ _ _ _ _).trans ?_) ((View.read_writes_full _ _ _ _ _).trans ?_)
  all_goals simp only [View.readAt_eq_ld, (hs0_0 _).read_unread, (hs0_1 _).read_unread, (hs0_2 _).read_unread, (hs0_4 _).read_unread,
    View.ld_unit_zero (S := S256x2048) hz, View.ld_unit_zero (S := S1x2048) hz]
  all_goals rfl

theorem idx : ∀ t : Fin cfg0.N, win0_0.index t = ![0, 0] ∧ win0_1.index t = ![t.val, 0] ∧ win0_2.index t = ![t.val, 0]
    ∧ win0_3.index t = ![t.val, 0] ∧ win0_4.index t = ![0, 0] :=
  (by decide +kernel : ∀ t : Fin grid0.N, _)

/-- Entries of a point's blocks, as entries of the arrays. -/
theorem g_el (c : Dev nD) (t : Fin cfg0.N) (j : Fin 2048) : (gs m c t (ix2 0 j) : EReal) = el (V m c main_arg0) 0 j.val := by
  unfold gs; blk_simp [iblk]; exact el_eq _ _ _ _ (by blk_simp [idx t]; rfl) (by blk_simp [idx t])
theorem o_el (c : Dev nD) (t : Fin cfg0.N) (i : Fin 256) (j : Fin 2048) : (os m c t (ix2 i j) : EReal) = el (V m c main_arg1) (t.val * 256 + i.val) j.val := by
  unfold os; blk_simp [iblk]; exact el_eq _ _ _ _ (by blk_simp [idx t]) (by blk_simp [idx t])
theorem d_el (c : Dev nD) (t : Fin cfg0.N) (i : Fin 256) (j : Fin 2048) : (ds m c t (ix2 i j) : EReal) = el (V m c main_arg2) (t.val * 256 + i.val) j.val := by
  unfold ds; blk_simp [iblk]; exact el_eq _ _ _ _ (by blk_simp [idx t]) (by blk_simp [idx t])

/-- A point's block of `dmo`. -/
theorem dmo_at (c : Dev nD) (t : Fin cfg0.N) (i : Fin 256) (j : Fin 2048) :
    ((outsAt0 m c t.val t.isLt).1 (ix2 i j) : EReal) = through 1 (V m c main_arg0) (V m c main_arg2) (t.val * 256 + i.val) j.val := by
  have e : (outsAt0 m c t.val t.isLt).1 = k0_pay1 (ds m c t) (gs m c t) := by
    obtain ⟨n, hn⟩ := t
    cases n with
    | zero => exact congrArg Prod.fst (first m c ⟨0, hn⟩ rfl)
    | succ n => have hl : n + 1 < 16 := hn; exact congrArg Prod.fst (next m c n hn (by omega))
  rw [e]
  unfold through
  rw [← g_el m c t, ← d_el, one_mul]
  pointwise [k0_pay1]

/-- What a point adds to the sum. -/
theorem add_gate (c : Dev nD) (t : Fin cfg0.N) (s : Vec Ideal S1x2048 .f32) (j : Fin 2048) :
    (k0_pay3 (ds m c t) s (os m c t) (ix2 0 j) : EReal) = (s (ix2 0 j) : EReal) + ∑ i : Fin 256, share 1 (V m c main_arg1) (V m c main_arg2) j.val (t.val * 256 + i.val) := by
  unfold share
  simp only [← o_el, ← d_el, one_mul]
  pointwise [k0_pay3]

theorem dgate_at (c : Dev nD) (n : ℕ) (h : n < cfg0.N) (j : Fin 2048) :
    ((outsAt0 m c n h).2 (ix2 0 j) : EReal) = upto ((n + 1) * 256) (share 1 (V m c main_arg1) (V m c main_arg2) j.val) := by
  refine acc_upto (fun n h (j : Fin 2048) => ((outsAt0 m c n h).2 (ix2 0 j) : EReal)) _ (fun j => share 1 (V m c main_arg1) (V m c main_arg2) j.val)
    (fun _ _ _ _ => rfl) (fun h j => ?_) (fun n h h' j => ?_) j n h
  · rw [first m c ⟨0, h⟩ rfl]
    refine (add_gate m c ⟨0, h⟩ _ j).trans ((congrArg (· + _) ?_).trans (zero_add _))
    pointwise [k0_pay2]
  · have hl : n + 1 < 16 := h
    rw [next m c n h (by omega)]
    exact add_gate m c ⟨n + 1, h⟩ _ j

/-- The two gradients, whole. -/
abbrev dmo (c : Dev nD) : S4096x2048.Idx → EReal := tab (through 1 (V m c main_arg0) (V m c main_arg2))
abbrev dgate (c : Dev nD) : S1x2048.Idx → EReal := tab fun _ j => upto 4096 (share 1 (V m c main_arg1) (V m c main_arg2) j)

/-- The arrays the call leaves. -/
theorem arr_dmo (c : Dev nD) : (dats m 0 c).arrAt 3 cfg0.N = dmo m c := by
  refine (dats m 0 c).arrAt_eq_of_covers 3 _ (by decide +kernel) fun t hf y => ?_
  blk_simp
  rw [after0_3]
  refine ((congrArg _ (show y = ix2 (y 0) (y 1) from funext fun | 0 => rfl | 1 => rfl)).trans (dmo_at m c t (y 0) (y 1))).trans ?_
  unfold dmo tab
  blk_simp [idx t]

theorem arr_dgate (c : Dev nD) : (dats m 0 c).arrAt 4 cfg0.N = dgate m c := by
  refine (dats m 0 c).arrAt_eq_of_covers 4 _ (by decide +kernel) fun t hf y => ?_
  have hm : t.val % 16 = 15 := (flush0_4 t).mp hf
  have hl : t.val < 16 := t.isLt
  blk_simp
  rw [after0_4]
  refine ((congrArg _ (show y = ix2 0 (y 1) from funext fun | 0 => Subsingleton.elim (α := Fin 1) _ _ | 1 => rfl)).trans (dgate_at m c t.val t.isLt (y 1))).trans ?_
  rw [show (t.val + 1) * 256 = 4096 by omega]
  unfold dgate tab
  blk_simp [idx t]

end Cert.MixResBwdIdeal.Norm

namespace Cert.Proof.MixResBwd

open Cert.Ffn Cert.Norm Idealize.ShloMosaic Idealize.SL.Sem
open Cert.MixResBwdRefIdeal Cert.MixResBwdRefIdeal.Gen Idealize.ShloMosaic.TcCoe

theorem ref_dmo (g : FVec Ideal S1x2048 .f32) (d : FVec Ideal S4096x2048 .f32) :
    truncf .bf16 (mulf (broadcastInDim S4096x2048 ![0, 1] bcast_S1x2048_S4096x2048_0_1 g) d) bitsLt_bf16_f32 = tab (R := 4096) (C := 2048) (through 1 g d) := by
  funext y
  pointwise [tab, through]
  exact congrArg₂ (· * ·) (el_eq _ _ _ _ rfl rfl) (el_eq _ _ _ _ rfl rfl)

theorem ref_dgate (o d : FVec Ideal S4096x2048 .f32) :
    shapeCast _ (Host.reduceAdd (mulf d o) (constant S_ .f32 0x00000000#32) reducesTo_S4096x2048_S2048_d0 h_S_) shapeCasts_S2048_S1x2048
      = tab (R := 1) (C := 2048) (fun _ j => upto 4096 (share 1 o d j)) := by
  funext y
  pointwise [tab]
  refine sum_eq_upto _ _ fun k => (mul_comm _ _).trans ?_
  unfold share
  rw [one_mul]
  exact congrArg₂ (· * ·) (el_eq _ _ _ _ rfl rfl) (el_eq _ _ _ _ rfl rfl)

theorem frame_ideal : Cert.quiescent_MixResBwdIdeal := fun m g _ => Cert.MixResBwdIdeal.Gen.frame (F := Ideal) m g

/-- The two programs' kernel bodies are the same, so the run is the same over any float values. -/
theorem frame : Cert.quiescent_MixResBwd := fun m g _ => by
  rw [show Cert.MixResBwd.defs (F := Bits) = Cert.MixResBwdIdeal.defs from
    congrArg (fun b => Pipeline.defs Cert.MixResBwd.pcfgs (Defs.onTc b)) (funext fun | 0 => rfl)]
  exact Cert.MixResBwdIdeal.Gen.frame (F := Bits) m g

theorem frame_reference : Cert.quiescent_MixResBwdRefIdeal := fun m g _ =>
  (θ_run Cert.MixResBwdRefIdeal.defs _ _).mono (fun r h => ⟨fun c => (h c).2.2, sem_eq_zero_of_no_sems (by decide) r.2⟩)
    (Cert.MixResBwdRefIdeal.Value.run (F := Ideal) m g)

theorem algebraic : Cert.algebraic_MixResBwdIdeal_MixResBwdRefIdeal := by
  intro m g m' g' _ hin
  refine ⟨Cert.MixResBwdIdeal.Norm.dmo m, Cert.MixResBwdIdeal.Norm.dgate m, ?_, ?_⟩
  · exact (θ_run Cert.MixResBwdIdeal.defs _ _).mono
      (fun r h c => ⟨(h c).1.trans (Cert.MixResBwdIdeal.Norm.arr_dmo m c), (h c).2.1.trans (Cert.MixResBwdIdeal.Norm.arr_dgate m c), (h c).2.2⟩)
      (Cert.MixResBwdIdeal.Value.run_blocks (F := Ideal) m g)
  · refine (θ_run Cert.MixResBwdRefIdeal.defs _ _).mono (fun r h c => ?_) (Cert.MixResBwdRefIdeal.Value.run (F := Ideal) m' g')
    obtain ⟨e0, e1, e2⟩ := hin c
    exact ⟨(h c).1.trans ((ref_dmo _ _).trans (by rw [e0, e2])), (h c).2.1.trans ((ref_dgate _ _).trans (by rw [e1, e2])), (h c).2.2⟩

end Cert.Proof.MixResBwd

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.GateUpIdeal.Value
public import proofs.«01_k».proof.Proof.Gen.GateUpRefIdeal.Run
public import proofs.«01_k».proof.Proof.Gen.DownIdeal.Value
public import proofs.«01_k».proof.Proof.Gen.DownRefIdeal.Run
public import proofs.«01_k».proof.Proof.Gen.DownDwIdeal.Value
public import proofs.«01_k».proof.Proof.Gen.DownDwRefIdeal.Run
public import proofs.«01_k».proof.Proof.Gen.DownDxIdeal.Value
public import proofs.«01_k».proof.Proof.Gen.DownDxRefIdeal.Run
public import proofs.«01_k».proof.Proof.Gen.GateUpDwIdeal.Value
public import proofs.«01_k».proof.Proof.Gen.GateUpDwRefIdeal.Run
public import proofs.«01_k».proof.Proof.Gen.GateUpDxIdeal.Value
public import proofs.«01_k».proof.Proof.Gen.GateUpDxRefIdeal.Run
public import proofs.«01_k».proof.Proof.Gen.GateUpDwLowIdeal.Value
public import proofs.«01_k».proof.Proof.Gen.GateUpDwLowRefIdeal.Run
public import proofs.«01_k».proof.Proof.Gen.MixInIdeal.Value
public import proofs.«01_k».proof.Proof.Gen.MixInRefIdeal.Run
public import proofs.«01_k».proof.Proof.Gen.MixInDwIdeal.Value
public import proofs.«01_k».proof.Proof.Gen.MixInDwRefIdeal.Run
public import proofs.«01_k».proof.Proof.Gen.MixInDxIdeal.Value
public import proofs.«01_k».proof.Proof.Gen.MixInDxRefIdeal.Run
public import proofs.«01_k».proof.Proof.Gen.MixOutIdeal.Value
public import proofs.«01_k».proof.Proof.Gen.MixOutRefIdeal.Run
public import proofs.«01_k».proof.Proof.Gen.MixOutDwIdeal.Value
public import proofs.«01_k».proof.Proof.Gen.MixOutDwRefIdeal.Run
public import proofs.«01_k».proof.Proof.Gen.MixOutDxIdeal.Value
public import proofs.«01_k».proof.Proof.Gen.MixOutDxRefIdeal.Run
public import proofs.«01_k».proof.Proof.Gen.PreFwdIdeal.Value
public import proofs.«01_k».proof.Proof.Gen.PreBwdIdeal.Value
public import proofs.«01_k».proof.Proof.Gen.PreFwdRefIdeal.Run
public import proofs.«01_k».proof.Proof.Gen.PreBwdRefIdeal.Run
public import proofs.«01_k».proof.Proof.Gen.ResBwdIdeal.Value
public import proofs.«01_k».proof.Proof.Gen.ResBwdRefIdeal.Run
public import proofs.«01_k».proof.Proof.Gen.MixResBwdIdeal.Value
public import proofs.«01_k».proof.Proof.Gen.MixResBwdRefIdeal.Run
public import proofs.«01_k».proof.Proof.Scan.Claims
public import proofs.«01_k».proof.Proof.Ffn.GateUp
public import proofs.«01_k».proof.Proof.Ffn.Down
public import proofs.«01_k».proof.Proof.Ffn.DownDw
public import proofs.«01_k».proof.Proof.Ffn.DownDx
public import proofs.«01_k».proof.Proof.Ffn.GateUpDw
public import proofs.«01_k».proof.Proof.Ffn.GateUpDx
public import proofs.«01_k».proof.Proof.Ffn.GateUpDwLow
public import proofs.«01_k».proof.Proof.Mix.MixIn
public import proofs.«01_k».proof.Proof.Mix.MixInDw
public import proofs.«01_k».proof.Proof.Mix.MixInDx
public import proofs.«01_k».proof.Proof.Mix.MixOut
public import proofs.«01_k».proof.Proof.Mix.MixOutDw
public import proofs.«01_k».proof.Proof.Mix.MixOutDx
public import proofs.«01_k».proof.Proof.Norm.PreFwd
public import proofs.«01_k».proof.Proof.Norm.PreBwd
public import proofs.«01_k».proof.Proof.Norm.ResBwd
public import proofs.«01_k».proof.Proof.Norm.MixResBwd

@[expose] public section

noncomputable section

namespace Cert.Proof

theorem claim : Cert.Claim := ⟨Cert.Kernel.Gen.facts, Cert.KernelIdeal.Gen.facts, Cert.ReferenceIdeal.Gen.facts,
  Cert.GateUp.Gen.facts, Cert.GateUpIdeal.Gen.facts, Cert.GateUpRefIdeal.Gen.facts,
  Cert.Down.Gen.facts, Cert.DownIdeal.Gen.facts, Cert.DownRefIdeal.Gen.facts,
  Cert.DownDw.Gen.facts, Cert.DownDwIdeal.Gen.facts, Cert.DownDwRefIdeal.Gen.facts,
  Cert.DownDx.Gen.facts, Cert.DownDxIdeal.Gen.facts, Cert.DownDxRefIdeal.Gen.facts,
  Cert.GateUpDw.Gen.facts, Cert.GateUpDwIdeal.Gen.facts, Cert.GateUpDwRefIdeal.Gen.facts,
  Cert.GateUpDx.Gen.facts, Cert.GateUpDxIdeal.Gen.facts, Cert.GateUpDxRefIdeal.Gen.facts,
  Cert.GateUpDwLow.Gen.facts, Cert.GateUpDwLowIdeal.Gen.facts, Cert.GateUpDwLowRefIdeal.Gen.facts,
  Cert.MixIn.Gen.facts, Cert.MixInIdeal.Gen.facts, Cert.MixInRefIdeal.Gen.facts,
  Cert.MixInDw.Gen.facts, Cert.MixInDwIdeal.Gen.facts, Cert.MixInDwRefIdeal.Gen.facts,
  Cert.MixInDx.Gen.facts, Cert.MixInDxIdeal.Gen.facts, Cert.MixInDxRefIdeal.Gen.facts,
  Cert.MixOut.Gen.facts, Cert.MixOutIdeal.Gen.facts, Cert.MixOutRefIdeal.Gen.facts,
  Cert.MixOutDw.Gen.facts, Cert.MixOutDwIdeal.Gen.facts, Cert.MixOutDwRefIdeal.Gen.facts,
  Cert.MixOutDx.Gen.facts, Cert.MixOutDxIdeal.Gen.facts, Cert.MixOutDxRefIdeal.Gen.facts,
  Cert.PreFwd.Gen.facts, Cert.PreFwdIdeal.Gen.facts, Cert.PreFwdRefIdeal.Gen.facts,
  Cert.PreBwd.Gen.facts, Cert.PreBwdIdeal.Gen.facts, Cert.PreBwdRefIdeal.Gen.facts,
  Cert.ResBwd.Gen.facts, Cert.ResBwdIdeal.Gen.facts, Cert.ResBwdRefIdeal.Gen.facts,
  Cert.MixResBwd.Gen.facts, Cert.MixResBwdIdeal.Gen.facts, Cert.MixResBwdRefIdeal.Gen.facts,
  Scan.frame_kernel, Scan.frame_kernelIdeal, Scan.frame_reference,
  GateUp.frame, GateUp.frame_ideal, GateUp.frame_reference,
  Down.frame, Down.frame_ideal, Down.frame_reference,
  DownDw.frame, DownDw.frame_ideal, DownDw.frame_reference,
  DownDx.frame, DownDx.frame_ideal, DownDx.frame_reference,
  GateUpDw.frame, GateUpDw.frame_ideal, GateUpDw.frame_reference,
  GateUpDx.frame, GateUpDx.frame_ideal, GateUpDx.frame_reference,
  GateUpDwLow.frame, GateUpDwLow.frame_ideal, GateUpDwLow.frame_reference,
  MixIn.frame, MixIn.frame_ideal, MixIn.frame_reference,
  MixInDw.frame, MixInDw.frame_ideal, MixInDw.frame_reference,
  MixInDx.frame, MixInDx.frame_ideal, MixInDx.frame_reference,
  MixOut.frame, MixOut.frame_ideal, MixOut.frame_reference,
  MixOutDw.frame, MixOutDw.frame_ideal, MixOutDw.frame_reference,
  MixOutDx.frame, MixOutDx.frame_ideal, MixOutDx.frame_reference,
  PreFwd.frame, PreFwd.frame_ideal, PreFwd.frame_reference,
  PreBwd.frame, PreBwd.frame_ideal, PreBwd.frame_reference,
  ResBwd.frame, ResBwd.frame_ideal, ResBwd.frame_reference,
  MixResBwd.frame, MixResBwd.frame_ideal, MixResBwd.frame_reference,
  trivial, Scan.algebraic,
  trivial, GateUp.algebraic,
  trivial, Down.algebraic,
  trivial, DownDw.algebraic,
  trivial, DownDx.algebraic,
  trivial, GateUpDw.algebraic,
  trivial, GateUpDx.algebraic,
  trivial, GateUpDwLow.algebraic,
  trivial, MixIn.algebraic,
  trivial, MixInDw.algebraic,
  trivial, MixInDx.algebraic,
  trivial, MixOut.algebraic,
  trivial, MixOutDw.algebraic,
  trivial, MixOutDx.algebraic,
  trivial, PreFwd.algebraic,
  trivial, PreBwd.algebraic,
  trivial, ResBwd.algebraic,
  trivial, MixResBwd.algebraic⟩

end Cert.Proof

end
